-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Ff1Relu2 (m : (ℓ : Loc Cert.Ff1Relu2.nD Cert.Ff1Relu2.τ Cert.Ff1Relu2.sig) → Buf (Elt Bits) ℓ) : Prop :=
  True

def Pre_Ff1Relu2Ideal (m : (ℓ : Loc Cert.Ff1Relu2Ideal.nD Cert.Ff1Relu2Ideal.τ Cert.Ff1Relu2Ideal.sig) → Buf (Elt Ideal) ℓ) : Prop :=
  True

def Pre_Ff1Relu2RefIdeal (m : (ℓ : Loc Cert.Ff1Relu2RefIdeal.nD Cert.Ff1Relu2RefIdeal.τ Cert.Ff1Relu2RefIdeal.sig) → Buf (Elt Ideal) ℓ) : Prop :=
  True

def Pre_Ff2Dgrad (m : (ℓ : Loc Cert.Ff2Dgrad.nD Cert.Ff2Dgrad.τ Cert.Ff2Dgrad.sig) → Buf (Elt Bits) ℓ) : Prop :=
  True

def Pre_Ff2DgradIdeal (m : (ℓ : Loc Cert.Ff2DgradIdeal.nD Cert.Ff2DgradIdeal.τ Cert.Ff2DgradIdeal.sig) → Buf (Elt Ideal) ℓ) : Prop :=
  True

def Pre_Ff2DgradRefIdeal (m : (ℓ : Loc Cert.Ff2DgradRefIdeal.nD Cert.Ff2DgradRefIdeal.τ Cert.Ff2DgradRefIdeal.sig) → Buf (Elt Ideal) ℓ) : Prop :=
  True

def Pre_Ff2Wgrad (m : (ℓ : Loc Cert.Ff2Wgrad.nD Cert.Ff2Wgrad.τ Cert.Ff2Wgrad.sig) → Buf (Elt Bits) ℓ) : Prop :=
  True

def Pre_Ff2WgradIdeal (m : (ℓ : Loc Cert.Ff2WgradIdeal.nD Cert.Ff2WgradIdeal.τ Cert.Ff2WgradIdeal.sig) → Buf (Elt Ideal) ℓ) : Prop :=
  True

def Pre_Ff2WgradRefIdeal (m : (ℓ : Loc Cert.Ff2WgradRefIdeal.nD Cert.Ff2WgradRefIdeal.τ Cert.Ff2WgradRefIdeal.sig) → Buf (Elt Ideal) ℓ) : Prop :=
  True

def Pre_Ff1Wgrad (m : (ℓ : Loc Cert.Ff1Wgrad.nD Cert.Ff1Wgrad.τ Cert.Ff1Wgrad.sig) → Buf (Elt Bits) ℓ) : Prop :=
  True

def Pre_Ff1WgradIdeal (m : (ℓ : Loc Cert.Ff1WgradIdeal.nD Cert.Ff1WgradIdeal.τ Cert.Ff1WgradIdeal.sig) → Buf (Elt Ideal) ℓ) : Prop :=
  True

def Pre_Ff1WgradRefIdeal (m : (ℓ : Loc Cert.Ff1WgradRefIdeal.nD Cert.Ff1WgradRefIdeal.τ Cert.Ff1WgradRefIdeal.sig) → Buf (Elt Ideal) ℓ) : Prop :=
  True

def Pre_Ff1DgradLn1 (m : (ℓ : Loc Cert.Ff1DgradLn1.nD Cert.Ff1DgradLn1.τ Cert.Ff1DgradLn1.sig) → Buf (Elt Bits) ℓ) : Prop :=
  True

def Pre_Ff1DgradLn1Ideal (m : (ℓ : Loc Cert.Ff1DgradLn1Ideal.nD Cert.Ff1DgradLn1Ideal.τ Cert.Ff1DgradLn1Ideal.sig) → Buf (Elt Ideal) ℓ) : Prop :=
  True

def Pre_Ff1DgradLn1Ideal_finite_ln1 [hPre_finite_ln1 : Cert.Pre_finite_ln1.Facts] (m : (ℓ : Loc Cert.Ff1DgradLn1Ideal.nD Cert.Ff1DgradLn1Ideal.τ Cert.Ff1DgradLn1Ideal.sig) → Buf (Elt Ideal) ℓ) : Prop :=
  ∀ c : Dev Cert.Ff1DgradLn1Ideal.nD,
    (Cert.Pre_finite_ln1.fn (F := Ideal) (m ((c.tc : Thread Cert.Ff1DgradLn1Ideal.nD Cert.Ff1DgradLn1Ideal.τ).loc Cert.Ff1DgradLn1Ideal.main_arg0)) (m ((c.tc : Thread Cert.Ff1DgradLn1Ideal.nD Cert.Ff1DgradLn1Ideal.τ).loc Cert.Ff1DgradLn1Ideal.main_arg1)) (m ((c.tc : Thread Cert.Ff1DgradLn1Ideal.nD Cert.Ff1DgradLn1Ideal.τ).loc Cert.Ff1DgradLn1Ideal.main_arg2)) (m ((c.tc : Thread Cert.Ff1DgradLn1Ideal.nD Cert.Ff1DgradLn1Ideal.τ).loc Cert.Ff1DgradLn1Ideal.main_arg3)) (m ((c.tc : Thread Cert.Ff1DgradLn1Ideal.nD Cert.Ff1DgradLn1Ideal.τ).loc Cert.Ff1DgradLn1Ideal.main_arg4)) (m ((c.tc : Thread Cert.Ff1DgradLn1Ideal.nD Cert.Ff1DgradLn1Ideal.τ).loc Cert.Ff1DgradLn1Ideal.main_arg5))).1 = (fun _ => 1#1)
    ∧ (Cert.Pre_finite_ln1.fn (F := Ideal) (m ((c.tc : Thread Cert.Ff1DgradLn1Ideal.nD Cert.Ff1DgradLn1Ideal.τ).loc Cert.Ff1DgradLn1Ideal.main_arg0)) (m ((c.tc : Thread Cert.Ff1DgradLn1Ideal.nD Cert.Ff1DgradLn1Ideal.τ).loc Cert.Ff1DgradLn1Ideal.main_arg1)) (m ((c.tc : Thread Cert.Ff1DgradLn1Ideal.nD Cert.Ff1DgradLn1Ideal.τ).loc Cert.Ff1DgradLn1Ideal.main_arg2)) (m ((c.tc : Thread Cert.Ff1DgradLn1Ideal.nD Cert.Ff1DgradLn1Ideal.τ).loc Cert.Ff1DgradLn1Ideal.main_arg3)) (m ((c.tc : Thread Cert.Ff1DgradLn1Ideal.nD Cert.Ff1DgradLn1Ideal.τ).loc Cert.Ff1DgradLn1Ideal.main_arg4)) (m ((c.tc : Thread Cert.Ff1DgradLn1Ideal.nD Cert.Ff1DgradLn1Ideal.τ).loc Cert.Ff1DgradLn1Ideal.main_arg5))).2.1 = (fun _ => 1#1)
    ∧ (Cert.Pre_finite_ln1.fn (F := Ideal) (m ((c.tc : Thread Cert.Ff1DgradLn1Ideal.nD Cert.Ff1DgradLn1Ideal.τ).loc Cert.Ff1DgradLn1Ideal.main_arg0)) (m ((c.tc : Thread Cert.Ff1DgradLn1Ideal.nD Cert.Ff1DgradLn1Ideal.τ).loc Cert.Ff1DgradLn1Ideal.main_arg1)) (m ((c.tc : Thread Cert.Ff1DgradLn1Ideal.nD Cert.Ff1DgradLn1Ideal.τ).loc Cert.Ff1DgradLn1Ideal.main_arg2)) (m ((c.tc : Thread Cert.Ff1DgradLn1Ideal.nD Cert.Ff1DgradLn1Ideal.τ).loc Cert.Ff1DgradLn1Ideal.main_arg3)) (m ((c.tc : Thread Cert.Ff1DgradLn1Ideal.nD Cert.Ff1DgradLn1Ideal.τ).loc Cert.Ff1DgradLn1Ideal.main_arg4)) (m ((c.tc : Thread Cert.Ff1DgradLn1Ideal.nD Cert.Ff1DgradLn1Ideal.τ).loc Cert.Ff1DgradLn1Ideal.main_arg5))).2.2.1 = (fun _ => 1#1)
    ∧ (Cert.Pre_finite_ln1.fn (F := Ideal) (m ((c.tc : Thread Cert.Ff1DgradLn1Ideal.nD Cert.Ff1DgradLn1Ideal.τ).loc Cert.Ff1DgradLn1Ideal.main_arg0)) (m ((c.tc : Thread Cert.Ff1DgradLn1Ideal.nD Cert.Ff1DgradLn1Ideal.τ).loc Cert.Ff1DgradLn1Ideal.main_arg1)) (m ((c.tc : Thread Cert.Ff1DgradLn1Ideal.nD Cert.Ff1DgradLn1Ideal.τ).loc Cert.Ff1DgradLn1Ideal.main_arg2)) (m ((c.tc : Thread Cert.Ff1DgradLn1Ideal.nD Cert.Ff1DgradLn1Ideal.τ).loc Cert.Ff1DgradLn1Ideal.main_arg3)) (m ((c.tc : Thread Cert.Ff1DgradLn1Ideal.nD Cert.Ff1DgradLn1Ideal.τ).loc Cert.Ff1DgradLn1Ideal.main_arg4)) (m ((c.tc : Thread Cert.Ff1DgradLn1Ideal.nD Cert.Ff1DgradLn1Ideal.τ).loc Cert.Ff1DgradLn1Ideal.main_arg5))).2.2.2.1 = (fun _ => 1#1)
    ∧ (Cert.Pre_finite_ln1.fn (F := Ideal) (m ((c.tc : Thread Cert.Ff1DgradLn1Ideal.nD Cert.Ff1DgradLn1Ideal.τ).loc Cert.Ff1DgradLn1Ideal.main_arg0)) (m ((c.tc : Thread Cert.Ff1DgradLn1Ideal.nD Cert.Ff1DgradLn1Ideal.τ).loc Cert.Ff1DgradLn1Ideal.main_arg1)) (m ((c.tc : Thread Cert.Ff1DgradLn1Ideal.nD Cert.Ff1DgradLn1Ideal.τ).loc Cert.Ff1DgradLn1Ideal.main_arg2)) (m ((c.tc : Thread Cert.Ff1DgradLn1Ideal.nD Cert.Ff1DgradLn1Ideal.τ).loc Cert.Ff1DgradLn1Ideal.main_arg3)) (m ((c.tc : Thread Cert.Ff1DgradLn1Ideal.nD Cert.Ff1DgradLn1Ideal.τ).loc Cert.Ff1DgradLn1Ideal.main_arg4)) (m ((c.tc : Thread Cert.Ff1DgradLn1Ideal.nD Cert.Ff1DgradLn1Ideal.τ).loc Cert.Ff1DgradLn1Ideal.main_arg5))).2.2.2.2 = (fun _ => 1#1)

def Pre_Ff1DgradLn1RefIdeal (m : (ℓ : Loc Cert.Ff1DgradLn1RefIdeal.nD Cert.Ff1DgradLn1RefIdeal.τ Cert.Ff1DgradLn1RefIdeal.sig) → Buf (Elt Ideal) ℓ) : Prop :=
  True

def Pre_Ff1DgradLn1RefIdeal_finite_ln1 [hPre_finite_ln1 : Cert.Pre_finite_ln1.Facts] (m : (ℓ : Loc Cert.Ff1DgradLn1RefIdeal.nD Cert.Ff1DgradLn1RefIdeal.τ Cert.Ff1DgradLn1RefIdeal.sig) → Buf (Elt Ideal) ℓ) : Prop :=
  ∀ c : Dev Cert.Ff1DgradLn1RefIdeal.nD,
    (Cert.Pre_finite_ln1.fn (F := Ideal) (m ((c.tc : Thread Cert.Ff1DgradLn1RefIdeal.nD Cert.Ff1DgradLn1RefIdeal.τ).loc Cert.Ff1DgradLn1RefIdeal.main_arg0)) (m ((c.tc : Thread Cert.Ff1DgradLn1RefIdeal.nD Cert.Ff1DgradLn1RefIdeal.τ).loc Cert.Ff1DgradLn1RefIdeal.main_arg1)) (m ((c.tc : Thread Cert.Ff1DgradLn1RefIdeal.nD Cert.Ff1DgradLn1RefIdeal.τ).loc Cert.Ff1DgradLn1RefIdeal.main_arg2)) (m ((c.tc : Thread Cert.Ff1DgradLn1RefIdeal.nD Cert.Ff1DgradLn1RefIdeal.τ).loc Cert.Ff1DgradLn1RefIdeal.main_arg3)) (m ((c.tc : Thread Cert.Ff1DgradLn1RefIdeal.nD Cert.Ff1DgradLn1RefIdeal.τ).loc Cert.Ff1DgradLn1RefIdeal.main_arg4)) (m ((c.tc : Thread Cert.Ff1DgradLn1RefIdeal.nD Cert.Ff1DgradLn1RefIdeal.τ).loc Cert.Ff1DgradLn1RefIdeal.main_arg5))).1 = (fun _ => 1#1)
    ∧ (Cert.Pre_finite_ln1.fn (F := Ideal) (m ((c.tc : Thread Cert.Ff1DgradLn1RefIdeal.nD Cert.Ff1DgradLn1RefIdeal.τ).loc Cert.Ff1DgradLn1RefIdeal.main_arg0)) (m ((c.tc : Thread Cert.Ff1DgradLn1RefIdeal.nD Cert.Ff1DgradLn1RefIdeal.τ).loc Cert.Ff1DgradLn1RefIdeal.main_arg1)) (m ((c.tc : Thread Cert.Ff1DgradLn1RefIdeal.nD Cert.Ff1DgradLn1RefIdeal.τ).loc Cert.Ff1DgradLn1RefIdeal.main_arg2)) (m ((c.tc : Thread Cert.Ff1DgradLn1RefIdeal.nD Cert.Ff1DgradLn1RefIdeal.τ).loc Cert.Ff1DgradLn1RefIdeal.main_arg3)) (m ((c.tc : Thread Cert.Ff1DgradLn1RefIdeal.nD Cert.Ff1DgradLn1RefIdeal.τ).loc Cert.Ff1DgradLn1RefIdeal.main_arg4)) (m ((c.tc : Thread Cert.Ff1DgradLn1RefIdeal.nD Cert.Ff1DgradLn1RefIdeal.τ).loc Cert.Ff1DgradLn1RefIdeal.main_arg5))).2.1 = (fun _ => 1#1)
    ∧ (Cert.Pre_finite_ln1.fn (F := Ideal) (m ((c.tc : Thread Cert.Ff1DgradLn1RefIdeal.nD Cert.Ff1DgradLn1RefIdeal.τ).loc Cert.Ff1DgradLn1RefIdeal.main_arg0)) (m ((c.tc : Thread Cert.Ff1DgradLn1RefIdeal.nD Cert.Ff1DgradLn1RefIdeal.τ).loc Cert.Ff1DgradLn1RefIdeal.main_arg1)) (m ((c.tc : Thread Cert.Ff1DgradLn1RefIdeal.nD Cert.Ff1DgradLn1RefIdeal.τ).loc Cert.Ff1DgradLn1RefIdeal.main_arg2)) (m ((c.tc : Thread Cert.Ff1DgradLn1RefIdeal.nD Cert.Ff1DgradLn1RefIdeal.τ).loc Cert.Ff1DgradLn1RefIdeal.main_arg3)) (m ((c.tc : Thread Cert.Ff1DgradLn1RefIdeal.nD Cert.Ff1DgradLn1RefIdeal.τ).loc Cert.Ff1DgradLn1RefIdeal.main_arg4)) (m ((c.tc : Thread Cert.Ff1DgradLn1RefIdeal.nD Cert.Ff1DgradLn1RefIdeal.τ).loc Cert.Ff1DgradLn1RefIdeal.main_arg5))).2.2.1 = (fun _ => 1#1)
    ∧ (Cert.Pre_finite_ln1.fn (F := Ideal) (m ((c.tc : Thread Cert.Ff1DgradLn1RefIdeal.nD Cert.Ff1DgradLn1RefIdeal.τ).loc Cert.Ff1DgradLn1RefIdeal.main_arg0)) (m ((c.tc : Thread Cert.Ff1DgradLn1RefIdeal.nD Cert.Ff1DgradLn1RefIdeal.τ).loc Cert.Ff1DgradLn1RefIdeal.main_arg1)) (m ((c.tc : Thread Cert.Ff1DgradLn1RefIdeal.nD Cert.Ff1DgradLn1RefIdeal.τ).loc Cert.Ff1DgradLn1RefIdeal.main_arg2)) (m ((c.tc : Thread Cert.Ff1DgradLn1RefIdeal.nD Cert.Ff1DgradLn1RefIdeal.τ).loc Cert.Ff1DgradLn1RefIdeal.main_arg3)) (m ((c.tc : Thread Cert.Ff1DgradLn1RefIdeal.nD Cert.Ff1DgradLn1RefIdeal.τ).loc Cert.Ff1DgradLn1RefIdeal.main_arg4)) (m ((c.tc : Thread Cert.Ff1DgradLn1RefIdeal.nD Cert.Ff1DgradLn1RefIdeal.τ).loc Cert.Ff1DgradLn1RefIdeal.main_arg5))).2.2.2.1 = (fun _ => 1#1)
    ∧ (Cert.Pre_finite_ln1.fn (F := Ideal) (m ((c.tc : Thread Cert.Ff1DgradLn1RefIdeal.nD Cert.Ff1DgradLn1RefIdeal.τ).loc Cert.Ff1DgradLn1RefIdeal.main_arg0)) (m ((c.tc : Thread Cert.Ff1DgradLn1RefIdeal.nD Cert.Ff1DgradLn1RefIdeal.τ).loc Cert.Ff1DgradLn1RefIdeal.main_arg1)) (m ((c.tc : Thread Cert.Ff1DgradLn1RefIdeal.nD Cert.Ff1DgradLn1RefIdeal.τ).loc Cert.Ff1DgradLn1RefIdeal.main_arg2)) (m ((c.tc : Thread Cert.Ff1DgradLn1RefIdeal.nD Cert.Ff1DgradLn1RefIdeal.τ).loc Cert.Ff1DgradLn1RefIdeal.main_arg3)) (m ((c.tc : Thread Cert.Ff1DgradLn1RefIdeal.nD Cert.Ff1DgradLn1RefIdeal.τ).loc Cert.Ff1DgradLn1RefIdeal.main_arg4)) (m ((c.tc : Thread Cert.Ff1DgradLn1RefIdeal.nD Cert.Ff1DgradLn1RefIdeal.τ).loc Cert.Ff1DgradLn1RefIdeal.main_arg5))).2.2.2.2 = (fun _ => 1#1)

def Pre_InDgradLnIn (m : (ℓ : Loc Cert.InDgradLnIn.nD Cert.InDgradLnIn.τ Cert.InDgradLnIn.sig) → Buf (Elt Bits) ℓ) : Prop :=
  True

def Pre_InDgradLnInIdeal (m : (ℓ : Loc Cert.InDgradLnInIdeal.nD Cert.InDgradLnInIdeal.τ Cert.InDgradLnInIdeal.sig) → Buf (Elt Ideal) ℓ) : Prop :=
  True

def Pre_InDgradLnInIdeal_finite_ln_in [hPre_finite_ln_in : Cert.Pre_finite_ln_in.Facts] (m : (ℓ : Loc Cert.InDgradLnInIdeal.nD Cert.InDgradLnInIdeal.τ Cert.InDgradLnInIdeal.sig) → Buf (Elt Ideal) ℓ) : Prop :=
  ∀ c : Dev Cert.InDgradLnInIdeal.nD,
    (Cert.Pre_finite_ln_in.fn (F := Ideal) (m ((c.tc : Thread Cert.InDgradLnInIdeal.nD Cert.InDgradLnInIdeal.τ).loc Cert.InDgradLnInIdeal.main_arg0)) (m ((c.tc : Thread Cert.InDgradLnInIdeal.nD Cert.InDgradLnInIdeal.τ).loc Cert.InDgradLnInIdeal.main_arg1)) (m ((c.tc : Thread Cert.InDgradLnInIdeal.nD Cert.InDgradLnInIdeal.τ).loc Cert.InDgradLnInIdeal.main_arg2)) (m ((c.tc : Thread Cert.InDgradLnInIdeal.nD Cert.InDgradLnInIdeal.τ).loc Cert.InDgradLnInIdeal.main_arg3)) (m ((c.tc : Thread Cert.InDgradLnInIdeal.nD Cert.InDgradLnInIdeal.τ).loc Cert.InDgradLnInIdeal.main_arg4)) (m ((c.tc : Thread Cert.InDgradLnInIdeal.nD Cert.InDgradLnInIdeal.τ).loc Cert.InDgradLnInIdeal.main_arg5))).1 = (fun _ => 1#1)
    ∧ (Cert.Pre_finite_ln_in.fn (F := Ideal) (m ((c.tc : Thread Cert.InDgradLnInIdeal.nD Cert.InDgradLnInIdeal.τ).loc Cert.InDgradLnInIdeal.main_arg0)) (m ((c.tc : Thread Cert.InDgradLnInIdeal.nD Cert.InDgradLnInIdeal.τ).loc Cert.InDgradLnInIdeal.main_arg1)) (m ((c.tc : Thread Cert.InDgradLnInIdeal.nD Cert.InDgradLnInIdeal.τ).loc Cert.InDgradLnInIdeal.main_arg2)) (m ((c.tc : Thread Cert.InDgradLnInIdeal.nD Cert.InDgradLnInIdeal.τ).loc Cert.InDgradLnInIdeal.main_arg3)) (m ((c.tc : Thread Cert.InDgradLnInIdeal.nD Cert.InDgradLnInIdeal.τ).loc Cert.InDgradLnInIdeal.main_arg4)) (m ((c.tc : Thread Cert.InDgradLnInIdeal.nD Cert.InDgradLnInIdeal.τ).loc Cert.InDgradLnInIdeal.main_arg5))).2.1 = (fun _ => 1#1)
    ∧ (Cert.Pre_finite_ln_in.fn (F := Ideal) (m ((c.tc : Thread Cert.InDgradLnInIdeal.nD Cert.InDgradLnInIdeal.τ).loc Cert.InDgradLnInIdeal.main_arg0)) (m ((c.tc : Thread Cert.InDgradLnInIdeal.nD Cert.InDgradLnInIdeal.τ).loc Cert.InDgradLnInIdeal.main_arg1)) (m ((c.tc : Thread Cert.InDgradLnInIdeal.nD Cert.InDgradLnInIdeal.τ).loc Cert.InDgradLnInIdeal.main_arg2)) (m ((c.tc : Thread Cert.InDgradLnInIdeal.nD Cert.InDgradLnInIdeal.τ).loc Cert.InDgradLnInIdeal.main_arg3)) (m ((c.tc : Thread Cert.InDgradLnInIdeal.nD Cert.InDgradLnInIdeal.τ).loc Cert.InDgradLnInIdeal.main_arg4)) (m ((c.tc : Thread Cert.InDgradLnInIdeal.nD Cert.InDgradLnInIdeal.τ).loc Cert.InDgradLnInIdeal.main_arg5))).2.2.1 = (fun _ => 1#1)
    ∧ (Cert.Pre_finite_ln_in.fn (F := Ideal) (m ((c.tc : Thread Cert.InDgradLnInIdeal.nD Cert.InDgradLnInIdeal.τ).loc Cert.InDgradLnInIdeal.main_arg0)) (m ((c.tc : Thread Cert.InDgradLnInIdeal.nD Cert.InDgradLnInIdeal.τ).loc Cert.InDgradLnInIdeal.main_arg1)) (m ((c.tc : Thread Cert.InDgradLnInIdeal.nD Cert.InDgradLnInIdeal.τ).loc Cert.InDgradLnInIdeal.main_arg2)) (m ((c.tc : Thread Cert.InDgradLnInIdeal.nD Cert.InDgradLnInIdeal.τ).loc Cert.InDgradLnInIdeal.main_arg3)) (m ((c.tc : Thread Cert.InDgradLnInIdeal.nD Cert.InDgradLnInIdeal.τ).loc Cert.InDgradLnInIdeal.main_arg4)) (m ((c.tc : Thread Cert.InDgradLnInIdeal.nD Cert.InDgradLnInIdeal.τ).loc Cert.InDgradLnInIdeal.main_arg5))).2.2.2.1 = (fun _ => 1#1)
    ∧ (Cert.Pre_finite_ln_in.fn (F := Ideal) (m ((c.tc : Thread Cert.InDgradLnInIdeal.nD Cert.InDgradLnInIdeal.τ).loc Cert.InDgradLnInIdeal.main_arg0)) (m ((c.tc : Thread Cert.InDgradLnInIdeal.nD Cert.InDgradLnInIdeal.τ).loc Cert.InDgradLnInIdeal.main_arg1)) (m ((c.tc : Thread Cert.InDgradLnInIdeal.nD Cert.InDgradLnInIdeal.τ).loc Cert.InDgradLnInIdeal.main_arg2)) (m ((c.tc : Thread Cert.InDgradLnInIdeal.nD Cert.InDgradLnInIdeal.τ).loc Cert.InDgradLnInIdeal.main_arg3)) (m ((c.tc : Thread Cert.InDgradLnInIdeal.nD Cert.InDgradLnInIdeal.τ).loc Cert.InDgradLnInIdeal.main_arg4)) (m ((c.tc : Thread Cert.InDgradLnInIdeal.nD Cert.InDgradLnInIdeal.τ).loc Cert.InDgradLnInIdeal.main_arg5))).2.2.2.2 = (fun _ => 1#1)

def Pre_InDgradLnInRefIdeal (m : (ℓ : Loc Cert.InDgradLnInRefIdeal.nD Cert.InDgradLnInRefIdeal.τ Cert.InDgradLnInRefIdeal.sig) → Buf (Elt Ideal) ℓ) : Prop :=
  True

def Pre_InDgradLnInRefIdeal_finite_ln_in [hPre_finite_ln_in : Cert.Pre_finite_ln_in.Facts] (m : (ℓ : Loc Cert.InDgradLnInRefIdeal.nD Cert.InDgradLnInRefIdeal.τ Cert.InDgradLnInRefIdeal.sig) → Buf (Elt Ideal) ℓ) : Prop :=
  ∀ c : Dev Cert.InDgradLnInRefIdeal.nD,
    (Cert.Pre_finite_ln_in.fn (F := Ideal) (m ((c.tc : Thread Cert.InDgradLnInRefIdeal.nD Cert.InDgradLnInRefIdeal.τ).loc Cert.InDgradLnInRefIdeal.main_arg0)) (m ((c.tc : Thread Cert.InDgradLnInRefIdeal.nD Cert.InDgradLnInRefIdeal.τ).loc Cert.InDgradLnInRefIdeal.main_arg1)) (m ((c.tc : Thread Cert.InDgradLnInRefIdeal.nD Cert.InDgradLnInRefIdeal.τ).loc Cert.InDgradLnInRefIdeal.main_arg2)) (m ((c.tc : Thread Cert.InDgradLnInRefIdeal.nD Cert.InDgradLnInRefIdeal.τ).loc Cert.InDgradLnInRefIdeal.main_arg3)) (m ((c.tc : Thread Cert.InDgradLnInRefIdeal.nD Cert.InDgradLnInRefIdeal.τ).loc Cert.InDgradLnInRefIdeal.main_arg4)) (m ((c.tc : Thread Cert.InDgradLnInRefIdeal.nD Cert.InDgradLnInRefIdeal.τ).loc Cert.InDgradLnInRefIdeal.main_arg5))).1 = (fun _ => 1#1)
    ∧ (Cert.Pre_finite_ln_in.fn (F := Ideal) (m ((c.tc : Thread Cert.InDgradLnInRefIdeal.nD Cert.InDgradLnInRefIdeal.τ).loc Cert.InDgradLnInRefIdeal.main_arg0)) (m ((c.tc : Thread Cert.InDgradLnInRefIdeal.nD Cert.InDgradLnInRefIdeal.τ).loc Cert.InDgradLnInRefIdeal.main_arg1)) (m ((c.tc : Thread Cert.InDgradLnInRefIdeal.nD Cert.InDgradLnInRefIdeal.τ).loc Cert.InDgradLnInRefIdeal.main_arg2)) (m ((c.tc : Thread Cert.InDgradLnInRefIdeal.nD Cert.InDgradLnInRefIdeal.τ).loc Cert.InDgradLnInRefIdeal.main_arg3)) (m ((c.tc : Thread Cert.InDgradLnInRefIdeal.nD Cert.InDgradLnInRefIdeal.τ).loc Cert.InDgradLnInRefIdeal.main_arg4)) (m ((c.tc : Thread Cert.InDgradLnInRefIdeal.nD Cert.InDgradLnInRefIdeal.τ).loc Cert.InDgradLnInRefIdeal.main_arg5))).2.1 = (fun _ => 1#1)
    ∧ (Cert.Pre_finite_ln_in.fn (F := Ideal) (m ((c.tc : Thread Cert.InDgradLnInRefIdeal.nD Cert.InDgradLnInRefIdeal.τ).loc Cert.InDgradLnInRefIdeal.main_arg0)) (m ((c.tc : Thread Cert.InDgradLnInRefIdeal.nD Cert.InDgradLnInRefIdeal.τ).loc Cert.InDgradLnInRefIdeal.main_arg1)) (m ((c.tc : Thread Cert.InDgradLnInRefIdeal.nD Cert.InDgradLnInRefIdeal.τ).loc Cert.InDgradLnInRefIdeal.main_arg2)) (m ((c.tc : Thread Cert.InDgradLnInRefIdeal.nD Cert.InDgradLnInRefIdeal.τ).loc Cert.InDgradLnInRefIdeal.main_arg3)) (m ((c.tc : Thread Cert.InDgradLnInRefIdeal.nD Cert.InDgradLnInRefIdeal.τ).loc Cert.InDgradLnInRefIdeal.main_arg4)) (m ((c.tc : Thread Cert.InDgradLnInRefIdeal.nD Cert.InDgradLnInRefIdeal.τ).loc Cert.InDgradLnInRefIdeal.main_arg5))).2.2.1 = (fun _ => 1#1)
    ∧ (Cert.Pre_finite_ln_in.fn (F := Ideal) (m ((c.tc : Thread Cert.InDgradLnInRefIdeal.nD Cert.InDgradLnInRefIdeal.τ).loc Cert.InDgradLnInRefIdeal.main_arg0)) (m ((c.tc : Thread Cert.InDgradLnInRefIdeal.nD Cert.InDgradLnInRefIdeal.τ).loc Cert.InDgradLnInRefIdeal.main_arg1)) (m ((c.tc : Thread Cert.InDgradLnInRefIdeal.nD Cert.InDgradLnInRefIdeal.τ).loc Cert.InDgradLnInRefIdeal.main_arg2)) (m ((c.tc : Thread Cert.InDgradLnInRefIdeal.nD Cert.InDgradLnInRefIdeal.τ).loc Cert.InDgradLnInRefIdeal.main_arg3)) (m ((c.tc : Thread Cert.InDgradLnInRefIdeal.nD Cert.InDgradLnInRefIdeal.τ).loc Cert.InDgradLnInRefIdeal.main_arg4)) (m ((c.tc : Thread Cert.InDgradLnInRefIdeal.nD Cert.InDgradLnInRefIdeal.τ).loc Cert.InDgradLnInRefIdeal.main_arg5))).2.2.2.1 = (fun _ => 1#1)
    ∧ (Cert.Pre_finite_ln_in.fn (F := Ideal) (m ((c.tc : Thread Cert.InDgradLnInRefIdeal.nD Cert.InDgradLnInRefIdeal.τ).loc Cert.InDgradLnInRefIdeal.main_arg0)) (m ((c.tc : Thread Cert.InDgradLnInRefIdeal.nD Cert.InDgradLnInRefIdeal.τ).loc Cert.InDgradLnInRefIdeal.main_arg1)) (m ((c.tc : Thread Cert.InDgradLnInRefIdeal.nD Cert.InDgradLnInRefIdeal.τ).loc Cert.InDgradLnInRefIdeal.main_arg2)) (m ((c.tc : Thread Cert.InDgradLnInRefIdeal.nD Cert.InDgradLnInRefIdeal.τ).loc Cert.InDgradLnInRefIdeal.main_arg3)) (m ((c.tc : Thread Cert.InDgradLnInRefIdeal.nD Cert.InDgradLnInRefIdeal.τ).loc Cert.InDgradLnInRefIdeal.main_arg4)) (m ((c.tc : Thread Cert.InDgradLnInRefIdeal.nD Cert.InDgradLnInRefIdeal.τ).loc Cert.InDgradLnInRefIdeal.main_arg5))).2.2.2.2 = (fun _ => 1#1)

def Pre_Ff2Ln2Loss (m : (ℓ : Loc Cert.Ff2Ln2Loss.nD Cert.Ff2Ln2Loss.τ Cert.Ff2Ln2Loss.sig) → Buf (Elt Bits) ℓ) : Prop :=
  True

def Pre_Ff2Ln2LossIdeal (m : (ℓ : Loc Cert.Ff2Ln2LossIdeal.nD Cert.Ff2Ln2LossIdeal.τ Cert.Ff2Ln2LossIdeal.sig) → Buf (Elt Ideal) ℓ) : Prop :=
  True

def Pre_Ff2Ln2LossIdeal_finite_ln2 [hPre_finite_ln2 : Cert.Pre_finite_ln2.Facts] (m : (ℓ : Loc Cert.Ff2Ln2LossIdeal.nD Cert.Ff2Ln2LossIdeal.τ Cert.Ff2Ln2LossIdeal.sig) → Buf (Elt Ideal) ℓ) : Prop :=
  ∀ c : Dev Cert.Ff2Ln2LossIdeal.nD,
    (Cert.Pre_finite_ln2.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))).1 = (fun _ => 1#1)
    ∧ (Cert.Pre_finite_ln2.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))).2.1 = (fun _ => 1#1)
    ∧ (Cert.Pre_finite_ln2.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))).2.2.1 = (fun _ => 1#1)
    ∧ (Cert.Pre_finite_ln2.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))).2.2.2.1 = (fun _ => 1#1)
    ∧ (Cert.Pre_finite_ln2.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))).2.2.2.2.1 = (fun _ => 1#1)
    ∧ (Cert.Pre_finite_ln2.fn (F := Ideal) (m ((c.tc : Thread Cert.Ff2Ln2LossIdeal.nD Cert.Ff2Ln2LossIdeal.τ).loc Cert.Ff2Ln2LossIdeal.main_arg0)) (m ((c.tc : Thread Cert.Ff2Ln2LossIdeal.nD Cert.Ff2Ln2LossIdeal.τ).loc Cert.Ff2Ln2LossIdeal.main_arg1)) (m ((c.tc : Thread Cert.Ff2Ln2LossIdeal.nD Cert.Ff2Ln2LossIdeal.τ).loc Cert.Ff2Ln2LossIdeal.main_arg2)) (m ((c.tc : Thread Cert.Ff2Ln2LossIdeal.nD Cert.Ff2Ln2LossIdeal.τ).loc Cert.Ff2Ln2LossIdeal.main_arg3)) (m ((c.tc : Thread Cert.Ff2Ln2LossIdeal.nD Cert.Ff2Ln2LossIdeal.τ).loc Cert.Ff2Ln2LossIdeal.main_arg4)) (m ((c.tc : Thread Cert.Ff2Ln2LossIdeal.nD Cert.Ff2Ln2LossIdeal.τ).loc Cert.Ff2Ln2LossIdeal.main_arg5))).2.2.2.2.2 = (fun _ => 1#1)

def Pre_Ff2Ln2LossRefIdeal (m : (ℓ : Loc Cert.Ff2Ln2LossRefIdeal.nD Cert.Ff2Ln2LossRefIdeal.τ Cert.Ff2Ln2LossRefIdeal.sig) → Buf (Elt Ideal) ℓ) : Prop :=
  True

def Pre_Ff2Ln2LossRefIdeal_finite_ln2 [hPre_finite_ln2 : Cert.Pre_finite_ln2.Facts] (m : (ℓ : Loc Cert.Ff2Ln2LossRefIdeal.nD Cert.Ff2Ln2LossRefIdeal.τ Cert.Ff2Ln2LossRefIdeal.sig) → Buf (Elt Ideal) ℓ) : Prop :=
  ∀ c : Dev Cert.Ff2Ln2LossRefIdeal.nD,
    (Cert.Pre_finite_ln2.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))).1 = (fun _ => 1#1)
    ∧ (Cert.Pre_finite_ln2.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))).2.1 = (fun _ => 1#1)
    ∧ (Cert.Pre_finite_ln2.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))).2.2.1 = (fun _ => 1#1)
    ∧ (Cert.Pre_finite_ln2.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))).2.2.2.1 = (fun _ => 1#1)
    ∧ (Cert.Pre_finite_ln2.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))).2.2.2.2.1 = (fun _ => 1#1)
    ∧ (Cert.Pre_finite_ln2.fn (F := Ideal) (m ((c.tc : Thread Cert.Ff2Ln2LossRefIdeal.nD Cert.Ff2Ln2LossRefIdeal.τ).loc Cert.Ff2Ln2LossRefIdeal.main_arg0)) (m ((c.tc : Thread Cert.Ff2Ln2LossRefIdeal.nD Cert.Ff2Ln2LossRefIdeal.τ).loc Cert.Ff2Ln2LossRefIdeal.main_arg1)) (m ((c.tc : Thread Cert.Ff2Ln2LossRefIdeal.nD Cert.Ff2Ln2LossRefIdeal.τ).loc Cert.Ff2Ln2LossRefIdeal.main_arg2)) (m ((c.tc : Thread Cert.Ff2Ln2LossRefIdeal.nD Cert.Ff2Ln2LossRefIdeal.τ).loc Cert.Ff2Ln2LossRefIdeal.main_arg3)) (m ((c.tc : Thread Cert.Ff2Ln2LossRefIdeal.nD Cert.Ff2Ln2LossRefIdeal.τ).loc Cert.Ff2Ln2LossRefIdeal.main_arg4)) (m ((c.tc : Thread Cert.Ff2Ln2LossRefIdeal.nD Cert.Ff2Ln2LossRefIdeal.τ).loc Cert.Ff2Ln2LossRefIdeal.main_arg5))).2.2.2.2.2 = (fun _ => 1#1)

def Pre_MixLn1 (m : (ℓ : Loc Cert.MixLn1.nD Cert.MixLn1.τ Cert.MixLn1.sig) → Buf (Elt Bits) ℓ) : Prop :=
  True

def Pre_MixLn1Ideal (m : (ℓ : Loc Cert.MixLn1Ideal.nD Cert.MixLn1Ideal.τ Cert.MixLn1Ideal.sig) → Buf (Elt Ideal) ℓ) : Prop :=
  True

def Pre_MixLn1RefIdeal (m : (ℓ : Loc Cert.MixLn1RefIdeal.nD Cert.MixLn1RefIdeal.τ Cert.MixLn1RefIdeal.sig) → Buf (Elt Ideal) ℓ) : Prop :=
  True

def Pre_HProj (m : (ℓ : Loc Cert.HProj.nD Cert.HProj.τ Cert.HProj.sig) → Buf (Elt Bits) ℓ) : Prop :=
  True

def Pre_HProjIdeal (m : (ℓ : Loc Cert.HProjIdeal.nD Cert.HProjIdeal.τ Cert.HProjIdeal.sig) → Buf (Elt Ideal) ℓ) : Prop :=
  True

def Pre_HProjRefIdeal (m : (ℓ : Loc Cert.HProjRefIdeal.nD Cert.HProjRefIdeal.τ Cert.HProjRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_fwd [hPre_finite_fwd : Cert.Pre_finite_fwd.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).1 = (fun _ => 1#1)
    ∧ (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.1 = (fun _ => 1#1)
    ∧ (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.2.1 = (fun _ => 1#1)
    ∧ (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.2.2.1 = (fun _ => 1#1)
    ∧ (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2)) (m ((c.tc : Thread Cert.FlashFwdIdeal.nD Cert.FlashFwdIdeal.τ).loc Cert.FlashFwdIdeal.main_arg3)) (m ((c.tc : Thread Cert.FlashFwdIdeal.nD Cert.FlashFwdIdeal.τ).loc Cert.FlashFwdIdeal.main_arg4))).2.2.2.2 = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_fwd [hPre_finite_fwd : Cert.Pre_finite_fwd.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).1 = (fun _ => 1#1)
    ∧ (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.1 = (fun _ => 1#1)
    ∧ (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.2.1 = (fun _ => 1#1)
    ∧ (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.2.2.1 = (fun _ => 1#1)
    ∧ (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2)) (m ((c.tc : Thread Cert.FlashFwdRefIdeal.nD Cert.FlashFwdRefIdeal.τ).loc Cert.FlashFwdRefIdeal.main_arg3)) (m ((c.tc : Thread Cert.FlashFwdRefIdeal.nD Cert.FlashFwdRefIdeal.τ).loc Cert.FlashFwdRefIdeal.main_arg4))).2.2.2.2 = (fun _ => 1#1)

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_HeadWgrad (m : (ℓ : Loc Cert.HeadWgrad.nD Cert.HeadWgrad.τ Cert.HeadWgrad.sig) → Buf (Elt Bits) ℓ) : Prop :=
  True

def Pre_HeadWgradIdeal (m : (ℓ : Loc Cert.HeadWgradIdeal.nD Cert.HeadWgradIdeal.τ Cert.HeadWgradIdeal.sig) → Buf (Elt Ideal) ℓ) : Prop :=
  True

def Pre_HeadWgradRefIdeal (m : (ℓ : Loc Cert.HeadWgradRefIdeal.nD Cert.HeadWgradRefIdeal.τ Cert.HeadWgradRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ff1Relu2 [hFf1Relu2 : Cert.Ff1Relu2.Facts] : Prop :=
  ∀ (m : (ℓ : Loc Cert.Ff1Relu2.nD Cert.Ff1Relu2.τ Cert.Ff1Relu2.sig) → Buf (Elt Bits) ℓ) (g : Dev Cert.Ff1Relu2.nD → PrngReg), Pre_Ff1Relu2 m →
    θ_run (Cert.Ff1Relu2.defs (F := Bits)) (onTc (τ := Cert.Ff1Relu2.τ) (Cert.Ff1Relu2.main (F := Bits))) ⟨m, fun _ => 0, g⟩ (fun r => (∀ c : Dev Cert.Ff1Relu2.nD,
      r.2.mem ((c.tc : Thread Cert.Ff1Relu2.nD Cert.Ff1Relu2.τ).loc Cert.Ff1Relu2.main_arg0) = m ((c.tc : Thread Cert.Ff1Relu2.nD Cert.Ff1Relu2.τ).loc Cert.Ff1Relu2.main_arg0)
      ∧ r.2.mem ((c.tc : Thread Cert.Ff1Relu2.nD Cert.Ff1Relu2.τ).loc Cert.Ff1Relu2.main_arg1) = m ((c.tc : Thread Cert.Ff1Relu2.nD Cert.Ff1Relu2.τ).loc Cert.Ff1Relu2.main_arg1))
      ∧ r.2.sem = fun _ => 0)

def quiescent_Ff1Relu2Ideal [hFf1Relu2Ideal : Cert.Ff1Relu2Ideal.Facts] : Prop :=
  ∀ (m : (ℓ : Loc Cert.Ff1Relu2Ideal.nD Cert.Ff1Relu2Ideal.τ Cert.Ff1Relu2Ideal.sig) → Buf (Elt Ideal) ℓ) (g : Dev Cert.Ff1Relu2Ideal.nD → PrngReg), Pre_Ff1Relu2Ideal m →
    θ_run (Cert.Ff1Relu2Ideal.defs (F := Ideal)) (onTc (τ := Cert.Ff1Relu2Ideal.τ) (Cert.Ff1Relu2Ideal.main (F := Ideal))) ⟨m, fun _ => 0, g⟩ (fun r => (∀ c : Dev Cert.Ff1Relu2Ideal.nD,
      r.2.mem ((c.tc : Thread Cert.Ff1Relu2Ideal.nD Cert.Ff1Relu2Ideal.τ).loc Cert.Ff1Relu2Ideal.main_arg0) = m ((c.tc : Thread Cert.Ff1Relu2Ideal.nD Cert.Ff1Relu2Ideal.τ).loc Cert.Ff1Relu2Ideal.main_arg0)
      ∧ r.2.mem ((c.tc : Thread Cert.Ff1Relu2Ideal.nD Cert.Ff1Relu2Ideal.τ).loc Cert.Ff1Relu2Ideal.main_arg1) = m ((c.tc : Thread Cert.Ff1Relu2Ideal.nD Cert.Ff1Relu2Ideal.τ).loc Cert.Ff1Relu2Ideal.main_arg1))
      ∧ r.2.sem = fun _ => 0)

def quiescent_Ff1Relu2RefIdeal [hFf1Relu2RefIdeal : Cert.Ff1Relu2RefIdeal.Facts] : Prop :=
  ∀ (m : (ℓ : Loc Cert.Ff1Relu2RefIdeal.nD Cert.Ff1Relu2RefIdeal.τ Cert.Ff1Relu2RefIdeal.sig) → Buf (Elt Ideal) ℓ) (g : Dev Cert.Ff1Relu2RefIdeal.nD → PrngReg), Pre_Ff1Relu2RefIdeal m →
    θ_run (Cert.Ff1Relu2RefIdeal.defs (F := Ideal)) (onTc (τ := Cert.Ff1Relu2RefIdeal.τ) (Cert.Ff1Relu2RefIdeal.main (F := Ideal))) ⟨m, fun _ => 0, g⟩ (fun r => (∀ c : Dev Cert.Ff1Relu2RefIdeal.nD,
      r.2.mem ((c.tc : Thread Cert.Ff1Relu2RefIdeal.nD Cert.Ff1Relu2RefIdeal.τ).loc Cert.Ff1Relu2RefIdeal.main_arg0) = m ((c.tc : Thread Cert.Ff1Relu2RefIdeal.nD Cert.Ff1Relu2RefIdeal.τ).loc Cert.Ff1Relu2RefIdeal.main_arg0)
      ∧ r.2.mem ((c.tc : Thread Cert.Ff1Relu2RefIdeal.nD Cert.Ff1Relu2RefIdeal.τ).loc Cert.Ff1Relu2RefIdeal.main_arg1) = m ((c.tc : Thread Cert.Ff1Relu2RefIdeal.nD Cert.Ff1Relu2RefIdeal.τ).loc Cert.Ff1Relu2RefIdeal.main_arg1))
      ∧ r.2.sem = fun _ => 0)

def quiescent_Ff2Dgrad [hFf2Dgrad : Cert.Ff2Dgrad.Facts] : Prop :=
  ∀ (m : (ℓ : Loc Cert.Ff2Dgrad.nD Cert.Ff2Dgrad.τ Cert.Ff2Dgrad.sig) → Buf (Elt Bits) ℓ) (g : Dev Cert.Ff2Dgrad.nD → PrngReg), Pre_Ff2Dgrad m →
    θ_run (Cert.Ff2Dgrad.defs (F := Bits)) (onTc (τ := Cert.Ff2Dgrad.τ) (Cert.Ff2Dgrad.main (F := Bits))) ⟨m, fun _ => 0, g⟩ (fun r => (∀ c : Dev Cert.Ff2Dgrad.nD,
      r.2.mem ((c.tc : Thread Cert.Ff2Dgrad.nD Cert.Ff2Dgrad.τ).loc Cert.Ff2Dgrad.main_arg0) = m ((c.tc : Thread Cert.Ff2Dgrad.nD Cert.Ff2Dgrad.τ).loc Cert.Ff2Dgrad.main_arg0)
      ∧ r.2.mem ((c.tc : Thread Cert.Ff2Dgrad.nD Cert.Ff2Dgrad.τ).loc Cert.Ff2Dgrad.main_arg1) = m ((c.tc : Thread Cert.Ff2Dgrad.nD Cert.Ff2Dgrad.τ).loc Cert.Ff2Dgrad.main_arg1)
      ∧ r.2.mem ((c.tc : Thread Cert.Ff2Dgrad.nD Cert.Ff2Dgrad.τ).loc Cert.Ff2Dgrad.main_arg2) = m ((c.tc : Thread Cert.Ff2Dgrad.nD Cert.Ff2Dgrad.τ).loc Cert.Ff2Dgrad.main_arg2)
      ∧ r.2.mem ((c.tc : Thread Cert.Ff2Dgrad.nD Cert.Ff2Dgrad.τ).loc Cert.Ff2Dgrad.main_arg3) = m ((c.tc : Thread Cert.Ff2Dgrad.nD Cert.Ff2Dgrad.τ).loc Cert.Ff2Dgrad.main_arg3))
      ∧ r.2.sem = fun _ => 0)

def quiescent_Ff2DgradIdeal [hFf2DgradIdeal : Cert.Ff2DgradIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg), Pre_Ff2DgradIdeal m →
    θ_run (Cert.Ff2DgradIdeal.defs (F := Ideal)) (onTc (τ := Cert.Ff2DgradIdeal.τ) (Cert.Ff2DgradIdeal.main (F := Ideal))) ⟨m, fun _ => 0, g⟩ (fun r => (∀ c : Dev Cert.Ff2DgradIdeal.nD,
      r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
      ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
      ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2)
      ∧ r.2.mem ((c.tc : Thread Cert.Ff2DgradIdeal.nD Cert.Ff2DgradIdeal.τ).loc Cert.Ff2DgradIdeal.main_arg3) = m ((c.tc : Thread Cert.Ff2DgradIdeal.nD Cert.Ff2DgradIdeal.τ).loc Cert.Ff2DgradIdeal.main_arg3))
      ∧ r.2.sem = fun _ => 0)

def quiescent_Ff2DgradRefIdeal [hFf2DgradRefIdeal : Cert.Ff2DgradRefIdeal.Facts] : Prop :=
  ∀ (m : (ℓ : Loc Cert.Ff2DgradRefIdeal.nD Cert.Ff2DgradRefIdeal.τ Cert.Ff2DgradRefIdeal.sig) → Buf (Elt Ideal) ℓ) (g : Dev Cert.Ff2DgradRefIdeal.nD → PrngReg), Pre_Ff2DgradRefIdeal m →
    θ_run (Cert.Ff2DgradRefIdeal.defs (F := Ideal)) (onTc (τ := Cert.Ff2DgradRefIdeal.τ) (Cert.Ff2DgradRefIdeal.main (F := Ideal))) ⟨m, fun _ => 0, g⟩ (fun r => (∀ c : Dev Cert.Ff2DgradRefIdeal.nD,
      r.2.mem ((c.tc : Thread Cert.Ff2DgradRefIdeal.nD Cert.Ff2DgradRefIdeal.τ).loc Cert.Ff2DgradRefIdeal.main_arg0) = m ((c.tc : Thread Cert.Ff2DgradRefIdeal.nD Cert.Ff2DgradRefIdeal.τ).loc Cert.Ff2DgradRefIdeal.main_arg0)
      ∧ r.2.mem ((c.tc : Thread Cert.Ff2DgradRefIdeal.nD Cert.Ff2DgradRefIdeal.τ).loc Cert.Ff2DgradRefIdeal.main_arg1) = m ((c.tc : Thread Cert.Ff2DgradRefIdeal.nD Cert.Ff2DgradRefIdeal.τ).loc Cert.Ff2DgradRefIdeal.main_arg1)
      ∧ r.2.mem ((c.tc : Thread Cert.Ff2DgradRefIdeal.nD Cert.Ff2DgradRefIdeal.τ).loc Cert.Ff2DgradRefIdeal.main_arg2) = m ((c.tc : Thread Cert.Ff2DgradRefIdeal.nD Cert.Ff2DgradRefIdeal.τ).loc Cert.Ff2DgradRefIdeal.main_arg2)
      ∧ r.2.mem ((c.tc : Thread Cert.Ff2DgradRefIdeal.nD Cert.Ff2DgradRefIdeal.τ).loc Cert.Ff2DgradRefIdeal.main_arg3) = m ((c.tc : Thread Cert.Ff2DgradRefIdeal.nD Cert.Ff2DgradRefIdeal.τ).loc Cert.Ff2DgradRefIdeal.main_arg3))
      ∧ r.2.sem = fun _ => 0)

def quiescent_Ff2Wgrad [hFf2Wgrad : Cert.Ff2Wgrad.Facts] : Prop :=
  ∀ (m : (ℓ : Loc Cert.Ff2Wgrad.nD Cert.Ff2Wgrad.τ Cert.Ff2Wgrad.sig) → Buf (Elt Bits) ℓ) (g : Dev Cert.Ff2Wgrad.nD → PrngReg), Pre_Ff2Wgrad m →
    θ_run (Cert.Ff2Wgrad.defs (F := Bits)) (onTc (τ := Cert.Ff2Wgrad.τ) (Cert.Ff2Wgrad.main (F := Bits))) ⟨m, fun _ => 0, g⟩ (fun r => (∀ c : Dev Cert.Ff2Wgrad.nD,
      r.2.mem ((c.tc : Thread Cert.Ff2Wgrad.nD Cert.Ff2Wgrad.τ).loc Cert.Ff2Wgrad.main_arg0) = m ((c.tc : Thread Cert.Ff2Wgrad.nD Cert.Ff2Wgrad.τ).loc Cert.Ff2Wgrad.main_arg0)
      ∧ r.2.mem ((c.tc : Thread Cert.Ff2Wgrad.nD Cert.Ff2Wgrad.τ).loc Cert.Ff2Wgrad.main_arg1) = m ((c.tc : Thread Cert.Ff2Wgrad.nD Cert.Ff2Wgrad.τ).loc Cert.Ff2Wgrad.main_arg1)
      ∧ r.2.mem ((c.tc : Thread Cert.Ff2Wgrad.nD Cert.Ff2Wgrad.τ).loc Cert.Ff2Wgrad.main_arg2) = m ((c.tc : Thread Cert.Ff2Wgrad.nD Cert.Ff2Wgrad.τ).loc Cert.Ff2Wgrad.main_arg2)
      ∧ r.2.mem ((c.tc : Thread Cert.Ff2Wgrad.nD Cert.Ff2Wgrad.τ).loc Cert.Ff2Wgrad.main_arg3) = m ((c.tc : Thread Cert.Ff2Wgrad.nD Cert.Ff2Wgrad.τ).loc Cert.Ff2Wgrad.main_arg3))
      ∧ r.2.sem = fun _ => 0)

def quiescent_Ff2WgradIdeal [hFf2WgradIdeal : Cert.Ff2WgradIdeal.Facts] : Prop :=
  ∀ (m : (ℓ : Loc Cert.Ff2WgradIdeal.nD Cert.Ff2WgradIdeal.τ Cert.Ff2WgradIdeal.sig) → Buf (Elt Ideal) ℓ) (g : Dev Cert.Ff2WgradIdeal.nD → PrngReg), Pre_Ff2WgradIdeal m →
    θ_run (Cert.Ff2WgradIdeal.defs (F := Ideal)) (onTc (τ := Cert.Ff2WgradIdeal.τ) (Cert.Ff2WgradIdeal.main (F := Ideal))) ⟨m, fun _ => 0, g⟩ (fun r => (∀ c : Dev Cert.Ff2WgradIdeal.nD,
      r.2.mem ((c.tc : Thread Cert.Ff2WgradIdeal.nD Cert.Ff2WgradIdeal.τ).loc Cert.Ff2WgradIdeal.main_arg0) = m ((c.tc : Thread Cert.Ff2WgradIdeal.nD Cert.Ff2WgradIdeal.τ).loc Cert.Ff2WgradIdeal.main_arg0)
      ∧ r.2.mem ((c.tc : Thread Cert.Ff2WgradIdeal.nD Cert.Ff2WgradIdeal.τ).loc Cert.Ff2WgradIdeal.main_arg1) = m ((c.tc : Thread Cert.Ff2WgradIdeal.nD Cert.Ff2WgradIdeal.τ).loc Cert.Ff2WgradIdeal.main_arg1)
      ∧ r.2.mem ((c.tc : Thread Cert.Ff2WgradIdeal.nD Cert.Ff2WgradIdeal.τ).loc Cert.Ff2WgradIdeal.main_arg2) = m ((c.tc : Thread Cert.Ff2WgradIdeal.nD Cert.Ff2WgradIdeal.τ).loc Cert.Ff2WgradIdeal.main_arg2)
      ∧ r.2.mem ((c.tc : Thread Cert.Ff2WgradIdeal.nD Cert.Ff2WgradIdeal.τ).loc Cert.Ff2WgradIdeal.main_arg3) = m ((c.tc : Thread Cert.Ff2WgradIdeal.nD Cert.Ff2WgradIdeal.τ).loc Cert.Ff2WgradIdeal.main_arg3))
      ∧ r.2.sem = fun _ => 0)

def quiescent_Ff2WgradRefIdeal [hFf2WgradRefIdeal : Cert.Ff2WgradRefIdeal.Facts] : Prop :=
  ∀ (m : (ℓ : Loc Cert.Ff2WgradRefIdeal.nD Cert.Ff2WgradRefIdeal.τ Cert.Ff2WgradRefIdeal.sig) → Buf (Elt Ideal) ℓ) (g : Dev Cert.Ff2WgradRefIdeal.nD → PrngReg), Pre_Ff2WgradRefIdeal m →
    θ_run (Cert.Ff2WgradRefIdeal.defs (F := Ideal)) (onTc (τ := Cert.Ff2WgradRefIdeal.τ) (Cert.Ff2WgradRefIdeal.main (F := Ideal))) ⟨m, fun _ => 0, g⟩ (fun r => (∀ c : Dev Cert.Ff2WgradRefIdeal.nD,
      r.2.mem ((c.tc : Thread Cert.Ff2WgradRefIdeal.nD Cert.Ff2WgradRefIdeal.τ).loc Cert.Ff2WgradRefIdeal.main_arg0) = m ((c.tc : Thread Cert.Ff2WgradRefIdeal.nD Cert.Ff2WgradRefIdeal.τ).loc Cert.Ff2WgradRefIdeal.main_arg0)
      ∧ r.2.mem ((c.tc : Thread Cert.Ff2WgradRefIdeal.nD Cert.Ff2WgradRefIdeal.τ).loc Cert.Ff2WgradRefIdeal.main_arg1) = m ((c.tc : Thread Cert.Ff2WgradRefIdeal.nD Cert.Ff2WgradRefIdeal.τ).loc Cert.Ff2WgradRefIdeal.main_arg1)
      ∧ r.2.mem ((c.tc : Thread Cert.Ff2WgradRefIdeal.nD Cert.Ff2WgradRefIdeal.τ).loc Cert.Ff2WgradRefIdeal.main_arg2) = m ((c.tc : Thread Cert.Ff2WgradRefIdeal.nD Cert.Ff2WgradRefIdeal.τ).loc Cert.Ff2WgradRefIdeal.main_arg2)
      ∧ r.2.mem ((c.tc : Thread Cert.Ff2WgradRefIdeal.nD Cert.Ff2WgradRefIdeal.τ).loc Cert.Ff2WgradRefIdeal.main_arg3) = m ((c.tc : Thread Cert.Ff2WgradRefIdeal.nD Cert.Ff2WgradRefIdeal.τ).loc Cert.Ff2WgradRefIdeal.main_arg3))
      ∧ r.2.sem = fun _ => 0)

def quiescent_Ff1Wgrad [hFf1Wgrad : Cert.Ff1Wgrad.Facts] : Prop :=
  ∀ (m : (ℓ : Loc Cert.Ff1Wgrad.nD Cert.Ff1Wgrad.τ Cert.Ff1Wgrad.sig) → Buf (Elt Bits) ℓ) (g : Dev Cert.Ff1Wgrad.nD → PrngReg), Pre_Ff1Wgrad m →
    θ_run (Cert.Ff1Wgrad.defs (F := Bits)) (onTc (τ := Cert.Ff1Wgrad.τ) (Cert.Ff1Wgrad.main (F := Bits))) ⟨m, fun _ => 0, g⟩ (fun r => (∀ c : Dev Cert.Ff1Wgrad.nD,
      r.2.mem ((c.tc : Thread Cert.Ff1Wgrad.nD Cert.Ff1Wgrad.τ).loc Cert.Ff1Wgrad.main_arg0) = m ((c.tc : Thread Cert.Ff1Wgrad.nD Cert.Ff1Wgrad.τ).loc Cert.Ff1Wgrad.main_arg0)
      ∧ r.2.mem ((c.tc : Thread Cert.Ff1Wgrad.nD Cert.Ff1Wgrad.τ).loc Cert.Ff1Wgrad.main_arg1) = m ((c.tc : Thread Cert.Ff1Wgrad.nD Cert.Ff1Wgrad.τ).loc Cert.Ff1Wgrad.main_arg1)
      ∧ r.2.mem ((c.tc : Thread Cert.Ff1Wgrad.nD Cert.Ff1Wgrad.τ).loc Cert.Ff1Wgrad.main_arg2) = m ((c.tc : Thread Cert.Ff1Wgrad.nD Cert.Ff1Wgrad.τ).loc Cert.Ff1Wgrad.main_arg2))
      ∧ r.2.sem = fun _ => 0)

def quiescent_Ff1WgradIdeal [hFf1WgradIdeal : Cert.Ff1WgradIdeal.Facts] : Prop :=
  ∀ (m : (ℓ : Loc Cert.Ff1WgradIdeal.nD Cert.Ff1WgradIdeal.τ Cert.Ff1WgradIdeal.sig) → Buf (Elt Ideal) ℓ) (g : Dev Cert.Ff1WgradIdeal.nD → PrngReg), Pre_Ff1WgradIdeal m →
    θ_run (Cert.Ff1WgradIdeal.defs (F := Ideal)) (onTc (τ := Cert.Ff1WgradIdeal.τ) (Cert.Ff1WgradIdeal.main (F := Ideal))) ⟨m, fun _ => 0, g⟩ (fun r => (∀ c : Dev Cert.Ff1WgradIdeal.nD,
      r.2.mem ((c.tc : Thread Cert.Ff1WgradIdeal.nD Cert.Ff1WgradIdeal.τ).loc Cert.Ff1WgradIdeal.main_arg0) = m ((c.tc : Thread Cert.Ff1WgradIdeal.nD Cert.Ff1WgradIdeal.τ).loc Cert.Ff1WgradIdeal.main_arg0)
      ∧ r.2.mem ((c.tc : Thread Cert.Ff1WgradIdeal.nD Cert.Ff1WgradIdeal.τ).loc Cert.Ff1WgradIdeal.main_arg1) = m ((c.tc : Thread Cert.Ff1WgradIdeal.nD Cert.Ff1WgradIdeal.τ).loc Cert.Ff1WgradIdeal.main_arg1)
      ∧ r.2.mem ((c.tc : Thread Cert.Ff1WgradIdeal.nD Cert.Ff1WgradIdeal.τ).loc Cert.Ff1WgradIdeal.main_arg2) = m ((c.tc : Thread Cert.Ff1WgradIdeal.nD Cert.Ff1WgradIdeal.τ).loc Cert.Ff1WgradIdeal.main_arg2))
      ∧ r.2.sem = fun _ => 0)

def quiescent_Ff1WgradRefIdeal [hFf1WgradRefIdeal : Cert.Ff1WgradRefIdeal.Facts] : Prop :=
  ∀ (m : (ℓ : Loc Cert.Ff1WgradRefIdeal.nD Cert.Ff1WgradRefIdeal.τ Cert.Ff1WgradRefIdeal.sig) → Buf (Elt Ideal) ℓ) (g : Dev Cert.Ff1WgradRefIdeal.nD → PrngReg), Pre_Ff1WgradRefIdeal m →
    θ_run (Cert.Ff1WgradRefIdeal.defs (F := Ideal)) (onTc (τ := Cert.Ff1WgradRefIdeal.τ) (Cert.Ff1WgradRefIdeal.main (F := Ideal))) ⟨m, fun _ => 0, g⟩ (fun r => (∀ c : Dev Cert.Ff1WgradRefIdeal.nD,
      r.2.mem ((c.tc : Thread Cert.Ff1WgradRefIdeal.nD Cert.Ff1WgradRefIdeal.τ).loc Cert.Ff1WgradRefIdeal.main_arg0) = m ((c.tc : Thread Cert.Ff1WgradRefIdeal.nD Cert.Ff1WgradRefIdeal.τ).loc Cert.Ff1WgradRefIdeal.main_arg0)
      ∧ r.2.mem ((c.tc : Thread Cert.Ff1WgradRefIdeal.nD Cert.Ff1WgradRefIdeal.τ).loc Cert.Ff1WgradRefIdeal.main_arg1) = m ((c.tc : Thread Cert.Ff1WgradRefIdeal.nD Cert.Ff1WgradRefIdeal.τ).loc Cert.Ff1WgradRefIdeal.main_arg1)
      ∧ r.2.mem ((c.tc : Thread Cert.Ff1WgradRefIdeal.nD Cert.Ff1WgradRefIdeal.τ).loc Cert.Ff1WgradRefIdeal.main_arg2) = m ((c.tc : Thread Cert.Ff1WgradRefIdeal.nD Cert.Ff1WgradRefIdeal.τ).loc Cert.Ff1WgradRefIdeal.main_arg2))
      ∧ r.2.sem = fun _ => 0)

def quiescent_Ff1DgradLn1 [hFf1DgradLn1 : Cert.Ff1DgradLn1.Facts] : Prop :=
  ∀ (m : (ℓ : Loc Cert.Ff1DgradLn1.nD Cert.Ff1DgradLn1.τ Cert.Ff1DgradLn1.sig) → Buf (Elt Bits) ℓ) (g : Dev Cert.Ff1DgradLn1.nD → PrngReg), Pre_Ff1DgradLn1 m →
    θ_run (Cert.Ff1DgradLn1.defs (F := Bits)) (onTc (τ := Cert.Ff1DgradLn1.τ) (Cert.Ff1DgradLn1.main (F := Bits))) ⟨m, fun _ => 0, g⟩ (fun r => (∀ c : Dev Cert.Ff1DgradLn1.nD,
      r.2.mem ((c.tc : Thread Cert.Ff1DgradLn1.nD Cert.Ff1DgradLn1.τ).loc Cert.Ff1DgradLn1.main_arg0) = m ((c.tc : Thread Cert.Ff1DgradLn1.nD Cert.Ff1DgradLn1.τ).loc Cert.Ff1DgradLn1.main_arg0)
      ∧ r.2.mem ((c.tc : Thread Cert.Ff1DgradLn1.nD Cert.Ff1DgradLn1.τ).loc Cert.Ff1DgradLn1.main_arg1) = m ((c.tc : Thread Cert.Ff1DgradLn1.nD Cert.Ff1DgradLn1.τ).loc Cert.Ff1DgradLn1.main_arg1)
      ∧ r.2.mem ((c.tc : Thread Cert.Ff1DgradLn1.nD Cert.Ff1DgradLn1.τ).loc Cert.Ff1DgradLn1.main_arg2) = m ((c.tc : Thread Cert.Ff1DgradLn1.nD Cert.Ff1DgradLn1.τ).loc Cert.Ff1DgradLn1.main_arg2)
      ∧ r.2.mem ((c.tc : Thread Cert.Ff1DgradLn1.nD Cert.Ff1DgradLn1.τ).loc Cert.Ff1DgradLn1.main_arg3) = m ((c.tc : Thread Cert.Ff1DgradLn1.nD Cert.Ff1DgradLn1.τ).loc Cert.Ff1DgradLn1.main_arg3)
      ∧ r.2.mem ((c.tc : Thread Cert.Ff1DgradLn1.nD Cert.Ff1DgradLn1.τ).loc Cert.Ff1DgradLn1.main_arg4) = m ((c.tc : Thread Cert.Ff1DgradLn1.nD Cert.Ff1DgradLn1.τ).loc Cert.Ff1DgradLn1.main_arg4)
      ∧ r.2.mem ((c.tc : Thread Cert.Ff1DgradLn1.nD Cert.Ff1DgradLn1.τ).loc Cert.Ff1DgradLn1.main_arg5) = m ((c.tc : Thread Cert.Ff1DgradLn1.nD Cert.Ff1DgradLn1.τ).loc Cert.Ff1DgradLn1.main_arg5))
      ∧ r.2.sem = fun _ => 0)

def quiescent_Ff1DgradLn1Ideal [hFf1DgradLn1Ideal : Cert.Ff1DgradLn1Ideal.Facts] : Prop :=
  ∀ (m : (ℓ : Loc Cert.Ff1DgradLn1Ideal.nD Cert.Ff1DgradLn1Ideal.τ Cert.Ff1DgradLn1Ideal.sig) → Buf (Elt Ideal) ℓ) (g : Dev Cert.Ff1DgradLn1Ideal.nD → PrngReg), Pre_Ff1DgradLn1Ideal m →
    θ_run (Cert.Ff1DgradLn1Ideal.defs (F := Ideal)) (onTc (τ := Cert.Ff1DgradLn1Ideal.τ) (Cert.Ff1DgradLn1Ideal.main (F := Ideal))) ⟨m, fun _ => 0, g⟩ (fun r => (∀ c : Dev Cert.Ff1DgradLn1Ideal.nD,
      r.2.mem ((c.tc : Thread Cert.Ff1DgradLn1Ideal.nD Cert.Ff1DgradLn1Ideal.τ).loc Cert.Ff1DgradLn1Ideal.main_arg0) = m ((c.tc : Thread Cert.Ff1DgradLn1Ideal.nD Cert.Ff1DgradLn1Ideal.τ).loc Cert.Ff1DgradLn1Ideal.main_arg0)
      ∧ r.2.mem ((c.tc : Thread Cert.Ff1DgradLn1Ideal.nD Cert.Ff1DgradLn1Ideal.τ).loc Cert.Ff1DgradLn1Ideal.main_arg1) = m ((c.tc : Thread Cert.Ff1DgradLn1Ideal.nD Cert.Ff1DgradLn1Ideal.τ).loc Cert.Ff1DgradLn1Ideal.main_arg1)
      ∧ r.2.mem ((c.tc : Thread Cert.Ff1DgradLn1Ideal.nD Cert.Ff1DgradLn1Ideal.τ).loc Cert.Ff1DgradLn1Ideal.main_arg2) = m ((c.tc : Thread Cert.Ff1DgradLn1Ideal.nD Cert.Ff1DgradLn1Ideal.τ).loc Cert.Ff1DgradLn1Ideal.main_arg2)
      ∧ r.2.mem ((c.tc : Thread Cert.Ff1DgradLn1Ideal.nD Cert.Ff1DgradLn1Ideal.τ).loc Cert.Ff1DgradLn1Ideal.main_arg3) = m ((c.tc : Thread Cert.Ff1DgradLn1Ideal.nD Cert.Ff1DgradLn1Ideal.τ).loc Cert.Ff1DgradLn1Ideal.main_arg3)
      ∧ r.2.mem ((c.tc : Thread Cert.Ff1DgradLn1Ideal.nD Cert.Ff1DgradLn1Ideal.τ).loc Cert.Ff1DgradLn1Ideal.main_arg4) = m ((c.tc : Thread Cert.Ff1DgradLn1Ideal.nD Cert.Ff1DgradLn1Ideal.τ).loc Cert.Ff1DgradLn1Ideal.main_arg4)
      ∧ r.2.mem ((c.tc : Thread Cert.Ff1DgradLn1Ideal.nD Cert.Ff1DgradLn1Ideal.τ).loc Cert.Ff1DgradLn1Ideal.main_arg5) = m ((c.tc : Thread Cert.Ff1DgradLn1Ideal.nD Cert.Ff1DgradLn1Ideal.τ).loc Cert.Ff1DgradLn1Ideal.main_arg5))
      ∧ r.2.sem = fun _ => 0)

def quiescent_Ff1DgradLn1Ideal_pre_finite_ln1 [hFf1DgradLn1Ideal : Cert.Ff1DgradLn1Ideal.Facts] [hPre_finite_ln1 : Cert.Pre_finite_ln1.Facts] : Prop :=
  ∀ (m : (ℓ : Loc Cert.Ff1DgradLn1Ideal.nD Cert.Ff1DgradLn1Ideal.τ Cert.Ff1DgradLn1Ideal.sig) → Buf (Elt Ideal) ℓ) (g : Dev Cert.Ff1DgradLn1Ideal.nD → PrngReg), Pre_Ff1DgradLn1Ideal_finite_ln1 m →
    θ_run (Cert.Ff1DgradLn1Ideal.defs (F := Ideal)) (onTc (τ := Cert.Ff1DgradLn1Ideal.τ) (Cert.Ff1DgradLn1Ideal.main (F := Ideal))) ⟨m, fun _ => 0, g⟩ (fun r => (∀ c : Dev Cert.Ff1DgradLn1Ideal.nD,
      r.2.mem ((c.tc : Thread Cert.Ff1DgradLn1Ideal.nD Cert.Ff1DgradLn1Ideal.τ).loc Cert.Ff1DgradLn1Ideal.main_arg0) = m ((c.tc : Thread Cert.Ff1DgradLn1Ideal.nD Cert.Ff1DgradLn1Ideal.τ).loc Cert.Ff1DgradLn1Ideal.main_arg0)
      ∧ r.2.mem ((c.tc : Thread Cert.Ff1DgradLn1Ideal.nD Cert.Ff1DgradLn1Ideal.τ).loc Cert.Ff1DgradLn1Ideal.main_arg1) = m ((c.tc : Thread Cert.Ff1DgradLn1Ideal.nD Cert.Ff1DgradLn1Ideal.τ).loc Cert.Ff1DgradLn1Ideal.main_arg1)
      ∧ r.2.mem ((c.tc : Thread Cert.Ff1DgradLn1Ideal.nD Cert.Ff1DgradLn1Ideal.τ).loc Cert.Ff1DgradLn1Ideal.main_arg2) = m ((c.tc : Thread Cert.Ff1DgradLn1Ideal.nD Cert.Ff1DgradLn1Ideal.τ).loc Cert.Ff1DgradLn1Ideal.main_arg2)
      ∧ r.2.mem ((c.tc : Thread Cert.Ff1DgradLn1Ideal.nD Cert.Ff1DgradLn1Ideal.τ).loc Cert.Ff1DgradLn1Ideal.main_arg3) = m ((c.tc : Thread Cert.Ff1DgradLn1Ideal.nD Cert.Ff1DgradLn1Ideal.τ).loc Cert.Ff1DgradLn1Ideal.main_arg3)
      ∧ r.2.mem ((c.tc : Thread Cert.Ff1DgradLn1Ideal.nD Cert.Ff1DgradLn1Ideal.τ).loc Cert.Ff1DgradLn1Ideal.main_arg4) = m ((c.tc : Thread Cert.Ff1DgradLn1Ideal.nD Cert.Ff1DgradLn1Ideal.τ).loc Cert.Ff1DgradLn1Ideal.main_arg4)
      ∧ r.2.mem ((c.tc : Thread Cert.Ff1DgradLn1Ideal.nD Cert.Ff1DgradLn1Ideal.τ).loc Cert.Ff1DgradLn1Ideal.main_arg5) = m ((c.tc : Thread Cert.Ff1DgradLn1Ideal.nD Cert.Ff1DgradLn1Ideal.τ).loc Cert.Ff1DgradLn1Ideal.main_arg5))
      ∧ r.2.sem = fun _ => 0)

def quiescent_Ff1DgradLn1RefIdeal [hFf1DgradLn1RefIdeal : Cert.Ff1DgradLn1RefIdeal.Facts] : Prop :=
  ∀ (m : (ℓ : Loc Cert.Ff1DgradLn1RefIdeal.nD Cert.Ff1DgradLn1RefIdeal.τ Cert.Ff1DgradLn1RefIdeal.sig) → Buf (Elt Ideal) ℓ) (g : Dev Cert.Ff1DgradLn1RefIdeal.nD → PrngReg), Pre_Ff1DgradLn1RefIdeal m →
    θ_run (Cert.Ff1DgradLn1RefIdeal.defs (F := Ideal)) (onTc (τ := Cert.Ff1DgradLn1RefIdeal.τ) (Cert.Ff1DgradLn1RefIdeal.main (F := Ideal))) ⟨m, fun _ => 0, g⟩ (fun r => (∀ c : Dev Cert.Ff1DgradLn1RefIdeal.nD,
      r.2.mem ((c.tc : Thread Cert.Ff1DgradLn1RefIdeal.nD Cert.Ff1DgradLn1RefIdeal.τ).loc Cert.Ff1DgradLn1RefIdeal.main_arg0) = m ((c.tc : Thread Cert.Ff1DgradLn1RefIdeal.nD Cert.Ff1DgradLn1RefIdeal.τ).loc Cert.Ff1DgradLn1RefIdeal.main_arg0)
      ∧ r.2.mem ((c.tc : Thread Cert.Ff1DgradLn1RefIdeal.nD Cert.Ff1DgradLn1RefIdeal.τ).loc Cert.Ff1DgradLn1RefIdeal.main_arg1) = m ((c.tc : Thread Cert.Ff1DgradLn1RefIdeal.nD Cert.Ff1DgradLn1RefIdeal.τ).loc Cert.Ff1DgradLn1RefIdeal.main_arg1)
      ∧ r.2.mem ((c.tc : Thread Cert.Ff1DgradLn1RefIdeal.nD Cert.Ff1DgradLn1RefIdeal.τ).loc Cert.Ff1DgradLn1RefIdeal.main_arg2) = m ((c.tc : Thread Cert.Ff1DgradLn1RefIdeal.nD Cert.Ff1DgradLn1RefIdeal.τ).loc Cert.Ff1DgradLn1RefIdeal.main_arg2)
      ∧ r.2.mem ((c.tc : Thread Cert.Ff1DgradLn1RefIdeal.nD Cert.Ff1DgradLn1RefIdeal.τ).loc Cert.Ff1DgradLn1RefIdeal.main_arg3) = m ((c.tc : Thread Cert.Ff1DgradLn1RefIdeal.nD Cert.Ff1DgradLn1RefIdeal.τ).loc Cert.Ff1DgradLn1RefIdeal.main_arg3)
      ∧ r.2.mem ((c.tc : Thread Cert.Ff1DgradLn1RefIdeal.nD Cert.Ff1DgradLn1RefIdeal.τ).loc Cert.Ff1DgradLn1RefIdeal.main_arg4) = m ((c.tc : Thread Cert.Ff1DgradLn1RefIdeal.nD Cert.Ff1DgradLn1RefIdeal.τ).loc Cert.Ff1DgradLn1RefIdeal.main_arg4)
      ∧ r.2.mem ((c.tc : Thread Cert.Ff1DgradLn1RefIdeal.nD Cert.Ff1DgradLn1RefIdeal.τ).loc Cert.Ff1DgradLn1RefIdeal.main_arg5) = m ((c.tc : Thread Cert.Ff1DgradLn1RefIdeal.nD Cert.Ff1DgradLn1RefIdeal.τ).loc Cert.Ff1DgradLn1RefIdeal.main_arg5))
      ∧ r.2.sem = fun _ => 0)

def quiescent_Ff1DgradLn1RefIdeal_pre_finite_ln1 [hFf1DgradLn1RefIdeal : Cert.Ff1DgradLn1RefIdeal.Facts] [hPre_finite_ln1 : Cert.Pre_finite_ln1.Facts] : Prop :=
  ∀ (m : (ℓ : Loc Cert.Ff1DgradLn1RefIdeal.nD Cert.Ff1DgradLn1RefIdeal.τ Cert.Ff1DgradLn1RefIdeal.sig) → Buf (Elt Ideal) ℓ) (g : Dev Cert.Ff1DgradLn1RefIdeal.nD → PrngReg), Pre_Ff1DgradLn1RefIdeal_finite_ln1 m →
    θ_run (Cert.Ff1DgradLn1RefIdeal.defs (F := Ideal)) (onTc (τ := Cert.Ff1DgradLn1RefIdeal.τ) (Cert.Ff1DgradLn1RefIdeal.main (F := Ideal))) ⟨m, fun _ => 0, g⟩ (fun r => (∀ c : Dev Cert.Ff1DgradLn1RefIdeal.nD,
      r.2.mem ((c.tc : Thread Cert.Ff1DgradLn1RefIdeal.nD Cert.Ff1DgradLn1RefIdeal.τ).loc Cert.Ff1DgradLn1RefIdeal.main_arg0) = m ((c.tc : Thread Cert.Ff1DgradLn1RefIdeal.nD Cert.Ff1DgradLn1RefIdeal.τ).loc Cert.Ff1DgradLn1RefIdeal.main_arg0)
      ∧ r.2.mem ((c.tc : Thread Cert.Ff1DgradLn1RefIdeal.nD Cert.Ff1DgradLn1RefIdeal.τ).loc Cert.Ff1DgradLn1RefIdeal.main_arg1) = m ((c.tc : Thread Cert.Ff1DgradLn1RefIdeal.nD Cert.Ff1DgradLn1RefIdeal.τ).loc Cert.Ff1DgradLn1RefIdeal.main_arg1)
      ∧ r.2.mem ((c.tc : Thread Cert.Ff1DgradLn1RefIdeal.nD Cert.Ff1DgradLn1RefIdeal.τ).loc Cert.Ff1DgradLn1RefIdeal.main_arg2) = m ((c.tc : Thread Cert.Ff1DgradLn1RefIdeal.nD Cert.Ff1DgradLn1RefIdeal.τ).loc Cert.Ff1DgradLn1RefIdeal.main_arg2)
      ∧ r.2.mem ((c.tc : Thread Cert.Ff1DgradLn1RefIdeal.nD Cert.Ff1DgradLn1RefIdeal.τ).loc Cert.Ff1DgradLn1RefIdeal.main_arg3) = m ((c.tc : Thread Cert.Ff1DgradLn1RefIdeal.nD Cert.Ff1DgradLn1RefIdeal.τ).loc Cert.Ff1DgradLn1RefIdeal.main_arg3)
      ∧ r.2.mem ((c.tc : Thread Cert.Ff1DgradLn1RefIdeal.nD Cert.Ff1DgradLn1RefIdeal.τ).loc Cert.Ff1DgradLn1RefIdeal.main_arg4) = m ((c.tc : Thread Cert.Ff1DgradLn1RefIdeal.nD Cert.Ff1DgradLn1RefIdeal.τ).loc Cert.Ff1DgradLn1RefIdeal.main_arg4)
      ∧ r.2.mem ((c.tc : Thread Cert.Ff1DgradLn1RefIdeal.nD Cert.Ff1DgradLn1RefIdeal.τ).loc Cert.Ff1DgradLn1RefIdeal.main_arg5) = m ((c.tc : Thread Cert.Ff1DgradLn1RefIdeal.nD Cert.Ff1DgradLn1RefIdeal.τ).loc Cert.Ff1DgradLn1RefIdeal.main_arg5))
      ∧ r.2.sem = fun _ => 0)

def quiescent_InDgradLnIn [hInDgradLnIn : Cert.InDgradLnIn.Facts] : Prop :=
  ∀ (m : (ℓ : Loc Cert.InDgradLnIn.nD Cert.InDgradLnIn.τ Cert.InDgradLnIn.sig) → Buf (Elt Bits) ℓ) (g : Dev Cert.InDgradLnIn.nD → PrngReg), Pre_InDgradLnIn m →
    θ_run (Cert.InDgradLnIn.defs (F := Bits)) (onTc (τ := Cert.InDgradLnIn.τ) (Cert.InDgradLnIn.main (F := Bits))) ⟨m, fun _ => 0, g⟩ (fun r => (∀ c : Dev Cert.InDgradLnIn.nD,
      r.2.mem ((c.tc : Thread Cert.InDgradLnIn.nD Cert.InDgradLnIn.τ).loc Cert.InDgradLnIn.main_arg0) = m ((c.tc : Thread Cert.InDgradLnIn.nD Cert.InDgradLnIn.τ).loc Cert.InDgradLnIn.main_arg0)
      ∧ r.2.mem ((c.tc : Thread Cert.InDgradLnIn.nD Cert.InDgradLnIn.τ).loc Cert.InDgradLnIn.main_arg1) = m ((c.tc : Thread Cert.InDgradLnIn.nD Cert.InDgradLnIn.τ).loc Cert.InDgradLnIn.main_arg1)
      ∧ r.2.mem ((c.tc : Thread Cert.InDgradLnIn.nD Cert.InDgradLnIn.τ).loc Cert.InDgradLnIn.main_arg2) = m ((c.tc : Thread Cert.InDgradLnIn.nD Cert.InDgradLnIn.τ).loc Cert.InDgradLnIn.main_arg2)
      ∧ r.2.mem ((c.tc : Thread Cert.InDgradLnIn.nD Cert.InDgradLnIn.τ).loc Cert.InDgradLnIn.main_arg3) = m ((c.tc : Thread Cert.InDgradLnIn.nD Cert.InDgradLnIn.τ).loc Cert.InDgradLnIn.main_arg3)
      ∧ r.2.mem ((c.tc : Thread Cert.InDgradLnIn.nD Cert.InDgradLnIn.τ).loc Cert.InDgradLnIn.main_arg4) = m ((c.tc : Thread Cert.InDgradLnIn.nD Cert.InDgradLnIn.τ).loc Cert.InDgradLnIn.main_arg4)
      ∧ r.2.mem ((c.tc : Thread Cert.InDgradLnIn.nD Cert.InDgradLnIn.τ).loc Cert.InDgradLnIn.main_arg5) = m ((c.tc : Thread Cert.InDgradLnIn.nD Cert.InDgradLnIn.τ).loc Cert.InDgradLnIn.main_arg5))
      ∧ r.2.sem = fun _ => 0)

def quiescent_InDgradLnInIdeal [hInDgradLnInIdeal : Cert.InDgradLnInIdeal.Facts] : Prop :=
  ∀ (m : (ℓ : Loc Cert.InDgradLnInIdeal.nD Cert.InDgradLnInIdeal.τ Cert.InDgradLnInIdeal.sig) → Buf (Elt Ideal) ℓ) (g : Dev Cert.InDgradLnInIdeal.nD → PrngReg), Pre_InDgradLnInIdeal m →
    θ_run (Cert.InDgradLnInIdeal.defs (F := Ideal)) (onTc (τ := Cert.InDgradLnInIdeal.τ) (Cert.InDgradLnInIdeal.main (F := Ideal))) ⟨m, fun _ => 0, g⟩ (fun r => (∀ c : Dev Cert.InDgradLnInIdeal.nD,
      r.2.mem ((c.tc : Thread Cert.InDgradLnInIdeal.nD Cert.InDgradLnInIdeal.τ).loc Cert.InDgradLnInIdeal.main_arg0) = m ((c.tc : Thread Cert.InDgradLnInIdeal.nD Cert.InDgradLnInIdeal.τ).loc Cert.InDgradLnInIdeal.main_arg0)
      ∧ r.2.mem ((c.tc : Thread Cert.InDgradLnInIdeal.nD Cert.InDgradLnInIdeal.τ).loc Cert.InDgradLnInIdeal.main_arg1) = m ((c.tc : Thread Cert.InDgradLnInIdeal.nD Cert.InDgradLnInIdeal.τ).loc Cert.InDgradLnInIdeal.main_arg1)
      ∧ r.2.mem ((c.tc : Thread Cert.InDgradLnInIdeal.nD Cert.InDgradLnInIdeal.τ).loc Cert.InDgradLnInIdeal.main_arg2) = m ((c.tc : Thread Cert.InDgradLnInIdeal.nD Cert.InDgradLnInIdeal.τ).loc Cert.InDgradLnInIdeal.main_arg2)
      ∧ r.2.mem ((c.tc : Thread Cert.InDgradLnInIdeal.nD Cert.InDgradLnInIdeal.τ).loc Cert.InDgradLnInIdeal.main_arg3) = m ((c.tc : Thread Cert.InDgradLnInIdeal.nD Cert.InDgradLnInIdeal.τ).loc Cert.InDgradLnInIdeal.main_arg3)
      ∧ r.2.mem ((c.tc : Thread Cert.InDgradLnInIdeal.nD Cert.InDgradLnInIdeal.τ).loc Cert.InDgradLnInIdeal.main_arg4) = m ((c.tc : Thread Cert.InDgradLnInIdeal.nD Cert.InDgradLnInIdeal.τ).loc Cert.InDgradLnInIdeal.main_arg4)
      ∧ r.2.mem ((c.tc : Thread Cert.InDgradLnInIdeal.nD Cert.InDgradLnInIdeal.τ).loc Cert.InDgradLnInIdeal.main_arg5) = m ((c.tc : Thread Cert.InDgradLnInIdeal.nD Cert.InDgradLnInIdeal.τ).loc Cert.InDgradLnInIdeal.main_arg5))
      ∧ r.2.sem = fun _ => 0)

def quiescent_InDgradLnInIdeal_pre_finite_ln_in [hInDgradLnInIdeal : Cert.InDgradLnInIdeal.Facts] [hPre_finite_ln_in : Cert.Pre_finite_ln_in.Facts] : Prop :=
  ∀ (m : (ℓ : Loc Cert.InDgradLnInIdeal.nD Cert.InDgradLnInIdeal.τ Cert.InDgradLnInIdeal.sig) → Buf (Elt Ideal) ℓ) (g : Dev Cert.InDgradLnInIdeal.nD → PrngReg), Pre_InDgradLnInIdeal_finite_ln_in m →
    θ_run (Cert.InDgradLnInIdeal.defs (F := Ideal)) (onTc (τ := Cert.InDgradLnInIdeal.τ) (Cert.InDgradLnInIdeal.main (F := Ideal))) ⟨m, fun _ => 0, g⟩ (fun r => (∀ c : Dev Cert.InDgradLnInIdeal.nD,
      r.2.mem ((c.tc : Thread Cert.InDgradLnInIdeal.nD Cert.InDgradLnInIdeal.τ).loc Cert.InDgradLnInIdeal.main_arg0) = m ((c.tc : Thread Cert.InDgradLnInIdeal.nD Cert.InDgradLnInIdeal.τ).loc Cert.InDgradLnInIdeal.main_arg0)
      ∧ r.2.mem ((c.tc : Thread Cert.InDgradLnInIdeal.nD Cert.InDgradLnInIdeal.τ).loc Cert.InDgradLnInIdeal.main_arg1) = m ((c.tc : Thread Cert.InDgradLnInIdeal.nD Cert.InDgradLnInIdeal.τ).loc Cert.InDgradLnInIdeal.main_arg1)
      ∧ r.2.mem ((c.tc : Thread Cert.InDgradLnInIdeal.nD Cert.InDgradLnInIdeal.τ).loc Cert.InDgradLnInIdeal.main_arg2) = m ((c.tc : Thread Cert.InDgradLnInIdeal.nD Cert.InDgradLnInIdeal.τ).loc Cert.InDgradLnInIdeal.main_arg2)
      ∧ r.2.mem ((c.tc : Thread Cert.InDgradLnInIdeal.nD Cert.InDgradLnInIdeal.τ).loc Cert.InDgradLnInIdeal.main_arg3) = m ((c.tc : Thread Cert.InDgradLnInIdeal.nD Cert.InDgradLnInIdeal.τ).loc Cert.InDgradLnInIdeal.main_arg3)
      ∧ r.2.mem ((c.tc : Thread Cert.InDgradLnInIdeal.nD Cert.InDgradLnInIdeal.τ).loc Cert.InDgradLnInIdeal.main_arg4) = m ((c.tc : Thread Cert.InDgradLnInIdeal.nD Cert.InDgradLnInIdeal.τ).loc Cert.InDgradLnInIdeal.main_arg4)
      ∧ r.2.mem ((c.tc : Thread Cert.InDgradLnInIdeal.nD Cert.InDgradLnInIdeal.τ).loc Cert.InDgradLnInIdeal.main_arg5) = m ((c.tc : Thread Cert.InDgradLnInIdeal.nD Cert.InDgradLnInIdeal.τ).loc Cert.InDgradLnInIdeal.main_arg5))
      ∧ r.2.sem = fun _ => 0)

def quiescent_InDgradLnInRefIdeal [hInDgradLnInRefIdeal : Cert.InDgradLnInRefIdeal.Facts] : Prop :=
  ∀ (m : (ℓ : Loc Cert.InDgradLnInRefIdeal.nD Cert.InDgradLnInRefIdeal.τ Cert.InDgradLnInRefIdeal.sig) → Buf (Elt Ideal) ℓ) (g : Dev Cert.InDgradLnInRefIdeal.nD → PrngReg), Pre_InDgradLnInRefIdeal m →
    θ_run (Cert.InDgradLnInRefIdeal.defs (F := Ideal)) (onTc (τ := Cert.InDgradLnInRefIdeal.τ) (Cert.InDgradLnInRefIdeal.main (F := Ideal))) ⟨m, fun _ => 0, g⟩ (fun r => (∀ c : Dev Cert.InDgradLnInRefIdeal.nD,
      r.2.mem ((c.tc : Thread Cert.InDgradLnInRefIdeal.nD Cert.InDgradLnInRefIdeal.τ).loc Cert.InDgradLnInRefIdeal.main_arg0) = m ((c.tc : Thread Cert.InDgradLnInRefIdeal.nD Cert.InDgradLnInRefIdeal.τ).loc Cert.InDgradLnInRefIdeal.main_arg0)
      ∧ r.2.mem ((c.tc : Thread Cert.InDgradLnInRefIdeal.nD Cert.InDgradLnInRefIdeal.τ).loc Cert.InDgradLnInRefIdeal.main_arg1) = m ((c.tc : Thread Cert.InDgradLnInRefIdeal.nD Cert.InDgradLnInRefIdeal.τ).loc Cert.InDgradLnInRefIdeal.main_arg1)
      ∧ r.2.mem ((c.tc : Thread Cert.InDgradLnInRefIdeal.nD Cert.InDgradLnInRefIdeal.τ).loc Cert.InDgradLnInRefIdeal.main_arg2) = m ((c.tc : Thread Cert.InDgradLnInRefIdeal.nD Cert.InDgradLnInRefIdeal.τ).loc Cert.InDgradLnInRefIdeal.main_arg2)
      ∧ r.2.mem ((c.tc : Thread Cert.InDgradLnInRefIdeal.nD Cert.InDgradLnInRefIdeal.τ).loc Cert.InDgradLnInRefIdeal.main_arg3) = m ((c.tc : Thread Cert.InDgradLnInRefIdeal.nD Cert.InDgradLnInRefIdeal.τ).loc Cert.InDgradLnInRefIdeal.main_arg3)
      ∧ r.2.mem ((c.tc : Thread Cert.InDgradLnInRefIdeal.nD Cert.InDgradLnInRefIdeal.τ).loc Cert.InDgradLnInRefIdeal.main_arg4) = m ((c.tc : Thread Cert.InDgradLnInRefIdeal.nD Cert.InDgradLnInRefIdeal.τ).loc Cert.InDgradLnInRefIdeal.main_arg4)
      ∧ r.2.mem ((c.tc : Thread Cert.InDgradLnInRefIdeal.nD Cert.InDgradLnInRefIdeal.τ).loc Cert.InDgradLnInRefIdeal.main_arg5) = m ((c.tc : Thread Cert.InDgradLnInRefIdeal.nD Cert.InDgradLnInRefIdeal.τ).loc Cert.InDgradLnInRefIdeal.main_arg5))
      ∧ r.2.sem = fun _ => 0)

def quiescent_InDgradLnInRefIdeal_pre_finite_ln_in [hInDgradLnInRefIdeal : Cert.InDgradLnInRefIdeal.Facts] [hPre_finite_ln_in : Cert.Pre_finite_ln_in.Facts] : Prop :=
  ∀ (m : (ℓ : Loc Cert.InDgradLnInRefIdeal.nD Cert.InDgradLnInRefIdeal.τ Cert.InDgradLnInRefIdeal.sig) → Buf (Elt Ideal) ℓ) (g : Dev Cert.InDgradLnInRefIdeal.nD → PrngReg), Pre_InDgradLnInRefIdeal_finite_ln_in m →
    θ_run (Cert.InDgradLnInRefIdeal.defs (F := Ideal)) (onTc (τ := Cert.InDgradLnInRefIdeal.τ) (Cert.InDgradLnInRefIdeal.main (F := Ideal))) ⟨m, fun _ => 0, g⟩ (fun r => (∀ c : Dev Cert.InDgradLnInRefIdeal.nD,
      r.2.mem ((c.tc : Thread Cert.InDgradLnInRefIdeal.nD Cert.InDgradLnInRefIdeal.τ).loc Cert.InDgradLnInRefIdeal.main_arg0) = m ((c.tc : Thread Cert.InDgradLnInRefIdeal.nD Cert.InDgradLnInRefIdeal.τ).loc Cert.InDgradLnInRefIdeal.main_arg0)
      ∧ r.2.mem ((c.tc : Thread Cert.InDgradLnInRefIdeal.nD Cert.InDgradLnInRefIdeal.τ).loc Cert.InDgradLnInRefIdeal.main_arg1) = m ((c.tc : Thread Cert.InDgradLnInRefIdeal.nD Cert.InDgradLnInRefIdeal.τ).loc Cert.InDgradLnInRefIdeal.main_arg1)
      ∧ r.2.mem ((c.tc : Thread Cert.InDgradLnInRefIdeal.nD Cert.InDgradLnInRefIdeal.τ).loc Cert.InDgradLnInRefIdeal.main_arg2) = m ((c.tc : Thread Cert.InDgradLnInRefIdeal.nD Cert.InDgradLnInRefIdeal.τ).loc Cert.InDgradLnInRefIdeal.main_arg2)
      ∧ r.2.mem ((c.tc : Thread Cert.InDgradLnInRefIdeal.nD Cert.InDgradLnInRefIdeal.τ).loc Cert.InDgradLnInRefIdeal.main_arg3) = m ((c.tc : Thread Cert.InDgradLnInRefIdeal.nD Cert.InDgradLnInRefIdeal.τ).loc Cert.InDgradLnInRefIdeal.main_arg3)
      ∧ r.2.mem ((c.tc : Thread Cert.InDgradLnInRefIdeal.nD Cert.InDgradLnInRefIdeal.τ).loc Cert.InDgradLnInRefIdeal.main_arg4) = m ((c.tc : Thread Cert.InDgradLnInRefIdeal.nD Cert.InDgradLnInRefIdeal.τ).loc Cert.InDgradLnInRefIdeal.main_arg4)
      ∧ r.2.mem ((c.tc : Thread Cert.InDgradLnInRefIdeal.nD Cert.InDgradLnInRefIdeal.τ).loc Cert.InDgradLnInRefIdeal.main_arg5) = m ((c.tc : Thread Cert.InDgradLnInRefIdeal.nD Cert.InDgradLnInRefIdeal.τ).loc Cert.InDgradLnInRefIdeal.main_arg5))
      ∧ r.2.sem = fun _ => 0)

def quiescent_Ff2Ln2Loss [hFf2Ln2Loss : Cert.Ff2Ln2Loss.Facts] : Prop :=
  ∀ (m : (ℓ : Loc Cert.Ff2Ln2Loss.nD Cert.Ff2Ln2Loss.τ Cert.Ff2Ln2Loss.sig) → Buf (Elt Bits) ℓ) (g : Dev Cert.Ff2Ln2Loss.nD → PrngReg), Pre_Ff2Ln2Loss m →
    θ_run (Cert.Ff2Ln2Loss.defs (F := Bits)) (onTc (τ := Cert.Ff2Ln2Loss.τ) (Cert.Ff2Ln2Loss.main (F := Bits))) ⟨m, fun _ => 0, g⟩ (fun r => (∀ c : Dev Cert.Ff2Ln2Loss.nD,
      r.2.mem ((c.tc : Thread Cert.Ff2Ln2Loss.nD Cert.Ff2Ln2Loss.τ).loc Cert.Ff2Ln2Loss.main_arg0) = m ((c.tc : Thread Cert.Ff2Ln2Loss.nD Cert.Ff2Ln2Loss.τ).loc Cert.Ff2Ln2Loss.main_arg0)
      ∧ r.2.mem ((c.tc : Thread Cert.Ff2Ln2Loss.nD Cert.Ff2Ln2Loss.τ).loc Cert.Ff2Ln2Loss.main_arg1) = m ((c.tc : Thread Cert.Ff2Ln2Loss.nD Cert.Ff2Ln2Loss.τ).loc Cert.Ff2Ln2Loss.main_arg1)
      ∧ r.2.mem ((c.tc : Thread Cert.Ff2Ln2Loss.nD Cert.Ff2Ln2Loss.τ).loc Cert.Ff2Ln2Loss.main_arg2) = m ((c.tc : Thread Cert.Ff2Ln2Loss.nD Cert.Ff2Ln2Loss.τ).loc Cert.Ff2Ln2Loss.main_arg2)
      ∧ r.2.mem ((c.tc : Thread Cert.Ff2Ln2Loss.nD Cert.Ff2Ln2Loss.τ).loc Cert.Ff2Ln2Loss.main_arg3) = m ((c.tc : Thread Cert.Ff2Ln2Loss.nD Cert.Ff2Ln2Loss.τ).loc Cert.Ff2Ln2Loss.main_arg3)
      ∧ r.2.mem ((c.tc : Thread Cert.Ff2Ln2Loss.nD Cert.Ff2Ln2Loss.τ).loc Cert.Ff2Ln2Loss.main_arg4) = m ((c.tc : Thread Cert.Ff2Ln2Loss.nD Cert.Ff2Ln2Loss.τ).loc Cert.Ff2Ln2Loss.main_arg4)
      ∧ r.2.mem ((c.tc : Thread Cert.Ff2Ln2Loss.nD Cert.Ff2Ln2Loss.τ).loc Cert.Ff2Ln2Loss.main_arg5) = m ((c.tc : Thread Cert.Ff2Ln2Loss.nD Cert.Ff2Ln2Loss.τ).loc Cert.Ff2Ln2Loss.main_arg5))
      ∧ r.2.sem = fun _ => 0)

def quiescent_Ff2Ln2LossIdeal [hFf2Ln2LossIdeal : Cert.Ff2Ln2LossIdeal.Facts] : Prop :=
  ∀ (m : (ℓ : Loc Cert.Ff2Ln2LossIdeal.nD Cert.Ff2Ln2LossIdeal.τ Cert.Ff2Ln2LossIdeal.sig) → Buf (Elt Ideal) ℓ) (g : Dev Cert.Ff2Ln2LossIdeal.nD → PrngReg), Pre_Ff2Ln2LossIdeal m →
    θ_run (Cert.Ff2Ln2LossIdeal.defs (F := Ideal)) (onTc (τ := Cert.Ff2Ln2LossIdeal.τ) (Cert.Ff2Ln2LossIdeal.main (F := Ideal))) ⟨m, fun _ => 0, g⟩ (fun r => (∀ c : Dev Cert.Ff2Ln2LossIdeal.nD,
      r.2.mem ((c.tc : Thread Cert.Ff2Ln2LossIdeal.nD Cert.Ff2Ln2LossIdeal.τ).loc Cert.Ff2Ln2LossIdeal.main_arg0) = m ((c.tc : Thread Cert.Ff2Ln2LossIdeal.nD Cert.Ff2Ln2LossIdeal.τ).loc Cert.Ff2Ln2LossIdeal.main_arg0)
      ∧ r.2.mem ((c.tc : Thread Cert.Ff2Ln2LossIdeal.nD Cert.Ff2Ln2LossIdeal.τ).loc Cert.Ff2Ln2LossIdeal.main_arg1) = m ((c.tc : Thread Cert.Ff2Ln2LossIdeal.nD Cert.Ff2Ln2LossIdeal.τ).loc Cert.Ff2Ln2LossIdeal.main_arg1)
      ∧ r.2.mem ((c.tc : Thread Cert.Ff2Ln2LossIdeal.nD Cert.Ff2Ln2LossIdeal.τ).loc Cert.Ff2Ln2LossIdeal.main_arg2) = m ((c.tc : Thread Cert.Ff2Ln2LossIdeal.nD Cert.Ff2Ln2LossIdeal.τ).loc Cert.Ff2Ln2LossIdeal.main_arg2)
      ∧ r.2.mem ((c.tc : Thread Cert.Ff2Ln2LossIdeal.nD Cert.Ff2Ln2LossIdeal.τ).loc Cert.Ff2Ln2LossIdeal.main_arg3) = m ((c.tc : Thread Cert.Ff2Ln2LossIdeal.nD Cert.Ff2Ln2LossIdeal.τ).loc Cert.Ff2Ln2LossIdeal.main_arg3)
      ∧ r.2.mem ((c.tc : Thread Cert.Ff2Ln2LossIdeal.nD Cert.Ff2Ln2LossIdeal.τ).loc Cert.Ff2Ln2LossIdeal.main_arg4) = m ((c.tc : Thread Cert.Ff2Ln2LossIdeal.nD Cert.Ff2Ln2LossIdeal.τ).loc Cert.Ff2Ln2LossIdeal.main_arg4)
      ∧ r.2.mem ((c.tc : Thread Cert.Ff2Ln2LossIdeal.nD Cert.Ff2Ln2LossIdeal.τ).loc Cert.Ff2Ln2LossIdeal.main_arg5) = m ((c.tc : Thread Cert.Ff2Ln2LossIdeal.nD Cert.Ff2Ln2LossIdeal.τ).loc Cert.Ff2Ln2LossIdeal.main_arg5))
      ∧ r.2.sem = fun _ => 0)

def quiescent_Ff2Ln2LossIdeal_pre_finite_ln2 [hFf2Ln2LossIdeal : Cert.Ff2Ln2LossIdeal.Facts] [hPre_finite_ln2 : Cert.Pre_finite_ln2.Facts] : Prop :=
  ∀ (m : (ℓ : Loc Cert.Ff2Ln2LossIdeal.nD Cert.Ff2Ln2LossIdeal.τ Cert.Ff2Ln2LossIdeal.sig) → Buf (Elt Ideal) ℓ) (g : Dev Cert.Ff2Ln2LossIdeal.nD → PrngReg), Pre_Ff2Ln2LossIdeal_finite_ln2 m →
    θ_run (Cert.Ff2Ln2LossIdeal.defs (F := Ideal)) (onTc (τ := Cert.Ff2Ln2LossIdeal.τ) (Cert.Ff2Ln2LossIdeal.main (F := Ideal))) ⟨m, fun _ => 0, g⟩ (fun r => (∀ c : Dev Cert.Ff2Ln2LossIdeal.nD,
      r.2.mem ((c.tc : Thread Cert.Ff2Ln2LossIdeal.nD Cert.Ff2Ln2LossIdeal.τ).loc Cert.Ff2Ln2LossIdeal.main_arg0) = m ((c.tc : Thread Cert.Ff2Ln2LossIdeal.nD Cert.Ff2Ln2LossIdeal.τ).loc Cert.Ff2Ln2LossIdeal.main_arg0)
      ∧ r.2.mem ((c.tc : Thread Cert.Ff2Ln2LossIdeal.nD Cert.Ff2Ln2LossIdeal.τ).loc Cert.Ff2Ln2LossIdeal.main_arg1) = m ((c.tc : Thread Cert.Ff2Ln2LossIdeal.nD Cert.Ff2Ln2LossIdeal.τ).loc Cert.Ff2Ln2LossIdeal.main_arg1)
      ∧ r.2.mem ((c.tc : Thread Cert.Ff2Ln2LossIdeal.nD Cert.Ff2Ln2LossIdeal.τ).loc Cert.Ff2Ln2LossIdeal.main_arg2) = m ((c.tc : Thread Cert.Ff2Ln2LossIdeal.nD Cert.Ff2Ln2LossIdeal.τ).loc Cert.Ff2Ln2LossIdeal.main_arg2)
      ∧ r.2.mem ((c.tc : Thread Cert.Ff2Ln2LossIdeal.nD Cert.Ff2Ln2LossIdeal.τ).loc Cert.Ff2Ln2LossIdeal.main_arg3) = m ((c.tc : Thread Cert.Ff2Ln2LossIdeal.nD Cert.Ff2Ln2LossIdeal.τ).loc Cert.Ff2Ln2LossIdeal.main_arg3)
      ∧ r.2.mem ((c.tc : Thread Cert.Ff2Ln2LossIdeal.nD Cert.Ff2Ln2LossIdeal.τ).loc Cert.Ff2Ln2LossIdeal.main_arg4) = m ((c.tc : Thread Cert.Ff2Ln2LossIdeal.nD Cert.Ff2Ln2LossIdeal.τ).loc Cert.Ff2Ln2LossIdeal.main_arg4)
      ∧ r.2.mem ((c.tc : Thread Cert.Ff2Ln2LossIdeal.nD Cert.Ff2Ln2LossIdeal.τ).loc Cert.Ff2Ln2LossIdeal.main_arg5) = m ((c.tc : Thread Cert.Ff2Ln2LossIdeal.nD Cert.Ff2Ln2LossIdeal.τ).loc Cert.Ff2Ln2LossIdeal.main_arg5))
      ∧ r.2.sem = fun _ => 0)

def quiescent_Ff2Ln2LossRefIdeal [hFf2Ln2LossRefIdeal : Cert.Ff2Ln2LossRefIdeal.Facts] : Prop :=
  ∀ (m : (ℓ : Loc Cert.Ff2Ln2LossRefIdeal.nD Cert.Ff2Ln2LossRefIdeal.τ Cert.Ff2Ln2LossRefIdeal.sig) → Buf (Elt Ideal) ℓ) (g : Dev Cert.Ff2Ln2LossRefIdeal.nD → PrngReg), Pre_Ff2Ln2LossRefIdeal m →
    θ_run (Cert.Ff2Ln2LossRefIdeal.defs (F := Ideal)) (onTc (τ := Cert.Ff2Ln2LossRefIdeal.τ) (Cert.Ff2Ln2LossRefIdeal.main (F := Ideal))) ⟨m, fun _ => 0, g⟩ (fun r => (∀ c : Dev Cert.Ff2Ln2LossRefIdeal.nD,
      r.2.mem ((c.tc : Thread Cert.Ff2Ln2LossRefIdeal.nD Cert.Ff2Ln2LossRefIdeal.τ).loc Cert.Ff2Ln2LossRefIdeal.main_arg0) = m ((c.tc : Thread Cert.Ff2Ln2LossRefIdeal.nD Cert.Ff2Ln2LossRefIdeal.τ).loc Cert.Ff2Ln2LossRefIdeal.main_arg0)
      ∧ r.2.mem ((c.tc : Thread Cert.Ff2Ln2LossRefIdeal.nD Cert.Ff2Ln2LossRefIdeal.τ).loc Cert.Ff2Ln2LossRefIdeal.main_arg1) = m ((c.tc : Thread Cert.Ff2Ln2LossRefIdeal.nD Cert.Ff2Ln2LossRefIdeal.τ).loc Cert.Ff2Ln2LossRefIdeal.main_arg1)
      ∧ r.2.mem ((c.tc : Thread Cert.Ff2Ln2LossRefIdeal.nD Cert.Ff2Ln2LossRefIdeal.τ).loc Cert.Ff2Ln2LossRefIdeal.main_arg2) = m ((c.tc : Thread Cert.Ff2Ln2LossRefIdeal.nD Cert.Ff2Ln2LossRefIdeal.τ).loc Cert.Ff2Ln2LossRefIdeal.main_arg2)
      ∧ r.2.mem ((c.tc : Thread Cert.Ff2Ln2LossRefIdeal.nD Cert.Ff2Ln2LossRefIdeal.τ).loc Cert.Ff2Ln2LossRefIdeal.main_arg3) = m ((c.tc : Thread Cert.Ff2Ln2LossRefIdeal.nD Cert.Ff2Ln2LossRefIdeal.τ).loc Cert.Ff2Ln2LossRefIdeal.main_arg3)
      ∧ r.2.mem ((c.tc : Thread Cert.Ff2Ln2LossRefIdeal.nD Cert.Ff2Ln2LossRefIdeal.τ).loc Cert.Ff2Ln2LossRefIdeal.main_arg4) = m ((c.tc : Thread Cert.Ff2Ln2LossRefIdeal.nD Cert.Ff2Ln2LossRefIdeal.τ).loc Cert.Ff2Ln2LossRefIdeal.main_arg4)
      ∧ r.2.mem ((c.tc : Thread Cert.Ff2Ln2LossRefIdeal.nD Cert.Ff2Ln2LossRefIdeal.τ).loc Cert.Ff2Ln2LossRefIdeal.main_arg5) = m ((c.tc : Thread Cert.Ff2Ln2LossRefIdeal.nD Cert.Ff2Ln2LossRefIdeal.τ).loc Cert.Ff2Ln2LossRefIdeal.main_arg5))
      ∧ r.2.sem = fun _ => 0)

def quiescent_Ff2Ln2LossRefIdeal_pre_finite_ln2 [hFf2Ln2LossRefIdeal : Cert.Ff2Ln2LossRefIdeal.Facts] [hPre_finite_ln2 : Cert.Pre_finite_ln2.Facts] : Prop :=
  ∀ (m : (ℓ : Loc Cert.Ff2Ln2LossRefIdeal.nD Cert.Ff2Ln2LossRefIdeal.τ Cert.Ff2Ln2LossRefIdeal.sig) → Buf (Elt Ideal) ℓ) (g : Dev Cert.Ff2Ln2LossRefIdeal.nD → PrngReg), Pre_Ff2Ln2LossRefIdeal_finite_ln2 m →
    θ_run (Cert.Ff2Ln2LossRefIdeal.defs (F := Ideal)) (onTc (τ := Cert.Ff2Ln2LossRefIdeal.τ) (Cert.Ff2Ln2LossRefIdeal.main (F := Ideal))) ⟨m, fun _ => 0, g⟩ (fun r => (∀ c : Dev Cert.Ff2Ln2LossRefIdeal.nD,
      r.2.mem ((c.tc : Thread Cert.Ff2Ln2LossRefIdeal.nD Cert.Ff2Ln2LossRefIdeal.τ).loc Cert.Ff2Ln2LossRefIdeal.main_arg0) = m ((c.tc : Thread Cert.Ff2Ln2LossRefIdeal.nD Cert.Ff2Ln2LossRefIdeal.τ).loc Cert.Ff2Ln2LossRefIdeal.main_arg0)
      ∧ r.2.mem ((c.tc : Thread Cert.Ff2Ln2LossRefIdeal.nD Cert.Ff2Ln2LossRefIdeal.τ).loc Cert.Ff2Ln2LossRefIdeal.main_arg1) = m ((c.tc : Thread Cert.Ff2Ln2LossRefIdeal.nD Cert.Ff2Ln2LossRefIdeal.τ).loc Cert.Ff2Ln2LossRefIdeal.main_arg1)
      ∧ r.2.mem ((c.tc : Thread Cert.Ff2Ln2LossRefIdeal.nD Cert.Ff2Ln2LossRefIdeal.τ).loc Cert.Ff2Ln2LossRefIdeal.main_arg2) = m ((c.tc : Thread Cert.Ff2Ln2LossRefIdeal.nD Cert.Ff2Ln2LossRefIdeal.τ).loc Cert.Ff2Ln2LossRefIdeal.main_arg2)
      ∧ r.2.mem ((c.tc : Thread Cert.Ff2Ln2LossRefIdeal.nD Cert.Ff2Ln2LossRefIdeal.τ).loc Cert.Ff2Ln2LossRefIdeal.main_arg3) = m ((c.tc : Thread Cert.Ff2Ln2LossRefIdeal.nD Cert.Ff2Ln2LossRefIdeal.τ).loc Cert.Ff2Ln2LossRefIdeal.main_arg3)
      ∧ r.2.mem ((c.tc : Thread Cert.Ff2Ln2LossRefIdeal.nD Cert.Ff2Ln2LossRefIdeal.τ).loc Cert.Ff2Ln2LossRefIdeal.main_arg4) = m ((c.tc : Thread Cert.Ff2Ln2LossRefIdeal.nD Cert.Ff2Ln2LossRefIdeal.τ).loc Cert.Ff2Ln2LossRefIdeal.main_arg4)
      ∧ r.2.mem ((c.tc : Thread Cert.Ff2Ln2LossRefIdeal.nD Cert.Ff2Ln2LossRefIdeal.τ).loc Cert.Ff2Ln2LossRefIdeal.main_arg5) = m ((c.tc : Thread Cert.Ff2Ln2LossRefIdeal.nD Cert.Ff2Ln2LossRefIdeal.τ).loc Cert.Ff2Ln2LossRefIdeal.main_arg5))
      ∧ r.2.sem = fun _ => 0)

def quiescent_MixLn1 [hMixLn1 : Cert.MixLn1.Facts] : Prop :=
  ∀ (m : (ℓ : Loc Cert.MixLn1.nD Cert.MixLn1.τ Cert.MixLn1.sig) → Buf (Elt Bits) ℓ) (g : Dev Cert.MixLn1.nD → PrngReg), Pre_MixLn1 m →
    θ_run (Cert.MixLn1.defs (F := Bits)) (onTc (τ := Cert.MixLn1.τ) (Cert.MixLn1.main (F := Bits))) ⟨m, fun _ => 0, g⟩ (fun r => (∀ c : Dev Cert.MixLn1.nD,
      r.2.mem ((c.tc : Thread Cert.MixLn1.nD Cert.MixLn1.τ).loc Cert.MixLn1.main_arg0) = m ((c.tc : Thread Cert.MixLn1.nD Cert.MixLn1.τ).loc Cert.MixLn1.main_arg0)
      ∧ r.2.mem ((c.tc : Thread Cert.MixLn1.nD Cert.MixLn1.τ).loc Cert.MixLn1.main_arg1) = m ((c.tc : Thread Cert.MixLn1.nD Cert.MixLn1.τ).loc Cert.MixLn1.main_arg1)
      ∧ r.2.mem ((c.tc : Thread Cert.MixLn1.nD Cert.MixLn1.τ).loc Cert.MixLn1.main_arg2) = m ((c.tc : Thread Cert.MixLn1.nD Cert.MixLn1.τ).loc Cert.MixLn1.main_arg2)
      ∧ r.2.mem ((c.tc : Thread Cert.MixLn1.nD Cert.MixLn1.τ).loc Cert.MixLn1.main_arg3) = m ((c.tc : Thread Cert.MixLn1.nD Cert.MixLn1.τ).loc Cert.MixLn1.main_arg3)
      ∧ r.2.mem ((c.tc : Thread Cert.MixLn1.nD Cert.MixLn1.τ).loc Cert.MixLn1.main_arg4) = m ((c.tc : Thread Cert.MixLn1.nD Cert.MixLn1.τ).loc Cert.MixLn1.main_arg4))
      ∧ r.2.sem = fun _ => 0)

def quiescent_MixLn1Ideal [hMixLn1Ideal : Cert.MixLn1Ideal.Facts] : Prop :=
  ∀ (m : (ℓ : Loc Cert.MixLn1Ideal.nD Cert.MixLn1Ideal.τ Cert.MixLn1Ideal.sig) → Buf (Elt Ideal) ℓ) (g : Dev Cert.MixLn1Ideal.nD → PrngReg), Pre_MixLn1Ideal m →
    θ_run (Cert.MixLn1Ideal.defs (F := Ideal)) (onTc (τ := Cert.MixLn1Ideal.τ) (Cert.MixLn1Ideal.main (F := Ideal))) ⟨m, fun _ => 0, g⟩ (fun r => (∀ c : Dev Cert.MixLn1Ideal.nD,
      r.2.mem ((c.tc : Thread Cert.MixLn1Ideal.nD Cert.MixLn1Ideal.τ).loc Cert.MixLn1Ideal.main_arg0) = m ((c.tc : Thread Cert.MixLn1Ideal.nD Cert.MixLn1Ideal.τ).loc Cert.MixLn1Ideal.main_arg0)
      ∧ r.2.mem ((c.tc : Thread Cert.MixLn1Ideal.nD Cert.MixLn1Ideal.τ).loc Cert.MixLn1Ideal.main_arg1) = m ((c.tc : Thread Cert.MixLn1Ideal.nD Cert.MixLn1Ideal.τ).loc Cert.MixLn1Ideal.main_arg1)
      ∧ r.2.mem ((c.tc : Thread Cert.MixLn1Ideal.nD Cert.MixLn1Ideal.τ).loc Cert.MixLn1Ideal.main_arg2) = m ((c.tc : Thread Cert.MixLn1Ideal.nD Cert.MixLn1Ideal.τ).loc Cert.MixLn1Ideal.main_arg2)
      ∧ r.2.mem ((c.tc : Thread Cert.MixLn1Ideal.nD Cert.MixLn1Ideal.τ).loc Cert.MixLn1Ideal.main_arg3) = m ((c.tc : Thread Cert.MixLn1Ideal.nD Cert.MixLn1Ideal.τ).loc Cert.MixLn1Ideal.main_arg3)
      ∧ r.2.mem ((c.tc : Thread Cert.MixLn1Ideal.nD Cert.MixLn1Ideal.τ).loc Cert.MixLn1Ideal.main_arg4) = m ((c.tc : Thread Cert.MixLn1Ideal.nD Cert.MixLn1Ideal.τ).loc Cert.MixLn1Ideal.main_arg4))
      ∧ r.2.sem = fun _ => 0)

def quiescent_MixLn1RefIdeal [hMixLn1RefIdeal : Cert.MixLn1RefIdeal.Facts] : Prop :=
  ∀ (m : (ℓ : Loc Cert.MixLn1RefIdeal.nD Cert.MixLn1RefIdeal.τ Cert.MixLn1RefIdeal.sig) → Buf (Elt Ideal) ℓ) (g : Dev Cert.MixLn1RefIdeal.nD → PrngReg), Pre_MixLn1RefIdeal m →
    θ_run (Cert.MixLn1RefIdeal.defs (F := Ideal)) (onTc (τ := Cert.MixLn1RefIdeal.τ) (Cert.MixLn1RefIdeal.main (F := Ideal))) ⟨m, fun _ => 0, g⟩ (fun r => (∀ c : Dev Cert.MixLn1RefIdeal.nD,
      r.2.mem ((c.tc : Thread Cert.MixLn1RefIdeal.nD Cert.MixLn1RefIdeal.τ).loc Cert.MixLn1RefIdeal.main_arg0) = m ((c.tc : Thread Cert.MixLn1RefIdeal.nD Cert.MixLn1RefIdeal.τ).loc Cert.MixLn1RefIdeal.main_arg0)
      ∧ r.2.mem ((c.tc : Thread Cert.MixLn1RefIdeal.nD Cert.MixLn1RefIdeal.τ).loc Cert.MixLn1RefIdeal.main_arg1) = m ((c.tc : Thread Cert.MixLn1RefIdeal.nD Cert.MixLn1RefIdeal.τ).loc Cert.MixLn1RefIdeal.main_arg1)
      ∧ r.2.mem ((c.tc : Thread Cert.MixLn1RefIdeal.nD Cert.MixLn1RefIdeal.τ).loc Cert.MixLn1RefIdeal.main_arg2) = m ((c.tc : Thread Cert.MixLn1RefIdeal.nD Cert.MixLn1RefIdeal.τ).loc Cert.MixLn1RefIdeal.main_arg2)
      ∧ r.2.mem ((c.tc : Thread Cert.MixLn1RefIdeal.nD Cert.MixLn1RefIdeal.τ).loc Cert.MixLn1RefIdeal.main_arg3) = m ((c.tc : Thread Cert.MixLn1RefIdeal.nD Cert.MixLn1RefIdeal.τ).loc Cert.MixLn1RefIdeal.main_arg3)
      ∧ r.2.mem ((c.tc : Thread Cert.MixLn1RefIdeal.nD Cert.MixLn1RefIdeal.τ).loc Cert.MixLn1RefIdeal.main_arg4) = m ((c.tc : Thread Cert.MixLn1RefIdeal.nD Cert.MixLn1RefIdeal.τ).loc Cert.MixLn1RefIdeal.main_arg4))
      ∧ r.2.sem = fun _ => 0)

def quiescent_HProj [hHProj : Cert.HProj.Facts] : Prop :=
  ∀ (m : (ℓ : Loc Cert.HProj.nD Cert.HProj.τ Cert.HProj.sig) → Buf (Elt Bits) ℓ) (g : Dev Cert.HProj.nD → PrngReg), Pre_HProj m →
    θ_run (Cert.HProj.defs (F := Bits)) (onTc (τ := Cert.HProj.τ) (Cert.HProj.main (F := Bits))) ⟨m, fun _ => 0, g⟩ (fun r => (∀ c : Dev Cert.HProj.nD,
      r.2.mem ((c.tc : Thread Cert.HProj.nD Cert.HProj.τ).loc Cert.HProj.main_arg0) = m ((c.tc : Thread Cert.HProj.nD Cert.HProj.τ).loc Cert.HProj.main_arg0)
      ∧ r.2.mem ((c.tc : Thread Cert.HProj.nD Cert.HProj.τ).loc Cert.HProj.main_arg1) = m ((c.tc : Thread Cert.HProj.nD Cert.HProj.τ).loc Cert.HProj.main_arg1))
      ∧ r.2.sem = fun _ => 0)

def quiescent_HProjIdeal [hHProjIdeal : Cert.HProjIdeal.Facts] : Prop :=
  ∀ (m : (ℓ : Loc Cert.HProjIdeal.nD Cert.HProjIdeal.τ Cert.HProjIdeal.sig) → Buf (Elt Ideal) ℓ) (g : Dev Cert.HProjIdeal.nD → PrngReg), Pre_HProjIdeal m →
    θ_run (Cert.HProjIdeal.defs (F := Ideal)) (onTc (τ := Cert.HProjIdeal.τ) (Cert.HProjIdeal.main (F := Ideal))) ⟨m, fun _ => 0, g⟩ (fun r => (∀ c : Dev Cert.HProjIdeal.nD,
      r.2.mem ((c.tc : Thread Cert.HProjIdeal.nD Cert.HProjIdeal.τ).loc Cert.HProjIdeal.main_arg0) = m ((c.tc : Thread Cert.HProjIdeal.nD Cert.HProjIdeal.τ).loc Cert.HProjIdeal.main_arg0)
      ∧ r.2.mem ((c.tc : Thread Cert.HProjIdeal.nD Cert.HProjIdeal.τ).loc Cert.HProjIdeal.main_arg1) = m ((c.tc : Thread Cert.HProjIdeal.nD Cert.HProjIdeal.τ).loc Cert.HProjIdeal.main_arg1))
      ∧ r.2.sem = fun _ => 0)

def quiescent_HProjRefIdeal [hHProjRefIdeal : Cert.HProjRefIdeal.Facts] : Prop :=
  ∀ (m : (ℓ : Loc Cert.HProjRefIdeal.nD Cert.HProjRefIdeal.τ Cert.HProjRefIdeal.sig) → Buf (Elt Ideal) ℓ) (g : Dev Cert.HProjRefIdeal.nD → PrngReg), Pre_HProjRefIdeal m →
    θ_run (Cert.HProjRefIdeal.defs (F := Ideal)) (onTc (τ := Cert.HProjRefIdeal.τ) (Cert.HProjRefIdeal.main (F := Ideal))) ⟨m, fun _ => 0, g⟩ (fun r => (∀ c : Dev Cert.HProjRefIdeal.nD,
      r.2.mem ((c.tc : Thread Cert.HProjRefIdeal.nD Cert.HProjRefIdeal.τ).loc Cert.HProjRefIdeal.main_arg0) = m ((c.tc : Thread Cert.HProjRefIdeal.nD Cert.HProjRefIdeal.τ).loc Cert.HProjRefIdeal.main_arg0)
      ∧ r.2.mem ((c.tc : Thread Cert.HProjRefIdeal.nD Cert.HProjRefIdeal.τ).loc Cert.HProjRefIdeal.main_arg1) = m ((c.tc : Thread Cert.HProjRefIdeal.nD Cert.HProjRefIdeal.τ).loc Cert.HProjRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1)
      ∧ r.2.mem ((c.tc : Thread Cert.InWgradRefIdeal.nD Cert.InWgradRefIdeal.τ).loc Cert.InWgradRefIdeal.main_arg2) = m ((c.tc : Thread Cert.InWgradRefIdeal.nD Cert.InWgradRefIdeal.τ).loc Cert.InWgradRefIdeal.main_arg2))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1)
      ∧ r.2.mem ((c.tc : Thread Cert.OutWgradRefIdeal.nD Cert.OutWgradRefIdeal.τ).loc Cert.OutWgradRefIdeal.main_arg2) = m ((c.tc : Thread Cert.OutWgradRefIdeal.nD Cert.OutWgradRefIdeal.τ).loc Cert.OutWgradRefIdeal.main_arg2))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1)
      ∧ r.2.mem ((c.tc : Thread Cert.OutDgrad.nD Cert.OutDgrad.τ).loc Cert.OutDgrad.main_arg2) = m ((c.tc : Thread Cert.OutDgrad.nD Cert.OutDgrad.τ).loc Cert.OutDgrad.main_arg2))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
      ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1)
      ∧ r.2.mem ((c.tc : Thread Cert.OutDgradRefIdeal.nD Cert.OutDgradRefIdeal.τ).loc Cert.OutDgradRefIdeal.main_arg2) = m ((c.tc : Thread Cert.OutDgradRefIdeal.nD Cert.OutDgradRefIdeal.τ).loc Cert.OutDgradRefIdeal.main_arg2))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2)
      ∧ r.2.mem ((c.tc : Thread Cert.FlashFwd.nD Cert.FlashFwd.τ).loc Cert.FlashFwd.main_arg3) = m ((c.tc : Thread Cert.FlashFwd.nD Cert.FlashFwd.τ).loc Cert.FlashFwd.main_arg3)
      ∧ r.2.mem ((c.tc : Thread Cert.FlashFwd.nD Cert.FlashFwd.τ).loc Cert.FlashFwd.main_arg4) = m ((c.tc : Thread Cert.FlashFwd.nD Cert.FlashFwd.τ).loc Cert.FlashFwd.main_arg4))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdIdeal_pre_finite_fwd [hFlashFwdIdeal : Cert.FlashFwdIdeal.Facts] [hPre_finite_fwd : Cert.Pre_finite_fwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_fwd m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
      ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
      ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_FlashFwdRefIdeal_pre_finite_fwd [hFlashFwdRefIdeal : Cert.FlashFwdRefIdeal.Facts] [hPre_finite_fwd : Cert.Pre_finite_fwd.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_fwd m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2)
      ∧ r.2.mem ((c.tc : Thread Cert.FlashFwdRefIdeal.nD Cert.FlashFwdRefIdeal.τ).loc Cert.FlashFwdRefIdeal.main_arg3) = m ((c.tc : Thread Cert.FlashFwdRefIdeal.nD Cert.FlashFwdRefIdeal.τ).loc Cert.FlashFwdRefIdeal.main_arg3)
      ∧ r.2.mem ((c.tc : Thread Cert.FlashFwdRefIdeal.nD Cert.FlashFwdRefIdeal.τ).loc Cert.FlashFwdRefIdeal.main_arg4) = m ((c.tc : Thread Cert.FlashFwdRefIdeal.nD Cert.FlashFwdRefIdeal.τ).loc Cert.FlashFwdRefIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_HeadWgrad [hHeadWgrad : Cert.HeadWgrad.Facts] : Prop :=
  ∀ (m : (ℓ : Loc Cert.HeadWgrad.nD Cert.HeadWgrad.τ Cert.HeadWgrad.sig) → Buf (Elt Bits) ℓ) (g : Dev Cert.HeadWgrad.nD → PrngReg), Pre_HeadWgrad m →
    θ_run (Cert.HeadWgrad.defs (F := Bits)) (onTc (τ := Cert.HeadWgrad.τ) (Cert.HeadWgrad.main (F := Bits))) ⟨m, fun _ => 0, g⟩ (fun r => (∀ c : Dev Cert.HeadWgrad.nD,
      r.2.mem ((c.tc : Thread Cert.HeadWgrad.nD Cert.HeadWgrad.τ).loc Cert.HeadWgrad.main_arg0) = m ((c.tc : Thread Cert.HeadWgrad.nD Cert.HeadWgrad.τ).loc Cert.HeadWgrad.main_arg0)
      ∧ r.2.mem ((c.tc : Thread Cert.HeadWgrad.nD Cert.HeadWgrad.τ).loc Cert.HeadWgrad.main_arg1) = m ((c.tc : Thread Cert.HeadWgrad.nD Cert.HeadWgrad.τ).loc Cert.HeadWgrad.main_arg1)
      ∧ r.2.mem ((c.tc : Thread Cert.HeadWgrad.nD Cert.HeadWgrad.τ).loc Cert.HeadWgrad.main_arg2) = m ((c.tc : Thread Cert.HeadWgrad.nD Cert.HeadWgrad.τ).loc Cert.HeadWgrad.main_arg2))
      ∧ r.2.sem = fun _ => 0)

def quiescent_HeadWgradIdeal [hHeadWgradIdeal : Cert.HeadWgradIdeal.Facts] : Prop :=
  ∀ (m : (ℓ : Loc Cert.HeadWgradIdeal.nD Cert.HeadWgradIdeal.τ Cert.HeadWgradIdeal.sig) → Buf (Elt Ideal) ℓ) (g : Dev Cert.HeadWgradIdeal.nD → PrngReg), Pre_HeadWgradIdeal m →
    θ_run (Cert.HeadWgradIdeal.defs (F := Ideal)) (onTc (τ := Cert.HeadWgradIdeal.τ) (Cert.HeadWgradIdeal.main (F := Ideal))) ⟨m, fun _ => 0, g⟩ (fun r => (∀ c : Dev Cert.HeadWgradIdeal.nD,
      r.2.mem ((c.tc : Thread Cert.HeadWgradIdeal.nD Cert.HeadWgradIdeal.τ).loc Cert.HeadWgradIdeal.main_arg0) = m ((c.tc : Thread Cert.HeadWgradIdeal.nD Cert.HeadWgradIdeal.τ).loc Cert.HeadWgradIdeal.main_arg0)
      ∧ r.2.mem ((c.tc : Thread Cert.HeadWgradIdeal.nD Cert.HeadWgradIdeal.τ).loc Cert.HeadWgradIdeal.main_arg1) = m ((c.tc : Thread Cert.HeadWgradIdeal.nD Cert.HeadWgradIdeal.τ).loc Cert.HeadWgradIdeal.main_arg1)
      ∧ r.2.mem ((c.tc : Thread Cert.HeadWgradIdeal.nD Cert.HeadWgradIdeal.τ).loc Cert.HeadWgradIdeal.main_arg2) = m ((c.tc : Thread Cert.HeadWgradIdeal.nD Cert.HeadWgradIdeal.τ).loc Cert.HeadWgradIdeal.main_arg2))
      ∧ r.2.sem = fun _ => 0)

def quiescent_HeadWgradRefIdeal [hHeadWgradRefIdeal : Cert.HeadWgradRefIdeal.Facts] : Prop :=
  ∀ (m : (ℓ : Loc Cert.HeadWgradRefIdeal.nD Cert.HeadWgradRefIdeal.τ Cert.HeadWgradRefIdeal.sig) → Buf (Elt Ideal) ℓ) (g : Dev Cert.HeadWgradRefIdeal.nD → PrngReg), Pre_HeadWgradRefIdeal m →
    θ_run (Cert.HeadWgradRefIdeal.defs (F := Ideal)) (onTc (τ := Cert.HeadWgradRefIdeal.τ) (Cert.HeadWgradRefIdeal.main (F := Ideal))) ⟨m, fun _ => 0, g⟩ (fun r => (∀ c : Dev Cert.HeadWgradRefIdeal.nD,
      r.2.mem ((c.tc : Thread Cert.HeadWgradRefIdeal.nD Cert.HeadWgradRefIdeal.τ).loc Cert.HeadWgradRefIdeal.main_arg0) = m ((c.tc : Thread Cert.HeadWgradRefIdeal.nD Cert.HeadWgradRefIdeal.τ).loc Cert.HeadWgradRefIdeal.main_arg0)
      ∧ r.2.mem ((c.tc : Thread Cert.HeadWgradRefIdeal.nD Cert.HeadWgradRefIdeal.τ).loc Cert.HeadWgradRefIdeal.main_arg1) = m ((c.tc : Thread Cert.HeadWgradRefIdeal.nD Cert.HeadWgradRefIdeal.τ).loc Cert.HeadWgradRefIdeal.main_arg1)
      ∧ r.2.mem ((c.tc : Thread Cert.HeadWgradRefIdeal.nD Cert.HeadWgradRefIdeal.τ).loc Cert.HeadWgradRefIdeal.main_arg2) = m ((c.tc : Thread Cert.HeadWgradRefIdeal.nD Cert.HeadWgradRefIdeal.τ).loc Cert.HeadWgradRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ff1Relu2_Ff1Relu2Ideal : Prop :=
  True

def algebraic_Ff1Relu2Ideal_Ff1Relu2RefIdeal [hFf1Relu2Ideal : Cert.Ff1Relu2Ideal.Facts] [hFf1Relu2RefIdeal : Cert.Ff1Relu2RefIdeal.Facts] : Prop :=
  ∀ (m : (ℓ : Loc Cert.Ff1Relu2Ideal.nD Cert.Ff1Relu2Ideal.τ Cert.Ff1Relu2Ideal.sig) → Buf (Elt Ideal) ℓ) (g : Dev Cert.Ff1Relu2Ideal.nD → PrngReg)
    (m' : (ℓ : Loc Cert.Ff1Relu2RefIdeal.nD Cert.Ff1Relu2RefIdeal.τ Cert.Ff1Relu2RefIdeal.sig) → Buf (Elt Ideal) ℓ) (g' : Dev Cert.Ff1Relu2RefIdeal.nD → PrngReg), Pre_Ff1Relu2Ideal m →
    (∀ c : Dev Cert.Ff1Relu2Ideal.nD,
      m' ((c.tc : Thread Cert.Ff1Relu2RefIdeal.nD Cert.Ff1Relu2RefIdeal.τ).loc Cert.Ff1Relu2RefIdeal.main_arg0) = m ((c.tc : Thread Cert.Ff1Relu2Ideal.nD Cert.Ff1Relu2Ideal.τ).loc Cert.Ff1Relu2Ideal.main_arg0)
      ∧ m' ((c.tc : Thread Cert.Ff1Relu2RefIdeal.nD Cert.Ff1Relu2RefIdeal.τ).loc Cert.Ff1Relu2RefIdeal.main_arg1) = m ((c.tc : Thread Cert.Ff1Relu2Ideal.nD Cert.Ff1Relu2Ideal.τ).loc Cert.Ff1Relu2Ideal.main_arg1)) →
    ∃ (v0 : (c : Dev Cert.Ff1Relu2Ideal.nD) → Buf (Elt Ideal) ((c.tc : Thread Cert.Ff1Relu2Ideal.nD Cert.Ff1Relu2Ideal.τ).loc Cert.Ff1Relu2Ideal.main_v4_0)) (v1 : (c : Dev Cert.Ff1Relu2Ideal.nD) → Buf (Elt Ideal) ((c.tc : Thread Cert.Ff1Relu2Ideal.nD Cert.Ff1Relu2Ideal.τ).loc Cert.Ff1Relu2Ideal.main_v4_1)),
      θ_run (Cert.Ff1Relu2Ideal.defs (F := Ideal)) (onTc (τ := Cert.Ff1Relu2Ideal.τ) (Cert.Ff1Relu2Ideal.main (F := Ideal))) ⟨m, fun _ => 0, g⟩ (fun r => ∀ c : Dev Cert.Ff1Relu2Ideal.nD,
          r.2.mem ((c.tc : Thread Cert.Ff1Relu2Ideal.nD Cert.Ff1Relu2Ideal.τ).loc Cert.Ff1Relu2Ideal.main_v4_0) = v0 c
          ∧ r.2.mem ((c.tc : Thread Cert.Ff1Relu2Ideal.nD Cert.Ff1Relu2Ideal.τ).loc Cert.Ff1Relu2Ideal.main_v4_1) = v1 c
          ∧ r.2.mem ((c.tc : Thread Cert.Ff1Relu2Ideal.nD Cert.Ff1Relu2Ideal.τ).loc Cert.Ff1Relu2Ideal.main_arg0) = m ((c.tc : Thread Cert.Ff1Relu2Ideal.nD Cert.Ff1Relu2Ideal.τ).loc Cert.Ff1Relu2Ideal.main_arg0)
          ∧ r.2.mem ((c.tc : Thread Cert.Ff1Relu2Ideal.nD Cert.Ff1Relu2Ideal.τ).loc Cert.Ff1Relu2Ideal.main_arg1) = m ((c.tc : Thread Cert.Ff1Relu2Ideal.nD Cert.Ff1Relu2Ideal.τ).loc Cert.Ff1Relu2Ideal.main_arg1))
      ∧ θ_run (Cert.Ff1Relu2RefIdeal.defs (F := Ideal)) (onTc (τ := Cert.Ff1Relu2RefIdeal.τ) (Cert.Ff1Relu2RefIdeal.main (F := Ideal))) ⟨m', fun _ => 0, g'⟩ (fun r => ∀ c : Dev Cert.Ff1Relu2RefIdeal.nD,
          r.2.mem ((c.tc : Thread Cert.Ff1Relu2RefIdeal.nD Cert.Ff1Relu2RefIdeal.τ).loc Cert.Ff1Relu2RefIdeal.main_v3) = v0 c
          ∧ r.2.mem ((c.tc : Thread Cert.Ff1Relu2RefIdeal.nD Cert.Ff1Relu2RefIdeal.τ).loc Cert.Ff1Relu2RefIdeal.main_v4) = v1 c
          ∧ r.2.mem ((c.tc : Thread Cert.Ff1Relu2RefIdeal.nD Cert.Ff1Relu2RefIdeal.τ).loc Cert.Ff1Relu2RefIdeal.main_arg0) = m' ((c.tc : Thread Cert.Ff1Relu2RefIdeal.nD Cert.Ff1Relu2RefIdeal.τ).loc Cert.Ff1Relu2RefIdeal.main_arg0)
          ∧ r.2.mem ((c.tc : Thread Cert.Ff1Relu2RefIdeal.nD Cert.Ff1Relu2RefIdeal.τ).loc Cert.Ff1Relu2RefIdeal.main_arg1) = m' ((c.tc : Thread Cert.Ff1Relu2RefIdeal.nD Cert.Ff1Relu2RefIdeal.τ).loc Cert.Ff1Relu2RefIdeal.main_arg1))

def preserves_Ff2Dgrad_Ff2DgradIdeal : Prop :=
  True

def algebraic_Ff2DgradIdeal_Ff2DgradRefIdeal [hFf2DgradIdeal : Cert.Ff2DgradIdeal.Facts] [hFf2DgradRefIdeal : Cert.Ff2DgradRefIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg)
    (m' : (ℓ : Loc Cert.Ff2DgradRefIdeal.nD Cert.Ff2DgradRefIdeal.τ Cert.Ff2DgradRefIdeal.sig) → Buf (Elt Ideal) ℓ) (g' : Dev Cert.Ff2DgradRefIdeal.nD → PrngReg), Pre_Ff2DgradIdeal m →
    (∀ c : Dev Cert.Ff2DgradIdeal.nD,
      m' ((c.tc : Thread Cert.Ff2DgradRefIdeal.nD Cert.Ff2DgradRefIdeal.τ).loc Cert.Ff2DgradRefIdeal.main_arg0) = m ((c.tc : Thread Cert.Ff2DgradIdeal.nD Cert.Ff2DgradIdeal.τ).loc Cert.Ff2DgradIdeal.main_arg0)
      ∧ m' ((c.tc : Thread Cert.Ff2DgradRefIdeal.nD Cert.Ff2DgradRefIdeal.τ).loc Cert.Ff2DgradRefIdeal.main_arg1) = m ((c.tc : Thread Cert.Ff2DgradIdeal.nD Cert.Ff2DgradIdeal.τ).loc Cert.Ff2DgradIdeal.main_arg1)
      ∧ m' ((c.tc : Thread Cert.Ff2DgradRefIdeal.nD Cert.Ff2DgradRefIdeal.τ).loc Cert.Ff2DgradRefIdeal.main_arg2) = m ((c.tc : Thread Cert.Ff2DgradIdeal.nD Cert.Ff2DgradIdeal.τ).loc Cert.Ff2DgradIdeal.main_arg2)
      ∧ m' ((c.tc : Thread Cert.Ff2DgradRefIdeal.nD Cert.Ff2DgradRefIdeal.τ).loc Cert.Ff2DgradRefIdeal.main_arg3) = m ((c.tc : Thread Cert.Ff2DgradIdeal.nD Cert.Ff2DgradIdeal.τ).loc Cert.Ff2DgradIdeal.main_arg3)) →
    ∃ (v0 : (c : Dev Cert.Ff2DgradIdeal.nD) → Buf (Elt Ideal) ((c.tc : Thread Cert.Ff2DgradIdeal.nD Cert.Ff2DgradIdeal.τ).loc Cert.Ff2DgradIdeal.main_v5)),
      θ_run (Cert.Ff2DgradIdeal.defs (F := Ideal)) (onTc (τ := Cert.Ff2DgradIdeal.τ) (Cert.Ff2DgradIdeal.main (F := Ideal))) ⟨m, fun _ => 0, g⟩ (fun r => ∀ c : Dev Cert.Ff2DgradIdeal.nD,
          r.2.mem ((c.tc : Thread Cert.Ff2DgradIdeal.nD Cert.Ff2DgradIdeal.τ).loc Cert.Ff2DgradIdeal.main_v5) = v0 c
          ∧ r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
          ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
          ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2)
          ∧ r.2.mem ((c.tc : Thread Cert.Ff2DgradIdeal.nD Cert.Ff2DgradIdeal.τ).loc Cert.Ff2DgradIdeal.main_arg3) = m ((c.tc : Thread Cert.Ff2DgradIdeal.nD Cert.Ff2DgradIdeal.τ).loc Cert.Ff2DgradIdeal.main_arg3))
      ∧ θ_run (Cert.Ff2DgradRefIdeal.defs (F := Ideal)) (onTc (τ := Cert.Ff2DgradRefIdeal.τ) (Cert.Ff2DgradRefIdeal.main (F := Ideal))) ⟨m', fun _ => 0, g'⟩ (fun r => ∀ c : Dev Cert.Ff2DgradRefIdeal.nD,
          r.2.mem ((c.tc : Thread Cert.Ff2DgradRefIdeal.nD Cert.Ff2DgradRefIdeal.τ).loc Cert.Ff2DgradRefIdeal.main_v13) = v0 c
          ∧ r.2.mem ((c.tc : Thread Cert.Ff2DgradRefIdeal.nD Cert.Ff2DgradRefIdeal.τ).loc Cert.Ff2DgradRefIdeal.main_arg0) = m' ((c.tc : Thread Cert.Ff2DgradRefIdeal.nD Cert.Ff2DgradRefIdeal.τ).loc Cert.Ff2DgradRefIdeal.main_arg0)
          ∧ r.2.mem ((c.tc : Thread Cert.Ff2DgradRefIdeal.nD Cert.Ff2DgradRefIdeal.τ).loc Cert.Ff2DgradRefIdeal.main_arg1) = m' ((c.tc : Thread Cert.Ff2DgradRefIdeal.nD Cert.Ff2DgradRefIdeal.τ).loc Cert.Ff2DgradRefIdeal.main_arg1)
          ∧ r.2.mem ((c.tc : Thread Cert.Ff2DgradRefIdeal.nD Cert.Ff2DgradRefIdeal.τ).loc Cert.Ff2DgradRefIdeal.main_arg2) = m' ((c.tc : Thread Cert.Ff2DgradRefIdeal.nD Cert.Ff2DgradRefIdeal.τ).loc Cert.Ff2DgradRefIdeal.main_arg2)
          ∧ r.2.mem ((c.tc : Thread Cert.Ff2DgradRefIdeal.nD Cert.Ff2DgradRefIdeal.τ).loc Cert.Ff2DgradRefIdeal.main_arg3) = m' ((c.tc : Thread Cert.Ff2DgradRefIdeal.nD Cert.Ff2DgradRefIdeal.τ).loc Cert.Ff2DgradRefIdeal.main_arg3))

def preserves_Ff2Wgrad_Ff2WgradIdeal : Prop :=
  True

def algebraic_Ff2WgradIdeal_Ff2WgradRefIdeal [hFf2WgradIdeal : Cert.Ff2WgradIdeal.Facts] [hFf2WgradRefIdeal : Cert.Ff2WgradRefIdeal.Facts] : Prop :=
  ∀ (m : (ℓ : Loc Cert.Ff2WgradIdeal.nD Cert.Ff2WgradIdeal.τ Cert.Ff2WgradIdeal.sig) → Buf (Elt Ideal) ℓ) (g : Dev Cert.Ff2WgradIdeal.nD → PrngReg)
    (m' : (ℓ : Loc Cert.Ff2WgradRefIdeal.nD Cert.Ff2WgradRefIdeal.τ Cert.Ff2WgradRefIdeal.sig) → Buf (Elt Ideal) ℓ) (g' : Dev Cert.Ff2WgradRefIdeal.nD → PrngReg), Pre_Ff2WgradIdeal m →
    (∀ c : Dev Cert.Ff2WgradIdeal.nD,
      m' ((c.tc : Thread Cert.Ff2WgradRefIdeal.nD Cert.Ff2WgradRefIdeal.τ).loc Cert.Ff2WgradRefIdeal.main_arg0) = m ((c.tc : Thread Cert.Ff2WgradIdeal.nD Cert.Ff2WgradIdeal.τ).loc Cert.Ff2WgradIdeal.main_arg0)
      ∧ m' ((c.tc : Thread Cert.Ff2WgradRefIdeal.nD Cert.Ff2WgradRefIdeal.τ).loc Cert.Ff2WgradRefIdeal.main_arg1) = m ((c.tc : Thread Cert.Ff2WgradIdeal.nD Cert.Ff2WgradIdeal.τ).loc Cert.Ff2WgradIdeal.main_arg1)
      ∧ m' ((c.tc : Thread Cert.Ff2WgradRefIdeal.nD Cert.Ff2WgradRefIdeal.τ).loc Cert.Ff2WgradRefIdeal.main_arg2) = m ((c.tc : Thread Cert.Ff2WgradIdeal.nD Cert.Ff2WgradIdeal.τ).loc Cert.Ff2WgradIdeal.main_arg2)
      ∧ m' ((c.tc : Thread Cert.Ff2WgradRefIdeal.nD Cert.Ff2WgradRefIdeal.τ).loc Cert.Ff2WgradRefIdeal.main_arg3) = m ((c.tc : Thread Cert.Ff2WgradIdeal.nD Cert.Ff2WgradIdeal.τ).loc Cert.Ff2WgradIdeal.main_arg3)) →
    ∃ (v0 : (c : Dev Cert.Ff2WgradIdeal.nD) → Buf (Elt Ideal) ((c.tc : Thread Cert.Ff2WgradIdeal.nD Cert.Ff2WgradIdeal.τ).loc Cert.Ff2WgradIdeal.main_v5)),
      θ_run (Cert.Ff2WgradIdeal.defs (F := Ideal)) (onTc (τ := Cert.Ff2WgradIdeal.τ) (Cert.Ff2WgradIdeal.main (F := Ideal))) ⟨m, fun _ => 0, g⟩ (fun r => ∀ c : Dev Cert.Ff2WgradIdeal.nD,
          r.2.mem ((c.tc : Thread Cert.Ff2WgradIdeal.nD Cert.Ff2WgradIdeal.τ).loc Cert.Ff2WgradIdeal.main_v5) = v0 c
          ∧ r.2.mem ((c.tc : Thread Cert.Ff2WgradIdeal.nD Cert.Ff2WgradIdeal.τ).loc Cert.Ff2WgradIdeal.main_arg0) = m ((c.tc : Thread Cert.Ff2WgradIdeal.nD Cert.Ff2WgradIdeal.τ).loc Cert.Ff2WgradIdeal.main_arg0)
          ∧ r.2.mem ((c.tc : Thread Cert.Ff2WgradIdeal.nD Cert.Ff2WgradIdeal.τ).loc Cert.Ff2WgradIdeal.main_arg1) = m ((c.tc : Thread Cert.Ff2WgradIdeal.nD Cert.Ff2WgradIdeal.τ).loc Cert.Ff2WgradIdeal.main_arg1)
          ∧ r.2.mem ((c.tc : Thread Cert.Ff2WgradIdeal.nD Cert.Ff2WgradIdeal.τ).loc Cert.Ff2WgradIdeal.main_arg2) = m ((c.tc : Thread Cert.Ff2WgradIdeal.nD Cert.Ff2WgradIdeal.τ).loc Cert.Ff2WgradIdeal.main_arg2)
          ∧ r.2.mem ((c.tc : Thread Cert.Ff2WgradIdeal.nD Cert.Ff2WgradIdeal.τ).loc Cert.Ff2WgradIdeal.main_arg3) = m ((c.tc : Thread Cert.Ff2WgradIdeal.nD Cert.Ff2WgradIdeal.τ).loc Cert.Ff2WgradIdeal.main_arg3))
      ∧ θ_run (Cert.Ff2WgradRefIdeal.defs (F := Ideal)) (onTc (τ := Cert.Ff2WgradRefIdeal.τ) (Cert.Ff2WgradRefIdeal.main (F := Ideal))) ⟨m', fun _ => 0, g'⟩ (fun r => ∀ c : Dev Cert.Ff2WgradRefIdeal.nD,
          r.2.mem ((c.tc : Thread Cert.Ff2WgradRefIdeal.nD Cert.Ff2WgradRefIdeal.τ).loc Cert.Ff2WgradRefIdeal.main_v5) = v0 c
          ∧ r.2.mem ((c.tc : Thread Cert.Ff2WgradRefIdeal.nD Cert.Ff2WgradRefIdeal.τ).loc Cert.Ff2WgradRefIdeal.main_arg0) = m' ((c.tc : Thread Cert.Ff2WgradRefIdeal.nD Cert.Ff2WgradRefIdeal.τ).loc Cert.Ff2WgradRefIdeal.main_arg0)
          ∧ r.2.mem ((c.tc : Thread Cert.Ff2WgradRefIdeal.nD Cert.Ff2WgradRefIdeal.τ).loc Cert.Ff2WgradRefIdeal.main_arg1) = m' ((c.tc : Thread Cert.Ff2WgradRefIdeal.nD Cert.Ff2WgradRefIdeal.τ).loc Cert.Ff2WgradRefIdeal.main_arg1)
          ∧ r.2.mem ((c.tc : Thread Cert.Ff2WgradRefIdeal.nD Cert.Ff2WgradRefIdeal.τ).loc Cert.Ff2WgradRefIdeal.main_arg2) = m' ((c.tc : Thread Cert.Ff2WgradRefIdeal.nD Cert.Ff2WgradRefIdeal.τ).loc Cert.Ff2WgradRefIdeal.main_arg2)
          ∧ r.2.mem ((c.tc : Thread Cert.Ff2WgradRefIdeal.nD Cert.Ff2WgradRefIdeal.τ).loc Cert.Ff2WgradRefIdeal.main_arg3) = m' ((c.tc : Thread Cert.Ff2WgradRefIdeal.nD Cert.Ff2WgradRefIdeal.τ).loc Cert.Ff2WgradRefIdeal.main_arg3))

def preserves_Ff1Wgrad_Ff1WgradIdeal : Prop :=
  True

def algebraic_Ff1WgradIdeal_Ff1WgradRefIdeal [hFf1WgradIdeal : Cert.Ff1WgradIdeal.Facts] [hFf1WgradRefIdeal : Cert.Ff1WgradRefIdeal.Facts] : Prop :=
  ∀ (m : (ℓ : Loc Cert.Ff1WgradIdeal.nD Cert.Ff1WgradIdeal.τ Cert.Ff1WgradIdeal.sig) → Buf (Elt Ideal) ℓ) (g : Dev Cert.Ff1WgradIdeal.nD → PrngReg)
    (m' : (ℓ : Loc Cert.Ff1WgradRefIdeal.nD Cert.Ff1WgradRefIdeal.τ Cert.Ff1WgradRefIdeal.sig) → Buf (Elt Ideal) ℓ) (g' : Dev Cert.Ff1WgradRefIdeal.nD → PrngReg), Pre_Ff1WgradIdeal m →
    (∀ c : Dev Cert.Ff1WgradIdeal.nD,
      m' ((c.tc : Thread Cert.Ff1WgradRefIdeal.nD Cert.Ff1WgradRefIdeal.τ).loc Cert.Ff1WgradRefIdeal.main_arg0) = m ((c.tc : Thread Cert.Ff1WgradIdeal.nD Cert.Ff1WgradIdeal.τ).loc Cert.Ff1WgradIdeal.main_arg0)
      ∧ m' ((c.tc : Thread Cert.Ff1WgradRefIdeal.nD Cert.Ff1WgradRefIdeal.τ).loc Cert.Ff1WgradRefIdeal.main_arg1) = m ((c.tc : Thread Cert.Ff1WgradIdeal.nD Cert.Ff1WgradIdeal.τ).loc Cert.Ff1WgradIdeal.main_arg1)
      ∧ m' ((c.tc : Thread Cert.Ff1WgradRefIdeal.nD Cert.Ff1WgradRefIdeal.τ).loc Cert.Ff1WgradRefIdeal.main_arg2) = m ((c.tc : Thread Cert.Ff1WgradIdeal.nD Cert.Ff1WgradIdeal.τ).loc Cert.Ff1WgradIdeal.main_arg2)) →
    ∃ (v0 : (c : Dev Cert.Ff1WgradIdeal.nD) → Buf (Elt Ideal) ((c.tc : Thread Cert.Ff1WgradIdeal.nD Cert.Ff1WgradIdeal.τ).loc Cert.Ff1WgradIdeal.main_v2)),
      θ_run (Cert.Ff1WgradIdeal.defs (F := Ideal)) (onTc (τ := Cert.Ff1WgradIdeal.τ) (Cert.Ff1WgradIdeal.main (F := Ideal))) ⟨m, fun _ => 0, g⟩ (fun r => ∀ c : Dev Cert.Ff1WgradIdeal.nD,
          r.2.mem ((c.tc : Thread Cert.Ff1WgradIdeal.nD Cert.Ff1WgradIdeal.τ).loc Cert.Ff1WgradIdeal.main_v2) = v0 c
          ∧ r.2.mem ((c.tc : Thread Cert.Ff1WgradIdeal.nD Cert.Ff1WgradIdeal.τ).loc Cert.Ff1WgradIdeal.main_arg0) = m ((c.tc : Thread Cert.Ff1WgradIdeal.nD Cert.Ff1WgradIdeal.τ).loc Cert.Ff1WgradIdeal.main_arg0)
          ∧ r.2.mem ((c.tc : Thread Cert.Ff1WgradIdeal.nD Cert.Ff1WgradIdeal.τ).loc Cert.Ff1WgradIdeal.main_arg1) = m ((c.tc : Thread Cert.Ff1WgradIdeal.nD Cert.Ff1WgradIdeal.τ).loc Cert.Ff1WgradIdeal.main_arg1)
          ∧ r.2.mem ((c.tc : Thread Cert.Ff1WgradIdeal.nD Cert.Ff1WgradIdeal.τ).loc Cert.Ff1WgradIdeal.main_arg2) = m ((c.tc : Thread Cert.Ff1WgradIdeal.nD Cert.Ff1WgradIdeal.τ).loc Cert.Ff1WgradIdeal.main_arg2))
      ∧ θ_run (Cert.Ff1WgradRefIdeal.defs (F := Ideal)) (onTc (τ := Cert.Ff1WgradRefIdeal.τ) (Cert.Ff1WgradRefIdeal.main (F := Ideal))) ⟨m', fun _ => 0, g'⟩ (fun r => ∀ c : Dev Cert.Ff1WgradRefIdeal.nD,
          r.2.mem ((c.tc : Thread Cert.Ff1WgradRefIdeal.nD Cert.Ff1WgradRefIdeal.τ).loc Cert.Ff1WgradRefIdeal.main_v4) = v0 c
          ∧ r.2.mem ((c.tc : Thread Cert.Ff1WgradRefIdeal.nD Cert.Ff1WgradRefIdeal.τ).loc Cert.Ff1WgradRefIdeal.main_arg0) = m' ((c.tc : Thread Cert.Ff1WgradRefIdeal.nD Cert.Ff1WgradRefIdeal.τ).loc Cert.Ff1WgradRefIdeal.main_arg0)
          ∧ r.2.mem ((c.tc : Thread Cert.Ff1WgradRefIdeal.nD Cert.Ff1WgradRefIdeal.τ).loc Cert.Ff1WgradRefIdeal.main_arg1) = m' ((c.tc : Thread Cert.Ff1WgradRefIdeal.nD Cert.Ff1WgradRefIdeal.τ).loc Cert.Ff1WgradRefIdeal.main_arg1)
          ∧ r.2.mem ((c.tc : Thread Cert.Ff1WgradRefIdeal.nD Cert.Ff1WgradRefIdeal.τ).loc Cert.Ff1WgradRefIdeal.main_arg2) = m' ((c.tc : Thread Cert.Ff1WgradRefIdeal.nD Cert.Ff1WgradRefIdeal.τ).loc Cert.Ff1WgradRefIdeal.main_arg2))

def preserves_Ff1DgradLn1_Ff1DgradLn1Ideal : Prop :=
  True

def algebraic_Ff1DgradLn1Ideal_Ff1DgradLn1RefIdeal_pre_finite_ln1 [hFf1DgradLn1Ideal : Cert.Ff1DgradLn1Ideal.Facts] [hFf1DgradLn1RefIdeal : Cert.Ff1DgradLn1RefIdeal.Facts] [hPre_finite_ln1 : Cert.Pre_finite_ln1.Facts] : Prop :=
  ∀ (m : (ℓ : Loc Cert.Ff1DgradLn1Ideal.nD Cert.Ff1DgradLn1Ideal.τ Cert.Ff1DgradLn1Ideal.sig) → Buf (Elt Ideal) ℓ) (g : Dev Cert.Ff1DgradLn1Ideal.nD → PrngReg)
    (m' : (ℓ : Loc Cert.Ff1DgradLn1RefIdeal.nD Cert.Ff1DgradLn1RefIdeal.τ Cert.Ff1DgradLn1RefIdeal.sig) → Buf (Elt Ideal) ℓ) (g' : Dev Cert.Ff1DgradLn1RefIdeal.nD → PrngReg), Pre_Ff1DgradLn1Ideal_finite_ln1 m →
    (∀ c : Dev Cert.Ff1DgradLn1Ideal.nD,
      m' ((c.tc : Thread Cert.Ff1DgradLn1RefIdeal.nD Cert.Ff1DgradLn1RefIdeal.τ).loc Cert.Ff1DgradLn1RefIdeal.main_arg0) = m ((c.tc : Thread Cert.Ff1DgradLn1Ideal.nD Cert.Ff1DgradLn1Ideal.τ).loc Cert.Ff1DgradLn1Ideal.main_arg0)
      ∧ m' ((c.tc : Thread Cert.Ff1DgradLn1RefIdeal.nD Cert.Ff1DgradLn1RefIdeal.τ).loc Cert.Ff1DgradLn1RefIdeal.main_arg1) = m ((c.tc : Thread Cert.Ff1DgradLn1Ideal.nD Cert.Ff1DgradLn1Ideal.τ).loc Cert.Ff1DgradLn1Ideal.main_arg1)
      ∧ m' ((c.tc : Thread Cert.Ff1DgradLn1RefIdeal.nD Cert.Ff1DgradLn1RefIdeal.τ).loc Cert.Ff1DgradLn1RefIdeal.main_arg2) = m ((c.tc : Thread Cert.Ff1DgradLn1Ideal.nD Cert.Ff1DgradLn1Ideal.τ).loc Cert.Ff1DgradLn1Ideal.main_arg2)
      ∧ m' ((c.tc : Thread Cert.Ff1DgradLn1RefIdeal.nD Cert.Ff1DgradLn1RefIdeal.τ).loc Cert.Ff1DgradLn1RefIdeal.main_arg3) = m ((c.tc : Thread Cert.Ff1DgradLn1Ideal.nD Cert.Ff1DgradLn1Ideal.τ).loc Cert.Ff1DgradLn1Ideal.main_arg3)
      ∧ m' ((c.tc : Thread Cert.Ff1DgradLn1RefIdeal.nD Cert.Ff1DgradLn1RefIdeal.τ).loc Cert.Ff1DgradLn1RefIdeal.main_arg4) = m ((c.tc : Thread Cert.Ff1DgradLn1Ideal.nD Cert.Ff1DgradLn1Ideal.τ).loc Cert.Ff1DgradLn1Ideal.main_arg4)
      ∧ m' ((c.tc : Thread Cert.Ff1DgradLn1RefIdeal.nD Cert.Ff1DgradLn1RefIdeal.τ).loc Cert.Ff1DgradLn1RefIdeal.main_arg5) = m ((c.tc : Thread Cert.Ff1DgradLn1Ideal.nD Cert.Ff1DgradLn1Ideal.τ).loc Cert.Ff1DgradLn1Ideal.main_arg5)) →
    ∃ (v0 : (c : Dev Cert.Ff1DgradLn1Ideal.nD) → Buf (Elt Ideal) ((c.tc : Thread Cert.Ff1DgradLn1Ideal.nD Cert.Ff1DgradLn1Ideal.τ).loc Cert.Ff1DgradLn1Ideal.main_v4_0)) (v1 : (c : Dev Cert.Ff1DgradLn1Ideal.nD) → Buf (Elt Ideal) ((c.tc : Thread Cert.Ff1DgradLn1Ideal.nD Cert.Ff1DgradLn1Ideal.τ).loc Cert.Ff1DgradLn1Ideal.main_v4_1)) (v2 : (c : Dev Cert.Ff1DgradLn1Ideal.nD) → Buf (Elt Ideal) ((c.tc : Thread Cert.Ff1DgradLn1Ideal.nD Cert.Ff1DgradLn1Ideal.τ).loc Cert.Ff1DgradLn1Ideal.main_v4_2)) (v3 : (c : Dev Cert.Ff1DgradLn1Ideal.nD) → Buf (Elt Ideal) ((c.tc : Thread Cert.Ff1DgradLn1Ideal.nD Cert.Ff1DgradLn1Ideal.τ).loc Cert.Ff1DgradLn1Ideal.main_v4_3)),
      θ_run (Cert.Ff1DgradLn1Ideal.defs (F := Ideal)) (onTc (τ := Cert.Ff1DgradLn1Ideal.τ) (Cert.Ff1DgradLn1Ideal.main (F := Ideal))) ⟨m, fun _ => 0, g⟩ (fun r => ∀ c : Dev Cert.Ff1DgradLn1Ideal.nD,
          r.2.mem ((c.tc : Thread Cert.Ff1DgradLn1Ideal.nD Cert.Ff1DgradLn1Ideal.τ).loc Cert.Ff1DgradLn1Ideal.main_v4_0) = v0 c
          ∧ r.2.mem ((c.tc : Thread Cert.Ff1DgradLn1Ideal.nD Cert.Ff1DgradLn1Ideal.τ).loc Cert.Ff1DgradLn1Ideal.main_v4_1) = v1 c
          ∧ r.2.mem ((c.tc : Thread Cert.Ff1DgradLn1Ideal.nD Cert.Ff1DgradLn1Ideal.τ).loc Cert.Ff1DgradLn1Ideal.main_v4_2) = v2 c
          ∧ r.2.mem ((c.tc : Thread Cert.Ff1DgradLn1Ideal.nD Cert.Ff1DgradLn1Ideal.τ).loc Cert.Ff1DgradLn1Ideal.main_v4_3) = v3 c
          ∧ r.2.mem ((c.tc : Thread Cert.Ff1DgradLn1Ideal.nD Cert.Ff1DgradLn1Ideal.τ).loc Cert.Ff1DgradLn1Ideal.main_arg0) = m ((c.tc : Thread Cert.Ff1DgradLn1Ideal.nD Cert.Ff1DgradLn1Ideal.τ).loc Cert.Ff1DgradLn1Ideal.main_arg0)
          ∧ r.2.mem ((c.tc : Thread Cert.Ff1DgradLn1Ideal.nD Cert.Ff1DgradLn1Ideal.τ).loc Cert.Ff1DgradLn1Ideal.main_arg1) = m ((c.tc : Thread Cert.Ff1DgradLn1Ideal.nD Cert.Ff1DgradLn1Ideal.τ).loc Cert.Ff1DgradLn1Ideal.main_arg1)
          ∧ r.2.mem ((c.tc : Thread Cert.Ff1DgradLn1Ideal.nD Cert.Ff1DgradLn1Ideal.τ).loc Cert.Ff1DgradLn1Ideal.main_arg2) = m ((c.tc : Thread Cert.Ff1DgradLn1Ideal.nD Cert.Ff1DgradLn1Ideal.τ).loc Cert.Ff1DgradLn1Ideal.main_arg2)
          ∧ r.2.mem ((c.tc : Thread Cert.Ff1DgradLn1Ideal.nD Cert.Ff1DgradLn1Ideal.τ).loc Cert.Ff1DgradLn1Ideal.main_arg3) = m ((c.tc : Thread Cert.Ff1DgradLn1Ideal.nD Cert.Ff1DgradLn1Ideal.τ).loc Cert.Ff1DgradLn1Ideal.main_arg3)
          ∧ r.2.mem ((c.tc : Thread Cert.Ff1DgradLn1Ideal.nD Cert.Ff1DgradLn1Ideal.τ).loc Cert.Ff1DgradLn1Ideal.main_arg4) = m ((c.tc : Thread Cert.Ff1DgradLn1Ideal.nD Cert.Ff1DgradLn1Ideal.τ).loc Cert.Ff1DgradLn1Ideal.main_arg4)
          ∧ r.2.mem ((c.tc : Thread Cert.Ff1DgradLn1Ideal.nD Cert.Ff1DgradLn1Ideal.τ).loc Cert.Ff1DgradLn1Ideal.main_arg5) = m ((c.tc : Thread Cert.Ff1DgradLn1Ideal.nD Cert.Ff1DgradLn1Ideal.τ).loc Cert.Ff1DgradLn1Ideal.main_arg5))
      ∧ θ_run (Cert.Ff1DgradLn1RefIdeal.defs (F := Ideal)) (onTc (τ := Cert.Ff1DgradLn1RefIdeal.τ) (Cert.Ff1DgradLn1RefIdeal.main (F := Ideal))) ⟨m', fun _ => 0, g'⟩ (fun r => ∀ c : Dev Cert.Ff1DgradLn1RefIdeal.nD,
          r.2.mem ((c.tc : Thread Cert.Ff1DgradLn1RefIdeal.nD Cert.Ff1DgradLn1RefIdeal.τ).loc Cert.Ff1DgradLn1RefIdeal.main_v64) = v0 c
          ∧ r.2.mem ((c.tc : Thread Cert.Ff1DgradLn1RefIdeal.nD Cert.Ff1DgradLn1RefIdeal.τ).loc Cert.Ff1DgradLn1RefIdeal.main_v65) = v1 c
          ∧ r.2.mem ((c.tc : Thread Cert.Ff1DgradLn1RefIdeal.nD Cert.Ff1DgradLn1RefIdeal.τ).loc Cert.Ff1DgradLn1RefIdeal.main_v66) = v2 c
          ∧ r.2.mem ((c.tc : Thread Cert.Ff1DgradLn1RefIdeal.nD Cert.Ff1DgradLn1RefIdeal.τ).loc Cert.Ff1DgradLn1RefIdeal.main_v67) = v3 c
          ∧ r.2.mem ((c.tc : Thread Cert.Ff1DgradLn1RefIdeal.nD Cert.Ff1DgradLn1RefIdeal.τ).loc Cert.Ff1DgradLn1RefIdeal.main_arg0) = m' ((c.tc : Thread Cert.Ff1DgradLn1RefIdeal.nD Cert.Ff1DgradLn1RefIdeal.τ).loc Cert.Ff1DgradLn1RefIdeal.main_arg0)
          ∧ r.2.mem ((c.tc : Thread Cert.Ff1DgradLn1RefIdeal.nD Cert.Ff1DgradLn1RefIdeal.τ).loc Cert.Ff1DgradLn1RefIdeal.main_arg1) = m' ((c.tc : Thread Cert.Ff1DgradLn1RefIdeal.nD Cert.Ff1DgradLn1RefIdeal.τ).loc Cert.Ff1DgradLn1RefIdeal.main_arg1)
          ∧ r.2.mem ((c.tc : Thread Cert.Ff1DgradLn1RefIdeal.nD Cert.Ff1DgradLn1RefIdeal.τ).loc Cert.Ff1DgradLn1RefIdeal.main_arg2) = m' ((c.tc : Thread Cert.Ff1DgradLn1RefIdeal.nD Cert.Ff1DgradLn1RefIdeal.τ).loc Cert.Ff1DgradLn1RefIdeal.main_arg2)
          ∧ r.2.mem ((c.tc : Thread Cert.Ff1DgradLn1RefIdeal.nD Cert.Ff1DgradLn1RefIdeal.τ).loc Cert.Ff1DgradLn1RefIdeal.main_arg3) = m' ((c.tc : Thread Cert.Ff1DgradLn1RefIdeal.nD Cert.Ff1DgradLn1RefIdeal.τ).loc Cert.Ff1DgradLn1RefIdeal.main_arg3)
          ∧ r.2.mem ((c.tc : Thread Cert.Ff1DgradLn1RefIdeal.nD Cert.Ff1DgradLn1RefIdeal.τ).loc Cert.Ff1DgradLn1RefIdeal.main_arg4) = m' ((c.tc : Thread Cert.Ff1DgradLn1RefIdeal.nD Cert.Ff1DgradLn1RefIdeal.τ).loc Cert.Ff1DgradLn1RefIdeal.main_arg4)
          ∧ r.2.mem ((c.tc : Thread Cert.Ff1DgradLn1RefIdeal.nD Cert.Ff1DgradLn1RefIdeal.τ).loc Cert.Ff1DgradLn1RefIdeal.main_arg5) = m' ((c.tc : Thread Cert.Ff1DgradLn1RefIdeal.nD Cert.Ff1DgradLn1RefIdeal.τ).loc Cert.Ff1DgradLn1RefIdeal.main_arg5))

def preserves_InDgradLnIn_InDgradLnInIdeal : Prop :=
  True

def algebraic_InDgradLnInIdeal_InDgradLnInRefIdeal_pre_finite_ln_in [hInDgradLnInIdeal : Cert.InDgradLnInIdeal.Facts] [hInDgradLnInRefIdeal : Cert.InDgradLnInRefIdeal.Facts] [hPre_finite_ln_in : Cert.Pre_finite_ln_in.Facts] : Prop :=
  ∀ (m : (ℓ : Loc Cert.InDgradLnInIdeal.nD Cert.InDgradLnInIdeal.τ Cert.InDgradLnInIdeal.sig) → Buf (Elt Ideal) ℓ) (g : Dev Cert.InDgradLnInIdeal.nD → PrngReg)
    (m' : (ℓ : Loc Cert.InDgradLnInRefIdeal.nD Cert.InDgradLnInRefIdeal.τ Cert.InDgradLnInRefIdeal.sig) → Buf (Elt Ideal) ℓ) (g' : Dev Cert.InDgradLnInRefIdeal.nD → PrngReg), Pre_InDgradLnInIdeal_finite_ln_in m →
    (∀ c : Dev Cert.InDgradLnInIdeal.nD,
      m' ((c.tc : Thread Cert.InDgradLnInRefIdeal.nD Cert.InDgradLnInRefIdeal.τ).loc Cert.InDgradLnInRefIdeal.main_arg0) = m ((c.tc : Thread Cert.InDgradLnInIdeal.nD Cert.InDgradLnInIdeal.τ).loc Cert.InDgradLnInIdeal.main_arg0)
      ∧ m' ((c.tc : Thread Cert.InDgradLnInRefIdeal.nD Cert.InDgradLnInRefIdeal.τ).loc Cert.InDgradLnInRefIdeal.main_arg1) = m ((c.tc : Thread Cert.InDgradLnInIdeal.nD Cert.InDgradLnInIdeal.τ).loc Cert.InDgradLnInIdeal.main_arg1)
      ∧ m' ((c.tc : Thread Cert.InDgradLnInRefIdeal.nD Cert.InDgradLnInRefIdeal.τ).loc Cert.InDgradLnInRefIdeal.main_arg2) = m ((c.tc : Thread Cert.InDgradLnInIdeal.nD Cert.InDgradLnInIdeal.τ).loc Cert.InDgradLnInIdeal.main_arg2)
      ∧ m' ((c.tc : Thread Cert.InDgradLnInRefIdeal.nD Cert.InDgradLnInRefIdeal.τ).loc Cert.InDgradLnInRefIdeal.main_arg3) = m ((c.tc : Thread Cert.InDgradLnInIdeal.nD Cert.InDgradLnInIdeal.τ).loc Cert.InDgradLnInIdeal.main_arg3)
      ∧ m' ((c.tc : Thread Cert.InDgradLnInRefIdeal.nD Cert.InDgradLnInRefIdeal.τ).loc Cert.InDgradLnInRefIdeal.main_arg4) = m ((c.tc : Thread Cert.InDgradLnInIdeal.nD Cert.InDgradLnInIdeal.τ).loc Cert.InDgradLnInIdeal.main_arg4)
      ∧ m' ((c.tc : Thread Cert.InDgradLnInRefIdeal.nD Cert.InDgradLnInRefIdeal.τ).loc Cert.InDgradLnInRefIdeal.main_arg5) = m ((c.tc : Thread Cert.InDgradLnInIdeal.nD Cert.InDgradLnInIdeal.τ).loc Cert.InDgradLnInIdeal.main_arg5)) →
    ∃ (v0 : (c : Dev Cert.InDgradLnInIdeal.nD) → Buf (Elt Ideal) ((c.tc : Thread Cert.InDgradLnInIdeal.nD Cert.InDgradLnInIdeal.τ).loc Cert.InDgradLnInIdeal.main_v2_0)) (v1 : (c : Dev Cert.InDgradLnInIdeal.nD) → Buf (Elt Ideal) ((c.tc : Thread Cert.InDgradLnInIdeal.nD Cert.InDgradLnInIdeal.τ).loc Cert.InDgradLnInIdeal.main_v2_1)) (v2 : (c : Dev Cert.InDgradLnInIdeal.nD) → Buf (Elt Ideal) ((c.tc : Thread Cert.InDgradLnInIdeal.nD Cert.InDgradLnInIdeal.τ).loc Cert.InDgradLnInIdeal.main_v2_2)),
      θ_run (Cert.InDgradLnInIdeal.defs (F := Ideal)) (onTc (τ := Cert.InDgradLnInIdeal.τ) (Cert.InDgradLnInIdeal.main (F := Ideal))) ⟨m, fun _ => 0, g⟩ (fun r => ∀ c : Dev Cert.InDgradLnInIdeal.nD,
          r.2.mem ((c.tc : Thread Cert.InDgradLnInIdeal.nD Cert.InDgradLnInIdeal.τ).loc Cert.InDgradLnInIdeal.main_v2_0) = v0 c
          ∧ r.2.mem ((c.tc : Thread Cert.InDgradLnInIdeal.nD Cert.InDgradLnInIdeal.τ).loc Cert.InDgradLnInIdeal.main_v2_1) = v1 c
          ∧ r.2.mem ((c.tc : Thread Cert.InDgradLnInIdeal.nD Cert.InDgradLnInIdeal.τ).loc Cert.InDgradLnInIdeal.main_v2_2) = v2 c
          ∧ r.2.mem ((c.tc : Thread Cert.InDgradLnInIdeal.nD Cert.InDgradLnInIdeal.τ).loc Cert.InDgradLnInIdeal.main_arg0) = m ((c.tc : Thread Cert.InDgradLnInIdeal.nD Cert.InDgradLnInIdeal.τ).loc Cert.InDgradLnInIdeal.main_arg0)
          ∧ r.2.mem ((c.tc : Thread Cert.InDgradLnInIdeal.nD Cert.InDgradLnInIdeal.τ).loc Cert.InDgradLnInIdeal.main_arg1) = m ((c.tc : Thread Cert.InDgradLnInIdeal.nD Cert.InDgradLnInIdeal.τ).loc Cert.InDgradLnInIdeal.main_arg1)
          ∧ r.2.mem ((c.tc : Thread Cert.InDgradLnInIdeal.nD Cert.InDgradLnInIdeal.τ).loc Cert.InDgradLnInIdeal.main_arg2) = m ((c.tc : Thread Cert.InDgradLnInIdeal.nD Cert.InDgradLnInIdeal.τ).loc Cert.InDgradLnInIdeal.main_arg2)
          ∧ r.2.mem ((c.tc : Thread Cert.InDgradLnInIdeal.nD Cert.InDgradLnInIdeal.τ).loc Cert.InDgradLnInIdeal.main_arg3) = m ((c.tc : Thread Cert.InDgradLnInIdeal.nD Cert.InDgradLnInIdeal.τ).loc Cert.InDgradLnInIdeal.main_arg3)
          ∧ r.2.mem ((c.tc : Thread Cert.InDgradLnInIdeal.nD Cert.InDgradLnInIdeal.τ).loc Cert.InDgradLnInIdeal.main_arg4) = m ((c.tc : Thread Cert.InDgradLnInIdeal.nD Cert.InDgradLnInIdeal.τ).loc Cert.InDgradLnInIdeal.main_arg4)
          ∧ r.2.mem ((c.tc : Thread Cert.InDgradLnInIdeal.nD Cert.InDgradLnInIdeal.τ).loc Cert.InDgradLnInIdeal.main_arg5) = m ((c.tc : Thread Cert.InDgradLnInIdeal.nD Cert.InDgradLnInIdeal.τ).loc Cert.InDgradLnInIdeal.main_arg5))
      ∧ θ_run (Cert.InDgradLnInRefIdeal.defs (F := Ideal)) (onTc (τ := Cert.InDgradLnInRefIdeal.τ) (Cert.InDgradLnInRefIdeal.main (F := Ideal))) ⟨m', fun _ => 0, g'⟩ (fun r => ∀ c : Dev Cert.InDgradLnInRefIdeal.nD,
          r.2.mem ((c.tc : Thread Cert.InDgradLnInRefIdeal.nD Cert.InDgradLnInRefIdeal.τ).loc Cert.InDgradLnInRefIdeal.main_v64) = v0 c
          ∧ r.2.mem ((c.tc : Thread Cert.InDgradLnInRefIdeal.nD Cert.InDgradLnInRefIdeal.τ).loc Cert.InDgradLnInRefIdeal.main_v65) = v1 c
          ∧ r.2.mem ((c.tc : Thread Cert.InDgradLnInRefIdeal.nD Cert.InDgradLnInRefIdeal.τ).loc Cert.InDgradLnInRefIdeal.main_v66) = v2 c
          ∧ r.2.mem ((c.tc : Thread Cert.InDgradLnInRefIdeal.nD Cert.InDgradLnInRefIdeal.τ).loc Cert.InDgradLnInRefIdeal.main_arg0) = m' ((c.tc : Thread Cert.InDgradLnInRefIdeal.nD Cert.InDgradLnInRefIdeal.τ).loc Cert.InDgradLnInRefIdeal.main_arg0)
          ∧ r.2.mem ((c.tc : Thread Cert.InDgradLnInRefIdeal.nD Cert.InDgradLnInRefIdeal.τ).loc Cert.InDgradLnInRefIdeal.main_arg1) = m' ((c.tc : Thread Cert.InDgradLnInRefIdeal.nD Cert.InDgradLnInRefIdeal.τ).loc Cert.InDgradLnInRefIdeal.main_arg1)
          ∧ r.2.mem ((c.tc : Thread Cert.InDgradLnInRefIdeal.nD Cert.InDgradLnInRefIdeal.τ).loc Cert.InDgradLnInRefIdeal.main_arg2) = m' ((c.tc : Thread Cert.InDgradLnInRefIdeal.nD Cert.InDgradLnInRefIdeal.τ).loc Cert.InDgradLnInRefIdeal.main_arg2)
          ∧ r.2.mem ((c.tc : Thread Cert.InDgradLnInRefIdeal.nD Cert.InDgradLnInRefIdeal.τ).loc Cert.InDgradLnInRefIdeal.main_arg3) = m' ((c.tc : Thread Cert.InDgradLnInRefIdeal.nD Cert.InDgradLnInRefIdeal.τ).loc Cert.InDgradLnInRefIdeal.main_arg3)
          ∧ r.2.mem ((c.tc : Thread Cert.InDgradLnInRefIdeal.nD Cert.InDgradLnInRefIdeal.τ).loc Cert.InDgradLnInRefIdeal.main_arg4) = m' ((c.tc : Thread Cert.InDgradLnInRefIdeal.nD Cert.InDgradLnInRefIdeal.τ).loc Cert.InDgradLnInRefIdeal.main_arg4)
          ∧ r.2.mem ((c.tc : Thread Cert.InDgradLnInRefIdeal.nD Cert.InDgradLnInRefIdeal.τ).loc Cert.InDgradLnInRefIdeal.main_arg5) = m' ((c.tc : Thread Cert.InDgradLnInRefIdeal.nD Cert.InDgradLnInRefIdeal.τ).loc Cert.InDgradLnInRefIdeal.main_arg5))

def preserves_Ff2Ln2Loss_Ff2Ln2LossIdeal : Prop :=
  True

def algebraic_Ff2Ln2LossIdeal_Ff2Ln2LossRefIdeal_pre_finite_ln2 [hFf2Ln2LossIdeal : Cert.Ff2Ln2LossIdeal.Facts] [hFf2Ln2LossRefIdeal : Cert.Ff2Ln2LossRefIdeal.Facts] [hPre_finite_ln2 : Cert.Pre_finite_ln2.Facts] : Prop :=
  ∀ (m : (ℓ : Loc Cert.Ff2Ln2LossIdeal.nD Cert.Ff2Ln2LossIdeal.τ Cert.Ff2Ln2LossIdeal.sig) → Buf (Elt Ideal) ℓ) (g : Dev Cert.Ff2Ln2LossIdeal.nD → PrngReg)
    (m' : (ℓ : Loc Cert.Ff2Ln2LossRefIdeal.nD Cert.Ff2Ln2LossRefIdeal.τ Cert.Ff2Ln2LossRefIdeal.sig) → Buf (Elt Ideal) ℓ) (g' : Dev Cert.Ff2Ln2LossRefIdeal.nD → PrngReg), Pre_Ff2Ln2LossIdeal_finite_ln2 m →
    (∀ c : Dev Cert.Ff2Ln2LossIdeal.nD,
      m' ((c.tc : Thread Cert.Ff2Ln2LossRefIdeal.nD Cert.Ff2Ln2LossRefIdeal.τ).loc Cert.Ff2Ln2LossRefIdeal.main_arg0) = m ((c.tc : Thread Cert.Ff2Ln2LossIdeal.nD Cert.Ff2Ln2LossIdeal.τ).loc Cert.Ff2Ln2LossIdeal.main_arg0)
      ∧ m' ((c.tc : Thread Cert.Ff2Ln2LossRefIdeal.nD Cert.Ff2Ln2LossRefIdeal.τ).loc Cert.Ff2Ln2LossRefIdeal.main_arg1) = m ((c.tc : Thread Cert.Ff2Ln2LossIdeal.nD Cert.Ff2Ln2LossIdeal.τ).loc Cert.Ff2Ln2LossIdeal.main_arg1)
      ∧ m' ((c.tc : Thread Cert.Ff2Ln2LossRefIdeal.nD Cert.Ff2Ln2LossRefIdeal.τ).loc Cert.Ff2Ln2LossRefIdeal.main_arg2) = m ((c.tc : Thread Cert.Ff2Ln2LossIdeal.nD Cert.Ff2Ln2LossIdeal.τ).loc Cert.Ff2Ln2LossIdeal.main_arg2)
      ∧ m' ((c.tc : Thread Cert.Ff2Ln2LossRefIdeal.nD Cert.Ff2Ln2LossRefIdeal.τ).loc Cert.Ff2Ln2LossRefIdeal.main_arg3) = m ((c.tc : Thread Cert.Ff2Ln2LossIdeal.nD Cert.Ff2Ln2LossIdeal.τ).loc Cert.Ff2Ln2LossIdeal.main_arg3)
      ∧ m' ((c.tc : Thread Cert.Ff2Ln2LossRefIdeal.nD Cert.Ff2Ln2LossRefIdeal.τ).loc Cert.Ff2Ln2LossRefIdeal.main_arg4) = m ((c.tc : Thread Cert.Ff2Ln2LossIdeal.nD Cert.Ff2Ln2LossIdeal.τ).loc Cert.Ff2Ln2LossIdeal.main_arg4)
      ∧ m' ((c.tc : Thread Cert.Ff2Ln2LossRefIdeal.nD Cert.Ff2Ln2LossRefIdeal.τ).loc Cert.Ff2Ln2LossRefIdeal.main_arg5) = m ((c.tc : Thread Cert.Ff2Ln2LossIdeal.nD Cert.Ff2Ln2LossIdeal.τ).loc Cert.Ff2Ln2LossIdeal.main_arg5)) →
    ∃ (v0 : (c : Dev Cert.Ff2Ln2LossIdeal.nD) → Buf (Elt Ideal) ((c.tc : Thread Cert.Ff2Ln2LossIdeal.nD Cert.Ff2Ln2LossIdeal.τ).loc Cert.Ff2Ln2LossIdeal.main_v2_0)) (v1 : (c : Dev Cert.Ff2Ln2LossIdeal.nD) → Buf (Elt Ideal) ((c.tc : Thread Cert.Ff2Ln2LossIdeal.nD Cert.Ff2Ln2LossIdeal.τ).loc Cert.Ff2Ln2LossIdeal.main_v2_1)) (v2 : (c : Dev Cert.Ff2Ln2LossIdeal.nD) → Buf (Elt Ideal) ((c.tc : Thread Cert.Ff2Ln2LossIdeal.nD Cert.Ff2Ln2LossIdeal.τ).loc Cert.Ff2Ln2LossIdeal.main_v2_2)) (v3 : (c : Dev Cert.Ff2Ln2LossIdeal.nD) → Buf (Elt Ideal) ((c.tc : Thread Cert.Ff2Ln2LossIdeal.nD Cert.Ff2Ln2LossIdeal.τ).loc Cert.Ff2Ln2LossIdeal.main_v2_3)) (v4 : (c : Dev Cert.Ff2Ln2LossIdeal.nD) → Buf (Elt Ideal) ((c.tc : Thread Cert.Ff2Ln2LossIdeal.nD Cert.Ff2Ln2LossIdeal.τ).loc Cert.Ff2Ln2LossIdeal.main_v2_4)),
      θ_run (Cert.Ff2Ln2LossIdeal.defs (F := Ideal)) (onTc (τ := Cert.Ff2Ln2LossIdeal.τ) (Cert.Ff2Ln2LossIdeal.main (F := Ideal))) ⟨m, fun _ => 0, g⟩ (fun r => ∀ c : Dev Cert.Ff2Ln2LossIdeal.nD,
          r.2.mem ((c.tc : Thread Cert.Ff2Ln2LossIdeal.nD Cert.Ff2Ln2LossIdeal.τ).loc Cert.Ff2Ln2LossIdeal.main_v2_0) = v0 c
          ∧ r.2.mem ((c.tc : Thread Cert.Ff2Ln2LossIdeal.nD Cert.Ff2Ln2LossIdeal.τ).loc Cert.Ff2Ln2LossIdeal.main_v2_1) = v1 c
          ∧ r.2.mem ((c.tc : Thread Cert.Ff2Ln2LossIdeal.nD Cert.Ff2Ln2LossIdeal.τ).loc Cert.Ff2Ln2LossIdeal.main_v2_2) = v2 c
          ∧ r.2.mem ((c.tc : Thread Cert.Ff2Ln2LossIdeal.nD Cert.Ff2Ln2LossIdeal.τ).loc Cert.Ff2Ln2LossIdeal.main_v2_3) = v3 c
          ∧ r.2.mem ((c.tc : Thread Cert.Ff2Ln2LossIdeal.nD Cert.Ff2Ln2LossIdeal.τ).loc Cert.Ff2Ln2LossIdeal.main_v2_4) = v4 c
          ∧ r.2.mem ((c.tc : Thread Cert.Ff2Ln2LossIdeal.nD Cert.Ff2Ln2LossIdeal.τ).loc Cert.Ff2Ln2LossIdeal.main_arg0) = m ((c.tc : Thread Cert.Ff2Ln2LossIdeal.nD Cert.Ff2Ln2LossIdeal.τ).loc Cert.Ff2Ln2LossIdeal.main_arg0)
          ∧ r.2.mem ((c.tc : Thread Cert.Ff2Ln2LossIdeal.nD Cert.Ff2Ln2LossIdeal.τ).loc Cert.Ff2Ln2LossIdeal.main_arg1) = m ((c.tc : Thread Cert.Ff2Ln2LossIdeal.nD Cert.Ff2Ln2LossIdeal.τ).loc Cert.Ff2Ln2LossIdeal.main_arg1)
          ∧ r.2.mem ((c.tc : Thread Cert.Ff2Ln2LossIdeal.nD Cert.Ff2Ln2LossIdeal.τ).loc Cert.Ff2Ln2LossIdeal.main_arg2) = m ((c.tc : Thread Cert.Ff2Ln2LossIdeal.nD Cert.Ff2Ln2LossIdeal.τ).loc Cert.Ff2Ln2LossIdeal.main_arg2)
          ∧ r.2.mem ((c.tc : Thread Cert.Ff2Ln2LossIdeal.nD Cert.Ff2Ln2LossIdeal.τ).loc Cert.Ff2Ln2LossIdeal.main_arg3) = m ((c.tc : Thread Cert.Ff2Ln2LossIdeal.nD Cert.Ff2Ln2LossIdeal.τ).loc Cert.Ff2Ln2LossIdeal.main_arg3)
          ∧ r.2.mem ((c.tc : Thread Cert.Ff2Ln2LossIdeal.nD Cert.Ff2Ln2LossIdeal.τ).loc Cert.Ff2Ln2LossIdeal.main_arg4) = m ((c.tc : Thread Cert.Ff2Ln2LossIdeal.nD Cert.Ff2Ln2LossIdeal.τ).loc Cert.Ff2Ln2LossIdeal.main_arg4)
          ∧ r.2.mem ((c.tc : Thread Cert.Ff2Ln2LossIdeal.nD Cert.Ff2Ln2LossIdeal.τ).loc Cert.Ff2Ln2LossIdeal.main_arg5) = m ((c.tc : Thread Cert.Ff2Ln2LossIdeal.nD Cert.Ff2Ln2LossIdeal.τ).loc Cert.Ff2Ln2LossIdeal.main_arg5))
      ∧ θ_run (Cert.Ff2Ln2LossRefIdeal.defs (F := Ideal)) (onTc (τ := Cert.Ff2Ln2LossRefIdeal.τ) (Cert.Ff2Ln2LossRefIdeal.main (F := Ideal))) ⟨m', fun _ => 0, g'⟩ (fun r => ∀ c : Dev Cert.Ff2Ln2LossRefIdeal.nD,
          r.2.mem ((c.tc : Thread Cert.Ff2Ln2LossRefIdeal.nD Cert.Ff2Ln2LossRefIdeal.τ).loc Cert.Ff2Ln2LossRefIdeal.main_v76) = v0 c
          ∧ r.2.mem ((c.tc : Thread Cert.Ff2Ln2LossRefIdeal.nD Cert.Ff2Ln2LossRefIdeal.τ).loc Cert.Ff2Ln2LossRefIdeal.main_v77) = v1 c
          ∧ r.2.mem ((c.tc : Thread Cert.Ff2Ln2LossRefIdeal.nD Cert.Ff2Ln2LossRefIdeal.τ).loc Cert.Ff2Ln2LossRefIdeal.main_v78) = v2 c
          ∧ r.2.mem ((c.tc : Thread Cert.Ff2Ln2LossRefIdeal.nD Cert.Ff2Ln2LossRefIdeal.τ).loc Cert.Ff2Ln2LossRefIdeal.main_v79) = v3 c
          ∧ r.2.mem ((c.tc : Thread Cert.Ff2Ln2LossRefIdeal.nD Cert.Ff2Ln2LossRefIdeal.τ).loc Cert.Ff2Ln2LossRefIdeal.main_v80) = v4 c
          ∧ r.2.mem ((c.tc : Thread Cert.Ff2Ln2LossRefIdeal.nD Cert.Ff2Ln2LossRefIdeal.τ).loc Cert.Ff2Ln2LossRefIdeal.main_arg0) = m' ((c.tc : Thread Cert.Ff2Ln2LossRefIdeal.nD Cert.Ff2Ln2LossRefIdeal.τ).loc Cert.Ff2Ln2LossRefIdeal.main_arg0)
          ∧ r.2.mem ((c.tc : Thread Cert.Ff2Ln2LossRefIdeal.nD Cert.Ff2Ln2LossRefIdeal.τ).loc Cert.Ff2Ln2LossRefIdeal.main_arg1) = m' ((c.tc : Thread Cert.Ff2Ln2LossRefIdeal.nD Cert.Ff2Ln2LossRefIdeal.τ).loc Cert.Ff2Ln2LossRefIdeal.main_arg1)
          ∧ r.2.mem ((c.tc : Thread Cert.Ff2Ln2LossRefIdeal.nD Cert.Ff2Ln2LossRefIdeal.τ).loc Cert.Ff2Ln2LossRefIdeal.main_arg2) = m' ((c.tc : Thread Cert.Ff2Ln2LossRefIdeal.nD Cert.Ff2Ln2LossRefIdeal.τ).loc Cert.Ff2Ln2LossRefIdeal.main_arg2)
          ∧ r.2.mem ((c.tc : Thread Cert.Ff2Ln2LossRefIdeal.nD Cert.Ff2Ln2LossRefIdeal.τ).loc Cert.Ff2Ln2LossRefIdeal.main_arg3) = m' ((c.tc : Thread Cert.Ff2Ln2LossRefIdeal.nD Cert.Ff2Ln2LossRefIdeal.τ).loc Cert.Ff2Ln2LossRefIdeal.main_arg3)
          ∧ r.2.mem ((c.tc : Thread Cert.Ff2Ln2LossRefIdeal.nD Cert.Ff2Ln2LossRefIdeal.τ).loc Cert.Ff2Ln2LossRefIdeal.main_arg4) = m' ((c.tc : Thread Cert.Ff2Ln2LossRefIdeal.nD Cert.Ff2Ln2LossRefIdeal.τ).loc Cert.Ff2Ln2LossRefIdeal.main_arg4)
          ∧ r.2.mem ((c.tc : Thread Cert.Ff2Ln2LossRefIdeal.nD Cert.Ff2Ln2LossRefIdeal.τ).loc Cert.Ff2Ln2LossRefIdeal.main_arg5) = m' ((c.tc : Thread Cert.Ff2Ln2LossRefIdeal.nD Cert.Ff2Ln2LossRefIdeal.τ).loc Cert.Ff2Ln2LossRefIdeal.main_arg5))

def preserves_MixLn1_MixLn1Ideal : Prop :=
  True

def algebraic_MixLn1Ideal_MixLn1RefIdeal [hMixLn1Ideal : Cert.MixLn1Ideal.Facts] [hMixLn1RefIdeal : Cert.MixLn1RefIdeal.Facts] : Prop :=
  ∀ (m : (ℓ : Loc Cert.MixLn1Ideal.nD Cert.MixLn1Ideal.τ Cert.MixLn1Ideal.sig) → Buf (Elt Ideal) ℓ) (g : Dev Cert.MixLn1Ideal.nD → PrngReg)
    (m' : (ℓ : Loc Cert.MixLn1RefIdeal.nD Cert.MixLn1RefIdeal.τ Cert.MixLn1RefIdeal.sig) → Buf (Elt Ideal) ℓ) (g' : Dev Cert.MixLn1RefIdeal.nD → PrngReg), Pre_MixLn1Ideal m →
    (∀ c : Dev Cert.MixLn1Ideal.nD,
      m' ((c.tc : Thread Cert.MixLn1RefIdeal.nD Cert.MixLn1RefIdeal.τ).loc Cert.MixLn1RefIdeal.main_arg0) = m ((c.tc : Thread Cert.MixLn1Ideal.nD Cert.MixLn1Ideal.τ).loc Cert.MixLn1Ideal.main_arg0)
      ∧ m' ((c.tc : Thread Cert.MixLn1RefIdeal.nD Cert.MixLn1RefIdeal.τ).loc Cert.MixLn1RefIdeal.main_arg1) = m ((c.tc : Thread Cert.MixLn1Ideal.nD Cert.MixLn1Ideal.τ).loc Cert.MixLn1Ideal.main_arg1)
      ∧ m' ((c.tc : Thread Cert.MixLn1RefIdeal.nD Cert.MixLn1RefIdeal.τ).loc Cert.MixLn1RefIdeal.main_arg2) = m ((c.tc : Thread Cert.MixLn1Ideal.nD Cert.MixLn1Ideal.τ).loc Cert.MixLn1Ideal.main_arg2)
      ∧ m' ((c.tc : Thread Cert.MixLn1RefIdeal.nD Cert.MixLn1RefIdeal.τ).loc Cert.MixLn1RefIdeal.main_arg3) = m ((c.tc : Thread Cert.MixLn1Ideal.nD Cert.MixLn1Ideal.τ).loc Cert.MixLn1Ideal.main_arg3)
      ∧ m' ((c.tc : Thread Cert.MixLn1RefIdeal.nD Cert.MixLn1RefIdeal.τ).loc Cert.MixLn1RefIdeal.main_arg4) = m ((c.tc : Thread Cert.MixLn1Ideal.nD Cert.MixLn1Ideal.τ).loc Cert.MixLn1Ideal.main_arg4)) →
    ∃ (v0 : (c : Dev Cert.MixLn1Ideal.nD) → Buf (Elt Ideal) ((c.tc : Thread Cert.MixLn1Ideal.nD Cert.MixLn1Ideal.τ).loc Cert.MixLn1Ideal.main_v2_0)) (v1 : (c : Dev Cert.MixLn1Ideal.nD) → Buf (Elt Ideal) ((c.tc : Thread Cert.MixLn1Ideal.nD Cert.MixLn1Ideal.τ).loc Cert.MixLn1Ideal.main_v2_1)) (v2 : (c : Dev Cert.MixLn1Ideal.nD) → Buf (Elt Ideal) ((c.tc : Thread Cert.MixLn1Ideal.nD Cert.MixLn1Ideal.τ).loc Cert.MixLn1Ideal.main_v2_2)),
      θ_run (Cert.MixLn1Ideal.defs (F := Ideal)) (onTc (τ := Cert.MixLn1Ideal.τ) (Cert.MixLn1Ideal.main (F := Ideal))) ⟨m, fun _ => 0, g⟩ (fun r => ∀ c : Dev Cert.MixLn1Ideal.nD,
          r.2.mem ((c.tc : Thread Cert.MixLn1Ideal.nD Cert.MixLn1Ideal.τ).loc Cert.MixLn1Ideal.main_v2_0) = v0 c
          ∧ r.2.mem ((c.tc : Thread Cert.MixLn1Ideal.nD Cert.MixLn1Ideal.τ).loc Cert.MixLn1Ideal.main_v2_1) = v1 c
          ∧ r.2.mem ((c.tc : Thread Cert.MixLn1Ideal.nD Cert.MixLn1Ideal.τ).loc Cert.MixLn1Ideal.main_v2_2) = v2 c
          ∧ r.2.mem ((c.tc : Thread Cert.MixLn1Ideal.nD Cert.MixLn1Ideal.τ).loc Cert.MixLn1Ideal.main_arg0) = m ((c.tc : Thread Cert.MixLn1Ideal.nD Cert.MixLn1Ideal.τ).loc Cert.MixLn1Ideal.main_arg0)
          ∧ r.2.mem ((c.tc : Thread Cert.MixLn1Ideal.nD Cert.MixLn1Ideal.τ).loc Cert.MixLn1Ideal.main_arg1) = m ((c.tc : Thread Cert.MixLn1Ideal.nD Cert.MixLn1Ideal.τ).loc Cert.MixLn1Ideal.main_arg1)
          ∧ r.2.mem ((c.tc : Thread Cert.MixLn1Ideal.nD Cert.MixLn1Ideal.τ).loc Cert.MixLn1Ideal.main_arg2) = m ((c.tc : Thread Cert.MixLn1Ideal.nD Cert.MixLn1Ideal.τ).loc Cert.MixLn1Ideal.main_arg2)
          ∧ r.2.mem ((c.tc : Thread Cert.MixLn1Ideal.nD Cert.MixLn1Ideal.τ).loc Cert.MixLn1Ideal.main_arg3) = m ((c.tc : Thread Cert.MixLn1Ideal.nD Cert.MixLn1Ideal.τ).loc Cert.MixLn1Ideal.main_arg3)
          ∧ r.2.mem ((c.tc : Thread Cert.MixLn1Ideal.nD Cert.MixLn1Ideal.τ).loc Cert.MixLn1Ideal.main_arg4) = m ((c.tc : Thread Cert.MixLn1Ideal.nD Cert.MixLn1Ideal.τ).loc Cert.MixLn1Ideal.main_arg4))
      ∧ θ_run (Cert.MixLn1RefIdeal.defs (F := Ideal)) (onTc (τ := Cert.MixLn1RefIdeal.τ) (Cert.MixLn1RefIdeal.main (F := Ideal))) ⟨m', fun _ => 0, g'⟩ (fun r => ∀ c : Dev Cert.MixLn1RefIdeal.nD,
          r.2.mem ((c.tc : Thread Cert.MixLn1RefIdeal.nD Cert.MixLn1RefIdeal.τ).loc Cert.MixLn1RefIdeal.main_v3) = v0 c
          ∧ r.2.mem ((c.tc : Thread Cert.MixLn1RefIdeal.nD Cert.MixLn1RefIdeal.τ).loc Cert.MixLn1RefIdeal.main_v27) = v1 c
          ∧ r.2.mem ((c.tc : Thread Cert.MixLn1RefIdeal.nD Cert.MixLn1RefIdeal.τ).loc Cert.MixLn1RefIdeal.main_v28) = v2 c
          ∧ r.2.mem ((c.tc : Thread Cert.MixLn1RefIdeal.nD Cert.MixLn1RefIdeal.τ).loc Cert.MixLn1RefIdeal.main_arg0) = m' ((c.tc : Thread Cert.MixLn1RefIdeal.nD Cert.MixLn1RefIdeal.τ).loc Cert.MixLn1RefIdeal.main_arg0)
          ∧ r.2.mem ((c.tc : Thread Cert.MixLn1RefIdeal.nD Cert.MixLn1RefIdeal.τ).loc Cert.MixLn1RefIdeal.main_arg1) = m' ((c.tc : Thread Cert.MixLn1RefIdeal.nD Cert.MixLn1RefIdeal.τ).loc Cert.MixLn1RefIdeal.main_arg1)
          ∧ r.2.mem ((c.tc : Thread Cert.MixLn1RefIdeal.nD Cert.MixLn1RefIdeal.τ).loc Cert.MixLn1RefIdeal.main_arg2) = m' ((c.tc : Thread Cert.MixLn1RefIdeal.nD Cert.MixLn1RefIdeal.τ).loc Cert.MixLn1RefIdeal.main_arg2)
          ∧ r.2.mem ((c.tc : Thread Cert.MixLn1RefIdeal.nD Cert.MixLn1RefIdeal.τ).loc Cert.MixLn1RefIdeal.main_arg3) = m' ((c.tc : Thread Cert.MixLn1RefIdeal.nD Cert.MixLn1RefIdeal.τ).loc Cert.MixLn1RefIdeal.main_arg3)
          ∧ r.2.mem ((c.tc : Thread Cert.MixLn1RefIdeal.nD Cert.MixLn1RefIdeal.τ).loc Cert.MixLn1RefIdeal.main_arg4) = m' ((c.tc : Thread Cert.MixLn1RefIdeal.nD Cert.MixLn1RefIdeal.τ).loc Cert.MixLn1RefIdeal.main_arg4))

def preserves_HProj_HProjIdeal : Prop :=
  True

def algebraic_HProjIdeal_HProjRefIdeal [hHProjIdeal : Cert.HProjIdeal.Facts] [hHProjRefIdeal : Cert.HProjRefIdeal.Facts] : Prop :=
  ∀ (m : (ℓ : Loc Cert.HProjIdeal.nD Cert.HProjIdeal.τ Cert.HProjIdeal.sig) → Buf (Elt Ideal) ℓ) (g : Dev Cert.HProjIdeal.nD → PrngReg)
    (m' : (ℓ : Loc Cert.HProjRefIdeal.nD Cert.HProjRefIdeal.τ Cert.HProjRefIdeal.sig) → Buf (Elt Ideal) ℓ) (g' : Dev Cert.HProjRefIdeal.nD → PrngReg), Pre_HProjIdeal m →
    (∀ c : Dev Cert.HProjIdeal.nD,
      m' ((c.tc : Thread Cert.HProjRefIdeal.nD Cert.HProjRefIdeal.τ).loc Cert.HProjRefIdeal.main_arg0) = m ((c.tc : Thread Cert.HProjIdeal.nD Cert.HProjIdeal.τ).loc Cert.HProjIdeal.main_arg0)
      ∧ m' ((c.tc : Thread Cert.HProjRefIdeal.nD Cert.HProjRefIdeal.τ).loc Cert.HProjRefIdeal.main_arg1) = m ((c.tc : Thread Cert.HProjIdeal.nD Cert.HProjIdeal.τ).loc Cert.HProjIdeal.main_arg1)) →
    ∃ (v0 : (c : Dev Cert.HProjIdeal.nD) → Buf (Elt Ideal) ((c.tc : Thread Cert.HProjIdeal.nD Cert.HProjIdeal.τ).loc Cert.HProjIdeal.main_v2)),
      θ_run (Cert.HProjIdeal.defs (F := Ideal)) (onTc (τ := Cert.HProjIdeal.τ) (Cert.HProjIdeal.main (F := Ideal))) ⟨m, fun _ => 0, g⟩ (fun r => ∀ c : Dev Cert.HProjIdeal.nD,
          r.2.mem ((c.tc : Thread Cert.HProjIdeal.nD Cert.HProjIdeal.τ).loc Cert.HProjIdeal.main_v2) = v0 c
          ∧ r.2.mem ((c.tc : Thread Cert.HProjIdeal.nD Cert.HProjIdeal.τ).loc Cert.HProjIdeal.main_arg0) = m ((c.tc : Thread Cert.HProjIdeal.nD Cert.HProjIdeal.τ).loc Cert.HProjIdeal.main_arg0)
          ∧ r.2.mem ((c.tc : Thread Cert.HProjIdeal.nD Cert.HProjIdeal.τ).loc Cert.HProjIdeal.main_arg1) = m ((c.tc : Thread Cert.HProjIdeal.nD Cert.HProjIdeal.τ).loc Cert.HProjIdeal.main_arg1))
      ∧ θ_run (Cert.HProjRefIdeal.defs (F := Ideal)) (onTc (τ := Cert.HProjRefIdeal.τ) (Cert.HProjRefIdeal.main (F := Ideal))) ⟨m', fun _ => 0, g'⟩ (fun r => ∀ c : Dev Cert.HProjRefIdeal.nD,
          r.2.mem ((c.tc : Thread Cert.HProjRefIdeal.nD Cert.HProjRefIdeal.τ).loc Cert.HProjRefIdeal.main_v0) = v0 c
          ∧ r.2.mem ((c.tc : Thread Cert.HProjRefIdeal.nD Cert.HProjRefIdeal.τ).loc Cert.HProjRefIdeal.main_arg0) = m' ((c.tc : Thread Cert.HProjRefIdeal.nD Cert.HProjRefIdeal.τ).loc Cert.HProjRefIdeal.main_arg0)
          ∧ r.2.mem ((c.tc : Thread Cert.HProjRefIdeal.nD Cert.HProjRefIdeal.τ).loc Cert.HProjRefIdeal.main_arg1) = m' ((c.tc : Thread Cert.HProjRefIdeal.nD Cert.HProjRefIdeal.τ).loc Cert.HProjRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)
      ∧ m' ((c.tc : Thread Cert.InWgradRefIdeal.nD Cert.InWgradRefIdeal.τ).loc Cert.InWgradRefIdeal.main_arg2) = m ((c.tc : Thread Cert.InWgradIdeal.nD Cert.InWgradIdeal.τ).loc Cert.InWgradIdeal.main_arg2)) →
    ∃ (v0 : (c : Dev Cert.InWgradIdeal.nD) → Buf (Elt Ideal) ((c.tc : Thread Cert.InWgradIdeal.nD Cert.InWgradIdeal.τ).loc Cert.InWgradIdeal.main_v2)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v2) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v2) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1)
          ∧ r.2.mem ((c.tc : Thread Cert.InWgradRefIdeal.nD Cert.InWgradRefIdeal.τ).loc Cert.InWgradRefIdeal.main_arg2) = m' ((c.tc : Thread Cert.InWgradRefIdeal.nD Cert.InWgradRefIdeal.τ).loc Cert.InWgradRefIdeal.main_arg2))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)
      ∧ m' ((c.tc : Thread Cert.OutWgradRefIdeal.nD Cert.OutWgradRefIdeal.τ).loc Cert.OutWgradRefIdeal.main_arg2) = m ((c.tc : Thread Cert.OutWgradIdeal.nD Cert.OutWgradIdeal.τ).loc Cert.OutWgradIdeal.main_arg2)) →
    ∃ (v0 : (c : Dev Cert.OutWgradIdeal.nD) → Buf (Elt Ideal) ((c.tc : Thread Cert.OutWgradIdeal.nD Cert.OutWgradIdeal.τ).loc Cert.OutWgradIdeal.main_v2)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v2) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v2) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1)
          ∧ r.2.mem ((c.tc : Thread Cert.OutWgradRefIdeal.nD Cert.OutWgradRefIdeal.τ).loc Cert.OutWgradRefIdeal.main_arg2) = m' ((c.tc : Thread Cert.OutWgradRefIdeal.nD Cert.OutWgradRefIdeal.τ).loc Cert.OutWgradRefIdeal.main_arg2))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)
      ∧ m' ((c.tc : Thread Cert.OutDgradRefIdeal.nD Cert.OutDgradRefIdeal.τ).loc Cert.OutDgradRefIdeal.main_arg2) = m ((c.tc : Thread Cert.OutDgradIdeal.nD Cert.OutDgradIdeal.τ).loc Cert.OutDgradIdeal.main_arg2)) →
    ∃ (v0 : (c : Dev Cert.OutDgradIdeal.nD) → Buf (Elt Ideal) ((c.tc : Thread Cert.OutDgradIdeal.nD Cert.OutDgradIdeal.τ).loc Cert.OutDgradIdeal.main_v2)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v2) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
          ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v1) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1)
          ∧ r.2.mem ((c.tc : Thread Cert.OutDgradRefIdeal.nD Cert.OutDgradRefIdeal.τ).loc Cert.OutDgradRefIdeal.main_arg2) = m' ((c.tc : Thread Cert.OutDgradRefIdeal.nD Cert.OutDgradRefIdeal.τ).loc Cert.OutDgradRefIdeal.main_arg2))

def preserves_FlashFwd_FlashFwdIdeal : Prop :=
  IdealRules.named_const.Statement Cert.FlashFwdIdeal.κ "log2_e" .f32 0x3FB8AA3B#32 (((Real.log 2)⁻¹ : ℝ) : EReal)

def algebraic_FlashFwdIdeal_FlashFwdRefIdeal_pre_finite_fwd [hFlashFwdIdeal : Cert.FlashFwdIdeal.Facts] [hFlashFwdRefIdeal : Cert.FlashFwdRefIdeal.Facts] [hPre_finite_fwd : Cert.Pre_finite_fwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_fwd m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)
      ∧ m' ((c.tc : Thread Cert.FlashFwdRefIdeal.nD Cert.FlashFwdRefIdeal.τ).loc Cert.FlashFwdRefIdeal.main_arg3) = m ((c.tc : Thread Cert.FlashFwdIdeal.nD Cert.FlashFwdIdeal.τ).loc Cert.FlashFwdIdeal.main_arg3)
      ∧ m' ((c.tc : Thread Cert.FlashFwdRefIdeal.nD Cert.FlashFwdRefIdeal.τ).loc Cert.FlashFwdRefIdeal.main_arg4) = m ((c.tc : Thread Cert.FlashFwdIdeal.nD Cert.FlashFwdIdeal.τ).loc Cert.FlashFwdIdeal.main_arg4)) →
    ∃ (v0 : (c : Dev Cert.FlashFwdIdeal.nD) → Buf (Elt Ideal) ((c.tc : Thread Cert.FlashFwdIdeal.nD Cert.FlashFwdIdeal.τ).loc Cert.FlashFwdIdeal.main_v18_0)) (v1 : (c : Dev Cert.FlashFwdIdeal.nD) → Buf (Elt Ideal) ((c.tc : Thread Cert.FlashFwdIdeal.nD Cert.FlashFwdIdeal.τ).loc Cert.FlashFwdIdeal.main_v18_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v18_0) = v0 c
          ∧ r.2.mem ((c.tc : Thread Cert.FlashFwdIdeal.nD Cert.FlashFwdIdeal.τ).loc Cert.FlashFwdIdeal.main_v18_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2)
          ∧ r.2.mem ((c.tc : Thread Cert.FlashFwdIdeal.nD Cert.FlashFwdIdeal.τ).loc Cert.FlashFwdIdeal.main_arg3) = m ((c.tc : Thread Cert.FlashFwdIdeal.nD Cert.FlashFwdIdeal.τ).loc Cert.FlashFwdIdeal.main_arg3)
          ∧ r.2.mem ((c.tc : Thread Cert.FlashFwdIdeal.nD Cert.FlashFwdIdeal.τ).loc Cert.FlashFwdIdeal.main_arg4) = m ((c.tc : Thread Cert.FlashFwdIdeal.nD Cert.FlashFwdIdeal.τ).loc Cert.FlashFwdIdeal.main_arg4))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v20) = v0 c
          ∧ r.2.mem ((c.tc : Thread Cert.FlashFwdRefIdeal.nD Cert.FlashFwdRefIdeal.τ).loc Cert.FlashFwdRefIdeal.main_v28) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2)
          ∧ r.2.mem ((c.tc : Thread Cert.FlashFwdRefIdeal.nD Cert.FlashFwdRefIdeal.τ).loc Cert.FlashFwdRefIdeal.main_arg3) = m' ((c.tc : Thread Cert.FlashFwdRefIdeal.nD Cert.FlashFwdRefIdeal.τ).loc Cert.FlashFwdRefIdeal.main_arg3)
          ∧ r.2.mem ((c.tc : Thread Cert.FlashFwdRefIdeal.nD Cert.FlashFwdRefIdeal.τ).loc Cert.FlashFwdRefIdeal.main_arg4) = m' ((c.tc : Thread Cert.FlashFwdRefIdeal.nD Cert.FlashFwdRefIdeal.τ).loc Cert.FlashFwdRefIdeal.main_arg4))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v0)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v16) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_HeadWgrad_HeadWgradIdeal : Prop :=
  True

def algebraic_HeadWgradIdeal_HeadWgradRefIdeal [hHeadWgradIdeal : Cert.HeadWgradIdeal.Facts] [hHeadWgradRefIdeal : Cert.HeadWgradRefIdeal.Facts] : Prop :=
  ∀ (m : (ℓ : Loc Cert.HeadWgradIdeal.nD Cert.HeadWgradIdeal.τ Cert.HeadWgradIdeal.sig) → Buf (Elt Ideal) ℓ) (g : Dev Cert.HeadWgradIdeal.nD → PrngReg)
    (m' : (ℓ : Loc Cert.HeadWgradRefIdeal.nD Cert.HeadWgradRefIdeal.τ Cert.HeadWgradRefIdeal.sig) → Buf (Elt Ideal) ℓ) (g' : Dev Cert.HeadWgradRefIdeal.nD → PrngReg), Pre_HeadWgradIdeal m →
    (∀ c : Dev Cert.HeadWgradIdeal.nD,
      m' ((c.tc : Thread Cert.HeadWgradRefIdeal.nD Cert.HeadWgradRefIdeal.τ).loc Cert.HeadWgradRefIdeal.main_arg0) = m ((c.tc : Thread Cert.HeadWgradIdeal.nD Cert.HeadWgradIdeal.τ).loc Cert.HeadWgradIdeal.main_arg0)
      ∧ m' ((c.tc : Thread Cert.HeadWgradRefIdeal.nD Cert.HeadWgradRefIdeal.τ).loc Cert.HeadWgradRefIdeal.main_arg1) = m ((c.tc : Thread Cert.HeadWgradIdeal.nD Cert.HeadWgradIdeal.τ).loc Cert.HeadWgradIdeal.main_arg1)
      ∧ m' ((c.tc : Thread Cert.HeadWgradRefIdeal.nD Cert.HeadWgradRefIdeal.τ).loc Cert.HeadWgradRefIdeal.main_arg2) = m ((c.tc : Thread Cert.HeadWgradIdeal.nD Cert.HeadWgradIdeal.τ).loc Cert.HeadWgradIdeal.main_arg2)) →
    ∃ (v0 : (c : Dev Cert.HeadWgradIdeal.nD) → Buf (Elt Ideal) ((c.tc : Thread Cert.HeadWgradIdeal.nD Cert.HeadWgradIdeal.τ).loc Cert.HeadWgradIdeal.main_v2)),
      θ_run (Cert.HeadWgradIdeal.defs (F := Ideal)) (onTc (τ := Cert.HeadWgradIdeal.τ) (Cert.HeadWgradIdeal.main (F := Ideal))) ⟨m, fun _ => 0, g⟩ (fun r => ∀ c : Dev Cert.HeadWgradIdeal.nD,
          r.2.mem ((c.tc : Thread Cert.HeadWgradIdeal.nD Cert.HeadWgradIdeal.τ).loc Cert.HeadWgradIdeal.main_v2) = v0 c
          ∧ r.2.mem ((c.tc : Thread Cert.HeadWgradIdeal.nD Cert.HeadWgradIdeal.τ).loc Cert.HeadWgradIdeal.main_arg0) = m ((c.tc : Thread Cert.HeadWgradIdeal.nD Cert.HeadWgradIdeal.τ).loc Cert.HeadWgradIdeal.main_arg0)
          ∧ r.2.mem ((c.tc : Thread Cert.HeadWgradIdeal.nD Cert.HeadWgradIdeal.τ).loc Cert.HeadWgradIdeal.main_arg1) = m ((c.tc : Thread Cert.HeadWgradIdeal.nD Cert.HeadWgradIdeal.τ).loc Cert.HeadWgradIdeal.main_arg1)
          ∧ r.2.mem ((c.tc : Thread Cert.HeadWgradIdeal.nD Cert.HeadWgradIdeal.τ).loc Cert.HeadWgradIdeal.main_arg2) = m ((c.tc : Thread Cert.HeadWgradIdeal.nD Cert.HeadWgradIdeal.τ).loc Cert.HeadWgradIdeal.main_arg2))
      ∧ θ_run (Cert.HeadWgradRefIdeal.defs (F := Ideal)) (onTc (τ := Cert.HeadWgradRefIdeal.τ) (Cert.HeadWgradRefIdeal.main (F := Ideal))) ⟨m', fun _ => 0, g'⟩ (fun r => ∀ c : Dev Cert.HeadWgradRefIdeal.nD,
          r.2.mem ((c.tc : Thread Cert.HeadWgradRefIdeal.nD Cert.HeadWgradRefIdeal.τ).loc Cert.HeadWgradRefIdeal.main_v4) = v0 c
          ∧ r.2.mem ((c.tc : Thread Cert.HeadWgradRefIdeal.nD Cert.HeadWgradRefIdeal.τ).loc Cert.HeadWgradRefIdeal.main_arg0) = m' ((c.tc : Thread Cert.HeadWgradRefIdeal.nD Cert.HeadWgradRefIdeal.τ).loc Cert.HeadWgradRefIdeal.main_arg0)
          ∧ r.2.mem ((c.tc : Thread Cert.HeadWgradRefIdeal.nD Cert.HeadWgradRefIdeal.τ).loc Cert.HeadWgradRefIdeal.main_arg1) = m' ((c.tc : Thread Cert.HeadWgradRefIdeal.nD Cert.HeadWgradRefIdeal.τ).loc Cert.HeadWgradRefIdeal.main_arg1)
          ∧ r.2.mem ((c.tc : Thread Cert.HeadWgradRefIdeal.nD Cert.HeadWgradRefIdeal.τ).loc Cert.HeadWgradRefIdeal.main_arg2) = m' ((c.tc : Thread Cert.HeadWgradRefIdeal.nD Cert.HeadWgradRefIdeal.τ).loc Cert.HeadWgradRefIdeal.main_arg2))

def Claim : Prop :=
  ∃ (hKernel : Cert.Kernel.Facts) (hKernelIdeal : Cert.KernelIdeal.Facts) (hReferenceIdeal : Cert.ReferenceIdeal.Facts) (hFf1Relu2 : Cert.Ff1Relu2.Facts) (hFf1Relu2Ideal : Cert.Ff1Relu2Ideal.Facts) (hFf1Relu2RefIdeal : Cert.Ff1Relu2RefIdeal.Facts) (hFf2Dgrad : Cert.Ff2Dgrad.Facts) (hFf2DgradIdeal : Cert.Ff2DgradIdeal.Facts) (hFf2DgradRefIdeal : Cert.Ff2DgradRefIdeal.Facts) (hFf2Wgrad : Cert.Ff2Wgrad.Facts) (hFf2WgradIdeal : Cert.Ff2WgradIdeal.Facts) (hFf2WgradRefIdeal : Cert.Ff2WgradRefIdeal.Facts) (hFf1Wgrad : Cert.Ff1Wgrad.Facts) (hFf1WgradIdeal : Cert.Ff1WgradIdeal.Facts) (hFf1WgradRefIdeal : Cert.Ff1WgradRefIdeal.Facts) (hFf1DgradLn1 : Cert.Ff1DgradLn1.Facts) (hFf1DgradLn1Ideal : Cert.Ff1DgradLn1Ideal.Facts) (hFf1DgradLn1RefIdeal : Cert.Ff1DgradLn1RefIdeal.Facts) (hInDgradLnIn : Cert.InDgradLnIn.Facts) (hInDgradLnInIdeal : Cert.InDgradLnInIdeal.Facts) (hInDgradLnInRefIdeal : Cert.InDgradLnInRefIdeal.Facts) (hFf2Ln2Loss : Cert.Ff2Ln2Loss.Facts) (hFf2Ln2LossIdeal : Cert.Ff2Ln2LossIdeal.Facts) (hFf2Ln2LossRefIdeal : Cert.Ff2Ln2LossRefIdeal.Facts) (hMixLn1 : Cert.MixLn1.Facts) (hMixLn1Ideal : Cert.MixLn1Ideal.Facts) (hMixLn1RefIdeal : Cert.MixLn1RefIdeal.Facts) (hHProj : Cert.HProj.Facts) (hHProjIdeal : Cert.HProjIdeal.Facts) (hHProjRefIdeal : Cert.HProjRefIdeal.Facts) (hInWgrad : Cert.InWgrad.Facts) (hInWgradIdeal : Cert.InWgradIdeal.Facts) (hInWgradRefIdeal : Cert.InWgradRefIdeal.Facts) (hOutWgrad : Cert.OutWgrad.Facts) (hOutWgradIdeal : Cert.OutWgradIdeal.Facts) (hOutWgradRefIdeal : Cert.OutWgradRefIdeal.Facts) (hOutDgrad : Cert.OutDgrad.Facts) (hOutDgradIdeal : Cert.OutDgradIdeal.Facts) (hOutDgradRefIdeal : Cert.OutDgradRefIdeal.Facts) (hFlashFwd : Cert.FlashFwd.Facts) (hFlashFwdIdeal : Cert.FlashFwdIdeal.Facts) (hFlashFwdRefIdeal : Cert.FlashFwdRefIdeal.Facts) (hGluBwd : Cert.GluBwd.Facts) (hGluBwdIdeal : Cert.GluBwdIdeal.Facts) (hGluBwdRefIdeal : Cert.GluBwdRefIdeal.Facts) (hHeadWgrad : Cert.HeadWgrad.Facts) (hHeadWgradIdeal : Cert.HeadWgradIdeal.Facts) (hHeadWgradRefIdeal : Cert.HeadWgradRefIdeal.Facts) (hPre_finite : Cert.Pre_finite.Facts) (hPre_finite_ln1 : Cert.Pre_finite_ln1.Facts) (hPre_finite_ln_in : Cert.Pre_finite_ln_in.Facts) (hPre_finite_ln2 : Cert.Pre_finite_ln2.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff1Relu2 (hFf1Relu2 := hFf1Relu2)
    ∧ quiescent_Ff1Relu2Ideal (hFf1Relu2Ideal := hFf1Relu2Ideal)
    ∧ quiescent_Ff1Relu2RefIdeal (hFf1Relu2RefIdeal := hFf1Relu2RefIdeal)
    ∧ quiescent_Ff2Dgrad (hFf2Dgrad := hFf2Dgrad)
    ∧ quiescent_Ff2DgradIdeal (hFf2DgradIdeal := hFf2DgradIdeal)
    ∧ quiescent_Ff2DgradRefIdeal (hFf2DgradRefIdeal := hFf2DgradRefIdeal)
    ∧ quiescent_Ff2Wgrad (hFf2Wgrad := hFf2Wgrad)
    ∧ quiescent_Ff2WgradIdeal (hFf2WgradIdeal := hFf2WgradIdeal)
    ∧ quiescent_Ff2WgradRefIdeal (hFf2WgradRefIdeal := hFf2WgradRefIdeal)
    ∧ quiescent_Ff1Wgrad (hFf1Wgrad := hFf1Wgrad)
    ∧ quiescent_Ff1WgradIdeal (hFf1WgradIdeal := hFf1WgradIdeal)
    ∧ quiescent_Ff1WgradRefIdeal (hFf1WgradRefIdeal := hFf1WgradRefIdeal)
    ∧ quiescent_Ff1DgradLn1 (hFf1DgradLn1 := hFf1DgradLn1)
    ∧ quiescent_Ff1DgradLn1Ideal (hFf1DgradLn1Ideal := hFf1DgradLn1Ideal)
    ∧ quiescent_Ff1DgradLn1Ideal_pre_finite_ln1 (hFf1DgradLn1Ideal := hFf1DgradLn1Ideal) (hPre_finite_ln1 := hPre_finite_ln1)
    ∧ quiescent_Ff1DgradLn1RefIdeal (hFf1DgradLn1RefIdeal := hFf1DgradLn1RefIdeal)
    ∧ quiescent_Ff1DgradLn1RefIdeal_pre_finite_ln1 (hFf1DgradLn1RefIdeal := hFf1DgradLn1RefIdeal) (hPre_finite_ln1 := hPre_finite_ln1)
    ∧ quiescent_InDgradLnIn (hInDgradLnIn := hInDgradLnIn)
    ∧ quiescent_InDgradLnInIdeal (hInDgradLnInIdeal := hInDgradLnInIdeal)
    ∧ quiescent_InDgradLnInIdeal_pre_finite_ln_in (hInDgradLnInIdeal := hInDgradLnInIdeal) (hPre_finite_ln_in := hPre_finite_ln_in)
    ∧ quiescent_InDgradLnInRefIdeal (hInDgradLnInRefIdeal := hInDgradLnInRefIdeal)
    ∧ quiescent_InDgradLnInRefIdeal_pre_finite_ln_in (hInDgradLnInRefIdeal := hInDgradLnInRefIdeal) (hPre_finite_ln_in := hPre_finite_ln_in)
    ∧ quiescent_Ff2Ln2Loss (hFf2Ln2Loss := hFf2Ln2Loss)
    ∧ quiescent_Ff2Ln2LossIdeal (hFf2Ln2LossIdeal := hFf2Ln2LossIdeal)
    ∧ quiescent_Ff2Ln2LossIdeal_pre_finite_ln2 (hFf2Ln2LossIdeal := hFf2Ln2LossIdeal) (hPre_finite_ln2 := hPre_finite_ln2)
    ∧ quiescent_Ff2Ln2LossRefIdeal (hFf2Ln2LossRefIdeal := hFf2Ln2LossRefIdeal)
    ∧ quiescent_Ff2Ln2LossRefIdeal_pre_finite_ln2 (hFf2Ln2LossRefIdeal := hFf2Ln2LossRefIdeal) (hPre_finite_ln2 := hPre_finite_ln2)
    ∧ quiescent_MixLn1 (hMixLn1 := hMixLn1)
    ∧ quiescent_MixLn1Ideal (hMixLn1Ideal := hMixLn1Ideal)
    ∧ quiescent_MixLn1RefIdeal (hMixLn1RefIdeal := hMixLn1RefIdeal)
    ∧ quiescent_HProj (hHProj := hHProj)
    ∧ quiescent_HProjIdeal (hHProjIdeal := hHProjIdeal)
    ∧ quiescent_HProjRefIdeal (hHProjRefIdeal := hHProjRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_FlashFwd (hFlashFwd := hFlashFwd)
    ∧ quiescent_FlashFwdIdeal (hFlashFwdIdeal := hFlashFwdIdeal)
    ∧ quiescent_FlashFwdIdeal_pre_finite_fwd (hFlashFwdIdeal := hFlashFwdIdeal) (hPre_finite_fwd := hPre_finite_fwd)
    ∧ quiescent_FlashFwdRefIdeal (hFlashFwdRefIdeal := hFlashFwdRefIdeal)
    ∧ quiescent_FlashFwdRefIdeal_pre_finite_fwd (hFlashFwdRefIdeal := hFlashFwdRefIdeal) (hPre_finite_fwd := hPre_finite_fwd)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_HeadWgrad (hHeadWgrad := hHeadWgrad)
    ∧ quiescent_HeadWgradIdeal (hHeadWgradIdeal := hHeadWgradIdeal)
    ∧ quiescent_HeadWgradRefIdeal (hHeadWgradRefIdeal := hHeadWgradRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff1Relu2_Ff1Relu2Ideal
    ∧ algebraic_Ff1Relu2Ideal_Ff1Relu2RefIdeal (hFf1Relu2Ideal := hFf1Relu2Ideal) (hFf1Relu2RefIdeal := hFf1Relu2RefIdeal)
    ∧ preserves_Ff2Dgrad_Ff2DgradIdeal
    ∧ algebraic_Ff2DgradIdeal_Ff2DgradRefIdeal (hFf2DgradIdeal := hFf2DgradIdeal) (hFf2DgradRefIdeal := hFf2DgradRefIdeal)
    ∧ preserves_Ff2Wgrad_Ff2WgradIdeal
    ∧ algebraic_Ff2WgradIdeal_Ff2WgradRefIdeal (hFf2WgradIdeal := hFf2WgradIdeal) (hFf2WgradRefIdeal := hFf2WgradRefIdeal)
    ∧ preserves_Ff1Wgrad_Ff1WgradIdeal
    ∧ algebraic_Ff1WgradIdeal_Ff1WgradRefIdeal (hFf1WgradIdeal := hFf1WgradIdeal) (hFf1WgradRefIdeal := hFf1WgradRefIdeal)
    ∧ preserves_Ff1DgradLn1_Ff1DgradLn1Ideal
    ∧ algebraic_Ff1DgradLn1Ideal_Ff1DgradLn1RefIdeal_pre_finite_ln1 (hFf1DgradLn1Ideal := hFf1DgradLn1Ideal) (hFf1DgradLn1RefIdeal := hFf1DgradLn1RefIdeal) (hPre_finite_ln1 := hPre_finite_ln1)
    ∧ preserves_InDgradLnIn_InDgradLnInIdeal
    ∧ algebraic_InDgradLnInIdeal_InDgradLnInRefIdeal_pre_finite_ln_in (hInDgradLnInIdeal := hInDgradLnInIdeal) (hInDgradLnInRefIdeal := hInDgradLnInRefIdeal) (hPre_finite_ln_in := hPre_finite_ln_in)
    ∧ preserves_Ff2Ln2Loss_Ff2Ln2LossIdeal
    ∧ algebraic_Ff2Ln2LossIdeal_Ff2Ln2LossRefIdeal_pre_finite_ln2 (hFf2Ln2LossIdeal := hFf2Ln2LossIdeal) (hFf2Ln2LossRefIdeal := hFf2Ln2LossRefIdeal) (hPre_finite_ln2 := hPre_finite_ln2)
    ∧ preserves_MixLn1_MixLn1Ideal
    ∧ algebraic_MixLn1Ideal_MixLn1RefIdeal (hMixLn1Ideal := hMixLn1Ideal) (hMixLn1RefIdeal := hMixLn1RefIdeal)
    ∧ preserves_HProj_HProjIdeal
    ∧ algebraic_HProjIdeal_HProjRefIdeal (hHProjIdeal := hHProjIdeal) (hHProjRefIdeal := hHProjRefIdeal)
    ∧ preserves_InWgrad_InWgradIdeal
    ∧ algebraic_InWgradIdeal_InWgradRefIdeal (hInWgradIdeal := hInWgradIdeal) (hInWgradRefIdeal := hInWgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_FlashFwd_FlashFwdIdeal
    ∧ algebraic_FlashFwdIdeal_FlashFwdRefIdeal_pre_finite_fwd (hFlashFwdIdeal := hFlashFwdIdeal) (hFlashFwdRefIdeal := hFlashFwdRefIdeal) (hPre_finite_fwd := hPre_finite_fwd)
    ∧ preserves_GluBwd_GluBwdIdeal
    ∧ algebraic_GluBwdIdeal_GluBwdRefIdeal (hGluBwdIdeal := hGluBwdIdeal) (hGluBwdRefIdeal := hGluBwdRefIdeal)
    ∧ preserves_HeadWgrad_HeadWgradIdeal
    ∧ algebraic_HeadWgradIdeal_HeadWgradRefIdeal (hHeadWgradIdeal := hHeadWgradIdeal) (hHeadWgradRefIdeal := hHeadWgradRefIdeal)
-- ==== Pre_finite.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩

class Facts : Prop where
  bcast_S_S8192x8x128 : S_.BroadcastsInDim S8192x8x128 (![] : Fin 0 → Fin S8192x8x128.rank)
  bcast_S_S8192x8x64 : S_.BroadcastsInDim S8192x8x64 (![] : Fin 0 → Fin S8192x8x64.rank)
  bcast_S_S8192x64 : S_.BroadcastsInDim S8192x64 (![] : Fin 0 → Fin S8192x64.rank)
  bcast_S_S8192x1024 : S_.BroadcastsInDim S8192x1024 (![] : Fin 0 → Fin S8192x1024.rank)

variable [Facts]

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) (main_arg5 : FVec F S8192x1024 .f32) : IVec S8192x8x128 1 × IVec S8192x8x64 1 × IVec S8192x8x128 1 × IVec S8192x64 1 × IVec S8192x8x128 1 × IVec S8192x1024 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_v12 : FVec F S8192x8x128 .f32 := Host.absf main_arg4
  let main_cst_3 : FVec F S_ .f32 := constant S_ .f32 0x7F800000#32
  let main_v13 : FVec F S8192x8x128 .f32 := broadcastInDim S8192x8x128 ![] bcast_S_S8192x8x128 main_cst_3
  let main_v14 : IVec S8192x8x128 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_fwd.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩

class Facts : Prop where
  bcast_S_S8192x8x128 : S_.BroadcastsInDim S8192x8x128 (![] : Fin 0 → Fin S8192x8x128.rank)
  bcast_S_S8192x8x64 : S_.BroadcastsInDim S8192x8x64 (![] : Fin 0 → Fin S8192x8x64.rank)
  bcast_S_S8192x64 : S_.BroadcastsInDim S8192x64 (![] : Fin 0 → Fin S8192x64.rank)

variable [Facts]

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) : IVec S8192x8x128 1 × IVec S8192x8x64 1 × IVec S8192x8x128 1 × IVec S8192x64 1 × IVec S8192x8x128 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_v12 : FVec F S8192x8x128 .f32 := Host.absf main_arg4
  let main_cst_3 : FVec F S_ .f32 := constant S_ .f32 0x7F800000#32
  let main_v13 : FVec F S8192x8x128 .f32 := broadcastInDim S8192x8x128 ![] bcast_S_S8192x8x128 main_cst_3
  let main_v14 : IVec S8192x8x128 1 := cmpf .olt main_v12 main_v13
  (main_v2, main_v5, main_v8, main_v11, main_v14)
-- ==== Pre_finite_ln1.lean ====
abbrev S8192x2048 : Shape := ⟨2, ![8192, 2048]⟩
abbrev S1x2048 : Shape := ⟨2, ![1, 2048]⟩
abbrev S2048x8192 : Shape := ⟨2, ![2048, 8192]⟩
abbrev S8192x8192 : Shape := ⟨2, ![8192, 8192]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S2048x8192 : S_.BroadcastsInDim S2048x8192 (![] : Fin 0 → Fin S2048x8192.rank)
  bcast_S_S8192x8192 : S_.BroadcastsInDim S8192x8192 (![] : Fin 0 → Fin S8192x8192.rank)

variable [Facts]

def fn {F : FTy → Type} [FloatOps F] (main_arg0 : FVec F S8192x2048 .f32) (main_arg1 : FVec F S1x2048 .f32) (main_arg2 : FVec F S1x2048 .f32) (main_arg3 : FVec F S2048x8192 .f32) (main_arg4 : FVec F S8192x2048 .f32) (main_arg5 : FVec F S8192x8192 .f32) : IVec S8192x2048 1 × IVec S1x2048 1 × IVec S2048x8192 1 × IVec S8192x2048 1 × IVec S8192x8192 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x8192 .f32 := Host.absf main_arg3
  let main_cst_1 : FVec F S_ .f32 := constant S_ .f32 0x7F800000#32
  let main_v7 : FVec F S2048x8192 .f32 := broadcastInDim S2048x8192 ![] bcast_S_S2048x8192 main_cst_1
  let main_v8 : IVec S2048x8192 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S8192x8192 .f32 := Host.absf main_arg5
  let main_cst_3 : FVec F S_ .f32 := constant S_ .f32 0x7F800000#32
  let main_v13 : FVec F S8192x8192 .f32 := broadcastInDim S8192x8192 ![] bcast_S_S8192x8192 main_cst_3
  let main_v14 : IVec S8192x8192 1 := cmpf .olt main_v12 main_v13
  (main_v2, main_v5, main_v8, main_v11, main_v14)
-- ==== Pre_finite_ln2.lean ====
abbrev S8192x2048 : Shape := ⟨2, ![8192, 2048]⟩
abbrev S8192x8192 : Shape := ⟨2, ![8192, 8192]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S8192x8192 : S_.BroadcastsInDim S8192x8192 (![] : Fin 0 → Fin S8192x8192.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x8192 .f32) (main_arg2 : FVec F S8192x2048 .f32) (main_arg3 : FVec F S1x2048 .f32) (main_arg4 : FVec F S1x2048 .f32) (main_arg5 : FVec F S8192x2048 .f32) : IVec S8192x2048 1 × IVec S8192x8192 1 × IVec S8192x2048 1 × IVec S1x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x8192 .f32 := Host.absf main_arg1
  let main_cst_0 : FVec F S_ .f32 := constant S_ .f32 0x7F800000#32
  let main_v4 : FVec F S8192x8192 .f32 := broadcastInDim S8192x8192 ![] bcast_S_S8192x8192 main_cst_0
  let main_v5 : IVec S8192x8192 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Pre_finite_ln_in.lean ====
abbrev S8192x2048 : Shape := ⟨2, ![8192, 2048]⟩
abbrev S1x2048 : Shape := ⟨2, ![1, 2048]⟩
abbrev S2048x3200 : Shape := ⟨2, ![2048, 3200]⟩
abbrev S8192x3200 : Shape := ⟨2, ![8192, 3200]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S2048x3200 : S_.BroadcastsInDim S2048x3200 (![] : Fin 0 → Fin S2048x3200.rank)
  bcast_S_S8192x3200 : S_.BroadcastsInDim S8192x3200 (![] : Fin 0 → Fin S8192x3200.rank)

variable [Facts]

def fn {F : FTy → Type} [FloatOps F] (main_arg0 : FVec F S8192x2048 .f32) (main_arg1 : FVec F S1x2048 .f32) (main_arg2 : FVec F S1x2048 .f32) (main_arg3 : FVec F S2048x3200 .f32) (main_arg4 : FVec F S8192x2048 .f32) (main_arg5 : FVec F S8192x3200 .f32) : IVec S8192x2048 1 × IVec S1x2048 1 × IVec S2048x3200 1 × IVec S8192x2048 1 × IVec S8192x3200 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x3200 .f32 := Host.absf main_arg3
  let main_cst_1 : FVec F S_ .f32 := constant S_ .f32 0x7F800000#32
  let main_v7 : FVec F S2048x3200 .f32 := broadcastInDim S2048x3200 ![] bcast_S_S2048x3200 main_cst_1
  let main_v8 : IVec S2048x3200 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S8192x3200 .f32 := Host.absf main_arg5
  let main_cst_3 : FVec F S_ .f32 := constant S_ .f32 0x7F800000#32
  let main_v13 : FVec F S8192x3200 .f32 := broadcastInDim S8192x3200 ![] bcast_S_S8192x3200 main_cst_3
  let main_v14 : IVec S8192x3200 1 := cmpf .olt main_v12 main_v13
  (main_v2, main_v5, main_v8, main_v11, main_v14)
-- ==== Kernel.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S_ : Shape := ⟨0, ![]⟩
abbrev S8192x8x256 : Shape := ⟨3, ![8192, 8, 256]⟩
abbrev S8x8192x256 : Shape := ⟨3, ![8, 8192, 256]⟩
abbrev S8192x1x64 : Shape := ⟨3, ![8192, 1, 64]⟩
abbrev S8x8192x128 : Shape := ⟨3, ![8, 8192, 128]⟩
abbrev S8x8192x8192 : Shape := ⟨3, ![8, 8192, 8192]⟩
abbrev S8192x8192x8 : Shape := ⟨3, ![8192, 8192, 8]⟩
abbrev S8x8192 : Shape := ⟨2, ![8, 8192]⟩
abbrev S8x8192x1 : Shape := ⟨3, ![8, 8192, 1]⟩
abbrev S1x1024x256 : Shape := ⟨3, ![1, 1024, 256]⟩
abbrev S1x1024x128 : Shape := ⟨3, ![1, 1024, 128]⟩
abbrev S1x8192x256 : Shape := ⟨3, ![1, 8192, 256]⟩
abbrev S1x8192x128 : Shape := ⟨3, ![1, 8192, 128]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1024x512 : Shape := ⟨2, ![1024, 512]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩

abbrev nBuf : Space → Nat
  | .hbm => 64
  | .vmem => 19
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8x64, .f32⟩
  | .hbm, ⟨10, _⟩ => ⟨S8192x8x256, .f32⟩
  | .hbm, ⟨11, _⟩ => ⟨S_, .f32⟩
  | .hbm, ⟨12, _⟩ => ⟨S_, .f32⟩
  | .hbm, ⟨13, _⟩ => ⟨S8192x8x256, .f32⟩
  | .hbm, ⟨14, _⟩ => ⟨S8192x8x256, .f32⟩
  | .hbm, ⟨15, _⟩ => ⟨S8x8192x256, .f32⟩
  | .hbm, ⟨16, _⟩ => ⟨S8x8192x256, .bf16⟩
  | .hbm, ⟨17, _⟩ => ⟨S8192x1x64, .f32⟩
  | .hbm, ⟨18, _⟩ => ⟨S8192x8x64, .f32⟩
  | .hbm, ⟨19, _⟩ => ⟨S_, .f32⟩
  | .hbm, ⟨20, _⟩ => ⟨S8192x8x64, .f32⟩
  | .hbm, ⟨21, _⟩ => ⟨S8192x8x256, .f32⟩
  | .hbm, ⟨22, _⟩ => ⟨S8x8192x256, .f32⟩
  | .hbm, ⟨23, _⟩ => ⟨S8x8192x256, .bf16⟩
  | .hbm, ⟨24, _⟩ => ⟨S8x8192x128, .f32⟩
  | .hbm, ⟨25, _⟩ => ⟨S_, .f32⟩
  | .hbm, ⟨26, _⟩ => ⟨S8x8192x128, .f32⟩
  | .hbm, ⟨27, _⟩ => ⟨S8x8192x256, .f32⟩
  | .hbm, ⟨28, _⟩ => ⟨S8x8192x256, .bf16⟩
  | .hbm, ⟨29, _⟩ => ⟨S8192x8x128, .f32⟩
  | .hbm, ⟨30, _⟩ => ⟨S8x8192x128, .f32⟩
  | .hbm, ⟨31, _⟩ => ⟨S8x8192x8192, .f32⟩
  | .hbm, ⟨32, _⟩ => ⟨S8192x8192x8, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x128, .f32⟩
  | .hbm, ⟨50, _⟩ => ⟨S8x8192x1, .f32⟩
  | .hbm, ⟨51, _⟩ => ⟨S8x8192x1, .f32⟩
  | .hbm, ⟨52, _⟩ => ⟨S8x8192x1, .f32⟩
  | .hbm, ⟨53, _⟩ => ⟨S8x8192x1, .f32⟩
  | .hbm, ⟨54, _⟩ => ⟨S8x8192x128, .f32⟩
  | .hbm, ⟨55, _⟩ => ⟨S8x8192x128, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x128, .f32⟩
  | .hbm, ⟨60, _⟩ => ⟨S8x8192x128, .bf16⟩
  | .hbm, ⟨61, _⟩ => ⟨S8x8192x256, .f32⟩
  | .hbm, ⟨62, _⟩ => ⟨S8x8192x256, .f32⟩
  | .hbm, ⟨63, _⟩ => ⟨S8x8192x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x8192x256, .bf16⟩
  | .local _ .vmem, ⟨9, _⟩ => ⟨S1x8192x256, .bf16⟩
  | .local _ .vmem, ⟨10, _⟩ => ⟨S1x8192x256, .bf16⟩
  | .local _ .vmem, ⟨11, _⟩ => ⟨S1x8192x256, .bf16⟩
  | .local _ .vmem, ⟨12, _⟩ => ⟨S1x1024x256, .f32⟩
  | .local _ .vmem, ⟨13, _⟩ => ⟨S1x1024x256, .f32⟩
  | .local _ .vmem, ⟨14, _⟩ => ⟨S1x8192x256, .f32⟩
  | .local _ .vmem, ⟨15, _⟩ => ⟨S1x8192x256, .f32⟩
  | .local _ .vmem, ⟨16, _⟩ => ⟨S1x8192x128, .f32⟩
  | .local _ .vmem, ⟨17, _⟩ => ⟨S1x8192x128, .f32⟩
  | .local _ .vmem, ⟨18, _⟩ => ⟨S1024x256, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 : BitVec 32 :=
  let c0_i32_14 : BitVec 32 := 0#32
  let c512_i32 : BitVec 32 := 512#32
  let v17 : BitVec 32 := Scalar.muli c0_i32_14 c512_i32
  v17
def k0_off1 (c0_i32_14 : BitVec 32) : Fin 3 → Nat :=
  let c0_15 : Index := 0#32
  let c512_i32 : BitVec 32 := 512#32
  let v17 : BitVec 32 := Scalar.muli c0_i32_14 c512_i32
  let v18 : BitVec 32 := v17
  let v19 : Index := Scalar.indexCast v18
  let c0_16 : Index := 0#32
  ![0, v19.toNat, 0]
def k0_mult2 : BitVec 32 :=
  let c0_i32_14 : BitVec 32 := 0#32
  let c512_i32_18 : BitVec 32 := 512#32
  let v23 : BitVec 32 := Scalar.muli c0_i32_14 c512_i32_18
  v23
def k0_off2 (c0_i32_14 : BitVec 32) : Fin 3 → Nat :=
  let c0_19 : Index := 0#32
  let c512_i32_18 : BitVec 32 := 512#32
  let v23 : BitVec 32 := Scalar.muli c0_i32_14 c512_i32_18
  let v24 : BitVec 32 := v23
  let v25 : Index := Scalar.indexCast v24
  let c0_20 : Index := 0#32
  ![0, v25.toNat, 0]
def k0_mult3 : BitVec 32 :=
  let c0_i32_14 : BitVec 32 := 0#32
  let c512_i32_22 : BitVec 32 := 512#32
  let v34 : BitVec 32 := Scalar.muli c0_i32_14 c512_i32_22
  v34
def k0_off3 (c0_i32_14 : BitVec 32) : Fin 3 → Nat :=
  let c0_23 : Index := 0#32
  let c512_i32_22 : BitVec 32 := 512#32
  let v34 : BitVec 32 := Scalar.muli c0_i32_14 c512_i32_22
  let v35 : BitVec 32 := v34
  let v36 : Index := Scalar.indexCast v35
  let c0_24 : Index := 0#32
  ![0, v36.toNat, 0]
def k0_mult4 : BitVec 32 :=
  let c0_i32_14 : BitVec 32 := 0#32
  let c512_i32_28 : BitVec 32 := 512#32
  let v46 : BitVec 32 := Scalar.muli c0_i32_14 c512_i32_28
  v46
def k0_mult5 : BitVec 32 :=
  let c0_i32_14 : BitVec 32 := 0#32
  let c512_i32_36 : BitVec 32 := 512#32
  let v58 : BitVec 32 := Scalar.muli c0_i32_14 c512_i32_36
  v58
def k0_mult6 : BitVec 32 :=
  let c1_i32 : BitVec 32 := 1#32
  let c512_i32_42 : BitVec 32 := 512#32
  let v68 : BitVec 32 := Scalar.muli c1_i32 c512_i32_42
  v68
def k0_mult7 : BitVec 32 :=
  let c1_i32 : BitVec 32 := 1#32
  let c512_i32_46 : BitVec 32 := 512#32
  let v74 : BitVec 32 := Scalar.muli c1_i32 c512_i32_46
  v74
def k0_mult8 : BitVec 32 :=
  let c1_i32 : BitVec 32 := 1#32
  let c512_i32_50 : BitVec 32 := 512#32
  let v85 : BitVec 32 := Scalar.muli c1_i32 c512_i32_50
  v85
def k0_mult9 : BitVec 32 :=
  let c1_i32 : BitVec 32 := 1#32
  let c512_i32_56 : BitVec 32 := 512#32
  let v97 : BitVec 32 := Scalar.muli c1_i32 c512_i32_56
  v97
def k0_mult10 : BitVec 32 :=
  let c1_i32 : BitVec 32 := 1#32
  let c512_i32_64 : BitVec 32 := 512#32
  let v109 : BitVec 32 := Scalar.muli c1_i32 c512_i32_64
  v109
def k0_mult11 : BitVec 32 :=
  let c2_i32 : BitVec 32 := 2#32
  let c512_i32_70 : BitVec 32 := 512#32
  let v119 : BitVec 32 := Scalar.muli c2_i32 c512_i32_70
  v119
def k0_mult12 : BitVec 32 :=
  let c2_i32 : BitVec 32 := 2#32
  let c512_i32_74 : BitVec 32 := 512#32
  let v125 : BitVec 32 := Scalar.muli c2_i32 c512_i32_74
  v125
def k0_mult13 : BitVec 32 :=
  let c2_i32 : BitVec 32 := 2#32
  let c512_i32_78 : BitVec 32 := 512#32
  let v136 : BitVec 32 := Scalar.muli c2_i32 c512_i32_78
  v136
def k0_mult14 : BitVec 32 :=
  let c2_i32 : BitVec 32 := 2#32
  let c512_i32_84 : BitVec 32 := 512#32
  let v148 : BitVec 32 := Scalar.muli c2_i32 c512_i32_84
  v148
def k0_mult15 : BitVec 32 :=
  let c2_i32 : BitVec 32 := 2#32
  let c512_i32_92 : BitVec 32 := 512#32
  let v160 : BitVec 32 := Scalar.muli c2_i32 c512_i32_92
  v160
def k0_mult16 : BitVec 32 :=
  let c3_i32 : BitVec 32 := 3#32
  let c512_i32_98 : BitVec 32 := 512#32
  let v170 : BitVec 32 := Scalar.muli c3_i32 c512_i32_98
  v170
def k0_mult17 : BitVec 32 :=
  let c3_i32 : BitVec 32 := 3#32
  let c512_i32_102 : BitVec 32 := 512#32
  let v176 : BitVec 32 := Scalar.muli c3_i32 c512_i32_102
  v176
def k0_mult18 : BitVec 32 :=
  let c3_i32 : BitVec 32 := 3#32
  let c512_i32_106 : BitVec 32 := 512#32
  let v187 : BitVec 32 := Scalar.muli c3_i32 c512_i32_106
  v187
def k0_mult19 : BitVec 32 :=
  let c3_i32 : BitVec 32 := 3#32
  let c512_i32_112 : BitVec 32 := 512#32
  let v199 : BitVec 32 := Scalar.muli c3_i32 c512_i32_112
  v199
def k0_mult20 : BitVec 32 :=
  let c3_i32 : BitVec 32 := 3#32
  let c512_i32_120 : BitVec 32 := 512#32
  let v211 : BitVec 32 := Scalar.muli c3_i32 c512_i32_120
  v211
def k0_mult21 : BitVec 32 :=
  let c4_i32 : BitVec 32 := 4#32
  let c512_i32_126 : BitVec 32 := 512#32
  let v221 : BitVec 32 := Scalar.muli c4_i32 c512_i32_126
  v221
def k0_mult22 : BitVec 32 :=
  let c4_i32 : BitVec 32 := 4#32
  let c512_i32_130 : BitVec 32 := 512#32
  let v227 : BitVec 32 := Scalar.muli c4_i32 c512_i32_130
  v227
def k0_mult23 : BitVec 32 :=
  let c4_i32 : BitVec 32 := 4#32
  let c512_i32_134 : BitVec 32 := 512#32
  let v238 : BitVec 32 := Scalar.muli c4_i32 c512_i32_134
  v238
def k0_mult24 : BitVec 32 :=
  let c4_i32 : BitVec 32 := 4#32
  let c512_i32_140 : BitVec 32 := 512#32
  let v250 : BitVec 32 := Scalar.muli c4_i32 c512_i32_140
  v250
def k0_mult25 : BitVec 32 :=
  let c4_i32 : BitVec 32 := 4#32
  let c512_i32_148 : BitVec 32 := 512#32
  let v262 : BitVec 32 := Scalar.muli c4_i32 c512_i32_148
  v262
def k0_mult26 : BitVec 32 :=
  let c5_i32 : BitVec 32 := 5#32
  let c512_i32_154 : BitVec 32 := 512#32
  let v272 : BitVec 32 := Scalar.muli c5_i32 c512_i32_154
  v272
def k0_mult27 : BitVec 32 :=
  let c5_i32 : BitVec 32 := 5#32
  let c512_i32_158 : BitVec 32 := 512#32
  let v278 : BitVec 32 := Scalar.muli c5_i32 c512_i32_158
  v278
def k0_mult28 : BitVec 32 :=
  let c5_i32 : BitVec 32 := 5#32
  let c512_i32_162 : BitVec 32 := 512#32
  let v289 : BitVec 32 := Scalar.muli c5_i32 c512_i32_162
  v289
def k0_mult29 : BitVec 32 :=
  let c5_i32 : BitVec 32 := 5#32
  let c512_i32_168 : BitVec 32 := 512#32
  let v301 : BitVec 32 := Scalar.muli c5_i32 c512_i32_168
  v301
def k0_mult30 : BitVec 32 :=
  let c5_i32 : BitVec 32 := 5#32
  let c512_i32_176 : BitVec 32 := 512#32
  let v313 : BitVec 32 := Scalar.muli c5_i32 c512_i32_176
  v313
def k0_mult31 : BitVec 32 :=
  let c6_i32 : BitVec 32 := 6#32
  let c512_i32_182 : BitVec 32 := 512#32
  let v323 : BitVec 32 := Scalar.muli c6_i32 c512_i32_182
  v323
def k0_mult32 : BitVec 32 :=
  let c6_i32 : BitVec 32 := 6#32
  let c512_i32_186 : BitVec 32 := 512#32
  let v329 : BitVec 32 := Scalar.muli c6_i32 c512_i32_186
  v329
def k0_mult33 : BitVec 32 :=
  let c6_i32 : BitVec 32 := 6#32
  let c512_i32_190 : BitVec 32 := 512#32
  let v340 : BitVec 32 := Scalar.muli c6_i32 c512_i32_190
  v340
def k0_mult34 : BitVec 32 :=
  let c6_i32 : BitVec 32 := 6#32
  let c512_i32_196 : BitVec 32 := 512#32
  let v352 : BitVec 32 := Scalar.muli c6_i32 c512_i32_196
  v352
def k0_mult35 : BitVec 32 :=
  let c6_i32 : BitVec 32 := 6#32
  let c512_i32_204 : BitVec 32 := 512#32
  let v364 : BitVec 32 := Scalar.muli c6_i32 c512_i32_204
  v364
def k0_mult36 : BitVec 32 :=
  let c7_i32 : BitVec 32 := 7#32
  let c512_i32_210 : BitVec 32 := 512#32
  let v374 : BitVec 32 := Scalar.muli c7_i32 c512_i32_210
  v374
def k0_mult37 : BitVec 32 :=
  let c7_i32 : BitVec 32 := 7#32
  let c512_i32_214 : BitVec 32 := 512#32
  let v380 : BitVec 32 := Scalar.muli c7_i32 c512_i32_214
  v380
def k0_mult38 : BitVec 32 :=
  let c7_i32 : BitVec 32 := 7#32
  let c512_i32_218 : BitVec 32 := 512#32
  let v391 : BitVec 32 := Scalar.muli c7_i32 c512_i32_218
  v391
def k0_mult39 : BitVec 32 :=
  let c7_i32 : BitVec 32 := 7#32
  let c512_i32_224 : BitVec 32 := 512#32
  let v403 : BitVec 32 := Scalar.muli c7_i32 c512_i32_224
  v403
def k0_mult40 : BitVec 32 :=
  let c7_i32 : BitVec 32 := 7#32
  let c512_i32_232 : BitVec 32 := 512#32
  let v415 : BitVec 32 := Scalar.muli c7_i32 c512_i32_232
  v415
def k0_mult41 : BitVec 32 :=
  let c8_i32 : BitVec 32 := 8#32
  let c512_i32_238 : BitVec 32 := 512#32
  let v425 : BitVec 32 := Scalar.muli c8_i32 c512_i32_238
  v425
def k0_mult42 : BitVec 32 :=
  let c8_i32 : BitVec 32 := 8#32
  let c512_i32_242 : BitVec 32 := 512#32
  let v431 : BitVec 32 := Scalar.muli c8_i32 c512_i32_242
  v431
def k0_mult43 : BitVec 32 :=
  let c8_i32 : BitVec 32 := 8#32
  let c512_i32_246 : BitVec 32 := 512#32
  let v442 : BitVec 32 := Scalar.muli c8_i32 c512_i32_246
  v442
def k0_mult44 : BitVec 32 :=
  let c8_i32 : BitVec 32 := 8#32
  let c512_i32_252 : BitVec 32 := 512#32
  let v454 : BitVec 32 := Scalar.muli c8_i32 c512_i32_252
  v454
def k0_mult45 : BitVec 32 :=
  let c8_i32 : BitVec 32 := 8#32
  let c512_i32_260 : BitVec 32 := 512#32
  let v466 : BitVec 32 := Scalar.muli c8_i32 c512_i32_260
  v466
def k0_mult46 : BitVec 32 :=
  let c9_i32 : BitVec 32 := 9#32
  let c512_i32_266 : BitVec 32 := 512#32
  let v476 : BitVec 32 := Scalar.muli c9_i32 c512_i32_266
  v476
def k0_mult47 : BitVec 32 :=
  let c9_i32 : BitVec 32 := 9#32
  let c512_i32_270 : BitVec 32 := 512#32
  let v482 : BitVec 32 := Scalar.muli c9_i32 c512_i32_270
  v482
def k0_mult48 : BitVec 32 :=
  let c9_i32 : BitVec 32 := 9#32
  let c512_i32_274 : BitVec 32 := 512#32
  let v493 : BitVec 32 := Scalar.muli c9_i32 c512_i32_274
  v493
def k0_mult49 : BitVec 32 :=
  let c9_i32 : BitVec 32 := 9#32
  let c512_i32_280 : BitVec 32 := 512#32
  let v505 : BitVec 32 := Scalar.muli c9_i32 c512_i32_280
  v505
def k0_mult50 : BitVec 32 :=
  let c9_i32 : BitVec 32 := 9#32
  let c512_i32_288 : BitVec 32 := 512#32
  let v517 : BitVec 32 := Scalar.muli c9_i32 c512_i32_288
  v517
def k0_mult51 : BitVec 32 :=
  let c10_i32 : BitVec 32 := 10#32
  let c512_i32_294 : BitVec 32 := 512#32
  let v527 : BitVec 32 := Scalar.muli c10_i32 c512_i32_294
  v527
def k0_mult52 : BitVec 32 :=
  let c10_i32 : BitVec 32 := 10#32
  let c512_i32_298 : BitVec 32 := 512#32
  let v533 : BitVec 32 := Scalar.muli c10_i32 c512_i32_298
  v533
def k0_mult53 : BitVec 32 :=
  let c10_i32 : BitVec 32 := 10#32
  let c512_i32_302 : BitVec 32 := 512#32
  let v544 : BitVec 32 := Scalar.muli c10_i32 c512_i32_302
  v544
def k0_mult54 : BitVec 32 :=
  let c10_i32 : BitVec 32 := 10#32
  let c512_i32_308 : BitVec 32 := 512#32
  let v556 : BitVec 32 := Scalar.muli c10_i32 c512_i32_308
  v556
def k0_mult55 : BitVec 32 :=
  let c10_i32 : BitVec 32 := 10#32
  let c512_i32_316 : BitVec 32 := 512#32
  let v568 : BitVec 32 := Scalar.muli c10_i32 c512_i32_316
  v568
def k0_mult56 : BitVec 32 :=
  let c11_i32 : BitVec 32 := 11#32
  let c512_i32_322 : BitVec 32 := 512#32
  let v578 : BitVec 32 := Scalar.muli c11_i32 c512_i32_322
  v578
def k0_mult57 : BitVec 32 :=
  let c11_i32 : BitVec 32 := 11#32
  let c512_i32_326 : BitVec 32 := 512#32
  let v584 : BitVec 32 := Scalar.muli c11_i32 c512_i32_326
  v584
def k0_mult58 : BitVec 32 :=
  let c11_i32 : BitVec 32 := 11#32
  let c512_i32_330 : BitVec 32 := 512#32
  let v595 : BitVec 32 := Scalar.muli c11_i32 c512_i32_330
  v595
def k0_mult59 : BitVec 32 :=
  let c11_i32 : BitVec 32 := 11#32
  let c512_i32_336 : BitVec 32 := 512#32
  let v607 : BitVec 32 := Scalar.muli c11_i32 c512_i32_336
  v607
def k0_mult60 : BitVec 32 :=
  let c11_i32 : BitVec 32 := 11#32
  let c512_i32_344 : BitVec 32 := 512#32
  let v619 : BitVec 32 := Scalar.muli c11_i32 c512_i32_344
  v619
def k0_mult61 : BitVec 32 :=
  let c12_i32 : BitVec 32 := 12#32
  let c512_i32_350 : BitVec 32 := 512#32
  let v629 : BitVec 32 := Scalar.muli c12_i32 c512_i32_350
  v629
def k0_mult62 : BitVec 32 :=
  let c12_i32 : BitVec 32 := 12#32
  let c512_i32_354 : BitVec 32 := 512#32
  let v635 : BitVec 32 := Scalar.muli c12_i32 c512_i32_354
  v635
def k0_mult63 : BitVec 32 :=
  let c12_i32 : BitVec 32 := 12#32
  let c512_i32_358 : BitVec 32 := 512#32
  let v646 : BitVec 32 := Scalar.muli c12_i32 c512_i32_358
  v646
def k0_mult64 : BitVec 32 :=
  let c12_i32 : BitVec 32 := 12#32
  let c512_i32_364 : BitVec 32 := 512#32
  let v658 : BitVec 32 := Scalar.muli c12_i32 c512_i32_364
  v658
def k0_mult65 : BitVec 32 :=
  let c12_i32 : BitVec 32 := 12#32
  let c512_i32_372 : BitVec 32 := 512#32
  let v670 : BitVec 32 := Scalar.muli c12_i32 c512_i32_372
  v670
def k0_mult66 : BitVec 32 :=
  let c13_i32 : BitVec 32 := 13#32
  let c512_i32_378 : BitVec 32 := 512#32
  let v680 : BitVec 32 := Scalar.muli c13_i32 c512_i32_378
  v680
def k0_mult67 : BitVec 32 :=
  let c13_i32 : BitVec 32 := 13#32
  let c512_i32_382 : BitVec 32 := 512#32
  let v686 : BitVec 32 := Scalar.muli c13_i32 c512_i32_382
  v686
def k0_mult68 : BitVec 32 :=
  let c13_i32 : BitVec 32 := 13#32
  let c512_i32_386 : BitVec 32 := 512#32
  let v697 : BitVec 32 := Scalar.muli c13_i32 c512_i32_386
  v697
def k0_mult69 : BitVec 32 :=
  let c13_i32 : BitVec 32 := 13#32
  let c512_i32_392 : BitVec 32 := 512#32
  let v709 : BitVec 32 := Scalar.muli c13_i32 c512_i32_392
  v709
def k0_mult70 : BitVec 32 :=
  let c13_i32 : BitVec 32 := 13#32
  let c512_i32_400 : BitVec 32 := 512#32
  let v721 : BitVec 32 := Scalar.muli c13_i32 c512_i32_400
  v721
def k0_mult71 : BitVec 32 :=
  let c14_i32 : BitVec 32 := 14#32
  let c512_i32_406 : BitVec 32 := 512#32
  let v731 : BitVec 32 := Scalar.muli c14_i32 c512_i32_406
  v731
def k0_mult72 : BitVec 32 :=
  let c14_i32 : BitVec 32 := 14#32
  let c512_i32_410 : BitVec 32 := 512#32
  let v737 : BitVec 32 := Scalar.muli c14_i32 c512_i32_410
  v737
def k0_mult73 : BitVec 32 :=
  let c14_i32 : BitVec 32 := 14#32
  let c512_i32_414 : BitVec 32 := 512#32
  let v748 : BitVec 32 := Scalar.muli c14_i32 c512_i32_414
  v748
def k0_mult74 : BitVec 32 :=
  let c14_i32 : BitVec 32 := 14#32
  let c512_i32_420 : BitVec 32 := 512#32
  let v760 : BitVec 32 := Scalar.muli c14_i32 c512_i32_420
  v760
def k0_mult75 : BitVec 32 :=
  let c14_i32 : BitVec 32 := 14#32
  let c512_i32_428 : BitVec 32 := 512#32
  let v772 : BitVec 32 := Scalar.muli c14_i32 c512_i32_428
  v772
def k0_mult76 : BitVec 32 :=
  let c15_i32 : BitVec 32 := 15#32
  let c512_i32_434 : BitVec 32 := 512#32
  let v782 : BitVec 32 := Scalar.muli c15_i32 c512_i32_434
  v782
def k0_mult77 : BitVec 32 :=
  let c15_i32 : BitVec 32 := 15#32
  let c512_i32_438 : BitVec 32 := 512#32
  let v788 : BitVec 32 := Scalar.muli c15_i32 c512_i32_438
  v788
def k0_mult78 : BitVec 32 :=
  let c15_i32 : BitVec 32 := 15#32
  let c512_i32_442 : BitVec 32 := 512#32
  let v799 : BitVec 32 := Scalar.muli c15_i32 c512_i32_442
  v799
def k0_mult79 : BitVec 32 :=
  let c15_i32 : BitVec 32 := 15#32
  let c512_i32_448 : BitVec 32 := 512#32
  let v811 : BitVec 32 := Scalar.muli c15_i32 c512_i32_448
  v811
def k0_mult80 : BitVec 32 :=
  let c15_i32 : BitVec 32 := 15#32
  let c512_i32_456 : BitVec 32 := 512#32
  let v823 : BitVec 32 := Scalar.muli c15_i32 c512_i32_456
  v823
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8192x1024 : Shape := ⟨2, ![8192, 1024]⟩
abbrev S8192x1x64 : Shape := ⟨3, ![8192, 1, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩
abbrev S8192x8x256 : Shape := ⟨3, ![8192, 8, 256]⟩
abbrev S8x8192x256 : Shape := ⟨3, ![8, 8192, 256]⟩

abbrev nBuf : Space → Nat
  | .hbm => 99
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8192x1024, .f32⟩
  | .hbm, ⟨6, _⟩ => ⟨S8192x1x64, .f32⟩
  | .hbm, ⟨7, _⟩ => ⟨S8192x8x64, .f32⟩
  | .hbm, ⟨8, _⟩ => ⟨S8x8192x8192, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .i1⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .i1⟩
  | .hbm, ⟨28, _⟩ => ⟨S_, .f32⟩
  | .hbm, ⟨29, _⟩ => ⟨S8x8192, .f32⟩
  | .hbm, ⟨30, _⟩ => ⟨S8x8192, .i1⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x128x8192, .f32⟩
  | .hbm, ⟨53, _⟩ => ⟨S8192x8x128, .f32⟩
  | .hbm, ⟨54, _⟩ => ⟨S8192x1024, .f32⟩
  | .hbm, ⟨55, _⟩ => ⟨S8192x8x128, .f32⟩
  | .hbm, ⟨56, _⟩ => ⟨S8x128x8192, .f32⟩
  | .hbm, ⟨57, _⟩ => ⟨S8x8192x8192, .f32⟩
  | .hbm, ⟨58, _⟩ => ⟨S8x128x8192, .f32⟩
  | .hbm, ⟨59, _⟩ => ⟨S8192x8x128, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192x8192, .f32⟩
  | .hbm, ⟨76, _⟩ => ⟨S8x8192x8192, .f32⟩
  | .hbm, ⟨77, _⟩ => ⟨S8x8192x64, .f32⟩
  | .hbm, ⟨78, _⟩ => ⟨S8192x8x64, .f32⟩
  | .hbm, ⟨79, _⟩ => ⟨S8x8192x64, .f32⟩
  | .hbm, ⟨80, _⟩ => ⟨S8192x8x64, .f32⟩
  | .hbm, ⟨81, _⟩ => ⟨S8x8192x128, .f32⟩
  | .hbm, ⟨82, _⟩ => ⟨S8192x8x128, .f32⟩
  | .hbm, ⟨83, _⟩ => ⟨S8x8192x128, .f32⟩
  | .hbm, ⟨84, _⟩ => ⟨S8192x8x128, .f32⟩
  | .hbm, ⟨85, _⟩ => ⟨S_, .f32⟩
  | .hbm, ⟨86, _⟩ => ⟨S8192x8x64, .f32⟩
  | .hbm, ⟨87, _⟩ => ⟨S8192x8x256, .f32⟩
  | .hbm, ⟨88, _⟩ => ⟨S_, .f32⟩
  | .hbm, ⟨89, _⟩ => ⟨S8192x8x256, .f32⟩
  | .hbm, ⟨90, _⟩ => ⟨S8192x8x256, .f32⟩
  | .hbm, ⟨91, _⟩ => ⟨S8192x8x256, .f32⟩
  | .hbm, ⟨92, _⟩ => ⟨S_, .f32⟩
  | .hbm, ⟨93, _⟩ => ⟨S_, .f32⟩
  | .hbm, ⟨94, _⟩ => ⟨S8192x8x256, .f32⟩
  | .hbm, ⟨95, _⟩ => ⟨S8192x8x256, .f32⟩
  | .hbm, ⟨96, _⟩ => ⟨S8x8192x256, .f32⟩
  | .hbm, ⟨97, _⟩ => ⟨S8x8192x256, .f32⟩
  | .hbm, ⟨98, _⟩ => ⟨S8x8192x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Ff1Relu2.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1Relu2RefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ff2Dgrad.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x2048, .bf16⟩
  | .hbm, ⟨10, _⟩ => ⟨S8192x2048, .bf16⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DgradRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Ff2Wgrad.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x2048, .bf16⟩
  | .hbm, ⟨11, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2WgradRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Ff1Wgrad.lean ====
abbrev S8192x2048 : Shape := ⟨2, ![8192, 2048]⟩
abbrev S2048x8192 : Shape := ⟨2, ![2048, 8192]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x2048, .bf16⟩
  | .hbm, ⟨4, _⟩ => ⟨S8192x8192, .bf16⟩
  | .hbm, ⟨5, _⟩ => ⟨S8x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1WgradRefIdeal.lean ====
abbrev S8192x2048 : Shape := ⟨2, ![8192, 2048]⟩
abbrev S2048x8192 : Shape := ⟨2, ![2048, 8192]⟩
abbrev S8192x8192 : Shape := ⟨2, ![8192, 8192]⟩
abbrev S2048x8x1024 : Shape := ⟨3, ![2048, 8, 1024]⟩
abbrev S8x2048x1024 : Shape := ⟨3, ![8, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ff1DgradLn1.lean ====
abbrev S8192x2048 : Shape := ⟨2, ![8192, 2048]⟩
abbrev S1x2048 : Shape := ⟨2, ![1, 2048]⟩
abbrev S2048x8192 : Shape := ⟨2, ![2048, 8192]⟩
abbrev S8192x8192 : Shape := ⟨2, ![8192, 8192]⟩
abbrev S2048x8x1024 : Shape := ⟨3, ![2048, 8, 1024]⟩
abbrev S8x2048x1024 : Shape := ⟨3, ![8, 2048, 1024]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .bf16⟩
  | .hbm, ⟨7, _⟩ => ⟨S2048x8x1024, .f32⟩
  | .hbm, ⟨8, _⟩ => ⟨S8x2048x1024, .f32⟩
  | .hbm, ⟨9, _⟩ => ⟨S8x2048x1024, .bf16⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![16, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_10 : BitVec 32 := 0#32
  let v16 : BitVec 1 := Scalar.cmpi .eq arg0 c0_i32_10
  let v42 : BitVec 32 := Scalar.extui v16
  let c0_i32_24 : BitVec 32 := 0#32
  let v43 : BitVec 1 := Scalar.cmpi .ne v42 c0_i32_24
  v43

def k0_cond4 (i : grid0.Coords) : BitVec 1 :=
  let arg0 : BitVec 32 := BitVec.ofNat 32 (i 0).val
  let c0_i32_10 : BitVec 32 := 0#32
  let v16 : BitVec 1 := Scalar.cmpi .eq arg0 c0_i32_10
  let v_true : BitVec 1 := 1#1
  let v44 : BitVec 1 := Scalar.xori v16 v_true
  let v45 : BitVec 32 := Scalar.extui v44
  let c0_i32_25 : BitVec 32 := 0#32
  let v46 : BitVec 1 := Scalar.cmpi .ne v45 c0_i32_25
  v46

def k0_cond5 (i : grid0.Coords) : BitVec 1 :=
  let arg0 : BitVec 32 := BitVec.ofNat 32 (i 0).val
  let c0_i32_10 : BitVec 32 := 0#32
  let v16 : BitVec 1 := Scalar.cmpi .eq arg0 c0_i32_10
  let v49 : BitVec 32 := Scalar.extui v16
  let c0_i32_27 : BitVec 32 := 0#32
  let v50 : BitVec 1 := Scalar.cmpi .ne v49 c0_i32_27
  v50

def k0_cond6 (i : grid0.Coords) : BitVec 1 :=
  let arg0 : BitVec 32 := BitVec.ofNat 32 (i 0).val
  let c0_i32_10 : BitVec 32 := 0#32
  let v16 : BitVec 1 := Scalar.cmpi .eq arg0 c0_i32_10
  let true_28 : BitVec 1 := 1#1
  let v51 : BitVec 1 := Scalar.xori v16 true_28
  let v52 : BitVec 32 := Scalar.extui v51
  let c0_i32_29 : BitVec 32 := 0#32
  let v53 : BitVec 1 := Scalar.cmpi .ne v52 c0_i32_29
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Ff1DgradLn1RefIdeal.lean ====
abbrev S8192x2048 : Shape := ⟨2, ![8192, 2048]⟩
abbrev S1x2048 : Shape := ⟨2, ![1, 2048]⟩
abbrev S2048x8192 : Shape := ⟨2, ![2048, 8192]⟩
abbrev S8192x8192 : Shape := ⟨2, ![8192, 8192]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x8192, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x2048, .f32⟩
  | .hbm, ⟨89, _⟩ => ⟨S8192x2048, .f32⟩
  | .hbm, ⟨90, _⟩ => ⟨S8192x2048, .bf16⟩
  | .hbm, ⟨91, _⟩ => ⟨S1x2048, .f32⟩
  | .hbm, ⟨92, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== InDgradLnIn.lean ====
abbrev S8192x2048 : Shape := ⟨2, ![8192, 2048]⟩
abbrev S1x2048 : Shape := ⟨2, ![1, 2048]⟩
abbrev S2048x3200 : Shape := ⟨2, ![2048, 3200]⟩
abbrev S8192x3200 : Shape := ⟨2, ![8192, 3200]⟩
abbrev S512x640 : Shape := ⟨2, ![512, 640]⟩
abbrev S2048x640 : Shape := ⟨2, ![2048, 640]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x3200, .f32⟩
  | .hbm, ⟨4, _⟩ => ⟨S8192x2048, .f32⟩
  | .hbm, ⟨5, _⟩ => ⟨S8192x3200, .f32⟩
  | .hbm, ⟨6, _⟩ => ⟨S8192x3200, .bf16⟩
  | .hbm, ⟨7, _⟩ => ⟨S2048x3200, .bf16⟩
  | .hbm, ⟨8, _⟩ => ⟨S8192x2048, .f32⟩
  | .hbm, ⟨9, _⟩ => ⟨S1x2048, .f32⟩
  | .hbm, ⟨10, _⟩ => ⟨S1x2048, .f32⟩
  | .local _ .vmem, ⟨0, _⟩ => ⟨S512x640, .bf16⟩
  | .local _ .vmem, ⟨1, _⟩ => ⟨S512x640, .bf16⟩
  | .local _ .vmem, ⟨2, _⟩ => ⟨S2048x640, .bf16⟩
  | .local _ .vmem, ⟨3, _⟩ => ⟨S2048x640, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v42 : BitVec 32 := Scalar.extui v16
  let c0_i32_23 : BitVec 32 := 0#32
  let v43 : BitVec 1 := Scalar.cmpi .ne v42 c0_i32_23
  v43

def k0_cond4 (i : grid0.Coords) : BitVec 1 :=
  let arg0 : BitVec 32 := BitVec.ofNat 32 (i 0).val
  let c0_i32_9 : BitVec 32 := 0#32
  let v16 : BitVec 1 := Scalar.cmpi .eq arg0 c0_i32_9
  let v_true : BitVec 1 := 1#1
  let v44 : BitVec 1 := Scalar.xori v16 v_true
  let v45 : BitVec 32 := Scalar.extui v44
  let c0_i32_24 : BitVec 32 := 0#32
  let v46 : BitVec 1 := Scalar.cmpi .ne v45 c0_i32_24
  v46

def k0_cond5 (i : grid0.Coords) : BitVec 1 :=
  let arg0 : BitVec 32 := BitVec.ofNat 32 (i 0).val
  let c0_i32_9 : BitVec 32 := 0#32
  let v16 : BitVec 1 := Scalar.cmpi .eq arg0 c0_i32_9
  let v49 : BitVec 32 := Scalar.extui v16
  let c0_i32_26 : BitVec 32 := 0#32
  let v50 : BitVec 1 := Scalar.cmpi .ne v49 c0_i32_26
  v50

def k0_cond6 (i : grid0.Coords) : BitVec 1 :=
  let arg0 : BitVec 32 := BitVec.ofNat 32 (i 0).val
  let c0_i32_9 : BitVec 32 := 0#32
  let v16 : BitVec 1 := Scalar.cmpi .eq arg0 c0_i32_9
  let true_27 : BitVec 1 := 1#1
  let v51 : BitVec 1 := Scalar.xori v16 true_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== InDgradLnInRefIdeal.lean ====
abbrev S8192x2048 : Shape := ⟨2, ![8192, 2048]⟩
abbrev S1x2048 : Shape := ⟨2, ![1, 2048]⟩
abbrev S2048x3200 : Shape := ⟨2, ![2048, 3200]⟩
abbrev S8192x3200 : Shape := ⟨2, ![8192, 3200]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 92
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x3200, .f32⟩
  | .hbm, ⟨4, _⟩ => ⟨S8192x2048, .f32⟩
  | .hbm, ⟨5, _⟩ => ⟨S8192x3200, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x3200, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x2048, .f32⟩
  | .hbm, ⟨89, _⟩ => ⟨S8192x2048, .f32⟩
  | .hbm, ⟨90, _⟩ => ⟨S1x2048, .f32⟩
  | .hbm, ⟨91, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Ff2Ln2Loss.lean ====
abbrev S8192x2048 : Shape := ⟨2, ![8192, 2048]⟩
abbrev S8192x8192 : Shape := ⟨2, ![8192, 8192]⟩
abbrev S1x2048 : Shape := ⟨2, ![1, 2048]⟩
abbrev S8x128 : Shape := ⟨2, ![8, 128]⟩
abbrev S512x1024 : Shape := ⟨2, ![512, 1024]⟩
abbrev S1024x2048 : Shape := ⟨2, ![1024, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S2048 : Shape := ⟨1, ![2048]⟩

abbrev nBuf : Space → Nat
  | .hbm => 13
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x8192, .bf16⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8x128, .f32⟩
  | .hbm, ⟨11, _⟩ => ⟨S1x2048, .f32⟩
  | .hbm, ⟨12, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S8x128, .f32⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v59 : BitVec 32 := Scalar.extui v16
  let c0_i32_31 : BitVec 32 := 0#32
  let v60 : BitVec 1 := Scalar.cmpi .ne v59 c0_i32_31
  v60

def k0_cond4 (i : grid0.Coords) : BitVec 1 :=
  let arg0 : BitVec 32 := BitVec.ofNat 32 (i 0).val
  let c0_i32_9 : BitVec 32 := 0#32
  let v16 : BitVec 1 := Scalar.cmpi .eq arg0 c0_i32_9
  let v_true : BitVec 1 := 1#1
  let v61 : BitVec 1 := Scalar.xori v16 v_true
  let v62 : BitVec 32 := Scalar.extui v61
  let c0_i32_32 : BitVec 32 := 0#32
  let v63 : BitVec 1 := Scalar.cmpi .ne v62 c0_i32_32
  v63

def k0_cond5 (i : grid0.Coords) : BitVec 1 :=
  let arg0 : BitVec 32 := BitVec.ofNat 32 (i 0).val
  let c0_i32_9 : BitVec 32 := 0#32
  let v16 : BitVec 1 := Scalar.cmpi .eq arg0 c0_i32_9
  let v69 : BitVec 32 := Scalar.extui v16
  let c0_i32_35 : BitVec 32 := 0#32
  let v70 : BitVec 1 := Scalar.cmpi .ne v69 c0_i32_35
  v70

def k0_cond6 (i : grid0.Coords) : BitVec 1 :=
  let arg0 : BitVec 32 := BitVec.ofNat 32 (i 0).val
  let c0_i32_9 : BitVec 32 := 0#32
  let v16 : BitVec 1 := Scalar.cmpi .eq arg0 c0_i32_9
  let true_36 : BitVec 1 := 1#1
  let v71 : BitVec 1 := Scalar.xori v16 true_36
  let v72 : BitVec 32 := Scalar.extui v71
  let c0_i32_37 : BitVec 32 := 0#32
  let v73 : BitVec 1 := Scalar.cmpi .ne v72 c0_i32_37
  v73

def k0_cond7 (i : grid0.Coords) : BitVec 1 :=
  let arg0 : BitVec 32 := BitVec.ofNat 32 (i 0).val
  let c0_i32_9 : BitVec 32 := 0#32
  let v16 : BitVec 1 := Scalar.cmpi .eq arg0 c0_i32_9
  let v76 : BitVec 32 := Scalar.extui v16
  let c0_i32_39 : BitVec 32 := 0#32
  let v77 : BitVec 1 := Scalar.cmpi .ne v76 c0_i32_39
  v77

def k0_cond8 (i : grid0.Coords) : BitVec 1 :=
  let arg0 : BitVec 32 := BitVec.ofNat 32 (i 0).val
  let c0_i32_9 : BitVec 32 := 0#32
  let v16 : BitVec 1 := Scalar.cmpi .eq arg0 c0_i32_9
  let true_40 : BitVec 1 := 1#1
  let v78 : BitVec 1 := Scalar.xori v16 true_40
  let v79 : BitVec 32 := Scalar.extui v78
  let c0_i32_41 : BitVec 32 := 0#32
  let v80 : BitVec 1 := Scalar.cmpi .ne v79 c0_i32_41
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Ff2Ln2LossRefIdeal.lean ====
abbrev S8192x2048 : Shape := ⟨2, ![8192, 2048]⟩
abbrev S8192x8192 : Shape := ⟨2, ![8192, 8192]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩
abbrev S8x128 : Shape := ⟨2, ![8, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S_, .f32⟩
  | .hbm, ⟨74, _⟩ => ⟨S2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x2048, .f32⟩
  | .hbm, ⟨88, _⟩ => ⟨S8192x2048, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x2048, .f32⟩
  | .hbm, ⟨108, _⟩ => ⟨S8192x2048, .f32⟩
  | .hbm, ⟨109, _⟩ => ⟨S8192x2048, .bf16⟩
  | .hbm, ⟨110, _⟩ => ⟨S8x128, .f32⟩
  | .hbm, ⟨111, _⟩ => ⟨S1x2048, .f32⟩
  | .hbm, ⟨112, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_cst_21 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_22 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_cst_24 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== MixLn1.lean ====
abbrev S8192x2048 : Shape := ⟨2, ![8192, 2048]⟩
abbrev S2048x2048 : Shape := ⟨2, ![2048, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .hbm, ⟨8, _⟩ => ⟨S8192x2048, .f32⟩
  | .hbm, ⟨9, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixLn1RefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== HProj.lean ====
abbrev S8192x2048 : Shape := ⟨2, ![8192, 2048]⟩
abbrev S2048x3200 : Shape := ⟨2, ![2048, 3200]⟩
abbrev S8192x3200 : Shape := ⟨2, ![8192, 3200]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3200, .f32⟩
  | .hbm, ⟨2, _⟩ => ⟨S8192x2048, .bf16⟩
  | .hbm, ⟨3, _⟩ => ⟨S2048x3200, .bf16⟩
  | .hbm, ⟨4, _⟩ => ⟨S8192x3200, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HProjRefIdeal.lean ====
abbrev S8192x2048 : Shape := ⟨2, ![8192, 2048]⟩
abbrev S2048x3200 : Shape := ⟨2, ![2048, 3200]⟩
abbrev S8192x3200 : Shape := ⟨2, ![8192, 3200]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3200, .f32⟩
  | .hbm, ⟨2, _⟩ => ⟨S8192x3200, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InWgrad.lean ====
abbrev S8192x2048 : Shape := ⟨2, ![8192, 2048]⟩
abbrev S2048x3200 : Shape := ⟨2, ![2048, 3200]⟩
abbrev S8192x3200 : Shape := ⟨2, ![8192, 3200]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x3200, .f32⟩
  | .hbm, ⟨2, _⟩ => ⟨S8192x3200, .f32⟩
  | .hbm, ⟨3, _⟩ => ⟨S8192x2048, .bf16⟩
  | .hbm, ⟨4, _⟩ => ⟨S8192x3200, .bf16⟩
  | .hbm, ⟨5, _⟩ => ⟨S2048x3200, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgradRefIdeal.lean ====
abbrev S8192x2048 : Shape := ⟨2, ![8192, 2048]⟩
abbrev S2048x3200 : Shape := ⟨2, ![2048, 3200]⟩
abbrev S8192x3200 : Shape := ⟨2, ![8192, 3200]⟩
abbrev S3200x2048 : Shape := ⟨2, ![3200, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3200, .f32⟩
  | .hbm, ⟨2, _⟩ => ⟨S8192x3200, .f32⟩
  | .hbm, ⟨3, _⟩ => ⟨S8192x3200, .f32⟩
  | .hbm, ⟨4, _⟩ => ⟨S3200x2048, .f32⟩
  | .hbm, ⟨5, _⟩ => ⟨S2048x3200, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWgrad.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDgrad.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDgradRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FlashFwd.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩
abbrev S8192x8x256 : Shape := ⟨3, ![8192, 8, 256]⟩
abbrev S8x8192x256 : Shape := ⟨3, ![8, 8192, 256]⟩
abbrev S8192x1x64 : Shape := ⟨3, ![8192, 1, 64]⟩
abbrev S8x8192x128 : Shape := ⟨3, ![8, 8192, 128]⟩
abbrev S8192x1024 : Shape := ⟨2, ![8192, 1024]⟩
abbrev S1x1024x256 : Shape := ⟨3, ![1, 1024, 256]⟩
abbrev S1x8192x256 : Shape := ⟨3, ![1, 8192, 256]⟩
abbrev S1024x128 : Shape := ⟨2, ![1024, 128]⟩
abbrev S1x1024x128 : Shape := ⟨3, ![1, 1024, 128]⟩
abbrev S1024x256 : Shape := ⟨2, ![1024, 256]⟩
abbrev S1x512x256 : Shape := ⟨3, ![1, 512, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 30
  | .vmem => 12
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x8x64, .f32⟩
  | .hbm, ⟨9, _⟩ => ⟨S8192x8x256, .f32⟩
  | .hbm, ⟨10, _⟩ => ⟨S_, .f32⟩
  | .hbm, ⟨11, _⟩ => ⟨S_, .f32⟩
  | .hbm, ⟨12, _⟩ => ⟨S8192x8x256, .f32⟩
  | .hbm, ⟨13, _⟩ => ⟨S8192x8x256, .f32⟩
  | .hbm, ⟨14, _⟩ => ⟨S8x8192x256, .f32⟩
  | .hbm, ⟨15, _⟩ => ⟨S8x8192x256, .bf16⟩
  | .hbm, ⟨16, _⟩ => ⟨S8192x1x64, .f32⟩
  | .hbm, ⟨17, _⟩ => ⟨S8192x8x64, .f32⟩
  | .hbm, ⟨18, _⟩ => ⟨S_, .f32⟩
  | .hbm, ⟨19, _⟩ => ⟨S8192x8x64, .f32⟩
  | .hbm, ⟨20, _⟩ => ⟨S8192x8x256, .f32⟩
  | .hbm, ⟨21, _⟩ => ⟨S8x8192x256, .f32⟩
  | .hbm, ⟨22, _⟩ => ⟨S8x8192x256, .bf16⟩
  | .hbm, ⟨23, _⟩ => ⟨S8x8192x128, .f32⟩
  | .hbm, ⟨24, _⟩ => ⟨S_, .f32⟩
  | .hbm, ⟨25, _⟩ => ⟨S8x8192x128, .f32⟩
  | .hbm, ⟨26, _⟩ => ⟨S8x8192x256, .f32⟩
  | .hbm, ⟨27, _⟩ => ⟨S8x8192x256, .bf16⟩
  | .hbm, ⟨28, _⟩ => ⟨S8192x1024, .bf16⟩
  | .hbm, ⟨29, _⟩ => ⟨S8x8192x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1024x128, .bf16⟩
  | .local _ .vmem, ⟨7, _⟩ => ⟨S1024x128, .bf16⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x256, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c512_i32 : BitVec 32 := 512#32
  let v10 : BitVec 32 := Scalar.muli c0_i32 c512_i32
  v10
def k0_off1 (c0_i32 : BitVec 32) : Fin 3 → Nat :=
  let c0_7 : Index := 0#32
  let c512_i32 : BitVec 32 := 512#32
  let v10 : BitVec 32 := Scalar.muli c0_i32 c512_i32
  let v11 : BitVec 32 := v10
  let v12 : Index := Scalar.indexCast v11
  let c0_8 : Index := 0#32
  ![0, v12.toNat, 0]
def k0_mult2 : BitVec 32 :=
  let c0_i32 : BitVec 32 := 0#32
  let c512_i32_13 : BitVec 32 := 512#32
  let v27 : BitVec 32 := Scalar.muli c0_i32 c512_i32_13
  v27
def k0_mult3 : BitVec 32 :=
  let c1_i32 : BitVec 32 := 1#32
  let c512_i32_23 : BitVec 32 := 512#32
  let v43 : BitVec 32 := Scalar.muli c1_i32 c512_i32_23
  v43
def k0_mult4 : BitVec 32 :=
  let c1_i32 : BitVec 32 := 1#32
  let c512_i32_30 : BitVec 32 := 512#32
  let v60 : BitVec 32 := Scalar.muli c1_i32 c512_i32_30
  v60
def k0_mult5 : BitVec 32 :=
  let c2_i32 : BitVec 32 := 2#32
  let c512_i32_40 : BitVec 32 := 512#32
  let v76 : BitVec 32 := Scalar.muli c2_i32 c512_i32_40
  v76
def k0_mult6 : BitVec 32 :=
  let c2_i32 : BitVec 32 := 2#32
  let c512_i32_47 : BitVec 32 := 512#32
  let v93 : BitVec 32 := Scalar.muli c2_i32 c512_i32_47
  v93
def k0_mult7 : BitVec 32 :=
  let c3_i32 : BitVec 32 := 3#32
  let c512_i32_57 : BitVec 32 := 512#32
  let v109 : BitVec 32 := Scalar.muli c3_i32 c512_i32_57
  v109
def k0_mult8 : BitVec 32 :=
  let c3_i32 : BitVec 32 := 3#32
  let c512_i32_64 : BitVec 32 := 512#32
  let v126 : BitVec 32 := Scalar.muli c3_i32 c512_i32_64
  v126
def k0_mult9 : BitVec 32 :=
  let c4_i32 : BitVec 32 := 4#32
  let c512_i32_74 : BitVec 32 := 512#32
  let v142 : BitVec 32 := Scalar.muli c4_i32 c512_i32_74
  v142
def k0_mult10 : BitVec 32 :=
  let c4_i32 : BitVec 32 := 4#32
  let c512_i32_81 : BitVec 32 := 512#32
  let v159 : BitVec 32 := Scalar.muli c4_i32 c512_i32_81
  v159
def k0_mult11 : BitVec 32 :=
  let c5_i32 : BitVec 32 := 5#32
  let c512_i32_91 : BitVec 32 := 512#32
  let v175 : BitVec 32 := Scalar.muli c5_i32 c512_i32_91
  v175
def k0_mult12 : BitVec 32 :=
  let c5_i32 : BitVec 32 := 5#32
  let c512_i32_98 : BitVec 32 := 512#32
  let v192 : BitVec 32 := Scalar.muli c5_i32 c512_i32_98
  v192
def k0_mult13 : BitVec 32 :=
  let c6_i32 : BitVec 32 := 6#32
  let c512_i32_108 : BitVec 32 := 512#32
  let v208 : BitVec 32 := Scalar.muli c6_i32 c512_i32_108
  v208
def k0_mult14 : BitVec 32 :=
  let c6_i32 : BitVec 32 := 6#32
  let c512_i32_115 : BitVec 32 := 512#32
  let v225 : BitVec 32 := Scalar.muli c6_i32 c512_i32_115
  v225
def k0_mult15 : BitVec 32 :=
  let c7_i32 : BitVec 32 := 7#32
  let c512_i32_125 : BitVec 32 := 512#32
  let v241 : BitVec 32 := Scalar.muli c7_i32 c512_i32_125
  v241
def k0_mult16 : BitVec 32 :=
  let c7_i32 : BitVec 32 := 7#32
  let c512_i32_132 : BitVec 32 := 512#32
  let v258 : BitVec 32 := Scalar.muli c7_i32 c512_i32_132
  v258
def k0_mult17 : BitVec 32 :=
  let c8_i32 : BitVec 32 := 8#32
  let c512_i32_142 : BitVec 32 := 512#32
  let v274 : BitVec 32 := Scalar.muli c8_i32 c512_i32_142
  v274
def k0_mult18 : BitVec 32 :=
  let c8_i32 : BitVec 32 := 8#32
  let c512_i32_149 : BitVec 32 := 512#32
  let v291 : BitVec 32 := Scalar.muli c8_i32 c512_i32_149
  v291
def k0_mult19 : BitVec 32 :=
  let c9_i32 : BitVec 32 := 9#32
  let c512_i32_159 : BitVec 32 := 512#32
  let v307 : BitVec 32 := Scalar.muli c9_i32 c512_i32_159
  v307
def k0_mult20 : BitVec 32 :=
  let c9_i32 : BitVec 32 := 9#32
  let c512_i32_166 : BitVec 32 := 512#32
  let v324 : BitVec 32 := Scalar.muli c9_i32 c512_i32_166
  v324
def k0_mult21 : BitVec 32 :=
  let c10_i32 : BitVec 32 := 10#32
  let c512_i32_176 : BitVec 32 := 512#32
  let v340 : BitVec 32 := Scalar.muli c10_i32 c512_i32_176
  v340
def k0_mult22 : BitVec 32 :=
  let c10_i32 : BitVec 32 := 10#32
  let c512_i32_183 : BitVec 32 := 512#32
  let v357 : BitVec 32 := Scalar.muli c10_i32 c512_i32_183
  v357
def k0_mult23 : BitVec 32 :=
  let c11_i32 : BitVec 32 := 11#32
  let c512_i32_193 : BitVec 32 := 512#32
  let v373 : BitVec 32 := Scalar.muli c11_i32 c512_i32_193
  v373
def k0_mult24 : BitVec 32 :=
  let c11_i32 : BitVec 32 := 11#32
  let c512_i32_200 : BitVec 32 := 512#32
  let v390 : BitVec 32 := Scalar.muli c11_i32 c512_i32_200
  v390
def k0_mult25 : BitVec 32 :=
  let c12_i32 : BitVec 32 := 12#32
  let c512_i32_210 : BitVec 32 := 512#32
  let v406 : BitVec 32 := Scalar.muli c12_i32 c512_i32_210
  v406
def k0_mult26 : BitVec 32 :=
  let c12_i32 : BitVec 32 := 12#32
  let c512_i32_217 : BitVec 32 := 512#32
  let v423 : BitVec 32 := Scalar.muli c12_i32 c512_i32_217
  v423
def k0_mult27 : BitVec 32 :=
  let c13_i32 : BitVec 32 := 13#32
  let c512_i32_227 : BitVec 32 := 512#32
  let v439 : BitVec 32 := Scalar.muli c13_i32 c512_i32_227
  v439
def k0_mult28 : BitVec 32 :=
  let c13_i32 : BitVec 32 := 13#32
  let c512_i32_234 : BitVec 32 := 512#32
  let v456 : BitVec 32 := Scalar.muli c13_i32 c512_i32_234
  v456
def k0_mult29 : BitVec 32 :=
  let c14_i32 : BitVec 32 := 14#32
  let c512_i32_244 : BitVec 32 := 512#32
  let v472 : BitVec 32 := Scalar.muli c14_i32 c512_i32_244
  v472
def k0_mult30 : BitVec 32 :=
  let c14_i32 : BitVec 32 := 14#32
  let c512_i32_251 : BitVec 32 := 512#32
  let v489 : BitVec 32 := Scalar.muli c14_i32 c512_i32_251
  v489
def k0_mult31 : BitVec 32 :=
  let c15_i32 : BitVec 32 := 15#32
  let c512_i32_261 : BitVec 32 := 512#32
  let v505 : BitVec 32 := Scalar.muli c15_i32 c512_i32_261
  v505
def k0_mult32 : BitVec 32 :=
  let c15_i32 : BitVec 32 := 15#32
  let c512_i32_268 : BitVec 32 := 512#32
  let v522 : BitVec 32 := Scalar.muli c15_i32 c512_i32_268
  v522
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdIdeal.lean ====
variable {F : FTy → Type} [FloatOps F] [Named F]
def κ : String → Option EReal := fun
  | "log2_e" => some (((Real.log 2)⁻¹ : ℝ) : EReal)
  | _ => none
-- ==== FlashFwdRefIdeal.lean ====
abbrev S8192x8x128 : Shape := ⟨3, ![8192, 8, 128]⟩
abbrev S8192x8x64 : Shape := ⟨3, ![8192, 8, 64]⟩
abbrev S8192x64 : Shape := ⟨2, ![8192, 64]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8x8192x128 : Shape := ⟨3, ![8, 8192, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x128x8192, .f32⟩
  | .hbm, ⟨27, _⟩ => ⟨S8192x8x128, .f32⟩
  | .hbm, ⟨28, _⟩ => ⟨S8192x1024, .f32⟩
  | .hbm, ⟨29, _⟩ => ⟨S8192x1024, .bf16⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x1, .f32⟩
  | .hbm, ⟨35, _⟩ => ⟨S_, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S8x8192x128, .f32⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== GluBwd.lean ====
abbrev S8192x2048 : Shape := ⟨2, ![8192, 2048]⟩
abbrev S8192x1024 : Shape := ⟨2, ![8192, 1024]⟩
abbrev S512x1024 : Shape := ⟨2, ![512, 1024]⟩
abbrev S512x2048 : Shape := ⟨2, ![512, 2048]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdRefIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== HeadWgrad.lean ====
abbrev S8192x512 : Shape := ⟨2, ![8192, 512]⟩
abbrev S512x2048 : Shape := ⟨2, ![512, 2048]⟩
abbrev S8192x2048 : Shape := ⟨2, ![8192, 2048]⟩
abbrev S8x512x256 : Shape := ⟨3, ![8, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x512, .bf16⟩
  | .hbm, ⟨4, _⟩ => ⟨S8192x2048, .bf16⟩
  | .hbm, ⟨5, _⟩ => ⟨S8x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== HeadWgradRefIdeal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S512x8x256 : Shape := ⟨3, ![512, 8, 256]⟩
abbrev S8x512x256 : Shape := ⟨3, ![8, 512, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S512x8x256, .f32⟩
  | .hbm, ⟨7, _⟩ => ⟨S8x512x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Reals.lean ====
module

public import Idealize.ShloMosaic.Lib.Pipeline.ValueKit
public import Mathlib.Analysis.SpecialFunctions.Pow.Real

@[expose] public section

/-! # Real numbers among the extended reals

Finite inputs keep every value of the two programs finite.  These lemmas say that the operations
met on the way, read at real numbers, are the operations of real arithmetic. -/

noncomputable section

namespace Cert.Flash
open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real entries is the real sum of products. -/
theorem sum_mul_coe {ι : Type*} [Fintype ι] {f g : ι → EReal} {a b : ι → ℝ}
    (hf : ∀ i, f i = (a i : EReal)) (hg : ∀ i, g i = (b i : EReal)) :
    ∑ i, f i * g i = ((∑ i, a i * b i : ℝ) : EReal) := by
  rw [coe_sum]
  exact Finset.sum_congr rfl fun i _ => by rw [hf, hg, EReal.coe_mul]

theorem sum_eq_coe {ι : Type*} [Fintype ι] {f : ι → EReal} {a : ι → ℝ}
    (hf : ∀ i, f i = (a i : EReal)) : ∑ i, f i = ((∑ i, a i : ℝ) : EReal) := by
  rw [coe_sum]
  exact Finset.sum_congr rfl fun i _ => hf i

theorem exp2_coe (r : ℝ) :
    (FloatOps.exp2 (F := Idealize.ShloMosaic.Ideal) (φ := .f32) (r : EReal) : EReal)
      = (((2 : ℝ) ^ r : ℝ) : EReal) := rfl

theorem exp_coe (r : ℝ) :
    (FloatOps.exp (F := Idealize.ShloMosaic.Ideal) (φ := .f32) (r : EReal) : EReal)
      = ((Real.exp r : ℝ) : EReal) := rfl

theorem log_coe {r : ℝ} (h : 0 < r) :
    (FloatOps.log (F := Idealize.ShloMosaic.Ideal) (φ := .f32) (r : EReal) : EReal)
      = ((Real.log r : ℝ) : EReal) := if_neg (not_le.mpr h)

theorem div_coe (x : ℝ) {y : ℝ} (h : y ≠ 0) :
    Idealize.ShloMosaic.Ideal.div (x : EReal) (y : EReal) = ((x / y : ℝ) : EReal) := by
  rw [Idealize.ShloMosaic.Ideal.div, if_neg (by exact_mod_cast h), div_eq_mul_inv, EReal.coe_mul,
    EReal.coe_inv]

/-- A value that grows by `f i` when block `i` is finished and is kept otherwise: from point `q` on, where block 0 has
been finished and `b n` is the last block finished by point `n`, it is the sum over those blocks. -/
theorem kept_sum {N q : ℕ} {v : ∀ n, n < N → EReal} {f : ℕ → ℝ} {b : ℕ → ℕ}
    (first : ∀ h : q < N, v q h = (f 0 : EReal)) (hb : b q = 0)
    (step : ∀ n (h : n + 1 < N), q ≤ n →
      (b (n + 1) = b n + 1
        ∧ ∀ s : ℝ, v n (by omega) = (s : EReal) → v (n + 1) h = ((s + f (b n + 1) : ℝ) : EReal))
      ∨ (b (n + 1) = b n ∧ v (n + 1) h = v n (by omega)))
    (n : ℕ) (h : n < N) (hq : q ≤ n) :
    v n h = ((∑ i ∈ Finset.range (b n + 1), f i : ℝ) : EReal) := by
  induction n, hq using Nat.le_induction with
  | base => rw [first, hb, Finset.sum_range_one]
  | succ n hq ih =>
    rcases step n h hq with ⟨e, k⟩ | ⟨e, k⟩
    · rw [k _ (ih (by omega)), e, Finset.sum_range_succ _ (b n + 1)]
    · rw [k, e, ih (by omega)]

end Cert.Flash
-- ==== Proof.Tile.lean ====
module

public import proofs.«01_k».proof.Proof.Gen.KernelIdeal.Value
public import Idealize.ShloMosaic.Lib.Pipeline.ValueKit
public import Idealize.ShloMosaic.Lib.MatmulPlain
public import proofs.«01_k».proof.Proof.Reals

@[expose] public section
set_option maxRecDepth 16384

/-! # One step of the kernel's loop: a tile of 1024 queries against a tile of 512 keys

The kernel's body holds sixteen copies of one computation, cut into intermediate values
differently each time.  Here the computation is written once, as a function of the blocks it
reads, and read at an element. -/

noncomputable section

namespace Cert.KernelIdeal.Flash
open Cert.KernelIdeal Cert.KernelIdeal.Gen Idealize.ShloMosaic Cert.Flash

/-- The scores of the tile less the saved normaliser, the exponent of two. -/
def etile (x0 : Vec Ideal S1x1024x256 .bf16) (x2 : Vec Ideal S1x1024x128 .f32)
    (xk : Vec Ideal S1x512x256 .bf16) : FVec Ideal S1024x512 .f32 := k0_pay11 x0 x2 xk

/-- The probabilities' gradient of the tile: the rows of the output gradient against the values. -/
def dptile (x1 : Vec Ideal S1x1024x128 .bf16) (xv : Vec Ideal S1x512x128 .bf16) :
    FVec Ideal S1024x512 .f32 := k0_pay10 x1 xv

/-- The scores' gradient of the tile. -/
def dstile (x0 : Vec Ideal S1x1024x256 .bf16) (x1 : Vec Ideal S1x1024x128 .bf16)
    (x2 x3 : Vec Ideal S1x1024x128 .f32)
    (xk : Vec Ideal S1x512x256 .bf16) (xv : Vec Ideal S1x512x128 .bf16) :
    FVec Ideal S1024x512 .bf16 := k0_pay13 (k0_pay8 x3) (dptile x1 xv) (etile x0 x2 xk)

/-- The tile's values' gradient, added to what was there. -/
def dvstep (x0 : Vec Ideal S1x1024x256 .bf16) (x1 : Vec Ideal S1x1024x128 .bf16)
    (x2 : Vec Ideal S1x1024x128 .f32)
    (xk : Vec Ideal S1x512x256 .bf16) (prev : Vec Ideal S1x512x128 .f32) :
    FVec Ideal S1x512x128 .f32 := k0_pay14 (k0_pay6 x1) (etile x0 x2 xk) prev

/-- The tile's keys' gradient, added to what was there. -/
def dkstep (x0 : Vec Ideal S1x1024x256 .bf16) (x1 : Vec Ideal S1x1024x128 .bf16)
    (x2 x3 : Vec Ideal S1x1024x128 .f32)
    (xk : Vec Ideal S1x512x256 .bf16) (xv : Vec Ideal S1x512x128 .bf16)
    (prev : Vec Ideal S1x512x256 .f32) : FVec Ideal S1x512x256 .f32 :=
  k0_pay15 (k0_pay5 x0) (k0_pay8 x3) (dptile x1 xv) (etile x0 x2 xk) prev

/-- The tile's queries' gradient, added to what was there. -/
def dqstep (x0 : Vec Ideal S1x1024x256 .bf16) (x1 : Vec Ideal S1x1024x128 .bf16)
    (x2 x3 : Vec Ideal S1x1024x128 .f32)
    (xk : Vec Ideal S1x512x256 .bf16) (xv : Vec Ideal S1x512x128 .bf16)
    (prev : Vec Ideal S1024x256 .f32) : FVec Ideal S1024x256 .f32 :=
  k0_pay16 (k0_pay8 x3) (dptile x1 xv) (etile x0 x2 xk) prev xk

variable {x0 : Vec Ideal S1x1024x256 .bf16} {x1 : Vec Ideal S1x1024x128 .bf16}
  {x2 x3 : Vec Ideal S1x1024x128 .f32} {xk : Vec Ideal S1x512x256 .bf16}
  {xv : Vec Ideal S1x512x128 .bf16}
  {q : Fin 1024 → Fin 256 → ℝ} {o : Fin 1024 → Fin 128 → ℝ} {ls dl : Fin 1024 → ℝ}
  {k : Fin 512 → Fin 256 → ℝ} {v : Fin 512 → Fin 128 → ℝ}

/-- A probability of the tile, of real entries. -/
def pr (q : Fin 256 → ℝ) (k : Fin 256 → ℝ) (ls : ℝ) : ℝ := (2 : ℝ) ^ ((∑ c, q c * k c) - ls)

/-- The gradient of a score of the tile, of real entries. -/
def dsr (q : Fin 256 → ℝ) (o : Fin 128 → ℝ) (ls dl : ℝ) (k : Fin 256 → ℝ) (v : Fin 128 → ℝ) : ℝ :=
  pr q k ls * ((∑ d, o d * v d) - dl)

theorem dptile_apply (h1 : ∀ r d, x1 (ix3 0 r d) = (o r d : EReal))
    (hv : ∀ s d, xv (ix3 0 s d) = (v s d : EReal)) (r : Fin 1024) (s : Fin 512) :
    dptile x1 xv (ix2 r s) = ((∑ d, o r d * v s d : ℝ) : EReal) := by
  unfold dptile k0_pay10 k0_pay6
  pointwise
  exact sum_mul_coe (h1 r) (hv s)

theorem etile_apply (h0 : ∀ r c, x0 (ix3 0 r c) = (q r c : EReal))
    (h2 : ∀ r d, x2 (ix3 0 r d) = (ls r : EReal))
    (hk : ∀ s c, xk (ix3 0 s c) = (k s c : EReal)) (r : Fin 1024) (s : Fin 512) :
    etile x0 x2 xk (ix2 r s) = (((∑ c, q r c * k s c) - ls r : ℝ) : EReal) := by
  unfold etile k0_pay11 k0_pay5 k0_pay7
  pointwise
  simp only [h2, dite_eq_ite, ite_self]
  rw [EReal.coe_sub, sum_mul_coe (h0 r) (hk s)]

theorem delta_apply (h3 : ∀ r d, x3 (ix3 0 r d) = (dl r : EReal)) (r : Fin 1024) (s : Fin 512) :
    k0_pay8 x3 (ix2 r s) = (dl r : EReal) := by
  unfold k0_pay8
  pointwise
  simp only [h3, dite_eq_ite, ite_self]

theorem dstile_apply (h0 : ∀ r c, x0 (ix3 0 r c) = (q r c : EReal))
    (h1 : ∀ r d, x1 (ix3 0 r d) = (o r d : EReal))
    (h2 : ∀ r d, x2 (ix3 0 r d) = (ls r : EReal))
    (h3 : ∀ r d, x3 (ix3 0 r d) = (dl r : EReal))
    (hk : ∀ s c, xk (ix3 0 s c) = (k s c : EReal))
    (hv : ∀ s d, xv (ix3 0 s d) = (v s d : EReal)) (r : Fin 1024) (s : Fin 512) :
    dstile x0 x1 x2 x3 xk xv (ix2 r s) = (dsr (q r) (o r) (ls r) (dl r) (k s) (v s) : EReal) := by
  unfold dstile k0_pay13 k0_pay12
  pointwise
  rw [etile_apply h0 h2 hk, dptile_apply h1 hv, delta_apply h3, exp2_coe, ← EReal.coe_sub,
    ← EReal.coe_mul]
  rfl

theorem dvstep_apply (h0 : ∀ r c, x0 (ix3 0 r c) = (q r c : EReal))
    (h1 : ∀ r d, x1 (ix3 0 r d) = (o r d : EReal))
    (h2 : ∀ r d, x2 (ix3 0 r d) = (ls r : EReal))
    (hk : ∀ s c, xk (ix3 0 s c) = (k s c : EReal))
    (prev : Vec Ideal S1x512x128 .f32) (s : Fin 512) (d : Fin 128) :
    dvstep x0 x1 x2 xk prev (ix3 0 s d)
      = prev (ix3 0 s d) + ((∑ r, pr (q r) (k s) (ls r) * o r d : ℝ) : EReal) := by
  unfold dvstep k0_pay14 k0_pay12 k0_pay6
  pointwise
  refine congrArg _ (sum_mul_coe (fun r => ?_) (fun r => h1 r d))
  rw [etile_apply h0 h2 hk, exp2_coe]
  rfl

theorem dkstep_apply (h0 : ∀ r c, x0 (ix3 0 r c) = (q r c : EReal))
    (h1 : ∀ r d, x1 (ix3 0 r d) = (o r d : EReal))
    (h2 : ∀ r d, x2 (ix3 0 r d) = (ls r : EReal))
    (h3 : ∀ r d, x3 (ix3 0 r d) = (dl r : EReal))
    (hk : ∀ s c, xk (ix3 0 s c) = (k s c : EReal))
    (hv : ∀ s d, xv (ix3 0 s d) = (v s d : EReal))
    (prev : Vec Ideal S1x512x256 .f32) (s : Fin 512) (c : Fin 256) :
    dkstep x0 x1 x2 x3 xk xv prev (ix3 0 s c)
      = prev (ix3 0 s c)
        + ((∑ r, dsr (q r) (o r) (ls r) (dl r) (k s) (v s) * q r c : ℝ) : EReal) := by
  unfold dkstep k0_pay15 k0_pay5
  rw [show k0_pay13 (k0_pay8 x3) (dptile x1 xv) (etile x0 x2 xk) = dstile x0 x1 x2 x3 xk xv from rfl]
  pointwise
  exact congrArg _ (sum_mul_coe (fun r => dstile_apply h0 h1 h2 h3 hk hv r s) (fun r => h0 r c))

theorem dqstep_apply (h0 : ∀ r c, x0 (ix3 0 r c) = (q r c : EReal))
    (h1 : ∀ r d, x1 (ix3 0 r d) = (o r d : EReal))
    (h2 : ∀ r d, x2 (ix3 0 r d) = (ls r : EReal))
    (h3 : ∀ r d, x3 (ix3 0 r d) = (dl r : EReal))
    (hk : ∀ s c, xk (ix3 0 s c) = (k s c : EReal))
    (hv : ∀ s d, xv (ix3 0 s d) = (v s d : EReal))
    (prev : Vec Ideal S1024x256 .f32) (r : Fin 1024) (c : Fin 256) :
    dqstep x0 x1 x2 x3 xk xv prev (ix2 r c)
      = prev (ix2 r c)
        + ((∑ s, dsr (q r) (o r) (ls r) (dl r) (k s) (v s) * k s c : ℝ) : EReal) := by
  unfold dqstep k0_pay16
  rw [show k0_pay13 (k0_pay8 x3) (dptile x1 xv) (etile x0 x2 xk) = dstile x0 x1 x2 x3 xk xv from rfl]
  pointwise
  exact congrArg _ (sum_mul_coe (fun s => dstile_apply h0 h1 h2 h3 hk hv r s) (fun s => hk s c))

end Cert.KernelIdeal.Flash
-- ==== Proof.Math.lean ====
module

public import proofs.«01_k».proof.Proof.Reals
public import Mathlib.Analysis.SpecialFunctions.Log.Basic
public import Mathlib.Analysis.SpecialFunctions.Pow.Real

@[expose] public section

/-! # The gradient of attention over real numbers

Attention of one head whose scores are the sum of a part without positions and a part with
positions (the keys' rotary part is shared by all heads), and its gradient, written once over the
reals.  Both programs are shown elsewhere to compute these numbers. -/

noncomputable section

namespace Cert.Flash

/-- The scale of the scores, the real number its single precision constant denotes. -/
def S : ℝ := 9686330 * (2 : ℝ) ^ (-27 : ℤ)

theorem S_ne : S ≠ 0 := by unfold S; positivity

theorem ln2_ne : Real.log 2 ≠ 0 := (Real.log_pos (by norm_num)).ne'

/-- The arguments of the two programs, when they are real numbers. -/
structure Args where
  qn : Fin 8192 → Fin 8 → Fin 128 → ℝ
  qr : Fin 8192 → Fin 8 → Fin 64 → ℝ
  kn : Fin 8192 → Fin 8 → Fin 128 → ℝ
  kr : Fin 8192 → Fin 64 → ℝ
  v : Fin 8192 → Fin 8 → Fin 128 → ℝ
  ct : Fin 8192 → Fin 8 → Fin 128 → ℝ

/-- A row of 128 entries, a row of 64 entries and 64 zeros, laid end to end. -/
def cat (x : Fin 128 → ℝ) (y : Fin 64 → ℝ) (c : Fin 256) : ℝ :=
  if h : c.val < 128 then x ⟨c.val, h⟩ else if h : c.val - 128 < 64 then y ⟨c.val - 128, h⟩ else 0

/-- A sum over such a row, part by part. -/
theorem sum_parts (f : Fin 256 → ℝ) :
    ∑ c, f c = (∑ d : Fin 128, f ⟨d, by omega⟩)
      + ((∑ r : Fin 64, f ⟨128 + r, by omega⟩) + ∑ r : Fin 64, f ⟨192 + r, by omega⟩) := by
  refine (Fin.sum_univ_add (a := 128) (b := 128) f).trans (congrArg₂ _ rfl ?_)
  refine (Fin.sum_univ_add (a := 64) (b := 64) fun i => f (Fin.natAdd 128 i)).trans
    (congrArg₂ _ rfl (Finset.sum_congr rfl fun r _ => congrArg f (Fin.ext ?_)))
  simp only [Fin.natAdd]
  omega

/-- The product of two such rows is the sum of the products of their parts. -/
theorem cat_sum (x x' : Fin 128 → ℝ) (y y' : Fin 64 → ℝ) :
    ∑ c, cat x y c * cat x' y' c = (∑ d, x d * x' d) + ∑ r, y r * y' r := by
  rw [sum_parts]
  refine congrArg₂ _ (Finset.sum_congr rfl fun d _ => ?_) ?_
  · simp [cat]
  · rw [show ∑ r : Fin 64, cat x y ⟨192 + r, by omega⟩ * cat x' y' ⟨192 + r, by omega⟩ = 0 from
      Finset.sum_eq_zero fun r _ => by
        rw [cat, dif_neg (show ¬192 + r.val < 128 by omega),
          dif_neg (show ¬192 + r.val - 128 < 64 by omega), zero_mul], add_zero]
    exact Finset.sum_congr rfl fun r _ => by simp [cat]

variable (A : Args) (h : Fin 8)

/-- The scaled score of query `a` against key `b`. -/
def sc (a b : Fin 8192) : ℝ :=
  ((∑ d, A.qn a h d * A.kn b h d) + ∑ r, A.qr a h r * A.kr b r) * S

/-- The attention probability. -/
def P (a b : Fin 8192) : ℝ := Real.exp (sc A h a b) / ∑ b', Real.exp (sc A h a b')

/-- The gradient of a probability. -/
def dP (a b : Fin 8192) : ℝ := ∑ d, A.ct a h d * A.v b h d

/-- The probabilities' gradients of a query, weighted by the probabilities. -/
def dl (a : Fin 8192) : ℝ := ∑ b, P A h a b * dP A h a b

/-- The gradient of a scaled score. -/
def dS (a b : Fin 8192) : ℝ := P A h a b * (dP A h a b - dl A h a)

/-- The values' gradient. -/
def dV (b : Fin 8192) (d : Fin 128) : ℝ := ∑ a, P A h a b * A.ct a h d

/-- The gradient of the queries, before the scale of the scores is put back. -/
def dQ (a : Fin 8192) (c : Fin 256) : ℝ := ∑ b, dS A h a b * cat (A.kn b h) (A.kr b) c

/-- The gradient of the keys, over the logarithm of two. -/
def dK (b : Fin 8192) (c : Fin 256) : ℝ :=
  ∑ a, dS A h a b * (cat (A.qn a h) (A.qr a h) c * (S / Real.log 2))

/-! ## A row's exponentials with a number taken off first -/

/-- The exponential of a score less `M`. -/
def ex (M : ℝ) (a b : Fin 8192) : ℝ := Real.exp (sc A h a b - M)

/-- Their sum over the keys. -/
def ell (M : ℝ) (a : Fin 8192) : ℝ := ∑ b, ex A h M a b

theorem ell_pos (M : ℝ) (a : Fin 8192) : 0 < ell A h M a :=
  Finset.sum_pos (fun _ _ => Real.exp_pos _) ⟨0, Finset.mem_univ _⟩

/-- The probabilities do not depend on the number taken off. -/
theorem ex_div_ell (M : ℝ) (a b : Fin 8192) : ex A h M a b / ell A h M a = P A h a b := by
  unfold ell ex P
  simp only [sub_eq_add_neg, Real.exp_add]
  rw [← Finset.sum_mul, mul_div_mul_right _ _ (Real.exp_pos _).ne']

/-- The scaled query row against the key row is the score over the logarithm of two. -/
theorem cat_score (a b : Fin 8192) :
    ∑ c, cat (A.qn a h) (A.qr a h) c * (S / Real.log 2) * cat (A.kn b h) (A.kr b) c
      = sc A h a b / Real.log 2 := by
  rw [sc, mul_div_assoc, ← cat_sum, Finset.sum_mul]
  exact Finset.sum_congr rfl fun c _ => by ring

/-- The kernel's probability, a power of two of base-two scores and normaliser, is the attention
probability. -/
theorem pow_score (M : ℝ) (a b : Fin 8192) :
    (2 : ℝ) ^ ((∑ c, cat (A.qn a h) (A.qr a h) c * (S / Real.log 2) * cat (A.kn b h) (A.kr b) c)
        - (M + Real.log (ell A h M a)) / Real.log 2) = P A h a b := by
  rw [cat_score, ← ex_div_ell A h M, Real.rpow_def_of_pos (by norm_num), ex,
    show Real.log 2 * (sc A h a b / Real.log 2 - (M + Real.log (ell A h M a)) / Real.log 2)
      = (sc A h a b - M) - Real.log (ell A h M a) by field_simp [ln2_ne]; ring,
    Real.exp_sub, Real.exp_log (ell_pos A h M a)]

/-- The output gradient against the output is the weighted sum of the probabilities' gradients. -/
theorem delta_eq (a : Fin 8192) :
    ∑ d, A.ct a h d * ∑ b, P A h a b * A.v b h d = dl A h a := by
  unfold dl dP
  simp only [Finset.mul_sum]
  rw [Finset.sum_comm]
  exact Finset.sum_congr rfl fun b _ => Finset.sum_congr rfl fun d _ => by ring

/-- The gradient of a score, as differentiating the quotient gives it. -/
theorem grad_score (M : ℝ) (a b : Fin 8192) :
    (dP A h a b / ell A h M a
        + -(∑ b', dP A h a b' * (1 / (ell A h M a * ell A h M a)) * ex A h M a b'))
      * ex A h M a b = dS A h a b := by
  have hl := (ell_pos A h M a).ne'
  unfold dS dl
  have h1 : ∑ b', dP A h a b' * (1 / (ell A h M a * ell A h M a)) * ex A h M a b'
      = (∑ b', P A h a b' * dP A h a b') / ell A h M a := by
    rw [Finset.sum_div]
    refine Finset.sum_congr rfl fun b' _ => ?_
    rw [← ex_div_ell A h M]
    field_simp
  rw [h1, ← ex_div_ell A h M a b]
  field_simp
  ring

end Cert.Flash
-- ==== Proof.Host.lean ====
module

public import proofs.«01_k».proof.Proof.Tile
public import proofs.«01_k».proof.Proof.Math
public import Idealize.ShloMosaic.Lib.StableHlo.ReadAt

@[expose] public section
set_option maxRecDepth 16384

/-! # The arrays the kernel is given

The host code lays the queries, keys, values and output gradient out by heads and computes what the
forward pass saves: the logarithm of a row's normaliser, and the output gradient against the
output.  Here each array is read at an element, for real arguments. -/

noncomputable section

namespace Cert.KernelIdeal.Flash
open Cert.KernelIdeal Cert.KernelIdeal.Gen Idealize.ShloMosaic Cert.Flash
open Idealize.ShloMosaic.TcCoe Idealize.SL.Sem

theorem S_bits : Ideal.ofBits .f32 0x3D93CD3A#32 = (S : EReal) := by
  simp [Ideal.ofBits, Ideal.ieee, -EReal.coe_mul, S]

theorem two_bits : Ideal.ofBits .f32 0x40000000#32 = ((2 : ℝ) : EReal) := by
  simp [Ideal.ofBits, Ideal.ieee, -EReal.coe_mul]; norm_num

theorem ninf_bits : Ideal.ofBits .f32 0xFF800000#32 = (⊥ : EReal) := by
  simp [Ideal.ofBits, Ideal.ieee]

/-! ## The host's operations over any arrays -/

/-- The largest of finitely many real numbers, at least one, is a real number. -/
theorem fold_max_coe {ι : Type*} [Fintype ι] [Nonempty ι] (f : ι → EReal) (g : ι → ℝ)
    (hf : ∀ i, f i = (g i : EReal)) :
    ∃ M : ℝ, Finset.fold max (⊥ : EReal) f Finset.univ = (M : EReal) := by
  classical
  suffices hs : ∀ s : Finset ι, s.Nonempty →
      ∃ M : ℝ, Finset.fold max (⊥ : EReal) f s = (M : EReal) from hs _ Finset.univ_nonempty
  intro s hs
  induction hs using Finset.Nonempty.cons_induction with
  | singleton a => exact ⟨g a, by simp [hf]⟩
  | cons a s ha _ ih =>
    obtain ⟨M, hM⟩ := ih
    exact ⟨max (g a) M, by
      rw [Finset.fold_cons, hM, hf]; exact ((EReal.coe_strictMono.monotone).map_max).symm⟩

theorem max_arr (x : FVec Ideal S8x8192x8192 .f32) (h : Fin 8) (a : Fin 8192) (g : Fin 8192 → ℝ)
    (hx : ∀ b, x (ix3 h a b) = (g b : EReal)) : ∃ M : ℝ,
    Host.reduce (FloatOps.maximumf (F := Ideal) (φ := .f32)) x
      (constant (F := Ideal) S_ .f32 0xFF800000#32) reducesTo_S8x8192x8192_S8x8192_d2 h_S_
      (ix2 h a) = (M : EReal) := by
  pointwise
  rw [ninf_bits]
  exact fold_max_coe _ g hx

theorem ex_arr (x : FVec Ideal S8x8192x8192 .f32) (y : FVec Ideal S8x8192 .f32)
    (h : Fin 8) (a b : Fin 8192) {s M : ℝ}
    (hx : x (ix3 h a b) = (s : EReal)) (hy : y (ix2 h a) = (M : EReal)) :
    Host.exp (subf x (broadcastInDim S8x8192x8192 ![0, 1, 2] bcast_S8x8192x1_S8x8192x8192_0_1_2
      (broadcastInDim S8x8192x1 ![0, 1] bcast_S8x8192_S8x8192x1_0_1 y))) (ix3 h a b)
      = ((Real.exp (s - M) : ℝ) : EReal) := by
  pointwise
  rw [hx, hy, ← EReal.coe_sub]
  exact exp_coe _

theorem sum_arr (x : FVec Ideal S8x8192x8192 .f32) (h : Fin 8) (a : Fin 8192) (g : Fin 8192 → ℝ)
    (hx : ∀ b, x (ix3 h a b) = (g b : EReal)) :
    Host.reduceAdd x (constant (F := Ideal) S_ .f32 0x00000000#32)
      reducesTo_S8x8192x8192_S8x8192_d2 h_S_ (ix2 h a) = ((∑ b, g b : ℝ) : EReal) := by
  pointwise
  exact sum_eq_coe hx

theorem lse_arr (x y : FVec Ideal S8x8192 .f32) (z : FVec Ideal S_ .f32)
    (h : Fin 8) (a : Fin 8192) (d : Fin 128) {M L t : ℝ} (hL : 0 < L) (ht : t ≠ 0)
    (hx : x (ix2 h a) = (M : EReal)) (hy : y (ix2 h a) = (L : EReal))
    (hz : ∀ j, z j = (t : EReal)) :
    broadcastInDim S8x8192x128 ![0, 1, 2] bcast_S8x8192x1_S8x8192x128_0_1_2
      (Host.divf (addf (broadcastInDim S8x8192x1 ![0, 1] bcast_S8x8192_S8x8192x1_0_1 x)
        (Host.log (broadcastInDim S8x8192x1 ![0, 1] bcast_S8x8192_S8x8192x1_0_1 y)))
        (broadcastInDim S8x8192x1 ![] bcast_S_S8x8192x1 z)) (ix3 h a d)
      = (((M + Real.log L) / t : ℝ) : EReal) := by
  pointwise
  rw [hx, hy, hz, show Ideal.log (L : EReal) = ((Real.log L : ℝ) : EReal) from log_coe hL,
    ← EReal.coe_add, div_coe _ ht]

theorem prob_arr (x : FVec Ideal S8x8192x8192 .f32) (y : FVec Ideal S8x8192 .f32)
    (h : Fin 8) (a b : Fin 8192) {e L : ℝ} (hL : 0 < L)
    (hx : x (ix3 h a b) = (e : EReal)) (hy : y (ix2 h a) = (L : EReal)) :
    Host.divf x (broadcastInDim S8x8192x8192 ![0, 1, 2] bcast_S8x8192x1_S8x8192x8192_0_1_2
      (broadcastInDim S8x8192x1 ![0, 1] bcast_S8x8192_S8x8192x1_0_1 y)) (ix3 h a b)
      = ((e / L : ℝ) : EReal) := by
  pointwise
  rw [hx, hy, div_coe _ hL.ne']

theorem delta_arr (o : FVec Ideal S8x8192x128 .f32) (p : FVec Ideal S8x8192x8192 .f32)
    (v : FVec Ideal S8x8192x128 .f32) (h : Fin 8) (a : Fin 8192) (d : Fin 128)
    (ro : Fin 128 → ℝ) (rp : Fin 8192 → ℝ) (rv : Fin 8192 → Fin 128 → ℝ)
    (ho : ∀ d, o (ix3 h a d) = (ro d : EReal)) (hp : ∀ b, p (ix3 h a b) = (rp b : EReal))
    (hv : ∀ b d, v (ix3 h b d) = (rv b d : EReal)) :
    broadcastInDim S8x8192x128 ![0, 1, 2] bcast_S8x8192x1_S8x8192x128_0_1_2
      (broadcastInDim S8x8192x1 ![0, 1] bcast_S8x8192_S8x8192x1_0_1
        (Host.reduceAdd (mulf o (Host.dotGeneral (φ₁ := .f32) (φ₂ := .f32)
            dot_S8x8192x8192_S8x8192x128_S8x8192x128_2_1_1_2_0_0 none p v))
          (constant (F := Ideal) S_ .f32 0x00000000#32)
          reducesTo_S8x8192x128_S8x8192_d2 h_S_)) (ix3 h a d)
      = ((∑ d, ro d * ∑ b, rp b * rv b d : ℝ) : EReal) := by
  pointwise
  exact sum_mul_coe ho fun d => sum_mul_coe hp fun b => hv b d

/-! ## The host's operations, one at a time -/

section Stages
variable (m : (ℓ : Loc nD τ sig) → Buf (Elt Ideal) ℓ) (c : Dev nD)

theorem stage105 : (V m c main_cst_5 : S_.Idx → EReal)
    = constant (F := Ideal) S_ .f32 0xFF800000#32 := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage106 : (V m c main_cst_6 : S_.Idx → EReal)
    = constant (F := Ideal) S_ .f32 0x00000000#32 := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage107 : (V m c main_cst_7 : S_.Idx → EReal)
    = constant (F := Ideal) S_ .f32 0x00000000#32 := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage26 : (V m c main_v26 : S8x8192.Idx → EReal)
    = Host.reduce (α := Elt Ideal .f32) (FloatOps.maximumf (F := Ideal) (φ := .f32))
        (V m c main_v25) (V m c main_cst_5) reducesTo_S8x8192x8192_S8x8192_d2 h_S_ := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage27 : (V m c main_v27 : S8x8192x1.Idx → EReal)
    = broadcastInDim S8x8192x1 ![0, 1] bcast_S8x8192_S8x8192x1_0_1
        (V m c main_v26 : S8x8192.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage28 : (V m c main_v28 : S8x8192x8192.Idx → EReal)
    = broadcastInDim S8x8192x8192 ![0, 1, 2] bcast_S8x8192x1_S8x8192x8192_0_1_2
        (V m c main_v27 : S8x8192x1.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage29 : (V m c main_v29 : S8x8192x8192.Idx → EReal)
    = subf (F := Ideal) (φ := .f32) (V m c main_v25) (V m c main_v28) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage30 : (V m c main_v30 : S8x8192x8192.Idx → EReal)
    = Host.exp (F := Ideal) (φ := .f32) (V m c main_v29) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage31 : (V m c main_v31 : S8x8192.Idx → EReal)
    = Host.reduceAdd (F := Ideal) (φ := .f32) (V m c main_v30) (V m c main_cst_6)
        reducesTo_S8x8192x8192_S8x8192_d2 h_S_ := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage32 : (V m c main_v32 : S8x8192x1.Idx → EReal)
    = broadcastInDim S8x8192x1 ![0, 1] bcast_S8x8192_S8x8192x1_0_1
        (V m c main_v31 : S8x8192.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage33 : (V m c main_v33 : S8x8192x8192.Idx → EReal)
    = broadcastInDim S8x8192x8192 ![0, 1, 2] bcast_S8x8192x1_S8x8192x8192_0_1_2
        (V m c main_v32 : S8x8192x1.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage34 : (V m c main_v34 : S8x8192x8192.Idx → EReal)
    = Host.divf (F := Ideal) (φ := .f32) (V m c main_v30) (V m c main_v33) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage35 : (V m c main_v35 : S8x8192x128.Idx → EReal)
    = Host.dotGeneral (F := Ideal) (φ₁ := .f32) (φ₂ := .f32)
        dot_S8x8192x8192_S8x8192x128_S8x8192x128_2_1_1_2_0_0 none (V m c main_v34) (V m c main_v14) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage36 : (V m c main_v36 : S8x8192x1.Idx → EReal)
    = Host.log (F := Ideal) (φ := .f32) (V m c main_v32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage37 : (V m c main_v37 : S8x8192x1.Idx → EReal)
    = addf (F := Ideal) (φ := .f32) (V m c main_v27) (V m c main_v36) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage38 : (V m c main_v38 : S8x8192x1.Idx → EReal)
    = broadcastInDim S8x8192x1 ![] bcast_S_S8x8192x1
        (V m c main_v0 : S_.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage39 : (V m c main_v39 : S8x8192x1.Idx → EReal)
    = Host.divf (F := Ideal) (φ := .f32) (V m c main_v37) (V m c main_v38) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage40 : (V m c main_v40 : S8x8192x128.Idx → EReal)
    = broadcastInDim S8x8192x128 ![0, 1, 2] bcast_S8x8192x1_S8x8192x128_0_1_2
        (V m c main_v39 : S8x8192x1.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage41 : (V m c main_v41 : S8x8192x128.Idx → EReal)
    = mulf (F := Ideal) (φ := .f32) (V m c main_v19) (V m c main_v35) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage42 : (V m c main_v42 : S8x8192.Idx → EReal)
    = Host.reduceAdd (F := Ideal) (φ := .f32) (V m c main_v41) (V m c main_cst_7)
        reducesTo_S8x8192x128_S8x8192_d2 h_S_ := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage43 : (V m c main_v43 : S8x8192x1.Idx → EReal)
    = broadcastInDim S8x8192x1 ![0, 1] bcast_S8x8192_S8x8192x1_0_1
        (V m c main_v42 : S8x8192.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

theorem stage44 : (V m c main_v44 : S8x8192x128.Idx → EReal)
    = broadcastInDim S8x8192x128 ![0, 1, 2] bcast_S8x8192x1_S8x8192x128_0_1_2
        (V m c main_v43 : S8x8192x1.Idx → Elt Ideal .f32) := by
  unfold V
  conv_lhs => simp only [StableHlo.readAfter]
  conv_lhs => simp only [StableHlo.nullary_result', StableHlo.unary_result', StableHlo.binary_result']
  try conv_lhs => simp only [StableHlo.readUpto]
  try conv_rhs => simp only [StableHlo.readAfter]

end Stages

variable (m : (ℓ : Loc nD τ sig) → Buf (Elt Ideal) ℓ) (c : Dev nD)

/-- The arguments' arrays hold these real numbers. -/
structure Holds (A : Args) : Prop where
  qn : ∀ a h d, (m (c, Proc.devRef .tc main_arg0) : S8192x8x128.Idx → EReal) (ix3 a h d) = (A.qn a h d : EReal)
  qr : ∀ a h d, (m (c, Proc.devRef .tc main_arg1) : S8192x8x64.Idx → EReal) (ix3 a h d) = (A.qr a h d : EReal)
  kn : ∀ a h d, (m (c, Proc.devRef .tc main_arg2) : S8192x8x128.Idx → EReal) (ix3 a h d) = (A.kn a h d : EReal)
  kr : ∀ a d, (m (c, Proc.devRef .tc main_arg3) : S8192x64.Idx → EReal) (ix2 a d) = (A.kr a d : EReal)
  v : ∀ a h d, (m (c, Proc.devRef .tc main_arg4) : S8192x8x128.Idx → EReal) (ix3 a h d) = (A.v a h d : EReal)
  ct : ∀ (a : Fin 8192) (h : Fin 8) (d : Fin 128),
    (m (c, Proc.devRef .tc main_arg5) : S8192x1024.Idx → EReal) (ix2 a ⟨h.val * 128 + d.val, by omega⟩)
      = (A.ct a h d : EReal)

variable {m c} {A : Args} (H : Holds m c A)
include H

theorem q_read (h : Fin 8) (a : Fin 8192) (x : Fin 256) :
    (V m c main_v7 : S8x8192x256.Idx → EReal) (ix3 h a x)
      = ((cat (A.qn a h) (A.qr a h) x * (S / Real.log 2) : ℝ) : EReal) := by
  unfold V
  after_reads_at
  after_reads_at
  rw [two_bits, S_bits, show Ideal.log ((2 : ℝ) : EReal) = ((Real.log 2 : ℝ) : EReal) from
    log_coe (by norm_num), div_coe _ ln2_ne, EReal.coe_mul]
  congr 1
  simp only [H.qn, H.qr, cat]
  split_ifs <;> simp

theorem k_read (h : Fin 8) (a : Fin 8192) (x : Fin 256) :
    (V m c main_v13 : S8x8192x256.Idx → EReal) (ix3 h a x)
      = (cat (A.kn a h) (A.kr a) x : EReal) := by
  unfold V
  after_reads_at
  after_reads_at
  simp only [H.kn, H.kr, cat]
  split_ifs <;> simp

theorem v_read (h : Fin 8) (a : Fin 8192) (d : Fin 128) :
    (V m c main_v14 : S8x8192x128.Idx → EReal) (ix3 h a d) = (A.v a h d : EReal) := by
  unfold V
  after_reads_at
  exact H.v a h d

theorem v1_read (h : Fin 8) (a : Fin 8192) (d : Fin 128) :
    (V m c main_v17 : S8x8192x256.Idx → EReal) (ix3 h a ⟨d.val, by omega⟩) = (A.v a h d : EReal) := by
  unfold V
  after_reads_at
  after_reads_at
  simp [H.v]

theorem ct_read (h : Fin 8) (a : Fin 8192) (d : Fin 128) :
    (V m c main_v19 : S8x8192x128.Idx → EReal) (ix3 h a d) = (A.ct a h d : EReal) := by
  unfold V
  after_reads_at
  exact H.ct a h d

theorem do_read (h : Fin 8) (a : Fin 8192) (d : Fin 128) :
    (V m c main_v45 : S8x8192x128.Idx → EReal) (ix3 h a d) = (A.ct a h d : EReal) := by
  unfold V
  after_reads_at
  exact H.ct a h d

theorem sc_read (h : Fin 8) (a b : Fin 8192) :
    (V m c main_v25 : S8x8192x8192.Idx → EReal) (ix3 h a b) = (sc A h a b : EReal) := by
  unfold V
  after_reads_at
  rw [S_bits, sum_mul_coe (fun d => H.qn a h d) (fun d => H.kn b h d),
    sum_mul_coe (fun d => H.kr b d) (fun d => H.qr a h d), ← EReal.coe_add, ← EReal.coe_mul, sc]
  simp only [mul_comm]

theorem max_read (h : Fin 8) (a : Fin 8192) : ∃ M : ℝ,
    (V m c main_v26 : S8x8192.Idx → EReal) (ix2 h a) = (M : EReal) := by
  rw [stage26, stage105]
  exact max_arr _ h a _ fun b => sc_read H h a b

/-- The exponentials, for any number the row's maximum may be. -/
theorem ex_read {M : ℝ} {h : Fin 8} {a : Fin 8192}
    (hM : (V m c main_v26 : S8x8192.Idx → EReal) (ix2 h a) = (M : EReal)) (b : Fin 8192) :
    (V m c main_v30 : S8x8192x8192.Idx → EReal) (ix3 h a b) = (ex A h M a b : EReal) := by
  rw [stage30, stage29, stage28, stage27]
  exact ex_arr _ _ h a b (sc_read H h a b) hM

/-- Their sum over the keys. -/
theorem ell_read {M : ℝ} {h : Fin 8} {a : Fin 8192}
    (hM : (V m c main_v26 : S8x8192.Idx → EReal) (ix2 h a) = (M : EReal)) :
    (V m c main_v31 : S8x8192.Idx → EReal) (ix2 h a) = (ell A h M a : EReal) := by
  rw [stage31, stage106]
  exact sum_arr _ h a _ fun b => ex_read H hM b

omit H in
theorem ln2_read (j : S_.Idx) :
    (V m c main_v0 : S_.Idx → EReal) j = ((Real.log 2 : ℝ) : EReal) := by
  unfold V
  after_reads_at
  rw [two_bits]
  exact log_coe (by norm_num)

/-- The saved normaliser in base two. -/
theorem lse_read {M : ℝ} {h : Fin 8} {a : Fin 8192}
    (hM : (V m c main_v26 : S8x8192.Idx → EReal) (ix2 h a) = (M : EReal)) (d : Fin 128) :
    (V m c main_v40 : S8x8192x128.Idx → EReal) (ix3 h a d)
      = (((M + Real.log (ell A h M a)) / Real.log 2 : ℝ) : EReal) := by
  rw [stage40, stage39, stage37, stage38, stage36, stage32, stage27]
  exact lse_arr _ _ _ h a d (ell_pos A h M a) ln2_ne hM (ell_read H hM) ln2_read

/-- The probabilities. -/
theorem p_read {h : Fin 8} {a : Fin 8192} (b : Fin 8192) :
    (V m c main_v34 : S8x8192x8192.Idx → EReal) (ix3 h a b) = (P A h a b : EReal) := by
  obtain ⟨M, hM⟩ := max_read H h a
  rw [stage34, stage33, stage32, ← ex_div_ell A h M]
  exact prob_arr _ _ h a b (ell_pos A h M a) (ex_read H hM b) (ell_read H hM)

/-- The output gradient against the output. -/
theorem delta_read (h : Fin 8) (a : Fin 8192) (d : Fin 128) :
    (V m c main_v44 : S8x8192x128.Idx → EReal) (ix3 h a d) = (dl A h a : EReal) := by
  rw [stage44, stage43, stage42, stage107, stage41, stage35, ← delta_eq]
  exact delta_arr _ _ _ h a d _ _ _ (ct_read H h a) (fun b => p_read H b) fun b d => v_read H h b d

end Cert.KernelIdeal.Flash
-- ==== Proof.Reference.lean ====
module

public import proofs.«01_k».proof.Proof.Host
public import proofs.«01_k».proof.Proof.Gen.ReferenceIdeal.Read
public import Idealize.ShloMosaic.Lib.Pipeline.ValueKit

@[expose] public section
set_option maxRecDepth 16384

/-! # The reference's results

The reference differentiates the attention by the chain rule, through the softmax's quotient.  Each
of its arrays is read at an element, for real arguments, up to its three results. -/

noncomputable section

namespace Cert.ReferenceIdeal.Flash
open Cert.ReferenceIdeal Cert.ReferenceIdeal.Gen Cert.ReferenceIdeal.Read
open Idealize.ShloMosaic Cert.Flash
open Idealize.ShloMosaic.TcCoe Idealize.SL.Sem

theorem max_arr (x : FVec Ideal S8x8192x8192 .f32) (h : Fin 8) (a : Fin 8192) (g : Fin 8192 → ℝ)
    (hx : ∀ b, x (ix3 h a b) = (g b : EReal)) : ∃ M : ℝ,
    Host.reduce (FloatOps.maximumf (F := Ideal) (φ := .f32)) x
      (constant (F := Ideal) S_ .f32 0xFF800000#32) reducesTo_S8x8192x8192_S8x8192_d2 h_S_
      (ix2 h a) = (M : EReal) := by
  pointwise
  rw [Cert.KernelIdeal.Flash.ninf_bits]
  exact Cert.KernelIdeal.Flash.fold_max_coe _ g hx

theorem top_arr (x : FVec Ideal S8x8192 .f32) (h : Fin 8) (a : Fin 8192) {M : ℝ}
    (hx : x (ix2 h a) = (M : EReal)) :
    maximumf (broadcastInDim S8x8192 ![] bcast_S_S8x8192
      (constant (F := Ideal) S_ .f32 0xFF800000#32)) x (ix2 h a) = (M : EReal) := by
  pointwise
  rw [Cert.KernelIdeal.Flash.ninf_bits, hx]
  exact bot_sup_eq _

variable {x0 x2 x4 : FVec Ideal S8192x8x128 .f32} {x1 : FVec Ideal S8192x8x64 .f32}
  {x3 : FVec Ideal S8192x64 .f32} {x5 : FVec Ideal S8192x1024 .f32}

/-- The six arrays hold these real numbers. -/
structure Given (x0 : FVec Ideal S8192x8x128 .f32) (x1 : FVec Ideal S8192x8x64 .f32)
    (x2 : FVec Ideal S8192x8x128 .f32) (x3 : FVec Ideal S8192x64 .f32)
    (x4 : FVec Ideal S8192x8x128 .f32) (x5 : FVec Ideal S8192x1024 .f32) (A : Args) : Prop where
  qn : ∀ a h d, x0 (ix3 a h d) = (A.qn a h d : EReal)
  qr : ∀ a h d, x1 (ix3 a h d) = (A.qr a h d : EReal)
  kn : ∀ a h d, x2 (ix3 a h d) = (A.kn a h d : EReal)
  kr : ∀ a d, x3 (ix2 a d) = (A.kr a d : EReal)
  v : ∀ a h d, x4 (ix3 a h d) = (A.v a h d : EReal)
  ct : ∀ (a : Fin 8192) (h : Fin 8) (d : Fin 128), x5 (ix2 a ⟨h.val * 128 + d.val, by omega⟩)
    = (A.ct a h d : EReal)

variable {A : Args} (H : Given x0 x1 x2 x3 x4 x5 A)
include H

/-- The scaled scores. -/
theorem sc_read (h : Fin 8) (a b : Fin 8192) :
    val_main_v6 (F := Ideal) x0 x1 x2 x3 (ix3 h a b) = (sc A h a b : EReal) := by
  pointwise [val_main_v6, val_main_v5, val_main_cst, val_main_v4, val_main_v3, val_main_v2,
    val_main_v1, val_main_v0]
  rw [Cert.KernelIdeal.Flash.S_bits, sum_mul_coe (fun d => H.qn a h d) (fun d => H.kn b h d),
    sum_mul_coe (fun d => H.qr a h d) (fun d => H.kr b d), ← EReal.coe_add, ← EReal.coe_mul, sc]

/-- The largest score of a row is a number. -/
theorem top_read (h : Fin 8) (a : Fin 8192) : ∃ M : ℝ,
    val_main_v7 (F := Ideal) x0 x1 x2 x3 (ix2 h a) = (M : EReal) := by
  unfold val_main_v7 val_main_cst_0
  exact max_arr _ h a _ fun b => sc_read H h a b

/-- The reference then takes the larger of it and minus infinity. -/
theorem max_read (h : Fin 8) (a : Fin 8192) : ∃ M : ℝ,
    val_main_v14 (F := Ideal) x0 x1 x2 x3 (ix2 h a) = (M : EReal) := by
  obtain ⟨M, hM⟩ := top_read H h a
  refine ⟨M, ?_⟩
  unfold val_main_v14 val_main_v13 val_main_cst_2
  exact top_arr _ h a hM

/-- The exponentials. -/
theorem ex_read {M : ℝ} {h : Fin 8} {a : Fin 8192}
    (hM : val_main_v14 (F := Ideal) x0 x1 x2 x3 (ix2 h a) = (M : EReal)) (b : Fin 8192) :
    val_main_v27 (F := Ideal) x0 x1 x2 x3 (ix3 h a b) = (ex A h M a b : EReal) := by
  pointwise [val_main_v27, val_main_v26, val_main_v25, val_main_v24]
  rw [hM, sc_read H, ← EReal.coe_sub]
  exact exp_coe _

/-- Their sum. -/
theorem ell_read {M : ℝ} {h : Fin 8} {a : Fin 8192}
    (hM : val_main_v14 (F := Ideal) x0 x1 x2 x3 (ix2 h a) = (M : EReal)) :
    val_main_v28 (F := Ideal) x0 x1 x2 x3 (ix2 h a) = (ell A h M a : EReal) := by
  pointwise [val_main_v28, val_main_cst_8]
  exact sum_eq_coe fun b => ex_read H hM b

/-- The probabilities. -/
theorem p_read (h : Fin 8) (a b : Fin 8192) :
    val_main_v31 (F := Ideal) x0 x1 x2 x3 (ix3 h a b) = (P A h a b : EReal) := by
  obtain ⟨M, hM⟩ := max_read H h a
  pointwise [val_main_v31, val_main_v30, val_main_v29]
  rw [ex_read H hM, ell_read H hM, div_coe _ (ell_pos A h M a).ne', ex_div_ell]

/-- One over the square of the sum. -/
theorem sq_read {M : ℝ} {h : Fin 8} {a : Fin 8192}
    (hM : val_main_v14 (F := Ideal) x0 x1 x2 x3 (ix2 h a) = (M : EReal)) :
    val_main_v34 (F := Ideal) x0 x1 x2 x3 (ix3 h a 0)
      = ((1 / (ell A h M a * ell A h M a) : ℝ) : EReal) := by
  have hl := (ell_pos A h M a).ne'
  pointwise [val_main_v34, val_main_v33, val_main_cst_9, val_main_v32, val_main_v29]
  rw [ell_read H hM, ← EReal.coe_mul, ← EReal.coe_one, div_coe _ (mul_ne_zero hl hl)]

/-- The output gradient, by heads and features. -/
theorem ct_read (h : Fin 8) (d : Fin 128) (a : Fin 8192) :
    val_main_v39 (F := Ideal) x5 (ix3 h d a) = (A.ct a h d : EReal) := by
  pointwise [val_main_v39, val_main_v38]
  exact H.ct a h d

/-- The probabilities' gradients. -/
theorem dp_read (h : Fin 8) (a b : Fin 8192) :
    val_main_v40 (F := Ideal) x4 x5 (ix3 h a b) = (dP A h a b : EReal) := by
  pointwise [val_main_v40]
  exact sum_mul_coe (fun d => ct_read H h d a) fun d => H.v b h d

/-- The values' gradient. -/
theorem dv_read (h : Fin 8) (b : Fin 8192) (d : Fin 128) :
    val_main_v75 (F := Ideal) x0 x1 x2 x3 x5 (ix3 h b d) = (dV A h b d : EReal) := by
  pointwise [val_main_v75, val_main_v42, val_main_v41]
  rw [sum_mul_coe (fun a => ct_read H h d a) fun a => p_read H h a b, dV]
  simp only [mul_comm]

/-- The sum that the quotient's denominator contributes. -/
theorem den_read {M : ℝ} {h : Fin 8} {a : Fin 8192}
    (hM : val_main_v14 (F := Ideal) x0 x1 x2 x3 (ix2 h a) = (M : EReal)) :
    val_main_v46 (F := Ideal) x0 x1 x2 x3 x4 x5 (ix2 h a)
      = ((∑ b, dP A h a b * (1 / (ell A h M a * ell A h M a)) * ex A h M a b : ℝ) : EReal) := by
  pointwise [val_main_v46, val_main_cst_10, val_main_v45, val_main_v44, val_main_v43]
  exact sum_eq_coe fun b => by
    rw [dp_read H, sq_read H hM, ex_read H hM, EReal.coe_mul, EReal.coe_mul]

/-- The gradient of a score before scaling. -/
theorem ds_read (h : Fin 8) (a b : Fin 8192) :
    val_main_v56 (F := Ideal) x0 x1 x2 x3 x4 x5 (ix3 h a b) = ((dS A h a b * S : ℝ) : EReal) := by
  obtain ⟨M, hM⟩ := max_read H h a
  pointwise [val_main_v56, val_main_v55, val_main_cst_12, val_main_v54, val_main_v53,
    val_main_v52, val_main_v51, val_main_cst_11, val_main_v50, val_main_v49, val_main_v48,
    val_main_v47, val_main_v29]
  rw [Cert.KernelIdeal.Flash.S_bits, dp_read H, ell_read H hM, den_read H hM, ex_read H hM,
    div_coe _ (ell_pos A h M a).ne', ← EReal.coe_neg, Fin.sum_univ_one, ← EReal.coe_add, ← EReal.coe_mul,
    ← EReal.coe_mul, grad_score]

/-- The queries' gradient. -/
theorem dq_read (h : Fin 8) (a : Fin 8192) (x : Fin 256) :
    val_main_v73 (F := Ideal) x0 x1 x2 x3 x4 x5 (ix3 h a x) = (dQ A h a x : EReal) := by
  pointwise [val_main_v73, val_main_v68, val_main_v67, val_main_cst_14, val_main_v66, val_main_v65,
    val_main_cst_13, val_main_v64, val_main_v63, val_main_v60, val_main_v59, val_main_v1, val_main_v0]
  have hs : (dQ A h a x * S : ℝ) = ∑ b, dS A h a b * S * cat (A.kn b h) (A.kr b) x := by
    rw [dQ, Finset.sum_mul]
    exact Finset.sum_congr rfl fun b _ => by ring
  rw [Cert.KernelIdeal.Flash.S_bits, ← mul_div_cancel_right₀ (dQ A h a x) S_ne, ← div_coe _ S_ne, hs]
  congr 1
  unfold cat
  by_cases h1 : x.val < 128
  · simp only [dif_pos h1]
    exact sum_mul_coe (fun b => ds_read H h a b) fun b => H.kn b h _
  · by_cases h2 : x.val - 128 < 64
    · simp only [dif_neg h1, dif_pos h2]
      exact sum_mul_coe (fun b => ds_read H h a b) fun b => H.kr b _
    · simp only [dif_neg h1, dif_neg h2, mul_zero, Finset.sum_const_zero]
      exact EReal.coe_zero.symm

/-- The keys' gradient. -/
theorem dk_read (h : Fin 8) (b : Fin 8192) (x : Fin 256) :
    val_main_v74 (F := Ideal) x0 x1 x2 x3 x4 x5 (ix3 h b x) = (dK A h b x : EReal) := by
  pointwise [val_main_v74, val_main_v72, val_main_v71, val_main_v70, val_main_cst_15, val_main_v69,
    val_main_v65, val_main_cst_13, val_main_v62, val_main_v61, val_main_v58, val_main_v57]
  have hs : (dK A h b x * Real.log 2 : ℝ) = ∑ a, dS A h a b * S * cat (A.qn a h) (A.qr a h) x := by
    rw [dK, Finset.sum_mul]
    exact Finset.sum_congr rfl fun a _ => by field_simp [ln2_ne]
  rw [Cert.KernelIdeal.Flash.two_bits, show Ideal.log ((2 : ℝ) : EReal) = ((Real.log 2 : ℝ) : EReal)
    from log_coe (by norm_num), ← mul_div_cancel_right₀ (dK A h b x) ln2_ne, ← div_coe _ ln2_ne, hs]
  congr 1
  unfold cat
  by_cases h1 : x.val < 128
  · simp only [dif_pos h1]
    exact sum_mul_coe (fun a => ds_read H h a b) fun a => H.qn a h _
  · by_cases h2 : x.val - 128 < 64
    · simp only [dif_neg h1, dif_pos h2]
      exact sum_mul_coe (fun a => ds_read H h a b) fun a => H.qr a h _
    · simp only [dif_neg h1, dif_neg h2, mul_zero, Finset.sum_const_zero]
      exact EReal.coe_zero.symm

end Cert.ReferenceIdeal.Flash
-- ==== Proof.Finite.lean ====
module

public import proofs.«01_k».proof.Proof.Host
public import proofs.«01_k».proof.Proof.Reference
public import proofs.«01_k».proof.Pre_finite
public import proofs.«01_k».proof.Defs

@[expose] public section
set_option maxRecDepth 16384

/-! # Finite arguments are real numbers

The precondition says of every element that its absolute value is less than infinity.  So there are
real numbers that the kernel's arguments hold, and the reference's hold the same ones. -/

noncomputable section

namespace Cert.Finite
open Idealize.ShloMosaic Idealize.ShloMosaic.TcCoe Idealize.SL.Sem Cert.Flash

/-- The shapes of the precondition's constants spread out. -/
instance facts : Cert.Pre_finite.Facts where
  bcast_S_S8192x8x128 := by decide
  bcast_S_S8192x8x64 := by decide
  bcast_S_S8192x64 := by decide
  bcast_S_S8192x1024 := by decide

/-- An extended real whose absolute value is less than infinity is a real number. -/
theorem real_of_abs (x : EReal) (h : Ideal.cmp .olt (max x (-x)) (Ideal.ofBits .f32 0x7F800000#32) = 1#1) :
    x = (x.toReal : EReal) := by
  have top : Ideal.ofBits .f32 0x7F800000#32 = (⊤ : EReal) := by simp [Ideal.ofBits, Ideal.ieee]
  rw [top] at h
  induction x with
  | bot => simp [Ideal.cmp] at h
  | top => simp [Ideal.cmp] at h
  | coe r => rfl

/-- The same of an array, as the precondition prints it. -/
theorem real_arr {s : Shape} (hb : Cert.Pre_finite.S_.BroadcastsInDim s (![] : Fin 0 → Fin s.rank))
    (x : FVec Ideal s .f32)
    (h : cmpf .olt (Host.absf x) (broadcastInDim s ![] hb (constant (F := Ideal) Cert.Pre_finite.S_ .f32 0x7F800000#32))
      = fun _ => 1#1) (i : s.Idx) :
    x i = (EReal.toReal (x i) : EReal) :=
  real_of_abs (x i) (congrFun h i)

section
variable (x0 x2 x4 : FVec Ideal Cert.ReferenceIdeal.S8192x8x128 .f32)
  (x1 : FVec Ideal Cert.ReferenceIdeal.S8192x8x64 .f32)
  (x3 : FVec Ideal Cert.ReferenceIdeal.S8192x64 .f32)
  (x5 : FVec Ideal Cert.ReferenceIdeal.S8192x1024 .f32)

/-- The real numbers that six arrays hold. -/
def args : Args where
  qn a h d := EReal.toReal (x0 (ix3 a h d))
  qr a h d := EReal.toReal (x1 (ix3 a h d))
  kn a h d := EReal.toReal (x2 (ix3 a h d))
  kr a d := EReal.toReal (x3 (ix2 a d))
  v a h d := EReal.toReal (x4 (ix3 a h d))
  ct a h d := EReal.toReal (x5 (ix2 a ⟨h.val * 128 + d.val, by omega⟩))

/-- Six arrays that satisfy the precondition hold those numbers. -/
theorem given
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    Cert.ReferenceIdeal.Flash.Given x0 x1 x2 x3 x4 x5 (args x0 x2 x4 x1 x3 x5) where
  qn a b d := real_arr _ x0 h.1 _
  qr a b d := real_arr _ x1 h.2.1 _
  kn a b d := real_arr _ x2 h.2.2.1 _
  kr a d := real_arr _ x3 h.2.2.2.1 _
  v a b d := real_arr _ x4 h.2.2.2.2.1 _
  ct a b d := real_arr _ x5 h.2.2.2.2.2 _

end

/-- What the reference's arguments hold, the kernel's hold when they are the same arrays. -/
theorem holds {m : (ℓ : Loc Cert.KernelIdeal.nD Cert.KernelIdeal.τ Cert.KernelIdeal.sig) → Buf (Elt Ideal) ℓ}
    {c : Dev Cert.KernelIdeal.nD} {A : Args}
    (H : Cert.ReferenceIdeal.Flash.Given
      (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3))
      (m ((c.tc : Thread _ Cert.KernelIdeal.τ).loc Cert.KernelIdeal.main_arg4))
      (m ((c.tc : Thread _ Cert.KernelIdeal.τ).loc Cert.KernelIdeal.main_arg5)) A) :
    Cert.KernelIdeal.Flash.Holds m c A where
  qn := H.qn
  qr := H.qr
  kn := H.kn
  kr := H.kr
  v := H.v
  ct := H.ct

end Cert.Finite

end
-- ==== Proof.FwdTile.lean ====
module

public import proofs.«01_k».proof.Proof.Gen.FlashFwdIdeal.Value
public import proofs.«01_k».proof.Proof.Host
public import Idealize.ShloMosaic.Lib.Pipeline.ValueKit
public import Idealize.ShloMosaic.Lib.MatmulPlain

@[expose] public section
set_option maxRecDepth 16384

/-! # One step of the forward pass: a tile of 1024 queries against a tile of 512 keys

The kernel keeps for each row the largest score so far and, with the scores taken less that number,
the sums of the powers of two over the keys so far, weighted by the values' columns and by ones.
Which number the largest score is does not matter: a row holds its sums times a power of two, and
the power drops out in the end. -/

noncomputable section

namespace Cert.FlashFwdIdeal.Attention
open Cert.FlashFwdIdeal Cert.FlashFwdIdeal.Gen Idealize.ShloMosaic Cert.Flash
open Cert.KernelIdeal.Flash (fold_max_coe ninf_bits)

/-- The rows' largest scores after a tile. -/
def mstep (x0 : Vec Ideal S1x1024x256 .bf16) (xk : Vec Ideal S1x512x256 .bf16)
    (pm : Vec Ideal S1024x128 .f32) : FVec Ideal S1024x128 .f32 := k0_pay19 (k0_pay17 (k0_pay4 x0) xk pm)

/-- The rows' sums after a tile. -/
def astep (x0 : Vec Ideal S1x1024x256 .bf16) (xk xv : Vec Ideal S1x512x256 .bf16)
    (pm : Vec Ideal S1024x128 .f32) (pa : Vec Ideal S1024x256 .f32) : FVec Ideal S1024x256 .f32 :=
  k0_pay18 (k0_pay4 x0) xk pm xv pa

variable {x0 : Vec Ideal S1x1024x256 .bf16} {xk xv : Vec Ideal S1x512x256 .bf16}
  {q : Fin 1024 → Fin 256 → ℝ} {k v : Fin 512 → Fin 256 → ℝ}
  {pm : Vec Ideal S1024x128 .f32} {pa : Vec Ideal S1024x256 .f32}

theorem score_apply (h0 : ∀ r c, x0 (ix3 0 r c) = (q r c : EReal))
    (hk : ∀ s c, xk (ix3 0 s c) = (k s c : EReal)) (r : Fin 1024) (s : Fin 512) :
    k0_pay16 (k0_pay4 x0) xk (ix2 r s) = ((∑ c, q r c * k s c : ℝ) : EReal) := by
  unfold k0_pay16 k0_pay4
  pointwise
  exact sum_mul_coe (h0 r) (hk s)

theorem mstep_apply (r : Fin 1024) (d : Fin 128) :
    mstep x0 xk pm (ix2 r d)
      = max (pm (ix2 r d)) (Finset.fold max (⊥ : EReal)
          (fun s => k0_pay16 (k0_pay4 x0) xk (ix2 r s)) Finset.univ) := by
  unfold mstep k0_pay19 k0_pay17
  pointwise
  rw [ninf_bits]

/-- A row's new sums, when its largest score is the same number in all of the row's copies. -/
theorem astep_apply {r : Fin 1024} {a M : EReal} (ha : ∀ d, pm (ix2 r d) = a)
    (hM : ∀ d, mstep x0 xk pm (ix2 r d) = M) (c : Fin 256) :
    astep x0 xk xv pm pa (ix2 r c)
      = FloatOps.exp2 (F := Ideal) (φ := .f32) (a - M) * pa (ix2 r c)
        + ∑ s, FloatOps.exp2 (F := Ideal) (φ := .f32)
            (k0_pay16 (k0_pay4 x0) xk (ix2 r s) - M) * xv (ix3 0 s c) := by
  have hM' : ∀ d, k0_pay17 (k0_pay4 x0) xk pm (ix2 r d) = M := fun d => by
    rw [← hM d]
    unfold mstep k0_pay19
    pointwise
  unfold astep k0_pay18
  pointwise
  simp only [ha, hM', dite_eq_ite, ite_self]

/-- A tile's share of a row's sums. -/
def tile (q : Fin 256 → ℝ) (k v : Fin 512 → Fin 256 → ℝ) (c : Fin 256) : ℝ :=
  ∑ s, (2 : ℝ) ^ (∑ c', q c' * k s c') * v s c

/-- A row after some of the tiles: `U c` is its sum of the powers of two of the scores, weighted by
column `c`. -/
structure Kept (pm : Vec Ideal S1024x128 .f32) (pa : Vec Ideal S1024x256 .f32) (r : Fin 1024)
    (U : Fin 256 → ℝ) : Prop where
  sums : ∃ M : ℝ, (∀ d, pm (ix2 r d) = (M : EReal)) ∧
    ∀ c, pa (ix2 r c) = (((2 : ℝ) ^ (-M) * U c : ℝ) : EReal)

theorem row_max (h0 : ∀ r c, x0 (ix3 0 r c) = (q r c : EReal))
    (hk : ∀ s c, xk (ix3 0 s c) = (k s c : EReal)) (r : Fin 1024) :
    ∃ N : ℝ, Finset.fold max (⊥ : EReal) (fun s => k0_pay16 (k0_pay4 x0) xk (ix2 r s)) Finset.univ
      = (N : EReal) :=
  fold_max_coe _ _ (score_apply h0 hk r)

theorem tile_sum (h0 : ∀ r c, x0 (ix3 0 r c) = (q r c : EReal))
    (hk : ∀ s c, xk (ix3 0 s c) = (k s c : EReal))
    (hv : ∀ s c, xv (ix3 0 s c) = (v s c : EReal)) (r : Fin 1024) (c : Fin 256) (M : ℝ) :
    ∑ s, FloatOps.exp2 (F := Ideal) (φ := .f32)
        (k0_pay16 (k0_pay4 x0) xk (ix2 r s) - (M : EReal)) * xv (ix3 0 s c)
      = (((2 : ℝ) ^ (-M) * tile (q r) k v c : ℝ) : EReal) := by
  rw [sum_mul_coe (a := fun s => (2 : ℝ) ^ ((∑ c', q r c' * k s c') - M)) (fun s => by
    rw [score_apply h0 hk, ← EReal.coe_sub]; exact exp2_coe _) (fun s => hv s c), tile,
    Finset.mul_sum]
  refine congrArg _ (Finset.sum_congr rfl fun s _ => ?_)
  rw [sub_eq_add_neg, Real.rpow_add (by norm_num)]
  ring

/-- The first tile. -/
theorem first_tile (h0 : ∀ r c, x0 (ix3 0 r c) = (q r c : EReal))
    (hk : ∀ s c, xk (ix3 0 s c) = (k s c : EReal))
    (hv : ∀ s c, xv (ix3 0 s c) = (v s c : EReal)) {r : Fin 1024}
    (hm : ∀ d, pm (ix2 r d) = (⊥ : EReal)) (ha : ∀ c, pa (ix2 r c) = 0) :
    Kept (mstep x0 xk pm) (astep x0 xk xv pm pa) r (fun c => 0 + tile (q r) k v c) := by
  obtain ⟨N, hN⟩ := row_max h0 hk r
  have hM : ∀ d, mstep x0 xk pm (ix2 r d) = (N : EReal) := fun d => by
    rw [mstep_apply, hm, hN]; exact bot_sup_eq _
  refine ⟨⟨N, hM, fun c => ?_⟩⟩
  rw [astep_apply hm hM, ha, mul_zero, zero_add, tile_sum h0 hk hv]
  rw [zero_add]

/-- A later tile. -/
theorem next_tile (h0 : ∀ r c, x0 (ix3 0 r c) = (q r c : EReal))
    (hk : ∀ s c, xk (ix3 0 s c) = (k s c : EReal))
    (hv : ∀ s c, xv (ix3 0 s c) = (v s c : EReal)) {r : Fin 1024} {U : Fin 256 → ℝ}
    (h : Kept pm pa r U) :
    Kept (mstep x0 xk pm) (astep x0 xk xv pm pa) r (fun c => U c + tile (q r) k v c) := by
  obtain ⟨M, hm, ha⟩ := h.sums
  obtain ⟨N, hN⟩ := row_max h0 hk r
  have hM : ∀ d, mstep x0 xk pm (ix2 r d) = ((max M N : ℝ) : EReal) := fun d => by
    rw [mstep_apply, hm, hN]; exact ((EReal.coe_strictMono.monotone).map_max).symm
  refine ⟨⟨max M N, hM, fun c => ?_⟩⟩
  rw [astep_apply hm hM, ha, tile_sum h0 hk hv, ← EReal.coe_sub, exp2_coe, ← EReal.coe_mul,
    ← EReal.coe_add]
  refine congrArg _ ?_
  rw [sub_eq_add_neg, Real.rpow_add (by norm_num), mul_add]
  have : (2 : ℝ) ^ M * (2 : ℝ) ^ (-M) = 1 := by
    rw [← Real.rpow_add (by norm_num), add_neg_cancel, Real.rpow_zero]
  linear_combination ((2 : ℝ) ^ (-max M N) * U c) * this

/-! ## What a point writes -/

/-- A column of the values' half of the values and ones. -/
def lo (d : Fin 128) : Fin 256 := ⟨d.val, by omega⟩

/-- A column of the ones' half. -/
def hi (d : Fin 128) : Fin 256 := ⟨128 + d.val, by omega⟩

theorem ninf_read (r : Fin 1024) (d : Fin 128) :
    (k0_pay2 : FVec Ideal S1024x128 .f32) (ix2 r d) = (⊥ : EReal) := by
  unfold k0_pay2
  pointwise
  exact ninf_bits

theorem zero_read (r : Fin 1024) (c : Fin 256) :
    (k0_pay3 : FVec Ideal S1024x256 .f32) (ix2 r c) = 0 := by
  unfold k0_pay3
  pointwise

theorem pow_pos (M : ℝ) : 0 < (2 : ℝ) ^ (-M) := Real.rpow_pos_of_pos (by norm_num) _

/-- The output is the quotient of the two sums. -/
theorem o_last {r : Fin 1024} {U : Fin 256 → ℝ} (h : Kept pm pa r U) (d : Fin 128)
    (hU : 0 < U (hi d)) : k0_pay82 pa (ix2 r d) = ((U (lo d) / U (hi d) : ℝ) : EReal) := by
  obtain ⟨M, -, ha⟩ := h.sums
  have e : k0_pay82 pa (ix2 r d)
      = Idealize.ShloMosaic.Ideal.div (pa (ix2 r (lo d))) (pa (ix2 r (hi d))) := by
    unfold k0_pay82 k0_pay81
    pointwise
    rfl
  rw [e, ha, ha, div_coe _ (mul_pos (pow_pos M) hU).ne', mul_div_mul_left _ _ (pow_pos M).ne']

/-- The normaliser is the logarithm, to base two, of the sum of the powers. -/
theorem lse_last {r : Fin 1024} {U : Fin 256 → ℝ} (h : Kept pm pa r U) (d : Fin 128)
    (hU : 0 < U (hi d)) :
    k0_pay1 (k0_pay81 pa) pm (ix3 0 r d) = ((Real.log (U (hi d)) / Real.log 2 : ℝ) : EReal) := by
  obtain ⟨M, hm, ha⟩ := h.sums
  have e : k0_pay1 (k0_pay81 pa) pm (ix3 0 r d)
      = pm (ix2 r d) + FloatOps.log (F := Ideal) (φ := .f32) (pa (ix2 r (hi d)))
          * Named.named (F := Ideal) κ "log2_e" (φ := .f32) 0x3FB8AA3B#32 := by
    unfold k0_pay1 k0_pay81
    pointwise
    rfl
  rw [e, hm, ha, log_coe (mul_pos (pow_pos M) hU),
    IdealRules.named_const.ideal_named_scalar _ _ _ _ rfl, ← EReal.coe_mul, ← EReal.coe_add]
  refine congrArg _ ?_
  rw [Real.log_mul (pow_pos M).ne' hU.ne', Real.log_rpow (by norm_num), add_mul, neg_mul, neg_mul,
    mul_assoc, mul_inv_cancel₀ ln2_ne, mul_one, add_neg_cancel_left, div_eq_mul_inv]

end Cert.FlashFwdIdeal.Attention
-- ==== Proof.FwdBlocks.lean ====
module

public import proofs.«01_k».proof.Proof.FwdTile
public import Idealize.ShloMosaic.Lib.Pipeline.ReadBack

@[expose] public section
set_option maxRecDepth 16384

/-! # One point of the forward pass's grid: a tile of 1024 queries against all 8192 keys

What the kernel leaves in its two output blocks at a grid point, at an element.  A point goes
through the head's keys in sixteen tiles. -/

noncomputable section

namespace Cert.FlashFwdIdeal.Attention
open Cert.FlashFwdIdeal Cert.FlashFwdIdeal.Gen Idealize.ShloMosaic Cert.Flash
open Idealize.ShloMosaic.TcCoe Idealize.SL.Sem

/-- Key `s` of the tile that starts at `p`. -/
def key (p : ℕ) (hp : p + 512 ≤ 8192) (s : Fin 512) : Fin 8192 := ⟨p + s.val, by omega⟩

theorem inb_tile (p : ℕ) (hp : p + 512 ≤ 8192) :
    ∀ a, (![0, p, 0] : Fin 3 → ℕ) a + (![1, 512, 256] : Fin 3 → ℕ) a ≤ S1x8192x256.size a := by
  intro a
  fin_cases a <;> simp [hp]

/-- A tile of a head's rows. -/
def part (x : Vec Ideal S1x8192x256 .bf16) (p : ℕ) (hp : p + 512 ≤ 8192) :
    Vec Ideal S1x512x256 .bf16 :=
  View.ld x (Rect.unit (s := S1x8192x256) ![0, p, 0] ![1, 512, 256] (inb_tile p hp))

theorem part_apply {x : Vec Ideal S1x8192x256 .bf16} {k : Fin 8192 → Fin 256 → ℝ}
    (h : ∀ s c, x (ix3 0 s c) = (k s c : EReal)) (p : ℕ) (hp : p + 512 ≤ 8192)
    (s : Fin 512) (c : Fin 256) : part x p hp (ix3 0 s c) = (k (key p hp s) c : EReal) := by
  rw [← h]
  refine View.ld_unit_apply_of _ _ _ _ _ _ fun a => ?_
  fin_cases a <;> simp [key]

/-- The share in a row's sums of the tile that starts at `p`. -/
def share (q : Fin 256 → ℝ) (k v : Fin 8192 → Fin 256 → ℝ) (c : Fin 256) (p : ℕ)
    (hp : p + 512 ≤ 8192) : ℝ :=
  tile q (fun s => k (key p hp s)) (fun s => v (key p hp s)) c

/-- A row's sums over all keys. -/
def total (q : Fin 256 → ℝ) (k v : Fin 8192 → Fin 256 → ℝ) (c : Fin 256) : ℝ :=
  ∑ s, (2 : ℝ) ^ (∑ c', q c' * k s c') * v s c

/-- The sixteen tiles together are all keys. -/
theorem total_shares (q : Fin 256 → ℝ) (k v : Fin 8192 → Fin 256 → ℝ) (c : Fin 256) :
    0
      + share q k v c 0 (by norm_num)
      + share q k v c 512 (by norm_num)
      + share q k v c 1024 (by norm_num)
      + share q k v c 1536 (by norm_num)
      + share q k v c 2048 (by norm_num)
      + share q k v c 2560 (by norm_num)
      + share q k v c 3072 (by norm_num)
      + share q k v c 3584 (by norm_num)
      + share q k v c 4096 (by norm_num)
      + share q k v c 4608 (by norm_num)
      + share q k v c 5120 (by norm_num)
      + share q k v c 5632 (by norm_num)
      + share q k v c 6144 (by norm_num)
      + share q k v c 6656 (by norm_num)
      + share q k v c 7168 (by norm_num)
      + share q k v c 7680 (by norm_num) = total q k v c := by
  have h : ∑ j : Fin 16, share q k v c (j.val * 512) (by omega) = total q k v c :=
    Fin.sum_mul_add_congr (fun _ _ _ => rfl)
  rw [← h]
  generalize share q k v c = T
  simp only [Fin.sum_univ_castSucc, Finset.univ_eq_empty, Finset.sum_empty]
  rfl

/-! ## What a point keeps in its scratch -/

section Scratch

variable {x0 : Vec Ideal S1x1024x256 .bf16} {x1 x2 : Vec Ideal S1x8192x256 .bf16}
  {q : Fin 1024 → Fin 256 → ℝ} {k v : Fin 8192 → Fin 256 → ℝ}

theorem Kept.of_eq {r : Fin 1024} {U W : Fin 256 → ℝ} {pm : Vec Ideal S1024x128 .f32}
    {pa : Vec Ideal S1024x256 .f32} (hU : ∀ c, U c = W c) (h : Kept pm pa r U) : Kept pm pa r W :=
  (funext hU : U = W) ▸ h

theorem kept_first (h0 : ∀ r c, x0 (ix3 0 r c) = (q r c : EReal))
    (h1 : ∀ s c, x1 (ix3 0 s c) = (k s c : EReal)) (h2 : ∀ s c, x2 (ix3 0 s c) = (v s c : EReal))
    (r : Fin 1024) :
    Kept (mstep x0 (part x1 0 (by norm_num)) (k0_pay2 : FVec Ideal S1024x128 .f32))
      (astep x0 (part x1 0 (by norm_num)) (part x2 0 (by norm_num))
        (k0_pay2 : FVec Ideal S1024x128 .f32) (k0_pay3 : FVec Ideal S1024x256 .f32)) r
      (fun c => 0 + share (q r) k v c 0 (by norm_num)) :=
  first_tile h0 (part_apply h1 0 _) (part_apply h2 0 _) (ninf_read r) (zero_read r)

theorem kept_next (h0 : ∀ r c, x0 (ix3 0 r c) = (q r c : EReal))
    (h1 : ∀ s c, x1 (ix3 0 s c) = (k s c : EReal)) (h2 : ∀ s c, x2 (ix3 0 s c) = (v s c : EReal))
    {r : Fin 1024} {U : Fin 256 → ℝ} {pm : Vec Ideal S1024x128 .f32}
    {pa : Vec Ideal S1024x256 .f32} (p : ℕ) (hp : p + 512 ≤ 8192) (h : Kept pm pa r U) :
    Kept (mstep x0 (part x1 p hp) pm) (astep x0 (part x1 p hp) (part x2 p hp) pm pa) r
      (fun c => U c + share (q r) k v c p hp) :=
  next_tile h0 (part_apply h1 p hp) (part_apply h2 p hp) h

end Scratch

/-! ## What a point writes -/

/-- Four copies of an array, side by side. -/
def four (x : FVec Ideal S1024x128 .f32) : FVec Ideal S1024x512 .f32 :=
  concatenate S1024x512 1 [⟨S1024x128, x⟩, ⟨S1024x128, x⟩, ⟨S1024x128, x⟩, ⟨S1024x128, x⟩]
    concatenates_S1024x128_S1024x128_S1024x128_S1024x128_S1024x512_d1

theorem four_eq (x : FVec Ideal S1024x128 .f32) (h) :
    concatenate S1024x512 1
      [⟨S1024x128, x⟩, ⟨S1024x128, x⟩, ⟨S1024x128, x⟩, ⟨S1024x128, x⟩] h = four x := rfl

/-- Two copies of an array, side by side. -/
def two (x : FVec Ideal S1024x128 .f32) : FVec Ideal S1024x256 .f32 :=
  concatenate S1024x256 1 [⟨S1024x128, x⟩, ⟨S1024x128, x⟩]
    concatenates_S1024x128_S1024x128_S1024x256_d1

theorem two_eq (x : FVec Ideal S1024x128 .f32) (h) :
    concatenate S1024x256 1 [⟨S1024x128, x⟩, ⟨S1024x128, x⟩] h = two x := rfl

variable (m : (ℓ : Loc nD τ sig) → Buf (Elt Ideal) ℓ) (c : Dev nD) (t : Fin cfg0.N)

/-- The three blocks a point reads hold these real numbers. -/
structure Reads (q : Fin 1024 → Fin 256 → ℝ) (k v : Fin 8192 → Fin 256 → ℝ) : Prop where
  q : ∀ r c', (iblk m c 0 t : Vec Ideal S1x1024x256 .bf16) (ix3 0 r c') = (q r c' : EReal)
  k : ∀ s c', (iblk m c 1 t : Vec Ideal S1x8192x256 .bf16) (ix3 0 s c') = (k s c' : EReal)
  v : ∀ s c', (iblk m c 2 t : Vec Ideal S1x8192x256 .bf16) (ix3 0 s c') = (v s c' : EReal)

variable {q : Fin 1024 → Fin 256 → ℝ} {k v : Fin 8192 → Fin 256 → ℝ}

theorem total_pos (r : Fin 1024) (d : Fin 128) (hv : ∀ s, v s (hi d) = 1) :
    0 < total (q r) k v (hi d) :=
  Finset.sum_pos (fun s _ => by rw [hv, mul_one]; exact Real.rpow_pos_of_pos (by norm_num) _)
    ⟨0, Finset.mem_univ _⟩

variable (h : Reads m c t q k v) (r : Fin 1024) (d : Fin 128) (hv : ∀ s, v s (hi d) = 1)
include h hv

theorem o_out : (outsAt0 m c t).1 (ix2 r d : S1024x128.Idx)
    = ((total (q r) k v (lo d) / total (q r) k v (hi d) : ℝ) : EReal) := by
  unfold outsAt0
  frame_open
  simp (disch := decide) only [↓ View.readCov_skip, ↓ View.readCov_cons_toLoadRect,
    ↓ View.readCov_fill, ↓ four_eq, ↓ two_eq]
  frame_out
  refine o_last (pm := ?pm) (U := total (q r) k v) ?K d (total_pos r d hv)
  case K =>
  refine Kept.of_eq (total_shares (q r) k v) ?_
  iterate 15 refine kept_next h.q h.k h.v _ _ ?_
  exact kept_first h.q h.k h.v r

theorem lse_out : (outsAt0 m c t).2 (ix3 0 r d : S1x1024x128.Idx)
    = ((Real.log (total (q r) k v (hi d)) / Real.log 2 : ℝ) : EReal) := by
  unfold outsAt0
  frame_open
  simp (disch := decide) only [↓ View.readCov_skip, ↓ View.readCov_cons_toLoadRect,
    ↓ View.readCov_fill, ↓ four_eq, ↓ two_eq]
  frame_out
  refine lse_last (U := total (q r) k v) ?_ d (total_pos r d hv)
  refine Kept.of_eq (total_shares (q r) k v) ?_
  iterate 15 refine kept_next h.q h.k h.v _ _ ?_
  exact kept_first h.q h.k h.v r

end Cert.FlashFwdIdeal.Attention
-- ==== Proof.FwdArrays.lean ====
module

public import proofs.«01_k».proof.Proof.FwdBlocks

@[expose] public section
set_option maxRecDepth 16384

/-! # The forward pass's result arrays

The host code lays queries, keys and values out by heads, and beside the values it puts columns of
ones.  The grid has eight points for each head, one for each tile of 1024 queries.  From what a
point leaves in its two blocks, the output and the normalisers at an element. -/

noncomputable section

namespace Cert.FlashFwdIdeal.Attention
open Cert.FlashFwdIdeal Cert.FlashFwdIdeal.Gen Idealize.ShloMosaic Cert.Flash
open Idealize.ShloMosaic.TcCoe Idealize.SL.Sem
open Cert.KernelIdeal.Flash (S_bits two_bits)

/-! ## The arrays the kernel is given -/

variable (m : (ℓ : Loc nD τ sig) → Buf (Elt Ideal) ℓ) (c : Dev nD)

/-- The arguments' arrays hold these real numbers. -/
structure Holds (A : Args) : Prop where
  qn : ∀ a h d, (m (c, Proc.devRef .tc main_arg0) : S8192x8x128.Idx → EReal) (ix3 a h d) = (A.qn a h d : EReal)
  qr : ∀ a h d, (m (c, Proc.devRef .tc main_arg1) : S8192x8x64.Idx → EReal) (ix3 a h d) = (A.qr a h d : EReal)
  kn : ∀ a h d, (m (c, Proc.devRef .tc main_arg2) : S8192x8x128.Idx → EReal) (ix3 a h d) = (A.kn a h d : EReal)
  kr : ∀ a d, (m (c, Proc.devRef .tc main_arg3) : S8192x64.Idx → EReal) (ix2 a d) = (A.kr a d : EReal)
  v : ∀ a h d, (m (c, Proc.devRef .tc main_arg4) : S8192x8x128.Idx → EReal) (ix3 a h d) = (A.v a h d : EReal)

/-- A row of values with its ones. -/
def ones (x : Fin 128 → ℝ) (c : Fin 256) : ℝ := if h : c.val < 128 then x ⟨c.val, h⟩ else 1

theorem one_bits : Ideal.ofBits .f32 0x3F800000#32 = ((1 : ℝ) : EReal) := by
  simp [Ideal.ofBits, Ideal.ieee, -EReal.coe_mul]; norm_num

section Given
variable {m c} {A : Args} (H : Holds m c A)
include H

theorem q_read (h : Fin 8) (a : Fin 8192) (x : Fin 256) :
    (V m c main_v7 : S8x8192x256.Idx → EReal) (ix3 h a x)
      = ((cat (A.qn a h) (A.qr a h) x * (S / Real.log 2) : ℝ) : EReal) := by
  unfold V
  after_reads_at
  after_reads_at
  rw [two_bits, S_bits, show Ideal.log ((2 : ℝ) : EReal) = ((Real.log 2 : ℝ) : EReal) from
    log_coe (by norm_num), div_coe _ ln2_ne, EReal.coe_mul]
  congr 1
  simp only [H.qn, H.qr, cat]
  split_ifs <;> simp

theorem k_read (h : Fin 8) (a : Fin 8192) (x : Fin 256) :
    (V m c main_v13 : S8x8192x256.Idx → EReal) (ix3 h a x)
      = (cat (A.kn a h) (A.kr a) x : EReal) := by
  unfold V
  after_reads_at
  after_reads_at
  simp only [H.kn, H.kr, cat]
  split_ifs <;> simp

theorem v_read (h : Fin 8) (a : Fin 8192) (x : Fin 256) :
    (V m c main_v17 : S8x8192x256.Idx → EReal) (ix3 h a x) = (ones (A.v a h) x : EReal) := by
  unfold V
  after_reads_at
  after_reads_at
  simp only [H.v, ones, one_bits]
  split_ifs <;> rfl

end Given

/-! ## The blocks of a point -/

/-- Which block each window stages at a point. -/
theorem idx : ∀ t : Fin cfg0.N,
    win0_0.index t = ![t.val / 8, t.val % 8, 0] ∧ win0_1.index t = ![t.val / 8, 0, 0]
    ∧ win0_2.index t = ![t.val / 8, 0, 0] ∧ win0_3.index t = ![t.val % 8, t.val / 8]
    ∧ win0_4.index t = ![t.val / 8, t.val % 8, 0] :=
  (by decide +kernel : ∀ t : Fin grid0.N, _)

/-- The head a point works on. -/
def head (t : Fin cfg0.N) : Fin 8 :=
  ⟨t.val / 8, by have := lt_of_lt_of_eq t.isLt N_0; omega⟩

/-- The query in row `r` of a point's tile. -/
def row (t : Fin cfg0.N) (r : Fin 1024) : Fin 8192 := ⟨t.val % 8 * 1024 + r.val, by omega⟩

/-- The column of the output that holds feature `d` of a head. -/
def col (h : Fin 8) (d : Fin 128) : Fin 1024 := ⟨h.val * 128 + d.val, by omega⟩

theorem q_blk (t : Fin cfg0.N) (r : Fin 1024) (x : Fin 256) :
    (iblk m c 0 t : Vec Ideal S1x1024x256 .bf16) (ix3 0 r x)
      = (V m c main_v7 : S8x8192x256.Idx → EReal) (ix3 (head t) (row t r) x) := by
  have h := idx t
  blk_ext [iblk, h, head, row]

theorem k_blk (t : Fin cfg0.N) (s : Fin 8192) (x : Fin 256) :
    (iblk m c 1 t : Vec Ideal S1x8192x256 .bf16) (ix3 0 s x)
      = (V m c main_v13 : S8x8192x256.Idx → EReal) (ix3 (head t) s x) := by
  have h := idx t
  blk_ext [iblk, h, head]

theorem v_blk (t : Fin cfg0.N) (s : Fin 8192) (x : Fin 256) :
    (iblk m c 2 t : Vec Ideal S1x8192x256 .bf16) (ix3 0 s x)
      = (V m c main_v17 : S8x8192x256.Idx → EReal) (ix3 (head t) s x) := by
  have h := idx t
  blk_ext [iblk, h, head]

theorem emb_3 (t : Fin cfg0.N) (r : Fin 1024) (d : Fin 128) :
    (ix2 (row t r) (col (head t) d) : S8192x1024.Idx)
      = (win0_3.blk t).view.emb (ix2 r d : S1024x128.Idx) := by
  have h := idx t
  blk_ext [h, head, row, col]

theorem emb_4 (t : Fin cfg0.N) (r : Fin 1024) (d : Fin 128) :
    (ix3 (head t) (row t r) d : S8x8192x128.Idx)
      = (win0_4.blk t).view.emb (ix3 0 r d : S1x1024x128.Idx) := by
  have h := idx t
  blk_ext [h, head, row]

/-! ## The sums a point ends with -/

section Sums
variable (A : Args) (h : Fin 8) (a : Fin 8192)

/-- The sum of a row's exponentials. -/
def norm : ℝ := ∑ b, Real.exp (sc A h a b)

theorem norm_pos : 0 < norm A h a :=
  Finset.sum_pos (fun _ _ => Real.exp_pos _) ⟨0, Finset.mem_univ _⟩

/-- A feature of the output: the values weighted by the probabilities. -/
def out (d : Fin 128) : ℝ := ∑ b, P A h a b * A.v b h d

theorem total_eq (x : Fin 256) :
    total (fun x => cat (A.qn a h) (A.qr a h) x * (S / Real.log 2))
        (fun s x => cat (A.kn s h) (A.kr s) x) (fun s x => ones (A.v s h) x) x
      = ∑ b, Real.exp (sc A h a b) * ones (A.v b h) x := by
  refine Finset.sum_congr rfl fun b _ => congrArg (· * _) ?_
  rw [cat_score, Real.rpow_def_of_pos (by norm_num), mul_div_cancel₀ _ ln2_ne]

theorem ones_lo (x : Fin 128 → ℝ) (d : Fin 128) : ones x (lo d) = x d := by
  simp [ones, lo]

theorem ones_hi (x : Fin 128 → ℝ) (d : Fin 128) : ones x (hi d) = 1 := by
  simp [ones, hi]

theorem total_hi (d : Fin 128) :
    total (fun x => cat (A.qn a h) (A.qr a h) x * (S / Real.log 2))
        (fun s x => cat (A.kn s h) (A.kr s) x) (fun s x => ones (A.v s h) x) (hi d)
      = norm A h a := by
  rw [total_eq]
  simp only [ones_hi, mul_one, norm]

theorem total_lo (d : Fin 128) :
    total (fun x => cat (A.qn a h) (A.qr a h) x * (S / Real.log 2))
        (fun s x => cat (A.kn s h) (A.kr s) x) (fun s x => ones (A.v s h) x) (lo d) / norm A h a
      = out A h a d := by
  rw [total_eq, Finset.sum_div]
  refine Finset.sum_congr rfl fun b _ => ?_
  rw [ones_lo, P, ← norm]
  ring

end Sums

/-! ## The two arrays -/

/-- The output, a query's features head after head. -/
def gO (A : Args) (i : S8192x1024.Idx) : EReal :=
  (out A ⟨(i 1).val / 128, by have : (i 1).val < 1024 := (i 1).isLt; omega⟩ (i 0)
    ⟨(i 1).val % 128, by omega⟩ : EReal)

/-- The normalisers in base two, by heads, the same in all columns. -/
def gL (A : Args) (i : S8x8192x128.Idx) : EReal :=
  ((Real.log (norm A (i 0) (i 1)) / Real.log 2 : ℝ) : EReal)

theorem gO_apply (A : Args) (a : Fin 8192) (h : Fin 8) (d : Fin 128) :
    gO A (ix2 a (col h d)) = (out A h a d : EReal) := by
  have h1 : (⟨(col h d).val / 128, by omega⟩ : Fin 8) = h := Fin.ext (by simp only [col]; omega)
  have h2 : (⟨(col h d).val % 128, by omega⟩ : Fin 128) = d := Fin.ext (by simp only [col]; omega)
  show (out A ⟨(col h d).val / 128, _⟩ a ⟨(col h d).val % 128, _⟩ : EReal) = _
  rw [h1, h2]

variable {m c} {A : Args} (H : Holds m c A)
include H

/-- The blocks a point reads, as parts of the arrays. -/
theorem reads (t : Fin cfg0.N) :
    Reads m c t
      (fun r x => cat (A.qn (row t r) (head t)) (A.qr (row t r) (head t)) x * (S / Real.log 2))
      (fun s x => cat (A.kn s (head t)) (A.kr s) x) (fun s x => ones (A.v s (head t)) x) where
  q r x := (q_blk m c t r x).trans (q_read H _ _ _)
  k s x := (k_blk m c t s x).trans (k_read H _ _ _)
  v s x := (v_blk m c t s x).trans (v_read H _ _ _)

theorem o_at (t : Fin cfg0.N) (r : Fin 1024) (d : Fin 128) :
    (outsAt0 m c t).1 (ix2 r d : S1024x128.Idx) = (out A (head t) (row t r) d : EReal) := by
  rw [o_out m c t (reads H t) r d (fun s => ones_hi _ d), total_hi, total_lo]

theorem lse_at (t : Fin cfg0.N) (r : Fin 1024) (d : Fin 128) :
    (outsAt0 m c t).2 (ix3 0 r d : S1x1024x128.Idx)
      = ((Real.log (norm A (head t) (row t r)) / Real.log 2 : ℝ) : EReal) := by
  rw [lse_out m c t (reads H t) r d (fun s => ones_hi _ d), total_hi]

theorem o_emb (t : Fin cfg0.N) (y : S1024x128.Idx) :
    (outsAt0 m c t).1 y = gO A ((win0_3.blk t).view.emb y) := by
  obtain ⟨r, d, rfl⟩ : ∃ (r : Fin 1024) (d : Fin 128), y = (ix2 r d : S1024x128.Idx) :=
    ⟨y 0, y 1, by ext i; fin_cases i <;> rfl⟩
  rw [o_at H t r d, ← emb_3 t r d, gO_apply]

theorem o_array : (dats m 0 c).arrAt 3 cfg0.N = gO A := by
  refine (dats m 0 c).arrAt_eq_of_covers 3 _ (by decide +kernel) fun t hf y => ?_
  blk_simp
  rw [after0_3]
  exact o_emb H t y

theorem lse_emb (t : Fin cfg0.N) (y : S1x1024x128.Idx) :
    (outsAt0 m c t).2 y = gL A ((win0_4.blk t).view.emb y) := by
  obtain ⟨a, r, d, rfl⟩ : ∃ (a : Fin 1) (r : Fin 1024) (d : Fin 128),
      y = (ix3 a r d : S1x1024x128.Idx) := ⟨y 0, y 1, y 2, by ext i; fin_cases i <;> rfl⟩
  obtain rfl : a = 0 := Subsingleton.elim _ _
  rw [lse_at H t r d, ← emb_4 t r d]
  rfl

theorem lse_array : (dats m 0 c).arrAt 4 cfg0.N = gL A := by
  refine (dats m 0 c).arrAt_eq_of_covers 4 _ (by decide +kernel) fun t hf y => ?_
  blk_simp
  rw [after0_4]
  exact lse_emb H t y

end Cert.FlashFwdIdeal.Attention
-- ==== Proof.FwdRef.lean ====
module

public import proofs.«01_k».proof.Proof.FwdArrays
public import proofs.«01_k».proof.Proof.Gen.FlashFwdRefIdeal.Read

@[expose] public section
set_option maxRecDepth 16384

/-! # The forward pass's reference

The reference takes the softmax of the whole score array and multiplies it by the values.  Each of
its arrays is read at an element, for real arguments, up to the output and the normalisers. -/

noncomputable section

namespace Cert.FlashFwdRefIdeal.Attention
open Cert.FlashFwdRefIdeal Cert.FlashFwdRefIdeal.Gen Cert.FlashFwdRefIdeal.Read
open Idealize.ShloMosaic Cert.Flash
open Idealize.ShloMosaic.TcCoe Idealize.SL.Sem
open Cert.KernelIdeal.Flash (fold_max_coe ninf_bits S_bits two_bits)
open Cert.FlashFwdIdeal.Attention (norm norm_pos out gO gL gO_apply col)

theorem max_arr (x : FVec Ideal S8x8192x8192 .f32) (h : Fin 8) (a : Fin 8192) (g : Fin 8192 → ℝ)
    (hx : ∀ b, x (ix3 h a b) = (g b : EReal)) : ∃ M : ℝ,
    Host.reduce (FloatOps.maximumf (F := Ideal) (φ := .f32)) x
      (constant (F := Ideal) S_ .f32 0xFF800000#32) reducesTo_S8x8192x8192_S8x8192_d2 h_S_
      (ix2 h a) = (M : EReal) := by
  pointwise
  rw [ninf_bits]
  exact fold_max_coe _ g hx

theorem top_arr (x : FVec Ideal S8x8192 .f32) (h : Fin 8) (a : Fin 8192) {M : ℝ}
    (hx : x (ix2 h a) = (M : EReal)) :
    maximumf (broadcastInDim S8x8192 ![] bcast_S_S8x8192
      (constant (F := Ideal) S_ .f32 0xFF800000#32)) x (ix2 h a) = (M : EReal) := by
  pointwise
  rw [ninf_bits, hx]
  exact bot_sup_eq _

variable {x0 x2 x4 : FVec Ideal S8192x8x128 .f32} {x1 : FVec Ideal S8192x8x64 .f32}
  {x3 : FVec Ideal S8192x64 .f32}

/-- The five arrays hold these real numbers. -/
structure Given (x0 : FVec Ideal S8192x8x128 .f32) (x1 : FVec Ideal S8192x8x64 .f32)
    (x2 : FVec Ideal S8192x8x128 .f32) (x3 : FVec Ideal S8192x64 .f32)
    (x4 : FVec Ideal S8192x8x128 .f32) (A : Args) : Prop where
  qn : ∀ a h d, x0 (ix3 a h d) = (A.qn a h d : EReal)
  qr : ∀ a h d, x1 (ix3 a h d) = (A.qr a h d : EReal)
  kn : ∀ a h d, x2 (ix3 a h d) = (A.kn a h d : EReal)
  kr : ∀ a d, x3 (ix2 a d) = (A.kr a d : EReal)
  v : ∀ a h d, x4 (ix3 a h d) = (A.v a h d : EReal)

variable {A : Args} (H : Given x0 x1 x2 x3 x4 A)
include H

/-- The scaled scores. -/
theorem sc_read (h : Fin 8) (a b : Fin 8192) :
    val_main_v5 (F := Ideal) x0 x1 x2 x3 (ix3 h a b) = (sc A h a b : EReal) := by
  pointwise [val_main_v5, val_main_cst, val_main_v4, val_main_v3, val_main_v2, val_main_v1,
    val_main_v0]
  rw [S_bits, sum_mul_coe (fun d => H.qn a h d) (fun d => H.kn b h d),
    sum_mul_coe (fun d => H.kr b d) (fun d => H.qr a h d), ← EReal.coe_add, ← EReal.coe_mul, sc]
  simp only [mul_comm]

/-- A row's largest score, or minus infinity if that were larger, is a number. -/
theorem max_read (h : Fin 8) (a : Fin 8192) : ∃ M : ℝ,
    val_main_v8 (F := Ideal) x0 x1 x2 x3 (ix2 h a) = (M : EReal) := by
  obtain ⟨M, hM⟩ := max_arr _ h a _ fun b => sc_read H h a b
  refine ⟨M, ?_⟩
  unfold val_main_v8 val_main_v7 val_main_cst_1 val_main_v6 val_main_cst_0
  exact top_arr _ h a hM

/-- The exponentials, for any number the row's maximum may be. -/
theorem ex_read {M : ℝ} {h : Fin 8} {a : Fin 8192}
    (hM : val_main_v8 (F := Ideal) x0 x1 x2 x3 (ix2 h a) = (M : EReal)) (b : Fin 8192) :
    val_main_v12 (F := Ideal) x0 x1 x2 x3 (ix3 h a b) = (ex A h M a b : EReal) := by
  pointwise [val_main_v12, val_main_v11, val_main_v10, val_main_v9]
  rw [hM, sc_read H, ← EReal.coe_sub]
  exact exp_coe _

/-- Their sum. -/
theorem ell_read {M : ℝ} {h : Fin 8} {a : Fin 8192}
    (hM : val_main_v8 (F := Ideal) x0 x1 x2 x3 (ix2 h a) = (M : EReal)) :
    val_main_v13 (F := Ideal) x0 x1 x2 x3 (ix2 h a) = (ell A h M a : EReal) := by
  pointwise [val_main_v13, val_main_cst_2]
  exact sum_eq_coe fun b => ex_read H hM b

/-- The probabilities. -/
theorem p_read (h : Fin 8) (a b : Fin 8192) :
    val_main_v16 (F := Ideal) x0 x1 x2 x3 (ix3 h a b) = (P A h a b : EReal) := by
  obtain ⟨M, hM⟩ := max_read H h a
  pointwise [val_main_v16, val_main_v15, val_main_v14]
  rw [ex_read H hM, ell_read H hM, div_coe _ (ell_pos A h M a).ne', ex_div_ell]

/-- The values weighted by the probabilities. -/
theorem out_read (h : Fin 8) (d : Fin 128) (a : Fin 8192) :
    val_main_v17 (F := Ideal) x0 x1 x2 x3 x4 (ix3 h d a) = (out A h a d : EReal) := by
  pointwise [val_main_v17]
  rw [sum_mul_coe (fun b => H.v b h d) fun b => p_read H h a b, out]
  simp only [mul_comm]

/-- The output. -/
theorem o_read (a : Fin 8192) (h : Fin 8) (d : Fin 128) :
    val_main_v20 (F := Ideal) x0 x1 x2 x3 x4 (ix2 a (col h d)) = (out A h a d : EReal) := by
  rw [← out_read H h d a]
  have h0 := h.isLt
  have h1 := d.isLt
  have hi : idx_main_v18 (idx_main_v19 (ix2 a (col h d))) = ix3 h d a := by
    refine funext fun i => Fin.ext ?_
    fin_cases i <;> simp [idx_main_v18, idx_main_v19, col] <;> omega
  show val_main_v19 (F := Ideal) x0 x1 x2 x3 x4 (ix2 a (col h d)) = _
  rw [val_main_v19_apply, val_main_v18_apply, hi]

theorem ref_o : val_main_v20 (F := Ideal) x0 x1 x2 x3 x4 = gO A := by
  funext i
  obtain ⟨a, h, d, rfl⟩ : ∃ a h d, i = ix2 a (col h d) :=
    ⟨i 0, ⟨(i 1).val / 128, by have : (i 1).val < 1024 := (i 1).isLt; omega⟩,
      ⟨(i 1).val % 128, by omega⟩, by
        ext k
        fin_cases k
        · rfl
        · simp only [col]
          exact (Nat.div_add_mod' (i 1).val 128).symm⟩
  rw [o_read H]
  exact (gO_apply A a h d).symm

/-- The sum of a row's exponentials. -/
theorem norm_read (h : Fin 8) (a : Fin 8192) :
    val_main_v22 (F := Ideal) x0 x1 x2 x3 (ix2 h a) = (norm A h a : EReal) := by
  pointwise [val_main_v22, val_main_cst_3, val_main_v21]
  exact sum_eq_coe fun b => (congrArg _ (sc_read H h a b)).trans (exp_coe _)

/-- The normalisers in base two. -/
theorem lse_read (h : Fin 8) (a : Fin 8192) (d : Fin 128) :
    val_main_v28 (F := Ideal) x0 x1 x2 x3 (ix3 h a d)
      = ((Real.log (norm A h a) / Real.log 2 : ℝ) : EReal) := by
  pointwise [val_main_v28, val_main_v27, val_main_v26, val_main_v25, val_main_cst_4, val_main_v24,
    val_main_v23]
  rw [norm_read H, two_bits, show Ideal.log ((2 : ℝ) : EReal) = ((Real.log 2 : ℝ) : EReal) from
    log_coe (by norm_num), show Ideal.log (norm A h a : EReal) = (Real.log (norm A h a) : EReal) from
    log_coe (norm_pos A h a), div_coe _ ln2_ne]

theorem ref_lse : val_main_v28 (F := Ideal) x0 x1 x2 x3 = gL A := by
  funext i
  obtain ⟨h, a, d, rfl⟩ : ∃ h a d, i = ix3 h a d := ⟨i 0, i 1, i 2, by ext k; fin_cases k <;> rfl⟩
  exact lse_read H h a d

end Cert.FlashFwdRefIdeal.Attention
-- ==== Proof.FwdFinite.lean ====
module

public import proofs.«01_k».proof.Proof.Finite
public import proofs.«01_k».proof.Proof.FwdRef
public import proofs.«01_k».proof.Pre_finite_fwd
public import proofs.«01_k».proof.Defs

@[expose] public section
set_option maxRecDepth 16384

/-! # The forward pass's finite arguments are real numbers

There are real numbers that the kernel's five arguments hold, and the reference's hold the same. -/

noncomputable section

namespace Cert.FlashFwdIdeal.Attention
open Idealize.ShloMosaic Idealize.ShloMosaic.TcCoe Idealize.SL.Sem Cert.Flash

/-- The shapes of the precondition's constants spread out. -/
instance facts_fwd : Cert.Pre_finite_fwd.Facts where
  bcast_S_S8192x8x128 := by decide
  bcast_S_S8192x8x64 := by decide
  bcast_S_S8192x64 := by decide

section
variable (x0 x2 x4 : FVec Ideal Cert.FlashFwdRefIdeal.S8192x8x128 .f32)
  (x1 : FVec Ideal Cert.FlashFwdRefIdeal.S8192x8x64 .f32)
  (x3 : FVec Ideal Cert.FlashFwdRefIdeal.S8192x64 .f32)

/-- The real numbers that five arrays hold; the forward pass has no cotangent. -/
def args : Args where
  qn a h d := EReal.toReal (x0 (ix3 a h d))
  qr a h d := EReal.toReal (x1 (ix3 a h d))
  kn a h d := EReal.toReal (x2 (ix3 a h d))
  kr a d := EReal.toReal (x3 (ix2 a d))
  v a h d := EReal.toReal (x4 (ix3 a h d))
  ct _ _ _ := 0

/-- Five arrays that satisfy the precondition hold those numbers. -/
theorem given
    (h : (Cert.Pre_finite_fwd.fn (F := Ideal) x0 x1 x2 x3 x4).1 = (fun _ => 1#1)
      ∧ (Cert.Pre_finite_fwd.fn (F := Ideal) x0 x1 x2 x3 x4).2.1 = (fun _ => 1#1)
      ∧ (Cert.Pre_finite_fwd.fn (F := Ideal) x0 x1 x2 x3 x4).2.2.1 = (fun _ => 1#1)
      ∧ (Cert.Pre_finite_fwd.fn (F := Ideal) x0 x1 x2 x3 x4).2.2.2.1 = (fun _ => 1#1)
      ∧ (Cert.Pre_finite_fwd.fn (F := Ideal) x0 x1 x2 x3 x4).2.2.2.2 = (fun _ => 1#1)) :
    Cert.FlashFwdRefIdeal.Attention.Given x0 x1 x2 x3 x4 (args x0 x2 x4 x1 x3) where
  qn a b d := Cert.Finite.real_arr _ x0 h.1 _
  qr a b d := Cert.Finite.real_arr _ x1 h.2.1 _
  kn a b d := Cert.Finite.real_arr _ x2 h.2.2.1 _
  kr a d := Cert.Finite.real_arr _ x3 h.2.2.2.1 _
  v a b d := Cert.Finite.real_arr _ x4 h.2.2.2.2 _

end

/-- What the reference's arguments hold, the kernel's hold when they are the same arrays. -/
theorem holds {m : (ℓ : Loc Cert.FlashFwdIdeal.nD Cert.FlashFwdIdeal.τ Cert.FlashFwdIdeal.sig) → Buf (Elt Ideal) ℓ}
    {c : Dev Cert.FlashFwdIdeal.nD} {A : Args}
    (H : Cert.FlashFwdRefIdeal.Attention.Given
      (m ((c.tc : Thread _ Cert.FlashFwdIdeal.τ).loc Cert.FlashFwdIdeal.main_arg0))
      (m ((c.tc : Thread _ Cert.FlashFwdIdeal.τ).loc Cert.FlashFwdIdeal.main_arg1))
      (m ((c.tc : Thread _ Cert.FlashFwdIdeal.τ).loc Cert.FlashFwdIdeal.main_arg2))
      (m ((c.tc : Thread _ Cert.FlashFwdIdeal.τ).loc Cert.FlashFwdIdeal.main_arg3))
      (m ((c.tc : Thread _ Cert.FlashFwdIdeal.τ).loc Cert.FlashFwdIdeal.main_arg4)) A) :
    Holds m c A where
  qn := H.qn
  qr := H.qr
  kn := H.kn
  kr := H.kr
  v := H.v

end Cert.FlashFwdIdeal.Attention

end
-- ==== Proof.Blocks.lean ====
module

public import proofs.«01_k».proof.Proof.Tile
public import Idealize.ShloMosaic.Lib.Pipeline.ReadBack

@[expose] public section
set_option maxRecDepth 16384

/-! # One point of the grid: a tile of 1024 queries against all 8192 keys

What the kernel leaves in its three output blocks at a grid point, at an element.  At the first
query tile of a head the keys' and values' gradients start from zero, later they are added to what
the point before left; the queries' gradient is complete after one point. -/

noncomputable section

namespace Cert.KernelIdeal.Flash
open Cert.KernelIdeal Cert.KernelIdeal.Gen Idealize.ShloMosaic Cert.Flash
open Idealize.ShloMosaic.TcCoe Idealize.SL.Sem

/-! ## A tile's load out of the head's block -/

section Tiles

variable {q : Fin 1024 → Fin 256 → ℝ} {o : Fin 1024 → Fin 128 → ℝ} {ls dl : Fin 1024 → ℝ}
  {k : Fin 8192 → Fin 256 → ℝ} {v : Fin 8192 → Fin 128 → ℝ}
  {x0 : Vec Ideal S1x1024x256 .bf16} {x1 : Vec Ideal S1x1024x128 .bf16}
  {x2 x3 : Vec Ideal S1x1024x128 .f32} {x4 : Vec Ideal S1x8192x256 .bf16}
  {x5 : Vec Ideal S1x8192x256 .bf16}

/-- Key `s` of the tile that starts at `p`. -/
def key (p : ℕ) (hp : p + 512 ≤ 8192) (s : Fin 512) : Fin 8192 := ⟨p + s.val, by omega⟩

theorem emb_256 (p : ℕ) (hp : p + 512 ≤ 8192) (inb) (s : Fin 512) (c : Fin 256) :
    (Rect.unit (s := S1x8192x256) ![0, p, 0] ![1, 512, 256] inb).emb (ix3 0 s c)
      = (ix3 0 (key p hp s) c : S1x8192x256.Idx) := by
  funext a
  refine Fin.ext ((Rect.idx_unit_val _ _ inb _ a).trans ?_)
  fin_cases a <;> simp [key]

theorem emb_128 (p : ℕ) (hp : p + 512 ≤ 8192) (inb) (s : Fin 512) (d : Fin 128) :
    (Rect.unit (s := S1x8192x128) ![0, p, 0] ![1, 512, 128] inb).emb (ix3 0 s d)
      = (ix3 0 (key p hp s) d : S1x8192x128.Idx) := by
  funext a
  refine Fin.ext ((Rect.idx_unit_val _ _ inb _ a).trans ?_)
  fin_cases a <;> simp [key]

theorem ld_k (h4 : ∀ s c, x4 (ix3 0 s c) = (k s c : EReal)) (p : ℕ) (hp : p + 512 ≤ 8192) (inb)
    (s : Fin 512) (c : Fin 256) :
    View.ld x4 (Rect.unit (s := S1x8192x256) ![0, p, 0] ![1, 512, 256] inb) (ix3 0 s c)
      = (k (key p hp s) c : EReal) := by
  rw [← h4, ← emb_256 p hp inb]; rfl

/-- A column of the values' half of the values and ones. -/
def vcol (d : Fin 128) : Fin 256 := ⟨d.val, by omega⟩

theorem ld_v (h5 : ∀ s d, x5 (ix3 0 s (vcol d)) = (v s d : EReal)) (p : ℕ) (hp : p + 512 ≤ 8192)
    (inb) (s : Fin 512) (d : Fin 128) :
    View.ld x5 (Rect.unit (s := S1x8192x256) ![0, p, 0] ![1, 512, 128] inb) (ix3 0 s d)
      = (v (key p hp s) d : EReal) := by
  rw [← h5]
  refine View.ld_unit_apply_of _ _ _ inb _ _ fun a => ?_
  fin_cases a <;> simp [key, vcol]

/-- What a point adds to the values' gradient. -/
def dvadd (q : Fin 1024 → Fin 256 → ℝ) (o : Fin 1024 → Fin 128 → ℝ) (ls : Fin 1024 → ℝ)
    (k : Fin 8192 → Fin 256 → ℝ) (s : Fin 8192) (d : Fin 128) : ℝ :=
  ∑ r, pr (q r) (k s) (ls r) * o r d

/-- What a point adds to the keys' gradient. -/
def dkadd (q : Fin 1024 → Fin 256 → ℝ) (o : Fin 1024 → Fin 128 → ℝ) (ls dl : Fin 1024 → ℝ)
    (k : Fin 8192 → Fin 256 → ℝ) (v : Fin 8192 → Fin 128 → ℝ) (s : Fin 8192) (c : Fin 256) : ℝ :=
  ∑ r, dsr (q r) (o r) (ls r) (dl r) (k s) (v s) * q r c

theorem dv_piece (h0 : ∀ r c, x0 (ix3 0 r c) = (q r c : EReal))
    (h1 : ∀ r d, x1 (ix3 0 r d) = (o r d : EReal))
    (h2 : ∀ r d, x2 (ix3 0 r d) = (ls r : EReal))
    (h4 : ∀ s c, x4 (ix3 0 s c) = (k s c : EReal))
    (P : Vec Ideal S1x8192x128 .f32) (p : ℕ) (hp : p + 512 ≤ 8192) (inb inb')
    (x : (Rect.unit (s := S1x8192x128) ![0, p, 0] ![1, 512, 128] inb).shape.Idx) :
    dvstep x0 x1 x2 (View.ld x4 (Rect.unit (s := S1x8192x256) ![0, p, 0] ![1, 512, 256] inb'))
        (View.ld P (Rect.unit (s := S1x8192x128) ![0, p, 0] ![1, 512, 128] inb)) x
      = (fun y : S1x8192x128.Idx => P y + (dvadd q o ls k (y 1) (y 2) : EReal))
          ((Rect.unit (s := S1x8192x128) ![0, p, 0] ![1, 512, 128] inb).emb x) := by
  obtain ⟨a, s, d, rfl⟩ : ∃ a s d, x = ix3 a s d := ⟨x 0, x 1, x 2, by ext i; fin_cases i <;> rfl⟩
  obtain rfl : a = 0 := Subsingleton.elim _ _
  rw [dvstep_apply h0 h1 h2 (ld_k h4 p hp inb')]
  show P ((Rect.unit (s := S1x8192x128) ![0, p, 0] ![1, 512, 128] inb).emb (ix3 0 s d)) + _ = _
  rw [emb_128 p hp inb]
  rfl

theorem dk_piece (h0 : ∀ r c, x0 (ix3 0 r c) = (q r c : EReal))
    (h1 : ∀ r d, x1 (ix3 0 r d) = (o r d : EReal))
    (h2 : ∀ r d, x2 (ix3 0 r d) = (ls r : EReal))
    (h3 : ∀ r d, x3 (ix3 0 r d) = (dl r : EReal))
    (h4 : ∀ s c, x4 (ix3 0 s c) = (k s c : EReal))
    (h5 : ∀ s d, x5 (ix3 0 s (vcol d)) = (v s d : EReal))
    (P : Vec Ideal S1x8192x256 .f32) (p : ℕ) (hp : p + 512 ≤ 8192) (inb inb' inb'')
    (x : (Rect.unit (s := S1x8192x256) ![0, p, 0] ![1, 512, 256] inb).shape.Idx) :
    dkstep x0 x1 x2 x3 (View.ld x4 (Rect.unit (s := S1x8192x256) ![0, p, 0] ![1, 512, 256] inb'))
        (View.ld x5 (Rect.unit (s := S1x8192x256) ![0, p, 0] ![1, 512, 128] inb''))
        (View.ld P (Rect.unit (s := S1x8192x256) ![0, p, 0] ![1, 512, 256] inb)) x
      = (fun y : S1x8192x256.Idx => P y + (dkadd q o ls dl k v (y 1) (y 2) : EReal))
          ((Rect.unit (s := S1x8192x256) ![0, p, 0] ![1, 512, 256] inb).emb x) := by
  obtain ⟨a, s, d, rfl⟩ : ∃ a s d, x = ix3 a s d := ⟨x 0, x 1, x 2, by ext i; fin_cases i <;> rfl⟩
  obtain rfl : a = 0 := Subsingleton.elim _ _
  rw [dkstep_apply h0 h1 h2 h3 (ld_k h4 p hp inb') (ld_v h5 p hp inb'')]
  show P ((Rect.unit (s := S1x8192x256) ![0, p, 0] ![1, 512, 256] inb).emb (ix3 0 s d)) + _ = _
  rw [emb_256 p hp inb]
  rfl

/-- What one tile of keys adds to the gradient of a query. -/
def dqtile (q : Fin 256 → ℝ) (o : Fin 128 → ℝ) (ls dl : ℝ)
    (k : Fin 8192 → Fin 256 → ℝ) (v : Fin 8192 → Fin 128 → ℝ) (c : Fin 256)
    (p : ℕ) (hp : p + 512 ≤ 8192) : ℝ :=
  ∑ s, dsr q o ls dl (k (key p hp s)) (v (key p hp s)) * k (key p hp s) c

/-- What one tile of keys adds to the queries' gradient. -/
theorem dq_piece (h0 : ∀ r c, x0 (ix3 0 r c) = (q r c : EReal))
    (h1 : ∀ r d, x1 (ix3 0 r d) = (o r d : EReal))
    (h2 : ∀ r d, x2 (ix3 0 r d) = (ls r : EReal))
    (h3 : ∀ r d, x3 (ix3 0 r d) = (dl r : EReal))
    (h4 : ∀ s c, x4 (ix3 0 s c) = (k s c : EReal))
    (h5 : ∀ s d, x5 (ix3 0 s (vcol d)) = (v s d : EReal)) {r : Fin 1024} {c : Fin 256}
    (p : ℕ) (hp : p + 512 ≤ 8192) {inb inb''} {prev : Vec Ideal S1024x256 .f32} {a : ℝ}
    (hprev : prev (ix2 r c) = (a : EReal)) :
    dqstep x0 x1 x2 x3 (View.ld x4 (Rect.unit (s := S1x8192x256) ![0, p, 0] ![1, 512, 256] inb))
        (View.ld x5 (Rect.unit (s := S1x8192x256) ![0, p, 0] ![1, 512, 128] inb'')) prev (ix2 r c)
      = ((a + dqtile (q r) (o r) (ls r) (dl r) k v c p hp : ℝ) : EReal) := by
  rw [dqtile, dqstep_apply h0 h1 h2 h3 (ld_k h4 p hp inb) (ld_v h5 p hp inb''), hprev, EReal.coe_add]

/-- The queries' gradient at a query of the tile. -/
def dqsum (q : Fin 256 → ℝ) (o : Fin 128 → ℝ) (ls dl : ℝ)
    (k : Fin 8192 → Fin 256 → ℝ) (v : Fin 8192 → Fin 128 → ℝ) (c : Fin 256) : ℝ :=
  ∑ s, dsr q o ls dl (k s) (v s) * k s c

/-- A sum over the keys, tile by tile. -/
theorem sum_keys (f : Fin 8192 → ℝ) :
    ∑ j : Fin 16, ∑ s : Fin 512, f ⟨j.val * 512 + s.val, by omega⟩ = ∑ s, f s :=
  Fin.sum_mul_add_congr (fun _ _ _ => rfl)

end Tiles

variable (m : (ℓ : Loc nD τ sig) → Buf (Elt Ideal) ℓ) (c : Dev nD) (t : Fin cfg0.N)
  {q : Fin 1024 → Fin 256 → ℝ} {o : Fin 1024 → Fin 128 → ℝ} {ls dl : Fin 1024 → ℝ}
  {k : Fin 8192 → Fin 256 → ℝ} {v : Fin 8192 → Fin 128 → ℝ}

theorem zero_256 (y : S1x8192x256.Idx) : (k0_pay3 : FVec Ideal S1x8192x256 .f32) y = 0 := by
  unfold k0_pay3
  pointwise

theorem zero_128 (y : S1x8192x128.Idx) : (k0_pay4 : FVec Ideal S1x8192x128 .f32) y = 0 := by
  unfold k0_pay4
  pointwise

/-- The six blocks a point reads hold these real numbers. -/
structure Reads (q : Fin 1024 → Fin 256 → ℝ) (o : Fin 1024 → Fin 128 → ℝ) (ls dl : Fin 1024 → ℝ)
    (k : Fin 8192 → Fin 256 → ℝ) (v : Fin 8192 → Fin 128 → ℝ) : Prop where
  q : ∀ r c', (iblk m c 0 t : Vec Ideal S1x1024x256 .bf16) (ix3 0 r c') = (q r c' : EReal)
  o : ∀ r d, (iblk m c 1 t : Vec Ideal S1x1024x128 .bf16) (ix3 0 r d) = (o r d : EReal)
  ls : ∀ r d, (iblk m c 2 t : Vec Ideal S1x1024x128 .f32) (ix3 0 r d) = (ls r : EReal)
  dl : ∀ r d, (iblk m c 3 t : Vec Ideal S1x1024x128 .f32) (ix3 0 r d) = (dl r : EReal)
  k : ∀ s c', (iblk m c 4 t : Vec Ideal S1x8192x256 .bf16) (ix3 0 s c') = (k s c' : EReal)
  v : ∀ s d, (iblk m c 5 t : Vec Ideal S1x8192x256 .bf16) (ix3 0 s (vcol d)) = (v s d : EReal)

/-- A later point of a head adds to the keys' gradient what its queries contribute. -/
theorem dk_B (ht : ¬t.val % 8 = 0) (h : Reads m c t q o ls dl k v) (y : S1x8192x256.Idx) :
    (outsAt0 m c t.val t.isLt).2.1 y
      = (outsAt0 m c (t.val - 1) (by omega)).2.1 y + (dkadd q o ls dl k v (y 1) (y 2) : EReal) := by
  rw [outsAt0_B m c t ht]
  frame_open
  simp (disch := decide) only [↓ View.readCov_skip, ↓ View.readCov_cons_toLoadRect,
    ↓ View.readCov_fill]
  frame_out
  refine (View.canon_append_of_piecesOf (fun y : S1x8192x256.Idx =>
    (outsAt0 m c (t.val - 1) (by omega)).2.1 y + (dkadd q o ls dl k v (y 1) (y 2) : EReal))
    [] [_, _, _, _, _, _, _, _, _, _, _, _, _, _, _, _] ?_ y
    (View.cover_of_tiled_head _ _ _ rfl y)).trans ?_
  · refine ⟨?_, ?_, ?_, ?_, ?_, ?_, ?_, ?_, ?_, ?_, ?_, ?_, ?_, ?_, ?_, ?_, trivial⟩ <;>
      exact dk_piece h.q h.o h.ls h.dl h.k h.v _ _ (by norm_num) _ _ _
  · rfl

/-- The first point of a head leaves in the keys' gradient what its queries contribute. -/
theorem dk_A (ht : t.val % 8 = 0) (h : Reads m c t q o ls dl k v) (y : S1x8192x256.Idx) :
    (outsAt0 m c t.val t.isLt).2.1 y
      = (dkadd q o ls dl k v (y 1) (y 2) : EReal) := by
  rw [outsAt0_A m c t ht]
  frame_open
  simp (disch := decide) only [↓ View.readCov_skip, ↓ View.readCov_cons_toLoadRect,
    ↓ View.readCov_fill]
  frame_out
  refine (View.canon_append_of_piecesOf (fun y : S1x8192x256.Idx =>
    (k0_pay3 : FVec Ideal S1x8192x256 .f32) y + (dkadd q o ls dl k v (y 1) (y 2) : EReal))
    [_] [_, _, _, _, _, _, _, _, _, _, _, _, _, _, _, _] ?_ y
    (View.cover_of_tiled_head _ _ _ rfl y)).trans ?_
  · refine ⟨?_, ?_, ?_, ?_, ?_, ?_, ?_, ?_, ?_, ?_, ?_, ?_, ?_, ?_, ?_, ?_, trivial⟩ <;>
      exact dk_piece h.q h.o h.ls h.dl h.k h.v _ _ (by norm_num) _ _ _
  · rw [zero_256, zero_add]

/-- A later point of a head adds to the values' gradient what its queries contribute. -/
theorem dv_B (ht : ¬t.val % 8 = 0) (h : Reads m c t q o ls dl k v) (y : S1x8192x128.Idx) :
    (outsAt0 m c t.val t.isLt).2.2 y
      = (outsAt0 m c (t.val - 1) (by omega)).2.2 y + (dvadd q o ls k (y 1) (y 2) : EReal) := by
  rw [outsAt0_B m c t ht]
  frame_open
  simp (disch := decide) only [↓ View.readCov_skip, ↓ View.readCov_cons_toLoadRect,
    ↓ View.readCov_fill]
  frame_out
  refine (View.canon_append_of_piecesOf (fun y : S1x8192x128.Idx =>
    (outsAt0 m c (t.val - 1) (by omega)).2.2 y + (dvadd q o ls k (y 1) (y 2) : EReal))
    [] [_, _, _, _, _, _, _, _, _, _, _, _, _, _, _, _] ?_ y
    (View.cover_of_tiled_head _ _ _ rfl y)).trans ?_
  · refine ⟨?_, ?_, ?_, ?_, ?_, ?_, ?_, ?_, ?_, ?_, ?_, ?_, ?_, ?_, ?_, ?_, trivial⟩ <;>
      exact dv_piece h.q h.o h.ls h.k _ _ (by norm_num) _ _
  · rfl

/-- The first point of a head leaves in the values' gradient what its queries contribute. -/
theorem dv_A (ht : t.val % 8 = 0) (h : Reads m c t q o ls dl k v) (y : S1x8192x128.Idx) :
    (outsAt0 m c t.val t.isLt).2.2 y
      = (dvadd q o ls k (y 1) (y 2) : EReal) := by
  rw [outsAt0_A m c t ht]
  frame_open
  simp (disch := decide) only [↓ View.readCov_skip, ↓ View.readCov_cons_toLoadRect,
    ↓ View.readCov_fill]
  frame_out
  refine (View.canon_append_of_piecesOf (fun y : S1x8192x128.Idx =>
    (k0_pay4 : FVec Ideal S1x8192x128 .f32) y + (dvadd q o ls k (y 1) (y 2) : EReal))
    [_] [_, _, _, _, _, _, _, _, _, _, _, _, _, _, _, _] ?_ y
    (View.cover_of_tiled_head _ _ _ rfl y)).trans ?_
  · refine ⟨?_, ?_, ?_, ?_, ?_, ?_, ?_, ?_, ?_, ?_, ?_, ?_, ?_, ?_, ?_, ?_, trivial⟩ <;>
      exact dv_piece h.q h.o h.ls h.k _ _ (by norm_num) _ _
  · rw [zero_128, zero_add]

/-- The scratch starts from zero. -/
theorem zero_read {r : Fin 1024} {c' : Fin 256} :
    (k0_pay9 : FVec Ideal S1024x256 .f32) (ix2 r c') = ((0 : ℝ) : EReal) := by
  unfold k0_pay9
  pointwise
  exact EReal.coe_zero.symm

/-- The scratch is written to the output block as it is. -/
theorem dq_last (X : Vec Ideal S1024x256 .f32) (r : Fin 1024) (c' : Fin 256) :
    k0_pay2 X (ix3 0 r c') = X (ix2 r c') := by
  unfold k0_pay2
  pointwise

/-- The sixteen tiles' contributions are the sum over all keys. -/
theorem dqsum_tiles (q : Fin 256 → ℝ) (o : Fin 128 → ℝ) (ls dl : ℝ)
    (k : Fin 8192 → Fin 256 → ℝ) (v : Fin 8192 → Fin 128 → ℝ) (c : Fin 256) :
    0
      + dqtile q o ls dl k v c 0 (by norm_num)
      + dqtile q o ls dl k v c 512 (by norm_num)
      + dqtile q o ls dl k v c 1024 (by norm_num)
      + dqtile q o ls dl k v c 1536 (by norm_num)
      + dqtile q o ls dl k v c 2048 (by norm_num)
      + dqtile q o ls dl k v c 2560 (by norm_num)
      + dqtile q o ls dl k v c 3072 (by norm_num)
      + dqtile q o ls dl k v c 3584 (by norm_num)
      + dqtile q o ls dl k v c 4096 (by norm_num)
      + dqtile q o ls dl k v c 4608 (by norm_num)
      + dqtile q o ls dl k v c 5120 (by norm_num)
      + dqtile q o ls dl k v c 5632 (by norm_num)
      + dqtile q o ls dl k v c 6144 (by norm_num)
      + dqtile q o ls dl k v c 6656 (by norm_num)
      + dqtile q o ls dl k v c 7168 (by norm_num)
      + dqtile q o ls dl k v c 7680 (by norm_num) = dqsum q o ls dl k v c := by
  have h : ∑ j : Fin 16, dqtile q o ls dl k v c (j.val * 512) (by omega) = dqsum q o ls dl k v c :=
    sum_keys (fun s => dsr q o ls dl (k s) (v s) * k s c)
  rw [← h]
  generalize dqtile q o ls dl k v c = T
  simp only [Fin.sum_univ_castSucc, Finset.univ_eq_empty, Finset.sum_empty]
  rfl

/-- What a first point leaves in the queries' gradient. -/
theorem dq_A (ht : t.val % 8 = 0) (h : Reads m c t q o ls dl k v) (r : Fin 1024) (c' : Fin 256) :
    (outsAt0 m c t.val t.isLt).1 (ix3 0 r c' : S1x1024x256.Idx)
      = (dqsum (q r) (o r) (ls r) (dl r) k v c' : EReal) := by
  rw [outsAt0_A m c t ht]
  frame_open
  simp (disch := decide) only [↓ View.readCov_skip, ↓ View.readCov_cons_toLoadRect,
    ↓ View.readCov_fill]
  frame_out
  refine (dq_last _ r c').trans ?_
  refine Eq.trans (dq_piece h.q h.o h.ls h.dl h.k h.v 7680 (by norm_num)
    (dq_piece h.q h.o h.ls h.dl h.k h.v 7168 (by norm_num)
    (dq_piece h.q h.o h.ls h.dl h.k h.v 6656 (by norm_num)
    (dq_piece h.q h.o h.ls h.dl h.k h.v 6144 (by norm_num)
    (dq_piece h.q h.o h.ls h.dl h.k h.v 5632 (by norm_num)
    (dq_piece h.q h.o h.ls h.dl h.k h.v 5120 (by norm_num)
    (dq_piece h.q h.o h.ls h.dl h.k h.v 4608 (by norm_num)
    (dq_piece h.q h.o h.ls h.dl h.k h.v 4096 (by norm_num)
    (dq_piece h.q h.o h.ls h.dl h.k h.v 3584 (by norm_num)
    (dq_piece h.q h.o h.ls h.dl h.k h.v 3072 (by norm_num)
    (dq_piece h.q h.o h.ls h.dl h.k h.v 2560 (by norm_num)
    (dq_piece h.q h.o h.ls h.dl h.k h.v 2048 (by norm_num)
    (dq_piece h.q h.o h.ls h.dl h.k h.v 1536 (by norm_num)
    (dq_piece h.q h.o h.ls h.dl h.k h.v 1024 (by norm_num)
    (dq_piece h.q h.o h.ls h.dl h.k h.v 512 (by norm_num)
    (dq_piece h.q h.o h.ls h.dl h.k h.v 0 (by norm_num)
    zero_read)))))))))))))))) ?_
  exact congrArg _ (dqsum_tiles _ _ _ _ _ _ _)

/-- What a later point leaves in the queries' gradient. -/
theorem dq_B (ht : ¬t.val % 8 = 0) (h : Reads m c t q o ls dl k v) (r : Fin 1024) (c' : Fin 256) :
    (outsAt0 m c t.val t.isLt).1 (ix3 0 r c' : S1x1024x256.Idx)
      = (dqsum (q r) (o r) (ls r) (dl r) k v c' : EReal) := by
  rw [outsAt0_B m c t ht]
  frame_open
  simp (disch := decide) only [↓ View.readCov_skip, ↓ View.readCov_cons_toLoadRect,
    ↓ View.readCov_fill]
  frame_out
  refine (dq_last _ r c').trans ?_
  refine Eq.trans (dq_piece h.q h.o h.ls h.dl h.k h.v 7680 (by norm_num)
    (dq_piece h.q h.o h.ls h.dl h.k h.v 7168 (by norm_num)
    (dq_piece h.q h.o h.ls h.dl h.k h.v 6656 (by norm_num)
    (dq_piece h.q h.o h.ls h.dl h.k h.v 6144 (by norm_num)
    (dq_piece h.q h.o h.ls h.dl h.k h.v 5632 (by norm_num)
    (dq_piece h.q h.o h.ls h.dl h.k h.v 5120 (by norm_num)
    (dq_piece h.q h.o h.ls h.dl h.k h.v 4608 (by norm_num)
    (dq_piece h.q h.o h.ls h.dl h.k h.v 4096 (by norm_num)
    (dq_piece h.q h.o h.ls h.dl h.k h.v 3584 (by norm_num)
    (dq_piece h.q h.o h.ls h.dl h.k h.v 3072 (by norm_num)
    (dq_piece h.q h.o h.ls h.dl h.k h.v 2560 (by norm_num)
    (dq_piece h.q h.o h.ls h.dl h.k h.v 2048 (by norm_num)
    (dq_piece h.q h.o h.ls h.dl h.k h.v 1536 (by norm_num)
    (dq_piece h.q h.o h.ls h.dl h.k h.v 1024 (by norm_num)
    (dq_piece h.q h.o h.ls h.dl h.k h.v 512 (by norm_num)
    (dq_piece h.q h.o h.ls h.dl h.k h.v 0 (by norm_num)
    zero_read)))))))))))))))) ?_
  exact congrArg _ (dqsum_tiles _ _ _ _ _ _ _)

end Cert.KernelIdeal.Flash
-- ==== Proof.Arrays.lean ====
module

public import proofs.«01_k».proof.Proof.Blocks
public import proofs.«01_k».proof.Proof.Host

@[expose] public section
set_option maxRecDepth 16384

/-! # The kernel's result arrays

The grid has eight points for each head, one for each tile of 1024 queries.  From what a point
leaves in its blocks, the three result arrays at an element. -/

noncomputable section

namespace Cert.KernelIdeal.Flash
open Cert.KernelIdeal Cert.KernelIdeal.Gen Idealize.ShloMosaic Cert.Flash
open Idealize.ShloMosaic.TcCoe Idealize.SL.Sem

/-- Which block each window stages at a point. -/
theorem idx : ∀ t : Fin cfg0.N,
    win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, 0, 0] ∧ win0_5.index t = ![t.val / 8, 0, 0]
    ∧ win0_6.index t = ![t.val / 8, t.val % 8, 0] ∧ win0_7.index t = ![t.val / 8, 0, 0]
    ∧ win0_8.index t = ![t.val / 8, 0, 0] :=
  (by decide +kernel : ∀ t : Fin grid0.N, _)

/-- The head a point works on. -/
def head (t : Fin cfg0.N) : Fin 8 :=
  ⟨t.val / 8, by have := lt_of_lt_of_eq t.isLt N_0; omega⟩

/-- The query in row `r` of a point's tile. -/
def row (t : Fin cfg0.N) (r : Fin 1024) : Fin 8192 := ⟨t.val % 8 * 1024 + r.val, by omega⟩

section Blk
variable (m : (ℓ : Loc nD τ sig) → Buf (Elt Ideal) ℓ) (c : Dev nD)

theorem q_blk (t : Fin cfg0.N) (r : Fin 1024) (x : Fin 256) :
    (iblk m c 0 t : Vec Ideal S1x1024x256 .bf16) (ix3 0 r x)
      = (V m c main_v7 : S8x8192x256.Idx → EReal) (ix3 (head t) (row t r) x) := by
  have h := idx t
  blk_ext [iblk, h, head, row]

theorem o_blk (t : Fin cfg0.N) (r : Fin 1024) (x : Fin 128) :
    (iblk m c 1 t : Vec Ideal S1x1024x128 .bf16) (ix3 0 r x)
      = (V m c main_v45 : S8x8192x128.Idx → EReal) (ix3 (head t) (row t r) x) := by
  have h := idx t
  blk_ext [iblk, h, head, row]

theorem ls_blk (t : Fin cfg0.N) (r : Fin 1024) (x : Fin 128) :
    (iblk m c 2 t : Vec Ideal S1x1024x128 .f32) (ix3 0 r x)
      = (V m c main_v40 : S8x8192x128.Idx → EReal) (ix3 (head t) (row t r) x) := by
  have h := idx t
  blk_ext [iblk, h, head, row]

theorem dl_blk (t : Fin cfg0.N) (r : Fin 1024) (x : Fin 128) :
    (iblk m c 3 t : Vec Ideal S1x1024x128 .f32) (ix3 0 r x)
      = (V m c main_v44 : S8x8192x128.Idx → EReal) (ix3 (head t) (row t r) x) := by
  have h := idx t
  blk_ext [iblk, h, head, row]

theorem k_blk (t : Fin cfg0.N) (s : Fin 8192) (x : Fin 256) :
    (iblk m c 4 t : Vec Ideal S1x8192x256 .bf16) (ix3 0 s x)
      = (V m c main_v13 : S8x8192x256.Idx → EReal) (ix3 (head t) s x) := by
  have h := idx t
  blk_ext [iblk, h, head, row]

theorem v_blk (t : Fin cfg0.N) (s : Fin 8192) (x : Fin 256) :
    (iblk m c 5 t : Vec Ideal S1x8192x256 .bf16) (ix3 0 s x)
      = (V m c main_v17 : S8x8192x256.Idx → EReal) (ix3 (head t) s x) := by
  have h := idx t
  blk_ext [iblk, h, head, row]

theorem emb_6 (t : Fin cfg0.N) (r : Fin 1024) (x : Fin 256) : (ix3 (head t) (row t r) x : S8x8192x256.Idx)
    = (win0_6.blk t).view.emb (ix3 0 r x : S1x1024x256.Idx) := by
  have h := idx t
  blk_ext [h, head, row]

theorem emb_7 (t : Fin cfg0.N) (s : Fin 8192) (x : Fin 256) : (ix3 (head t) s x : S8x8192x256.Idx)
    = (win0_7.blk t).view.emb (ix3 0 s x : S1x8192x256.Idx) := by
  have h := idx t
  blk_ext [h, head]

theorem emb_8 (t : Fin cfg0.N) (s : Fin 8192) (x : Fin 128) : (ix3 (head t) s x : S8x8192x128.Idx)
    = (win0_8.blk t).view.emb (ix3 0 s x : S1x8192x128.Idx) := by
  have h := idx t
  blk_ext [h, head]

end Blk

variable {m : (ℓ : Loc nD τ sig) → Buf (Elt Ideal) ℓ} {c : Dev nD} {A : Args} (H : Holds m c A)
include H

/-- The base-two normaliser of a row. -/
def lsr (A : Args) (M : Fin 8 → Fin 8192 → ℝ) (h : Fin 8) (a : Fin 8192) : ℝ :=
  (M h a + Real.log (ell A h (M h a) a)) / Real.log 2

/-- The blocks a point reads, as parts of the arrays. -/
theorem reads (M : Fin 8 → Fin 8192 → ℝ)
    (hM : ∀ h a, (V m c main_v26 : S8x8192.Idx → EReal) (ix2 h a) = (M h a : EReal))
    (t : Fin cfg0.N) :
    Reads m c t
      (fun r x => cat (A.qn (row t r) (head t)) (A.qr (row t r) (head t)) x * (S / Real.log 2))
      (fun r d => A.ct (row t r) (head t) d) (fun r => lsr A M (head t) (row t r))
      (fun r => dl A (head t) (row t r)) (fun s x => cat (A.kn s (head t)) (A.kr s) x)
      (fun s d => A.v s (head t) d) where
  q r x := (q_blk m c t r x).trans (q_read H _ _ _)
  o r d := (o_blk m c t r d).trans (do_read H _ _ _)
  ls r d := (ls_blk m c t r d).trans (lse_read H (hM _ _) _)
  dl r d := (dl_blk m c t r d).trans (delta_read H _ _ _)
  k s x := (k_blk m c t s x).trans (k_read H _ _ _)
  v s d := (v_blk m c t s (vcol d)).trans (v1_read H _ _ _)

omit H in
/-- With that normaliser the kernel's probability is the attention probability. -/
theorem pr_eq (A : Args) (M : Fin 8 → Fin 8192 → ℝ) (h : Fin 8) (a b : Fin 8192) :
    pr (fun x => cat (A.qn a h) (A.qr a h) x * (S / Real.log 2))
      (fun x => cat (A.kn b h) (A.kr b) x) (lsr A M h a) = P A h a b :=
  pow_score A h (M h a) a b

omit H in
theorem dsr_eq (A : Args) (M : Fin 8 → Fin 8192 → ℝ) (h : Fin 8) (a b : Fin 8192) :
    dsr (fun x => cat (A.qn a h) (A.qr a h) x * (S / Real.log 2)) (fun d => A.ct a h d)
      (lsr A M h a) (dl A h a) (fun x => cat (A.kn b h) (A.kr b) x) (fun d => A.v b h d)
      = dS A h a b := by
  rw [dsr, pr_eq]; rfl

/-- What a point leaves in its block of the queries' gradient. -/
theorem dq_at (t : Fin cfg0.N) (r : Fin 1024) (x : Fin 256) :
    (outsAt0 m c t.val t.isLt).1 (ix3 0 r x : S1x1024x256.Idx)
      = (dQ A (head t) (row t r) x : EReal) := by
  choose M hM using max_read H
  have hs : dqsum (fun x => cat (A.qn (row t r) (head t)) (A.qr (row t r) (head t)) x * (S / Real.log 2))
      (fun d => A.ct (row t r) (head t) d) (lsr A M (head t) (row t r)) (dl A (head t) (row t r))
      (fun s x => cat (A.kn s (head t)) (A.kr s) x) (fun s d => A.v s (head t) d) x
      = dQ A (head t) (row t r) x :=
    Finset.sum_congr rfl fun s _ => by rw [dsr_eq]
  rw [← hs]
  by_cases ht : t.val % 8 = 0
  · exact dq_A m c t ht (reads H M hM t) r x
  · exact dq_B m c t ht (reads H M hM t) r x

omit H in
/-- A sum over the points of a head and the rows of each point's tile runs over all queries. -/
theorem sum_rows (t : Fin cfg0.N) (ht : t.val % 8 = 8 - 1) (f : Fin 8 → Fin 8192 → ℝ) :
    ∑ s : Fin 8, ∑ r : Fin 1024,
        f (head ⟨8 * (t.val / 8) + s.val, Pipeline.run_point_lt_of_flush t ht s⟩)
          (row ⟨8 * (t.val / 8) + s.val, Pipeline.run_point_lt_of_flush t ht s⟩ r)
      = ∑ a, f (head t) a := by
  refine Fin.sum_mul_add_congr fun s r hl => ?_
  congr 1 <;> refine Fin.ext ?_ <;> simp only [head, row] <;> omega

/-- What the last point of a head leaves in its block of the keys' gradient. -/
theorem dk_at (t : Fin cfg0.N) (ht : t.val % 8 = 8 - 1) (y : S1x8192x256.Idx) :
    (outsAt0 m c t.val t.isLt).2.1 y = (dK A (head t) (y 1) (y 2) : EReal) := by
  choose M hM using max_read H
  have hs (t : Fin cfg0.N) (y : S1x8192x256.Idx) : dkadd
      (fun r x => cat (A.qn (row t r) (head t)) (A.qr (row t r) (head t)) x * (S / Real.log 2))
      (fun r d => A.ct (row t r) (head t) d) (fun r => lsr A M (head t) (row t r))
      (fun r => dl A (head t) (row t r)) (fun s x => cat (A.kn s (head t)) (A.kr s) x)
      (fun s d => A.v s (head t) d) (y 1) (y 2)
      = ∑ r, dS A (head t) (row t r) (y 1)
          * (cat (A.qn (row t r) (head t)) (A.qr (row t r) (head t)) (y 2) * (S / Real.log 2)) :=
    Finset.sum_congr rfl fun r _ => congrArg (· * _) (dsr_eq A M (head t) (row t r) (y 1))
  rw [Pipeline.eq_sum_fin_of_reset_step_apply_of_flush (M := EReal)
    (fun n h => (outsAt0 m c n h).2.1) 8 (fun _ => 0)
    (fun t y => ((∑ r, dS A (head t) (row t r) (y 1)
      * (cat (A.qn (row t r) (head t)) (A.qr (row t r) (head t)) (y 2) * (S / Real.log 2)) : ℝ) : EReal))
    (fun t ht y => by rw [← hs, zero_add]; exact dk_A m c t ht (reads H M hM t) y)
    (fun t ht y => by rw [← hs]; exact dk_B m c t ht (reads H M hM t) y) t ht y, zero_add, ← coe_sum]
  exact congrArg _ (sum_rows t ht fun h a => dS A h a (y 1)
    * (cat (A.qn a h) (A.qr a h) (y 2) * (S / Real.log 2)))

/-- What the last point of a head leaves in its block of the values' gradient. -/
theorem dv_at (t : Fin cfg0.N) (ht : t.val % 8 = 8 - 1) (y : S1x8192x128.Idx) :
    (outsAt0 m c t.val t.isLt).2.2 y = (dV A (head t) (y 1) (y 2) : EReal) := by
  choose M hM using max_read H
  have hs (t : Fin cfg0.N) (y : S1x8192x128.Idx) : dvadd
      (fun r x => cat (A.qn (row t r) (head t)) (A.qr (row t r) (head t)) x * (S / Real.log 2))
      (fun r d => A.ct (row t r) (head t) d) (fun r => lsr A M (head t) (row t r))
      (fun s x => cat (A.kn s (head t)) (A.kr s) x) (y 1) (y 2)
      = ∑ r, P A (head t) (row t r) (y 1) * A.ct (row t r) (head t) (y 2) :=
    Finset.sum_congr rfl fun r _ => congrArg (· * _) (pr_eq A M (head t) (row t r) (y 1))
  rw [Pipeline.eq_sum_fin_of_reset_step_apply_of_flush (M := EReal)
    (fun n h => (outsAt0 m c n h).2.2) 8 (fun _ => 0)
    (fun t y => ((∑ r, P A (head t) (row t r) (y 1) * A.ct (row t r) (head t) (y 2) : ℝ) : EReal))
    (fun t ht y => by rw [← hs, zero_add]; exact dv_A m c t ht (reads H M hM t) y)
    (fun t ht y => by rw [← hs]; exact dv_B m c t ht (reads H M hM t) y) t ht y, zero_add, ← coe_sum]
  exact congrArg _ (sum_rows t ht fun h a => P A h a (y 1) * A.ct a h (y 2))

/-! ## The three arrays -/

/-- The queries' gradient, by heads. -/
def gQ (A : Args) (i : S8x8192x256.Idx) : EReal := (dQ A (i 0) (i 1) (i 2) : EReal)

/-- The keys' gradient, by heads. -/
def gK (A : Args) (i : S8x8192x256.Idx) : EReal := (dK A (i 0) (i 1) (i 2) : EReal)

/-- The values' gradient, by heads. -/
def gV (A : Args) (i : S8x8192x128.Idx) : EReal := (dV A (i 0) (i 1) (i 2) : EReal)

theorem dq_emb (t : Fin cfg0.N) (y : S1x1024x256.Idx) :
    (outsAt0 m c t.val t.isLt).1 y = gQ A ((win0_6.blk t).view.emb y) := by
  obtain ⟨a, r, x, rfl⟩ : ∃ (a : Fin 1) (r : Fin 1024) (x : Fin 256), y = (ix3 a r x : S1x1024x256.Idx) :=
    ⟨y 0, y 1, y 2, by ext i; fin_cases i <;> rfl⟩
  obtain rfl : a = 0 := Subsingleton.elim _ _
  rw [dq_at H t r x, ← emb_6 t r x]
  rfl

theorem dq_array : (dats m 0 c).arrAt 6 cfg0.N = gQ A := by
  refine (dats m 0 c).arrAt_eq_of_covers 6 _ (by decide +kernel) fun t hf y => ?_
  blk_simp
  rw [after0_6]
  exact dq_emb H t y

theorem dk_emb (t : Fin cfg0.N) (ht : t.val % 8 = 8 - 1) (y : S1x8192x256.Idx) :
    (outsAt0 m c t.val t.isLt).2.1 y = gK A ((win0_7.blk t).view.emb y) := by
  obtain ⟨a, r, x, rfl⟩ : ∃ (a : Fin 1) (r : Fin 8192) (x : Fin 256), y = (ix3 a r x : S1x8192x256.Idx) :=
    ⟨y 0, y 1, y 2, by ext i; fin_cases i <;> rfl⟩
  obtain rfl : a = 0 := Subsingleton.elim _ _
  rw [dk_at H t ht, ← emb_7 t r x]
  rfl

theorem dk_array : (dats m 0 c).arrAt 7 cfg0.N = gK A := by
  refine (dats m 0 c).arrAt_eq_of_covers 7 _ (by decide +kernel) fun t hf y => ?_
  blk_simp
  rw [after0_7]
  exact dk_emb H t ((flush0_7 t).mp hf) y

theorem dv_emb (t : Fin cfg0.N) (ht : t.val % 8 = 8 - 1) (y : S1x8192x128.Idx) :
    (outsAt0 m c t.val t.isLt).2.2 y = gV A ((win0_8.blk t).view.emb y) := by
  obtain ⟨a, r, x, rfl⟩ : ∃ (a : Fin 1) (r : Fin 8192) (x : Fin 128), y = (ix3 a r x : S1x8192x128.Idx) :=
    ⟨y 0, y 1, y 2, by ext i; fin_cases i <;> rfl⟩
  obtain rfl : a = 0 := Subsingleton.elim _ _
  rw [dv_at H t ht, ← emb_8 t r x]
  rfl

theorem dv_array : (dats m 0 c).arrAt 8 cfg0.N = gV A := by
  refine (dats m 0 c).arrAt_eq_of_covers 8 _ (by decide +kernel) fun t hf y => ?_
  blk_simp
  rw [after0_8]
  exact dv_emb H t ((flush0_8 t).mp hf) y

end Cert.KernelIdeal.Flash
-- ==== Proof.Relu.lean ====
module

public import proofs.«01_k».proof.Proof.Gen.Ff1Relu2Ideal.Value
public import proofs.«01_k».proof.Proof.Gen.Ff1Relu2RefIdeal.Run
public import proofs.«01_k».proof.Proof.Gen.Ff1Relu2RefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The first feed-forward product

The rows of the input against the columns of the weight, the negative results set to zero, and
their squares.  A point of the grid takes 1024 rows and one stacked block of 1024 columns, over the
whole inner dimension. -/

noncomputable section

namespace Cert.Ff1Relu2Ideal.Mixer
open Cert.Ff1Relu2Ideal Cert.Ff1Relu2Ideal.Gen Idealize.ShloMosaic
open Idealize.ShloMosaic.TcCoe Idealize.SL.Sem

/-- The positive part of a row against a column. -/
def relu (x : S8192x2048.Idx → EReal) (w : S2048x8192.Idx → EReal) (a b : Fin 8192) : EReal :=
  max (∑ k : Fin 2048, x (ix2 a k) * w (ix2 k b)) 0

/-! ## One point -/

theorem pay1_apply (x0 : Vec Ideal S1024x2048 .bf16) (x1 : Vec Ideal S1x2048x1024 .bf16)
    (r s : Fin 1024) :
    k0_pay1 x0 x1 (ix2 r s) = max (∑ k : Fin 2048, x0 (ix2 r k) * x1 (ix3 0 k s)) 0 := by
  unfold k0_pay1
  pointwise

theorem pay2_apply (x0 : Vec Ideal S1024x2048 .bf16) (x1 : Vec Ideal S1x2048x1024 .bf16)
    (i : S1024x1024.Idx) : k0_pay2 x0 x1 i = k0_pay1 x0 x1 i * k0_pay1 x0 x1 i := by
  unfold k0_pay2
  rfl

theorem pay3_apply (x0 : Vec Ideal S1024x2048 .bf16) (x1 : Vec Ideal S1x2048x1024 .bf16)
    (i : S1024x1024.Idx) : k0_pay3 x0 x1 i = k0_pay1 x0 x1 i := by
  unfold k0_pay3
  rfl

/-- Which block each window stages at a point. -/
theorem idx : ∀ t : Fin cfg0.N,
    win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

/-- The row of the input in row `r` of a point's block. -/
def row (t : Fin cfg0.N) (r : Fin 1024) : Fin 8192 :=
  ⟨t.val / 8 * 1024 + r.val, by have := lt_of_lt_of_eq t.isLt N_0; omega⟩

/-- The column of the weight in column `s` of a point's block. -/
def col (t : Fin cfg0.N) (s : Fin 1024) : Fin 8192 := ⟨t.val % 8 * 1024 + s.val, by omega⟩

/-- The stacked block a point takes. -/
def part (t : Fin cfg0.N) : Fin 8 := ⟨t.val % 8, by omega⟩

variable (m : (ℓ : Loc nD τ sig) → Buf (Elt Ideal) ℓ) (c : Dev nD)

theorem x_read (a : Fin 8192) (k : Fin 2048) :
    (V m c main_v0 : S8192x2048.Idx → EReal) (ix2 a k)
      = (m (c, Proc.devRef .tc main_arg0) : S8192x2048.Idx → EReal) (ix2 a k) := by
  unfold V
  after_reads_at

theorem w_read (j : Fin 8) (k : Fin 2048) (s : Fin 1024) :
    (V m c main_v3 : S8x2048x1024.Idx → EReal) (ix3 j k s)
      = (m (c, Proc.devRef .tc main_arg1) : S2048x8192.Idx → EReal)
          (ix2 k ⟨j.val * 1024 + s.val, by omega⟩) := by
  unfold V
  after_reads_at

theorem x_blk (t : Fin cfg0.N) (r : Fin 1024) (k : Fin 2048) :
    (iblk m c 0 t : Vec Ideal S1024x2048 .bf16) (ix2 r k)
      = (V m c main_v0 : S8192x2048.Idx → EReal) (ix2 (row t r) k) := by
  have h := idx t
  blk_ext [iblk, h, row]

theorem w_blk (t : Fin cfg0.N) (k : Fin 2048) (s : Fin 1024) :
    (iblk m c 1 t : Vec Ideal S1x2048x1024 .bf16) (ix3 0 k s)
      = (V m c main_v3 : S8x2048x1024.Idx → EReal) (ix3 (part t) k s) := by
  have h := idx t
  blk_ext [iblk, h, part]

theorem emb_2 (t : Fin cfg0.N) (r s : Fin 1024) : (ix2 (row t r) (col t s) : S8192x8192.Idx)
    = (win0_2.blk t).view.emb (ix2 r s : S1024x1024.Idx) := by
  have h := idx t
  blk_ext [h, row, col]

theorem emb_3 (t : Fin cfg0.N) (r s : Fin 1024) : (ix2 (row t r) (col t s) : S8192x8192.Idx)
    = (win0_3.blk t).view.emb (ix2 r s : S1024x1024.Idx) := by
  have h := idx t
  blk_ext [h, row, col]

/-- A point's products. -/
theorem relu_at (t : Fin cfg0.N) (r s : Fin 1024) :
    k0_pay1 (iblk m c 0 t : Vec Ideal S1024x2048 .bf16) (iblk m c 1 t : Vec Ideal S1x2048x1024 .bf16)
        (ix2 r s)
      = relu (m (c, Proc.devRef .tc main_arg0)) (m (c, Proc.devRef .tc main_arg1))
          (row t r) (col t s) := by
  rw [pay1_apply, relu]
  refine congrArg (max · 0) (Finset.sum_congr rfl fun k _ => ?_)
  rw [x_blk, w_blk, x_read, w_read]
  rfl

/-- The positive parts, as an array. -/
def gR (x : S8192x2048.Idx → EReal) (w : S2048x8192.Idx → EReal) (i : S8192x8192.Idx) : EReal :=
  relu x w (i 0) (i 1)

/-- Their squares, as an array. -/
def gF (x : S8192x2048.Idx → EReal) (w : S2048x8192.Idx → EReal) (i : S8192x8192.Idx) : EReal :=
  relu x w (i 0) (i 1) * relu x w (i 0) (i 1)

theorem f_emb (t : Fin cfg0.N) (y : S1024x1024.Idx) :
    (out0_2 (iblk m c 0 t) (iblk m c 1 t) : Vec Ideal S1024x1024 .bf16) y
      = gF (m (c, Proc.devRef .tc main_arg0)) (m (c, Proc.devRef .tc main_arg1))
          ((win0_2.blk t).view.emb y) := by
  obtain ⟨r, s, rfl⟩ : ∃ (r s : Fin 1024), y = (ix2 r s : S1024x1024.Idx) :=
    ⟨y 0, y 1, by ext i; fin_cases i <;> rfl⟩
  rw [← emb_2 t r s]
  unfold out0_2
  frame_out
  refine (pay2_apply _ _ _).trans ?_
  rw [relu_at]
  rfl

theorem f_array : (dats m 0 c).arrAt 2 cfg0.N
    = gF (m (c, Proc.devRef .tc main_arg0)) (m (c, Proc.devRef .tc main_arg1)) := by
  refine (dats m 0 c).arrAt_eq_of_covers 2 _ (by decide +kernel) fun t hf y => ?_
  blk_simp
  rw [after0_2]
  exact f_emb m c t y

theorem r_emb (t : Fin cfg0.N) (y : S1024x1024.Idx) :
    (out0_3 (iblk m c 0 t) (iblk m c 1 t) : Vec Ideal S1024x1024 .bf16) y
      = gR (m (c, Proc.devRef .tc main_arg0)) (m (c, Proc.devRef .tc main_arg1))
          ((win0_3.blk t).view.emb y) := by
  obtain ⟨r, s, rfl⟩ : ∃ (r s : Fin 1024), y = (ix2 r s : S1024x1024.Idx) :=
    ⟨y 0, y 1, by ext i; fin_cases i <;> rfl⟩
  rw [← emb_3 t r s]
  unfold out0_3
  frame_out
  refine (pay3_apply _ _ _).trans ?_
  rw [relu_at]
  rfl

theorem r_array : (dats m 0 c).arrAt 3 cfg0.N
    = gR (m (c, Proc.devRef .tc main_arg0)) (m (c, Proc.devRef .tc main_arg1)) := by
  refine (dats m 0 c).arrAt_eq_of_covers 3 _ (by decide +kernel) fun t hf y => ?_
  blk_simp
  rw [after0_3]
  exact r_emb m c t y

end Cert.Ff1Relu2Ideal.Mixer

/-! ## The reference -/

namespace Cert.Ff1Relu2RefIdeal.Mixer
open Cert.Ff1Relu2RefIdeal Cert.Ff1Relu2RefIdeal.Read Idealize.ShloMosaic
open Idealize.ShloMosaic.TcCoe Idealize.SL.Sem
open Cert.Ff1Relu2Ideal.Mixer (relu gR gF)

variable (x : FVec Ideal S8192x2048 .f32) (w : FVec Ideal S2048x8192 .f32)

theorem ref_relu (a b : Fin 8192) : val_main_v1 (F := Ideal) x w (ix2 a b) = relu x w a b := by
  unfold val_main_v1 val_main_v0 val_main_call0_v0 val_main_call0_cst
  pointwise [relu]

theorem ref_f : val_main_v3 (F := Ideal) x w = gF x w := by
  funext i
  obtain ⟨a, b, rfl⟩ : ∃ (a b : Fin 8192), i = ix2 a b := ⟨i 0, i 1, by ext k; fin_cases k <;> rfl⟩
  exact congrArg₂ (· * ·) (ref_relu x w a b) (ref_relu x w a b)

theorem ref_r : val_main_v4 (F := Ideal) x w = gR x w := by
  funext i
  obtain ⟨a, b, rfl⟩ : ∃ (a b : Fin 8192), i = ix2 a b := ⟨i 0, i 1, by ext k; fin_cases k <;> rfl⟩
  exact ref_relu x w a b

end Cert.Ff1Relu2RefIdeal.Mixer
-- ==== Proof.Dgrad.lean ====
module

public import proofs.«01_k».proof.Proof.Gen.Ff2DgradIdeal.Value
public import proofs.«01_k».proof.Proof.Gen.Ff2DgradRefIdeal.Run
public import proofs.«01_k».proof.Proof.Gen.Ff2DgradRefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The gradient of the first feed-forward product

The output gradient against the rows of the second weight, times twice the saved positive part.
The reference sets the gradient to zero where the product is not positive; there the positive part
is zero as well, and zero times anything is zero over the extended reals.  So the two agree for all
arguments. -/

noncomputable section

namespace Cert.Ff2DgradIdeal.Mixer
open Cert.Ff2DgradIdeal Cert.Ff2DgradIdeal.Gen Idealize.ShloMosaic
open Idealize.ShloMosaic.TcCoe Idealize.SL.Sem

/-- A row against a column. -/
def pre (x : S8192x2048.Idx → EReal) (w : S2048x8192.Idx → EReal) (a b : Fin 8192) : EReal :=
  ∑ k : Fin 2048, x (ix2 a k) * w (ix2 k b)

/-- The gradient at a row and a column. -/
def dpre (x : S8192x2048.Idx → EReal) (w : S2048x8192.Idx → EReal) (w' dz : S8192x2048.Idx → EReal)
    (a b : Fin 8192) : EReal :=
  (∑ k : Fin 2048, dz (ix2 a k) * w' (ix2 b k))
    * (Ideal.ofBits .f32 0x40000000#32 * max (pre x w a b) 0)

/-- The gradient, as an array. -/
def gD (x : S8192x2048.Idx → EReal) (w : S2048x8192.Idx → EReal) (w' dz : S8192x2048.Idx → EReal)
    (i : S8192x8192.Idx) : EReal := dpre x w w' dz (i 0) (i 1)

/-! ## One point -/

theorem pay1_apply (x0 x1 : Vec Ideal S1024x2048 .bf16) (x2 : Vec Ideal S1024x1024 .bf16)
    (r s : Fin 1024) :
    k0_pay1 x0 x1 x2 (ix2 r s) = (∑ k : Fin 2048, x0 (ix2 r k) * x1 (ix2 s k))
      * (Ideal.ofBits .f32 0x40000000#32 * x2 (ix2 r s)) := by
  unfold k0_pay1
  pointwise

/-- Which block each window stages at a point. -/
theorem idx : ∀ t : Fin cfg0.N,
    win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- The token in row `r` of a point's block. -/
def row (t : Fin cfg0.N) (r : Fin 1024) : Fin 8192 :=
  ⟨t.val / 8 * 1024 + r.val, by have := lt_of_lt_of_eq t.isLt N_0; omega⟩

/-- The hidden coordinate in column `s` of a point's block. -/
def col (t : Fin cfg0.N) (s : Fin 1024) : Fin 8192 := ⟨t.val % 8 * 1024 + s.val, by omega⟩

variable (m : (ℓ : Loc nD τ sig) → Buf (Elt Ideal) ℓ) (c : Dev nD)

theorem dz_read (a : Fin 8192) (k : Fin 2048) :
    (V m c main_v3 : S8192x2048.Idx → EReal) (ix2 a k)
      = (m (c, Proc.devRef .tc main_arg3) : S8192x2048.Idx → EReal) (ix2 a k) := by
  unfold V
  after_reads_at

theorem w_read (b : Fin 8192) (k : Fin 2048) :
    (V m c main_v4 : S8192x2048.Idx → EReal) (ix2 b k)
      = (m (c, Proc.devRef .tc main_arg2) : S8192x2048.Idx → EReal) (ix2 b k) := by
  unfold V
  after_reads_at

theorem r_read (a b : Fin 8192) :
    (V m c main_v2 : S8192x8192.Idx → EReal) (ix2 a b)
      = max (pre (m (c, Proc.devRef .tc main_arg0)) (m (c, Proc.devRef .tc main_arg1)) a b) 0 := by
  unfold V
  after_reads_at
  rfl

theorem dz_blk (t : Fin cfg0.N) (r : Fin 1024) (k : Fin 2048) :
    (iblk m c 0 t : Vec Ideal S1024x2048 .bf16) (ix2 r k)
      = (V m c main_v3 : S8192x2048.Idx → EReal) (ix2 (row t r) k) := by
  have h := idx t
  blk_ext [iblk, h, row]

theorem w_blk (t : Fin cfg0.N) (s : Fin 1024) (k : Fin 2048) :
    (iblk m c 1 t : Vec Ideal S1024x2048 .bf16) (ix2 s k)
      = (V m c main_v4 : S8192x2048.Idx → EReal) (ix2 (col t s) k) := by
  have h := idx t
  blk_ext [iblk, h, col]

theorem r_blk (t : Fin cfg0.N) (r s : Fin 1024) :
    (iblk m c 2 t : Vec Ideal S1024x1024 .bf16) (ix2 r s)
      = (V m c main_v2 : S8192x8192.Idx → EReal) (ix2 (row t r) (col t s)) := by
  have h := idx t
  blk_ext [iblk, h, row, col]

theorem emb_3 (t : Fin cfg0.N) (r s : Fin 1024) : (ix2 (row t r) (col t s) : S8192x8192.Idx)
    = (win0_3.blk t).view.emb (ix2 r s : S1024x1024.Idx) := by
  have h := idx t
  blk_ext [h, row, col]

theorem d_emb (t : Fin cfg0.N) (y : S1024x1024.Idx) :
    (out0_3 (iblk m c 0 t) (iblk m c 1 t) (iblk m c 2 t) : Vec Ideal S1024x1024 .bf16) y
      = gD (m (c, Proc.devRef .tc main_arg0)) (m (c, Proc.devRef .tc main_arg1))
          (m (c, Proc.devRef .tc main_arg2)) (m (c, Proc.devRef .tc main_arg3))
          ((win0_3.blk t).view.emb y) := by
  obtain ⟨r, s, rfl⟩ : ∃ (r s : Fin 1024), y = (ix2 r s : S1024x1024.Idx) :=
    ⟨y 0, y 1, by ext i; fin_cases i <;> rfl⟩
  rw [← emb_3 t r s]
  unfold out0_3
  frame_out
  refine (pay1_apply _ _ _ r s).trans ?_
  rw [r_blk, r_read]
  refine congrArg (· * _) (Finset.sum_congr rfl fun k _ => ?_)
  rw [dz_blk, w_blk, dz_read, w_read]
  rfl

theorem d_array : (dats m 0 c).arrAt 3 cfg0.N
    = gD (m (c, Proc.devRef .tc main_arg0)) (m (c, Proc.devRef .tc main_arg1))
        (m (c, Proc.devRef .tc main_arg2)) (m (c, Proc.devRef .tc main_arg3)) := by
  refine (dats m 0 c).arrAt_eq_of_covers 3 _ (by decide +kernel) fun t hf y => ?_
  blk_simp
  rw [after0_3]
  exact d_emb m c t y

end Cert.Ff2DgradIdeal.Mixer

/-! ## The reference -/

namespace Cert.Ff2DgradRefIdeal.Mixer
open Cert.Ff2DgradRefIdeal Cert.Ff2DgradRefIdeal.Read Idealize.ShloMosaic
open Idealize.ShloMosaic.TcCoe Idealize.SL.Sem
open Cert.Ff2DgradIdeal.Mixer (pre dpre gD)

/-- A gradient set to zero off the positive part, and one multiplied by the positive part. -/
theorem masked (p g t : EReal) :
    Scalar.select (FloatOps.cmpf (F := Ideal) (φ := .f32) .ogt p 0) (g * (t * max p 0)) 0
      = g * (t * max p 0) := by
  by_cases h : 0 < p
  · have : FloatOps.cmpf (F := Ideal) (φ := .f32) .ogt p 0 = 1#1 := by
      rw [Ideal.cmpf_def, Ideal.cmp_ogt]
      simp [h]
    rw [this]
    rfl
  · rw [max_eq_right (not_lt.mp h), mul_zero, mul_zero]
    unfold Scalar.select
    split_ifs <;> rfl

variable (x : FVec Ideal S8192x2048 .f32) (w : FVec Ideal S2048x8192 .f32)
  (w' dz : FVec Ideal S8192x2048 .f32)

theorem ref_pre (a b : Fin 8192) : val_main_v0 (F := Ideal) x w (ix2 a b) = pre x w a b := by
  unfold val_main_v0
  pointwise [pre]

theorem ref_r (a b : Fin 8192) :
    val_main_v1 (F := Ideal) x w (ix2 a b) = max (pre x w a b) 0 := by
  rw [val_main_v1_apply, ref_pre]
  unfold val_main_call0_v0 val_main_call0_cst
  pointwise

theorem ref_ct (a b : Fin 8192) : val_main_v9 (F := Ideal) w' dz (ix2 a b)
    = ∑ k : Fin 2048, dz (ix2 a k) * w' (ix2 b k) := by
  unfold val_main_v9
  pointwise

theorem ref_two (a b : Fin 8192) : val_main_v6 (F := Ideal) (ix2 a b)
    = Ideal.ofBits .f32 0x40000000#32 := by
  unfold val_main_v6 val_main_cst_1
  pointwise

theorem ref_zero (a b : Fin 8192) : val_main_v2 (F := Ideal) (ix2 a b) = 0 := by
  unfold val_main_v2 val_main_cst
  pointwise

theorem ref_zero' (a b : Fin 8192) : val_main_v11 (F := Ideal) (ix2 a b) = 0 := by
  unfold val_main_v11 val_main_cst_2
  pointwise

theorem ref_d : val_main_v13 (F := Ideal) x w w' dz = gD x w w' dz := by
  funext i
  obtain ⟨a, b, rfl⟩ : ∃ (a b : Fin 8192), i = ix2 a b := ⟨i 0, i 1, by ext k; fin_cases k <;> rfl⟩
  refine (val_main_v12_apply (F := Ideal) x w w' dz (ix2 a b)).trans ?_
  rw [val_main_v3_apply, val_main_v10_apply, val_main_v7_apply, ref_pre, ref_ct, ref_r, ref_two,
    ref_zero, ref_zero']
  exact masked _ _ _

end Cert.Ff2DgradRefIdeal.Mixer
-- ==== Proof.Wgrad.lean ====
module

public import proofs.«01_k».proof.Proof.Gen.Ff2WgradIdeal.Value
public import proofs.«01_k».proof.Proof.Gen.Ff2WgradRefIdeal.Run
public import proofs.«01_k».proof.Proof.Gen.Ff2WgradRefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The gradient of the second feed-forward weight

The squared positive parts against the output gradient, summed over the 8192 tokens.  Four
consecutive points of the grid share a block of the result: the first starts from zero, each adds
the products of its 2048 tokens, and the last writes the sum to the block. -/

noncomputable section

namespace Cert.Ff2WgradIdeal.Mixer
open Cert.Ff2WgradIdeal Cert.Ff2WgradIdeal.Gen Idealize.ShloMosaic
open Idealize.ShloMosaic.TcCoe Idealize.SL.Sem

/-- The activation of a token at a hidden coordinate. -/
def act (x : S8192x2048.Idx → EReal) (w : S2048x8192.Idx → EReal) (a b : Fin 8192) : EReal :=
  max (∑ k : Fin 2048, x (ix2 a k) * w (ix2 k b)) 0
    * max (∑ k : Fin 2048, x (ix2 a k) * w (ix2 k b)) 0

/-- The weight's gradient, as an array. -/
def gW (x : S8192x2048.Idx → EReal) (w : S2048x8192.Idx → EReal) (dz : S8192x2048.Idx → EReal)
    (i : S8192x2048.Idx) : EReal :=
  ∑ a : Fin 8192, act x w a (i 0) * dz (ix2 a (i 1))

/-! ## One point -/

theorem pay1_apply (r s : Fin 1024) : (k0_pay1 : FVec Ideal S1024x1024 .f32) (ix2 r s) = 0 := by
  unfold k0_pay1
  pointwise

theorem pay2_apply (p : Vec Ideal S1024x1024 .f32) (x0 x1 : Vec Ideal S2048x1024 .bf16)
    (r s : Fin 1024) :
    k0_pay2 p x0 x1 (ix2 r s)
      = p (ix2 r s) + ∑ k : Fin 2048, x0 (ix2 k r) * x1 (ix2 k s) := by
  unfold k0_pay2
  pointwise

/-- Which block each window stages at a point. -/
theorem idx : ∀ t : Fin cfg0.N,
    win0_0.index t = ![t.val % 4, t.val / 8] ∧ win0_1.index t = ![t.val % 4, t.val / 4 % 2]
    ∧ win0_2.index t = ![t.val / 8, t.val / 4 % 2] :=
  (by decide +kernel : ∀ t : Fin grid0.N, _)

/-- Token `k` of a point's part of the tokens. -/
def tok (t : Fin cfg0.N) (k : Fin 2048) : Fin 8192 := ⟨t.val % 4 * 2048 + k.val, by omega⟩

/-- The hidden coordinate in row `r` of a point's block. -/
def row (t : Fin cfg0.N) (r : Fin 1024) : Fin 8192 :=
  ⟨t.val / 8 * 1024 + r.val, by have := lt_of_lt_of_eq t.isLt N_0; omega⟩

/-- The output coordinate in column `s` of a point's block. -/
def col (t : Fin cfg0.N) (s : Fin 1024) : Fin 2048 := ⟨t.val / 4 % 2 * 1024 + s.val, by omega⟩

variable (m : (ℓ : Loc nD τ sig) → Buf (Elt Ideal) ℓ) (c : Dev nD)

theorem f_read (a b : Fin 8192) :
    (V m c main_v3 : S8192x8192.Idx → EReal) (ix2 a b)
      = act (m (c, Proc.devRef .tc main_arg0)) (m (c, Proc.devRef .tc main_arg1)) a b := by
  unfold V
  after_reads_at
  rfl

theorem dz_read (a : Fin 8192) (k : Fin 2048) :
    (V m c main_v4 : S8192x2048.Idx → EReal) (ix2 a k)
      = (m (c, Proc.devRef .tc main_arg3) : S8192x2048.Idx → EReal) (ix2 a k) := by
  unfold V
  after_reads_at

theorem f_blk (t : Fin cfg0.N) (k : Fin 2048) (r : Fin 1024) :
    (iblk m c 0 t : Vec Ideal S2048x1024 .bf16) (ix2 k r)
      = (V m c main_v3 : S8192x8192.Idx → EReal) (ix2 (tok t k) (row t r)) := by
  have h := idx t
  blk_ext [iblk, h, tok, row]

theorem dz_blk (t : Fin cfg0.N) (k : Fin 2048) (s : Fin 1024) :
    (iblk m c 1 t : Vec Ideal S2048x1024 .bf16) (ix2 k s)
      = (V m c main_v4 : S8192x2048.Idx → EReal) (ix2 (tok t k) (col t s)) := by
  have h := idx t
  blk_ext [iblk, h, tok, col]

theorem emb_2 (t : Fin cfg0.N) (r s : Fin 1024) : (ix2 (row t r) (col t s) : S8192x2048.Idx)
    = (win0_2.blk t).view.emb (ix2 r s : S1024x1024.Idx) := by
  have h := idx t
  blk_ext [h, row, col]

/-- What a point's tokens contribute to its block. -/
def add (t : Fin cfg0.N) (r s : Fin 1024) : EReal :=
  ∑ k : Fin 2048, act (m (c, Proc.devRef .tc main_arg0)) (m (c, Proc.devRef .tc main_arg1))
      (tok t k) (row t r)
    * (m (c, Proc.devRef .tc main_arg3) : S8192x2048.Idx → EReal) (ix2 (tok t k) (col t s))

theorem step_apply (t : Fin cfg0.N) (p : Vec Ideal S1024x1024 .f32) (r s : Fin 1024) :
    k0_pay2 p (iblk m c 0 t : Vec Ideal S2048x1024 .bf16) (iblk m c 1 t : Vec Ideal S2048x1024 .bf16)
      (ix2 r s) = p (ix2 r s) + add m c t r s := by
  rw [pay2_apply, add]
  refine congrArg (_ + ·) (Finset.sum_congr rfl fun k _ => ?_)
  rw [f_blk, dz_blk, f_read, dz_read]

/-- The first point of four leaves its tokens' contribution in the scratch. -/
theorem sc_A (t : Fin cfg0.N) (ht : t.val % 4 = 0) (y : S1024x1024.Idx) :
    (outsAt0 m c t.val t.isLt).2 y = add m c t (y 0) (y 1) := by
  obtain ⟨r, s, rfl⟩ : ∃ (r s : Fin 1024), y = (ix2 r s : S1024x1024.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point adds to what the scratch held. -/
theorem sc_B (t : Fin cfg0.N) (ht : ¬t.val % 4 = 0) (y : S1024x1024.Idx) :
    (outsAt0 m c t.val t.isLt).2 y
      = (outsAt0 m c (t.val - 1) (by omega)).2 y + add m c t (y 0) (y 1) := by
  obtain ⟨r, s, rfl⟩ : ∃ (r s : Fin 1024), y = (ix2 r s : S1024x1024.Idx) :=
    ⟨y 0, y 1, by ext i; fin_cases i <;> rfl⟩
  by_cases h1 : t.val % 4 = 3
  · rw [outsAt0_C m c t ht h1]
    frame_open
    simp (disch := decide) only [↓ View.readCov_skip, ↓ View.readCov_cons_toLoadRect,
      ↓ View.readCov_fill]
    frame_out
    rw [read_unread_whole]
    exact step_apply m c t _ r s
  · rw [outsAt0_B m c t ht h1]
    frame_open
    simp (disch := decide) only [↓ View.readCov_skip, ↓ View.readCov_cons_toLoadRect,
      ↓ View.readCov_fill]
    frame_out
    rw [read_unread_whole]
    exact step_apply m c t _ r s

/-- The last point of four writes the scratch to the block. -/
theorem out_C (t : Fin cfg0.N) (ht : t.val % 4 = 4 - 1) (y : S1024x1024.Idx) :
    (outsAt0 m c t.val t.isLt).1 y = (outsAt0 m c t.val t.isLt).2 y := by
  rw [outsAt0_C m c t (by omega) ht]
  frame_open
  simp (disch := decide) only [↓ View.readCov_skip, ↓ View.readCov_cons_toLoadRect,
    ↓ View.readCov_fill]
  frame_out

/-- The four points' tokens are all tokens. -/
theorem sum_tokens (t : Fin cfg0.N) (ht : t.val % 4 = 4 - 1)
    (f : Fin 8192 → Fin 8192 → Fin 2048 → EReal) (r s : Fin 1024) :
    ∑ j : Fin 4, ∑ k : Fin 2048,
        f (tok ⟨4 * (t.val / 4) + j.val, Pipeline.run_point_lt_of_flush t ht j⟩ k)
          (row ⟨4 * (t.val / 4) + j.val, Pipeline.run_point_lt_of_flush t ht j⟩ r)
          (col ⟨4 * (t.val / 4) + j.val, Pipeline.run_point_lt_of_flush t ht j⟩ s)
      = ∑ a, f a (row t r) (col t s) := by
  refine Fin.sum_mul_add_congr fun j k hl => ?_
  congr 1 <;> refine Fin.ext ?_ <;> simp only [tok, row, col] <;> omega

theorem w_at (t : Fin cfg0.N) (ht : t.val % 4 = 4 - 1) (r s : Fin 1024) :
    (outsAt0 m c t.val t.isLt).1 (ix2 r s : S1024x1024.Idx)
      = gW (m (c, Proc.devRef .tc main_arg0)) (m (c, Proc.devRef .tc main_arg1))
          (m (c, Proc.devRef .tc main_arg3)) (ix2 (row t r) (col t s)) := by
  rw [out_C m c t ht, Pipeline.eq_sum_fin_of_reset_step_apply_of_flush (M := EReal)
    (fun n h => (outsAt0 m c n h).2) 4 (fun _ => 0) (fun t y => add m c t (y 0) (y 1))
    (fun t ht y => by rw [zero_add]; exact sc_A m c t ht y)
    (fun t ht y => sc_B m c t ht y) t ht, zero_add]
  exact sum_tokens t ht (fun a b k => act (m (c, Proc.devRef .tc main_arg0))
    (m (c, Proc.devRef .tc main_arg1)) a b
      * (m (c, Proc.devRef .tc main_arg3) : S8192x2048.Idx → EReal) (ix2 a k)) r s

theorem w_emb (t : Fin cfg0.N) (ht : t.val % 4 = 4 - 1) (y : S1024x1024.Idx) :
    (outsAt0 m c t.val t.isLt).1 y
      = gW (m (c, Proc.devRef .tc main_arg0)) (m (c, Proc.devRef .tc main_arg1))
          (m (c, Proc.devRef .tc main_arg3)) ((win0_2.blk t).view.emb y) := by
  obtain ⟨r, s, rfl⟩ : ∃ (r s : Fin 1024), y = (ix2 r s : S1024x1024.Idx) :=
    ⟨y 0, y 1, by ext i; fin_cases i <;> rfl⟩
  rw [w_at m c t ht, ← emb_2 t r s]

theorem w_array : (dats m 0 c).arrAt 2 cfg0.N
    = gW (m (c, Proc.devRef .tc main_arg0)) (m (c, Proc.devRef .tc main_arg1))
        (m (c, Proc.devRef .tc main_arg3)) := by
  refine (dats m 0 c).arrAt_eq_of_covers 2 _ (by decide +kernel) fun t hf y => ?_
  blk_simp
  rw [after0_2]
  exact w_emb m c t ((flush0_2 t).mp hf) y

end Cert.Ff2WgradIdeal.Mixer

/-! ## The reference -/

namespace Cert.Ff2WgradRefIdeal.Mixer
open Cert.Ff2WgradRefIdeal Cert.Ff2WgradRefIdeal.Gen Cert.Ff2WgradRefIdeal.Read
open Idealize.ShloMosaic
open Idealize.ShloMosaic.TcCoe Idealize.SL.Sem
open Cert.Ff2WgradIdeal.Mixer (act gW)

variable (x : FVec Ideal S8192x2048 .f32) (w : FVec Ideal S2048x8192 .f32)
  (dz : FVec Ideal S8192x2048 .f32)

theorem ref_act (a b : Fin 8192) : val_main_v2 (F := Ideal) x w (ix2 a b) = act x w a b := by
  unfold val_main_v2 val_main_v1 val_main_v0 val_main_call0_v0 val_main_call0_cst
  pointwise [act]

theorem ref_arr (y : FVec Ideal S8192x8192 .f32) (b : Fin 8192) (k : Fin 2048) :
    transpose S8192x2048 [1, 0]
      (Host.dotGeneral dot_S8192x2048_S8192x8192_S2048x8192_0_0_1_1_n_n none dz y)
      transposes_S2048x8192_S8192x2048_1_0 (ix2 b k)
      = ∑ a : Fin 8192, dz (ix2 a k) * y (ix2 a b) := by
  pointwise

theorem ref_w : val_main_v5 (F := Ideal) x w dz = gW x w dz := by
  funext i
  obtain ⟨b, k, rfl⟩ : ∃ (b : Fin 8192) (k : Fin 2048), i = ix2 b k :=
    ⟨i 0, i 1, by ext k; fin_cases k <;> rfl⟩
  unfold val_main_v5 val_main_v4
  refine (ref_arr dz _ b k).trans (Finset.sum_congr rfl fun a _ => ?_)
  rw [ref_act, mul_comm]
  rfl

end Cert.Ff2WgradRefIdeal.Mixer
-- ==== Proof.WgradStacked.lean ====
module

public import proofs.«01_k».proof.Proof.Gen.Ff1WgradIdeal.Value
public import proofs.«01_k».proof.Proof.Gen.Ff1WgradRefIdeal.Run
public import proofs.«01_k».proof.Proof.Gen.Ff1WgradRefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The gradient of the first feed-forward weight

The input against the gradient of the product, summed over the 8192 tokens, in eight stacked blocks
of columns.  As for the second weight, four consecutive points of the grid share a block of the
result and sum in a scratch. -/

noncomputable section

namespace Cert.Ff1WgradIdeal.Mixer
open Cert.Ff1WgradIdeal Cert.Ff1WgradIdeal.Gen Idealize.ShloMosaic
open Idealize.ShloMosaic.TcCoe Idealize.SL.Sem

/-- Column `s` of stacked block `j`. -/
def wide (j : Fin 8) (s : Fin 1024) : Fin 8192 := ⟨j.val * 1024 + s.val, by omega⟩

/-- What token `a` contributes to row `b`, column `e`. -/
def term (x : S8192x2048.Idx → EReal) (d : S8192x8192.Idx → EReal) (a : Fin 8192) (b : Fin 2048)
    (e : Fin 8192) : EReal := x (ix2 a b) * d (ix2 a e)

/-- The weight's gradient, stacked, as an array. -/
def gW (x : S8192x2048.Idx → EReal) (d : S8192x8192.Idx → EReal) (i : S8x2048x1024.Idx) : EReal :=
  ∑ a : Fin 8192, term x d a (i 1) (wide (i 0) (i 2))

/-! ## One point -/

theorem pay1_apply (r s : Fin 1024) : (k0_pay1 : FVec Ideal S1024x1024 .f32) (ix2 r s) = 0 := by
  unfold k0_pay1
  pointwise

theorem pay2_apply (p : Vec Ideal S1024x1024 .f32) (x0 x1 : Vec Ideal S2048x1024 .bf16)
    (r s : Fin 1024) :
    k0_pay2 p x0 x1 (ix2 r s)
      = p (ix2 r s) + ∑ k : Fin 2048, x0 (ix2 k r) * x1 (ix2 k s) := by
  unfold k0_pay2
  pointwise

theorem pay3_apply (p : Vec Ideal S1024x1024 .f32) (r s : Fin 1024) :
    k0_pay3 p (ix3 0 r s) = p (ix2 r s) := by
  unfold k0_pay3
  pointwise

/-- Which block each window stages at a point. -/
theorem idx : ∀ t : Fin cfg0.N,
    win0_0.index t = ![t.val % 4, t.val / 32] ∧ win0_1.index t = ![t.val % 4, t.val / 4 % 8]
    ∧ win0_2.index t = ![t.val / 4 % 8, t.val / 32, 0] :=
  (by decide +kernel : ∀ t : Fin grid0.N, _)

/-- Token `k` of a point's part of the tokens. -/
def tok (t : Fin cfg0.N) (k : Fin 2048) : Fin 8192 := ⟨t.val % 4 * 2048 + k.val, by omega⟩

/-- The input coordinate in row `r` of a point's block. -/
def row (t : Fin cfg0.N) (r : Fin 1024) : Fin 2048 :=
  ⟨t.val / 32 * 1024 + r.val, by have := lt_of_lt_of_eq t.isLt N_0; omega⟩

/-- The stacked block a point works on. -/
def part (t : Fin cfg0.N) : Fin 8 := ⟨t.val / 4 % 8, by omega⟩

variable (m : (ℓ : Loc nD τ sig) → Buf (Elt Ideal) ℓ) (c : Dev nD)

theorem x_read (a : Fin 8192) (k : Fin 2048) :
    (V m c main_v0 : S8192x2048.Idx → EReal) (ix2 a k)
      = (m (c, Proc.devRef .tc main_arg0) : S8192x2048.Idx → EReal) (ix2 a k) := by
  unfold V
  after_reads_at

theorem d_read (a b : Fin 8192) :
    (V m c main_v1 : S8192x8192.Idx → EReal) (ix2 a b)
      = (m (c, Proc.devRef .tc main_arg2) : S8192x8192.Idx → EReal) (ix2 a b) := by
  unfold V
  after_reads_at

theorem x_blk (t : Fin cfg0.N) (k : Fin 2048) (r : Fin 1024) :
    (iblk m c 0 t : Vec Ideal S2048x1024 .bf16) (ix2 k r)
      = (V m c main_v0 : S8192x2048.Idx → EReal) (ix2 (tok t k) (row t r)) := by
  have h := idx t
  blk_ext [iblk, h, tok, row]

theorem d_blk (t : Fin cfg0.N) (k : Fin 2048) (s : Fin 1024) :
    (iblk m c 1 t : Vec Ideal S2048x1024 .bf16) (ix2 k s)
      = (V m c main_v1 : S8192x8192.Idx → EReal) (ix2 (tok t k) (wide (part t) s)) := by
  have h := idx t
  blk_ext [iblk, h, tok, part, wide]

theorem emb_2 (t : Fin cfg0.N) (r s : Fin 1024) : (ix3 (part t) (row t r) s : S8x2048x1024.Idx)
    = (win0_2.blk t).view.emb (ix3 0 r s : S1x1024x1024.Idx) := by
  have h := idx t
  blk_ext [h, row, part]

/-- What a point's tokens contribute to its block. -/
def add (t : Fin cfg0.N) (r s : Fin 1024) : EReal :=
  ∑ k : Fin 2048, term (m (c, Proc.devRef .tc main_arg0)) (m (c, Proc.devRef .tc main_arg2))
    (tok t k) (row t r) (wide (part t) s)

theorem step_apply (t : Fin cfg0.N) (p : Vec Ideal S1024x1024 .f32) (r s : Fin 1024) :
    k0_pay2 p (iblk m c 0 t : Vec Ideal S2048x1024 .bf16) (iblk m c 1 t : Vec Ideal S2048x1024 .bf16)
      (ix2 r s) = p (ix2 r s) + add m c t r s := by
  rw [pay2_apply, add]
  refine congrArg (_ + ·) (Finset.sum_congr rfl fun k _ => ?_)
  rw [x_blk, d_blk, x_read, d_read]
  rfl

/-- The first point of four leaves its tokens' contribution in the scratch. -/
theorem sc_A (t : Fin cfg0.N) (ht : t.val % 4 = 0) (y : S1024x1024.Idx) :
    (outsAt0 m c t.val t.isLt).2 y = add m c t (y 0) (y 1) := by
  obtain ⟨r, s, rfl⟩ : ∃ (r s : Fin 1024), y = (ix2 r s : S1024x1024.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point adds to what the scratch held. -/
theorem sc_B (t : Fin cfg0.N) (ht : ¬t.val % 4 = 0) (y : S1024x1024.Idx) :
    (outsAt0 m c t.val t.isLt).2 y
      = (outsAt0 m c (t.val - 1) (by omega)).2 y + add m c t (y 0) (y 1) := by
  obtain ⟨r, s, rfl⟩ : ∃ (r s : Fin 1024), y = (ix2 r s : S1024x1024.Idx) :=
    ⟨y 0, y 1, by ext i; fin_cases i <;> rfl⟩
  by_cases h1 : t.val % 4 = 3
  · rw [outsAt0_C m c t ht h1]
    frame_open
    simp (disch := decide) only [↓ View.readCov_skip, ↓ View.readCov_cons_toLoadRect,
      ↓ View.readCov_fill]
    frame_out
    rw [read_unread_whole]
    exact step_apply m c t _ r s
  · rw [outsAt0_B m c t ht h1]
    frame_open
    simp (disch := decide) only [↓ View.readCov_skip, ↓ View.readCov_cons_toLoadRect,
      ↓ View.readCov_fill]
    frame_out
    rw [read_unread_whole]
    exact step_apply m c t _ r s

/-- The last point of four writes the scratch to the block. -/
theorem out_C (t : Fin cfg0.N) (ht : t.val % 4 = 4 - 1) (r s : Fin 1024) :
    (outsAt0 m c t.val t.isLt).1 (ix3 0 r s : S1x1024x1024.Idx)
      = (outsAt0 m c t.val t.isLt).2 (ix2 r s) := by
  rw [outsAt0_C m c t (by omega) ht]
  frame_open
  simp (disch := decide) only [↓ View.readCov_skip, ↓ View.readCov_cons_toLoadRect,
    ↓ View.readCov_fill]
  frame_out
  exact pay3_apply _ r s

/-- The four points' tokens are all tokens. -/
theorem sum_tokens (t : Fin cfg0.N) (ht : t.val % 4 = 4 - 1)
    (f : Fin 8192 → Fin 2048 → Fin 8 → EReal) (r : Fin 1024) :
    ∑ j : Fin 4, ∑ k : Fin 2048,
        f (tok ⟨4 * (t.val / 4) + j.val, Pipeline.run_point_lt_of_flush t ht j⟩ k)
          (row ⟨4 * (t.val / 4) + j.val, Pipeline.run_point_lt_of_flush t ht j⟩ r)
          (part ⟨4 * (t.val / 4) + j.val, Pipeline.run_point_lt_of_flush t ht j⟩)
      = ∑ a, f a (row t r) (part t) := by
  refine Fin.sum_mul_add_congr fun j k hl => ?_
  congr 1 <;> refine Fin.ext ?_ <;> simp only [tok, row, part] <;> omega

theorem w_at (t : Fin cfg0.N) (ht : t.val % 4 = 4 - 1) (r s : Fin 1024) :
    (outsAt0 m c t.val t.isLt).1 (ix3 0 r s : S1x1024x1024.Idx)
      = gW (m (c, Proc.devRef .tc main_arg0)) (m (c, Proc.devRef .tc main_arg2))
          (ix3 (part t) (row t r) s) := by
  rw [out_C m c t ht, Pipeline.eq_sum_fin_of_reset_step_apply_of_flush (M := EReal)
    (fun n h => (outsAt0 m c n h).2) 4 (fun _ => 0) (fun t y => add m c t (y 0) (y 1))
    (fun t ht y => by rw [zero_add]; exact sc_A m c t ht y)
    (fun t ht y => sc_B m c t ht y) t ht, zero_add]
  exact sum_tokens t ht (fun a b j => term (m (c, Proc.devRef .tc main_arg0))
    (m (c, Proc.devRef .tc main_arg2)) a b (wide j s)) r

theorem w_emb (t : Fin cfg0.N) (ht : t.val % 4 = 4 - 1) (y : S1x1024x1024.Idx) :
    (outsAt0 m c t.val t.isLt).1 y
      = gW (m (c, Proc.devRef .tc main_arg0)) (m (c, Proc.devRef .tc main_arg2))
          ((win0_2.blk t).view.emb y) := by
  obtain ⟨a, r, s, rfl⟩ : ∃ (a : Fin 1) (r s : Fin 1024), y = (ix3 a r s : S1x1024x1024.Idx) :=
    ⟨y 0, y 1, y 2, by ext i; fin_cases i <;> rfl⟩
  obtain rfl : a = 0 := Subsingleton.elim _ _
  rw [w_at m c t ht, ← emb_2 t r s]

theorem w_array : (dats m 0 c).arrAt 2 cfg0.N
    = gW (m (c, Proc.devRef .tc main_arg0)) (m (c, Proc.devRef .tc main_arg2)) := by
  refine (dats m 0 c).arrAt_eq_of_covers 2 _ (by decide +kernel) fun t hf y => ?_
  blk_simp
  rw [after0_2]
  exact w_emb m c t ((flush0_2 t).mp hf) y

end Cert.Ff1WgradIdeal.Mixer

/-! ## The reference -/

namespace Cert.Ff1WgradRefIdeal.Mixer
open Cert.Ff1WgradRefIdeal Cert.Ff1WgradRefIdeal.Gen Cert.Ff1WgradRefIdeal.Read
open Idealize.ShloMosaic Idealize.ShloMosaic.TcCoe Idealize.SL.Sem
open Cert.Ff1WgradIdeal.Mixer (gW wide)

variable (x : FVec Ideal S8192x2048 .f32) (d : FVec Ideal S8192x8192 .f32)

theorem ref_w : val_main_v4 (F := Ideal) x d = gW x d := by
  funext i
  obtain ⟨j, k, s, rfl⟩ : ∃ (j : Fin 8) (k : Fin 2048) (s : Fin 1024), i = ix3 j k s :=
    ⟨i 0, i 1, i 2, by ext k; fin_cases k <;> rfl⟩
  unfold val_main_v4 val_main_v3 val_main_v2 val_main_v1
  pointwise
  refine Finset.sum_congr rfl fun a _ => mul_comm _ _

end Cert.Ff1WgradRefIdeal.Mixer
-- ==== Proof.Norm.lean ====
module

public import proofs.«01_k».proof.Proof.Reals
public import Idealize.ShloMosaic.Lib.Pipeline.ValueKit

@[expose] public section
set_option maxRecDepth 16384

/-! # Layer normalisation and its backward pass, over the real numbers

A row has 2048 entries.  The reference's gradient comes from differentiating the mean and the
variance one step after another; the kernel's is the closed formula.  They agree. -/

noncomputable section

namespace Cert.Norm
open Idealize.ShloMosaic Cert.Flash

/-- What is added to the variance. -/
def eps : ℝ := 10995116 / 2 ^ 40

/-- The factor of the residual branch. -/
def alpha : ℝ := 9975792 / 2 ^ 23

def mean (z : Fin 2048 → ℝ) : ℝ := (∑ c, z c) / 2048

/-- An entry less its row's mean. -/
def cen (z : Fin 2048 → ℝ) (c : Fin 2048) : ℝ := z c - mean z

def var (z : Fin 2048 → ℝ) : ℝ := mean fun c => cen z c * cen z c

/-- The factor that normalises a row. -/
def inv (z : Fin 2048 → ℝ) : ℝ := (√(var z + eps))⁻¹

/-- The normalised row. -/
def hat (z : Fin 2048 → ℝ) (c : Fin 2048) : ℝ := cen z c * inv z

/-- The kernel's gradient of a row from the gradient `u` of its normalised row. -/
def back (z u : Fin 2048 → ℝ) (c : Fin 2048) : ℝ :=
  inv z * (u c - mean u - hat z c * mean fun k => u k * hat z k)

/-- The reference's gradient of a centred row. -/
def backCen (z u : Fin 2048 → ℝ) (c : Fin 2048) : ℝ :=
  u c * inv z + (∑ k, cen z k * u k) * (-(1 / 2) * (inv z / (var z + eps))) / 2048 * (2 * cen z c)

theorem pos (z : Fin 2048 → ℝ) : 0 < var z + eps := by
  refine add_pos_of_nonneg_of_pos ?_ (by norm_num [eps])
  exact div_nonneg (Finset.sum_nonneg fun c _ => mul_self_nonneg _) (by norm_num)

theorem inv_sq (z : Fin 2048 → ℝ) : inv z * inv z = (var z + eps)⁻¹ := by
  rw [inv, ← mul_inv, Real.mul_self_sqrt (pos z).le]

theorem sum_cen (z : Fin 2048 → ℝ) : ∑ c, cen z c = 0 := by
  simp only [cen, Finset.sum_sub_distrib, Finset.sum_const, Finset.card_univ, Fintype.card_fin,
    nsmul_eq_mul, mean]
  push_cast
  ring

/-- The two gradients agree. -/
theorem backCen_eq (z u : Fin 2048 → ℝ) (c : Fin 2048) :
    backCen z u c + (∑ k, -backCen z u k) / 2048 = back z u c := by
  have hs : ∀ k, backCen z u k
      = u k * inv z - (∑ k, cen z k * u k) * (inv z * (inv z * inv z)) / 2048 * cen z k := by
    intro k
    rw [backCen, inv_sq]
    ring
  have hb : (∑ k, u k * hat z k) = inv z * ∑ k, cen z k * u k := by
    rw [Finset.mul_sum]
    exact Finset.sum_congr rfl fun k _ => by rw [hat]; ring
  rw [Finset.sum_neg_distrib, Finset.sum_congr rfl fun k _ => hs k, Finset.sum_sub_distrib,
    ← Finset.sum_mul, ← Finset.mul_sum, sum_cen, hs, back, mean, mean, hb, hat]
  ring

/-! ## The operations at real numbers -/

theorem len_bits : Ideal.ofBits .f32 0x45000000#32 = ((2048 : ℝ) : EReal) := by
  simp [Ideal.ofBits, Ideal.ieee, -EReal.coe_mul]; norm_num

theorem eps_bits : Ideal.ofBits .f32 0x3727C5AC#32 = (eps : EReal) := by
  simp [Ideal.ofBits, Ideal.ieee, -EReal.coe_mul, eps]; norm_num

theorem alpha_bits : Ideal.ofBits .f32 0x3F9837F0#32 = (alpha : EReal) := by
  simp [Ideal.ofBits, Ideal.ieee, -EReal.coe_mul, alpha]; norm_num

theorem two_bits : Ideal.ofBits .f32 0x40000000#32 = ((2 : ℝ) : EReal) := by
  simp [Ideal.ofBits, Ideal.ieee, -EReal.coe_mul]; norm_num

theorem half_bits : Ideal.ofBits .f32 0xBF000000#32 = ((-(1 / 2) : ℝ) : EReal) := by
  simp [Ideal.ofBits, Ideal.ieee, -EReal.coe_mul]; norm_num

theorem rsqrt_coe {x : ℝ} (h : 0 < x) : Ideal.rsqrt (x : EReal) = (((√x)⁻¹ : ℝ) : EReal) := by
  show (if x < 0 then (⊥ : EReal) else if x = 0 then ⊤ else (((√x)⁻¹ : ℝ) : EReal)) = _
  rw [if_neg h.not_gt, if_neg h.ne']

theorem mean_coe {f : Fin 2048 → EReal} {z : Fin 2048 → ℝ} (h : ∀ c, f c = (z c : EReal)) :
    Ideal.div (∑ c, f c) ((2048 : ℝ) : EReal) = (mean z : EReal) := by
  rw [sum_eq_coe h, div_coe _ (by norm_num), mean]

/-! ## The backward pass of a layer norm whose output feeds a residual and a product -/

/-- The numbers that the arguments hold: the rows, the scale, the weight, the gradient of the residual branch and the
gradient of the product, which has `n` columns. -/
structure Args (n : ℕ) where
  z : Fin 8192 → Fin 2048 → ℝ
  g : Fin 2048 → ℝ
  w : Fin 2048 → Fin n → ℝ
  d : Fin 8192 → Fin 2048 → ℝ
  p : Fin 8192 → Fin n → ℝ

/-- Five arrays hold these numbers. -/
structure Given {n : ℕ} (x0 : (⟨2, ![8192, 2048]⟩ : Shape).Idx → EReal)
    (x1 : (⟨2, ![1, 2048]⟩ : Shape).Idx → EReal)
    (x3 : (⟨2, ![2048, n]⟩ : Shape).Idx → EReal)
    (x4 : (⟨2, ![8192, 2048]⟩ : Shape).Idx → EReal)
    (x5 : (⟨2, ![8192, n]⟩ : Shape).Idx → EReal) (A : Args n) : Prop where
  z : ∀ a b, x0 (ix2 a b) = (A.z a b : EReal)
  g : ∀ b, x1 (ix2 0 b) = (A.g b : EReal)
  w : ∀ b e, x3 (ix2 b e) = (A.w b e : EReal)
  d : ∀ a b, x4 (ix2 a b) = (A.d a b : EReal)
  p : ∀ a e, x5 (ix2 a e) = (A.p a e : EReal)

namespace Args
variable {n : ℕ} (A : Args n)

/-- The gradient of the product's left factor. -/
def prod (a : Fin 8192) (b : Fin 2048) : ℝ := ∑ e, A.p a e * A.w b e

/-- The gradient of the layer norm's output. -/
def dx (a : Fin 8192) (b : Fin 2048) : ℝ := alpha * A.d a b + A.prod a b

/-- The gradient of the rows. -/
def dz (a : Fin 8192) (b : Fin 2048) : ℝ := back (A.z a) (fun c => A.dx a c * A.g c) b

/-- The gradient of the scale. -/
def dg (b : Fin 2048) : ℝ := ∑ a, A.dx a b * hat (A.z a) b

/-- The gradient of the shift. -/
def db (b : Fin 2048) : ℝ := ∑ a, A.dx a b

/-- The gradient of the rows as an array. -/
def gZ (i : (⟨2, ![8192, 2048]⟩ : Shape).Idx) : EReal := (A.dz (i 0) (i 1) : EReal)

/-- The gradient of the scale as an array. -/
def gG (i : (⟨2, ![1, 2048]⟩ : Shape).Idx) : EReal := (A.dg (i 1) : EReal)

/-- The gradient of the shift as an array. -/
def gB (i : (⟨2, ![1, 2048]⟩ : Shape).Idx) : EReal := (A.db (i 1) : EReal)

end Args

end Cert.Norm
-- ==== Proof.NormTile.lean ====
module

public import proofs.«01_k».proof.Proof.Gen.Ff1DgradLn1Ideal.Value
public import proofs.«01_k».proof.Proof.Norm
public import Idealize.ShloMosaic.Lib.Pipeline.ValueKit
public import Idealize.ShloMosaic.Lib.MatmulPlain

@[expose] public section
set_option maxRecDepth 16384

/-! # The layer norm's backward pass on 128 rows

The kernel finishes a block of 512 rows in four slices of 128.  What it does to a slice is read here
at an element, for real entries: `a` is the accumulated product, `d` the gradient of the residual
branch, `z` the rows and `g` the scale. -/

noncomputable section

namespace Cert.Ff1DgradLn1Ideal.Mixer
open Cert.Ff1DgradLn1Ideal Cert.Ff1DgradLn1Ideal.Gen Idealize.ShloMosaic Cert.Flash Cert.Norm

section Slice
variable {xa xd xz : Vec Ideal S128x2048 .f32} {xg : Vec Ideal S1x2048 .f32}
  {a d z : Fin 128 → Fin 2048 → ℝ} {g : Fin 2048 → ℝ}

theorem dx_apply (ha : ∀ r c, xa (ix2 r c) = (a r c : EReal))
    (hd : ∀ r c, xd (ix2 r c) = (d r c : EReal)) (r : Fin 128) (c : Fin 2048) :
    k0_pay5 xa xd (ix2 r c) = ((alpha * d r c + a r c : ℝ) : EReal) := by
  unfold k0_pay5
  pointwise
  rw [alpha_bits, hd, ha, ← EReal.coe_mul, ← EReal.coe_add]

theorem cen_apply (hz : ∀ r c, xz (ix2 r c) = (z r c : EReal)) (r : Fin 128) (c : Fin 2048) :
    k0_pay6 xz (ix2 r c) = (cen (z r) c : EReal) := by
  unfold k0_pay6
  pointwise
  rw [len_bits, mean_coe (hz r), hz, ← EReal.coe_sub, cen]

theorem inv_apply (hz : ∀ r c, xz (ix2 r c) = (z r c : EReal)) (r : Fin 128) :
    k0_pay7 xz (ix2 r 0) = (inv (z r) : EReal) := by
  unfold k0_pay7
  pointwise
  rw [len_bits, eps_bits, mean_coe (z := fun c => cen (z r) c * cen (z r) c)
    (fun c => by rw [cen_apply hz, EReal.coe_mul]), ← EReal.coe_add]
  exact rsqrt_coe (pos (z r))

theorem hat_apply (hz : ∀ r c, xz (ix2 r c) = (z r c : EReal)) (r : Fin 128) (c : Fin 2048) :
    k0_pay8 xz (ix2 r c) = (hat (z r) c : EReal) := by
  unfold k0_pay8
  pointwise
  rw [cen_apply hz, inv_apply hz, ← EReal.coe_mul, hat]

/-- The gradient of a slice's rows. -/
theorem dz_apply (ha : ∀ r c, xa (ix2 r c) = (a r c : EReal))
    (hd : ∀ r c, xd (ix2 r c) = (d r c : EReal)) (hz : ∀ r c, xz (ix2 r c) = (z r c : EReal))
    (hg : ∀ c, xg (ix2 0 c) = (g c : EReal)) (r : Fin 128) (c : Fin 2048) :
    k0_pay13 (k0_pay5 xa xd) (k0_pay7 xz) (k0_pay8 xz) xg (ix2 r c)
      = (back (z r) (fun c => (alpha * d r c + a r c) * g c) c : EReal) := by
  have hu : ∀ c, k0_pay5 xa xd (ix2 r c) * xg (ix2 0 c)
      = (((alpha * d r c + a r c) * g c : ℝ) : EReal) := fun c => by
    rw [dx_apply ha hd, hg, ← EReal.coe_mul]
  unfold k0_pay13
  pointwise
  rw [len_bits, mean_coe hu, mean_coe (fun c => by rw [hu, hat_apply hz, ← EReal.coe_mul]),
    hu, inv_apply hz, hat_apply hz, ← EReal.coe_mul, ← EReal.coe_sub, ← EReal.coe_sub,
    ← EReal.coe_mul, back]

/-- What a slice adds to the gradient of the scale. -/
theorem dg_apply (ha : ∀ r c, xa (ix2 r c) = (a r c : EReal))
    (hd : ∀ r c, xd (ix2 r c) = (d r c : EReal)) (hz : ∀ r c, xz (ix2 r c) = (z r c : EReal))
    (c : Fin 2048) :
    k0_pay9 xa xd xz (ix2 0 c)
      = ((∑ r, (alpha * d r c + a r c) * hat (z r) c : ℝ) : EReal) := by
  unfold k0_pay9
  pointwise
  exact sum_mul_coe (fun r => dx_apply ha hd r c) fun r => hat_apply hz r c

theorem dg_add (p : Vec Ideal S1x2048 .f32) (c : Fin 2048) :
    k0_pay10 xa xd xz p (ix2 0 c) = p (ix2 0 c) + k0_pay9 xa xd xz (ix2 0 c) := by
  unfold k0_pay10
  pointwise

/-- What a slice adds to the gradient of the shift. -/
theorem db_apply (ha : ∀ r c, xa (ix2 r c) = (a r c : EReal))
    (hd : ∀ r c, xd (ix2 r c) = (d r c : EReal)) (c : Fin 2048) :
    k0_pay11 xa xd (ix2 0 c) = ((∑ r, (alpha * d r c + a r c) : ℝ) : EReal) := by
  unfold k0_pay11
  pointwise
  exact sum_eq_coe fun r => dx_apply ha hd r c

theorem db_add (x p : Vec Ideal S1x2048 .f32) (c : Fin 2048) :
    k0_pay12 x p (ix2 0 c) = p (ix2 0 c) + x (ix2 0 c) := by
  unfold k0_pay12
  pointwise

end Slice

/-! ## A slice of the block -/

/-- Row `r` of the slice that starts at row `p`. -/
def sl (p : ℕ) (hp : p + 128 ≤ 512) (r : Fin 128) : Fin 512 := ⟨p + r.val, by omega⟩

theorem emb_sl (p : ℕ) (hp : p + 128 ≤ 512) (inb) (r : Fin 128) (c : Fin 2048) :
    (Rect.unit (s := S512x2048) ![p, 0] ![128, 2048] inb).emb (ix2 r c)
      = (ix2 (sl p hp r) c : S512x2048.Idx) := by
  funext a
  refine Fin.ext ((Rect.idx_unit_val _ _ inb _ a).trans ?_)
  fin_cases a <;> simp [sl]

theorem ld_sl {x : Vec Ideal S512x2048 .f32} {f : Fin 512 → Fin 2048 → ℝ}
    (h : ∀ r c, x (ix2 r c) = (f r c : EReal)) (p : ℕ) (hp : p + 128 ≤ 512) (inb)
    (r : Fin 128) (c : Fin 2048) :
    View.ld x (Rect.unit (s := S512x2048) ![p, 0] ![128, 2048] inb) (ix2 r c)
      = (f (sl p hp r) c : EReal) := by
  rw [← h, ← emb_sl p hp inb]; rfl

section Block
variable {xa xd xz : Vec Ideal S512x2048 .f32} {xg : Vec Ideal S1x2048 .f32}
  {a d z : Fin 512 → Fin 2048 → ℝ} {g : Fin 2048 → ℝ}

/-- The gradient of a block's row. -/
def brow (a d z : Fin 512 → Fin 2048 → ℝ) (g : Fin 2048 → ℝ) (r : Fin 512) (c : Fin 2048) : ℝ :=
  back (z r) (fun c => (alpha * d r c + a r c) * g c) c

/-- What a slice adds to the gradient of the scale. -/
def gsl (a d z : Fin 512 → Fin 2048 → ℝ) (c : Fin 2048) (p : ℕ) (hp : p + 128 ≤ 512) : ℝ :=
  ∑ r, (alpha * d (sl p hp r) c + a (sl p hp r) c) * hat (z (sl p hp r)) c

/-- What a slice adds to the gradient of the shift. -/
def bsl (a d : Fin 512 → Fin 2048 → ℝ) (c : Fin 2048) (p : ℕ) (hp : p + 128 ≤ 512) : ℝ :=
  ∑ r, (alpha * d (sl p hp r) c + a (sl p hp r) c)

theorem dz_piece (ha : ∀ r c, xa (ix2 r c) = (a r c : EReal))
    (hd : ∀ r c, xd (ix2 r c) = (d r c : EReal)) (hz : ∀ r c, xz (ix2 r c) = (z r c : EReal))
    (hg : ∀ c, xg (ix2 0 c) = (g c : EReal)) (p : ℕ) (hp : p + 128 ≤ 512) (inb)
    (x : (Rect.unit (s := S512x2048) ![p, 0] ![128, 2048] inb).shape.Idx) :
    k0_pay13 (k0_pay5 (View.ld xa (Rect.unit (s := S512x2048) ![p, 0] ![128, 2048] inb))
        (View.ld xd (Rect.unit (s := S512x2048) ![p, 0] ![128, 2048] inb)))
      (k0_pay7 (View.ld xz (Rect.unit (s := S512x2048) ![p, 0] ![128, 2048] inb)))
      (k0_pay8 (View.ld xz (Rect.unit (s := S512x2048) ![p, 0] ![128, 2048] inb))) xg x
      = (fun y : S512x2048.Idx => (brow a d z g (y 0) (y 1) : EReal))
          ((Rect.unit (s := S512x2048) ![p, 0] ![128, 2048] inb).emb x) := by
  obtain ⟨r, c, rfl⟩ : ∃ r c, x = ix2 r c := ⟨x 0, x 1, by ext i; fin_cases i <;> rfl⟩
  rw [dz_apply (ld_sl ha p hp inb) (ld_sl hd p hp inb) (ld_sl hz p hp inb) hg, emb_sl p hp inb]
  rfl

theorem dg_first (ha : ∀ r c, xa (ix2 r c) = (a r c : EReal))
    (hd : ∀ r c, xd (ix2 r c) = (d r c : EReal)) (hz : ∀ r c, xz (ix2 r c) = (z r c : EReal))
    (p : ℕ) (hp : p + 128 ≤ 512) {inb} (c : Fin 2048) :
    k0_pay9 (View.ld xa (Rect.unit (s := S512x2048) ![p, 0] ![128, 2048] inb))
        (View.ld xd (Rect.unit (s := S512x2048) ![p, 0] ![128, 2048] inb))
        (View.ld xz (Rect.unit (s := S512x2048) ![p, 0] ![128, 2048] inb)) (ix2 0 c)
      = (gsl a d z c p hp : EReal) :=
  dg_apply (ld_sl ha p hp inb) (ld_sl hd p hp inb) (ld_sl hz p hp inb) c

theorem dg_next (ha : ∀ r c, xa (ix2 r c) = (a r c : EReal))
    (hd : ∀ r c, xd (ix2 r c) = (d r c : EReal)) (hz : ∀ r c, xz (ix2 r c) = (z r c : EReal))
    (p : ℕ) (hp : p + 128 ≤ 512) {inb} {c : Fin 2048} {v : Vec Ideal S1x2048 .f32} {s : ℝ}
    (hv : v (ix2 0 c) = (s : EReal)) :
    k0_pay10 (View.ld xa (Rect.unit (s := S512x2048) ![p, 0] ![128, 2048] inb))
        (View.ld xd (Rect.unit (s := S512x2048) ![p, 0] ![128, 2048] inb))
        (View.ld xz (Rect.unit (s := S512x2048) ![p, 0] ![128, 2048] inb)) v (ix2 0 c)
      = ((s + gsl a d z c p hp : ℝ) : EReal) := by
  rw [dg_add, dg_first ha hd hz p hp, hv, EReal.coe_add]

theorem db_first (ha : ∀ r c, xa (ix2 r c) = (a r c : EReal))
    (hd : ∀ r c, xd (ix2 r c) = (d r c : EReal)) (p : ℕ) (hp : p + 128 ≤ 512) {inb}
    (c : Fin 2048) :
    k0_pay11 (View.ld xa (Rect.unit (s := S512x2048) ![p, 0] ![128, 2048] inb))
        (View.ld xd (Rect.unit (s := S512x2048) ![p, 0] ![128, 2048] inb)) (ix2 0 c)
      = (bsl a d c p hp : EReal) :=
  db_apply (ld_sl ha p hp inb) (ld_sl hd p hp inb) c

theorem db_next (ha : ∀ r c, xa (ix2 r c) = (a r c : EReal))
    (hd : ∀ r c, xd (ix2 r c) = (d r c : EReal)) (p : ℕ) (hp : p + 128 ≤ 512) {inb}
    {c : Fin 2048} {v : Vec Ideal S1x2048 .f32} {s : ℝ} (hv : v (ix2 0 c) = (s : EReal)) :
    k0_pay12 (k0_pay11 (View.ld xa (Rect.unit (s := S512x2048) ![p, 0] ![128, 2048] inb))
        (View.ld xd (Rect.unit (s := S512x2048) ![p, 0] ![128, 2048] inb))) v (ix2 0 c)
      = ((s + bsl a d c p hp : ℝ) : EReal) := by
  rw [db_add, db_first ha hd p hp, hv, EReal.coe_add]

/-- A sum over the block's rows, slice by slice. -/
theorem sum_rows (f : Fin 512 → ℝ) :
    ∑ r : Fin 128, f (sl 0 (by norm_num) r) + ∑ r : Fin 128, f (sl 128 (by norm_num) r)
      + ∑ r : Fin 128, f (sl 256 (by norm_num) r) + ∑ r : Fin 128, f (sl 384 (by norm_num) r)
      = ∑ r, f r := by
  have h : ∑ j : Fin 4, ∑ r : Fin 128, f ⟨j.val * 128 + r.val, by omega⟩ = ∑ r, f r :=
    Fin.sum_mul_add_congr (fun _ _ _ => rfl)
  rw [← h]
  simp only [Fin.sum_univ_four]
  rfl

end Block

end Cert.Ff1DgradLn1Ideal.Mixer
-- ==== Proof.NormBwd.lean ====
module

public import proofs.«01_k».proof.Proof.NormTile
public import Idealize.ShloMosaic.Lib.Pipeline.ReadBack
public import Idealize.ShloMosaic.Lib.StableHlo.ReadAt

@[expose] public section
set_option maxRecDepth 16384

/-! # The gradient taken back through the layer norm, as the kernel leaves it

Eight consecutive points of the grid sum the product for 512 rows in a scratch.  The last of them
finishes the rows and adds what they contribute to the gradients of the scale and the shift, which
stay in their buffers from the first point to the last. -/

noncomputable section

namespace Cert.Ff1DgradLn1Ideal.Mixer
open Cert.Ff1DgradLn1Ideal Cert.Ff1DgradLn1Ideal.Gen Idealize.ShloMosaic Cert.Flash Cert.Norm
open Idealize.ShloMosaic.TcCoe Idealize.SL.Sem

/-! ## The product -/

theorem pay1_apply (r : Fin 512) (s : Fin 2048) :
    (k0_pay1 : FVec Ideal S512x2048 .f32) (ix2 r s) = 0 := by
  unfold k0_pay1
  pointwise

theorem pay2_apply (p : Vec Ideal S512x2048 .f32) (x0 : Vec Ideal S512x1024 .bf16)
    (x1 : Vec Ideal S1x2048x1024 .bf16) (r : Fin 512) (s : Fin 2048) :
    k0_pay2 p x0 x1 (ix2 r s)
      = p (ix2 r s) + ∑ k : Fin 1024, x0 (ix2 r k) * x1 (ix3 0 s k) := by
  unfold k0_pay2
  pointwise

/-- Which block each window stages at a point. -/
theorem idx : ∀ t : Fin cfg0.N,
    win0_0.index t = ![t.val / 8, t.val % 8] ∧ win0_1.index t = ![t.val % 8, 0, 0]
    ∧ win0_2.index t = ![t.val / 8, 0] ∧ win0_3.index t = ![t.val / 8, 0]
    ∧ win0_4.index t = ![0, 0] ∧ win0_5.index t = ![t.val / 8, 0]
    ∧ win0_6.index t = ![t.val / 8, 0] ∧ win0_7.index t = ![0, 0] ∧ win0_8.index t = ![0, 0] :=
  (by decide +kernel : ∀ t : Fin grid0.N, _)

/-- The token in row `r` of a point's block. -/
def row (t : Fin cfg0.N) (r : Fin 512) : Fin 8192 :=
  ⟨t.val / 8 * 512 + r.val, by have := lt_of_lt_of_eq t.isLt N_0; omega⟩

/-- Hidden coordinate `k` of a point's part of them. -/
def hid (t : Fin cfg0.N) (k : Fin 1024) : Fin 8192 := ⟨t.val % 8 * 1024 + k.val, by omega⟩

/-- The stacked block a point reads. -/
def part (t : Fin cfg0.N) : Fin 8 := ⟨t.val % 8, by omega⟩

variable (m : (ℓ : Loc nD τ sig) → Buf (Elt Ideal) ℓ) (c : Dev nD)

theorem p_read (a e : Fin 8192) :
    (V m c main_v0 : S8192x8192.Idx → EReal) (ix2 a e)
      = (m (c, Proc.devRef .tc main_arg5) : S8192x8192.Idx → EReal) (ix2 a e) := by
  unfold V
  after_reads_at

theorem w_read (j : Fin 8) (b : Fin 2048) (k : Fin 1024) :
    (V m c main_v3 : S8x2048x1024.Idx → EReal) (ix3 j b k)
      = (m (c, Proc.devRef .tc main_arg3) : S2048x8192.Idx → EReal)
          (ix2 b ⟨j.val * 1024 + k.val, by omega⟩) := by
  unfold V
  after_reads_at

theorem d_read : (V m c main_arg4 : S8192x2048.Idx → EReal)
    = (m (c, Proc.devRef .tc main_arg4) : S8192x2048.Idx → EReal) := by
  unfold V
  after_reads_at

theorem z_read : (V m c main_arg0 : S8192x2048.Idx → EReal)
    = (m (c, Proc.devRef .tc main_arg0) : S8192x2048.Idx → EReal) := by
  unfold V
  after_reads_at

theorem g_read : (V m c main_arg1 : S1x2048.Idx → EReal)
    = (m (c, Proc.devRef .tc main_arg1) : S1x2048.Idx → EReal) := by
  unfold V
  after_reads_at

theorem p_blk (t : Fin cfg0.N) (r : Fin 512) (k : Fin 1024) :
    (iblk m c 0 t : Vec Ideal S512x1024 .bf16) (ix2 r k)
      = (V m c main_v0 : S8192x8192.Idx → EReal) (ix2 (row t r) (hid t k)) := by
  have h := idx t
  blk_ext [iblk, h, row, hid]

theorem w_blk (t : Fin cfg0.N) (s : Fin 2048) (k : Fin 1024) :
    (iblk m c 1 t : Vec Ideal S1x2048x1024 .bf16) (ix3 0 s k)
      = (V m c main_v3 : S8x2048x1024.Idx → EReal) (ix3 (part t) s k) := by
  have h := idx t
  blk_ext [iblk, h, part]

theorem d_blk (t : Fin cfg0.N) (r : Fin 512) (s : Fin 2048) :
    (iblk m c 2 t : Vec Ideal S512x2048 .f32) (ix2 r s)
      = (V m c main_arg4 : S8192x2048.Idx → EReal) (ix2 (row t r) s) := by
  have h := idx t
  blk_ext [iblk, h, row]

theorem z_blk (t : Fin cfg0.N) (r : Fin 512) (s : Fin 2048) :
    (iblk m c 3 t : Vec Ideal S512x2048 .f32) (ix2 r s)
      = (V m c main_arg0 : S8192x2048.Idx → EReal) (ix2 (row t r) s) := by
  have h := idx t
  blk_ext [iblk, h, row]

theorem g_blk (t : Fin cfg0.N) (s : Fin 2048) :
    (iblk m c 4 t : Vec Ideal S1x2048 .f32) (ix2 0 s)
      = (V m c main_arg1 : S1x2048.Idx → EReal) (ix2 0 s) := by
  have h := idx t
  blk_ext [iblk, h]

theorem emb_5 (t : Fin cfg0.N) (r : Fin 512) (s : Fin 2048) :
    (ix2 (row t r) s : S8192x2048.Idx) = (win0_5.blk t).view.emb (ix2 r s : S512x2048.Idx) := by
  have h := idx t
  blk_ext [h, row]

theorem emb_6 (t : Fin cfg0.N) (r : Fin 512) (s : Fin 2048) :
    (ix2 (row t r) s : S8192x2048.Idx) = (win0_6.blk t).view.emb (ix2 r s : S512x2048.Idx) := by
  have h := idx t
  blk_ext [h, row]

theorem emb_7 (t : Fin cfg0.N) (s : Fin 2048) :
    (ix2 0 s : S1x2048.Idx) = (win0_7.blk t).view.emb (ix2 0 s : S1x2048.Idx) := by
  have h := idx t
  blk_ext [h]

theorem emb_8 (t : Fin cfg0.N) (s : Fin 2048) :
    (ix2 0 s : S1x2048.Idx) = (win0_8.blk t).view.emb (ix2 0 s : S1x2048.Idx) := by
  have h := idx t
  blk_ext [h]

/-- What hidden coordinate `e` contributes to a row's product. -/
def term (p : S8192x8192.Idx → EReal) (w : S2048x8192.Idx → EReal) (a : Fin 8192) (b : Fin 2048)
    (e : Fin 8192) : EReal := p (ix2 a e) * w (ix2 b e)

/-- What a point adds to the scratch. -/
def add (t : Fin cfg0.N) (r : Fin 512) (s : Fin 2048) : EReal :=
  ∑ k : Fin 1024, term (m (c, Proc.devRef .tc main_arg5)) (m (c, Proc.devRef .tc main_arg3))
    (row t r) s (hid t k)

theorem step_apply (t : Fin cfg0.N) (p : Vec Ideal S512x2048 .f32) (r : Fin 512) (s : Fin 2048) :
    k0_pay2 p (iblk m c 0 t : Vec Ideal S512x1024 .bf16)
      (iblk m c 1 t : Vec Ideal S1x2048x1024 .bf16) (ix2 r s) = p (ix2 r s) + add m c t r s := by
  rw [pay2_apply, add]
  refine congrArg (_ + ·) (Finset.sum_congr rfl fun k _ => ?_)
  rw [p_blk, w_blk, p_read, w_read]
  rfl

/-- The first point of eight starts the scratch. -/
theorem sc_A (t : Fin cfg0.N) (ht : t.val % 8 = 0) (y : S512x2048.Idx) :
    (outsAt0 m c t.val t.isLt).2.2.2.2 y = add m c t (y 0) (y 1) := by
  obtain ⟨r, s, rfl⟩ : ∃ (r : Fin 512) (s : Fin 2048), y = (ix2 r s : S512x2048.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point's scratch is its step over what the point before left. -/
theorem sc_pay (t : Fin cfg0.N) (ht : ¬t.val % 8 = 0) :
    (outsAt0 m c t.val t.isLt).2.2.2.2
      = k0_pay2 (outsAt0 m c (t.val - 1) (by omega)).2.2.2.2 (iblk m c 0 t) (iblk m c 1 t) := by
  by_cases h1 : t.val % 8 = 7
  · by_cases h2 : t.val < 8
    · rw [outsAt0_C m c t ht h1 h2 (by omega) h2 (by omega)]
      frame_open
      simp (disch := decide) only [↓ View.readCov_skip, ↓ View.readCov_cons_toLoadRect,
        ↓ View.readCov_fill]
      frame_out
      rw [read_unread_whole]
    · rw [outsAt0_D m c t ht h1 h2 (by omega) h2 (by omega)]
      frame_open
      simp (disch := decide) only [↓ View.readCov_skip, ↓ View.readCov_cons_toLoadRect,
        ↓ View.readCov_fill]
      frame_out
      rw [read_unread_whole]
  · rw [outsAt0_B m c t ht h1]
    frame_open
    simp (disch := decide) only [↓ View.readCov_skip, ↓ View.readCov_cons_toLoadRect,
      ↓ View.readCov_fill]
    frame_out
    rw [read_unread_whole]

theorem sc_B (t : Fin cfg0.N) (ht : ¬t.val % 8 = 0) (y : S512x2048.Idx) :
    (outsAt0 m c t.val t.isLt).2.2.2.2 y
      = (outsAt0 m c (t.val - 1) (by omega)).2.2.2.2 y + add m c t (y 0) (y 1) := by
  obtain ⟨r, s, rfl⟩ : ∃ (r : Fin 512) (s : Fin 2048), y = (ix2 r s : S512x2048.Idx) :=
    ⟨y 0, y 1, by ext i; fin_cases i <;> rfl⟩
  rw [sc_pay m c t ht]
  exact step_apply m c t _ r s

/-- The eight points' parts are all hidden coordinates. -/
theorem sum_hid (t : Fin cfg0.N) (ht : t.val % 8 = 8 - 1)
    (f : Fin 8192 → Fin 8192 → EReal) (r : Fin 512) :
    ∑ j : Fin 8, ∑ k : Fin 1024,
        f (row ⟨8 * (t.val / 8) + j.val, Pipeline.run_point_lt_of_flush t ht j⟩ r)
          (hid ⟨8 * (t.val / 8) + j.val, Pipeline.run_point_lt_of_flush t ht j⟩ k)
      = ∑ e, f (row t r) e := by
  refine Fin.sum_mul_add_congr fun j k hl => ?_
  congr 1 <;> refine Fin.ext ?_ <;> simp only [row, hid] <;> omega

theorem sc_last (t : Fin cfg0.N) (ht : t.val % 8 = 8 - 1) (r : Fin 512) (s : Fin 2048) :
    (outsAt0 m c t.val t.isLt).2.2.2.2 (ix2 r s : S512x2048.Idx)
      = ∑ e, term (m (c, Proc.devRef .tc main_arg5)) (m (c, Proc.devRef .tc main_arg3))
          (row t r) s e := by
  rw [Pipeline.eq_sum_fin_of_reset_step_apply_of_flush (M := EReal)
    (fun n h => (outsAt0 m c n h).2.2.2.2) 8 (fun _ => 0) (fun t y => add m c t (y 0) (y 1))
    (fun t ht y => by rw [zero_add]; exact sc_A m c t ht y)
    (fun t ht y => sc_B m c t ht y) t ht, zero_add]
  exact sum_hid t ht (fun a e => term (m (c, Proc.devRef .tc main_arg5))
    (m (c, Proc.devRef .tc main_arg3)) a s e) r

/-! ## The last point of eight -/

/-- The arguments hold these numbers. -/
abbrev Holds (A : Args 8192) : Prop :=
  Given (m (c, Proc.devRef .tc main_arg0)) (m (c, Proc.devRef .tc main_arg1))
    (m (c, Proc.devRef .tc main_arg3)) (m (c, Proc.devRef .tc main_arg4))
    (m (c, Proc.devRef .tc main_arg5)) A

variable {m c} {A : Args 8192} (H : Holds m c A) (t : Fin cfg0.N)

/-- The product of a point's rows. -/
def ra (A : Args 8192) (t : Fin cfg0.N) (r : Fin 512) (s : Fin 2048) : ℝ := A.prod (row t r) s
/-- The residual's gradient of a point's rows. -/
def rd (A : Args 8192) (t : Fin cfg0.N) (r : Fin 512) (s : Fin 2048) : ℝ := A.d (row t r) s
/-- A point's rows. -/
def rz (A : Args 8192) (t : Fin cfg0.N) (r : Fin 512) (s : Fin 2048) : ℝ := A.z (row t r) s

include H

theorem acc (ht : t.val % 8 = 7) (r : Fin 512) (s : Fin 2048) :
    k0_pay2 (outsAt0 m c (t.val - 1) (by omega)).2.2.2.2 (iblk m c 0 t) (iblk m c 1 t) (ix2 r s)
      = (ra A t r s : EReal) := by
  rw [← sc_pay m c t (by omega), sc_last m c t ht]
  exact sum_mul_coe (fun e => H.p _ e) fun e => H.w s e

theorem d_at (r : Fin 512) (s : Fin 2048) :
    (iblk m c 2 t : Vec Ideal S512x2048 .f32) (ix2 r s) = (rd A t r s : EReal) := by
  rw [d_blk, d_read]
  exact H.d _ _

theorem z_at (r : Fin 512) (s : Fin 2048) :
    (iblk m c 3 t : Vec Ideal S512x2048 .f32) (ix2 r s) = (rz A t r s : EReal) := by
  rw [z_blk, z_read]
  exact H.z _ _

theorem g_at (s : Fin 2048) :
    (iblk m c 4 t : Vec Ideal S1x2048 .f32) (ix2 0 s) = (A.g s : EReal) := by
  rw [g_blk, g_read]
  exact H.g _

/-- The rows' gradient. -/
theorem z_out (ht : t.val % 8 = 7) (y : S512x2048.Idx) :
    (outsAt0 m c t.val t.isLt).1 y = (A.dz (row t (y 0)) (y 1) : EReal) := by
  have ha := acc H t ht
  have hd := d_at H t
  have hz := z_at H t
  have hg := g_at H t
  by_cases h2 : t.val < 8
  · rw [outsAt0_C m c t (by omega) ht h2 (by omega) h2 (by omega)]
    frame_open
    simp (disch := decide) only [↓ View.readCov_skip, ↓ View.readCov_cons_toLoadRect,
      ↓ View.readCov_fill]
    frame_out
    rw [read_unread_whole]
    refine (View.canon_append_of_piecesOf (fun y : S512x2048.Idx =>
      (brow (ra A t) (rd A t) (rz A t) A.g (y 0) (y 1) : EReal)) [] [_, _, _, _] ?_ y
      (View.cover_of_tiled_head _ _ _ rfl y)).trans ?_
    · refine ⟨?_, ?_, ?_, ?_, trivial⟩ <;> exact dz_piece ha hd hz hg _ (by norm_num) _
    · rfl
  · rw [outsAt0_D m c t (by omega) ht h2 (by omega) h2 (by omega)]
    frame_open
    simp (disch := decide) only [↓ View.readCov_skip, ↓ View.readCov_cons_toLoadRect,
      ↓ View.readCov_fill]
    frame_out
    rw [read_unread_whole]
    refine (View.canon_append_of_piecesOf (fun y : S512x2048.Idx =>
      (brow (ra A t) (rd A t) (rz A t) A.g (y 0) (y 1) : EReal)) [] [_, _, _, _] ?_ y
      (View.cover_of_tiled_head _ _ _ rfl y)).trans ?_
    · refine ⟨?_, ?_, ?_, ?_, trivial⟩ <;> exact dz_piece ha hd hz hg _ (by norm_num) _
    · rfl

/-- The rows' gradient in the narrower format. -/
theorem zb_out (ht : t.val % 8 = 7) (y : S512x2048.Idx) :
    (outsAt0 m c t.val t.isLt).2.1 y = (A.dz (row t (y 0)) (y 1) : EReal) := by
  have ha := acc H t ht
  have hd := d_at H t
  have hz := z_at H t
  have hg := g_at H t
  by_cases h2 : t.val < 8
  · rw [outsAt0_C m c t (by omega) ht h2 (by omega) h2 (by omega)]
    frame_open
    simp (disch := decide) only [↓ View.readCov_skip, ↓ View.readCov_cons_toLoadRect,
      ↓ View.readCov_fill]
    frame_out
    rw [read_unread_whole]
    refine (View.canon_append_of_piecesOf (fun y : S512x2048.Idx =>
      (brow (ra A t) (rd A t) (rz A t) A.g (y 0) (y 1) : EReal)) [] [_, _, _, _] ?_ y
      (View.cover_of_tiled_head _ _ _ rfl y)).trans ?_
    · refine ⟨?_, ?_, ?_, ?_, trivial⟩ <;> exact dz_piece ha hd hz hg _ (by norm_num) _
    · rfl
  · rw [outsAt0_D m c t (by omega) ht h2 (by omega) h2 (by omega)]
    frame_open
    simp (disch := decide) only [↓ View.readCov_skip, ↓ View.readCov_cons_toLoadRect,
      ↓ View.readCov_fill]
    frame_out
    rw [read_unread_whole]
    refine (View.canon_append_of_piecesOf (fun y : S512x2048.Idx =>
      (brow (ra A t) (rd A t) (rz A t) A.g (y 0) (y 1) : EReal)) [] [_, _, _, _] ?_ y
      (View.cover_of_tiled_head _ _ _ rfl y)).trans ?_
    · refine ⟨?_, ?_, ?_, ?_, trivial⟩ <;> exact dz_piece ha hd hz hg _ (by norm_num) _
    · rfl

/-- What a point's rows contribute to the gradient of the scale. -/
def gpt (A : Args 8192) (t : Fin cfg0.N) (s : Fin 2048) : ℝ :=
  ∑ r, A.dx (row t r) s * hat (A.z (row t r)) s

/-- What a point's rows contribute to the gradient of the shift. -/
def bpt (A : Args 8192) (t : Fin cfg0.N) (s : Fin 2048) : ℝ := ∑ r, A.dx (row t r) s

omit H in
theorem gpt_eq (s : Fin 2048) :
    gsl (ra A t) (rd A t) (rz A t) s 0 (by norm_num) + gsl (ra A t) (rd A t) (rz A t) s 128 (by norm_num)
      + gsl (ra A t) (rd A t) (rz A t) s 256 (by norm_num)
      + gsl (ra A t) (rd A t) (rz A t) s 384 (by norm_num) = gpt A t s :=
  sum_rows fun r => A.dx (row t r) s * hat (A.z (row t r)) s

omit H in
theorem bpt_eq (s : Fin 2048) :
    bsl (ra A t) (rd A t) s 0 (by norm_num) + bsl (ra A t) (rd A t) s 128 (by norm_num)
      + bsl (ra A t) (rd A t) s 256 (by norm_num) + bsl (ra A t) (rd A t) s 384 (by norm_num)
      = bpt A t s :=
  sum_rows fun r => A.dx (row t r) s

theorem g_C (ht : t.val % 8 = 7) (h2 : t.val < 8) (s : Fin 2048) :
    (outsAt0 m c t.val t.isLt).2.2.1 (ix2 0 s : S1x2048.Idx) = (gpt A t s : EReal) := by
  have ha := acc H t ht
  have hd := d_at H t
  have hz := z_at H t
  rw [outsAt0_C m c t (by omega) ht h2 (by omega) h2 (by omega)]
  frame_open
  simp (disch := decide) only [↓ View.readCov_skip, ↓ View.readCov_cons_toLoadRect,
    ↓ View.readCov_fill]
  frame_out
  rw [read_unread_whole]
  refine Eq.trans (dg_next ha hd hz 384 (by norm_num) (dg_next ha hd hz 256 (by norm_num)
    (dg_next ha hd hz 128 (by norm_num) (dg_first ha hd hz 0 (by norm_num) s)))) ?_
  rw [gpt_eq]

theorem g_D (ht : t.val % 8 = 7) (h2 : ¬t.val < 8) (s : Fin 2048) {v : ℝ}
    (hv : (outsAt0 m c (t.val - 1) (by omega)).2.2.1 (ix2 0 s : S1x2048.Idx) = (v : EReal)) :
    (outsAt0 m c t.val t.isLt).2.2.1 (ix2 0 s : S1x2048.Idx) = ((v + gpt A t s : ℝ) : EReal) := by
  have ha := acc H t ht
  have hd := d_at H t
  have hz := z_at H t
  rw [outsAt0_D m c t (by omega) ht h2 (by omega) h2 (by omega)]
  frame_open
  simp (disch := decide) only [↓ View.readCov_skip, ↓ View.readCov_cons_toLoadRect,
    ↓ View.readCov_fill]
  frame_out
  rw [read_unread_whole]
  refine Eq.trans (dg_next ha hd hz 384 (by norm_num) (dg_next ha hd hz 256 (by norm_num)
    (dg_next ha hd hz 128 (by norm_num) (dg_next ha hd hz 0 (by norm_num) hv)))) ?_
  rw [← gpt_eq, ← add_assoc, ← add_assoc, ← add_assoc]

theorem b_C (ht : t.val % 8 = 7) (h2 : t.val < 8) (s : Fin 2048) :
    (outsAt0 m c t.val t.isLt).2.2.2.1 (ix2 0 s : S1x2048.Idx) = (bpt A t s : EReal) := by
  have ha := acc H t ht
  have hd := d_at H t
  rw [outsAt0_C m c t (by omega) ht h2 (by omega) h2 (by omega)]
  frame_open
  simp (disch := decide) only [↓ View.readCov_skip, ↓ View.readCov_cons_toLoadRect,
    ↓ View.readCov_fill]
  frame_out
  rw [read_unread_whole]
  refine Eq.trans (db_next ha hd 384 (by norm_num) (db_next ha hd 256 (by norm_num)
    (db_next ha hd 128 (by norm_num) (db_first ha hd 0 (by norm_num) s)))) ?_
  rw [bpt_eq]

theorem b_D (ht : t.val % 8 = 7) (h2 : ¬t.val < 8) (s : Fin 2048) {v : ℝ}
    (hv : (outsAt0 m c (t.val - 1) (by omega)).2.2.2.1 (ix2 0 s : S1x2048.Idx) = (v : EReal)) :
    (outsAt0 m c t.val t.isLt).2.2.2.1 (ix2 0 s : S1x2048.Idx)
      = ((v + bpt A t s : ℝ) : EReal) := by
  have ha := acc H t ht
  have hd := d_at H t
  rw [outsAt0_D m c t (by omega) ht h2 (by omega) h2 (by omega)]
  frame_open
  simp (disch := decide) only [↓ View.readCov_skip, ↓ View.readCov_cons_toLoadRect,
    ↓ View.readCov_fill]
  frame_out
  rw [read_unread_whole]
  refine Eq.trans (db_next ha hd 384 (by norm_num) (db_next ha hd 256 (by norm_num)
    (db_next ha hd 128 (by norm_num) (db_next ha hd 0 (by norm_num) hv)))) ?_
  rw [← bpt_eq, ← add_assoc, ← add_assoc, ← add_assoc]

/-! ## The scale's and the shift's gradients from point to point -/

omit H in
/-- A point that is not the last of eight leaves them as they were. -/
theorem kept (h0 : t.val ≠ 0) (h1 : ¬t.val % 8 = 7) :
    (outsAt0 m c t.val t.isLt).2.2.1 = (outsAt0 m c (t.val - 1) (by omega)).2.2.1
    ∧ (outsAt0 m c t.val t.isLt).2.2.2.1 = (outsAt0 m c (t.val - 1) (by omega)).2.2.2.1 := by
  by_cases h : t.val % 8 = 0
  · rw [outsAt0_A m c t h h1]
    exact ⟨rfl, rfl⟩
  · rw [outsAt0_B m c t h h1]
    exact ⟨rfl, rfl⟩

/-- The token in row `r` of block `i`. -/
def tok (i : ℕ) (r : Fin 512) : Fin 8192 := ⟨(i * 512 + r.val) % 8192, by omega⟩

omit H in
theorem row_tok (r : Fin 512) : row t r = tok (t.val / 8) r := by
  have := lt_of_lt_of_eq t.isLt N_0
  exact Fin.ext (by simp only [row, tok]; omega)

/-- After a point, the blocks finished so far have contributed. -/
theorem sums (n : ℕ) (hn : 7 + n < cfg0.N) (s : Fin 2048) :
    (outsAt0 m c (7 + n) hn).2.2.1 (ix2 0 s : S1x2048.Idx)
      = ((∑ i ∈ Finset.range (n / 8 + 1), ∑ r, A.dx (tok i r) s * hat (A.z (tok i r)) s : ℝ) : EReal)
    ∧ (outsAt0 m c (7 + n) hn).2.2.2.1 (ix2 0 s : S1x2048.Idx)
      = ((∑ i ∈ Finset.range (n / 8 + 1), ∑ r, A.dx (tok i r) s : ℝ) : EReal) := by
  induction n with
  | zero =>
    refine ⟨(g_C H ⟨7 + 0, hn⟩ rfl (by norm_num) s).trans ?_,
      (b_C H ⟨7 + 0, hn⟩ rfl (by norm_num) s).trans ?_⟩ <;>
      rw [Finset.sum_range_one] <;> simp only [gpt, bpt, row_tok] <;> rfl
  | succ n ih =>
    obtain ⟨i1, i2⟩ := ih (by omega)
    by_cases h : (7 + (n + 1)) % 8 = 7
    · have e : (7 + (n + 1)) / 8 = n / 8 + 1 := by omega
      have e' : (n + 1) / 8 = n / 8 + 1 := by omega
      refine ⟨(g_D H ⟨7 + (n + 1), hn⟩ h (by simp only; omega) s i1).trans ?_,
        (b_D H ⟨7 + (n + 1), hn⟩ h (by simp only; omega) s i2).trans ?_⟩ <;>
        rw [e', Finset.sum_range_succ _ (n / 8 + 1)] <;> simp only [gpt, bpt, row_tok, e]
    · have e' : (n + 1) / 8 = n / 8 := by omega
      have k := kept (m := m) (c := c) ⟨7 + (n + 1), hn⟩ (by simp) h
      rw [e']
      exact ⟨(congrFun k.1 _).trans i1, (congrFun k.2 _).trans i2⟩

omit H in
/-- The sixteen blocks' rows are all tokens. -/
theorem sum_tok (f : Fin 8192 → ℝ) :
    ∑ i ∈ Finset.range 16, ∑ r, f (tok i r) = ∑ a, f a := by
  rw [Finset.sum_range]
  refine Fin.sum_mul_add_congr fun i r hl => congrArg f (Fin.ext ?_)
  simp only [tok]
  omega

/-! ## The arrays -/

theorem z_emb (ht : t.val % 8 = 7) (y : S512x2048.Idx) :
    (outsAt0 m c t.val t.isLt).1 y = A.gZ ((win0_5.blk t).view.emb y) := by
  obtain ⟨r, s, rfl⟩ : ∃ (r : Fin 512) (s : Fin 2048), y = (ix2 r s : S512x2048.Idx) :=
    ⟨y 0, y 1, by ext i; fin_cases i <;> rfl⟩
  rw [z_out H t ht, ← emb_5 t r s]
  rfl

theorem z_array : (dats m 0 c).arrAt 5 cfg0.N = A.gZ := by
  refine (dats m 0 c).arrAt_eq_of_covers 5 _ (by decide +kernel) fun t hf y => ?_
  blk_simp
  rw [after0_5]
  exact z_emb H t ((flush0_5 t).mp hf) y

theorem zb_emb (ht : t.val % 8 = 7) (y : S512x2048.Idx) :
    (outsAt0 m c t.val t.isLt).2.1 y = A.gZ ((win0_6.blk t).view.emb y) := by
  obtain ⟨r, s, rfl⟩ : ∃ (r : Fin 512) (s : Fin 2048), y = (ix2 r s : S512x2048.Idx) :=
    ⟨y 0, y 1, by ext i; fin_cases i <;> rfl⟩
  rw [zb_out H t ht, ← emb_6 t r s]
  rfl

theorem zb_array : (dats m 0 c).arrAt 6 cfg0.N = A.gZ := by
  refine (dats m 0 c).arrAt_eq_of_covers 6 _ (by decide +kernel) fun t hf y => ?_
  blk_simp
  rw [after0_6]
  exact zb_emb H t ((flush0_6 t).mp hf) y

theorem g_array : (dats m 0 c).arrAt 7 cfg0.N = A.gG := by
  refine (dats m 0 c).arrAt_eq_of_covers 7 _ (by decide +kernel) fun t hf y => ?_
  blk_simp
  rw [after0_7]
  obtain ⟨a, s, rfl⟩ : ∃ (a : Fin 1) (s : Fin 2048), y = (ix2 a s : S1x2048.Idx) :=
    ⟨y 0, y 1, by ext i; fin_cases i <;> rfl⟩
  obtain rfl : a = 0 := Subsingleton.elim _ _
  have ht := (flush0_7 t).mp hf
  have hN := lt_of_lt_of_eq t.isLt N_0
  obtain rfl : t = ⟨7 + 120, by rw [N_0]; norm_num⟩ := Fin.ext (by simp only; omega)
  refine ((sums H 120 _ s).1.trans ?_).trans (congrArg A.gG (emb_7 _ s))
  exact congrArg _ (sum_tok fun a => A.dx a s * hat (A.z a) s)

theorem b_array : (dats m 0 c).arrAt 8 cfg0.N = A.gB := by
  refine (dats m 0 c).arrAt_eq_of_covers 8 _ (by decide +kernel) fun t hf y => ?_
  blk_simp
  rw [after0_8]
  obtain ⟨a, s, rfl⟩ : ∃ (a : Fin 1) (s : Fin 2048), y = (ix2 a s : S1x2048.Idx) :=
    ⟨y 0, y 1, by ext i; fin_cases i <;> rfl⟩
  obtain rfl : a = 0 := Subsingleton.elim _ _
  have ht := (flush0_8 t).mp hf
  have hN := lt_of_lt_of_eq t.isLt N_0
  obtain rfl : t = ⟨7 + 120, by rw [N_0]; norm_num⟩ := Fin.ext (by simp only; omega)
  refine ((sums H 120 _ s).2.trans ?_).trans (congrArg A.gB (emb_8 _ s))
  exact congrArg _ (sum_tok fun a => A.dx a s)

end Cert.Ff1DgradLn1Ideal.Mixer
-- ==== Proof.NormRef.lean ====
module

public import proofs.«01_k».proof.Proof.Norm
public import proofs.«01_k».proof.Proof.Gen.Ff1DgradLn1RefIdeal.Run
public import proofs.«01_k».proof.Proof.Gen.Ff1DgradLn1RefIdeal.Read
public import Idealize.ShloMosaic.Lib.StableHlo.ReadAt
public import Idealize.ShloMosaic.Lib.Pipeline.ValueKit
public import Idealize.ShloMosaic.Lib.MatmulPlain

@[expose] public section
set_option maxRecDepth 16384

/-! # The gradient taken back through the layer norm, as the reference computes it

The reference differentiates the layer norm operation by operation.  Each of its stages is named
here at real numbers. -/

noncomputable section

namespace Cert.Ff1DgradLn1RefIdeal.Mixer
open Cert.Ff1DgradLn1RefIdeal Cert.Ff1DgradLn1RefIdeal.Gen Cert.Ff1DgradLn1RefIdeal.Read
open Idealize.ShloMosaic Idealize.ShloMosaic.TcCoe Idealize.SL.Sem Cert.Flash Cert.Norm

variable {x0 x4 : FVec Ideal S8192x2048 .f32} {x1 : FVec Ideal S1x2048 .f32}
  {x3 : FVec Ideal S2048x8192 .f32} {x5 : FVec Ideal S8192x8192 .f32} {A : Args 8192}

/-! ## The forward pass -/

section Forward
variable {z : Fin 8192 → Fin 2048 → ℝ} (hz : ∀ a c, x0 (ix2 a c) = (z a c : EReal))
  (a : Fin 8192) (c : Fin 2048)
include hz

theorem v5_at : val_main_v5 (F := Ideal) x0 (ix2 a 0) = (mean (z a) : EReal) := by
  unfold val_main_v5 val_main_v4 val_main_v3 val_main_v2 val_main_cst val_main_cst_0
  pointwise
  rw [len_bits, mean_coe (hz a)]

theorem v7_at : val_main_v7 (F := Ideal) x0 (ix2 a c) = (cen (z a) c : EReal) := by
  unfold val_main_v7 val_main_v6
  pointwise
  rw [v5_at hz, hz, ← EReal.coe_sub, cen]

theorem v16_at : val_main_v16 (F := Ideal) x0 (ix2 a 0) = ((var (z a) + eps : ℝ) : EReal) := by
  unfold val_main_v16 val_main_v15 val_main_v14 val_main_v13 val_main_v12 val_main_v11 val_main_v8
    val_main_cst_2 val_main_cst_3 val_main_cst_4
  pointwise
  rw [len_bits, eps_bits, mean_coe (z := fun c => cen (z a) c * cen (z a) c)
    (fun c => by rw [v7_at hz, EReal.coe_mul]), ← EReal.coe_add, var]

theorem v17_at : val_main_v17 (F := Ideal) x0 (ix2 a 0) = (inv (z a) : EReal) := by
  unfold val_main_v17
  pointwise
  rw [v16_at hz]
  exact rsqrt_coe (pos (z a))

theorem v22_at : val_main_v22 (F := Ideal) x0 (ix2 a c) = (hat (z a) c : EReal) := by
  unfold val_main_v22 val_main_v21
  pointwise
  rw [v7_at hz, v17_at hz, ← EReal.coe_mul, hat]

theorem v20_at : val_main_v20 (F := Ideal) x0 (ix2 a 0)
    = ((-(1 / 2) * (inv (z a) / (var (z a) + eps)) : ℝ) : EReal) := by
  unfold val_main_v20 val_main_v19 val_main_v18 val_main_cst_5
  pointwise
  rw [half_bits, v17_at hz, v16_at hz, div_coe _ (pos (z a)).ne', ← EReal.coe_mul]

theorem v10_at : val_main_v10 (F := Ideal) x0 (ix2 a c) = ((2 * cen (z a) c : ℝ) : EReal) := by
  unfold val_main_v10 val_main_v9 val_main_cst_1
  pointwise
  rw [two_bits, v7_at hz, ← EReal.coe_mul]

end Forward

variable (H : Given x0 x1 x3 x4 x5 A) (a : Fin 8192) (c : Fin 2048)

/-- The gradient of the normalised row. -/
def up (A : Args 8192) (a : Fin 8192) (c : Fin 2048) : ℝ := A.dx a c * A.g c

include H

/-! ## The gradient of the output -/

theorem v35_at : val_main_v35 (F := Ideal) x3 x4 x5 (ix2 a c) = (A.dx a c : EReal) := by
  unfold val_main_v35 val_main_v34 val_main_v33 val_main_v32 val_main_cst_7
  pointwise
  rw [alpha_bits, H.d, sum_mul_coe (fun e => H.p a e) (fun e => H.w c e), ← EReal.coe_mul,
    ← EReal.coe_add, Args.dx, Args.prod, add_comm]

theorem v43_at : val_main_v43 (F := Ideal) x1 x3 x4 x5 (ix2 a c) = (up A a c : EReal) := by
  unfold val_main_v43 val_main_v42 val_main_v23 val_main_v0
  pointwise
  rw [v35_at H, H.g, ← EReal.coe_mul, up]

/-! ## The gradient of the rows -/

theorem v47_at : val_main_v47 (F := Ideal) x0 x1 x3 x4 x5 (ix2 a 0)
    = ((∑ k, cen (A.z a) k * up A a k : ℝ) : EReal) := by
  unfold val_main_v47 val_main_v46 val_main_v45 val_main_cst_12
  pointwise
  exact sum_mul_coe (fun k => v7_at H.z a k) fun k => v43_at H a k

theorem v56_at : val_main_v56 (F := Ideal) x0 x1 x3 x4 x5 (ix2 a c)
    = (backCen (A.z a) (up A a) c : EReal) := by
  unfold val_main_v56 val_main_v55 val_main_v54 val_main_v53 val_main_v52 val_main_v51
    val_main_v50 val_main_v49 val_main_v48 val_main_cst_13 val_main_cst_14
  pointwise
  rw [Fin.sum_univ_one, len_bits, v47_at H, v20_at H.z, v10_at H.z, v43_at H, v17_at H.z, ← EReal.coe_mul, ← EReal.coe_mul,
    div_coe _ (by norm_num), ← EReal.coe_mul, ← EReal.coe_add, backCen]

theorem v64_at : val_main_v64 (F := Ideal) x0 x1 x3 x4 x5 (ix2 a c) = (A.dz a c : EReal) := by
  unfold val_main_v64 val_main_v63 val_main_v62 val_main_v61 val_main_v60 val_main_v59
    val_main_v58 val_main_v57 val_main_cst_15 val_main_cst_16 val_main_cst_17
  pointwise
  rw [Fin.sum_univ_one, len_bits, sum_eq_coe (a := fun k => -backCen (A.z a) (up A a) k)
    (fun k => by rw [v56_at H, EReal.coe_neg]), div_coe _ (by norm_num), v56_at H,
    ← EReal.coe_add, backCen_eq]
  rfl

/-! ## The results -/

theorem ref_z : val_main_v64 (F := Ideal) x0 x1 x3 x4 x5 = A.gZ := by
  funext i
  obtain ⟨a, c, rfl⟩ : ∃ (a : Fin 8192) (c : Fin 2048), i = ix2 a c :=
    ⟨i 0, i 1, by ext k; fin_cases k <;> rfl⟩
  exact v64_at H a c

theorem ref_zb : val_main_v65 (F := Ideal) x0 x1 x3 x4 x5 = A.gZ := by
  unfold val_main_v65
  rw [ref_z H]
  funext i
  pointwise

theorem ref_g : val_main_v66 (F := Ideal) x0 x3 x4 x5 = A.gG := by
  funext i
  obtain ⟨u, c, rfl⟩ : ∃ (u : Fin 1) (c : Fin 2048), i = ix2 u c :=
    ⟨i 0, i 1, by ext k; fin_cases k <;> rfl⟩
  unfold val_main_v66 val_main_v44 val_main_v41 val_main_v40 val_main_v39 val_main_cst_10
    val_main_cst_11
  pointwise
  rw [Fin.sum_univ_one, sum_mul_coe (fun a => v22_at H.z a c) (fun a => v35_at H a c)]
  exact congrArg _ (Finset.sum_congr rfl fun a _ => mul_comm _ _)

theorem ref_b : val_main_v67 (F := Ideal) x3 x4 x5 = A.gB := by
  funext i
  obtain ⟨u, c, rfl⟩ : ∃ (u : Fin 1) (c : Fin 2048), i = ix2 u c :=
    ⟨i 0, i 1, by ext k; fin_cases k <;> rfl⟩
  unfold val_main_v67 val_main_v38 val_main_v37 val_main_v36 val_main_cst_8 val_main_cst_9
  pointwise
  rw [Fin.sum_univ_one, sum_eq_coe (fun a => v35_at H a c)]
  rfl

end Cert.Ff1DgradLn1RefIdeal.Mixer
-- ==== Proof.NormFinite.lean ====
module

public import proofs.«01_k».proof.Proof.Finite
public import proofs.«01_k».proof.Proof.Norm
public import proofs.«01_k».proof.Pre_finite_ln1
public import proofs.«01_k».proof.Pre_finite_ln_in

@[expose] public section
set_option maxRecDepth 16384

/-! # The layer norm's finite arguments are real numbers -/

noncomputable section

namespace Cert.Norm
open Idealize.ShloMosaic Idealize.ShloMosaic.TcCoe Idealize.SL.Sem Cert.Finite

/-- The shapes of the preconditions' constants spread out. -/
instance facts : Cert.Pre_finite_ln1.Facts where
  bcast_S_S8192x2048 := by decide
  bcast_S_S1x2048 := by decide
  bcast_S_S2048x8192 := by decide
  bcast_S_S8192x8192 := by decide

instance facts_in : Cert.Pre_finite_ln_in.Facts where
  bcast_S_S8192x2048 := by decide
  bcast_S_S1x2048 := by decide
  bcast_S_S2048x3200 := by decide
  bcast_S_S8192x3200 := by decide

variable {n : ℕ} (x0 x4 : FVec Ideal Cert.Pre_finite_ln1.S8192x2048 .f32)
  (x1 x2 : FVec Ideal Cert.Pre_finite_ln1.S1x2048 .f32)
  (x3 : FVec Ideal ⟨2, ![2048, n]⟩ .f32) (x5 : FVec Ideal ⟨2, ![8192, n]⟩ .f32)

/-- The real numbers that five arrays hold. -/
def args : Args n where
  z a b := EReal.toReal (x0 (ix2 a b))
  g b := EReal.toReal (x1 (ix2 0 b))
  w b e := EReal.toReal (x3 (ix2 b e))
  d a b := EReal.toReal (x4 (ix2 a b))
  p a e := EReal.toReal (x5 (ix2 a e))

/-- Arrays that satisfy the precondition hold those numbers. -/
theorem given (x3 : FVec Ideal Cert.Pre_finite_ln1.S2048x8192 .f32)
    (x5 : FVec Ideal Cert.Pre_finite_ln1.S8192x8192 .f32)
    (h : (Cert.Pre_finite_ln1.fn (F := Ideal) x0 x1 x2 x3 x4 x5).1 = (fun _ => 1#1)
      ∧ (Cert.Pre_finite_ln1.fn (F := Ideal) x0 x1 x2 x3 x4 x5).2.1 = (fun _ => 1#1)
      ∧ (Cert.Pre_finite_ln1.fn (F := Ideal) x0 x1 x2 x3 x4 x5).2.2.1 = (fun _ => 1#1)
      ∧ (Cert.Pre_finite_ln1.fn (F := Ideal) x0 x1 x2 x3 x4 x5).2.2.2.1 = (fun _ => 1#1)
      ∧ (Cert.Pre_finite_ln1.fn (F := Ideal) x0 x1 x2 x3 x4 x5).2.2.2.2 = (fun _ => 1#1)) :
    Given x0 x1 x3 x4 x5 (args x0 x4 x1 x3 x5) where
  z a b := real_arr _ x0 h.1 _
  g b := real_arr _ x1 h.2.1 _
  w b e := real_arr _ x3 h.2.2.1 _
  d a b := real_arr _ x4 h.2.2.2.1 _
  p a e := real_arr _ x5 h.2.2.2.2 _

/-- The same of the precondition behind the projection into the mixer. -/
theorem given_in (x3 : FVec Ideal Cert.Pre_finite_ln_in.S2048x3200 .f32)
    (x5 : FVec Ideal Cert.Pre_finite_ln_in.S8192x3200 .f32)
    (h : (Cert.Pre_finite_ln_in.fn (F := Ideal) x0 x1 x2 x3 x4 x5).1 = (fun _ => 1#1)
      ∧ (Cert.Pre_finite_ln_in.fn (F := Ideal) x0 x1 x2 x3 x4 x5).2.1 = (fun _ => 1#1)
      ∧ (Cert.Pre_finite_ln_in.fn (F := Ideal) x0 x1 x2 x3 x4 x5).2.2.1 = (fun _ => 1#1)
      ∧ (Cert.Pre_finite_ln_in.fn (F := Ideal) x0 x1 x2 x3 x4 x5).2.2.2.1 = (fun _ => 1#1)
      ∧ (Cert.Pre_finite_ln_in.fn (F := Ideal) x0 x1 x2 x3 x4 x5).2.2.2.2 = (fun _ => 1#1)) :
    Given x0 x1 x3 x4 x5 (args x0 x4 x1 x3 x5) where
  z a b := real_arr _ x0 h.1 _
  g b := real_arr _ x1 h.2.1 _
  w b e := real_arr _ x3 h.2.2.1 _
  d a b := real_arr _ x4 h.2.2.2.1 _
  p a e := real_arr _ x5 h.2.2.2.2 _

end Cert.Norm

end
-- ==== Proof.InNormBwd.lean ====
module

public import proofs.«01_k».proof.Proof.NormTile
public import proofs.«01_k».proof.Proof.Gen.InDgradLnInIdeal.Value
public import Idealize.ShloMosaic.Lib.Pipeline.ReadBack
public import Idealize.ShloMosaic.Lib.StableHlo.ReadAt

@[expose] public section
set_option maxRecDepth 16384

/-! # The gradient of the step's input, as the kernel leaves it

The same epilogue as behind the first feed-forward product, over another product: five consecutive
points of the grid sum it for 512 rows in a scratch.  The last of them finishes the rows and adds
what they contribute to the gradients of the scale and the shift, which stay in their buffers from
the first point to the last. -/

noncomputable section

namespace Cert.InDgradLnInIdeal.Mixer
open Cert.InDgradLnInIdeal Cert.InDgradLnInIdeal.Gen Idealize.ShloMosaic Cert.Flash Cert.Norm
open Idealize.ShloMosaic.TcCoe Idealize.SL.Sem
open Cert.Ff1DgradLn1Ideal.Mixer (brow gsl bsl dz_piece dg_first dg_next db_first db_next sum_rows)

/-! ## The product -/

theorem pay1_apply (r : Fin 512) (s : Fin 2048) :
    (k0_pay1 : FVec Ideal S512x2048 .f32) (ix2 r s) = 0 := by
  unfold k0_pay1
  pointwise

theorem pay2_apply (p : Vec Ideal S512x2048 .f32) (x0 : Vec Ideal S512x640 .bf16)
    (x1 : Vec Ideal S2048x640 .bf16) (r : Fin 512) (s : Fin 2048) :
    k0_pay2 p x0 x1 (ix2 r s)
      = p (ix2 r s) + ∑ k : Fin 640, x0 (ix2 r k) * x1 (ix2 s k) := by
  unfold k0_pay2
  pointwise

/-- Which block each window stages at a point. -/
theorem idx : ∀ t : Fin cfg0.N,
    win0_0.index t = ![t.val / 5, t.val % 5] ∧ win0_1.index t = ![0, t.val % 5]
    ∧ win0_2.index t = ![t.val / 5, 0] ∧ win0_3.index t = ![t.val / 5, 0]
    ∧ win0_4.index t = ![0, 0] ∧ win0_5.index t = ![t.val / 5, 0]
    ∧ win0_6.index t = ![0, 0] ∧ win0_7.index t = ![0, 0] :=
  (by decide +kernel : ∀ t : Fin grid0.N, _)

/-- The token in row `r` of a point's block. -/
def row (t : Fin cfg0.N) (r : Fin 512) : Fin 8192 :=
  ⟨t.val / 5 * 512 + r.val, by have := lt_of_lt_of_eq t.isLt N_0; omega⟩

/-- Column `k` of a point's part of the projection's columns. -/
def hid (t : Fin cfg0.N) (k : Fin 640) : Fin 3200 := ⟨t.val % 5 * 640 + k.val, by omega⟩

variable (m : (ℓ : Loc nD τ sig) → Buf (Elt Ideal) ℓ) (c : Dev nD)

theorem p_read (a : Fin 8192) (e : Fin 3200) :
    (V m c main_v0 : S8192x3200.Idx → EReal) (ix2 a e)
      = (m (c, Proc.devRef .tc main_arg5) : S8192x3200.Idx → EReal) (ix2 a e) := by
  unfold V
  after_reads_at

theorem w_read (b : Fin 2048) (e : Fin 3200) :
    (V m c main_v1 : S2048x3200.Idx → EReal) (ix2 b e)
      = (m (c, Proc.devRef .tc main_arg3) : S2048x3200.Idx → EReal) (ix2 b e) := by
  unfold V
  after_reads_at

theorem d_read : (V m c main_arg4 : S8192x2048.Idx → EReal)
    = (m (c, Proc.devRef .tc main_arg4) : S8192x2048.Idx → EReal) := by
  unfold V
  after_reads_at

theorem z_read : (V m c main_arg0 : S8192x2048.Idx → EReal)
    = (m (c, Proc.devRef .tc main_arg0) : S8192x2048.Idx → EReal) := by
  unfold V
  after_reads_at

theorem g_read : (V m c main_arg1 : S1x2048.Idx → EReal)
    = (m (c, Proc.devRef .tc main_arg1) : S1x2048.Idx → EReal) := by
  unfold V
  after_reads_at

theorem p_blk (t : Fin cfg0.N) (r : Fin 512) (k : Fin 640) :
    (iblk m c 0 t : Vec Ideal S512x640 .bf16) (ix2 r k)
      = (V m c main_v0 : S8192x3200.Idx → EReal) (ix2 (row t r) (hid t k)) := by
  have h := idx t
  blk_ext [iblk, h, row, hid]

theorem w_blk (t : Fin cfg0.N) (s : Fin 2048) (k : Fin 640) :
    (iblk m c 1 t : Vec Ideal S2048x640 .bf16) (ix2 s k)
      = (V m c main_v1 : S2048x3200.Idx → EReal) (ix2 s (hid t k)) := by
  have h := idx t
  blk_ext [iblk, h, hid]

theorem d_blk (t : Fin cfg0.N) (r : Fin 512) (s : Fin 2048) :
    (iblk m c 2 t : Vec Ideal S512x2048 .f32) (ix2 r s)
      = (V m c main_arg4 : S8192x2048.Idx → EReal) (ix2 (row t r) s) := by
  have h := idx t
  blk_ext [iblk, h, row]

theorem z_blk (t : Fin cfg0.N) (r : Fin 512) (s : Fin 2048) :
    (iblk m c 3 t : Vec Ideal S512x2048 .f32) (ix2 r s)
      = (V m c main_arg0 : S8192x2048.Idx → EReal) (ix2 (row t r) s) := by
  have h := idx t
  blk_ext [iblk, h, row]

theorem g_blk (t : Fin cfg0.N) (s : Fin 2048) :
    (iblk m c 4 t : Vec Ideal S1x2048 .f32) (ix2 0 s)
      = (V m c main_arg1 : S1x2048.Idx → EReal) (ix2 0 s) := by
  have h := idx t
  blk_ext [iblk, h]

theorem emb_5 (t : Fin cfg0.N) (r : Fin 512) (s : Fin 2048) :
    (ix2 (row t r) s : S8192x2048.Idx) = (win0_5.blk t).view.emb (ix2 r s : S512x2048.Idx) := by
  have h := idx t
  blk_ext [h, row]

theorem emb_6 (t : Fin cfg0.N) (s : Fin 2048) :
    (ix2 0 s : S1x2048.Idx) = (win0_6.blk t).view.emb (ix2 0 s : S1x2048.Idx) := by
  have h := idx t
  blk_ext [h]

theorem emb_7 (t : Fin cfg0.N) (s : Fin 2048) :
    (ix2 0 s : S1x2048.Idx) = (win0_7.blk t).view.emb (ix2 0 s : S1x2048.Idx) := by
  have h := idx t
  blk_ext [h]

/-- What column `e` contributes to a row's product. -/
def term (p : S8192x3200.Idx → EReal) (w : S2048x3200.Idx → EReal) (a : Fin 8192) (b : Fin 2048)
    (e : Fin 3200) : EReal := p (ix2 a e) * w (ix2 b e)

/-- What a point adds to the scratch. -/
def add (t : Fin cfg0.N) (r : Fin 512) (s : Fin 2048) : EReal :=
  ∑ k : Fin 640, term (m (c, Proc.devRef .tc main_arg5)) (m (c, Proc.devRef .tc main_arg3))
    (row t r) s (hid t k)

theorem step_apply (t : Fin cfg0.N) (p : Vec Ideal S512x2048 .f32) (r : Fin 512) (s : Fin 2048) :
    k0_pay2 p (iblk m c 0 t : Vec Ideal S512x640 .bf16)
      (iblk m c 1 t : Vec Ideal S2048x640 .bf16) (ix2 r s) = p (ix2 r s) + add m c t r s := by
  rw [pay2_apply, add]
  refine congrArg (_ + ·) (Finset.sum_congr rfl fun k _ => ?_)
  rw [p_blk, w_blk, p_read, w_read]
  rfl

/-- The first point of five starts the scratch. -/
theorem sc_A (t : Fin cfg0.N) (ht : t.val % 5 = 0) (y : S512x2048.Idx) :
    (outsAt0 m c t.val t.isLt).2.2.2 y = add m c t (y 0) (y 1) := by
  obtain ⟨r, s, rfl⟩ : ∃ (r : Fin 512) (s : Fin 2048), y = (ix2 r s : S512x2048.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point's scratch is its step over what the point before left. -/
theorem sc_pay (t : Fin cfg0.N) (ht : ¬t.val % 5 = 0) :
    (outsAt0 m c t.val t.isLt).2.2.2
      = k0_pay2 (outsAt0 m c (t.val - 1) (by omega)).2.2.2 (iblk m c 0 t) (iblk m c 1 t) := by
  by_cases h1 : t.val % 5 = 4
  · by_cases h2 : t.val < 5
    · rw [outsAt0_C m c t ht h1 h2 (by omega) h2 (by omega)]
      frame_open
      simp (disch := decide) only [↓ View.readCov_skip, ↓ View.readCov_cons_toLoadRect,
        ↓ View.readCov_fill]
      frame_out
      rw [read_unread_whole]
    · rw [outsAt0_D m c t ht h1 h2 (by omega) h2 (by omega)]
      frame_open
      simp (disch := decide) only [↓ View.readCov_skip, ↓ View.readCov_cons_toLoadRect,
        ↓ View.readCov_fill]
      frame_out
      rw [read_unread_whole]
  · rw [outsAt0_B m c t ht h1]
    frame_open
    simp (disch := decide) only [↓ View.readCov_skip, ↓ View.readCov_cons_toLoadRect,
      ↓ View.readCov_fill]
    frame_out
    rw [read_unread_whole]

theorem sc_B (t : Fin cfg0.N) (ht : ¬t.val % 5 = 0) (y : S512x2048.Idx) :
    (outsAt0 m c t.val t.isLt).2.2.2 y
      = (outsAt0 m c (t.val - 1) (by omega)).2.2.2 y + add m c t (y 0) (y 1) := by
  obtain ⟨r, s, rfl⟩ : ∃ (r : Fin 512) (s : Fin 2048), y = (ix2 r s : S512x2048.Idx) :=
    ⟨y 0, y 1, by ext i; fin_cases i <;> rfl⟩
  rw [sc_pay m c t ht]
  exact step_apply m c t _ r s

/-- The five points' parts are all columns. -/
theorem sum_hid (t : Fin cfg0.N) (ht : t.val % 5 = 5 - 1)
    (f : Fin 8192 → Fin 3200 → EReal) (r : Fin 512) :
    ∑ j : Fin 5, ∑ k : Fin 640,
        f (row ⟨5 * (t.val / 5) + j.val, Pipeline.run_point_lt_of_flush t ht j⟩ r)
          (hid ⟨5 * (t.val / 5) + j.val, Pipeline.run_point_lt_of_flush t ht j⟩ k)
      = ∑ e, f (row t r) e := by
  refine Fin.sum_mul_add_congr fun j k hl => ?_
  congr 1 <;> refine Fin.ext ?_ <;> simp only [row, hid] <;> omega

theorem sc_last (t : Fin cfg0.N) (ht : t.val % 5 = 5 - 1) (r : Fin 512) (s : Fin 2048) :
    (outsAt0 m c t.val t.isLt).2.2.2 (ix2 r s : S512x2048.Idx)
      = ∑ e, term (m (c, Proc.devRef .tc main_arg5)) (m (c, Proc.devRef .tc main_arg3))
          (row t r) s e := by
  rw [Pipeline.eq_sum_fin_of_reset_step_apply_of_flush (M := EReal)
    (fun n h => (outsAt0 m c n h).2.2.2) 5 (fun _ => 0) (fun t y => add m c t (y 0) (y 1))
    (fun t ht y => by rw [zero_add]; exact sc_A m c t ht y)
    (fun t ht y => sc_B m c t ht y) t ht, zero_add]
  exact sum_hid t ht (fun a e => term (m (c, Proc.devRef .tc main_arg5))
    (m (c, Proc.devRef .tc main_arg3)) a s e) r

/-! ## The last point of five -/

/-- The arguments hold these numbers. -/
abbrev Holds (A : Args 3200) : Prop :=
  Given (m (c, Proc.devRef .tc main_arg0)) (m (c, Proc.devRef .tc main_arg1))
    (m (c, Proc.devRef .tc main_arg3)) (m (c, Proc.devRef .tc main_arg4))
    (m (c, Proc.devRef .tc main_arg5)) A

variable {m c} {A : Args 3200} (H : Holds m c A) (t : Fin cfg0.N)

/-- The product of a point's rows. -/
def ra (A : Args 3200) (t : Fin cfg0.N) (r : Fin 512) (s : Fin 2048) : ℝ := A.prod (row t r) s
/-- The residual's gradient of a point's rows. -/
def rd (A : Args 3200) (t : Fin cfg0.N) (r : Fin 512) (s : Fin 2048) : ℝ := A.d (row t r) s
/-- A point's rows. -/
def rz (A : Args 3200) (t : Fin cfg0.N) (r : Fin 512) (s : Fin 2048) : ℝ := A.z (row t r) s

include H

theorem acc (ht : t.val % 5 = 4) (r : Fin 512) (s : Fin 2048) :
    k0_pay2 (outsAt0 m c (t.val - 1) (by omega)).2.2.2 (iblk m c 0 t) (iblk m c 1 t) (ix2 r s)
      = (ra A t r s : EReal) := by
  rw [← sc_pay m c t (by omega), sc_last m c t ht]
  exact sum_mul_coe (fun e => H.p _ e) fun e => H.w s e

theorem d_at (r : Fin 512) (s : Fin 2048) :
    (iblk m c 2 t : Vec Ideal S512x2048 .f32) (ix2 r s) = (rd A t r s : EReal) := by
  rw [d_blk, d_read]
  exact H.d _ _

theorem z_at (r : Fin 512) (s : Fin 2048) :
    (iblk m c 3 t : Vec Ideal S512x2048 .f32) (ix2 r s) = (rz A t r s : EReal) := by
  rw [z_blk, z_read]
  exact H.z _ _

theorem g_at (s : Fin 2048) :
    (iblk m c 4 t : Vec Ideal S1x2048 .f32) (ix2 0 s) = (A.g s : EReal) := by
  rw [g_blk, g_read]
  exact H.g _

/-- The rows' gradient. -/
theorem z_out (ht : t.val % 5 = 4) (y : S512x2048.Idx) :
    (outsAt0 m c t.val t.isLt).1 y = (A.dz (row t (y 0)) (y 1) : EReal) := by
  have ha := acc H t ht
  have hd := d_at H t
  have hz := z_at H t
  have hg := g_at H t
  by_cases h2 : t.val < 5
  · rw [outsAt0_C m c t (by omega) ht h2 (by omega) h2 (by omega)]
    frame_open
    simp (disch := decide) only [↓ View.readCov_skip, ↓ View.readCov_cons_toLoadRect,
      ↓ View.readCov_fill]
    frame_out
    rw [read_unread_whole]
    refine (View.canon_append_of_piecesOf (fun y : S512x2048.Idx =>
      (brow (ra A t) (rd A t) (rz A t) A.g (y 0) (y 1) : EReal)) [] [_, _, _, _] ?_ y
      (View.cover_of_tiled_head _ _ _ rfl y)).trans ?_
    · refine ⟨?_, ?_, ?_, ?_, trivial⟩ <;> exact dz_piece ha hd hz hg _ (by norm_num) _
    · rfl
  · rw [outsAt0_D m c t (by omega) ht h2 (by omega) h2 (by omega)]
    frame_open
    simp (disch := decide) only [↓ View.readCov_skip, ↓ View.readCov_cons_toLoadRect,
      ↓ View.readCov_fill]
    frame_out
    rw [read_unread_whole]
    refine (View.canon_append_of_piecesOf (fun y : S512x2048.Idx =>
      (brow (ra A t) (rd A t) (rz A t) A.g (y 0) (y 1) : EReal)) [] [_, _, _, _] ?_ y
      (View.cover_of_tiled_head _ _ _ rfl y)).trans ?_
    · refine ⟨?_, ?_, ?_, ?_, trivial⟩ <;> exact dz_piece ha hd hz hg _ (by norm_num) _
    · rfl

/-- What a point's rows contribute to the gradient of the scale. -/
def gpt (A : Args 3200) (t : Fin cfg0.N) (s : Fin 2048) : ℝ :=
  ∑ r, A.dx (row t r) s * hat (A.z (row t r)) s

/-- What a point's rows contribute to the gradient of the shift. -/
def bpt (A : Args 3200) (t : Fin cfg0.N) (s : Fin 2048) : ℝ := ∑ r, A.dx (row t r) s

omit H in
theorem gpt_eq (s : Fin 2048) :
    gsl (ra A t) (rd A t) (rz A t) s 0 (by norm_num) + gsl (ra A t) (rd A t) (rz A t) s 128 (by norm_num)
      + gsl (ra A t) (rd A t) (rz A t) s 256 (by norm_num)
      + gsl (ra A t) (rd A t) (rz A t) s 384 (by norm_num) = gpt A t s :=
  sum_rows fun r => A.dx (row t r) s * hat (A.z (row t r)) s

omit H in
theorem bpt_eq (s : Fin 2048) :
    bsl (ra A t) (rd A t) s 0 (by norm_num) + bsl (ra A t) (rd A t) s 128 (by norm_num)
      + bsl (ra A t) (rd A t) s 256 (by norm_num) + bsl (ra A t) (rd A t) s 384 (by norm_num)
      = bpt A t s :=
  sum_rows fun r => A.dx (row t r) s

theorem g_C (ht : t.val % 5 = 4) (h2 : t.val < 5) (s : Fin 2048) :
    (outsAt0 m c t.val t.isLt).2.1 (ix2 0 s : S1x2048.Idx) = (gpt A t s : EReal) := by
  have ha := acc H t ht
  have hd := d_at H t
  have hz := z_at H t
  rw [outsAt0_C m c t (by omega) ht h2 (by omega) h2 (by omega)]
  frame_open
  simp (disch := decide) only [↓ View.readCov_skip, ↓ View.readCov_cons_toLoadRect,
    ↓ View.readCov_fill]
  frame_out
  rw [read_unread_whole]
  refine Eq.trans (dg_next ha hd hz 384 (by norm_num) (dg_next ha hd hz 256 (by norm_num)
    (dg_next ha hd hz 128 (by norm_num) (dg_first ha hd hz 0 (by norm_num) s)))) ?_
  rw [gpt_eq]

theorem g_D (ht : t.val % 5 = 4) (h2 : ¬t.val < 5) (s : Fin 2048) {v : ℝ}
    (hv : (outsAt0 m c (t.val - 1) (by omega)).2.1 (ix2 0 s : S1x2048.Idx) = (v : EReal)) :
    (outsAt0 m c t.val t.isLt).2.1 (ix2 0 s : S1x2048.Idx) = ((v + gpt A t s : ℝ) : EReal) := by
  have ha := acc H t ht
  have hd := d_at H t
  have hz := z_at H t
  rw [outsAt0_D m c t (by omega) ht h2 (by omega) h2 (by omega)]
  frame_open
  simp (disch := decide) only [↓ View.readCov_skip, ↓ View.readCov_cons_toLoadRect,
    ↓ View.readCov_fill]
  frame_out
  rw [read_unread_whole]
  refine Eq.trans (dg_next ha hd hz 384 (by norm_num) (dg_next ha hd hz 256 (by norm_num)
    (dg_next ha hd hz 128 (by norm_num) (dg_next ha hd hz 0 (by norm_num) hv)))) ?_
  rw [← gpt_eq, ← add_assoc, ← add_assoc, ← add_assoc]

theorem b_C (ht : t.val % 5 = 4) (h2 : t.val < 5) (s : Fin 2048) :
    (outsAt0 m c t.val t.isLt).2.2.1 (ix2 0 s : S1x2048.Idx) = (bpt A t s : EReal) := by
  have ha := acc H t ht
  have hd := d_at H t
  rw [outsAt0_C m c t (by omega) ht h2 (by omega) h2 (by omega)]
  frame_open
  simp (disch := decide) only [↓ View.readCov_skip, ↓ View.readCov_cons_toLoadRect,
    ↓ View.readCov_fill]
  frame_out
  rw [read_unread_whole]
  refine Eq.trans (db_next ha hd 384 (by norm_num) (db_next ha hd 256 (by norm_num)
    (db_next ha hd 128 (by norm_num) (db_first ha hd 0 (by norm_num) s)))) ?_
  rw [bpt_eq]

theorem b_D (ht : t.val % 5 = 4) (h2 : ¬t.val < 5) (s : Fin 2048) {v : ℝ}
    (hv : (outsAt0 m c (t.val - 1) (by omega)).2.2.1 (ix2 0 s : S1x2048.Idx) = (v : EReal)) :
    (outsAt0 m c t.val t.isLt).2.2.1 (ix2 0 s : S1x2048.Idx)
      = ((v + bpt A t s : ℝ) : EReal) := by
  have ha := acc H t ht
  have hd := d_at H t
  rw [outsAt0_D m c t (by omega) ht h2 (by omega) h2 (by omega)]
  frame_open
  simp (disch := decide) only [↓ View.readCov_skip, ↓ View.readCov_cons_toLoadRect,
    ↓ View.readCov_fill]
  frame_out
  rw [read_unread_whole]
  refine Eq.trans (db_next ha hd 384 (by norm_num) (db_next ha hd 256 (by norm_num)
    (db_next ha hd 128 (by norm_num) (db_next ha hd 0 (by norm_num) hv)))) ?_
  rw [← bpt_eq, ← add_assoc, ← add_assoc, ← add_assoc]

/-! ## The scale's and the shift's gradients from point to point -/

omit H in
/-- A point that is not the last of five leaves them as they were. -/
theorem kept (h0 : t.val ≠ 0) (h1 : ¬t.val % 5 = 4) :
    (outsAt0 m c t.val t.isLt).2.1 = (outsAt0 m c (t.val - 1) (by omega)).2.1
    ∧ (outsAt0 m c t.val t.isLt).2.2.1 = (outsAt0 m c (t.val - 1) (by omega)).2.2.1 := by
  by_cases h : t.val % 5 = 0
  · rw [outsAt0_A m c t h h1]
    exact ⟨rfl, rfl⟩
  · rw [outsAt0_B m c t h h1]
    exact ⟨rfl, rfl⟩

/-- The token in row `r` of block `i`. -/
def tok (i : ℕ) (r : Fin 512) : Fin 8192 := ⟨(i * 512 + r.val) % 8192, by omega⟩

omit H in
theorem row_tok (r : Fin 512) : row t r = tok (t.val / 5) r := by
  have := lt_of_lt_of_eq t.isLt N_0
  exact Fin.ext (by simp only [row, tok]; omega)

/-- After a point, the blocks finished so far have contributed to the scale's gradient. -/
theorem g_sum (s : Fin 2048) (n : ℕ) (hn : n < cfg0.N) (h : 4 ≤ n) :
    (outsAt0 m c n hn).2.1 (ix2 0 s : S1x2048.Idx)
      = ((∑ i ∈ Finset.range ((n - 4) / 5 + 1), ∑ r, A.dx (tok i r) s * hat (A.z (tok i r)) s : ℝ)
          : EReal) := by
  refine kept_sum (v := fun n hn => (outsAt0 m c n hn).2.1 (ix2 0 s : S1x2048.Idx)) (q := 4)
    (b := fun n => (n - 4) / 5) (fun hq => ?_) rfl (fun n hn hq => ?_) n hn h
  · refine (g_C H ⟨4, hq⟩ rfl (by norm_num) s).trans ?_
    simp only [gpt, row_tok]
  · by_cases hl : (n + 1) % 5 = 4
    · have e : (n + 1) / 5 = (n - 4) / 5 + 1 := by omega
      refine .inl ⟨by omega, fun v hv => ?_⟩
      refine (g_D H ⟨n + 1, hn⟩ hl (by simp only; omega) s hv).trans ?_
      simp only [gpt, row_tok, e]
    · exact .inr ⟨by omega, congrFun (kept (m := m) (c := c) ⟨n + 1, hn⟩ (by simp) hl).1 _⟩

/-- And to the shift's. -/
theorem b_sum (s : Fin 2048) (n : ℕ) (hn : n < cfg0.N) (h : 4 ≤ n) :
    (outsAt0 m c n hn).2.2.1 (ix2 0 s : S1x2048.Idx)
      = ((∑ i ∈ Finset.range ((n - 4) / 5 + 1), ∑ r, A.dx (tok i r) s : ℝ) : EReal) := by
  refine kept_sum (v := fun n hn => (outsAt0 m c n hn).2.2.1 (ix2 0 s : S1x2048.Idx)) (q := 4)
    (b := fun n => (n - 4) / 5) (fun hq => ?_) rfl (fun n hn hq => ?_) n hn h
  · refine (b_C H ⟨4, hq⟩ rfl (by norm_num) s).trans ?_
    simp only [bpt, row_tok]
  · by_cases hl : (n + 1) % 5 = 4
    · have e : (n + 1) / 5 = (n - 4) / 5 + 1 := by omega
      refine .inl ⟨by omega, fun v hv => ?_⟩
      refine (b_D H ⟨n + 1, hn⟩ hl (by simp only; omega) s hv).trans ?_
      simp only [bpt, row_tok, e]
    · exact .inr ⟨by omega, congrFun (kept (m := m) (c := c) ⟨n + 1, hn⟩ (by simp) hl).2 _⟩

omit H in
/-- The sixteen blocks' rows are all tokens. -/
theorem sum_tok (f : Fin 8192 → ℝ) :
    ∑ i ∈ Finset.range 16, ∑ r, f (tok i r) = ∑ a, f a := by
  rw [Finset.sum_range]
  refine Fin.sum_mul_add_congr fun i r hl => congrArg f (Fin.ext ?_)
  simp only [tok]
  omega

/-! ## The arrays -/

theorem z_emb (ht : t.val % 5 = 4) (y : S512x2048.Idx) :
    (outsAt0 m c t.val t.isLt).1 y = A.gZ ((win0_5.blk t).view.emb y) := by
  obtain ⟨r, s, rfl⟩ : ∃ (r : Fin 512) (s : Fin 2048), y = (ix2 r s : S512x2048.Idx) :=
    ⟨y 0, y 1, by ext i; fin_cases i <;> rfl⟩
  rw [z_out H t ht, ← emb_5 t r s]
  rfl

theorem z_array : (dats m 0 c).arrAt 5 cfg0.N = A.gZ := by
  refine (dats m 0 c).arrAt_eq_of_covers 5 _ (by decide +kernel) fun t hf y => ?_
  blk_simp
  rw [after0_5]
  exact z_emb H t ((flush0_5 t).mp hf) y

theorem g_array : (dats m 0 c).arrAt 6 cfg0.N = A.gG := by
  refine (dats m 0 c).arrAt_eq_of_covers 6 _ (by decide +kernel) fun t hf y => ?_
  blk_simp
  rw [after0_6]
  obtain ⟨a, s, rfl⟩ : ∃ (a : Fin 1) (s : Fin 2048), y = (ix2 a s : S1x2048.Idx) :=
    ⟨y 0, y 1, by ext i; fin_cases i <;> rfl⟩
  obtain rfl : a = 0 := Subsingleton.elim _ _
  have ht := (flush0_6 t).mp hf
  have hN := lt_of_lt_of_eq t.isLt N_0
  obtain rfl : t = ⟨79, by rw [N_0]; norm_num⟩ := Fin.ext (by simp only; omega)
  refine ((g_sum H s 79 _ (by norm_num)).trans ?_).trans (congrArg A.gG (emb_6 _ s))
  exact congrArg _ (sum_tok fun a => A.dx a s * hat (A.z a) s)

theorem b_array : (dats m 0 c).arrAt 7 cfg0.N = A.gB := by
  refine (dats m 0 c).arrAt_eq_of_covers 7 _ (by decide +kernel) fun t hf y => ?_
  blk_simp
  rw [after0_7]
  obtain ⟨a, s, rfl⟩ : ∃ (a : Fin 1) (s : Fin 2048), y = (ix2 a s : S1x2048.Idx) :=
    ⟨y 0, y 1, by ext i; fin_cases i <;> rfl⟩
  obtain rfl : a = 0 := Subsingleton.elim _ _
  have ht := (flush0_7 t).mp hf
  have hN := lt_of_lt_of_eq t.isLt N_0
  obtain rfl : t = ⟨79, by rw [N_0]; norm_num⟩ := Fin.ext (by simp only; omega)
  refine ((b_sum H s 79 _ (by norm_num)).trans ?_).trans (congrArg A.gB (emb_7 _ s))
  exact congrArg _ (sum_tok fun a => A.dx a s)

end Cert.InDgradLnInIdeal.Mixer
-- ==== Proof.InNormRef.lean ====
module

public import proofs.«01_k».proof.Proof.NormRef
public import proofs.«01_k».proof.Proof.Gen.InDgradLnInRefIdeal.Run
public import proofs.«01_k».proof.Proof.Gen.InDgradLnInRefIdeal.Read

@[expose] public section
set_option maxRecDepth 16384

/-! # The gradient of the step's input, as the reference computes it

The layer norm's stages are the ones read behind the first feed-forward product; only the product
that the gradient comes through has another width. -/

noncomputable section

namespace Cert.InDgradLnInRefIdeal.Mixer
open Cert.InDgradLnInRefIdeal Cert.InDgradLnInRefIdeal.Gen Cert.InDgradLnInRefIdeal.Read
open Idealize.ShloMosaic Idealize.ShloMosaic.TcCoe Idealize.SL.Sem Cert.Flash Cert.Norm

variable {x0 x4 : FVec Ideal S8192x2048 .f32} {x1 : FVec Ideal S1x2048 .f32}
  {x3 : FVec Ideal S2048x3200 .f32} {x5 : FVec Ideal S8192x3200 .f32} {A : Args 3200}

/-! ## The forward pass -/

section Forward
variable {z : Fin 8192 → Fin 2048 → ℝ} (hz : ∀ a c, x0 (ix2 a c) = (z a c : EReal))
  (a : Fin 8192) (c : Fin 2048)
include hz

theorem v7_at : val_main_v7 (F := Ideal) x0 (ix2 a c) = (cen (z a) c : EReal) :=
  Cert.Ff1DgradLn1RefIdeal.Mixer.v7_at hz a c

theorem v17_at : val_main_v17 (F := Ideal) x0 (ix2 a 0) = (inv (z a) : EReal) :=
  Cert.Ff1DgradLn1RefIdeal.Mixer.v17_at hz a

theorem v22_at : val_main_v22 (F := Ideal) x0 (ix2 a c) = (hat (z a) c : EReal) :=
  Cert.Ff1DgradLn1RefIdeal.Mixer.v22_at hz a c

theorem v20_at : val_main_v20 (F := Ideal) x0 (ix2 a 0)
    = ((-(1 / 2) * (inv (z a) / (var (z a) + eps)) : ℝ) : EReal) :=
  Cert.Ff1DgradLn1RefIdeal.Mixer.v20_at hz a

theorem v10_at : val_main_v10 (F := Ideal) x0 (ix2 a c) = ((2 * cen (z a) c : ℝ) : EReal) :=
  Cert.Ff1DgradLn1RefIdeal.Mixer.v10_at hz a c

end Forward

variable (H : Given x0 x1 x3 x4 x5 A) (a : Fin 8192) (c : Fin 2048)

/-- The gradient of the normalised row. -/
def up (A : Args 3200) (a : Fin 8192) (c : Fin 2048) : ℝ := A.dx a c * A.g c

include H

/-! ## The gradient of the output -/

theorem v35_at : val_main_v35 (F := Ideal) x3 x4 x5 (ix2 a c) = (A.dx a c : EReal) := by
  unfold val_main_v35 val_main_v34 val_main_v33 val_main_v32 val_main_cst_7
  pointwise
  rw [alpha_bits, H.d, sum_mul_coe (fun e => H.p a e) (fun e => H.w c e), ← EReal.coe_mul,
    ← EReal.coe_add, Args.dx, Args.prod, add_comm]

theorem v43_at : val_main_v43 (F := Ideal) x1 x3 x4 x5 (ix2 a c) = (up A a c : EReal) := by
  unfold val_main_v43 val_main_v42 val_main_v23 val_main_v0
  pointwise
  rw [v35_at H, H.g, ← EReal.coe_mul, up]

/-! ## The gradient of the rows -/

theorem v47_at : val_main_v47 (F := Ideal) x0 x1 x3 x4 x5 (ix2 a 0)
    = ((∑ k, cen (A.z a) k * up A a k : ℝ) : EReal) := by
  unfold val_main_v47 val_main_v46 val_main_v45 val_main_cst_12
  pointwise
  exact sum_mul_coe (fun k => v7_at H.z a k) fun k => v43_at H a k

theorem v56_at : val_main_v56 (F := Ideal) x0 x1 x3 x4 x5 (ix2 a c)
    = (backCen (A.z a) (up A a) c : EReal) := by
  unfold val_main_v56 val_main_v55 val_main_v54 val_main_v53 val_main_v52 val_main_v51
    val_main_v50 val_main_v49 val_main_v48 val_main_cst_13 val_main_cst_14
  pointwise
  rw [Fin.sum_univ_one, len_bits, v47_at H, v20_at H.z, v10_at H.z, v43_at H, v17_at H.z, ← EReal.coe_mul, ← EReal.coe_mul,
    div_coe _ (by norm_num), ← EReal.coe_mul, ← EReal.coe_add, backCen]

theorem v64_at : val_main_v64 (F := Ideal) x0 x1 x3 x4 x5 (ix2 a c) = (A.dz a c : EReal) := by
  unfold val_main_v64 val_main_v63 val_main_v62 val_main_v61 val_main_v60 val_main_v59
    val_main_v58 val_main_v57 val_main_cst_15 val_main_cst_16 val_main_cst_17
  pointwise
  rw [Fin.sum_univ_one, len_bits, sum_eq_coe (a := fun k => -backCen (A.z a) (up A a) k)
    (fun k => by rw [v56_at H, EReal.coe_neg]), div_coe _ (by norm_num), v56_at H,
    ← EReal.coe_add, backCen_eq]
  rfl

/-! ## The results -/

theorem ref_z : val_main_v64 (F := Ideal) x0 x1 x3 x4 x5 = A.gZ := by
  funext i
  obtain ⟨a, c, rfl⟩ : ∃ (a : Fin 8192) (c : Fin 2048), i = ix2 a c :=
    ⟨i 0, i 1, by ext k; fin_cases k <;> rfl⟩
  exact v64_at H a c

theorem ref_g : val_main_v65 (F := Ideal) x0 x3 x4 x5 = A.gG := by
  funext i
  obtain ⟨u, c, rfl⟩ : ∃ (u : Fin 1) (c : Fin 2048), i = ix2 u c :=
    ⟨i 0, i 1, by ext k; fin_cases k <;> rfl⟩
  unfold val_main_v65 val_main_v44 val_main_v41 val_main_v40 val_main_v39 val_main_cst_10
    val_main_cst_11
  pointwise
  rw [Fin.sum_univ_one, sum_mul_coe (fun a => v22_at H.z a c) (fun a => v35_at H a c)]
  exact congrArg _ (Finset.sum_congr rfl fun a _ => mul_comm _ _)

theorem ref_b : val_main_v66 (F := Ideal) x3 x4 x5 = A.gB := by
  funext i
  obtain ⟨u, c, rfl⟩ : ∃ (u : Fin 1) (c : Fin 2048), i = ix2 u c :=
    ⟨i 0, i 1, by ext k; fin_cases k <;> rfl⟩
  unfold val_main_v66 val_main_v38 val_main_v37 val_main_v36 val_main_cst_8 val_main_cst_9
  pointwise
  rw [Fin.sum_univ_one, sum_eq_coe (fun a => v35_at H a c)]
  rfl

end Cert.InDgradLnInRefIdeal.Mixer
-- ==== Proof.NormFwd.lean ====
module

public import proofs.«01_k».proof.Proof.Gen.MixLn1Ideal.Value
public import proofs.«01_k».proof.Proof.Gen.MixLn1RefIdeal.Run
public import proofs.«01_k».proof.Proof.Gen.MixLn1RefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The output projection with its residual and its layer norm

Kernel and reference compute the same expression term by term, so the two agree for all arguments.
A point of the grid takes 256 rows, whole over the inner dimension, and finishes them in two slices
of 128. -/

noncomputable section

namespace Cert.MixLn1Ideal.Mixer
open Cert.MixLn1Ideal Cert.MixLn1Ideal.Gen Idealize.ShloMosaic
open Idealize.ShloMosaic.TcCoe Idealize.SL.Sem

/-! ## A row over the extended reals -/

/-- An entry less its row's mean. -/
def cen (f : Fin 2048 → EReal) (b : Fin 2048) : EReal :=
  f b - Ideal.div (∑ k, f k) (Ideal.ofBits .f32 0x45000000#32)

/-- The factor that normalises a row. -/
def inv (f : Fin 2048 → EReal) : EReal :=
  Ideal.rsqrt (Ideal.div (∑ k, cen f k * cen f k) (Ideal.ofBits .f32 0x45000000#32)
    + Ideal.ofBits .f32 0x3727C5AC#32)

/-- The layer norm of a row. -/
def ln (f g h : Fin 2048 → EReal) (b : Fin 2048) : EReal := cen f b * inv f * g b + h b

/-- The row that the layer norm takes: the residual and the projected heads. -/
def z (x cat : S8192x2048.Idx → EReal) (w : S2048x2048.Idx → EReal) (a : Fin 8192)
    (b : Fin 2048) : EReal :=
  Ideal.ofBits .f32 0x3F9837F0#32 * x (ix2 a b) + ∑ k : Fin 2048, cat (ix2 a k) * w (ix2 k b)

/-- The rows as an array. -/
def gZ (x cat : S8192x2048.Idx → EReal) (w : S2048x2048.Idx → EReal) (i : S8192x2048.Idx) : EReal :=
  z x cat w (i 0) (i 1)

/-- Their layer norms as an array. -/
def gX (x cat : S8192x2048.Idx → EReal) (w : S2048x2048.Idx → EReal) (g h : S1x2048.Idx → EReal)
    (i : S8192x2048.Idx) : EReal :=
  ln (z x cat w (i 0)) (fun b => g (ix2 0 b)) (fun b => h (ix2 0 b)) (i 1)

/-! ## One point -/

theorem prod_apply (x0 : Vec Ideal S256x2048 .bf16) (x1 : Vec Ideal S2048x2048 .bf16)
    (r : Fin 256) (b : Fin 2048) :
    k0_pay5 x0 x1 (ix2 r b) = ∑ k : Fin 2048, x0 (ix2 r k) * x1 (ix2 k b) := by
  unfold k0_pay5
  pointwise

theorem z_first (x0 : Vec Ideal S256x2048 .bf16) (x1 : Vec Ideal S2048x2048 .bf16)
    (v : Vec Ideal S128x2048 .f32) (r : Fin 128) (b : Fin 2048) :
    k0_pay6 x0 x1 v (ix2 r b) = Ideal.ofBits .f32 0x3F9837F0#32 * v (ix2 r b)
      + k0_pay5 x0 x1 (ix2 (⟨0 + r.val, by omega⟩ : Fin 256) b) := by
  unfold k0_pay6
  pointwise

theorem z_second (u : Vec Ideal S256x2048 .f32) (v : Vec Ideal S128x2048 .f32) (r : Fin 128)
    (b : Fin 2048) :
    k0_pay2 u v (ix2 r b) = Ideal.ofBits .f32 0x3F9837F0#32 * v (ix2 r b)
      + u (ix2 (⟨128 + r.val, by omega⟩ : Fin 256) b) := by
  unfold k0_pay2
  pointwise

theorem ln_first (x0 : Vec Ideal S256x2048 .bf16) (x1 : Vec Ideal S2048x2048 .bf16)
    (v : Vec Ideal S128x2048 .f32) (g h : Vec Ideal S1x2048 .f32) (r : Fin 128) (b : Fin 2048) :
    k0_pay7 x0 x1 v g h (ix2 r b) = ln (fun k => k0_pay6 x0 x1 v (ix2 r k))
      (fun k => g (ix2 0 k)) (fun k => h (ix2 0 k)) b := by
  unfold k0_pay7
  pointwise [ln, inv, cen]

theorem ln_second (u : Vec Ideal S256x2048 .f32) (v : Vec Ideal S128x2048 .f32)
    (g h : Vec Ideal S1x2048 .f32) (r : Fin 128) (b : Fin 2048) :
    k0_pay3 u v g h (ix2 r b) = ln (fun k => k0_pay2 u v (ix2 r k))
      (fun k => g (ix2 0 k)) (fun k => h (ix2 0 k)) b := by
  unfold k0_pay3
  pointwise [ln, inv, cen]

/-- Row `r` of the slice that starts at row `p`. -/
def sl (p : ℕ) (hp : p + 128 ≤ 256) (r : Fin 128) : Fin 256 := ⟨p + r.val, by omega⟩

theorem emb_sl (p : ℕ) (hp : p + 128 ≤ 256) (inb) (r : Fin 128) (b : Fin 2048) :
    (Rect.unit (s := S256x2048) ![p, 0] ![128, 2048] inb).emb (ix2 r b)
      = (ix2 (sl p hp r) b : S256x2048.Idx) := by
  funext a
  refine Fin.ext ((Rect.idx_unit_val _ _ inb _ a).trans ?_)
  fin_cases a <;> simp [sl]

theorem ld_sl (x : Vec Ideal S256x2048 .f32) (p : ℕ) (hp : p + 128 ≤ 256) (inb) (r : Fin 128)
    (b : Fin 2048) :
    View.ld x (Rect.unit (s := S256x2048) ![p, 0] ![128, 2048] inb) (ix2 r b)
      = x (ix2 (sl p hp r) b) := by
  rw [← emb_sl p hp inb]; rfl

section Block
variable (x0 : Vec Ideal S256x2048 .bf16) (x1 : Vec Ideal S2048x2048 .bf16)
  (x2 : Vec Ideal S256x2048 .f32) (x3 x4 : Vec Ideal S1x2048 .f32)

/-- A block's row before the layer norm. -/
def zb (r : Fin 256) (b : Fin 2048) : EReal :=
  Ideal.ofBits .f32 0x3F9837F0#32 * x2 (ix2 r b) + ∑ k : Fin 2048, x0 (ix2 r k) * x1 (ix2 k b)

/-- And behind it. -/
def xb (r : Fin 256) (b : Fin 2048) : EReal :=
  ln (zb x0 x1 x2 r) (fun k => x3 (ix2 0 k)) (fun k => x4 (ix2 0 k)) b

theorem z_row_first (inb) (r : Fin 128) (b : Fin 2048) :
    k0_pay6 x0 x1 (View.ld x2 (Rect.unit (s := S256x2048) ![0, 0] ![128, 2048] inb)) (ix2 r b)
      = zb x0 x1 x2 (sl 0 (by norm_num) r) b := by
  rw [z_first, ld_sl x2 0 (by norm_num), prod_apply]
  rfl

theorem z_row_second (inb) (r : Fin 128) (b : Fin 2048) :
    k0_pay2 (k0_pay5 x0 x1) (View.ld x2 (Rect.unit (s := S256x2048) ![128, 0] ![128, 2048] inb))
      (ix2 r b) = zb x0 x1 x2 (sl 128 (by norm_num) r) b := by
  rw [z_second, ld_sl x2 128 (by norm_num), prod_apply]
  rfl

theorem z_pieces (y : S256x2048.Idx) : out0_5 x0 x1 x2 x3 x4 y = zb x0 x1 x2 (y 0) (y 1) := by
  unfold out0_5 k0_pay8
  frame_out
  refine (View.canon_append_of_piecesOf (fun y : S256x2048.Idx => zb x0 x1 x2 (y 0) (y 1)) []
    [_, _] ?_ y (View.cover_of_tiled_head _ _ _ rfl y)).trans ?_
  swap
  · rfl
  refine ⟨fun x => ?_, fun x => ?_, trivial⟩
  all_goals
    obtain ⟨r, b, rfl⟩ : ∃ (r : Fin 128) (b : Fin 2048), x = ix2 r b :=
      ⟨x 0, x 1, by ext i; fin_cases i <;> rfl⟩
  · exact (z_row_second x0 x1 x2 _ r b).trans (by rw [emb_sl 128 (by norm_num)]; rfl)
  · exact (z_row_first x0 x1 x2 _ r b).trans (by rw [emb_sl 0 (by norm_num)]; rfl)

theorem x_row_first (inb) (r : Fin 128) (b : Fin 2048) :
    k0_pay7 x0 x1 (View.ld x2 (Rect.unit (s := S256x2048) ![0, 0] ![128, 2048] inb)) x3 x4 (ix2 r b)
      = xb x0 x1 x2 x3 x4 (sl 0 (by norm_num) r) b := by
  rw [ln_first, funext fun k => z_row_first x0 x1 x2 inb r k]
  rfl

theorem x_row_second (inb) (r : Fin 128) (b : Fin 2048) :
    k0_pay3 (k0_pay5 x0 x1) (View.ld x2 (Rect.unit (s := S256x2048) ![128, 0] ![128, 2048] inb))
      x3 x4 (ix2 r b) = xb x0 x1 x2 x3 x4 (sl 128 (by norm_num) r) b := by
  rw [ln_second, funext fun k => z_row_second x0 x1 x2 inb r k]
  rfl

theorem x_pieces (y : S256x2048.Idx) :
    out0_6 x0 x1 x2 x3 x4 y = xb x0 x1 x2 x3 x4 (y 0) (y 1) := by
  unfold out0_6 k0_pay8
  frame_out
  refine (View.canon_append_of_piecesOf (fun y : S256x2048.Idx => xb x0 x1 x2 x3 x4 (y 0) (y 1)) []
    [_, _] ?_ y (View.cover_of_tiled_head _ _ _ rfl y)).trans ?_
  swap
  · rfl
  refine ⟨fun x => ?_, fun x => ?_, trivial⟩
  all_goals
    obtain ⟨r, b, rfl⟩ : ∃ (r : Fin 128) (b : Fin 2048), x = ix2 r b :=
      ⟨x 0, x 1, by ext i; fin_cases i <;> rfl⟩
  · exact (x_row_second x0 x1 x2 x3 x4 _ r b).trans (by rw [emb_sl 128 (by norm_num)]; rfl)
  · exact (x_row_first x0 x1 x2 x3 x4 _ r b).trans (by rw [emb_sl 0 (by norm_num)]; rfl)

/-- The narrower format holds the same numbers. -/
theorem xn_pieces (y : S256x2048.Idx) :
    out0_7 x0 x1 x2 x3 x4 y = xb x0 x1 x2 x3 x4 (y 0) (y 1) := by
  unfold out0_7 k0_pay8 k0_pay4 k0_pay1
  frame_out
  refine (View.canon_append_of_piecesOf (fun y : S256x2048.Idx => xb x0 x1 x2 x3 x4 (y 0) (y 1)) []
    [_, _] ?_ y (View.cover_of_tiled_head _ _ _ rfl y)).trans ?_
  swap
  · rfl
  refine ⟨fun x => ?_, fun x => ?_, trivial⟩
  all_goals
    obtain ⟨r, b, rfl⟩ : ∃ (r : Fin 128) (b : Fin 2048), x = ix2 r b :=
      ⟨x 0, x 1, by ext i; fin_cases i <;> rfl⟩
  · exact (x_row_second x0 x1 x2 x3 x4 _ r b).trans (by rw [emb_sl 128 (by norm_num)]; rfl)
  · exact (x_row_first x0 x1 x2 x3 x4 _ r b).trans (by rw [emb_sl 0 (by norm_num)]; rfl)

end Block

/-! ## The arrays -/

/-- Which block each window stages at a point. -/
theorem idx : ∀ t : Fin cfg0.N,
    win0_0.index t = ![t.val, 0] ∧ win0_1.index t = ![0, 0] ∧ win0_2.index t = ![t.val, 0]
    ∧ win0_3.index t = ![0, 0] ∧ win0_4.index t = ![0, 0] ∧ win0_5.index t = ![t.val, 0]
    ∧ win0_6.index t = ![t.val, 0] ∧ win0_7.index t = ![t.val, 0] :=
  (by decide +kernel : ∀ t : Fin grid0.N, _)

/-- The token in row `r` of a point's block. -/
def row (t : Fin cfg0.N) (r : Fin 256) : Fin 8192 :=
  ⟨t.val * 256 + r.val, by have := lt_of_lt_of_eq t.isLt N_0; omega⟩

variable (m : (ℓ : Loc nD τ sig) → Buf (Elt Ideal) ℓ) (c : Dev nD)

theorem cat_blk (t : Fin cfg0.N) (r : Fin 256) (k : Fin 2048) :
    (iblk m c 0 t : Vec Ideal S256x2048 .bf16) (ix2 r k)
      = (m (c, Proc.devRef .tc main_arg1) : S8192x2048.Idx → EReal) (ix2 (row t r) k) := by
  have h := idx t
  have e : (iblk m c 0 t : Vec Ideal S256x2048 .bf16) (ix2 r k)
      = (V m c main_v0 : S8192x2048.Idx → EReal) (ix2 (row t r) k) := by
    blk_ext [iblk, h, row]
  rw [e]
  unfold V
  after_reads_at

theorem w_blk (t : Fin cfg0.N) (k b : Fin 2048) :
    (iblk m c 1 t : Vec Ideal S2048x2048 .bf16) (ix2 k b)
      = (m (c, Proc.devRef .tc main_arg2) : S2048x2048.Idx → EReal) (ix2 k b) := by
  have h := idx t
  have e : (iblk m c 1 t : Vec Ideal S2048x2048 .bf16) (ix2 k b)
      = (V m c main_v1 : S2048x2048.Idx → EReal) (ix2 k b) := by
    blk_ext [iblk, h]
  rw [e]
  unfold V
  after_reads_at

theorem x_read : (V m c main_arg0 : S8192x2048.Idx → EReal)
    = (m (c, Proc.devRef .tc main_arg0) : S8192x2048.Idx → EReal) := by
  unfold V
  after_reads_at

theorem g_read : (V m c main_arg3 : S1x2048.Idx → EReal)
    = (m (c, Proc.devRef .tc main_arg3) : S1x2048.Idx → EReal) := by
  unfold V
  after_reads_at

theorem h_read : (V m c main_arg4 : S1x2048.Idx → EReal)
    = (m (c, Proc.devRef .tc main_arg4) : S1x2048.Idx → EReal) := by
  unfold V
  after_reads_at

theorem x_blk (t : Fin cfg0.N) (r : Fin 256) (b : Fin 2048) :
    (iblk m c 2 t : Vec Ideal S256x2048 .f32) (ix2 r b)
      = (m (c, Proc.devRef .tc main_arg0) : S8192x2048.Idx → EReal) (ix2 (row t r) b) := by
  have h := idx t
  rw [← x_read m c]
  blk_ext [iblk, h, row]

theorem g_blk (t : Fin cfg0.N) (b : Fin 2048) :
    (iblk m c 3 t : Vec Ideal S1x2048 .f32) (ix2 0 b)
      = (m (c, Proc.devRef .tc main_arg3) : S1x2048.Idx → EReal) (ix2 0 b) := by
  have h := idx t
  rw [← g_read m c]
  blk_ext [iblk, h]

theorem h_blk (t : Fin cfg0.N) (b : Fin 2048) :
    (iblk m c 4 t : Vec Ideal S1x2048 .f32) (ix2 0 b)
      = (m (c, Proc.devRef .tc main_arg4) : S1x2048.Idx → EReal) (ix2 0 b) := by
  have h := idx t
  rw [← h_read m c]
  blk_ext [iblk, h]

theorem emb_5 (t : Fin cfg0.N) (r : Fin 256) (b : Fin 2048) :
    (ix2 (row t r) b : S8192x2048.Idx) = (win0_5.blk t).view.emb (ix2 r b : S256x2048.Idx) := by
  have h := idx t
  blk_ext [h, row]

theorem emb_6 (t : Fin cfg0.N) (r : Fin 256) (b : Fin 2048) :
    (ix2 (row t r) b : S8192x2048.Idx) = (win0_6.blk t).view.emb (ix2 r b : S256x2048.Idx) := by
  have h := idx t
  blk_ext [h, row]

theorem emb_7 (t : Fin cfg0.N) (r : Fin 256) (b : Fin 2048) :
    (ix2 (row t r) b : S8192x2048.Idx) = (win0_7.blk t).view.emb (ix2 r b : S256x2048.Idx) := by
  have h := idx t
  blk_ext [h, row]

/-- A point's rows are rows of the array. -/
theorem z_row (t : Fin cfg0.N) (r : Fin 256) (b : Fin 2048) :
    zb (iblk m c 0 t) (iblk m c 1 t) (iblk m c 2 t) r b
      = z (m (c, Proc.devRef .tc main_arg0)) (m (c, Proc.devRef .tc main_arg1))
          (m (c, Proc.devRef .tc main_arg2)) (row t r) b := by
  rw [zb, x_blk, z]
  refine congrArg (_ + ·) (Finset.sum_congr rfl fun k _ => ?_)
  rw [cat_blk, w_blk]

/-- And so are their layer norms. -/
theorem x_row (t : Fin cfg0.N) (r : Fin 256) (b : Fin 2048) :
    xb (iblk m c 0 t) (iblk m c 1 t) (iblk m c 2 t) (iblk m c 3 t) (iblk m c 4 t) r b
      = gX (m (c, Proc.devRef .tc main_arg0)) (m (c, Proc.devRef .tc main_arg1))
          (m (c, Proc.devRef .tc main_arg2)) (m (c, Proc.devRef .tc main_arg3))
          (m (c, Proc.devRef .tc main_arg4)) (ix2 (row t r) b) := by
  rw [xb, funext (z_row m c t r), funext (g_blk m c t), funext (h_blk m c t)]
  rfl

theorem z_emb (t : Fin cfg0.N) (y : S256x2048.Idx) :
    (out0_5 (iblk m c 0 t) (iblk m c 1 t) (iblk m c 2 t) (iblk m c 3 t) (iblk m c 4 t) :
        Vec Ideal S256x2048 .f32) y
      = gZ (m (c, Proc.devRef .tc main_arg0)) (m (c, Proc.devRef .tc main_arg1))
          (m (c, Proc.devRef .tc main_arg2)) ((win0_5.blk t).view.emb y) := by
  obtain ⟨r, b, rfl⟩ : ∃ (r : Fin 256) (b : Fin 2048), y = (ix2 r b : S256x2048.Idx) :=
    ⟨y 0, y 1, by ext i; fin_cases i <;> rfl⟩
  rw [← emb_5 t r b, z_pieces]
  exact z_row m c t r b

theorem z_array : (dats m 0 c).arrAt 5 cfg0.N
    = gZ (m (c, Proc.devRef .tc main_arg0)) (m (c, Proc.devRef .tc main_arg1))
        (m (c, Proc.devRef .tc main_arg2)) := by
  refine (dats m 0 c).arrAt_eq_of_covers 5 _ (by decide +kernel) fun t hf y => ?_
  blk_simp
  rw [after0_5]
  exact z_emb m c t y

theorem x_emb (t : Fin cfg0.N) (y : S256x2048.Idx) :
    (out0_6 (iblk m c 0 t) (iblk m c 1 t) (iblk m c 2 t) (iblk m c 3 t) (iblk m c 4 t) :
        Vec Ideal S256x2048 .f32) y
      = gX (m (c, Proc.devRef .tc main_arg0)) (m (c, Proc.devRef .tc main_arg1))
          (m (c, Proc.devRef .tc main_arg2)) (m (c, Proc.devRef .tc main_arg3))
          (m (c, Proc.devRef .tc main_arg4)) ((win0_6.blk t).view.emb y) := by
  obtain ⟨r, b, rfl⟩ : ∃ (r : Fin 256) (b : Fin 2048), y = (ix2 r b : S256x2048.Idx) :=
    ⟨y 0, y 1, by ext i; fin_cases i <;> rfl⟩
  rw [← emb_6 t r b, x_pieces]
  exact x_row m c t r b

theorem x_array : (dats m 0 c).arrAt 6 cfg0.N
    = gX (m (c, Proc.devRef .tc main_arg0)) (m (c, Proc.devRef .tc main_arg1))
        (m (c, Proc.devRef .tc main_arg2)) (m (c, Proc.devRef .tc main_arg3))
        (m (c, Proc.devRef .tc main_arg4)) := by
  refine (dats m 0 c).arrAt_eq_of_covers 6 _ (by decide +kernel) fun t hf y => ?_
  blk_simp
  rw [after0_6]
  exact x_emb m c t y

theorem xn_emb (t : Fin cfg0.N) (y : S256x2048.Idx) :
    (out0_7 (iblk m c 0 t) (iblk m c 1 t) (iblk m c 2 t) (iblk m c 3 t) (iblk m c 4 t) :
        Vec Ideal S256x2048 .bf16) y
      = gX (m (c, Proc.devRef .tc main_arg0)) (m (c, Proc.devRef .tc main_arg1))
          (m (c, Proc.devRef .tc main_arg2)) (m (c, Proc.devRef .tc main_arg3))
          (m (c, Proc.devRef .tc main_arg4)) ((win0_7.blk t).view.emb y) := by
  obtain ⟨r, b, rfl⟩ : ∃ (r : Fin 256) (b : Fin 2048), y = (ix2 r b : S256x2048.Idx) :=
    ⟨y 0, y 1, by ext i; fin_cases i <;> rfl⟩
  rw [← emb_7 t r b, xn_pieces]
  exact x_row m c t r b

theorem xn_array : (dats m 0 c).arrAt 7 cfg0.N
    = gX (m (c, Proc.devRef .tc main_arg0)) (m (c, Proc.devRef .tc main_arg1))
        (m (c, Proc.devRef .tc main_arg2)) (m (c, Proc.devRef .tc main_arg3))
        (m (c, Proc.devRef .tc main_arg4)) := by
  refine (dats m 0 c).arrAt_eq_of_covers 7 _ (by decide +kernel) fun t hf y => ?_
  blk_simp
  rw [after0_7]
  exact xn_emb m c t y

end Cert.MixLn1Ideal.Mixer

/-! ## The reference -/

namespace Cert.MixLn1RefIdeal.Mixer
open Cert.MixLn1RefIdeal Cert.MixLn1RefIdeal.Gen Cert.MixLn1RefIdeal.Read Idealize.ShloMosaic
open Idealize.ShloMosaic.TcCoe Idealize.SL.Sem
open Cert.MixLn1Ideal.Mixer (cen ln z gZ gX)

variable (x cat : FVec Ideal S8192x2048 .f32) (w : FVec Ideal S2048x2048 .f32)
  (g h : FVec Ideal S1x2048 .f32)

theorem ref_row (a : Fin 8192) (b : Fin 2048) :
    val_main_v3 (F := Ideal) x cat w (ix2 a b) = z x cat w a b := by
  unfold val_main_v3 val_main_v2 val_main_v1 val_main_v0 val_main_cst
  pointwise [z]

theorem ref_cen (a : Fin 8192) (b : Fin 2048) :
    val_main_v11 (F := Ideal) x cat w (ix2 a b) = cen (z x cat w a) b := by
  unfold val_main_v11 val_main_v10 val_main_v9 val_main_v8 val_main_v7 val_main_v6 val_main_cst_1
    val_main_cst_0
  pointwise
  simp only [ref_row, cen]

theorem ref_inv (a : Fin 8192) :
    val_main_v19 (F := Ideal) x cat w (ix2 a 0) = Cert.MixLn1Ideal.Mixer.inv (z x cat w a) := by
  unfold val_main_v19 val_main_v18 val_main_v17 val_main_v16 val_main_v15 val_main_v14 val_main_v13
    val_main_v12 val_main_cst_4 val_main_cst_3 val_main_cst_2
  pointwise
  simp only [ref_cen, Cert.MixLn1Ideal.Mixer.inv]

theorem ref_x (a : Fin 8192) (b : Fin 2048) :
    val_main_v27 (F := Ideal) x cat w g h (ix2 a b)
      = gX x cat w g h (ix2 a b) := by
  unfold val_main_v27 val_main_v26 val_main_v25 val_main_v24 val_main_v23 val_main_v22 val_main_v21
    val_main_v20 val_main_v5 val_main_v4
  pointwise
  rw [ref_cen, ref_inv]
  rfl

theorem ref_z : val_main_v3 (F := Ideal) x cat w = gZ x cat w := by
  funext i
  obtain ⟨a, b, rfl⟩ : ∃ (a : Fin 8192) (b : Fin 2048), i = ix2 a b :=
    ⟨i 0, i 1, by ext k; fin_cases k <;> rfl⟩
  exact ref_row x cat w a b

theorem ref_out : val_main_v27 (F := Ideal) x cat w g h = gX x cat w g h := by
  funext i
  obtain ⟨a, b, rfl⟩ : ∃ (a : Fin 8192) (b : Fin 2048), i = ix2 a b :=
    ⟨i 0, i 1, by ext k; fin_cases k <;> rfl⟩
  exact ref_x x cat w g h a b

theorem ref_narrow : val_main_v28 (F := Ideal) x cat w g h = gX x cat w g h :=
  ref_out x cat w g h

end Cert.MixLn1RefIdeal.Mixer
-- ==== Proof.Loss.lean ====
module

public import proofs.«01_k».proof.Proof.Norm
public import proofs.«01_k».proof.Proof.Finite
public import proofs.«01_k».proof.Pre_finite_ln2

@[expose] public section
set_option maxRecDepth 16384

/-! # The loss behind the last layer norm, at real numbers

A token's loss is the mean square of its row's error, which is the normalised row, scaled and
shifted, less the target.  The gradient of the halved sum of the losses at the layer norm's output is
the error over the length of a row. -/

noncomputable section

namespace Cert.Norm
open Idealize.ShloMosaic Cert.Flash

/-- The residual branch and what is added to it. -/
def pre (a d : Fin 2048 → ℝ) (c : Fin 2048) : ℝ := alpha * d c + a c

/-- The error of the row `z` for the target `y`, with the scale `g` and the shift `h`. -/
def err (z y g h : Fin 2048 → ℝ) (c : Fin 2048) : ℝ := hat z c * g c + h c - y c

/-- A row's loss. -/
def msq (z y g h : Fin 2048 → ℝ) : ℝ := mean fun c => err z y g h c * err z y g h c

/-- The gradient of the halved loss at the layer norm's output. -/
def out (z y g h : Fin 2048 → ℝ) (c : Fin 2048) : ℝ := err z y g h c * (1 / 2048)

/-- The gradient of the halved loss at the row. -/
def down (z y g h : Fin 2048 → ℝ) (c : Fin 2048) : ℝ := back z (fun k => out z y g h k * g k) c

theorem part_bits : Ideal.ofBits .f32 0x3A000000#32 = ((1 / 2048 : ℝ) : EReal) := by
  simp [Ideal.ofBits, Ideal.ieee, -EReal.coe_mul]; norm_num

theorem hf_bits : Ideal.ofBits .f32 0x3F000000#32 = ((1 / 2 : ℝ) : EReal) := by
  simp [Ideal.ofBits, Ideal.ieee, -EReal.coe_mul]; norm_num

theorem one_bits : Ideal.ofBits .f32 0x3F800000#32 = ((1 : ℝ) : EReal) := by
  simp [Ideal.ofBits, Ideal.ieee, -EReal.coe_mul]; norm_num

/-- The numbers that the arguments hold: the residual branch, the activations, the weight, the scale, the shift and the
targets. -/
structure LossArgs where
  x : Fin 8192 → Fin 2048 → ℝ
  f : Fin 8192 → Fin 8192 → ℝ
  w : Fin 8192 → Fin 2048 → ℝ
  g : Fin 2048 → ℝ
  h : Fin 2048 → ℝ
  y : Fin 8192 → Fin 2048 → ℝ

/-- Six arrays hold these numbers. -/
structure LossGiven (x0 : (⟨2, ![8192, 2048]⟩ : Shape).Idx → EReal)
    (x1 : (⟨2, ![8192, 8192]⟩ : Shape).Idx → EReal)
    (x2 : (⟨2, ![8192, 2048]⟩ : Shape).Idx → EReal)
    (x3 x4 : (⟨2, ![1, 2048]⟩ : Shape).Idx → EReal)
    (x5 : (⟨2, ![8192, 2048]⟩ : Shape).Idx → EReal) (A : LossArgs) : Prop where
  x : ∀ a b, x0 (ix2 a b) = (A.x a b : EReal)
  f : ∀ a e, x1 (ix2 a e) = (A.f a e : EReal)
  w : ∀ e b, x2 (ix2 e b) = (A.w e b : EReal)
  g : ∀ b, x3 (ix2 0 b) = (A.g b : EReal)
  h : ∀ b, x4 (ix2 0 b) = (A.h b : EReal)
  y : ∀ a b, x5 (ix2 a b) = (A.y a b : EReal)

namespace LossArgs
variable (A : LossArgs)

/-- The feed-forward's output. -/
def prod (a : Fin 8192) (b : Fin 2048) : ℝ := ∑ e, A.f a e * A.w e b

/-- The rows that the layer norm takes. -/
def z (a : Fin 8192) (b : Fin 2048) : ℝ := pre (A.prod a) (A.x a) b

/-- The gradient of the layer norm's output. -/
def dy (a : Fin 8192) (b : Fin 2048) : ℝ := out (A.z a) (A.y a) A.g A.h b

/-- The gradient of the rows. -/
def dz (a : Fin 8192) (b : Fin 2048) : ℝ := down (A.z a) (A.y a) A.g A.h b

/-- Half the sum of the tokens' losses. -/
def loss : ℝ := ∑ a, 1 / 2 * msq (A.z a) (A.y a) A.g A.h

/-- The gradient of the scale. -/
def dg (b : Fin 2048) : ℝ := ∑ a, A.dy a b * hat (A.z a) b

/-- The gradient of the shift. -/
def db (b : Fin 2048) : ℝ := ∑ a, A.dy a b

/-- The gradient of the rows as an array. -/
def gZ (i : (⟨2, ![8192, 2048]⟩ : Shape).Idx) : EReal := (A.dz (i 0) (i 1) : EReal)

/-- The loss, spread over an array. -/
def gL (_ : (⟨2, ![8, 128]⟩ : Shape).Idx) : EReal := (A.loss : EReal)

/-- The gradient of the scale as an array. -/
def gG (i : (⟨2, ![1, 2048]⟩ : Shape).Idx) : EReal := (A.dg (i 1) : EReal)

/-- The gradient of the shift as an array. -/
def gB (i : (⟨2, ![1, 2048]⟩ : Shape).Idx) : EReal := (A.db (i 1) : EReal)

end LossArgs

/-! ## Finite arguments are real numbers -/

section
open Idealize.ShloMosaic.TcCoe Idealize.SL.Sem Cert.Finite

/-- The shapes of the precondition's constants spread out. -/
instance facts_loss : Cert.Pre_finite_ln2.Facts where
  bcast_S_S8192x2048 := by decide
  bcast_S_S8192x8192 := by decide
  bcast_S_S1x2048 := by decide

variable (x0 x2 x5 : FVec Ideal Cert.Pre_finite_ln2.S8192x2048 .f32)
  (x1 : FVec Ideal Cert.Pre_finite_ln2.S8192x8192 .f32)
  (x3 x4 : FVec Ideal Cert.Pre_finite_ln2.S1x2048 .f32)

/-- The real numbers that six arrays hold. -/
def lossArgs : LossArgs where
  x a b := EReal.toReal (x0 (ix2 a b))
  f a e := EReal.toReal (x1 (ix2 a e))
  w e b := EReal.toReal (x2 (ix2 e b))
  g b := EReal.toReal (x3 (ix2 0 b))
  h b := EReal.toReal (x4 (ix2 0 b))
  y a b := EReal.toReal (x5 (ix2 a b))

/-- Arrays that satisfy the precondition hold those numbers. -/
theorem lossGiven
    (h : (Cert.Pre_finite_ln2.fn (F := Ideal) x0 x1 x2 x3 x4 x5).1 = (fun _ => 1#1)
      ∧ (Cert.Pre_finite_ln2.fn (F := Ideal) x0 x1 x2 x3 x4 x5).2.1 = (fun _ => 1#1)
      ∧ (Cert.Pre_finite_ln2.fn (F := Ideal) x0 x1 x2 x3 x4 x5).2.2.1 = (fun _ => 1#1)
      ∧ (Cert.Pre_finite_ln2.fn (F := Ideal) x0 x1 x2 x3 x4 x5).2.2.2.1 = (fun _ => 1#1)
      ∧ (Cert.Pre_finite_ln2.fn (F := Ideal) x0 x1 x2 x3 x4 x5).2.2.2.2.1 = (fun _ => 1#1)
      ∧ (Cert.Pre_finite_ln2.fn (F := Ideal) x0 x1 x2 x3 x4 x5).2.2.2.2.2 = (fun _ => 1#1)) :
    LossGiven x0 x1 x2 x3 x4 x5 (lossArgs x0 x2 x5 x1 x3 x4) where
  x a b := real_arr _ x0 h.1 _
  f a e := real_arr _ x1 h.2.1 _
  w e b := real_arr _ x2 h.2.2.1 _
  g b := real_arr _ x3 h.2.2.2.1 _
  h b := real_arr _ x4 h.2.2.2.2.1 _
  y a b := real_arr _ x5 h.2.2.2.2.2 _

end

end Cert.Norm

end
-- ==== Proof.LossTile.lean ====
module

public import proofs.«01_k».proof.Proof.Gen.Ff2Ln2LossIdeal.Value
public import proofs.«01_k».proof.Proof.Loss
public import proofs.«01_k».proof.Proof.NormTile
public import Idealize.ShloMosaic.Lib.Pipeline.ValueKit
public import Idealize.ShloMosaic.Lib.MatmulPlain

@[expose] public section
set_option maxRecDepth 16384

/-! # The loss and its gradient on 128 rows

The kernel finishes a block of 512 rows in four slices of 128.  What it does to a slice is read here
at an element, for real entries: `a` is the accumulated product, `d` the residual branch, `y` the
targets, `g` the scale and `h` the shift. -/

noncomputable section

namespace Cert.Ff2Ln2LossIdeal.Mixer
open Cert.Ff2Ln2LossIdeal Cert.Ff2Ln2LossIdeal.Gen Idealize.ShloMosaic Cert.Flash Cert.Norm
open Cert.Ff1DgradLn1Ideal.Mixer (sl emb_sl ld_sl)

section Slice
variable {xa xd xt : Vec Ideal S128x2048 .f32} {xg xh : Vec Ideal S1x2048 .f32}
  {a d y : Fin 128 → Fin 2048 → ℝ} {g h : Fin 2048 → ℝ}

section Rows
variable (ha : ∀ r c, xa (ix2 r c) = (a r c : EReal)) (hd : ∀ r c, xd (ix2 r c) = (d r c : EReal))
include ha hd

theorem cen_apply (r : Fin 128) (c : Fin 2048) :
    k0_pay7 xa xd (ix2 r c) = (cen (pre (a r) (d r)) c : EReal) := by
  have hu : ∀ c, Ideal.ofBits .f32 0x3F9837F0#32 * xd (ix2 r c) + xa (ix2 r c)
      = (pre (a r) (d r) c : EReal) := fun c => by
    rw [alpha_bits, hd, ha, ← EReal.coe_mul, ← EReal.coe_add, pre]
  unfold k0_pay7
  pointwise
  rw [len_bits, mean_coe hu, hu, ← EReal.coe_sub, cen]

theorem inv_apply (r : Fin 128) :
    k0_pay8 xa xd (ix2 r 0) = (inv (pre (a r) (d r)) : EReal) := by
  unfold k0_pay8
  pointwise
  rw [len_bits, eps_bits, mean_coe
    (z := fun c => cen (pre (a r) (d r)) c * cen (pre (a r) (d r)) c)
    (fun c => by rw [cen_apply ha hd, EReal.coe_mul]), ← EReal.coe_add]
  exact rsqrt_coe (pos _)

theorem hat_apply (r : Fin 128) (c : Fin 2048) :
    k0_pay9 xa xd (ix2 r c) = (hat (pre (a r) (d r)) c : EReal) := by
  unfold k0_pay9
  pointwise
  rw [cen_apply ha hd, inv_apply ha hd, ← EReal.coe_mul, hat]

variable (hy : ∀ r c, xt (ix2 r c) = (y r c : EReal)) (hg : ∀ c, xg (ix2 0 c) = (g c : EReal))
  (hh : ∀ c, xh (ix2 0 c) = (h c : EReal))
include hy hg hh

theorem err_apply (r : Fin 128) (c : Fin 2048) :
    k0_pay10 xa xg xd xh xt (ix2 r c) = (err (pre (a r) (d r)) (y r) g h c : EReal) := by
  unfold k0_pay10
  pointwise
  rw [hat_apply ha hd, hg, hh, hy, ← EReal.coe_mul, ← EReal.coe_add, ← EReal.coe_sub, err]

/-- What a slice adds to the loss. -/
theorem loss_apply (u : Fin 8) (v : Fin 128) :
    k0_pay12 (k0_pay11 xa xg xd xh xt) (Scalar.ofBits .f32 0x3F000000#32) (ix2 u v)
      = ((∑ r, 1 / 2 * msq (pre (a r) (d r)) (y r) g h : ℝ) : EReal) := by
  unfold k0_pay12 k0_pay11
  pointwise
  rw [len_bits, hf_bits, sum_eq_coe (a := fun r => msq (pre (a r) (d r)) (y r) g h) fun r => by
    rw [Fin.sum_univ_one, mean_coe (fun c => by rw [err_apply ha hd hy hg hh, ← EReal.coe_mul]), msq],
    ← EReal.coe_mul, Finset.mul_sum]

theorem dy_apply (r : Fin 128) (c : Fin 2048) :
    k0_pay14 (k0_pay10 xa xg xd xh xt) (ix2 r c)
      = (out (pre (a r) (d r)) (y r) g h c : EReal) := by
  unfold k0_pay14
  pointwise
  rw [err_apply ha hd hy hg hh, part_bits, ← EReal.coe_mul, out]

theorem up_apply (r : Fin 128) (c : Fin 2048) :
    k0_pay19 xg (k0_pay10 xa xg xd xh xt) (ix2 r c)
      = ((out (pre (a r) (d r)) (y r) g h c * g c : ℝ) : EReal) := by
  unfold k0_pay19
  pointwise
  rw [dy_apply ha hd hy hg hh, hg, ← EReal.coe_mul]

/-- The gradient of a slice's rows. -/
theorem dz_apply (r : Fin 128) (c : Fin 2048) :
    k0_pay22 (k0_pay8 xa xd) (k0_pay9 xa xd) (k0_pay19 xg (k0_pay10 xa xg xd xh xt))
        (k0_pay20 xg (k0_pay10 xa xg xd xh xt))
        (k0_pay21 xg (k0_pay9 xa xd) (k0_pay10 xa xg xd xh xt)) (ix2 r c)
      = (down (pre (a r) (d r)) (y r) g h c : EReal) := by
  have hu := up_apply ha hd hy hg hh r
  unfold k0_pay22 k0_pay20 k0_pay21
  pointwise
  rw [len_bits, mean_coe hu, mean_coe (fun c => by rw [hu, hat_apply ha hd, ← EReal.coe_mul]),
    hu, inv_apply ha hd, hat_apply ha hd, ← EReal.coe_mul, ← EReal.coe_sub, ← EReal.coe_sub,
    ← EReal.coe_mul, down, back]

/-- What a slice adds to the gradient of the scale. -/
theorem dg_apply (c : Fin 2048) :
    k0_pay15 (k0_pay9 xa xd) (k0_pay10 xa xg xd xh xt) (ix2 0 c)
      = ((∑ r, out (pre (a r) (d r)) (y r) g h c * hat (pre (a r) (d r)) c : ℝ) : EReal) := by
  unfold k0_pay15
  pointwise
  exact sum_mul_coe (fun r => dy_apply ha hd hy hg hh r c) fun r => hat_apply ha hd r c

/-- What a slice adds to the gradient of the shift. -/
theorem db_apply (c : Fin 2048) :
    k0_pay17 (k0_pay10 xa xg xd xh xt) (ix2 0 c)
      = ((∑ r, out (pre (a r) (d r)) (y r) g h c : ℝ) : EReal) := by
  unfold k0_pay17
  pointwise
  exact sum_eq_coe fun r => dy_apply ha hd hy hg hh r c

end Rows

theorem loss_add (s q : Ideal .f32) (p : Vec Ideal S8x128 .f32) (u : Fin 8) (v : Fin 128) :
    k0_pay13 s q p (ix2 u v) = p (ix2 u v) + k0_pay12 s q (ix2 u v) := by
  unfold k0_pay13
  pointwise

theorem dg_add (s q : Vec Ideal S128x2048 .f32) (p : Vec Ideal S1x2048 .f32) (c : Fin 2048) :
    k0_pay16 s q p (ix2 0 c) = p (ix2 0 c) + k0_pay15 s q (ix2 0 c) := by
  unfold k0_pay16
  pointwise

theorem db_add (q : Vec Ideal S128x2048 .f32) (p : Vec Ideal S1x2048 .f32) (c : Fin 2048) :
    k0_pay18 q p (ix2 0 c) = p (ix2 0 c) + k0_pay17 q (ix2 0 c) := by
  unfold k0_pay18
  pointwise

end Slice

/-! ## A slice of the block -/

/-- The slice that starts at row `p`. -/
abbrev cut (x : Vec Ideal S512x2048 .f32) (p : ℕ)
    (inb : ∀ i : Fin 2, (![p, 0] : Fin 2 → ℕ) i + (![128, 2048] : Fin 2 → ℕ) i ≤ S512x2048.size i) :
    Vec Ideal S128x2048 .f32 :=
  View.ld x (Rect.unit (s := S512x2048) ![p, 0] ![128, 2048] inb)

/-- The error of a slice. -/
abbrev ecut (xa xd xt : Vec Ideal S512x2048 .f32) (xg xh : Vec Ideal S1x2048 .f32) (p : ℕ)
    (inb : ∀ i : Fin 2, (![p, 0] : Fin 2 → ℕ) i + (![128, 2048] : Fin 2 → ℕ) i ≤ S512x2048.size i) :
    Vec Ideal S128x2048 .f32 :=
  k0_pay10 (cut xa p inb) xg (cut xd p inb) xh (cut xt p inb)

section Block
variable {xa xd xt : Vec Ideal S512x2048 .f32} {xg xh : Vec Ideal S1x2048 .f32}
  {a d y : Fin 512 → Fin 2048 → ℝ} {g h : Fin 2048 → ℝ}

/-- What a slice adds to the loss. -/
def lsl (a d y : Fin 512 → Fin 2048 → ℝ) (g h : Fin 2048 → ℝ) (p : ℕ) (hp : p + 128 ≤ 512) : ℝ :=
  ∑ r, 1 / 2 * msq (pre (a (sl p hp r)) (d (sl p hp r))) (y (sl p hp r)) g h

/-- What a slice adds to the gradient of the scale. -/
def gsl (a d y : Fin 512 → Fin 2048 → ℝ) (g h : Fin 2048 → ℝ) (c : Fin 2048) (p : ℕ)
    (hp : p + 128 ≤ 512) : ℝ :=
  ∑ r, out (pre (a (sl p hp r)) (d (sl p hp r))) (y (sl p hp r)) g h c
    * hat (pre (a (sl p hp r)) (d (sl p hp r))) c

/-- What a slice adds to the gradient of the shift. -/
def bsl (a d y : Fin 512 → Fin 2048 → ℝ) (g h : Fin 2048 → ℝ) (c : Fin 2048) (p : ℕ)
    (hp : p + 128 ≤ 512) : ℝ :=
  ∑ r, out (pre (a (sl p hp r)) (d (sl p hp r))) (y (sl p hp r)) g h c

variable (ha : ∀ r c, xa (ix2 r c) = (a r c : EReal)) (hd : ∀ r c, xd (ix2 r c) = (d r c : EReal))
  (hy : ∀ r c, xt (ix2 r c) = (y r c : EReal)) (hg : ∀ c, xg (ix2 0 c) = (g c : EReal))
  (hh : ∀ c, xh (ix2 0 c) = (h c : EReal)) (p : ℕ) (hp : p + 128 ≤ 512)
  {inb : ∀ i : Fin 2, (![p, 0] : Fin 2 → ℕ) i + (![128, 2048] : Fin 2 → ℕ) i ≤ S512x2048.size i}
include ha hd hy hg hh

theorem dz_piece (x : (Rect.unit (s := S512x2048) ![p, 0] ![128, 2048] inb).shape.Idx) :
    k0_pay22 (k0_pay8 (cut xa p inb) (cut xd p inb)) (k0_pay9 (cut xa p inb) (cut xd p inb))
        (k0_pay19 xg (ecut xa xd xt xg xh p inb)) (k0_pay20 xg (ecut xa xd xt xg xh p inb))
        (k0_pay21 xg (k0_pay9 (cut xa p inb) (cut xd p inb)) (ecut xa xd xt xg xh p inb)) x
      = (fun i : S512x2048.Idx => (down (pre (a (i 0)) (d (i 0))) (y (i 0)) g h (i 1) : EReal))
          ((Rect.unit (s := S512x2048) ![p, 0] ![128, 2048] inb).emb x) := by
  have hp : p + 128 ≤ 512 := inb 0
  obtain ⟨r, c, rfl⟩ : ∃ r c, x = ix2 r c := ⟨x 0, x 1, by ext i; fin_cases i <;> rfl⟩
  rw [dz_apply (ld_sl ha p hp inb) (ld_sl hd p hp inb) (ld_sl hy p hp inb) hg hh, emb_sl p hp inb]
  rfl

/-- The narrower copy holds the same numbers. -/
theorem narrow_piece (x : (Rect.unit (s := S512x2048) ![p, 0] ![128, 2048] inb).shape.Idx) :
    (k0_pay23 (k0_pay8 (cut xa p inb) (cut xd p inb)) (k0_pay9 (cut xa p inb) (cut xd p inb))
        (k0_pay19 xg (ecut xa xd xt xg xh p inb)) (k0_pay20 xg (ecut xa xd xt xg xh p inb))
        (k0_pay21 xg (k0_pay9 (cut xa p inb) (cut xd p inb)) (ecut xa xd xt xg xh p inb))
          : FVec Ideal S128x2048 .bf16) x
      = (fun i : S512x2048.Idx => (down (pre (a (i 0)) (d (i 0))) (y (i 0)) g h (i 1) : EReal))
          ((Rect.unit (s := S512x2048) ![p, 0] ![128, 2048] inb).emb x) := by
  unfold k0_pay23
  exact dz_piece ha hd hy hg hh p x

theorem loss_first (u : Fin 8) (v : Fin 128) :
    k0_pay12 (k0_pay11 (cut xa p inb) xg (cut xd p inb) xh (cut xt p inb))
        (Scalar.ofBits .f32 0x3F000000#32) (ix2 u v)
      = (lsl a d y g h p hp : EReal) :=
  loss_apply (ld_sl ha p hp inb) (ld_sl hd p hp inb) (ld_sl hy p hp inb) hg hh u v

theorem loss_next {q : Vec Ideal S8x128 .f32} {u : Fin 8} {v : Fin 128} {s : ℝ}
    (hq : q (ix2 u v) = (s : EReal)) :
    k0_pay13 (k0_pay11 (cut xa p inb) xg (cut xd p inb) xh (cut xt p inb))
        (Scalar.ofBits .f32 0x3F000000#32) q (ix2 u v)
      = ((s + lsl a d y g h p hp : ℝ) : EReal) := by
  rw [loss_add, loss_first ha hd hy hg hh p hp, hq, EReal.coe_add]

theorem dg_first (c : Fin 2048) :
    k0_pay15 (k0_pay9 (cut xa p inb) (cut xd p inb)) (ecut xa xd xt xg xh p inb) (ix2 0 c)
      = (gsl a d y g h c p hp : EReal) :=
  dg_apply (ld_sl ha p hp inb) (ld_sl hd p hp inb) (ld_sl hy p hp inb) hg hh c

theorem dg_next {c : Fin 2048} {v : Vec Ideal S1x2048 .f32} {s : ℝ}
    (hv : v (ix2 0 c) = (s : EReal)) :
    k0_pay16 (k0_pay9 (cut xa p inb) (cut xd p inb)) (ecut xa xd xt xg xh p inb) v (ix2 0 c)
      = ((s + gsl a d y g h c p hp : ℝ) : EReal) := by
  rw [dg_add, dg_first ha hd hy hg hh p hp, hv, EReal.coe_add]

theorem db_first (c : Fin 2048) :
    (k0_pay17 (ecut xa xd xt xg xh p inb) : FVec Ideal S1x2048 .f32) (ix2 0 c) = (bsl a d y g h c p hp : EReal) :=
  db_apply (ld_sl ha p hp inb) (ld_sl hd p hp inb) (ld_sl hy p hp inb) hg hh c

theorem db_next {c : Fin 2048} {v : Vec Ideal S1x2048 .f32} {s : ℝ}
    (hv : v (ix2 0 c) = (s : EReal)) :
    k0_pay18 (ecut xa xd xt xg xh p inb) v (ix2 0 c)
      = ((s + bsl a d y g h c p hp : ℝ) : EReal) := by
  rw [db_add, db_first ha hd hy hg hh p hp, hv, EReal.coe_add]

end Block

end Cert.Ff2Ln2LossIdeal.Mixer
-- ==== Proof.LossBwd.lean ====
module

public import proofs.«01_k».proof.Proof.LossTile
public import Idealize.ShloMosaic.Lib.Pipeline.ReadBack
public import Idealize.ShloMosaic.Lib.StableHlo.ReadAt

@[expose] public section
set_option maxRecDepth 16384

/-! # The loss and its gradient, as the kernel leaves them

Eight consecutive points of the grid sum the second feed-forward product for 512 rows in a scratch.
The last of them finishes the rows and adds what they contribute to the loss and to the gradients of
the scale and the shift, which stay in their buffers from the first point to the last. -/

noncomputable section

namespace Cert.Ff2Ln2LossIdeal.Mixer
open Cert.Ff2Ln2LossIdeal Cert.Ff2Ln2LossIdeal.Gen Idealize.ShloMosaic Cert.Flash Cert.Norm
open Idealize.ShloMosaic.TcCoe Idealize.SL.Sem
open Cert.Ff1DgradLn1Ideal.Mixer (sum_rows)

/-! ## The product -/

theorem pay1_apply (r : Fin 512) (s : Fin 2048) :
    (k0_pay1 : FVec Ideal S512x2048 .f32) (ix2 r s) = 0 := by
  unfold k0_pay1
  pointwise

theorem pay2_apply (p : Vec Ideal S512x2048 .f32) (x0 : Vec Ideal S512x1024 .bf16)
    (x1 : Vec Ideal S1024x2048 .bf16) (r : Fin 512) (s : Fin 2048) :
    k0_pay2 p x0 x1 (ix2 r s)
      = p (ix2 r s) + ∑ k : Fin 1024, x0 (ix2 r k) * x1 (ix2 k s) := by
  unfold k0_pay2
  pointwise

/-- Which block each window stages at a point. -/
theorem idx : ∀ t : Fin cfg0.N,
    win0_0.index t = ![t.val / 8, t.val % 8] ∧ win0_1.index t = ![t.val % 8, 0]
    ∧ win0_2.index t = ![t.val / 8, 0] ∧ win0_3.index t = ![t.val / 8, 0]
    ∧ win0_4.index t = ![0, 0] ∧ win0_5.index t = ![0, 0] ∧ win0_6.index t = ![t.val / 8, 0]
    ∧ win0_7.index t = ![t.val / 8, 0] ∧ win0_8.index t = ![0, 0]
    ∧ win0_9.index t = ![0, 0] ∧ win0_10.index t = ![0, 0] :=
  (by decide +kernel : ∀ t : Fin grid0.N, _)

/-- The token in row `r` of a point's block. -/
def row (t : Fin cfg0.N) (r : Fin 512) : Fin 8192 :=
  ⟨t.val / 8 * 512 + r.val, by have := lt_of_lt_of_eq t.isLt N_0; omega⟩

/-- Hidden coordinate `k` of a point's part of them. -/
def hid (t : Fin cfg0.N) (k : Fin 1024) : Fin 8192 := ⟨t.val % 8 * 1024 + k.val, by omega⟩

variable (m : (ℓ : Loc nD τ sig) → Buf (Elt Ideal) ℓ) (c : Dev nD)

theorem f_read (a e : Fin 8192) :
    (V m c main_v0 : S8192x8192.Idx → EReal) (ix2 a e)
      = (m (c, Proc.devRef .tc main_arg1) : S8192x8192.Idx → EReal) (ix2 a e) := by
  unfold V
  after_reads_at

theorem w_read (e : Fin 8192) (b : Fin 2048) :
    (V m c main_v1 : S8192x2048.Idx → EReal) (ix2 e b)
      = (m (c, Proc.devRef .tc main_arg2) : S8192x2048.Idx → EReal) (ix2 e b) := by
  unfold V
  after_reads_at

theorem x_read : (V m c main_arg0 : S8192x2048.Idx → EReal)
    = (m (c, Proc.devRef .tc main_arg0) : S8192x2048.Idx → EReal) := by
  unfold V
  after_reads_at

theorem y_read : (V m c main_arg5 : S8192x2048.Idx → EReal)
    = (m (c, Proc.devRef .tc main_arg5) : S8192x2048.Idx → EReal) := by
  unfold V
  after_reads_at

theorem g_read : (V m c main_arg3 : S1x2048.Idx → EReal)
    = (m (c, Proc.devRef .tc main_arg3) : S1x2048.Idx → EReal) := by
  unfold V
  after_reads_at

theorem h_read : (V m c main_arg4 : S1x2048.Idx → EReal)
    = (m (c, Proc.devRef .tc main_arg4) : S1x2048.Idx → EReal) := by
  unfold V
  after_reads_at

theorem f_blk (t : Fin cfg0.N) (r : Fin 512) (k : Fin 1024) :
    (iblk m c 0 t : Vec Ideal S512x1024 .bf16) (ix2 r k)
      = (V m c main_v0 : S8192x8192.Idx → EReal) (ix2 (row t r) (hid t k)) := by
  have h := idx t
  blk_ext [iblk, h, row, hid]

theorem w_blk (t : Fin cfg0.N) (k : Fin 1024) (s : Fin 2048) :
    (iblk m c 1 t : Vec Ideal S1024x2048 .bf16) (ix2 k s)
      = (V m c main_v1 : S8192x2048.Idx → EReal) (ix2 (hid t k) s) := by
  have h := idx t
  blk_ext [iblk, h, hid]

theorem x_blk (t : Fin cfg0.N) (r : Fin 512) (s : Fin 2048) :
    (iblk m c 2 t : Vec Ideal S512x2048 .f32) (ix2 r s)
      = (V m c main_arg0 : S8192x2048.Idx → EReal) (ix2 (row t r) s) := by
  have h := idx t
  blk_ext [iblk, h, row]

theorem y_blk (t : Fin cfg0.N) (r : Fin 512) (s : Fin 2048) :
    (iblk m c 3 t : Vec Ideal S512x2048 .f32) (ix2 r s)
      = (V m c main_arg5 : S8192x2048.Idx → EReal) (ix2 (row t r) s) := by
  have h := idx t
  blk_ext [iblk, h, row]

theorem g_blk (t : Fin cfg0.N) (s : Fin 2048) :
    (iblk m c 4 t : Vec Ideal S1x2048 .f32) (ix2 0 s)
      = (V m c main_arg3 : S1x2048.Idx → EReal) (ix2 0 s) := by
  have h := idx t
  blk_ext [iblk, h]

theorem h_blk (t : Fin cfg0.N) (s : Fin 2048) :
    (iblk m c 5 t : Vec Ideal S1x2048 .f32) (ix2 0 s)
      = (V m c main_arg4 : S1x2048.Idx → EReal) (ix2 0 s) := by
  have h := idx t
  blk_ext [iblk, h]

theorem emb_6 (t : Fin cfg0.N) (r : Fin 512) (s : Fin 2048) :
    (ix2 (row t r) s : S8192x2048.Idx) = (win0_6.blk t).view.emb (ix2 r s : S512x2048.Idx) := by
  have h := idx t
  blk_ext [h, row]

theorem emb_7 (t : Fin cfg0.N) (r : Fin 512) (s : Fin 2048) :
    (ix2 (row t r) s : S8192x2048.Idx) = (win0_7.blk t).view.emb (ix2 r s : S512x2048.Idx) := by
  have h := idx t
  blk_ext [h, row]

theorem emb_9 (t : Fin cfg0.N) (s : Fin 2048) :
    (ix2 0 s : S1x2048.Idx) = (win0_9.blk t).view.emb (ix2 0 s : S1x2048.Idx) := by
  have h := idx t
  blk_ext [h]

theorem emb_10 (t : Fin cfg0.N) (s : Fin 2048) :
    (ix2 0 s : S1x2048.Idx) = (win0_10.blk t).view.emb (ix2 0 s : S1x2048.Idx) := by
  have h := idx t
  blk_ext [h]

/-- What hidden coordinate `e` contributes to a row's product. -/
def term (f : S8192x8192.Idx → EReal) (w : S8192x2048.Idx → EReal) (a : Fin 8192) (b : Fin 2048)
    (e : Fin 8192) : EReal := f (ix2 a e) * w (ix2 e b)

/-- What a point adds to the scratch. -/
def add (t : Fin cfg0.N) (r : Fin 512) (s : Fin 2048) : EReal :=
  ∑ k : Fin 1024, term (m (c, Proc.devRef .tc main_arg1)) (m (c, Proc.devRef .tc main_arg2))
    (row t r) s (hid t k)

theorem step_apply (t : Fin cfg0.N) (p : Vec Ideal S512x2048 .f32) (r : Fin 512) (s : Fin 2048) :
    k0_pay2 p (iblk m c 0 t : Vec Ideal S512x1024 .bf16)
      (iblk m c 1 t : Vec Ideal S1024x2048 .bf16) (ix2 r s) = p (ix2 r s) + add m c t r s := by
  rw [pay2_apply, add]
  refine congrArg (_ + ·) (Finset.sum_congr rfl fun k _ => ?_)
  rw [f_blk, w_blk, f_read, w_read]
  rfl

/-- The first point of eight starts the scratch. -/
theorem sc_A (t : Fin cfg0.N) (ht : t.val % 8 = 0) (y : S512x2048.Idx) :
    (outsAt0 m c t.val t.isLt).2.2.2.2.2 y = add m c t (y 0) (y 1) := by
  obtain ⟨r, s, rfl⟩ : ∃ (r : Fin 512) (s : Fin 2048), y = (ix2 r s : S512x2048.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point's scratch is its step over what the point before left. -/
theorem sc_pay (t : Fin cfg0.N) (ht : ¬t.val % 8 = 0) :
    (outsAt0 m c t.val t.isLt).2.2.2.2.2
      = k0_pay2 (outsAt0 m c (t.val - 1) (by omega)).2.2.2.2.2 (iblk m c 0 t) (iblk m c 1 t) := by
  by_cases h1 : t.val % 8 = 7
  · by_cases h2 : t.val < 8
    · rw [outsAt0_C m c t ht h1 h2 (by omega) h2 (by omega) h2 (by omega)]
      frame_open
      simp (disch := decide) only [↓ View.readCov_skip, ↓ View.readCov_cons_toLoadRect,
        ↓ View.readCov_fill]
      frame_out
      rw [read_unread_whole]
    · rw [outsAt0_D m c t ht h1 h2 (by omega) h2 (by omega) h2 (by omega)]
      frame_open
      simp (disch := decide) only [↓ View.readCov_skip, ↓ View.readCov_cons_toLoadRect,
        ↓ View.readCov_fill]
      frame_out
      rw [read_unread_whole]
  · rw [outsAt0_B m c t ht h1]
    frame_open
    simp (disch := decide) only [↓ View.readCov_skip, ↓ View.readCov_cons_toLoadRect,
      ↓ View.readCov_fill]
    frame_out
    rw [read_unread_whole]

theorem sc_B (t : Fin cfg0.N) (ht : ¬t.val % 8 = 0) (y : S512x2048.Idx) :
    (outsAt0 m c t.val t.isLt).2.2.2.2.2 y
      = (outsAt0 m c (t.val - 1) (by omega)).2.2.2.2.2 y + add m c t (y 0) (y 1) := by
  obtain ⟨r, s, rfl⟩ : ∃ (r : Fin 512) (s : Fin 2048), y = (ix2 r s : S512x2048.Idx) :=
    ⟨y 0, y 1, by ext i; fin_cases i <;> rfl⟩
  rw [sc_pay m c t ht]
  exact step_apply m c t _ r s

/-- The eight points' parts are all hidden coordinates. -/
theorem sum_hid (t : Fin cfg0.N) (ht : t.val % 8 = 8 - 1)
    (f : Fin 8192 → Fin 8192 → EReal) (r : Fin 512) :
    ∑ j : Fin 8, ∑ k : Fin 1024,
        f (row ⟨8 * (t.val / 8) + j.val, Pipeline.run_point_lt_of_flush t ht j⟩ r)
          (hid ⟨8 * (t.val / 8) + j.val, Pipeline.run_point_lt_of_flush t ht j⟩ k)
      = ∑ e, f (row t r) e := by
  refine Fin.sum_mul_add_congr fun j k hl => ?_
  congr 1 <;> refine Fin.ext ?_ <;> simp only [row, hid] <;> omega

theorem sc_last (t : Fin cfg0.N) (ht : t.val % 8 = 8 - 1) (r : Fin 512) (s : Fin 2048) :
    (outsAt0 m c t.val t.isLt).2.2.2.2.2 (ix2 r s : S512x2048.Idx)
      = ∑ e, term (m (c, Proc.devRef .tc main_arg1)) (m (c, Proc.devRef .tc main_arg2))
          (row t r) s e := by
  rw [Pipeline.eq_sum_fin_of_reset_step_apply_of_flush (M := EReal)
    (fun n h => (outsAt0 m c n h).2.2.2.2.2) 8 (fun _ => 0) (fun t y => add m c t (y 0) (y 1))
    (fun t ht y => by rw [zero_add]; exact sc_A m c t ht y)
    (fun t ht y => sc_B m c t ht y) t ht, zero_add]
  exact sum_hid t ht (fun a e => term (m (c, Proc.devRef .tc main_arg1))
    (m (c, Proc.devRef .tc main_arg2)) a s e) r

/-! ## The last point of eight -/

/-- The arguments hold these numbers. -/
abbrev Holds (A : LossArgs) : Prop :=
  LossGiven (m (c, Proc.devRef .tc main_arg0)) (m (c, Proc.devRef .tc main_arg1))
    (m (c, Proc.devRef .tc main_arg2)) (m (c, Proc.devRef .tc main_arg3))
    (m (c, Proc.devRef .tc main_arg4)) (m (c, Proc.devRef .tc main_arg5)) A

variable {m c} {A : LossArgs} (H : Holds m c A) (t : Fin cfg0.N)

/-- The product of a point's rows. -/
def ra (A : LossArgs) (t : Fin cfg0.N) (r : Fin 512) : Fin 2048 → ℝ := A.prod (row t r)
/-- The residual branch of a point's rows. -/
def rx (A : LossArgs) (t : Fin cfg0.N) (r : Fin 512) : Fin 2048 → ℝ := A.x (row t r)
/-- The targets of a point's rows. -/
def ry (A : LossArgs) (t : Fin cfg0.N) (r : Fin 512) : Fin 2048 → ℝ := A.y (row t r)

include H

theorem acc (ht : t.val % 8 = 7) (r : Fin 512) (s : Fin 2048) :
    k0_pay2 (outsAt0 m c (t.val - 1) (by omega)).2.2.2.2.2 (iblk m c 0 t) (iblk m c 1 t) (ix2 r s)
      = (ra A t r s : EReal) := by
  rw [← sc_pay m c t (by omega), sc_last m c t ht]
  exact sum_mul_coe (fun e => H.f _ e) fun e => H.w e s

theorem x_at (r : Fin 512) (s : Fin 2048) :
    (iblk m c 2 t : Vec Ideal S512x2048 .f32) (ix2 r s) = (rx A t r s : EReal) := by
  rw [x_blk, x_read]
  exact H.x _ _

theorem y_at (r : Fin 512) (s : Fin 2048) :
    (iblk m c 3 t : Vec Ideal S512x2048 .f32) (ix2 r s) = (ry A t r s : EReal) := by
  rw [y_blk, y_read]
  exact H.y _ _

theorem g_at (s : Fin 2048) :
    (iblk m c 4 t : Vec Ideal S1x2048 .f32) (ix2 0 s) = (A.g s : EReal) := by
  rw [g_blk, g_read]
  exact H.g _

theorem h_at (s : Fin 2048) :
    (iblk m c 5 t : Vec Ideal S1x2048 .f32) (ix2 0 s) = (A.h s : EReal) := by
  rw [h_blk, h_read]
  exact H.h _

/-- The rows' gradient. -/
theorem z_out (ht : t.val % 8 = 7) (y : S512x2048.Idx) :
    (outsAt0 m c t.val t.isLt).1 y = (A.dz (row t (y 0)) (y 1) : EReal) := by
  have ha := acc H t ht
  have hd := x_at H t
  have hy := y_at H t
  have hg := g_at H t
  have hh := h_at H t
  by_cases h2 : t.val < 8
  · rw [outsAt0_C m c t (by omega) ht h2 (by omega) h2 (by omega) h2 (by omega)]
    frame_open
    simp (disch := decide) only [↓ View.readCov_skip, ↓ View.readCov_cons_toLoadRect,
      ↓ View.readCov_fill]
    frame_out
    rw [read_unread_whole]
    refine (View.canon_append_of_piecesOf (fun i : S512x2048.Idx =>
      (down (pre (ra A t (i 0)) (rx A t (i 0))) (ry A t (i 0)) A.g A.h (i 1) : EReal)) []
      [_, _, _, _] ?_ y (View.cover_of_tiled_head _ _ _ rfl y)).trans ?_
    · refine ⟨?_, ?_, ?_, ?_, trivial⟩ <;> exact dz_piece ha hd hy hg hh _
    · rfl
  · rw [outsAt0_D m c t (by omega) ht h2 (by omega) h2 (by omega) h2 (by omega)]
    frame_open
    simp (disch := decide) only [↓ View.readCov_skip, ↓ View.readCov_cons_toLoadRect,
      ↓ View.readCov_fill]
    frame_out
    rw [read_unread_whole]
    refine (View.canon_append_of_piecesOf (fun i : S512x2048.Idx =>
      (down (pre (ra A t (i 0)) (rx A t (i 0))) (ry A t (i 0)) A.g A.h (i 1) : EReal)) []
      [_, _, _, _] ?_ y (View.cover_of_tiled_head _ _ _ rfl y)).trans ?_
    · refine ⟨?_, ?_, ?_, ?_, trivial⟩ <;> exact dz_piece ha hd hy hg hh _
    · rfl

/-- The rows' gradient in the narrower format. -/
theorem zb_out (ht : t.val % 8 = 7) (y : S512x2048.Idx) :
    (outsAt0 m c t.val t.isLt).2.1 y = (A.dz (row t (y 0)) (y 1) : EReal) := by
  have ha := acc H t ht
  have hd := x_at H t
  have hy := y_at H t
  have hg := g_at H t
  have hh := h_at H t
  by_cases h2 : t.val < 8
  · rw [outsAt0_C m c t (by omega) ht h2 (by omega) h2 (by omega) h2 (by omega)]
    frame_open
    simp (disch := decide) only [↓ View.readCov_skip, ↓ View.readCov_cons_toLoadRect,
      ↓ View.readCov_fill]
    frame_out
    rw [read_unread_whole]
    refine (View.canon_append_of_piecesOf (fun i : S512x2048.Idx =>
      (down (pre (ra A t (i 0)) (rx A t (i 0))) (ry A t (i 0)) A.g A.h (i 1) : EReal)) []
      [_, _, _, _] ?_ y (View.cover_of_tiled_head _ _ _ rfl y)).trans ?_
    · refine ⟨?_, ?_, ?_, ?_, trivial⟩ <;> exact narrow_piece ha hd hy hg hh _
    · rfl
  · rw [outsAt0_D m c t (by omega) ht h2 (by omega) h2 (by omega) h2 (by omega)]
    frame_open
    simp (disch := decide) only [↓ View.readCov_skip, ↓ View.readCov_cons_toLoadRect,
      ↓ View.readCov_fill]
    frame_out
    rw [read_unread_whole]
    refine (View.canon_append_of_piecesOf (fun i : S512x2048.Idx =>
      (down (pre (ra A t (i 0)) (rx A t (i 0))) (ry A t (i 0)) A.g A.h (i 1) : EReal)) []
      [_, _, _, _] ?_ y (View.cover_of_tiled_head _ _ _ rfl y)).trans ?_
    · refine ⟨?_, ?_, ?_, ?_, trivial⟩ <;> exact narrow_piece ha hd hy hg hh _
    · rfl

/-- What a point's rows contribute to the loss. -/
def lpt (A : LossArgs) (t : Fin cfg0.N) : ℝ :=
  ∑ r, 1 / 2 * msq (A.z (row t r)) (A.y (row t r)) A.g A.h

/-- What a point's rows contribute to the gradient of the scale. -/
def gpt (A : LossArgs) (t : Fin cfg0.N) (s : Fin 2048) : ℝ :=
  ∑ r, A.dy (row t r) s * hat (A.z (row t r)) s

/-- What a point's rows contribute to the gradient of the shift. -/
def bpt (A : LossArgs) (t : Fin cfg0.N) (s : Fin 2048) : ℝ := ∑ r, A.dy (row t r) s

omit H in
theorem lpt_eq :
    lsl (ra A t) (rx A t) (ry A t) A.g A.h 0 (by norm_num)
      + lsl (ra A t) (rx A t) (ry A t) A.g A.h 128 (by norm_num)
      + lsl (ra A t) (rx A t) (ry A t) A.g A.h 256 (by norm_num)
      + lsl (ra A t) (rx A t) (ry A t) A.g A.h 384 (by norm_num) = lpt A t :=
  sum_rows fun r => 1 / 2 * msq (A.z (row t r)) (A.y (row t r)) A.g A.h

omit H in
theorem gpt_eq (s : Fin 2048) :
    gsl (ra A t) (rx A t) (ry A t) A.g A.h s 0 (by norm_num)
      + gsl (ra A t) (rx A t) (ry A t) A.g A.h s 128 (by norm_num)
      + gsl (ra A t) (rx A t) (ry A t) A.g A.h s 256 (by norm_num)
      + gsl (ra A t) (rx A t) (ry A t) A.g A.h s 384 (by norm_num) = gpt A t s :=
  sum_rows fun r => A.dy (row t r) s * hat (A.z (row t r)) s

omit H in
theorem bpt_eq (s : Fin 2048) :
    bsl (ra A t) (rx A t) (ry A t) A.g A.h s 0 (by norm_num)
      + bsl (ra A t) (rx A t) (ry A t) A.g A.h s 128 (by norm_num)
      + bsl (ra A t) (rx A t) (ry A t) A.g A.h s 256 (by norm_num)
      + bsl (ra A t) (rx A t) (ry A t) A.g A.h s 384 (by norm_num) = bpt A t s :=
  sum_rows fun r => A.dy (row t r) s

theorem l_C (ht : t.val % 8 = 7) (h2 : t.val < 8) (u : Fin 8) (w : Fin 128) :
    (outsAt0 m c t.val t.isLt).2.2.1 (ix2 u w : S8x128.Idx) = (lpt A t : EReal) := by
  have ha := acc H t ht
  have hd := x_at H t
  have hy := y_at H t
  have hg := g_at H t
  have hh := h_at H t
  rw [outsAt0_C m c t (by omega) ht h2 (by omega) h2 (by omega) h2 (by omega)]
  frame_open
  simp (disch := decide) only [↓ View.readCov_skip, ↓ View.readCov_cons_toLoadRect,
    ↓ View.readCov_fill]
  frame_out
  rw [read_unread_whole]
  refine Eq.trans (loss_next ha hd hy hg hh 384 (by norm_num) (loss_next ha hd hy hg hh 256 (by norm_num)
    (loss_next ha hd hy hg hh 128 (by norm_num) (loss_first ha hd hy hg hh 0 (by norm_num) u w)))) ?_
  rw [lpt_eq]

theorem l_D (ht : t.val % 8 = 7) (h2 : ¬t.val < 8) (u : Fin 8) (w : Fin 128) {v : ℝ}
    (hv : (outsAt0 m c (t.val - 1) (by omega)).2.2.1 (ix2 u w : S8x128.Idx) = (v : EReal)) :
    (outsAt0 m c t.val t.isLt).2.2.1 (ix2 u w : S8x128.Idx)
      = ((v + lpt A t : ℝ) : EReal) := by
  have ha := acc H t ht
  have hd := x_at H t
  have hy := y_at H t
  have hg := g_at H t
  have hh := h_at H t
  rw [outsAt0_D m c t (by omega) ht h2 (by omega) h2 (by omega) h2 (by omega)]
  frame_open
  simp (disch := decide) only [↓ View.readCov_skip, ↓ View.readCov_cons_toLoadRect,
    ↓ View.readCov_fill]
  frame_out
  rw [read_unread_whole]
  refine Eq.trans (loss_next ha hd hy hg hh 384 (by norm_num) (loss_next ha hd hy hg hh 256 (by norm_num)
    (loss_next ha hd hy hg hh 128 (by norm_num) (loss_next ha hd hy hg hh 0 (by norm_num) hv)))) ?_
  rw [← lpt_eq, ← add_assoc, ← add_assoc, ← add_assoc]

theorem g_C (ht : t.val % 8 = 7) (h2 : t.val < 8) (s : Fin 2048) :
    (outsAt0 m c t.val t.isLt).2.2.2.1 (ix2 0 s : S1x2048.Idx) = (gpt A t s : EReal) := by
  have ha := acc H t ht
  have hd := x_at H t
  have hy := y_at H t
  have hg := g_at H t
  have hh := h_at H t
  rw [outsAt0_C m c t (by omega) ht h2 (by omega) h2 (by omega) h2 (by omega)]
  frame_open
  simp (disch := decide) only [↓ View.readCov_skip, ↓ View.readCov_cons_toLoadRect,
    ↓ View.readCov_fill]
  frame_out
  rw [read_unread_whole]
  refine Eq.trans (dg_next ha hd hy hg hh 384 (by norm_num) (dg_next ha hd hy hg hh 256 (by norm_num)
    (dg_next ha hd hy hg hh 128 (by norm_num) (dg_first ha hd hy hg hh 0 (by norm_num) s)))) ?_
  rw [gpt_eq]

theorem g_D (ht : t.val % 8 = 7) (h2 : ¬t.val < 8) (s : Fin 2048) {v : ℝ}
    (hv : (outsAt0 m c (t.val - 1) (by omega)).2.2.2.1 (ix2 0 s : S1x2048.Idx) = (v : EReal)) :
    (outsAt0 m c t.val t.isLt).2.2.2.1 (ix2 0 s : S1x2048.Idx)
      = ((v + gpt A t s : ℝ) : EReal) := by
  have ha := acc H t ht
  have hd := x_at H t
  have hy := y_at H t
  have hg := g_at H t
  have hh := h_at H t
  rw [outsAt0_D m c t (by omega) ht h2 (by omega) h2 (by omega) h2 (by omega)]
  frame_open
  simp (disch := decide) only [↓ View.readCov_skip, ↓ View.readCov_cons_toLoadRect,
    ↓ View.readCov_fill]
  frame_out
  rw [read_unread_whole]
  refine Eq.trans (dg_next ha hd hy hg hh 384 (by norm_num) (dg_next ha hd hy hg hh 256 (by norm_num)
    (dg_next ha hd hy hg hh 128 (by norm_num) (dg_next ha hd hy hg hh 0 (by norm_num) hv)))) ?_
  rw [← gpt_eq, ← add_assoc, ← add_assoc, ← add_assoc]

theorem b_C (ht : t.val % 8 = 7) (h2 : t.val < 8) (s : Fin 2048) :
    (outsAt0 m c t.val t.isLt).2.2.2.2.1 (ix2 0 s : S1x2048.Idx) = (bpt A t s : EReal) := by
  have ha := acc H t ht
  have hd := x_at H t
  have hy := y_at H t
  have hg := g_at H t
  have hh := h_at H t
  rw [outsAt0_C m c t (by omega) ht h2 (by omega) h2 (by omega) h2 (by omega)]
  frame_open
  simp (disch := decide) only [↓ View.readCov_skip, ↓ View.readCov_cons_toLoadRect,
    ↓ View.readCov_fill]
  frame_out
  rw [read_unread_whole]
  refine Eq.trans (db_next ha hd hy hg hh 384 (by norm_num) (db_next ha hd hy hg hh 256 (by norm_num)
    (db_next ha hd hy hg hh 128 (by norm_num) (db_first ha hd hy hg hh 0 (by norm_num) s)))) ?_
  rw [bpt_eq]

theorem b_D (ht : t.val % 8 = 7) (h2 : ¬t.val < 8) (s : Fin 2048) {v : ℝ}
    (hv : (outsAt0 m c (t.val - 1) (by omega)).2.2.2.2.1 (ix2 0 s : S1x2048.Idx) = (v : EReal)) :
    (outsAt0 m c t.val t.isLt).2.2.2.2.1 (ix2 0 s : S1x2048.Idx)
      = ((v + bpt A t s : ℝ) : EReal) := by
  have ha := acc H t ht
  have hd := x_at H t
  have hy := y_at H t
  have hg := g_at H t
  have hh := h_at H t
  rw [outsAt0_D m c t (by omega) ht h2 (by omega) h2 (by omega) h2 (by omega)]
  frame_open
  simp (disch := decide) only [↓ View.readCov_skip, ↓ View.readCov_cons_toLoadRect,
    ↓ View.readCov_fill]
  frame_out
  rw [read_unread_whole]
  refine Eq.trans (db_next ha hd hy hg hh 384 (by norm_num) (db_next ha hd hy hg hh 256 (by norm_num)
    (db_next ha hd hy hg hh 128 (by norm_num) (db_next ha hd hy hg hh 0 (by norm_num) hv)))) ?_
  rw [← bpt_eq, ← add_assoc, ← add_assoc, ← add_assoc]

/-! ## The loss and the scale's and the shift's gradients from point to point -/

omit H in
/-- A point that is not the last of eight leaves them as they were. -/
theorem kept (h0 : t.val ≠ 0) (h1 : ¬t.val % 8 = 7) :
    (outsAt0 m c t.val t.isLt).2.2.1 = (outsAt0 m c (t.val - 1) (by omega)).2.2.1
    ∧ (outsAt0 m c t.val t.isLt).2.2.2.1 = (outsAt0 m c (t.val - 1) (by omega)).2.2.2.1
    ∧ (outsAt0 m c t.val t.isLt).2.2.2.2.1 = (outsAt0 m c (t.val - 1) (by omega)).2.2.2.2.1 := by
  by_cases h : t.val % 8 = 0
  · rw [outsAt0_A m c t h h1]
    exact ⟨rfl, rfl, rfl⟩
  · rw [outsAt0_B m c t h h1]
    exact ⟨rfl, rfl, rfl⟩

/-- The token in row `r` of block `i`. -/
def tok (i : ℕ) (r : Fin 512) : Fin 8192 := ⟨(i * 512 + r.val) % 8192, by omega⟩

omit H in
theorem row_tok (r : Fin 512) : row t r = tok (t.val / 8) r := by
  have := lt_of_lt_of_eq t.isLt N_0
  exact Fin.ext (by simp only [row, tok]; omega)

/-- After a point, the blocks finished so far have contributed to the loss. -/
theorem l_sum (u : Fin 8) (w : Fin 128) (n : ℕ) (hn : n < cfg0.N) (h : 7 ≤ n) :
    (outsAt0 m c n hn).2.2.1 (ix2 u w : S8x128.Idx)
      = ((∑ i ∈ Finset.range ((n - 7) / 8 + 1), ∑ r, 1 / 2 * msq (A.z (tok i r)) (A.y (tok i r)) A.g A.h : ℝ)
          : EReal) := by
  refine kept_sum (v := fun n hn => (outsAt0 m c n hn).2.2.1 (ix2 u w : S8x128.Idx)) (q := 7)
    (b := fun n => (n - 7) / 8) (fun hq => ?_) rfl (fun n hn hq => ?_) n hn h
  · refine (l_C H ⟨7, hq⟩ rfl (by norm_num) u w).trans ?_
    simp only [lpt, row_tok]
  · by_cases hl : (n + 1) % 8 = 7
    · have e : (n + 1) / 8 = (n - 7) / 8 + 1 := by omega
      refine .inl ⟨by omega, fun v hv => ?_⟩
      refine (l_D H ⟨n + 1, hn⟩ hl (by simp only; omega) u w hv).trans ?_
      simp only [lpt, row_tok, e]
    · exact .inr ⟨by omega, congrFun (kept (m := m) (c := c) ⟨n + 1, hn⟩ (by simp) hl).1 _⟩

/-- And to the scale's gradient. -/
theorem g_sum (s : Fin 2048) (n : ℕ) (hn : n < cfg0.N) (h : 7 ≤ n) :
    (outsAt0 m c n hn).2.2.2.1 (ix2 0 s : S1x2048.Idx)
      = ((∑ i ∈ Finset.range ((n - 7) / 8 + 1), ∑ r, A.dy (tok i r) s * hat (A.z (tok i r)) s : ℝ)
          : EReal) := by
  refine kept_sum (v := fun n hn => (outsAt0 m c n hn).2.2.2.1 (ix2 0 s : S1x2048.Idx)) (q := 7)
    (b := fun n => (n - 7) / 8) (fun hq => ?_) rfl (fun n hn hq => ?_) n hn h
  · refine (g_C H ⟨7, hq⟩ rfl (by norm_num) s).trans ?_
    simp only [gpt, row_tok]
  · by_cases hl : (n + 1) % 8 = 7
    · have e : (n + 1) / 8 = (n - 7) / 8 + 1 := by omega
      refine .inl ⟨by omega, fun v hv => ?_⟩
      refine (g_D H ⟨n + 1, hn⟩ hl (by simp only; omega) s hv).trans ?_
      simp only [gpt, row_tok, e]
    · exact .inr ⟨by omega, congrFun (kept (m := m) (c := c) ⟨n + 1, hn⟩ (by simp) hl).2.1 _⟩

/-- And to the shift's. -/
theorem b_sum (s : Fin 2048) (n : ℕ) (hn : n < cfg0.N) (h : 7 ≤ n) :
    (outsAt0 m c n hn).2.2.2.2.1 (ix2 0 s : S1x2048.Idx)
      = ((∑ i ∈ Finset.range ((n - 7) / 8 + 1), ∑ r, A.dy (tok i r) s : ℝ)
          : EReal) := by
  refine kept_sum (v := fun n hn => (outsAt0 m c n hn).2.2.2.2.1 (ix2 0 s : S1x2048.Idx)) (q := 7)
    (b := fun n => (n - 7) / 8) (fun hq => ?_) rfl (fun n hn hq => ?_) n hn h
  · refine (b_C H ⟨7, hq⟩ rfl (by norm_num) s).trans ?_
    simp only [bpt, row_tok]
  · by_cases hl : (n + 1) % 8 = 7
    · have e : (n + 1) / 8 = (n - 7) / 8 + 1 := by omega
      refine .inl ⟨by omega, fun v hv => ?_⟩
      refine (b_D H ⟨n + 1, hn⟩ hl (by simp only; omega) s hv).trans ?_
      simp only [bpt, row_tok, e]
    · exact .inr ⟨by omega, congrFun (kept (m := m) (c := c) ⟨n + 1, hn⟩ (by simp) hl).2.2 _⟩

omit H in
/-- The sixteen blocks' rows are all tokens. -/
theorem sum_tok (f : Fin 8192 → ℝ) :
    ∑ i ∈ Finset.range 16, ∑ r, f (tok i r) = ∑ a, f a := by
  rw [Finset.sum_range]
  refine Fin.sum_mul_add_congr fun i r hl => congrArg f (Fin.ext ?_)
  simp only [tok]
  omega

/-! ## The arrays -/

theorem z_emb (ht : t.val % 8 = 7) (y : S512x2048.Idx) :
    (outsAt0 m c t.val t.isLt).1 y = A.gZ ((win0_6.blk t).view.emb y) := by
  obtain ⟨r, s, rfl⟩ : ∃ (r : Fin 512) (s : Fin 2048), y = (ix2 r s : S512x2048.Idx) :=
    ⟨y 0, y 1, by ext i; fin_cases i <;> rfl⟩
  rw [z_out H t ht, ← emb_6 t r s]
  rfl

theorem z_array : (dats m 0 c).arrAt 6 cfg0.N = A.gZ := by
  refine (dats m 0 c).arrAt_eq_of_covers 6 _ (by decide +kernel) fun t hf y => ?_
  blk_simp
  rw [after0_6]
  exact z_emb H t ((flush0_6 t).mp hf) y

theorem zb_emb (ht : t.val % 8 = 7) (y : S512x2048.Idx) :
    (outsAt0 m c t.val t.isLt).2.1 y = A.gZ ((win0_7.blk t).view.emb y) := by
  obtain ⟨r, s, rfl⟩ : ∃ (r : Fin 512) (s : Fin 2048), y = (ix2 r s : S512x2048.Idx) :=
    ⟨y 0, y 1, by ext i; fin_cases i <;> rfl⟩
  rw [zb_out H t ht, ← emb_7 t r s]
  rfl

theorem zb_array : (dats m 0 c).arrAt 7 cfg0.N = A.gZ := by
  refine (dats m 0 c).arrAt_eq_of_covers 7 _ (by decide +kernel) fun t hf y => ?_
  blk_simp
  rw [after0_7]
  exact zb_emb H t ((flush0_7 t).mp hf) y

theorem l_array : (dats m 0 c).arrAt 8 cfg0.N = A.gL := by
  refine (dats m 0 c).arrAt_eq_of_covers 8 _ (by decide +kernel) fun t hf y => ?_
  blk_simp
  rw [after0_8]
  obtain ⟨u, w, rfl⟩ : ∃ (u : Fin 8) (w : Fin 128), y = (ix2 u w : S8x128.Idx) :=
    ⟨y 0, y 1, by ext i; fin_cases i <;> rfl⟩
  have ht := (flush0_8 t).mp hf
  have hN := lt_of_lt_of_eq t.isLt N_0
  obtain rfl : t = ⟨127, by rw [N_0]; norm_num⟩ := Fin.ext (by simp only; omega)
  refine (l_sum H u w 127 _ (by norm_num)).trans ?_
  exact congrArg _ (sum_tok fun a => 1 / 2 * msq (A.z a) (A.y a) A.g A.h)

theorem g_array : (dats m 0 c).arrAt 9 cfg0.N = A.gG := by
  refine (dats m 0 c).arrAt_eq_of_covers 9 _ (by decide +kernel) fun t hf y => ?_
  blk_simp
  rw [after0_9]
  obtain ⟨a, s, rfl⟩ : ∃ (a : Fin 1) (s : Fin 2048), y = (ix2 a s : S1x2048.Idx) :=
    ⟨y 0, y 1, by ext i; fin_cases i <;> rfl⟩
  obtain rfl : a = 0 := Subsingleton.elim _ _
  have ht := (flush0_9 t).mp hf
  have hN := lt_of_lt_of_eq t.isLt N_0
  obtain rfl : t = ⟨127, by rw [N_0]; norm_num⟩ := Fin.ext (by simp only; omega)
  refine ((g_sum H s 127 _ (by norm_num)).trans ?_).trans (congrArg A.gG (emb_9 _ s))
  exact congrArg _ (sum_tok fun a => A.dy a s * hat (A.z a) s)

theorem b_array : (dats m 0 c).arrAt 10 cfg0.N = A.gB := by
  refine (dats m 0 c).arrAt_eq_of_covers 10 _ (by decide +kernel) fun t hf y => ?_
  blk_simp
  rw [after0_10]
  obtain ⟨a, s, rfl⟩ : ∃ (a : Fin 1) (s : Fin 2048), y = (ix2 a s : S1x2048.Idx) :=
    ⟨y 0, y 1, by ext i; fin_cases i <;> rfl⟩
  obtain rfl : a = 0 := Subsingleton.elim _ _
  have ht := (flush0_10 t).mp hf
  have hN := lt_of_lt_of_eq t.isLt N_0
  obtain rfl : t = ⟨127, by rw [N_0]; norm_num⟩ := Fin.ext (by simp only; omega)
  refine ((b_sum H s 127 _ (by norm_num)).trans ?_).trans (congrArg A.gB (emb_10 _ s))
  exact congrArg _ (sum_tok fun a => A.dy a s)

end Cert.Ff2Ln2LossIdeal.Mixer
-- ==== Proof.LossRef.lean ====
module

public import proofs.«01_k».proof.Proof.Loss
public import proofs.«01_k».proof.Proof.Gen.Ff2Ln2LossRefIdeal.Run
public import proofs.«01_k».proof.Proof.Gen.Ff2Ln2LossRefIdeal.Read
public import Idealize.ShloMosaic.Lib.StableHlo.ReadAt
public import Idealize.ShloMosaic.Lib.Pipeline.ValueKit

@[expose] public section
set_option maxRecDepth 16384

/-! # The loss and its gradient, as the reference computes them

The reference's program is the loss followed by its derivative, taken one step at a time: through
the square and the mean, the scale and the shift, and the layer norm's variance and mean. -/

noncomputable section

namespace Cert.Ff2Ln2LossRefIdeal.Mixer
open Cert.Ff2Ln2LossRefIdeal Cert.Ff2Ln2LossRefIdeal.Gen Cert.Ff2Ln2LossRefIdeal.Read
open Idealize.ShloMosaic Idealize.ShloMosaic.TcCoe Idealize.SL.Sem Cert.Flash Cert.Norm

variable {x0 x2 x5 : FVec Ideal S8192x2048 .f32} {x1 : FVec Ideal S8192x8192 .f32}
  {x3 x4 : FVec Ideal S1x2048 .f32} {A : LossArgs}
  (H : LossGiven x0 x1 x2 x3 x4 x5 A) (a : Fin 8192) (c : Fin 2048)
include H

/-! ## The forward pass -/

theorem v3_at : val_main_v3 (F := Ideal) x0 x1 x2 (ix2 a c) = (A.z a c : EReal) := by
  unfold val_main_v3 val_main_v2 val_main_v1 val_main_v0 val_main_cst
  pointwise
  rw [alpha_bits, H.x, sum_mul_coe (fun e => H.f a e) (fun e => H.w e c), ← EReal.coe_mul,
    ← EReal.coe_add]
  rfl

theorem v11_at : val_main_v11 (F := Ideal) x0 x1 x2 (ix2 a c) = (cen (A.z a) c : EReal) := by
  unfold val_main_v11 val_main_v10 val_main_v9 val_main_v8 val_main_v7 val_main_v6 val_main_cst_0
    val_main_cst_1
  pointwise
  rw [len_bits, mean_coe (v3_at H a), v3_at H, ← EReal.coe_sub, cen]

theorem v20_at : val_main_v20 (F := Ideal) x0 x1 x2 (ix2 a 0)
    = ((var (A.z a) + eps : ℝ) : EReal) := by
  unfold val_main_v20 val_main_v19 val_main_v18 val_main_v17 val_main_v16 val_main_v15
    val_main_v12 val_main_cst_3 val_main_cst_4 val_main_cst_5
  pointwise
  rw [len_bits, eps_bits, mean_coe (z := fun c => cen (A.z a) c * cen (A.z a) c)
    (fun c => by rw [v11_at H, EReal.coe_mul]), ← EReal.coe_add, var]

theorem v21_at : val_main_v21 (F := Ideal) x0 x1 x2 (ix2 a 0) = (inv (A.z a) : EReal) := by
  unfold val_main_v21
  pointwise
  rw [v20_at H]
  exact rsqrt_coe (pos _)

theorem v24_at : val_main_v24 (F := Ideal) x0 x1 x2 (ix2 a 0)
    = ((-(1 / 2) * (inv (A.z a) / (var (A.z a) + eps)) : ℝ) : EReal) := by
  unfold val_main_v24 val_main_v23 val_main_v22 val_main_cst_6
  pointwise
  rw [half_bits, v21_at H, v20_at H, div_coe _ (pos _).ne', ← EReal.coe_mul]

theorem v26_at : val_main_v26 (F := Ideal) x0 x1 x2 (ix2 a c) = (hat (A.z a) c : EReal) := by
  unfold val_main_v26 val_main_v25
  pointwise
  rw [v11_at H, v21_at H, ← EReal.coe_mul, hat]

theorem v33_at : val_main_v33 (F := Ideal) x0 x1 x2 x3 x4 x5 (ix2 a c)
    = (err (A.z a) (A.y a) A.g A.h c : EReal) := by
  unfold val_main_v33 val_main_v32 val_main_v31 val_main_v30 val_main_v29 val_main_v28 val_main_v27
    val_main_v5 val_main_v4
  pointwise
  rw [v26_at H, H.g, H.h, H.y, ← EReal.coe_mul, ← EReal.coe_add, ← EReal.coe_sub, err]

/-! ## The loss -/

theorem v41_at (i : S_.Idx) : val_main_v41 (F := Ideal) x0 x1 x2 x3 x4 x5 i
    = (A.loss : EReal) := by
  unfold val_main_v41 val_main_v40 val_main_v39 val_main_v38 val_main_v37 val_main_v34
    val_main_cst_8 val_main_cst_9 val_main_cst_10 val_main_cst_11
  pointwise
  rw [len_bits, hf_bits, sum_eq_coe (a := fun a => msq (A.z a) (A.y a) A.g A.h) fun a => by
    rw [mean_coe (fun c => by rw [v33_at H, ← EReal.coe_mul]), msq], ← EReal.coe_mul,
    Finset.mul_sum]
  rfl

/-! ## Back through the loss and the layer norm -/

theorem v47_at : val_main_v47 (F := Ideal) x0 x1 x2 x3 x4 x5 (ix2 a c) = (A.dy a c : EReal) := by
  unfold val_main_v47 val_main_v46 val_main_v45 val_main_v44 val_main_v43 val_main_v42
    val_main_v36 val_main_v35 val_main_cst_7 val_main_cst_12 val_main_cst_13 val_main_cst_14
  pointwise
  rw [len_bits, two_bits, hf_bits, v33_at H, ← EReal.coe_mul, div_coe _ (by norm_num),
    ← EReal.coe_mul, LossArgs.dy, out]
  congr 1
  ring

/-- The gradient of the normalised row. -/
def up (A : LossArgs) (a : Fin 8192) (c : Fin 2048) : ℝ := A.dy a c * A.g c

theorem v55_at : val_main_v55 (F := Ideal) x0 x1 x2 x3 x4 x5 (ix2 a c) = (up A a c : EReal) := by
  unfold val_main_v55 val_main_v54 val_main_v27 val_main_v4
  pointwise
  rw [v47_at H, H.g, ← EReal.coe_mul, up]

theorem v59_at : val_main_v59 (F := Ideal) x0 x1 x2 x3 x4 x5 (ix2 a 0)
    = ((∑ k, cen (A.z a) k * up A a k : ℝ) : EReal) := by
  unfold val_main_v59 val_main_v58 val_main_v57 val_main_cst_19
  pointwise
  exact sum_mul_coe (fun k => v11_at H a k) fun k => v55_at H a k

theorem v68_at : val_main_v68 (F := Ideal) x0 x1 x2 x3 x4 x5 (ix2 a c)
    = (backCen (A.z a) (up A a) c : EReal) := by
  unfold val_main_v68 val_main_v67 val_main_v66 val_main_v65 val_main_v64 val_main_v63
    val_main_v62 val_main_v61 val_main_v60 val_main_v14 val_main_v13 val_main_cst_2
    val_main_cst_20 val_main_cst_21
  pointwise
  rw [Fin.sum_univ_one, len_bits, two_bits, v59_at H, v24_at H, v11_at H, v55_at H, v21_at H,
    ← EReal.coe_mul, ← EReal.coe_mul, div_coe _ (by norm_num), ← EReal.coe_mul, ← EReal.coe_mul,
    ← EReal.coe_add, backCen]

theorem v76_at : val_main_v76 (F := Ideal) x0 x1 x2 x3 x4 x5 (ix2 a c) = (A.dz a c : EReal) := by
  unfold val_main_v76 val_main_v75 val_main_v74 val_main_v73 val_main_v72 val_main_v71
    val_main_v70 val_main_v69 val_main_cst_22 val_main_cst_23 val_main_cst_24
  pointwise
  rw [Fin.sum_univ_one, len_bits, sum_eq_coe (a := fun k => -backCen (A.z a) (up A a) k)
    (fun k => by rw [v68_at H, EReal.coe_neg]), div_coe _ (by norm_num), v68_at H,
    ← EReal.coe_add, backCen_eq]
  rfl

/-! ## The results -/

theorem ref_z : val_main_v76 (F := Ideal) x0 x1 x2 x3 x4 x5 = A.gZ := by
  funext i
  obtain ⟨a, c, rfl⟩ : ∃ (a : Fin 8192) (c : Fin 2048), i = ix2 a c :=
    ⟨i 0, i 1, by ext k; fin_cases k <;> rfl⟩
  exact v76_at H a c

theorem ref_zb : val_main_v77 (F := Ideal) x0 x1 x2 x3 x4 x5 = A.gZ := by
  funext i
  unfold val_main_v77
  exact congrFun (ref_z H) i

theorem ref_l : val_main_v78 (F := Ideal) x0 x1 x2 x3 x4 x5 = A.gL := by
  funext i
  unfold val_main_v78
  exact v41_at H _

theorem ref_g : val_main_v79 (F := Ideal) x0 x1 x2 x3 x4 x5 = A.gG := by
  funext i
  obtain ⟨u, c, rfl⟩ : ∃ (u : Fin 1) (c : Fin 2048), i = ix2 u c :=
    ⟨i 0, i 1, by ext k; fin_cases k <;> rfl⟩
  unfold val_main_v79 val_main_v56 val_main_v53 val_main_v52 val_main_v51 val_main_cst_17
    val_main_cst_18
  pointwise
  rw [Fin.sum_univ_one, sum_mul_coe (fun a => v26_at H a c) (fun a => v47_at H a c)]
  exact congrArg _ (Finset.sum_congr rfl fun a _ => mul_comm _ _)

theorem ref_b : val_main_v80 (F := Ideal) x0 x1 x2 x3 x4 x5 = A.gB := by
  funext i
  obtain ⟨u, c, rfl⟩ : ∃ (u : Fin 1) (c : Fin 2048), i = ix2 u c :=
    ⟨i 0, i 1, by ext k; fin_cases k <;> rfl⟩
  unfold val_main_v80 val_main_v50 val_main_v49 val_main_v48 val_main_cst_15 val_main_cst_16
  pointwise
  rw [Fin.sum_univ_one, sum_eq_coe (fun a => v47_at H a c)]
  rfl

end Cert.Ff2Ln2LossRefIdeal.Mixer
-- ==== Proof.Products.lean ====
module

public import proofs.«01_k».proof.Proof.Gen.HProjIdeal.Value
public import proofs.«01_k».proof.Proof.Gen.HProjRefIdeal.Run
public import proofs.«01_k».proof.Proof.Gen.HProjRefIdeal.Read
public import proofs.«01_k».proof.Proof.Gen.OutDgradIdeal.Value
public import proofs.«01_k».proof.Proof.Gen.OutDgradRefIdeal.Run
public import proofs.«01_k».proof.Proof.Gen.OutDgradRefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The input projection and the gradient behind the output projection

Both are one product each, whole over the inner dimension at every point of the grid: the rows of
the normed input against the columns of the input projection, and the rows of the output gradient
against the rows of the output projection. -/

noncomputable section

namespace Cert.HProjIdeal.Mixer
open Cert.HProjIdeal Cert.HProjIdeal.Gen Idealize.ShloMosaic
open Idealize.ShloMosaic.TcCoe Idealize.SL.Sem

/-- The rows of `x` against the columns of `w`. -/
def gH (x : S8192x2048.Idx → EReal) (w : S2048x3200.Idx → EReal) (i : S8192x3200.Idx) : EReal :=
  ∑ k : Fin 2048, x (ix2 (i 0) k) * w (ix2 k (i 1))

theorem pay1_apply (x0 : Vec Ideal S1024x2048 .bf16) (x1 : Vec Ideal S2048x640 .bf16)
    (r : Fin 1024) (s : Fin 640) :
    k0_pay1 x0 x1 (ix2 r s) = ∑ k : Fin 2048, x0 (ix2 r k) * x1 (ix2 k s) := by
  unfold k0_pay1
  pointwise

/-- Which block each window stages at a point. -/
theorem idx : ∀ t : Fin cfg0.N,
    win0_0.index t = ![t.val / 5, 0] ∧ win0_1.index t = ![0, t.val % 5]
    ∧ win0_2.index t = ![t.val / 5, t.val % 5] :=
  (by decide +kernel : ∀ t : Fin grid0.N, _)

/-- The token in row `r` of a point's block. -/
def row (t : Fin cfg0.N) (r : Fin 1024) : Fin 8192 :=
  ⟨t.val / 5 * 1024 + r.val, by have := lt_of_lt_of_eq t.isLt N_0; omega⟩

/-- The column of the projection in column `s` of a point's block. -/
def col (t : Fin cfg0.N) (s : Fin 640) : Fin 3200 := ⟨t.val % 5 * 640 + s.val, by omega⟩

variable (m : (ℓ : Loc nD τ sig) → Buf (Elt Ideal) ℓ) (c : Dev nD)

theorem x_read (a : Fin 8192) (k : Fin 2048) :
    (V m c main_v0 : S8192x2048.Idx → EReal) (ix2 a k)
      = (m (c, Proc.devRef .tc main_arg0) : S8192x2048.Idx → EReal) (ix2 a k) := by
  unfold V
  after_reads_at

theorem w_read (k : Fin 2048) (b : Fin 3200) :
    (V m c main_v1 : S2048x3200.Idx → EReal) (ix2 k b)
      = (m (c, Proc.devRef .tc main_arg1) : S2048x3200.Idx → EReal) (ix2 k b) := by
  unfold V
  after_reads_at

theorem x_blk (t : Fin cfg0.N) (r : Fin 1024) (k : Fin 2048) :
    (iblk m c 0 t : Vec Ideal S1024x2048 .bf16) (ix2 r k)
      = (V m c main_v0 : S8192x2048.Idx → EReal) (ix2 (row t r) k) := by
  have h := idx t
  blk_ext [iblk, h, row]

theorem w_blk (t : Fin cfg0.N) (k : Fin 2048) (s : Fin 640) :
    (iblk m c 1 t : Vec Ideal S2048x640 .bf16) (ix2 k s)
      = (V m c main_v1 : S2048x3200.Idx → EReal) (ix2 k (col t s)) := by
  have h := idx t
  blk_ext [iblk, h, col]

theorem emb_2 (t : Fin cfg0.N) (r : Fin 1024) (s : Fin 640) :
    (ix2 (row t r) (col t s) : S8192x3200.Idx)
      = (win0_2.blk t).view.emb (ix2 r s : S1024x640.Idx) := by
  have h := idx t
  blk_ext [h, row, col]

theorem h_emb (t : Fin cfg0.N) (y : S1024x640.Idx) :
    (out0_2 (iblk m c 0 t) (iblk m c 1 t) : Vec Ideal S1024x640 .f32) y
      = gH (m (c, Proc.devRef .tc main_arg0)) (m (c, Proc.devRef .tc main_arg1))
          ((win0_2.blk t).view.emb y) := by
  obtain ⟨r, s, rfl⟩ : ∃ (r : Fin 1024) (s : Fin 640), y = (ix2 r s : S1024x640.Idx) :=
    ⟨y 0, y 1, by ext i; fin_cases i <;> rfl⟩
  rw [← emb_2 t r s]
  unfold out0_2
  frame_out
  refine (pay1_apply _ _ r s).trans (Finset.sum_congr rfl fun k _ => ?_)
  rw [x_blk, w_blk, x_read, w_read]
  rfl

theorem h_array : (dats m 0 c).arrAt 2 cfg0.N
    = gH (m (c, Proc.devRef .tc main_arg0)) (m (c, Proc.devRef .tc main_arg1)) := by
  refine (dats m 0 c).arrAt_eq_of_covers 2 _ (by decide +kernel) fun t hf y => ?_
  blk_simp
  rw [after0_2]
  exact h_emb m c t y

end Cert.HProjIdeal.Mixer

namespace Cert.HProjRefIdeal.Mixer
open Cert.HProjRefIdeal Cert.HProjRefIdeal.Read Idealize.ShloMosaic
open Idealize.ShloMosaic.TcCoe Idealize.SL.Sem
open Cert.HProjIdeal.Mixer (gH)

/-- The reference's result is the same product. -/
theorem ref_h (x : FVec Ideal S8192x2048 .f32) (w : FVec Ideal S2048x3200 .f32) :
    val_main_v0 (F := Ideal) x w = gH x w := by
  funext i
  obtain ⟨a, b, rfl⟩ : ∃ (a : Fin 8192) (b : Fin 3200), i = ix2 a b :=
    ⟨i 0, i 1, by ext k; fin_cases k <;> rfl⟩
  unfold val_main_v0
  pointwise [gH]

end Cert.HProjRefIdeal.Mixer

namespace Cert.OutDgradIdeal.Mixer
open Cert.OutDgradIdeal Cert.OutDgradIdeal.Gen Idealize.ShloMosaic
open Idealize.ShloMosaic.TcCoe Idealize.SL.Sem

/-- The rows of `dz` against the rows of `w`. -/
def gC (w : S2048x2048.Idx → EReal) (dz : S8192x2048.Idx → EReal) (i : S8192x2048.Idx) : EReal :=
  ∑ k : Fin 2048, dz (ix2 (i 0) k) * w (ix2 (i 1) k)

theorem pay1_apply (x0 x1 : Vec Ideal S1024x2048 .bf16) (r s : Fin 1024) :
    k0_pay1 x0 x1 (ix2 r s) = ∑ k : Fin 2048, x0 (ix2 r k) * x1 (ix2 s k) := by
  unfold k0_pay1
  pointwise

/-- Which block each window stages at a point. -/
theorem idx : ∀ t : Fin cfg0.N,
    win0_0.index t = ![t.val / 2, 0] ∧ win0_1.index t = ![t.val % 2, 0]
    ∧ win0_2.index t = ![t.val / 2, t.val % 2] :=
  (by decide +kernel : ∀ t : Fin grid0.N, _)

/-- The token in row `r` of a point's block. -/
def row (t : Fin cfg0.N) (r : Fin 1024) : Fin 8192 :=
  ⟨t.val / 2 * 1024 + r.val, by have := lt_of_lt_of_eq t.isLt N_0; omega⟩

/-- The row of the projection that gives column `s` of a point's block. -/
def col (t : Fin cfg0.N) (s : Fin 1024) : Fin 2048 := ⟨t.val % 2 * 1024 + s.val, by omega⟩

variable (m : (ℓ : Loc nD τ sig) → Buf (Elt Ideal) ℓ) (c : Dev nD)

theorem dz_read (a : Fin 8192) (k : Fin 2048) :
    (V m c main_v0 : S8192x2048.Idx → EReal) (ix2 a k)
      = (m (c, Proc.devRef .tc main_arg2) : S8192x2048.Idx → EReal) (ix2 a k) := by
  unfold V
  after_reads_at

theorem w_read (b k : Fin 2048) :
    (V m c main_v1 : S2048x2048.Idx → EReal) (ix2 b k)
      = (m (c, Proc.devRef .tc main_arg1) : S2048x2048.Idx → EReal) (ix2 b k) := by
  unfold V
  after_reads_at

theorem dz_blk (t : Fin cfg0.N) (r : Fin 1024) (k : Fin 2048) :
    (iblk m c 0 t : Vec Ideal S1024x2048 .bf16) (ix2 r k)
      = (V m c main_v0 : S8192x2048.Idx → EReal) (ix2 (row t r) k) := by
  have h := idx t
  blk_ext [iblk, h, row]

theorem w_blk (t : Fin cfg0.N) (s : Fin 1024) (k : Fin 2048) :
    (iblk m c 1 t : Vec Ideal S1024x2048 .bf16) (ix2 s k)
      = (V m c main_v1 : S2048x2048.Idx → EReal) (ix2 (col t s) k) := by
  have h := idx t
  blk_ext [iblk, h, col]

theorem emb_2 (t : Fin cfg0.N) (r s : Fin 1024) : (ix2 (row t r) (col t s) : S8192x2048.Idx)
    = (win0_2.blk t).view.emb (ix2 r s : S1024x1024.Idx) := by
  have h := idx t
  blk_ext [h, row, col]

theorem c_emb (t : Fin cfg0.N) (y : S1024x1024.Idx) :
    (out0_2 (iblk m c 0 t) (iblk m c 1 t) : Vec Ideal S1024x1024 .f32) y
      = gC (m (c, Proc.devRef .tc main_arg1)) (m (c, Proc.devRef .tc main_arg2))
          ((win0_2.blk t).view.emb y) := by
  obtain ⟨r, s, rfl⟩ : ∃ (r s : Fin 1024), y = (ix2 r s : S1024x1024.Idx) :=
    ⟨y 0, y 1, by ext i; fin_cases i <;> rfl⟩
  rw [← emb_2 t r s]
  unfold out0_2
  frame_out
  refine (pay1_apply _ _ r s).trans (Finset.sum_congr rfl fun k _ => ?_)
  rw [dz_blk, w_blk, dz_read, w_read]
  rfl

theorem c_array : (dats m 0 c).arrAt 2 cfg0.N
    = gC (m (c, Proc.devRef .tc main_arg1)) (m (c, Proc.devRef .tc main_arg2)) := by
  refine (dats m 0 c).arrAt_eq_of_covers 2 _ (by decide +kernel) fun t hf y => ?_
  blk_simp
  rw [after0_2]
  exact c_emb m c t y

end Cert.OutDgradIdeal.Mixer

namespace Cert.OutDgradRefIdeal.Mixer
open Cert.OutDgradRefIdeal Cert.OutDgradRefIdeal.Read Idealize.ShloMosaic
open Idealize.ShloMosaic.TcCoe Idealize.SL.Sem
open Cert.OutDgradIdeal.Mixer (gC)

/-- The reference's result is the same product. -/
theorem ref_c (w : FVec Ideal S2048x2048 .f32) (dz : FVec Ideal S8192x2048 .f32) :
    val_main_v1 (F := Ideal) w dz = gC w dz := by
  funext i
  obtain ⟨a, b, rfl⟩ : ∃ (a : Fin 8192) (b : Fin 2048), i = ix2 a b :=
    ⟨i 0, i 1, by ext k; fin_cases k <;> rfl⟩
  unfold val_main_v1
  pointwise [gC]

end Cert.OutDgradRefIdeal.Mixer
-- ==== Proof.ProjWgrad.lean ====
module

public import proofs.«01_k».proof.Proof.Gen.InWgradIdeal.Value
public import proofs.«01_k».proof.Proof.Gen.InWgradRefIdeal.Run
public import proofs.«01_k».proof.Proof.Gen.InWgradRefIdeal.Read
public import proofs.«01_k».proof.Proof.Gen.OutWgradIdeal.Value
public import proofs.«01_k».proof.Proof.Gen.OutWgradRefIdeal.Run
public import proofs.«01_k».proof.Proof.Gen.OutWgradRefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The gradients of the two projections' weights

The rows that entered the projection against the gradient that came out of it, summed over the 8192
tokens.  Four consecutive points of the grid share a block of the result: the first starts from
zero, each adds the products of its 2048 tokens, and the last writes the sum to the block. -/

noncomputable section

namespace Cert.InWgradIdeal.Mixer
open Cert.InWgradIdeal Cert.InWgradIdeal.Gen Idealize.ShloMosaic
open Idealize.ShloMosaic.TcCoe Idealize.SL.Sem

/-- The gradient of the input projection's weight. -/
def gW (x : S8192x2048.Idx → EReal) (dh : S8192x3200.Idx → EReal) (i : S2048x3200.Idx) : EReal :=
  ∑ a : Fin 8192, x (ix2 a (i 0)) * dh (ix2 a (i 1))

/-- What token `a` contributes at a row and a column. -/
def term (x : S8192x2048.Idx → EReal) (dh : S8192x3200.Idx → EReal) (a : Fin 8192) (b : Fin 2048)
    (k : Fin 3200) : EReal := x (ix2 a b) * dh (ix2 a k)

theorem pay1_apply (r : Fin 1024) (s : Fin 640) :
    (k0_pay1 : FVec Ideal S1024x640 .f32) (ix2 r s) = 0 := by
  unfold k0_pay1
  pointwise

theorem pay2_apply (p : Vec Ideal S1024x640 .f32) (x0 : Vec Ideal S2048x1024 .bf16)
    (x1 : Vec Ideal S2048x640 .bf16) (r : Fin 1024) (s : Fin 640) :
    k0_pay2 p x0 x1 (ix2 r s) = p (ix2 r s) + ∑ k : Fin 2048, x0 (ix2 k r) * x1 (ix2 k s) := by
  unfold k0_pay2
  pointwise

/-- Which block each window stages at a point. -/
theorem idx : ∀ t : Fin cfg0.N,
    win0_0.index t = ![t.val % 4, t.val / 20] ∧ win0_1.index t = ![t.val % 4, t.val / 4 % 5]
    ∧ win0_2.index t = ![t.val / 20, t.val / 4 % 5] :=
  (by decide +kernel : ∀ t : Fin grid0.N, _)

/-- Token `k` of a point's part of the tokens. -/
def tok (t : Fin cfg0.N) (k : Fin 2048) : Fin 8192 := ⟨t.val % 4 * 2048 + k.val, by omega⟩

/-- The input coordinate in row `r` of a point's block. -/
def row (t : Fin cfg0.N) (r : Fin 1024) : Fin 2048 :=
  ⟨t.val / 20 * 1024 + r.val, by have := lt_of_lt_of_eq t.isLt N_0; omega⟩

/-- The column of the projection in column `s` of a point's block. -/
def col (t : Fin cfg0.N) (s : Fin 640) : Fin 3200 := ⟨t.val / 4 % 5 * 640 + s.val, by omega⟩

variable (m : (ℓ : Loc nD τ sig) → Buf (Elt Ideal) ℓ) (c : Dev nD)

theorem x_blk (t : Fin cfg0.N) (k : Fin 2048) (r : Fin 1024) :
    (iblk m c 0 t : Vec Ideal S2048x1024 .bf16) (ix2 k r)
      = (m (c, Proc.devRef .tc main_arg0) : S8192x2048.Idx → EReal) (ix2 (tok t k) (row t r)) := by
  have h := idx t
  have e : (iblk m c 0 t : Vec Ideal S2048x1024 .bf16) (ix2 k r)
      = (V m c main_v0 : S8192x2048.Idx → EReal) (ix2 (tok t k) (row t r)) := by
    blk_ext [iblk, h, tok, row]
  rw [e]
  unfold V
  after_reads_at

theorem dh_blk (t : Fin cfg0.N) (k : Fin 2048) (s : Fin 640) :
    (iblk m c 1 t : Vec Ideal S2048x640 .bf16) (ix2 k s)
      = (m (c, Proc.devRef .tc main_arg2) : S8192x3200.Idx → EReal) (ix2 (tok t k) (col t s)) := by
  have h := idx t
  have e : (iblk m c 1 t : Vec Ideal S2048x640 .bf16) (ix2 k s)
      = (V m c main_v1 : S8192x3200.Idx → EReal) (ix2 (tok t k) (col t s)) := by
    blk_ext [iblk, h, tok, col]
  rw [e]
  unfold V
  after_reads_at

theorem emb_2 (t : Fin cfg0.N) (r : Fin 1024) (s : Fin 640) :
    (ix2 (row t r) (col t s) : S2048x3200.Idx)
      = (win0_2.blk t).view.emb (ix2 r s : S1024x640.Idx) := by
  have h := idx t
  blk_ext [h, row, col]

/-- What a point's tokens contribute to its block. -/
def add (t : Fin cfg0.N) (r : Fin 1024) (s : Fin 640) : EReal :=
  ∑ k : Fin 2048, term (m (c, Proc.devRef .tc main_arg0)) (m (c, Proc.devRef .tc main_arg2))
    (tok t k) (row t r) (col t s)

theorem step_apply (t : Fin cfg0.N) (p : Vec Ideal S1024x640 .f32) (r : Fin 1024) (s : Fin 640) :
    k0_pay2 p (iblk m c 0 t : Vec Ideal S2048x1024 .bf16) (iblk m c 1 t : Vec Ideal S2048x640 .bf16)
      (ix2 r s) = p (ix2 r s) + add m c t r s := by
  rw [pay2_apply, add]
  refine congrArg (_ + ·) (Finset.sum_congr rfl fun k _ => ?_)
  rw [x_blk, dh_blk, term]

/-- The first point of four leaves its tokens' contribution in the scratch. -/
theorem sc_A (t : Fin cfg0.N) (ht : t.val % 4 = 0) (y : S1024x640.Idx) :
    (outsAt0 m c t.val t.isLt).2 y = add m c t (y 0) (y 1) := by
  obtain ⟨r, s, rfl⟩ : ∃ (r : Fin 1024) (s : Fin 640), y = (ix2 r s : S1024x640.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point adds to what the scratch held. -/
theorem sc_B (t : Fin cfg0.N) (ht : ¬t.val % 4 = 0) (y : S1024x640.Idx) :
    (outsAt0 m c t.val t.isLt).2 y
      = (outsAt0 m c (t.val - 1) (by omega)).2 y + add m c t (y 0) (y 1) := by
  obtain ⟨r, s, rfl⟩ : ∃ (r : Fin 1024) (s : Fin 640), y = (ix2 r s : S1024x640.Idx) :=
    ⟨y 0, y 1, by ext i; fin_cases i <;> rfl⟩
  by_cases h1 : t.val % 4 = 3
  · rw [outsAt0_C m c t ht h1]
    frame_open
    simp (disch := decide) only [↓ View.readCov_skip, ↓ View.readCov_cons_toLoadRect,
      ↓ View.readCov_fill]
    frame_out
    rw [read_unread_whole]
    exact step_apply m c t _ r s
  · rw [outsAt0_B m c t ht h1]
    frame_open
    simp (disch := decide) only [↓ View.readCov_skip, ↓ View.readCov_cons_toLoadRect,
      ↓ View.readCov_fill]
    frame_out
    rw [read_unread_whole]
    exact step_apply m c t _ r s

/-- The last point of four writes the scratch to the block. -/
theorem out_C (t : Fin cfg0.N) (ht : t.val % 4 = 4 - 1) (y : S1024x640.Idx) :
    (outsAt0 m c t.val t.isLt).1 y = (outsAt0 m c t.val t.isLt).2 y := by
  rw [outsAt0_C m c t (by omega) ht]
  frame_open
  simp (disch := decide) only [↓ View.readCov_skip, ↓ View.readCov_cons_toLoadRect,
    ↓ View.readCov_fill]
  frame_out

/-- The four points' tokens are all tokens. -/
theorem sum_tokens (t : Fin cfg0.N) (ht : t.val % 4 = 4 - 1)
    (f : Fin 8192 → Fin 2048 → Fin 3200 → EReal) (r : Fin 1024) (s : Fin 640) :
    ∑ j : Fin 4, ∑ k : Fin 2048,
        f (tok ⟨4 * (t.val / 4) + j.val, Pipeline.run_point_lt_of_flush t ht j⟩ k)
          (row ⟨4 * (t.val / 4) + j.val, Pipeline.run_point_lt_of_flush t ht j⟩ r)
          (col ⟨4 * (t.val / 4) + j.val, Pipeline.run_point_lt_of_flush t ht j⟩ s)
      = ∑ a, f a (row t r) (col t s) := by
  refine Fin.sum_mul_add_congr fun j k hl => ?_
  congr 1 <;> refine Fin.ext ?_ <;> simp only [tok, row, col] <;> omega

theorem w_emb (t : Fin cfg0.N) (ht : t.val % 4 = 4 - 1) (y : S1024x640.Idx) :
    (outsAt0 m c t.val t.isLt).1 y
      = gW (m (c, Proc.devRef .tc main_arg0)) (m (c, Proc.devRef .tc main_arg2))
          ((win0_2.blk t).view.emb y) := by
  obtain ⟨r, s, rfl⟩ : ∃ (r : Fin 1024) (s : Fin 640), y = (ix2 r s : S1024x640.Idx) :=
    ⟨y 0, y 1, by ext i; fin_cases i <;> rfl⟩
  rw [← emb_2 t r s, out_C m c t ht, Pipeline.eq_sum_fin_of_reset_step_apply_of_flush (M := EReal)
    (fun n h => (outsAt0 m c n h).2) 4 (fun _ => 0) (fun t y => add m c t (y 0) (y 1))
    (fun t ht y => by rw [zero_add]; exact sc_A m c t ht y)
    (fun t ht y => sc_B m c t ht y) t ht, zero_add]
  exact sum_tokens t ht (term (m (c, Proc.devRef .tc main_arg0)) (m (c, Proc.devRef .tc main_arg2))) r s

theorem w_array : (dats m 0 c).arrAt 2 cfg0.N
    = gW (m (c, Proc.devRef .tc main_arg0)) (m (c, Proc.devRef .tc main_arg2)) := by
  refine (dats m 0 c).arrAt_eq_of_covers 2 _ (by decide +kernel) fun t hf y => ?_
  blk_simp
  rw [after0_2]
  exact w_emb m c t ((flush0_2 t).mp hf) y

end Cert.InWgradIdeal.Mixer

namespace Cert.InWgradRefIdeal.Mixer
open Cert.InWgradRefIdeal Cert.InWgradRefIdeal.Gen Cert.InWgradRefIdeal.Read
open Idealize.ShloMosaic
open Idealize.ShloMosaic.TcCoe Idealize.SL.Sem
open Cert.InWgradIdeal.Mixer (gW)

/-- The reference multiplies in the other order and transposes. -/
theorem ref_w (x : FVec Ideal S8192x2048 .f32) (dh : FVec Ideal S8192x3200 .f32) :
    val_main_v2 (F := Ideal) x dh = gW x dh := by
  funext i
  obtain ⟨b, k, rfl⟩ : ∃ (b : Fin 2048) (k : Fin 3200), i = ix2 b k :=
    ⟨i 0, i 1, by ext k; fin_cases k <;> rfl⟩
  have e : val_main_v2 (F := Ideal) x dh (ix2 b k) = ∑ a : Fin 8192, dh (ix2 a k) * x (ix2 a b) := by
    unfold val_main_v2 val_main_v1
    pointwise
  exact e.trans (Finset.sum_congr rfl fun a _ => mul_comm _ _)

end Cert.InWgradRefIdeal.Mixer

namespace Cert.OutWgradIdeal.Mixer
open Cert.OutWgradIdeal Cert.OutWgradIdeal.Gen Idealize.ShloMosaic
open Idealize.ShloMosaic.TcCoe Idealize.SL.Sem

/-- The gradient of the output projection's weight. -/
def gW (x dz : S8192x2048.Idx → EReal) (i : S2048x2048.Idx) : EReal :=
  ∑ a : Fin 8192, x (ix2 a (i 0)) * dz (ix2 a (i 1))

/-- What token `a` contributes at a row and a column. -/
def term (x dz : S8192x2048.Idx → EReal) (a : Fin 8192) (b k : Fin 2048) : EReal :=
  x (ix2 a b) * dz (ix2 a k)

theorem pay1_apply (r s : Fin 1024) : (k0_pay1 : FVec Ideal S1024x1024 .f32) (ix2 r s) = 0 := by
  unfold k0_pay1
  pointwise

theorem pay2_apply (p : Vec Ideal S1024x1024 .f32) (x0 x1 : Vec Ideal S2048x1024 .bf16)
    (r s : Fin 1024) :
    k0_pay2 p x0 x1 (ix2 r s) = p (ix2 r s) + ∑ k : Fin 2048, x0 (ix2 k r) * x1 (ix2 k s) := by
  unfold k0_pay2
  pointwise

/-- Which block each window stages at a point. -/
theorem idx : ∀ t : Fin cfg0.N,
    win0_0.index t = ![t.val % 4, t.val / 8] ∧ win0_1.index t = ![t.val % 4, t.val / 4 % 2]
    ∧ win0_2.index t = ![t.val / 8, t.val / 4 % 2] :=
  (by decide +kernel : ∀ t : Fin grid0.N, _)

/-- Token `k` of a point's part of the tokens. -/
def tok (t : Fin cfg0.N) (k : Fin 2048) : Fin 8192 := ⟨t.val % 4 * 2048 + k.val, by omega⟩

/-- The coordinate of the concatenated heads in row `r` of a point's block. -/
def row (t : Fin cfg0.N) (r : Fin 1024) : Fin 2048 :=
  ⟨t.val / 8 * 1024 + r.val, by have := lt_of_lt_of_eq t.isLt N_0; omega⟩

/-- The output coordinate in column `s` of a point's block. -/
def col (t : Fin cfg0.N) (s : Fin 1024) : Fin 2048 := ⟨t.val / 4 % 2 * 1024 + s.val, by omega⟩

variable (m : (ℓ : Loc nD τ sig) → Buf (Elt Ideal) ℓ) (c : Dev nD)

theorem x_blk (t : Fin cfg0.N) (k : Fin 2048) (r : Fin 1024) :
    (iblk m c 0 t : Vec Ideal S2048x1024 .bf16) (ix2 k r)
      = (m (c, Proc.devRef .tc main_arg0) : S8192x2048.Idx → EReal) (ix2 (tok t k) (row t r)) := by
  have h := idx t
  have e : (iblk m c 0 t : Vec Ideal S2048x1024 .bf16) (ix2 k r)
      = (V m c main_v0 : S8192x2048.Idx → EReal) (ix2 (tok t k) (row t r)) := by
    blk_ext [iblk, h, tok, row]
  rw [e]
  unfold V
  after_reads_at

theorem dz_blk (t : Fin cfg0.N) (k : Fin 2048) (s : Fin 1024) :
    (iblk m c 1 t : Vec Ideal S2048x1024 .bf16) (ix2 k s)
      = (m (c, Proc.devRef .tc main_arg2) : S8192x2048.Idx → EReal) (ix2 (tok t k) (col t s)) := by
  have h := idx t
  have e : (iblk m c 1 t : Vec Ideal S2048x1024 .bf16) (ix2 k s)
      = (V m c main_v1 : S8192x2048.Idx → EReal) (ix2 (tok t k) (col t s)) := by
    blk_ext [iblk, h, tok, col]
  rw [e]
  unfold V
  after_reads_at

theorem emb_2 (t : Fin cfg0.N) (r s : Fin 1024) : (ix2 (row t r) (col t s) : S2048x2048.Idx)
    = (win0_2.blk t).view.emb (ix2 r s : S1024x1024.Idx) := by
  have h := idx t
  blk_ext [h, row, col]

/-- What a point's tokens contribute to its block. -/
def add (t : Fin cfg0.N) (r s : Fin 1024) : EReal :=
  ∑ k : Fin 2048, term (m (c, Proc.devRef .tc main_arg0)) (m (c, Proc.devRef .tc main_arg2))
    (tok t k) (row t r) (col t s)

theorem step_apply (t : Fin cfg0.N) (p : Vec Ideal S1024x1024 .f32) (r s : Fin 1024) :
    k0_pay2 p (iblk m c 0 t : Vec Ideal S2048x1024 .bf16) (iblk m c 1 t : Vec Ideal S2048x1024 .bf16)
      (ix2 r s) = p (ix2 r s) + add m c t r s := by
  rw [pay2_apply, add]
  refine congrArg (_ + ·) (Finset.sum_congr rfl fun k _ => ?_)
  rw [x_blk, dz_blk, term]

/-- The first point of four leaves its tokens' contribution in the scratch. -/
theorem sc_A (t : Fin cfg0.N) (ht : t.val % 4 = 0) (y : S1024x1024.Idx) :
    (outsAt0 m c t.val t.isLt).2 y = add m c t (y 0) (y 1) := by
  obtain ⟨r, s, rfl⟩ : ∃ (r s : Fin 1024), y = (ix2 r s : S1024x1024.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point adds to what the scratch held. -/
theorem sc_B (t : Fin cfg0.N) (ht : ¬t.val % 4 = 0) (y : S1024x1024.Idx) :
    (outsAt0 m c t.val t.isLt).2 y
      = (outsAt0 m c (t.val - 1) (by omega)).2 y + add m c t (y 0) (y 1) := by
  obtain ⟨r, s, rfl⟩ : ∃ (r s : Fin 1024), y = (ix2 r s : S1024x1024.Idx) :=
    ⟨y 0, y 1, by ext i; fin_cases i <;> rfl⟩
  by_cases h1 : t.val % 4 = 3
  · rw [outsAt0_C m c t ht h1]
    frame_open
    simp (disch := decide) only [↓ View.readCov_skip, ↓ View.readCov_cons_toLoadRect,
      ↓ View.readCov_fill]
    frame_out
    rw [read_unread_whole]
    exact step_apply m c t _ r s
  · rw [outsAt0_B m c t ht h1]
    frame_open
    simp (disch := decide) only [↓ View.readCov_skip, ↓ View.readCov_cons_toLoadRect,
      ↓ View.readCov_fill]
    frame_out
    rw [read_unread_whole]
    exact step_apply m c t _ r s

/-- The last point of four writes the scratch to the block. -/
theorem out_C (t : Fin cfg0.N) (ht : t.val % 4 = 4 - 1) (y : S1024x1024.Idx) :
    (outsAt0 m c t.val t.isLt).1 y = (outsAt0 m c t.val t.isLt).2 y := by
  rw [outsAt0_C m c t (by omega) ht]
  frame_open
  simp (disch := decide) only [↓ View.readCov_skip, ↓ View.readCov_cons_toLoadRect,
    ↓ View.readCov_fill]
  frame_out

/-- The four points' tokens are all tokens. -/
theorem sum_tokens (t : Fin cfg0.N) (ht : t.val % 4 = 4 - 1)
    (f : Fin 8192 → Fin 2048 → Fin 2048 → EReal) (r s : Fin 1024) :
    ∑ j : Fin 4, ∑ k : Fin 2048,
        f (tok ⟨4 * (t.val / 4) + j.val, Pipeline.run_point_lt_of_flush t ht j⟩ k)
          (row ⟨4 * (t.val / 4) + j.val, Pipeline.run_point_lt_of_flush t ht j⟩ r)
          (col ⟨4 * (t.val / 4) + j.val, Pipeline.run_point_lt_of_flush t ht j⟩ s)
      = ∑ a, f a (row t r) (col t s) := by
  refine Fin.sum_mul_add_congr fun j k hl => ?_
  congr 1 <;> refine Fin.ext ?_ <;> simp only [tok, row, col] <;> omega

theorem w_emb (t : Fin cfg0.N) (ht : t.val % 4 = 4 - 1) (y : S1024x1024.Idx) :
    (outsAt0 m c t.val t.isLt).1 y
      = gW (m (c, Proc.devRef .tc main_arg0)) (m (c, Proc.devRef .tc main_arg2))
          ((win0_2.blk t).view.emb y) := by
  obtain ⟨r, s, rfl⟩ : ∃ (r s : Fin 1024), y = (ix2 r s : S1024x1024.Idx) :=
    ⟨y 0, y 1, by ext i; fin_cases i <;> rfl⟩
  rw [← emb_2 t r s, out_C m c t ht, Pipeline.eq_sum_fin_of_reset_step_apply_of_flush (M := EReal)
    (fun n h => (outsAt0 m c n h).2) 4 (fun _ => 0) (fun t y => add m c t (y 0) (y 1))
    (fun t ht y => by rw [zero_add]; exact sc_A m c t ht y)
    (fun t ht y => sc_B m c t ht y) t ht, zero_add]
  exact sum_tokens t ht (term (m (c, Proc.devRef .tc main_arg0)) (m (c, Proc.devRef .tc main_arg2))) r s

theorem w_array : (dats m 0 c).arrAt 2 cfg0.N
    = gW (m (c, Proc.devRef .tc main_arg0)) (m (c, Proc.devRef .tc main_arg2)) := by
  refine (dats m 0 c).arrAt_eq_of_covers 2 _ (by decide +kernel) fun t hf y => ?_
  blk_simp
  rw [after0_2]
  exact w_emb m c t ((flush0_2 t).mp hf) y

end Cert.OutWgradIdeal.Mixer

namespace Cert.OutWgradRefIdeal.Mixer
open Cert.OutWgradRefIdeal Cert.OutWgradRefIdeal.Gen Cert.OutWgradRefIdeal.Read
open Idealize.ShloMosaic
open Idealize.ShloMosaic.TcCoe Idealize.SL.Sem
open Cert.OutWgradIdeal.Mixer (gW)

/-- The reference multiplies in the other order and transposes. -/
theorem ref_w (x dz : FVec Ideal S8192x2048 .f32) : val_main_v2 (F := Ideal) x dz = gW x dz := by
  funext i
  obtain ⟨b, k, rfl⟩ : ∃ (b k : Fin 2048), i = ix2 b k := ⟨i 0, i 1, by ext k; fin_cases k <;> rfl⟩
  have e : val_main_v2 (F := Ideal) x dz (ix2 b k) = ∑ a : Fin 8192, dz (ix2 a k) * x (ix2 a b) := by
    unfold val_main_v2 val_main_v1
    pointwise
  exact e.trans (Finset.sum_congr rfl fun a _ => mul_comm _ _)

end Cert.OutWgradRefIdeal.Mixer
-- ==== Proof.Glu.lean ====
module

public import proofs.«01_k».proof.Proof.Gen.GluBwdIdeal.Value
public import proofs.«01_k».proof.Proof.Gen.GluBwdRefIdeal.Run
public import proofs.«01_k».proof.Proof.Gen.GluBwdRefIdeal.Read
public import Idealize.ShloMosaic.Lib.Pipeline.ValueKit
public import Idealize.ShloMosaic.Lib.Pipeline.ReadBack
public import Idealize.ShloMosaic.Lib.StableHlo.ReadAt

@[expose] public section
set_option maxRecDepth 16384

/-! # The gradient of the gated linear unit

The first 1024 columns of the input are gated by the sigmoid of the last 1024.  A point of the grid
takes 512 rows, and stores the two halves of their gradient side by side. -/

noncomputable section

namespace Cert.GluBwdIdeal.Gate
open Cert.GluBwdIdeal Cert.GluBwdIdeal.Gen Idealize.ShloMosaic
open Idealize.ShloMosaic.TcCoe Idealize.SL.Sem

theorem one_bits : Ideal.ofBits .f32 0x3F800000#32 = (1 : EReal) := by
  pointwise

/-- The sigmoid. -/
def sgm (x : EReal) : EReal := Ideal.div 1 (1 + Ideal.exp (-x))

/-- The gradient of a gated entry, from its cotangent and its gate. -/
def dA (d g : EReal) : EReal := d * sgm g

/-- The gradient of a gate, from the cotangent, the gated entry and the gate. -/
def dG (d a g : EReal) : EReal := d * a * sgm g * (1 - sgm g)

/-- Column `b` of the first half. -/
def lo (b : Fin 1024) : Fin 2048 := ⟨0 + b.val, by omega⟩

/-- Column `b` of the second half. -/
def hi (b : Fin 1024) : Fin 2048 := ⟨1024 + b.val, by omega⟩

/-- Two halves of a row, side by side. -/
def both (p q : Fin 1024 → EReal) (b : Fin 2048) : EReal :=
  if h : b.val < 1024 then p ⟨b.val, h⟩ else q ⟨b.val - 1024, by omega⟩

theorem both_lo (p q : Fin 1024 → EReal) (b : Fin 1024) : both p q (lo b) = p b := by
  have h : (lo b).val < 1024 := by simp [lo]
  rw [both, dif_pos h]
  exact congrArg p (Fin.ext (Nat.zero_add _))

theorem both_hi (p q : Fin 1024 → EReal) (b : Fin 1024) : both p q (hi b) = q b := by
  have h : ¬ (hi b).val < 1024 := by simp [hi]
  rw [both, dif_neg h]
  exact congrArg q (Fin.ext (Nat.add_sub_cancel_left _ _))

/-- The gradient as an array. -/
def gU (h : S8192x2048.Idx → EReal) (d : S8192x1024.Idx → EReal) (i : S8192x2048.Idx) : EReal :=
  both (fun b => dA (d (ix2 (i 0) b)) (h (ix2 (i 0) (hi b))))
    (fun b => dG (d (ix2 (i 0) b)) (h (ix2 (i 0) (lo b))) (h (ix2 (i 0) (hi b)))) (i 1)

/-! ## One point -/

theorem sgm_apply (g : Vec Ideal S512x1024 .f32) (i : S512x1024.Idx) :
    k0_pay1 g i = sgm (g i) := by
  unfold k0_pay1
  pointwise [sgm]
  rw [zero_sub]

theorem a_apply (g d : Vec Ideal S512x1024 .f32) (i : S512x1024.Idx) :
    k0_pay2 g d i = dA (d i) (g i) := by
  unfold k0_pay2
  show d i * k0_pay1 g i = _
  rw [sgm_apply, dA]

theorem g_apply (g d a : Vec Ideal S512x1024 .f32) (i : S512x1024.Idx) :
    k0_pay3 g d a i = dG (d i) (a i) (g i) := by
  unfold k0_pay3
  show d i * a i * k0_pay1 g i * (Ideal.ofBits .f32 0x3F800000#32 - k0_pay1 g i) = _
  rw [sgm_apply, dG, one_bits]

theorem emb_lo (inb) (r : Fin 512) (b : Fin 1024) :
    (Rect.unit (s := S512x2048) ![0, 0] ![512, 1024] inb).emb (ix2 r b)
      = (ix2 r (lo b) : S512x2048.Idx) := by
  funext a
  refine Fin.ext ((Rect.idx_unit_val _ _ inb _ a).trans ?_)
  fin_cases a <;> simp [lo]

theorem emb_hi (inb) (r : Fin 512) (b : Fin 1024) :
    (Rect.unit (s := S512x2048) ![0, 1024] ![512, 1024] inb).emb (ix2 r b)
      = (ix2 r (hi b) : S512x2048.Idx) := by
  funext a
  refine Fin.ext ((Rect.idx_unit_val _ _ inb _ a).trans ?_)
  fin_cases a <;> simp [hi]

/-- The gradient in a block. -/
def blk (x0 x1 x2 : Vec Ideal S512x1024 .f32) (y : S512x2048.Idx) : EReal :=
  both (fun b => dA (x0 (ix2 (y 0) b)) (x2 (ix2 (y 0) b)))
    (fun b => dG (x0 (ix2 (y 0) b)) (x1 (ix2 (y 0) b)) (x2 (ix2 (y 0) b))) (y 1)

theorem half_lo (x0 x1 x2 : Vec Ideal S512x1024 .f32) (r : Fin 512) (b : Fin 1024) :
    blk x0 x1 x2 (ix2 r (lo b)) = dA (x0 (ix2 r b)) (x2 (ix2 r b)) :=
  both_lo (fun b => dA (x0 (ix2 r b)) (x2 (ix2 r b)))
    (fun b => dG (x0 (ix2 r b)) (x1 (ix2 r b)) (x2 (ix2 r b))) b

theorem half_hi (x0 x1 x2 : Vec Ideal S512x1024 .f32) (r : Fin 512) (b : Fin 1024) :
    blk x0 x1 x2 (ix2 r (hi b)) = dG (x0 (ix2 r b)) (x1 (ix2 r b)) (x2 (ix2 r b)) :=
  both_hi (fun b => dA (x0 (ix2 r b)) (x2 (ix2 r b)))
    (fun b => dG (x0 (ix2 r b)) (x1 (ix2 r b)) (x2 (ix2 r b))) b

/-- What a point leaves in its block. -/
theorem pieces (x0 x1 x2 : Vec Ideal S512x1024 .f32) (y : S512x2048.Idx) :
    out0_3 x0 x1 x2 y = blk x0 x1 x2 y := by
  unfold out0_3
  frame_out
  refine (View.canon_append_of_piecesOf (blk x0 x1 x2) []
    [_, _] ?_ y (View.cover_of_tiled_head _ _ _ rfl y)).trans ?_
  swap
  · rfl
  refine ⟨fun x => ?_, fun x => ?_, trivial⟩
  all_goals
    obtain ⟨r, b, rfl⟩ : ∃ (r : Fin 512) (b : Fin 1024), x = ix2 r b :=
      ⟨x 0, x 1, by ext i; fin_cases i <;> rfl⟩
  · exact (g_apply x2 x0 x1 (ix2 r b)).trans (by rw [emb_hi]; exact (half_hi x0 x1 x2 r b).symm)
  · exact (a_apply x2 x0 (ix2 r b)).trans (by rw [emb_lo]; exact (half_lo x0 x1 x2 r b).symm)

/-! ## The array -/

/-- Which block each window stages at a point. -/
theorem idx : ∀ t : Fin cfg0.N,
    win0_0.index t = ![t.val, 0] ∧ win0_1.index t = ![t.val, 0] ∧ win0_2.index t = ![t.val, 1]
    ∧ win0_3.index t = ![t.val, 0] :=
  (by decide +kernel : ∀ t : Fin grid0.N, _)

/-- The row of the arrays in row `r` of a point's blocks. -/
def row (t : Fin cfg0.N) (r : Fin 512) : Fin 8192 :=
  ⟨t.val * 512 + r.val, by have := lt_of_lt_of_eq t.isLt N_0; omega⟩

variable (m : (ℓ : Loc nD τ sig) → Buf (Elt Ideal) ℓ) (c : Dev nD)

theorem d_blk (t : Fin cfg0.N) (r : Fin 512) (b : Fin 1024) :
    (iblk m c 0 t : Vec Ideal S512x1024 .f32) (ix2 r b)
      = (V m c main_arg1 : S8192x1024.Idx → EReal) (ix2 (row t r) b) := by
  have h := idx t
  blk_ext [iblk, h, row]

theorem a_blk (t : Fin cfg0.N) (r : Fin 512) (b : Fin 1024) :
    (iblk m c 1 t : Vec Ideal S512x1024 .f32) (ix2 r b)
      = (V m c main_arg0 : S8192x2048.Idx → EReal) (ix2 (row t r) (lo b)) := by
  have h := idx t
  blk_ext [iblk, h, row, lo]

theorem g_blk (t : Fin cfg0.N) (r : Fin 512) (b : Fin 1024) :
    (iblk m c 2 t : Vec Ideal S512x1024 .f32) (ix2 r b)
      = (V m c main_arg0 : S8192x2048.Idx → EReal) (ix2 (row t r) (hi b)) := by
  have h := idx t
  blk_ext [iblk, h, row, hi]

theorem emb_3 (t : Fin cfg0.N) (r : Fin 512) (b : Fin 2048) :
    (ix2 (row t r) b : S8192x2048.Idx) = (win0_3.blk t).view.emb (ix2 r b : S512x2048.Idx) := by
  have h := idx t
  blk_ext [h, row]

theorem u_emb (t : Fin cfg0.N) (y : S512x2048.Idx) :
    (out0_3 (iblk m c 0 t) (iblk m c 1 t) (iblk m c 2 t) : Vec Ideal S512x2048 .bf16) y
      = gU (m (c, Proc.devRef .tc main_arg0)) (m (c, Proc.devRef .tc main_arg1))
          ((win0_3.blk t).view.emb y) := by
  obtain ⟨r, b, rfl⟩ : ∃ (r : Fin 512) (b : Fin 2048), y = (ix2 r b : S512x2048.Idx) :=
    ⟨y 0, y 1, by ext i; fin_cases i <;> rfl⟩
  rw [← emb_3 t r b]
  refine (pieces _ _ _ _).trans ?_
  show both (fun b => dA ((iblk m c 0 t : Vec Ideal S512x1024 .f32) (ix2 r b))
        ((iblk m c 2 t : Vec Ideal S512x1024 .f32) (ix2 r b)))
      (fun b => dG ((iblk m c 0 t : Vec Ideal S512x1024 .f32) (ix2 r b))
        ((iblk m c 1 t : Vec Ideal S512x1024 .f32) (ix2 r b))
        ((iblk m c 2 t : Vec Ideal S512x1024 .f32) (ix2 r b))) b = _
  simp only [d_blk, a_blk, g_blk, V_main_arg0, V_main_arg1]
  rfl

theorem u_array : (dats m 0 c).arrAt 3 cfg0.N
    = gU (m (c, Proc.devRef .tc main_arg0)) (m (c, Proc.devRef .tc main_arg1)) := by
  refine (dats m 0 c).arrAt_eq_of_covers 3 _ (by decide +kernel) fun t hf y => ?_
  blk_simp
  rw [after0_3]
  exact u_emb m c t y

end Cert.GluBwdIdeal.Gate

/-! ## The reference -/

namespace Cert.GluBwdRefIdeal.Gate
open Cert.GluBwdRefIdeal Cert.GluBwdRefIdeal.Read Idealize.ShloMosaic
open Idealize.ShloMosaic.TcCoe Idealize.SL.Sem
open Cert.GluBwdIdeal.Gate (one_bits sgm dA dG lo hi both both_lo both_hi gU)

variable (h : FVec Ideal S8192x2048 .f32) (d : FVec Ideal S8192x1024 .f32)

theorem ref_gate (a : Fin 8192) (b : Fin 1024) :
    val_main_v7 (F := Ideal) h (ix2 a b) = sgm (h (ix2 a (hi b))) := by
  unfold val_main_v7 val_main_v6 val_main_v5 val_main_v4 val_main_v3 val_main_v2 val_main_v1
    val_main_cst val_main_cst_0
  pointwise [sgm, hi]

theorem ref_lo (a : Fin 8192) (b : Fin 1024) :
    val_main_v0 (F := Ideal) h (ix2 a b) = h (ix2 a (lo b)) := by
  unfold val_main_v0
  pointwise [lo]

theorem ref_a (a : Fin 8192) (b : Fin 1024) :
    val_main_v13 (F := Ideal) h d (ix2 a b) = dA (d (ix2 a b)) (h (ix2 a (hi b))) :=
  congrArg (d (ix2 a b) * ·) (ref_gate h a b)

theorem ref_one (i : S8192x1024.Idx) : val_main_v8 (F := Ideal) i = (1 : EReal) := one_bits

theorem ref_g (a : Fin 8192) (b : Fin 1024) :
    val_main_v14 (F := Ideal) h d (ix2 a b)
      = dG (d (ix2 a b)) (h (ix2 a (lo b))) (h (ix2 a (hi b))) := by
  show val_main_v0 (F := Ideal) h (ix2 a b) * d (ix2 a b)
    * (val_main_v7 (F := Ideal) h (ix2 a b)
      * (val_main_v8 (F := Ideal) (ix2 a b) - val_main_v7 (F := Ideal) h (ix2 a b))) = _
  rw [ref_gate, ref_lo, ref_one, dG, mul_comm (h _) (d _), mul_assoc _ (sgm _)]

theorem ref_u : val_main_v16 (F := Ideal) h d = gU h d := by
  funext i
  obtain ⟨a, b, rfl⟩ : ∃ (a : Fin 8192) (b : Fin 2048), i = ix2 a b :=
    ⟨i 0, i 1, by ext k; fin_cases k <;> rfl⟩
  show val_main_v15 (F := Ideal) h d (ix2 a b) = _
  unfold val_main_v15
  by_cases hb : b.val < 1024
  · obtain ⟨b, rfl⟩ : ∃ k : Fin 1024, b = lo k := ⟨⟨b.val, hb⟩, Fin.ext (Nat.zero_add _).symm⟩
    refine (concatenate_pair_apply_left (t := S8192x2048) (s₁ := S8192x1024) (s₂ := S8192x1024) 1 _ _ _ _ rfl (ix2 a b) ?_).trans ?_
    · intro k
      fin_cases k <;> simp [lo]
    · exact (ref_a h d a b).trans (both_lo
        (fun b => dA (d (ix2 a b)) (h (ix2 a (hi b))))
        (fun b => dG (d (ix2 a b)) (h (ix2 a (lo b))) (h (ix2 a (hi b)))) b).symm
  · obtain ⟨b, rfl⟩ : ∃ k : Fin 1024, b = hi k :=
      ⟨⟨b.val - 1024, by omega⟩, Fin.ext (by simp [hi]; omega)⟩
    refine (concatenate_pair_apply_right (t := S8192x2048) (s₁ := S8192x1024) (s₂ := S8192x1024) 1 _ _ _ _ rfl rfl (ix2 a b) ?_ ?_).trans ?_
    · intro k hk
      fin_cases k
      · rfl
      · exact absurd rfl hk
    · exact Nat.add_comm _ _
    · exact (ref_g h d a b).trans (both_hi
        (fun b => dA (d (ix2 a b)) (h (ix2 a (hi b))))
        (fun b => dG (d (ix2 a b)) (h (ix2 a (lo b))) (h (ix2 a (hi b)))) b).symm

end Cert.GluBwdRefIdeal.Gate
-- ==== Proof.HeadWgrad.lean ====
module

public import proofs.«01_k».proof.Proof.Gen.HeadWgradIdeal.Value
public import proofs.«01_k».proof.Proof.Gen.HeadWgradRefIdeal.Run
public import proofs.«01_k».proof.Proof.Gen.HeadWgradRefIdeal.Read
public import Idealize.ShloMosaic.Lib.Pipeline.ValueKit
public import Idealize.ShloMosaic.Lib.Pipeline.ReadBack
public import Idealize.ShloMosaic.Lib.StableHlo.ReadAt
public import Idealize.ShloMosaic.Lib.MatmulPlain

@[expose] public section
set_option maxRecDepth 16384

/-! # The gradient of a latent projection's weight

The latent against the gradient of the heads' columns, summed over the 8192 tokens, one block of 256
columns for each of the eight heads.  Four consecutive points of the grid share a head's block and
sum in a scratch. -/

noncomputable section

namespace Cert.HeadWgradIdeal.Mixer
open Cert.HeadWgradIdeal Cert.HeadWgradIdeal.Gen Idealize.ShloMosaic
open Idealize.ShloMosaic.TcCoe Idealize.SL.Sem

/-- Column `s` of head `j`. -/
def wide (j : Fin 8) (s : Fin 256) : Fin 2048 := ⟨j.val * 256 + s.val, by omega⟩

/-- What token `a` contributes to row `b`, column `e`. -/
def term (x : S8192x512.Idx → EReal) (d : S8192x2048.Idx → EReal) (a : Fin 8192) (b : Fin 512)
    (e : Fin 2048) : EReal := x (ix2 a b) * d (ix2 a e)

/-- The weight's gradient, head by head, as an array. -/
def gW (x : S8192x512.Idx → EReal) (d : S8192x2048.Idx → EReal) (i : S8x512x256.Idx) : EReal :=
  ∑ a : Fin 8192, term x d a (i 1) (wide (i 0) (i 2))

/-! ## One point -/

theorem pay1_apply (r : Fin 512) (s : Fin 256) : (k0_pay1 : FVec Ideal S512x256 .f32) (ix2 r s) = 0 := by
  unfold k0_pay1
  pointwise

theorem pay2_apply (p : Vec Ideal S512x256 .f32) (x0 : Vec Ideal S2048x512 .bf16)
    (x1 : Vec Ideal S2048x256 .bf16) (r : Fin 512) (s : Fin 256) :
    k0_pay2 p x0 x1 (ix2 r s)
      = p (ix2 r s) + ∑ k : Fin 2048, x0 (ix2 k r) * x1 (ix2 k s) := by
  unfold k0_pay2
  pointwise

theorem pay3_apply (p : Vec Ideal S512x256 .f32) (r : Fin 512) (s : Fin 256) :
    k0_pay3 p (ix3 0 r s) = p (ix2 r s) := by
  unfold k0_pay3
  pointwise

/-- Which block each window stages at a point. -/
theorem idx : ∀ t : Fin cfg0.N,
    win0_0.index t = ![t.val % 4, 0] ∧ win0_1.index t = ![t.val % 4, t.val / 4]
    ∧ win0_2.index t = ![t.val / 4, 0, 0] :=
  (by decide +kernel : ∀ t : Fin grid0.N, _)

/-- Token `k` of a point's part of the tokens. -/
def tok (t : Fin cfg0.N) (k : Fin 2048) : Fin 8192 := ⟨t.val % 4 * 2048 + k.val, by omega⟩

/-- The head a point works on. -/
def part (t : Fin cfg0.N) : Fin 8 :=
  ⟨t.val / 4, by have := lt_of_lt_of_eq t.isLt N_0; omega⟩

variable (m : (ℓ : Loc nD τ sig) → Buf (Elt Ideal) ℓ) (c : Dev nD)

theorem x_read (a : Fin 8192) (k : Fin 512) :
    (V m c main_v0 : S8192x512.Idx → EReal) (ix2 a k)
      = (m (c, Proc.devRef .tc main_arg0) : S8192x512.Idx → EReal) (ix2 a k) := by
  unfold V
  after_reads_at

theorem d_read (a : Fin 8192) (b : Fin 2048) :
    (V m c main_v1 : S8192x2048.Idx → EReal) (ix2 a b)
      = (m (c, Proc.devRef .tc main_arg2) : S8192x2048.Idx → EReal) (ix2 a b) := by
  unfold V
  after_reads_at

theorem x_blk (t : Fin cfg0.N) (k : Fin 2048) (r : Fin 512) :
    (iblk m c 0 t : Vec Ideal S2048x512 .bf16) (ix2 k r)
      = (V m c main_v0 : S8192x512.Idx → EReal) (ix2 (tok t k) r) := by
  have h := idx t
  blk_ext [iblk, h, tok]

theorem d_blk (t : Fin cfg0.N) (k : Fin 2048) (s : Fin 256) :
    (iblk m c 1 t : Vec Ideal S2048x256 .bf16) (ix2 k s)
      = (V m c main_v1 : S8192x2048.Idx → EReal) (ix2 (tok t k) (wide (part t) s)) := by
  have h := idx t
  blk_ext [iblk, h, tok, part, wide]

theorem emb_2 (t : Fin cfg0.N) (r : Fin 512) (s : Fin 256) : (ix3 (part t) r s : S8x512x256.Idx)
    = (win0_2.blk t).view.emb (ix3 0 r s : S1x512x256.Idx) := by
  have h := idx t
  blk_ext [h, part]

/-- What a point's tokens contribute to its block. -/
def add (t : Fin cfg0.N) (r : Fin 512) (s : Fin 256) : EReal :=
  ∑ k : Fin 2048, term (m (c, Proc.devRef .tc main_arg0)) (m (c, Proc.devRef .tc main_arg2))
    (tok t k) r (wide (part t) s)

theorem step_apply (t : Fin cfg0.N) (p : Vec Ideal S512x256 .f32) (r : Fin 512) (s : Fin 256) :
    k0_pay2 p (iblk m c 0 t : Vec Ideal S2048x512 .bf16) (iblk m c 1 t : Vec Ideal S2048x256 .bf16)
      (ix2 r s) = p (ix2 r s) + add m c t r s := by
  rw [pay2_apply, add]
  refine congrArg (_ + ·) (Finset.sum_congr rfl fun k _ => ?_)
  rw [x_blk, d_blk, x_read, d_read]
  rfl

/-- The first point of four leaves its tokens' contribution in the scratch. -/
theorem sc_A (t : Fin cfg0.N) (ht : t.val % 4 = 0) (y : S512x256.Idx) :
    (outsAt0 m c t.val t.isLt).2 y = add m c t (y 0) (y 1) := by
  obtain ⟨r, s, rfl⟩ : ∃ (r : Fin 512) (s : Fin 256), y = (ix2 r s : S512x256.Idx) :=
    ⟨y 0, y 1, by ext i; fin_cases i <;> rfl⟩
  rw [outsAt0_A m c t ht (by omega)]
  frame_open
  simp (disch := decide) only [↓ View.readCov_skip, ↓ View.readCov_cons_toLoadRect,
    ↓ View.readCov_fill]
  frame_out
  refine (step_apply m c t _ r s).trans ?_
  rw [pay1_apply, zero_add]
  rfl

/-- A later point adds to what the scratch held. -/
theorem sc_B (t : Fin cfg0.N) (ht : ¬t.val % 4 = 0) (y : S512x256.Idx) :
    (outsAt0 m c t.val t.isLt).2 y
      = (outsAt0 m c (t.val - 1) (by omega)).2 y + add m c t (y 0) (y 1) := by
  obtain ⟨r, s, rfl⟩ : ∃ (r : Fin 512) (s : Fin 256), y = (ix2 r s : S512x256.Idx) :=
    ⟨y 0, y 1, by ext i; fin_cases i <;> rfl⟩
  by_cases h1 : t.val % 4 = 3
  · rw [outsAt0_C m c t ht h1]
    frame_open
    simp (disch := decide) only [↓ View.readCov_skip, ↓ View.readCov_cons_toLoadRect,
      ↓ View.readCov_fill]
    frame_out
    rw [read_unread_whole]
    exact step_apply m c t _ r s
  · rw [outsAt0_B m c t ht h1]
    frame_open
    simp (disch := decide) only [↓ View.readCov_skip, ↓ View.readCov_cons_toLoadRect,
      ↓ View.readCov_fill]
    frame_out
    rw [read_unread_whole]
    exact step_apply m c t _ r s

/-- The last point of four writes the scratch to the block. -/
theorem out_C (t : Fin cfg0.N) (ht : t.val % 4 = 4 - 1) (r : Fin 512) (s : Fin 256) :
    (outsAt0 m c t.val t.isLt).1 (ix3 0 r s : S1x512x256.Idx)
      = (outsAt0 m c t.val t.isLt).2 (ix2 r s) := by
  rw [outsAt0_C m c t (by omega) ht]
  frame_open
  simp (disch := decide) only [↓ View.readCov_skip, ↓ View.readCov_cons_toLoadRect,
    ↓ View.readCov_fill]
  frame_out
  exact pay3_apply _ r s

/-- The four points' tokens are all tokens. -/
theorem sum_tokens (t : Fin cfg0.N) (ht : t.val % 4 = 4 - 1)
    (f : Fin 8192 → Fin 8 → EReal) :
    ∑ j : Fin 4, ∑ k : Fin 2048,
        f (tok ⟨4 * (t.val / 4) + j.val, Pipeline.run_point_lt_of_flush t ht j⟩ k)
          (part ⟨4 * (t.val / 4) + j.val, Pipeline.run_point_lt_of_flush t ht j⟩)
      = ∑ a, f a (part t) := by
  refine Fin.sum_mul_add_congr fun j k hl => ?_
  congr 1 <;> refine Fin.ext ?_ <;> simp only [tok, part] <;> omega

theorem w_at (t : Fin cfg0.N) (ht : t.val % 4 = 4 - 1) (r : Fin 512) (s : Fin 256) :
    (outsAt0 m c t.val t.isLt).1 (ix3 0 r s : S1x512x256.Idx)
      = gW (m (c, Proc.devRef .tc main_arg0)) (m (c, Proc.devRef .tc main_arg2))
          (ix3 (part t) r s) := by
  rw [out_C m c t ht, Pipeline.eq_sum_fin_of_reset_step_apply_of_flush (M := EReal)
    (fun n h => (outsAt0 m c n h).2) 4 (fun _ => 0) (fun t y => add m c t (y 0) (y 1))
    (fun t ht y => by rw [zero_add]; exact sc_A m c t ht y)
    (fun t ht y => sc_B m c t ht y) t ht, zero_add]
  exact sum_tokens t ht (fun a j => term (m (c, Proc.devRef .tc main_arg0))
    (m (c, Proc.devRef .tc main_arg2)) a r (wide j s))

theorem w_emb (t : Fin cfg0.N) (ht : t.val % 4 = 4 - 1) (y : S1x512x256.Idx) :
    (outsAt0 m c t.val t.isLt).1 y
      = gW (m (c, Proc.devRef .tc main_arg0)) (m (c, Proc.devRef .tc main_arg2))
          ((win0_2.blk t).view.emb y) := by
  obtain ⟨a, r, s, rfl⟩ : ∃ (a : Fin 1) (r : Fin 512) (s : Fin 256), y = (ix3 a r s : S1x512x256.Idx) :=
    ⟨y 0, y 1, y 2, by ext i; fin_cases i <;> rfl⟩
  obtain rfl : a = 0 := Subsingleton.elim _ _
  rw [w_at m c t ht, ← emb_2 t r s]

theorem w_array : (dats m 0 c).arrAt 2 cfg0.N
    = gW (m (c, Proc.devRef .tc main_arg0)) (m (c, Proc.devRef .tc main_arg2)) := by
  refine (dats m 0 c).arrAt_eq_of_covers 2 _ (by decide +kernel) fun t hf y => ?_
  blk_simp
  rw [after0_2]
  exact w_emb m c t ((flush0_2 t).mp hf) y

end Cert.HeadWgradIdeal.Mixer

/-! ## The reference -/

namespace Cert.HeadWgradRefIdeal.Mixer
open Cert.HeadWgradRefIdeal Cert.HeadWgradRefIdeal.Gen Cert.HeadWgradRefIdeal.Read
open Idealize.ShloMosaic Idealize.ShloMosaic.TcCoe Idealize.SL.Sem
open Cert.HeadWgradIdeal.Mixer (gW wide)

variable (x : FVec Ideal S8192x512 .f32) (d : FVec Ideal S8192x2048 .f32)

theorem ref_w : val_main_v4 (F := Ideal) x d = gW x d := by
  funext i
  obtain ⟨j, k, s, rfl⟩ : ∃ (j : Fin 8) (k : Fin 512) (s : Fin 256), i = ix3 j k s :=
    ⟨i 0, i 1, i 2, by ext k; fin_cases k <;> rfl⟩
  unfold val_main_v4 val_main_v3 val_main_v2 val_main_v1
  pointwise
  refine Finset.sum_congr rfl fun a _ => mul_comm _ _

end Cert.HeadWgradRefIdeal.Mixer
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FlashFwd
public import proofs.«01_k».proof.Proof.Gen.FlashFwd.Skeleton
public import proofs.«01_k».proof.Proof.Gen.FlashFwd.Launch
public import proofs.«01_k».proof.Proof.Gen.FlashFwd.Points
public import proofs.«01_k».proof.Proof.Gen.FlashFwd.Frame
public import proofs.«01_k».proof.Proof.Gen.FlashFwdIdeal
public import proofs.«01_k».proof.Proof.Gen.FlashFwdIdeal.Skeleton
public import proofs.«01_k».proof.Proof.Gen.FlashFwdIdeal.Launch
public import proofs.«01_k».proof.Proof.Gen.FlashFwdIdeal.Points
public import proofs.«01_k».proof.Proof.Gen.FlashFwdIdeal.Frame
public import proofs.«01_k».proof.Proof.Gen.FlashFwdIdeal.Value
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.FwdFinite
public import proofs.«01_k».proof.Proof.Gen.Ff1Relu2
public import proofs.«01_k».proof.Proof.Gen.Ff1Relu2.Skeleton
public import proofs.«01_k».proof.Proof.Gen.Ff1Relu2.Launch
public import proofs.«01_k».proof.Proof.Gen.Ff1Relu2.Points
public import proofs.«01_k».proof.Proof.Gen.Ff1Relu2.Frame
public import proofs.«01_k».proof.Proof.Gen.Ff1Relu2Ideal
public import proofs.«01_k».proof.Proof.Gen.Ff1Relu2Ideal.Skeleton
public import proofs.«01_k».proof.Proof.Gen.Ff1Relu2Ideal.Launch
public import proofs.«01_k».proof.Proof.Gen.Ff1Relu2Ideal.Points
public import proofs.«01_k».proof.Proof.Gen.Ff1Relu2Ideal.Frame
public import proofs.«01_k».proof.Proof.Gen.Ff1Relu2Ideal.Value
public import proofs.«01_k».proof.Proof.Gen.Ff1Relu2RefIdeal
public import proofs.«01_k».proof.Proof.Gen.Ff1Relu2RefIdeal.Run
public import proofs.«01_k».proof.Proof.Gen.Ff1Relu2RefIdeal.Read
public import proofs.«01_k».proof.Proof.Gen.Ff2Dgrad
public import proofs.«01_k».proof.Proof.Gen.Ff2Dgrad.Skeleton
public import proofs.«01_k».proof.Proof.Gen.Ff2Dgrad.Launch
public import proofs.«01_k».proof.Proof.Gen.Ff2Dgrad.Points
public import proofs.«01_k».proof.Proof.Gen.Ff2Dgrad.Frame
public import proofs.«01_k».proof.Proof.Gen.Ff2DgradIdeal
public import proofs.«01_k».proof.Proof.Gen.Ff2DgradIdeal.Skeleton
public import proofs.«01_k».proof.Proof.Gen.Ff2DgradIdeal.Launch
public import proofs.«01_k».proof.Proof.Gen.Ff2DgradIdeal.Points
public import proofs.«01_k».proof.Proof.Gen.Ff2DgradIdeal.Frame
public import proofs.«01_k».proof.Proof.Gen.Ff2DgradIdeal.Value
public import proofs.«01_k».proof.Proof.Gen.Ff2DgradRefIdeal
public import proofs.«01_k».proof.Proof.Gen.Ff2DgradRefIdeal.Run
public import proofs.«01_k».proof.Proof.Gen.Ff2DgradRefIdeal.Read
public import proofs.«01_k».proof.Proof.Gen.Ff2Wgrad
public import proofs.«01_k».proof.Proof.Gen.Ff2Wgrad.Skeleton
public import proofs.«01_k».proof.Proof.Gen.Ff2Wgrad.Launch
public import proofs.«01_k».proof.Proof.Gen.Ff2Wgrad.Points
public import proofs.«01_k».proof.Proof.Gen.Ff2Wgrad.Frame
public import proofs.«01_k».proof.Proof.Gen.Ff2WgradIdeal
public import proofs.«01_k».proof.Proof.Gen.Ff2WgradIdeal.Skeleton
public import proofs.«01_k».proof.Proof.Gen.Ff2WgradIdeal.Launch
public import proofs.«01_k».proof.Proof.Gen.Ff2WgradIdeal.Points
public import proofs.«01_k».proof.Proof.Gen.Ff2WgradIdeal.Frame
public import proofs.«01_k».proof.Proof.Gen.Ff2WgradIdeal.Value
public import proofs.«01_k».proof.Proof.Gen.Ff2WgradRefIdeal
public import proofs.«01_k».proof.Proof.Gen.Ff2WgradRefIdeal.Run
public import proofs.«01_k».proof.Proof.Gen.Ff2WgradRefIdeal.Read
public import proofs.«01_k».proof.Proof.Gen.Ff1Wgrad
public import proofs.«01_k».proof.Proof.Gen.Ff1Wgrad.Skeleton
public import proofs.«01_k».proof.Proof.Gen.Ff1Wgrad.Launch
public import proofs.«01_k».proof.Proof.Gen.Ff1Wgrad.Points
public import proofs.«01_k».proof.Proof.Gen.Ff1Wgrad.Frame
public import proofs.«01_k».proof.Proof.Gen.Ff1WgradIdeal
public import proofs.«01_k».proof.Proof.Gen.Ff1WgradIdeal.Skeleton
public import proofs.«01_k».proof.Proof.Gen.Ff1WgradIdeal.Launch
public import proofs.«01_k».proof.Proof.Gen.Ff1WgradIdeal.Points
public import proofs.«01_k».proof.Proof.Gen.Ff1WgradIdeal.Frame
public import proofs.«01_k».proof.Proof.Gen.Ff1WgradIdeal.Value
public import proofs.«01_k».proof.Proof.Gen.Ff1WgradRefIdeal
public import proofs.«01_k».proof.Proof.Gen.Ff1WgradRefIdeal.Run
public import proofs.«01_k».proof.Proof.Gen.Ff1WgradRefIdeal.Read
public import proofs.«01_k».proof.Proof.Gen.Ff1DgradLn1
public import proofs.«01_k».proof.Proof.Gen.Ff1DgradLn1.Skeleton
public import proofs.«01_k».proof.Proof.Gen.Ff1DgradLn1.Launch
public import proofs.«01_k».proof.Proof.Gen.Ff1DgradLn1.Points
public import proofs.«01_k».proof.Proof.Gen.Ff1DgradLn1.Frame
public import proofs.«01_k».proof.Proof.Gen.Ff1DgradLn1Ideal
public import proofs.«01_k».proof.Proof.Gen.Ff1DgradLn1Ideal.Skeleton
public import proofs.«01_k».proof.Proof.Gen.Ff1DgradLn1Ideal.Launch
public import proofs.«01_k».proof.Proof.Gen.Ff1DgradLn1Ideal.Points
public import proofs.«01_k».proof.Proof.Gen.Ff1DgradLn1Ideal.Frame
public import proofs.«01_k».proof.Proof.Gen.Ff1DgradLn1Ideal.Value
public import proofs.«01_k».proof.Proof.Gen.Ff1DgradLn1RefIdeal
public import proofs.«01_k».proof.Proof.Gen.Ff1DgradLn1RefIdeal.Run
public import proofs.«01_k».proof.Proof.Gen.Ff1DgradLn1RefIdeal.Read
public import proofs.«01_k».proof.Proof.Gen.InDgradLnIn
public import proofs.«01_k».proof.Proof.Gen.InDgradLnIn.Skeleton
public import proofs.«01_k».proof.Proof.Gen.InDgradLnIn.Launch
public import proofs.«01_k».proof.Proof.Gen.InDgradLnIn.Points
public import proofs.«01_k».proof.Proof.Gen.InDgradLnIn.Frame
public import proofs.«01_k».proof.Proof.Gen.InDgradLnInIdeal
public import proofs.«01_k».proof.Proof.Gen.InDgradLnInIdeal.Skeleton
public import proofs.«01_k».proof.Proof.Gen.InDgradLnInIdeal.Launch
public import proofs.«01_k».proof.Proof.Gen.InDgradLnInIdeal.Points
public import proofs.«01_k».proof.Proof.Gen.InDgradLnInIdeal.Frame
public import proofs.«01_k».proof.Proof.Gen.InDgradLnInIdeal.Value
public import proofs.«01_k».proof.Proof.Gen.InDgradLnInRefIdeal
public import proofs.«01_k».proof.Proof.Gen.InDgradLnInRefIdeal.Run
public import proofs.«01_k».proof.Proof.Gen.InDgradLnInRefIdeal.Read
public import proofs.«01_k».proof.Proof.Gen.Ff2Ln2Loss
public import proofs.«01_k».proof.Proof.Gen.Ff2Ln2Loss.Skeleton
public import proofs.«01_k».proof.Proof.Gen.Ff2Ln2Loss.Launch
public import proofs.«01_k».proof.Proof.Gen.Ff2Ln2Loss.Points
public import proofs.«01_k».proof.Proof.Gen.Ff2Ln2Loss.Frame
public import proofs.«01_k».proof.Proof.Gen.Ff2Ln2LossIdeal
public import proofs.«01_k».proof.Proof.Gen.Ff2Ln2LossIdeal.Skeleton
public import proofs.«01_k».proof.Proof.Gen.Ff2Ln2LossIdeal.Launch
public import proofs.«01_k».proof.Proof.Gen.Ff2Ln2LossIdeal.Points
public import proofs.«01_k».proof.Proof.Gen.Ff2Ln2LossIdeal.Frame
public import proofs.«01_k».proof.Proof.Gen.Ff2Ln2LossIdeal.Value
public import proofs.«01_k».proof.Proof.Gen.Ff2Ln2LossRefIdeal
public import proofs.«01_k».proof.Proof.Gen.Ff2Ln2LossRefIdeal.Run
public import proofs.«01_k».proof.Proof.Gen.Ff2Ln2LossRefIdeal.Read
public import proofs.«01_k».proof.Proof.Gen.MixLn1
public import proofs.«01_k».proof.Proof.Gen.MixLn1.Skeleton
public import proofs.«01_k».proof.Proof.Gen.MixLn1.Launch
public import proofs.«01_k».proof.Proof.Gen.MixLn1.Points
public import proofs.«01_k».proof.Proof.Gen.MixLn1.Frame
public import proofs.«01_k».proof.Proof.Gen.MixLn1Ideal
public import proofs.«01_k».proof.Proof.Gen.MixLn1Ideal.Skeleton
public import proofs.«01_k».proof.Proof.Gen.MixLn1Ideal.Launch
public import proofs.«01_k».proof.Proof.Gen.MixLn1Ideal.Points
public import proofs.«01_k».proof.Proof.Gen.MixLn1Ideal.Frame
public import proofs.«01_k».proof.Proof.Gen.MixLn1Ideal.Value
public import proofs.«01_k».proof.Proof.Gen.MixLn1RefIdeal
public import proofs.«01_k».proof.Proof.Gen.MixLn1RefIdeal.Run
public import proofs.«01_k».proof.Proof.Gen.MixLn1RefIdeal.Read
public import proofs.«01_k».proof.Proof.Gen.HProj
public import proofs.«01_k».proof.Proof.Gen.HProj.Skeleton
public import proofs.«01_k».proof.Proof.Gen.HProj.Launch
public import proofs.«01_k».proof.Proof.Gen.HProj.Points
public import proofs.«01_k».proof.Proof.Gen.HProj.Frame
public import proofs.«01_k».proof.Proof.Gen.HProjIdeal
public import proofs.«01_k».proof.Proof.Gen.HProjIdeal.Skeleton
public import proofs.«01_k».proof.Proof.Gen.HProjIdeal.Launch
public import proofs.«01_k».proof.Proof.Gen.HProjIdeal.Points
public import proofs.«01_k».proof.Proof.Gen.HProjIdeal.Frame
public import proofs.«01_k».proof.Proof.Gen.HProjIdeal.Value
public import proofs.«01_k».proof.Proof.Gen.HProjRefIdeal
public import proofs.«01_k».proof.Proof.Gen.HProjRefIdeal.Run
public import proofs.«01_k».proof.Proof.Gen.HProjRefIdeal.Read
public import proofs.«01_k».proof.Proof.Gen.InWgrad
public import proofs.«01_k».proof.Proof.Gen.InWgrad.Skeleton
public import proofs.«01_k».proof.Proof.Gen.InWgrad.Launch
public import proofs.«01_k».proof.Proof.Gen.InWgrad.Points
public import proofs.«01_k».proof.Proof.Gen.InWgrad.Frame
public import proofs.«01_k».proof.Proof.Gen.InWgradIdeal
public import proofs.«01_k».proof.Proof.Gen.InWgradIdeal.Skeleton
public import proofs.«01_k».proof.Proof.Gen.InWgradIdeal.Launch
public import proofs.«01_k».proof.Proof.Gen.InWgradIdeal.Points
public import proofs.«01_k».proof.Proof.Gen.InWgradIdeal.Frame
public import proofs.«01_k».proof.Proof.Gen.InWgradIdeal.Value
public import proofs.«01_k».proof.Proof.Gen.InWgradRefIdeal
public import proofs.«01_k».proof.Proof.Gen.InWgradRefIdeal.Run
public import proofs.«01_k».proof.Proof.Gen.InWgradRefIdeal.Read
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradIdeal.Value
public import proofs.«01_k».proof.Proof.Gen.OutWgradRefIdeal
public import proofs.«01_k».proof.Proof.Gen.OutWgradRefIdeal.Run
public import proofs.«01_k».proof.Proof.Gen.OutWgradRefIdeal.Read
public import proofs.«01_k».proof.Proof.Gen.OutDgrad
public import proofs.«01_k».proof.Proof.Gen.OutDgrad.Skeleton
public import proofs.«01_k».proof.Proof.Gen.OutDgrad.Launch
public import proofs.«01_k».proof.Proof.Gen.OutDgrad.Points
public import proofs.«01_k».proof.Proof.Gen.OutDgrad.Frame
public import proofs.«01_k».proof.Proof.Gen.OutDgradIdeal
public import proofs.«01_k».proof.Proof.Gen.OutDgradIdeal.Skeleton
public import proofs.«01_k».proof.Proof.Gen.OutDgradIdeal.Launch
public import proofs.«01_k».proof.Proof.Gen.OutDgradIdeal.Points
public import proofs.«01_k».proof.Proof.Gen.OutDgradIdeal.Frame
public import proofs.«01_k».proof.Proof.Gen.OutDgradIdeal.Value
public import proofs.«01_k».proof.Proof.Gen.OutDgradRefIdeal
public import proofs.«01_k».proof.Proof.Gen.OutDgradRefIdeal.Run
public import proofs.«01_k».proof.Proof.Gen.OutDgradRefIdeal.Read
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluBwdIdeal.Value
public import proofs.«01_k».proof.Proof.Gen.GluBwdRefIdeal
public import proofs.«01_k».proof.Proof.Gen.GluBwdRefIdeal.Run
public import proofs.«01_k».proof.Proof.Gen.GluBwdRefIdeal.Read
public import proofs.«01_k».proof.Proof.Gen.HeadWgrad
public import proofs.«01_k».proof.Proof.Gen.HeadWgrad.Skeleton
public import proofs.«01_k».proof.Proof.Gen.HeadWgrad.Launch
public import proofs.«01_k».proof.Proof.Gen.HeadWgrad.Points
public import proofs.«01_k».proof.Proof.Gen.HeadWgrad.Frame
public import proofs.«01_k».proof.Proof.Gen.HeadWgradIdeal
public import proofs.«01_k».proof.Proof.Gen.HeadWgradIdeal.Skeleton
public import proofs.«01_k».proof.Proof.Gen.HeadWgradIdeal.Launch
public import proofs.«01_k».proof.Proof.Gen.HeadWgradIdeal.Points
public import proofs.«01_k».proof.Proof.Gen.HeadWgradIdeal.Frame
public import proofs.«01_k».proof.Proof.Gen.HeadWgradIdeal.Value
public import proofs.«01_k».proof.Proof.Gen.HeadWgradRefIdeal
public import proofs.«01_k».proof.Proof.Gen.HeadWgradRefIdeal.Run
public import proofs.«01_k».proof.Proof.Gen.HeadWgradRefIdeal.Read
public import proofs.«01_k».proof.Proof.Arrays
public import proofs.«01_k».proof.Proof.Reference
public import proofs.«01_k».proof.Proof.Finite
public import proofs.«01_k».proof.Proof.Relu
public import proofs.«01_k».proof.Proof.Dgrad
public import proofs.«01_k».proof.Proof.Wgrad
public import proofs.«01_k».proof.Proof.WgradStacked
public import proofs.«01_k».proof.Proof.NormBwd
public import proofs.«01_k».proof.Proof.NormRef
public import proofs.«01_k».proof.Proof.NormFinite
public import proofs.«01_k».proof.Proof.InNormBwd
public import proofs.«01_k».proof.Proof.InNormRef
public import proofs.«01_k».proof.Proof.NormFwd
public import proofs.«01_k».proof.Proof.LossBwd
public import proofs.«01_k».proof.Proof.LossRef
public import proofs.«01_k».proof.Proof.Products
public import proofs.«01_k».proof.Proof.ProjWgrad
public import proofs.«01_k».proof.Proof.Glu
public import proofs.«01_k».proof.Proof.HeadWgrad
public import Idealize.ShloMosaic.Adequacy
public import Idealize.ShloMosaic.Init

@[expose] public section

noncomputable section

/-! # The certificate

The frames are the generated runs.  For the gradient of attention, the results of both programs are
the arrays `gQ`, `gK` and `gV` of real numbers.  They are real numbers too in the attention's
forward pass, where a gradient is taken back through a layer norm, and where the loss is.  The other calls' results are sums of products of
extended reals and what a layer norm makes of them, with no precondition. -/

namespace Cert.Proof

open Idealize.ShloMosaic Idealize.SL.Sem Cert.Flash Cert.KernelIdeal.Flash

/-- The kernel terminates, keeps its arguments and leaves every semaphore counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- And from finite arguments. -/
theorem frame_ideal_finite : Cert.quiescent_KernelIdeal_pre_finite :=
  fun m ρ _ => Cert.KernelIdeal.Gen.frame m ρ

/-- So does the reference, which declares no semaphore. -/
theorem frame_reference : Cert.quiescent_ReferenceIdeal := by
  intro m g _
  exact (θ_run _ _ _).mono (fun r h => ⟨fun c => (h c).2.2.2, sem_eq_zero_of_no_sems (by decide) r.2⟩)
    (Cert.ReferenceIdeal.Value.run m g)

/-- And from finite arguments. -/
theorem frame_reference_finite : Cert.quiescent_ReferenceIdeal_pre_finite :=
  fun m ρ _ => frame_reference m ρ trivial

section
open Cert.ReferenceIdeal Cert.ReferenceIdeal.Read
variable {x0 x2 x4 : FVec Ideal S8192x8x128 .f32} {x1 : FVec Ideal S8192x8x64 .f32}
  {x3 : FVec Ideal S8192x64 .f32} {x5 : FVec Ideal S8192x1024 .f32} {A : Args}
  (H : Cert.ReferenceIdeal.Flash.Given x0 x1 x2 x3 x4 x5 A)
include H

/-- The reference's first result is the gradient of the queries. -/
theorem ref_q : val_main_v73 (F := Ideal) x0 x1 x2 x3 x4 x5 = gQ A := by
  funext i
  obtain ⟨h, a, x, rfl⟩ : ∃ h a x, i = ix3 h a x := ⟨i 0, i 1, i 2, by ext k; fin_cases k <;> rfl⟩
  exact Cert.ReferenceIdeal.Flash.dq_read H h a x

/-- The second is the gradient of the keys. -/
theorem ref_k : val_main_v74 (F := Ideal) x0 x1 x2 x3 x4 x5 = gK A := by
  funext i
  obtain ⟨h, a, x, rfl⟩ : ∃ h a x, i = ix3 h a x := ⟨i 0, i 1, i 2, by ext k; fin_cases k <;> rfl⟩
  exact Cert.ReferenceIdeal.Flash.dk_read H h a x

/-- The third is the gradient of the values. -/
theorem ref_v : val_main_v75 (F := Ideal) x0 x1 x2 x3 x5 = gV A := by
  funext i
  obtain ⟨h, a, x, rfl⟩ : ∃ h a x, i = ix3 h a x := ⟨i 0, i 1, i 2, by ext k; fin_cases k <;> rfl⟩
  exact Cert.ReferenceIdeal.Flash.dv_read H h a x

end

/-- From equal finite arguments, kernel and reference end with equal results. -/
theorem algebraic : Cert.algebraic_KernelIdeal_ReferenceIdeal_pre_finite := by
  intro m g m' g' hpre hagree
  let A := fun c : Dev Cert.KernelIdeal.nD => Cert.Finite.args
    (m ((c.tc : Thread _ Cert.KernelIdeal.τ).loc Cert.KernelIdeal.main_arg0))
    (m ((c.tc : Thread _ Cert.KernelIdeal.τ).loc Cert.KernelIdeal.main_arg2))
    (m ((c.tc : Thread _ Cert.KernelIdeal.τ).loc Cert.KernelIdeal.main_arg4))
    (m ((c.tc : Thread _ Cert.KernelIdeal.τ).loc Cert.KernelIdeal.main_arg1))
    (m ((c.tc : Thread _ Cert.KernelIdeal.τ).loc Cert.KernelIdeal.main_arg3))
    (m ((c.tc : Thread _ Cert.KernelIdeal.τ).loc Cert.KernelIdeal.main_arg5))
  have G := fun c => Cert.Finite.given _ _ _ _ _ _ (hpre c)
  refine ⟨fun c => gQ (A c), fun c => gK (A c), fun c => gV (A c), ?_, ?_⟩
  · refine (θ_run _ _ _).mono (fun r h c => ?_) (Cert.KernelIdeal.Value.run_blocks m g)
    obtain ⟨h0, h1, h2, h3⟩ := h c
    exact ⟨h0.trans (dq_array (Cert.Finite.holds (G c))), h1.trans (dk_array (Cert.Finite.holds (G c))),
      h2.trans (dv_array (Cert.Finite.holds (G c))), h3⟩
  · refine (θ_run _ _ _).mono (fun r h c => ?_) (Cert.ReferenceIdeal.Value.run m' g')
    obtain ⟨h0, h1, h2, h3⟩ := h c
    obtain ⟨e0, e1, e2, e3, e4, e5⟩ := hagree c
    refine ⟨h0.trans ?_, h1.trans ?_, h2.trans ?_, h3⟩
    · rw [Cert.ReferenceIdeal.Read.val_main_v73_eq, e0, e1, e2, e3, e4, e5]
      exact ref_q (G c)
    · rw [Cert.ReferenceIdeal.Read.val_main_v74_eq, e0, e1, e2, e3, e4, e5]
      exact ref_k (G c)
    · rw [Cert.ReferenceIdeal.Read.val_main_v75_eq, e0, e1, e2, e3, e5]
      exact ref_v (G c)

/-! ## The attention's forward pass -/

/-- The frame of the attention's forward pass, as the version runs it. -/
theorem frame_fwd : Cert.quiescent_FlashFwd := fun m ρ _ => Cert.FlashFwd.Gen.frame m ρ

/-- The same over the extended reals. -/
theorem frame_fwd_ideal : Cert.quiescent_FlashFwdIdeal := fun m ρ _ => Cert.FlashFwdIdeal.Gen.frame m ρ

/-- And from finite arguments. -/
theorem frame_fwd_ideal_finite : Cert.quiescent_FlashFwdIdeal_pre_finite_fwd :=
  fun m ρ _ => Cert.FlashFwdIdeal.Gen.frame m ρ

/-- The frame of its reference. -/
theorem frame_fwd_reference : Cert.quiescent_FlashFwdRefIdeal := by
  intro m g _
  exact (θ_run _ _ _).mono (fun r h => ⟨fun c => (h c).2.2, sem_eq_zero_of_no_sems (by decide) r.2⟩)
    (Cert.FlashFwdRefIdeal.Value.run m g)

/-- And from finite arguments. -/
theorem frame_fwd_reference_finite : Cert.quiescent_FlashFwdRefIdeal_pre_finite_fwd :=
  fun m ρ _ => frame_fwd_reference m ρ trivial

/-- The rounded constant of the kernel is named one over the logarithm of two. -/
theorem preserves_fwd : Cert.preserves_FlashFwd_FlashFwdIdeal :=
  IdealRules.named_const.statement Cert.FlashFwdIdeal.κ "log2_e" .f32 0x3FB8AA3B#32
    (((Real.log 2)⁻¹ : ℝ) : EReal) rfl

/-- Kernel and reference of the attention's forward pass end with equal results. -/
theorem algebraic_fwd : Cert.algebraic_FlashFwdIdeal_FlashFwdRefIdeal_pre_finite_fwd := by
  intro m g m' g' hpre hagree
  let A := fun c : Dev Cert.FlashFwdIdeal.nD => Cert.FlashFwdIdeal.Attention.args
    (m ((c.tc : Thread _ Cert.FlashFwdIdeal.τ).loc Cert.FlashFwdIdeal.main_arg0))
    (m ((c.tc : Thread _ Cert.FlashFwdIdeal.τ).loc Cert.FlashFwdIdeal.main_arg2))
    (m ((c.tc : Thread _ Cert.FlashFwdIdeal.τ).loc Cert.FlashFwdIdeal.main_arg4))
    (m ((c.tc : Thread _ Cert.FlashFwdIdeal.τ).loc Cert.FlashFwdIdeal.main_arg1))
    (m ((c.tc : Thread _ Cert.FlashFwdIdeal.τ).loc Cert.FlashFwdIdeal.main_arg3))
  have G := fun c => Cert.FlashFwdIdeal.Attention.given _ _ _ _ _ (hpre c)
  refine ⟨fun c => Cert.FlashFwdIdeal.Attention.gO (A c),
    fun c => Cert.FlashFwdIdeal.Attention.gL (A c), ?_, ?_⟩
  · refine (θ_run _ _ _).mono (fun r h c => ?_) (Cert.FlashFwdIdeal.Value.run_blocks m g)
    obtain ⟨h0, h1, h2⟩ := h c
    have K := Cert.FlashFwdIdeal.Attention.holds (G c)
    exact ⟨h0.trans (Cert.FlashFwdIdeal.Attention.o_array K),
      h1.trans (Cert.FlashFwdIdeal.Attention.lse_array K), h2⟩
  · refine (θ_run _ _ _).mono (fun r h c => ?_) (Cert.FlashFwdRefIdeal.Value.run m' g')
    obtain ⟨h0, h1, h2⟩ := h c
    obtain ⟨e0, e1, e2, e3, e4⟩ := hagree c
    refine ⟨h0.trans ?_, h1.trans ?_, h2⟩
    · rw [Cert.FlashFwdRefIdeal.Read.val_main_v20_eq, e0, e1, e2, e3, e4]
      exact Cert.FlashFwdRefIdeal.Attention.ref_o (G c)
    · rw [Cert.FlashFwdRefIdeal.Read.val_main_v28_eq, e0, e1, e2, e3]
      exact Cert.FlashFwdRefIdeal.Attention.ref_lse (G c)

/-! ## The feed-forward network -/

/-- The frame of the first product with its activation, as the version runs it. -/
theorem frame_relu : Cert.quiescent_Ff1Relu2 := fun m ρ _ => Cert.Ff1Relu2.Gen.frame m ρ

/-- The same over the extended reals. -/
theorem frame_relu_ideal : Cert.quiescent_Ff1Relu2Ideal := fun m ρ _ => Cert.Ff1Relu2Ideal.Gen.frame m ρ

/-- And of its reference. -/
theorem frame_relu_reference : Cert.quiescent_Ff1Relu2RefIdeal := by
  intro m g _
  exact (θ_run _ _ _).mono (fun r h => ⟨fun c => (h c).2.2, sem_eq_zero_of_no_sems (by decide) r.2⟩)
    (Cert.Ff1Relu2RefIdeal.Value.run m g)

/-- The frame of the activation's gradient, as the version runs it. -/
theorem frame_dgrad : Cert.quiescent_Ff2Dgrad := fun m ρ _ => Cert.Ff2Dgrad.Gen.frame m ρ

/-- The same over the extended reals. -/
theorem frame_dgrad_ideal : Cert.quiescent_Ff2DgradIdeal := fun m ρ _ => Cert.Ff2DgradIdeal.Gen.frame m ρ

/-- And of its reference. -/
theorem frame_dgrad_reference : Cert.quiescent_Ff2DgradRefIdeal := by
  intro m g _
  exact (θ_run _ _ _).mono (fun r h => ⟨fun c => (h c).2, sem_eq_zero_of_no_sems (by decide) r.2⟩)
    (Cert.Ff2DgradRefIdeal.Value.run m g)

/-- The frame of the second weight's gradient, as the version runs it. -/
theorem frame_wgrad : Cert.quiescent_Ff2Wgrad := fun m ρ _ => Cert.Ff2Wgrad.Gen.frame m ρ

/-- The same over the extended reals. -/
theorem frame_wgrad_ideal : Cert.quiescent_Ff2WgradIdeal := fun m ρ _ => Cert.Ff2WgradIdeal.Gen.frame m ρ

/-- And of its reference. -/
theorem frame_wgrad_reference : Cert.quiescent_Ff2WgradRefIdeal := by
  intro m g _
  exact (θ_run _ _ _).mono (fun r h => ⟨fun c => (h c).2, sem_eq_zero_of_no_sems (by decide) r.2⟩)
    (Cert.Ff2WgradRefIdeal.Value.run m g)

/-- The frame of the first weight's gradient, as the version runs it. -/
theorem frame_wgrad_stacked : Cert.quiescent_Ff1Wgrad := fun m ρ _ => Cert.Ff1Wgrad.Gen.frame m ρ

/-- The same over the extended reals. -/
theorem frame_wgrad_stacked_ideal : Cert.quiescent_Ff1WgradIdeal := fun m ρ _ => Cert.Ff1WgradIdeal.Gen.frame m ρ

/-- And of its reference. -/
theorem frame_wgrad_stacked_reference : Cert.quiescent_Ff1WgradRefIdeal := by
  intro m g _
  exact (θ_run _ _ _).mono (fun r h => ⟨fun c => (h c).2, sem_eq_zero_of_no_sems (by decide) r.2⟩)
    (Cert.Ff1WgradRefIdeal.Value.run m g)

/-- Kernel and reference of the first product with its activation end with equal results. -/
theorem algebraic_relu : Cert.algebraic_Ff1Relu2Ideal_Ff1Relu2RefIdeal := by
  intro m g m' g' _ hagree
  refine ⟨fun c => Cert.Ff1Relu2Ideal.Mixer.gF
      (m ((c.tc : Thread _ Cert.Ff1Relu2Ideal.τ).loc Cert.Ff1Relu2Ideal.main_arg0))
      (m ((c.tc : Thread _ Cert.Ff1Relu2Ideal.τ).loc Cert.Ff1Relu2Ideal.main_arg1)),
    fun c => Cert.Ff1Relu2Ideal.Mixer.gR
      (m ((c.tc : Thread _ Cert.Ff1Relu2Ideal.τ).loc Cert.Ff1Relu2Ideal.main_arg0))
      (m ((c.tc : Thread _ Cert.Ff1Relu2Ideal.τ).loc Cert.Ff1Relu2Ideal.main_arg1)), ?_, ?_⟩
  · refine (θ_run _ _ _).mono (fun r h c => ?_) (Cert.Ff1Relu2Ideal.Value.run_blocks m g)
    obtain ⟨h0, h1, h2⟩ := h c
    exact ⟨h0.trans (Cert.Ff1Relu2Ideal.Mixer.f_array m c), h1.trans (Cert.Ff1Relu2Ideal.Mixer.r_array m c), h2⟩
  · refine (θ_run _ _ _).mono (fun r h c => ?_) (Cert.Ff1Relu2RefIdeal.Value.run m' g')
    obtain ⟨h0, h1, h2⟩ := h c
    obtain ⟨e0, e1⟩ := hagree c
    refine ⟨h0.trans ?_, h1.trans ?_, h2⟩
    · rw [Cert.Ff1Relu2RefIdeal.Read.val_main_v3_eq, e0, e1]
      exact Cert.Ff1Relu2RefIdeal.Mixer.ref_f _ _
    · rw [Cert.Ff1Relu2RefIdeal.Read.val_main_v4_eq, e0, e1]
      exact Cert.Ff1Relu2RefIdeal.Mixer.ref_r _ _

/-- Kernel and reference of the activation's gradient end with equal results. -/
theorem algebraic_dgrad : Cert.algebraic_Ff2DgradIdeal_Ff2DgradRefIdeal := by
  intro m g m' g' _ hagree
  refine ⟨fun c => Cert.Ff2DgradIdeal.Mixer.gD
      (m ((c.tc : Thread _ Cert.Ff2DgradIdeal.τ).loc Cert.Ff2DgradIdeal.main_arg0))
      (m ((c.tc : Thread _ Cert.Ff2DgradIdeal.τ).loc Cert.Ff2DgradIdeal.main_arg1))
      (m ((c.tc : Thread _ Cert.Ff2DgradIdeal.τ).loc Cert.Ff2DgradIdeal.main_arg2))
      (m ((c.tc : Thread _ Cert.Ff2DgradIdeal.τ).loc Cert.Ff2DgradIdeal.main_arg3)), ?_, ?_⟩
  · refine (θ_run _ _ _).mono (fun r h c => ?_) (Cert.Ff2DgradIdeal.Value.run_blocks m g)
    obtain ⟨h0, h1⟩ := h c
    exact ⟨h0.trans (Cert.Ff2DgradIdeal.Mixer.d_array m c), h1⟩
  · refine (θ_run _ _ _).mono (fun r h c => ?_) (Cert.Ff2DgradRefIdeal.Value.run m' g')
    obtain ⟨h0, h1⟩ := h c
    obtain ⟨e0, e1, e2, e3⟩ := hagree c
    refine ⟨h0.trans ?_, h1⟩
    · rw [Cert.Ff2DgradRefIdeal.Read.val_main_v13_eq, e0, e1, e2, e3]
      exact Cert.Ff2DgradRefIdeal.Mixer.ref_d _ _ _ _

/-- Kernel and reference of the second weight's gradient end with equal results. -/
theorem algebraic_wgrad : Cert.algebraic_Ff2WgradIdeal_Ff2WgradRefIdeal := by
  intro m g m' g' _ hagree
  refine ⟨fun c => Cert.Ff2WgradIdeal.Mixer.gW
      (m ((c.tc : Thread _ Cert.Ff2WgradIdeal.τ).loc Cert.Ff2WgradIdeal.main_arg0))
      (m ((c.tc : Thread _ Cert.Ff2WgradIdeal.τ).loc Cert.Ff2WgradIdeal.main_arg1))
      (m ((c.tc : Thread _ Cert.Ff2WgradIdeal.τ).loc Cert.Ff2WgradIdeal.main_arg3)), ?_, ?_⟩
  · refine (θ_run _ _ _).mono (fun r h c => ?_) (Cert.Ff2WgradIdeal.Value.run_blocks m g)
    obtain ⟨h0, h1⟩ := h c
    exact ⟨h0.trans (Cert.Ff2WgradIdeal.Mixer.w_array m c), h1⟩
  · refine (θ_run _ _ _).mono (fun r h c => ?_) (Cert.Ff2WgradRefIdeal.Value.run m' g')
    obtain ⟨h0, h1⟩ := h c
    obtain ⟨e0, e1, _, e3⟩ := hagree c
    refine ⟨h0.trans ?_, h1⟩
    · rw [Cert.Ff2WgradRefIdeal.Read.val_main_v5_eq, e0, e1, e3]
      exact Cert.Ff2WgradRefIdeal.Mixer.ref_w _ _ _

/-- Kernel and reference of the first weight's gradient end with equal results. -/
theorem algebraic_wgrad_stacked : Cert.algebraic_Ff1WgradIdeal_Ff1WgradRefIdeal := by
  intro m g m' g' _ hagree
  refine ⟨fun c => Cert.Ff1WgradIdeal.Mixer.gW
      (m ((c.tc : Thread _ Cert.Ff1WgradIdeal.τ).loc Cert.Ff1WgradIdeal.main_arg0))
      (m ((c.tc : Thread _ Cert.Ff1WgradIdeal.τ).loc Cert.Ff1WgradIdeal.main_arg2)), ?_, ?_⟩
  · refine (θ_run _ _ _).mono (fun r h c => ?_) (Cert.Ff1WgradIdeal.Value.run_blocks m g)
    obtain ⟨h0, h1⟩ := h c
    exact ⟨h0.trans (Cert.Ff1WgradIdeal.Mixer.w_array m c), h1⟩
  · refine (θ_run _ _ _).mono (fun r h c => ?_) (Cert.Ff1WgradRefIdeal.Value.run m' g')
    obtain ⟨h0, h1⟩ := h c
    obtain ⟨e0, _, e2⟩ := hagree c
    refine ⟨h0.trans ?_, h1⟩
    · rw [Cert.Ff1WgradRefIdeal.Read.val_main_v4_eq, e0, e2]
      exact Cert.Ff1WgradRefIdeal.Mixer.ref_w _ _

/-! ## The layer norm -/

/-- The frame of the gradient taken back through the layer norm, as the version runs it. -/
theorem frame_norm : Cert.quiescent_Ff1DgradLn1 := fun m ρ _ => Cert.Ff1DgradLn1.Gen.frame m ρ

/-- The same over the extended reals. -/
theorem frame_norm_ideal : Cert.quiescent_Ff1DgradLn1Ideal := fun m ρ _ => Cert.Ff1DgradLn1Ideal.Gen.frame m ρ

/-- And from finite arguments. -/
theorem frame_norm_ideal_finite : Cert.quiescent_Ff1DgradLn1Ideal_pre_finite_ln1 :=
  fun m ρ _ => Cert.Ff1DgradLn1Ideal.Gen.frame m ρ

/-- The frame of its reference. -/
theorem frame_norm_reference : Cert.quiescent_Ff1DgradLn1RefIdeal := by
  intro m g _
  exact (θ_run _ _ _).mono (fun r h => ⟨fun c => (h c).2.2.2.2, sem_eq_zero_of_no_sems (by decide) r.2⟩)
    (Cert.Ff1DgradLn1RefIdeal.Value.run m g)

/-- And from finite arguments. -/
theorem frame_norm_reference_finite : Cert.quiescent_Ff1DgradLn1RefIdeal_pre_finite_ln1 :=
  fun m ρ _ => frame_norm_reference m ρ trivial

/-- From equal finite arguments, kernel and reference of the layer norm's gradient end with equal results. -/
theorem algebraic_norm : Cert.algebraic_Ff1DgradLn1Ideal_Ff1DgradLn1RefIdeal_pre_finite_ln1 := by
  intro m g m' g' hpre hagree
  let A := fun c : Dev Cert.Ff1DgradLn1Ideal.nD => Cert.Norm.args
    (m ((c.tc : Thread _ Cert.Ff1DgradLn1Ideal.τ).loc Cert.Ff1DgradLn1Ideal.main_arg0))
    (m ((c.tc : Thread _ Cert.Ff1DgradLn1Ideal.τ).loc Cert.Ff1DgradLn1Ideal.main_arg4))
    (m ((c.tc : Thread _ Cert.Ff1DgradLn1Ideal.τ).loc Cert.Ff1DgradLn1Ideal.main_arg1))
    (m ((c.tc : Thread _ Cert.Ff1DgradLn1Ideal.τ).loc Cert.Ff1DgradLn1Ideal.main_arg3))
    (m ((c.tc : Thread _ Cert.Ff1DgradLn1Ideal.τ).loc Cert.Ff1DgradLn1Ideal.main_arg5))
  have G := fun c => Cert.Norm.given _ _ _ _ _ _ (hpre c)
  have K : ∀ c, Cert.Ff1DgradLn1Ideal.Mixer.Holds m c (A c) := G
  refine ⟨fun c => (A c).gZ, fun c => (A c).gZ, fun c => (A c).gG, fun c => (A c).gB, ?_, ?_⟩
  · refine (θ_run _ _ _).mono (fun r h c => ?_) (Cert.Ff1DgradLn1Ideal.Value.run_blocks m g)
    obtain ⟨h0, h1, h2, h3, h4⟩ := h c
    exact ⟨h0.trans (Cert.Ff1DgradLn1Ideal.Mixer.z_array (K c)),
      h1.trans (Cert.Ff1DgradLn1Ideal.Mixer.zb_array (K c)),
      h2.trans (Cert.Ff1DgradLn1Ideal.Mixer.g_array (K c)),
      h3.trans (Cert.Ff1DgradLn1Ideal.Mixer.b_array (K c)), h4⟩
  · refine (θ_run _ _ _).mono (fun r h c => ?_) (Cert.Ff1DgradLn1RefIdeal.Value.run m' g')
    obtain ⟨h0, h1, h2, h3, h4⟩ := h c
    obtain ⟨e0, e1, _, e3, e4, e5⟩ := hagree c
    refine ⟨h0.trans ?_, h1.trans ?_, h2.trans ?_, h3.trans ?_, h4⟩
    · rw [Cert.Ff1DgradLn1RefIdeal.Read.val_main_v64_eq, e0, e1, e3, e4, e5]
      exact Cert.Ff1DgradLn1RefIdeal.Mixer.ref_z (G c)
    · rw [Cert.Ff1DgradLn1RefIdeal.Read.val_main_v65_eq, e0, e1, e3, e4, e5]
      exact Cert.Ff1DgradLn1RefIdeal.Mixer.ref_zb (G c)
    · rw [Cert.Ff1DgradLn1RefIdeal.Read.val_main_v66_eq, e0, e3, e4, e5]
      exact Cert.Ff1DgradLn1RefIdeal.Mixer.ref_g (G c)
    · rw [Cert.Ff1DgradLn1RefIdeal.Read.val_main_v67_eq, e3, e4, e5]
      exact Cert.Ff1DgradLn1RefIdeal.Mixer.ref_b (G c)

/-- The frame of the gradient taken back through the first layer norm, as the version runs it. -/
theorem frame_norm_in : Cert.quiescent_InDgradLnIn := fun m ρ _ => Cert.InDgradLnIn.Gen.frame m ρ

/-- The same over the extended reals. -/
theorem frame_norm_in_ideal : Cert.quiescent_InDgradLnInIdeal := fun m ρ _ => Cert.InDgradLnInIdeal.Gen.frame m ρ

/-- And from finite arguments. -/
theorem frame_norm_in_ideal_finite : Cert.quiescent_InDgradLnInIdeal_pre_finite_ln_in :=
  fun m ρ _ => Cert.InDgradLnInIdeal.Gen.frame m ρ

/-- The frame of its reference. -/
theorem frame_norm_in_reference : Cert.quiescent_InDgradLnInRefIdeal := by
  intro m g _
  exact (θ_run _ _ _).mono (fun r h => ⟨fun c => (h c).2.2.2, sem_eq_zero_of_no_sems (by decide) r.2⟩)
    (Cert.InDgradLnInRefIdeal.Value.run m g)

/-- And from finite arguments. -/
theorem frame_norm_in_reference_finite : Cert.quiescent_InDgradLnInRefIdeal_pre_finite_ln_in :=
  fun m ρ _ => frame_norm_in_reference m ρ trivial

/-- From equal finite arguments, both programs give the first layer norm's gradient alike. -/
theorem algebraic_norm_in : Cert.algebraic_InDgradLnInIdeal_InDgradLnInRefIdeal_pre_finite_ln_in := by
  intro m g m' g' hpre hagree
  let A := fun c : Dev Cert.InDgradLnInIdeal.nD => Cert.Norm.args
    (m ((c.tc : Thread _ Cert.InDgradLnInIdeal.τ).loc Cert.InDgradLnInIdeal.main_arg0))
    (m ((c.tc : Thread _ Cert.InDgradLnInIdeal.τ).loc Cert.InDgradLnInIdeal.main_arg4))
    (m ((c.tc : Thread _ Cert.InDgradLnInIdeal.τ).loc Cert.InDgradLnInIdeal.main_arg1))
    (m ((c.tc : Thread _ Cert.InDgradLnInIdeal.τ).loc Cert.InDgradLnInIdeal.main_arg3))
    (m ((c.tc : Thread _ Cert.InDgradLnInIdeal.τ).loc Cert.InDgradLnInIdeal.main_arg5))
  have G := fun c => Cert.Norm.given_in _ _ _ _ _ _ (hpre c)
  have K : ∀ c, Cert.InDgradLnInIdeal.Mixer.Holds m c (A c) := G
  refine ⟨fun c => (A c).gZ, fun c => (A c).gG, fun c => (A c).gB, ?_, ?_⟩
  · refine (θ_run _ _ _).mono (fun r h c => ?_) (Cert.InDgradLnInIdeal.Value.run_blocks m g)
    obtain ⟨h0, h1, h2, h3⟩ := h c
    exact ⟨h0.trans (Cert.InDgradLnInIdeal.Mixer.z_array (K c)),
      h1.trans (Cert.InDgradLnInIdeal.Mixer.g_array (K c)),
      h2.trans (Cert.InDgradLnInIdeal.Mixer.b_array (K c)), h3⟩
  · refine (θ_run _ _ _).mono (fun r h c => ?_) (Cert.InDgradLnInRefIdeal.Value.run m' g')
    obtain ⟨h0, h1, h2, h3⟩ := h c
    obtain ⟨e0, e1, _, e3, e4, e5⟩ := hagree c
    refine ⟨h0.trans ?_, h1.trans ?_, h2.trans ?_, h3⟩
    · rw [Cert.InDgradLnInRefIdeal.Read.val_main_v64_eq, e0, e1, e3, e4, e5]
      exact Cert.InDgradLnInRefIdeal.Mixer.ref_z (G c)
    · rw [Cert.InDgradLnInRefIdeal.Read.val_main_v65_eq, e0, e3, e4, e5]
      exact Cert.InDgradLnInRefIdeal.Mixer.ref_g (G c)
    · rw [Cert.InDgradLnInRefIdeal.Read.val_main_v66_eq, e3, e4, e5]
      exact Cert.InDgradLnInRefIdeal.Mixer.ref_b (G c)

/-- The frame of the attention's output with its layer norm, as the version runs it. -/
theorem frame_mix : Cert.quiescent_MixLn1 := fun m ρ _ => Cert.MixLn1.Gen.frame m ρ

/-- The same over the extended reals. -/
theorem frame_mix_ideal : Cert.quiescent_MixLn1Ideal := fun m ρ _ => Cert.MixLn1Ideal.Gen.frame m ρ

/-- And of its reference. -/
theorem frame_mix_reference : Cert.quiescent_MixLn1RefIdeal := by
  intro m g _
  exact (θ_run _ _ _).mono (fun r h => ⟨fun c => (h c).2.2.2, sem_eq_zero_of_no_sems (by decide) r.2⟩)
    (Cert.MixLn1RefIdeal.Value.run m g)

/-- Kernel and reference of the attention's output with its layer norm end with equal results. -/
theorem algebraic_mix : Cert.algebraic_MixLn1Ideal_MixLn1RefIdeal := by
  intro m g m' g' _ hagree
  refine ⟨fun c => Cert.MixLn1Ideal.Mixer.gZ
      (m ((c.tc : Thread _ Cert.MixLn1Ideal.τ).loc Cert.MixLn1Ideal.main_arg0))
      (m ((c.tc : Thread _ Cert.MixLn1Ideal.τ).loc Cert.MixLn1Ideal.main_arg1))
      (m ((c.tc : Thread _ Cert.MixLn1Ideal.τ).loc Cert.MixLn1Ideal.main_arg2)),
    fun c => Cert.MixLn1Ideal.Mixer.gX
      (m ((c.tc : Thread _ Cert.MixLn1Ideal.τ).loc Cert.MixLn1Ideal.main_arg0))
      (m ((c.tc : Thread _ Cert.MixLn1Ideal.τ).loc Cert.MixLn1Ideal.main_arg1))
      (m ((c.tc : Thread _ Cert.MixLn1Ideal.τ).loc Cert.MixLn1Ideal.main_arg2))
      (m ((c.tc : Thread _ Cert.MixLn1Ideal.τ).loc Cert.MixLn1Ideal.main_arg3))
      (m ((c.tc : Thread _ Cert.MixLn1Ideal.τ).loc Cert.MixLn1Ideal.main_arg4)),
    fun c => Cert.MixLn1Ideal.Mixer.gX
      (m ((c.tc : Thread _ Cert.MixLn1Ideal.τ).loc Cert.MixLn1Ideal.main_arg0))
      (m ((c.tc : Thread _ Cert.MixLn1Ideal.τ).loc Cert.MixLn1Ideal.main_arg1))
      (m ((c.tc : Thread _ Cert.MixLn1Ideal.τ).loc Cert.MixLn1Ideal.main_arg2))
      (m ((c.tc : Thread _ Cert.MixLn1Ideal.τ).loc Cert.MixLn1Ideal.main_arg3))
      (m ((c.tc : Thread _ Cert.MixLn1Ideal.τ).loc Cert.MixLn1Ideal.main_arg4)), ?_, ?_⟩
  · refine (θ_run _ _ _).mono (fun r h c => ?_) (Cert.MixLn1Ideal.Value.run_blocks m g)
    obtain ⟨h0, h1, h2, h3⟩ := h c
    exact ⟨h0.trans (Cert.MixLn1Ideal.Mixer.z_array m c),
      h1.trans (Cert.MixLn1Ideal.Mixer.x_array m c),
      h2.trans (Cert.MixLn1Ideal.Mixer.xn_array m c), h3⟩
  · refine (θ_run _ _ _).mono (fun r h c => ?_) (Cert.MixLn1RefIdeal.Value.run m' g')
    obtain ⟨h0, h1, h2, h3⟩ := h c
    obtain ⟨e0, e1, e2, e3, e4⟩ := hagree c
    refine ⟨h0.trans ?_, h1.trans ?_, h2.trans ?_, h3⟩
    · rw [Cert.MixLn1RefIdeal.Read.val_main_v3_eq, e0, e1, e2]
      exact Cert.MixLn1RefIdeal.Mixer.ref_z _ _ _
    · rw [Cert.MixLn1RefIdeal.Read.val_main_v27_eq, e0, e1, e2, e3, e4]
      exact Cert.MixLn1RefIdeal.Mixer.ref_out _ _ _ _ _
    · rw [Cert.MixLn1RefIdeal.Read.val_main_v28_eq, e0, e1, e2, e3, e4]
      exact Cert.MixLn1RefIdeal.Mixer.ref_narrow _ _ _ _ _

/-! ## The loss -/

/-- The frame of the second product with its layer norm and the loss, as the version runs it. -/
theorem frame_loss : Cert.quiescent_Ff2Ln2Loss := fun m ρ _ => Cert.Ff2Ln2Loss.Gen.frame m ρ

/-- The same over the extended reals. -/
theorem frame_loss_ideal : Cert.quiescent_Ff2Ln2LossIdeal := fun m ρ _ => Cert.Ff2Ln2LossIdeal.Gen.frame m ρ

/-- And from finite arguments. -/
theorem frame_loss_ideal_finite : Cert.quiescent_Ff2Ln2LossIdeal_pre_finite_ln2 :=
  fun m ρ _ => Cert.Ff2Ln2LossIdeal.Gen.frame m ρ

/-- The frame of its reference. -/
theorem frame_loss_reference : Cert.quiescent_Ff2Ln2LossRefIdeal := by
  intro m g _
  exact (θ_run _ _ _).mono (fun r h => ⟨fun c => (h c).2.2.2.2.2, sem_eq_zero_of_no_sems (by decide) r.2⟩)
    (Cert.Ff2Ln2LossRefIdeal.Value.run m g)

/-- And from finite arguments. -/
theorem frame_loss_reference_finite : Cert.quiescent_Ff2Ln2LossRefIdeal_pre_finite_ln2 :=
  fun m ρ _ => frame_loss_reference m ρ trivial

/-- From equal finite arguments, both programs end with the same loss and the same gradients. -/
theorem algebraic_loss : Cert.algebraic_Ff2Ln2LossIdeal_Ff2Ln2LossRefIdeal_pre_finite_ln2 := by
  intro m g m' g' hpre hagree
  let A := fun c : Dev Cert.Ff2Ln2LossIdeal.nD => Cert.Norm.lossArgs
    (m ((c.tc : Thread _ Cert.Ff2Ln2LossIdeal.τ).loc Cert.Ff2Ln2LossIdeal.main_arg0))
    (m ((c.tc : Thread _ Cert.Ff2Ln2LossIdeal.τ).loc Cert.Ff2Ln2LossIdeal.main_arg2))
    (m ((c.tc : Thread _ Cert.Ff2Ln2LossIdeal.τ).loc Cert.Ff2Ln2LossIdeal.main_arg5))
    (m ((c.tc : Thread _ Cert.Ff2Ln2LossIdeal.τ).loc Cert.Ff2Ln2LossIdeal.main_arg1))
    (m ((c.tc : Thread _ Cert.Ff2Ln2LossIdeal.τ).loc Cert.Ff2Ln2LossIdeal.main_arg3))
    (m ((c.tc : Thread _ Cert.Ff2Ln2LossIdeal.τ).loc Cert.Ff2Ln2LossIdeal.main_arg4))
  have G := fun c => Cert.Norm.lossGiven _ _ _ _ _ _ (hpre c)
  have K : ∀ c, Cert.Ff2Ln2LossIdeal.Mixer.Holds m c (A c) := G
  refine ⟨fun c => (A c).gZ, fun c => (A c).gZ, fun c => (A c).gL, fun c => (A c).gG, fun c => (A c).gB, ?_, ?_⟩
  · refine (θ_run _ _ _).mono (fun r h c => ?_) (Cert.Ff2Ln2LossIdeal.Value.run_blocks m g)
    obtain ⟨h0, h1, h2, h3, h4, h5⟩ := h c
    exact ⟨h0.trans (Cert.Ff2Ln2LossIdeal.Mixer.z_array (K c)),
      h1.trans (Cert.Ff2Ln2LossIdeal.Mixer.zb_array (K c)),
      h2.trans (Cert.Ff2Ln2LossIdeal.Mixer.l_array (K c)),
      h3.trans (Cert.Ff2Ln2LossIdeal.Mixer.g_array (K c)),
      h4.trans (Cert.Ff2Ln2LossIdeal.Mixer.b_array (K c)), h5⟩
  · refine (θ_run _ _ _).mono (fun r h c => ?_) (Cert.Ff2Ln2LossRefIdeal.Value.run m' g')
    obtain ⟨h0, h1, h2, h3, h4, h5⟩ := h c
    obtain ⟨e0, e1, e2, e3, e4, e5⟩ := hagree c
    refine ⟨h0.trans ?_, h1.trans ?_, h2.trans ?_, h3.trans ?_, h4.trans ?_, h5⟩
    · rw [Cert.Ff2Ln2LossRefIdeal.Read.val_main_v76_eq, e0, e1, e2, e3, e4, e5]
      exact Cert.Ff2Ln2LossRefIdeal.Mixer.ref_z (G c)
    · rw [Cert.Ff2Ln2LossRefIdeal.Read.val_main_v77_eq, e0, e1, e2, e3, e4, e5]
      exact Cert.Ff2Ln2LossRefIdeal.Mixer.ref_zb (G c)
    · rw [Cert.Ff2Ln2LossRefIdeal.Read.val_main_v78_eq, e0, e1, e2, e3, e4, e5]
      exact Cert.Ff2Ln2LossRefIdeal.Mixer.ref_l (G c)
    · rw [Cert.Ff2Ln2LossRefIdeal.Read.val_main_v79_eq, e0, e1, e2, e3, e4, e5]
      exact Cert.Ff2Ln2LossRefIdeal.Mixer.ref_g (G c)
    · rw [Cert.Ff2Ln2LossRefIdeal.Read.val_main_v80_eq, e0, e1, e2, e3, e4, e5]
      exact Cert.Ff2Ln2LossRefIdeal.Mixer.ref_b (G c)

/-! ## The projections -/

/-- The frame of the input projection, as the version runs it. -/
theorem frame_proj : Cert.quiescent_HProj := fun m ρ _ => Cert.HProj.Gen.frame m ρ

/-- The same over the extended reals. -/
theorem frame_proj_ideal : Cert.quiescent_HProjIdeal := fun m ρ _ => Cert.HProjIdeal.Gen.frame m ρ

/-- And of its reference. -/
theorem frame_proj_reference : Cert.quiescent_HProjRefIdeal := by
  intro m g _
  exact (θ_run _ _ _).mono (fun r h => ⟨fun c => (h c).2, sem_eq_zero_of_no_sems (by decide) r.2⟩)
    (Cert.HProjRefIdeal.Value.run m g)

/-- Kernel and reference of the input projection end with equal results. -/
theorem algebraic_proj : Cert.algebraic_HProjIdeal_HProjRefIdeal := by
  intro m g m' g' _ hagree
  refine ⟨fun c => Cert.HProjIdeal.Mixer.gH
      (m ((c.tc : Thread _ Cert.HProjIdeal.τ).loc Cert.HProjIdeal.main_arg0))
      (m ((c.tc : Thread _ Cert.HProjIdeal.τ).loc Cert.HProjIdeal.main_arg1)), ?_, ?_⟩
  · refine (θ_run _ _ _).mono (fun r h c => ?_) (Cert.HProjIdeal.Value.run_blocks m g)
    obtain ⟨h0, h1⟩ := h c
    exact ⟨h0.trans (Cert.HProjIdeal.Mixer.h_array m c), h1⟩
  · refine (θ_run _ _ _).mono (fun r h c => ?_) (Cert.HProjRefIdeal.Value.run m' g')
    obtain ⟨h0, h1⟩ := h c
    obtain ⟨e0, e1⟩ := hagree c
    refine ⟨h0.trans ?_, h1⟩
    · rw [Cert.HProjRefIdeal.Read.val_main_v0_eq, e0, e1]
      exact Cert.HProjRefIdeal.Mixer.ref_h _ _

/-- The frame of the input projection's weight gradient, as the version runs it. -/
theorem frame_proj_wgrad : Cert.quiescent_InWgrad := fun m ρ _ => Cert.InWgrad.Gen.frame m ρ

/-- The same over the extended reals. -/
theorem frame_proj_wgrad_ideal : Cert.quiescent_InWgradIdeal := fun m ρ _ => Cert.InWgradIdeal.Gen.frame m ρ

/-- And of its reference. -/
theorem frame_proj_wgrad_reference : Cert.quiescent_InWgradRefIdeal := by
  intro m g _
  exact (θ_run _ _ _).mono (fun r h => ⟨fun c => (h c).2, sem_eq_zero_of_no_sems (by decide) r.2⟩)
    (Cert.InWgradRefIdeal.Value.run m g)

/-- Kernel and reference of the input projection's weight gradient end with equal results. -/
theorem algebraic_proj_wgrad : Cert.algebraic_InWgradIdeal_InWgradRefIdeal := by
  intro m g m' g' _ hagree
  refine ⟨fun c => Cert.InWgradIdeal.Mixer.gW
      (m ((c.tc : Thread _ Cert.InWgradIdeal.τ).loc Cert.InWgradIdeal.main_arg0))
      (m ((c.tc : Thread _ Cert.InWgradIdeal.τ).loc Cert.InWgradIdeal.main_arg2)), ?_, ?_⟩
  · refine (θ_run _ _ _).mono (fun r h c => ?_) (Cert.InWgradIdeal.Value.run_blocks m g)
    obtain ⟨h0, h1⟩ := h c
    exact ⟨h0.trans (Cert.InWgradIdeal.Mixer.w_array m c), h1⟩
  · refine (θ_run _ _ _).mono (fun r h c => ?_) (Cert.InWgradRefIdeal.Value.run m' g')
    obtain ⟨h0, h1⟩ := h c
    obtain ⟨e0, _, e2⟩ := hagree c
    refine ⟨h0.trans ?_, h1⟩
    · rw [Cert.InWgradRefIdeal.Read.val_main_v2_eq, e0, e2]
      exact Cert.InWgradRefIdeal.Mixer.ref_w _ _

/-- The frame of the output projection's weight gradient, as the version runs it. -/
theorem frame_out_wgrad : Cert.quiescent_OutWgrad := fun m ρ _ => Cert.OutWgrad.Gen.frame m ρ

/-- The same over the extended reals. -/
theorem frame_out_wgrad_ideal : Cert.quiescent_OutWgradIdeal := fun m ρ _ => Cert.OutWgradIdeal.Gen.frame m ρ

/-- And of its reference. -/
theorem frame_out_wgrad_reference : Cert.quiescent_OutWgradRefIdeal := by
  intro m g _
  exact (θ_run _ _ _).mono (fun r h => ⟨fun c => (h c).2, sem_eq_zero_of_no_sems (by decide) r.2⟩)
    (Cert.OutWgradRefIdeal.Value.run m g)

/-- Kernel and reference of the output projection's weight gradient end with equal results. -/
theorem algebraic_out_wgrad : Cert.algebraic_OutWgradIdeal_OutWgradRefIdeal := by
  intro m g m' g' _ hagree
  refine ⟨fun c => Cert.OutWgradIdeal.Mixer.gW
      (m ((c.tc : Thread _ Cert.OutWgradIdeal.τ).loc Cert.OutWgradIdeal.main_arg0))
      (m ((c.tc : Thread _ Cert.OutWgradIdeal.τ).loc Cert.OutWgradIdeal.main_arg2)), ?_, ?_⟩
  · refine (θ_run _ _ _).mono (fun r h c => ?_) (Cert.OutWgradIdeal.Value.run_blocks m g)
    obtain ⟨h0, h1⟩ := h c
    exact ⟨h0.trans (Cert.OutWgradIdeal.Mixer.w_array m c), h1⟩
  · refine (θ_run _ _ _).mono (fun r h c => ?_) (Cert.OutWgradRefIdeal.Value.run m' g')
    obtain ⟨h0, h1⟩ := h c
    obtain ⟨e0, _, e2⟩ := hagree c
    refine ⟨h0.trans ?_, h1⟩
    · rw [Cert.OutWgradRefIdeal.Read.val_main_v2_eq, e0, e2]
      exact Cert.OutWgradRefIdeal.Mixer.ref_w _ _

/-- The frame of the output projection's gradient, as the version runs it. -/
theorem frame_out_dgrad : Cert.quiescent_OutDgrad := fun m ρ _ => Cert.OutDgrad.Gen.frame m ρ

/-- The same over the extended reals. -/
theorem frame_out_dgrad_ideal : Cert.quiescent_OutDgradIdeal := fun m ρ _ => Cert.OutDgradIdeal.Gen.frame m ρ

/-- And of its reference. -/
theorem frame_out_dgrad_reference : Cert.quiescent_OutDgradRefIdeal := by
  intro m g _
  exact (θ_run _ _ _).mono (fun r h => ⟨fun c => (h c).2, sem_eq_zero_of_no_sems (by decide) r.2⟩)
    (Cert.OutDgradRefIdeal.Value.run m g)

/-- Kernel and reference of the output projection's gradient end with equal results. -/
theorem algebraic_out_dgrad : Cert.algebraic_OutDgradIdeal_OutDgradRefIdeal := by
  intro m g m' g' _ hagree
  refine ⟨fun c => Cert.OutDgradIdeal.Mixer.gC
      (m ((c.tc : Thread _ Cert.OutDgradIdeal.τ).loc Cert.OutDgradIdeal.main_arg1))
      (m ((c.tc : Thread _ Cert.OutDgradIdeal.τ).loc Cert.OutDgradIdeal.main_arg2)), ?_, ?_⟩
  · refine (θ_run _ _ _).mono (fun r h c => ?_) (Cert.OutDgradIdeal.Value.run_blocks m g)
    obtain ⟨h0, h1⟩ := h c
    exact ⟨h0.trans (Cert.OutDgradIdeal.Mixer.c_array m c), h1⟩
  · refine (θ_run _ _ _).mono (fun r h c => ?_) (Cert.OutDgradRefIdeal.Value.run m' g')
    obtain ⟨h0, h1⟩ := h c
    obtain ⟨_, e1, e2⟩ := hagree c
    refine ⟨h0.trans ?_, h1⟩
    · rw [Cert.OutDgradRefIdeal.Read.val_main_v1_eq, e1, e2]
      exact Cert.OutDgradRefIdeal.Mixer.ref_c _ _

/-- The frame of the gate's gradient, as the version runs it. -/
theorem frame_glu : Cert.quiescent_GluBwd := fun m ρ _ => Cert.GluBwd.Gen.frame m ρ

/-- The same over the extended reals. -/
theorem frame_glu_ideal : Cert.quiescent_GluBwdIdeal := fun m ρ _ => Cert.GluBwdIdeal.Gen.frame m ρ

/-- And of its reference. -/
theorem frame_glu_reference : Cert.quiescent_GluBwdRefIdeal := by
  intro m g _
  exact (θ_run _ _ _).mono (fun r h => ⟨fun c => (h c).2, sem_eq_zero_of_no_sems (by decide) r.2⟩)
    (Cert.GluBwdRefIdeal.Value.run m g)

/-- Kernel and reference of the gate's gradient end with equal results. -/
theorem algebraic_glu : Cert.algebraic_GluBwdIdeal_GluBwdRefIdeal := by
  intro m g m' g' _ hagree
  refine ⟨fun c => Cert.GluBwdIdeal.Gate.gU
      (m ((c.tc : Thread _ Cert.GluBwdIdeal.τ).loc Cert.GluBwdIdeal.main_arg0))
      (m ((c.tc : Thread _ Cert.GluBwdIdeal.τ).loc Cert.GluBwdIdeal.main_arg1)), ?_, ?_⟩
  · refine (θ_run _ _ _).mono (fun r h c => ?_) (Cert.GluBwdIdeal.Value.run_blocks m g)
    obtain ⟨h0, h1⟩ := h c
    exact ⟨h0.trans (Cert.GluBwdIdeal.Gate.u_array m c), h1⟩
  · refine (θ_run _ _ _).mono (fun r h c => ?_) (Cert.GluBwdRefIdeal.Value.run m' g')
    obtain ⟨h0, h1⟩ := h c
    obtain ⟨e0, e1⟩ := hagree c
    refine ⟨h0.trans ?_, h1⟩
    · rw [Cert.GluBwdRefIdeal.Read.val_main_v16_eq, e0, e1]
      exact Cert.GluBwdRefIdeal.Gate.ref_u _ _

/-- The frame of a latent projection's weight gradient, as the version runs it. -/
theorem frame_head : Cert.quiescent_HeadWgrad := fun m ρ _ => Cert.HeadWgrad.Gen.frame m ρ

/-- The same over the extended reals. -/
theorem frame_head_ideal : Cert.quiescent_HeadWgradIdeal := fun m ρ _ => Cert.HeadWgradIdeal.Gen.frame m ρ

/-- And of its reference. -/
theorem frame_head_reference : Cert.quiescent_HeadWgradRefIdeal := by
  intro m g _
  exact (θ_run _ _ _).mono (fun r h => ⟨fun c => (h c).2, sem_eq_zero_of_no_sems (by decide) r.2⟩)
    (Cert.HeadWgradRefIdeal.Value.run m g)

/-- Kernel and reference of a latent projection's weight gradient end with equal results. -/
theorem algebraic_head : Cert.algebraic_HeadWgradIdeal_HeadWgradRefIdeal := by
  intro m g m' g' _ hagree
  refine ⟨fun c => Cert.HeadWgradIdeal.Mixer.gW
      (m ((c.tc : Thread _ Cert.HeadWgradIdeal.τ).loc Cert.HeadWgradIdeal.main_arg0))
      (m ((c.tc : Thread _ Cert.HeadWgradIdeal.τ).loc Cert.HeadWgradIdeal.main_arg2)), ?_, ?_⟩
  · refine (θ_run _ _ _).mono (fun r h c => ?_) (Cert.HeadWgradIdeal.Value.run_blocks m g)
    obtain ⟨h0, h1⟩ := h c
    exact ⟨h0.trans (Cert.HeadWgradIdeal.Mixer.w_array m c), h1⟩
  · refine (θ_run _ _ _).mono (fun r h c => ?_) (Cert.HeadWgradRefIdeal.Value.run m' g')
    obtain ⟨h0, h1⟩ := h c
    obtain ⟨e0, _, e2⟩ := hagree c
    refine ⟨h0.trans ?_, h1⟩
    · rw [Cert.HeadWgradRefIdeal.Read.val_main_v4_eq, e0, e2]
      exact Cert.HeadWgradRefIdeal.Mixer.ref_w _ _

/-- Everything the certificate claims. -/
theorem claim : Cert.Claim :=
  ⟨Cert.Kernel.Gen.facts, Cert.KernelIdeal.Gen.facts, Cert.ReferenceIdeal.Gen.facts,
    Cert.Ff1Relu2.Gen.facts, Cert.Ff1Relu2Ideal.Gen.facts, Cert.Ff1Relu2RefIdeal.Gen.facts,
    Cert.Ff2Dgrad.Gen.facts, Cert.Ff2DgradIdeal.Gen.facts, Cert.Ff2DgradRefIdeal.Gen.facts,
    Cert.Ff2Wgrad.Gen.facts, Cert.Ff2WgradIdeal.Gen.facts, Cert.Ff2WgradRefIdeal.Gen.facts,
    Cert.Ff1Wgrad.Gen.facts, Cert.Ff1WgradIdeal.Gen.facts, Cert.Ff1WgradRefIdeal.Gen.facts,
    Cert.Ff1DgradLn1.Gen.facts, Cert.Ff1DgradLn1Ideal.Gen.facts, Cert.Ff1DgradLn1RefIdeal.Gen.facts,
    Cert.InDgradLnIn.Gen.facts, Cert.InDgradLnInIdeal.Gen.facts, Cert.InDgradLnInRefIdeal.Gen.facts,
    Cert.Ff2Ln2Loss.Gen.facts, Cert.Ff2Ln2LossIdeal.Gen.facts, Cert.Ff2Ln2LossRefIdeal.Gen.facts,
    Cert.MixLn1.Gen.facts, Cert.MixLn1Ideal.Gen.facts, Cert.MixLn1RefIdeal.Gen.facts,
    Cert.HProj.Gen.facts, Cert.HProjIdeal.Gen.facts, Cert.HProjRefIdeal.Gen.facts,
    Cert.InWgrad.Gen.facts, Cert.InWgradIdeal.Gen.facts, Cert.InWgradRefIdeal.Gen.facts,
    Cert.OutWgrad.Gen.facts, Cert.OutWgradIdeal.Gen.facts, Cert.OutWgradRefIdeal.Gen.facts,
    Cert.OutDgrad.Gen.facts, Cert.OutDgradIdeal.Gen.facts, Cert.OutDgradRefIdeal.Gen.facts,
    Cert.FlashFwd.Gen.facts, Cert.FlashFwdIdeal.Gen.facts, Cert.FlashFwdRefIdeal.Gen.facts,
    Cert.GluBwd.Gen.facts, Cert.GluBwdIdeal.Gen.facts, Cert.GluBwdRefIdeal.Gen.facts,
    Cert.HeadWgrad.Gen.facts, Cert.HeadWgradIdeal.Gen.facts, Cert.HeadWgradRefIdeal.Gen.facts,
    Cert.Finite.facts, Cert.Norm.facts, Cert.Norm.facts_in, Cert.Norm.facts_loss,
    Cert.FlashFwdIdeal.Attention.facts_fwd,
    frame_kernel, frame_ideal, frame_ideal_finite, frame_reference, frame_reference_finite,
    frame_relu, frame_relu_ideal, frame_relu_reference,
    frame_dgrad, frame_dgrad_ideal, frame_dgrad_reference,
    frame_wgrad, frame_wgrad_ideal, frame_wgrad_reference,
    frame_wgrad_stacked, frame_wgrad_stacked_ideal, frame_wgrad_stacked_reference,
    frame_norm, frame_norm_ideal, frame_norm_ideal_finite, frame_norm_reference,
    frame_norm_reference_finite,
    frame_norm_in, frame_norm_in_ideal, frame_norm_in_ideal_finite, frame_norm_in_reference,
    frame_norm_in_reference_finite,
    frame_loss, frame_loss_ideal, frame_loss_ideal_finite, frame_loss_reference,
    frame_loss_reference_finite,
    frame_mix, frame_mix_ideal, frame_mix_reference,
    frame_proj, frame_proj_ideal, frame_proj_reference,
    frame_proj_wgrad, frame_proj_wgrad_ideal, frame_proj_wgrad_reference,
    frame_out_wgrad, frame_out_wgrad_ideal, frame_out_wgrad_reference,
    frame_out_dgrad, frame_out_dgrad_ideal, frame_out_dgrad_reference,
    frame_fwd, frame_fwd_ideal, frame_fwd_ideal_finite, frame_fwd_reference,
    frame_fwd_reference_finite,
    frame_glu, frame_glu_ideal, frame_glu_reference,
    frame_head, frame_head_ideal, frame_head_reference,
    trivial, algebraic, trivial, algebraic_relu, trivial, algebraic_dgrad,
    trivial, algebraic_wgrad, trivial, algebraic_wgrad_stacked,
    trivial, algebraic_norm, trivial, algebraic_norm_in, trivial, algebraic_loss,
    trivial, algebraic_mix, trivial, algebraic_proj, trivial, algebraic_proj_wgrad,
    trivial, algebraic_out_wgrad, trivial, algebraic_out_dgrad,
    preserves_fwd, algebraic_fwd,
    trivial, algebraic_glu, trivial, algebraic_head⟩

end Cert.Proof

end
